-- ==== Defs.lean ====
def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MmDh2 (m : (ℓ : Loc Cert.MmDh2.nD Cert.MmDh2.τ Cert.MmDh2.sig) → Buf (Elt Bits) ℓ) : Prop :=
  True

def Pre_MmDh2Ideal (m : (ℓ : Loc Cert.MmDh2Ideal.nD Cert.MmDh2Ideal.τ Cert.MmDh2Ideal.sig) → Buf (Elt Ideal) ℓ) : Prop :=
  True

def Pre_MmDh2RefIdeal (m : (ℓ : Loc Cert.MmDh2RefIdeal.nD Cert.MmDh2RefIdeal.τ Cert.MmDh2RefIdeal.sig) → Buf (Elt Ideal) ℓ) : Prop :=
  True

def Pre_MmDh (m : (ℓ : Loc Cert.MmDh.nD Cert.MmDh.τ Cert.MmDh.sig) → Buf (Elt Bits) ℓ) : Prop :=
  True

def Pre_MmDhIdeal (m : (ℓ : Loc Cert.MmDhIdeal.nD Cert.MmDhIdeal.τ Cert.MmDhIdeal.sig) → Buf (Elt Ideal) ℓ) : Prop :=
  True

def Pre_MmDhRefIdeal (m : (ℓ : Loc Cert.MmDhRefIdeal.nD Cert.MmDhRefIdeal.τ Cert.MmDhRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite [hPre_finite : Cert.Pre_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite [hPre_finite : Cert.Pre_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamWo (m : (ℓ : Loc Cert.AdamWo.nD Cert.AdamWo.τ Cert.AdamWo.sig) → Buf (Elt Bits) ℓ) : Prop :=
  True

def Pre_AdamWoIdeal (m : (ℓ : Loc Cert.AdamWoIdeal.nD Cert.AdamWoIdeal.τ Cert.AdamWoIdeal.sig) → Buf (Elt Ideal) ℓ) : Prop :=
  True

def Pre_AdamWoRefIdeal (m : (ℓ : Loc Cert.AdamWoRefIdeal.nD Cert.AdamWoRefIdeal.τ Cert.AdamWoRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_u [hPre_finite_u : Cert.Pre_finite_u.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_u.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_u [hPre_finite_u : Cert.Pre_finite_u.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_u.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qkb [hPre_finite_qkb : Cert.Pre_finite_qkb.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qkb.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qkb [hPre_finite_qkb : Cert.Pre_finite_qkb.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qkb.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_MmDh2 [hMmDh2 : Cert.MmDh2.Facts] : Prop :=
  ∀ (m : (ℓ : Loc Cert.MmDh2.nD Cert.MmDh2.τ Cert.MmDh2.sig) → Buf (Elt Bits) ℓ) (g : Dev Cert.MmDh2.nD → PrngReg), Pre_MmDh2 m →
    θ_run (Cert.MmDh2.defs (F := Bits)) (onTc (τ := Cert.MmDh2.τ) (Cert.MmDh2.main (F := Bits))) ⟨m, fun _ => 0, g⟩ (fun r => (∀ c : Dev Cert.MmDh2.nD,
      r.2.mem ((c.tc : Thread Cert.MmDh2.nD Cert.MmDh2.τ).loc Cert.MmDh2.main_arg0) = m ((c.tc : Thread Cert.MmDh2.nD Cert.MmDh2.τ).loc Cert.MmDh2.main_arg0)
      ∧ r.2.mem ((c.tc : Thread Cert.MmDh2.nD Cert.MmDh2.τ).loc Cert.MmDh2.main_arg1) = m ((c.tc : Thread Cert.MmDh2.nD Cert.MmDh2.τ).loc Cert.MmDh2.main_arg1)
      ∧ r.2.mem ((c.tc : Thread Cert.MmDh2.nD Cert.MmDh2.τ).loc Cert.MmDh2.main_arg2) = m ((c.tc : Thread Cert.MmDh2.nD Cert.MmDh2.τ).loc Cert.MmDh2.main_arg2)
      ∧ r.2.mem ((c.tc : Thread Cert.MmDh2.nD Cert.MmDh2.τ).loc Cert.MmDh2.main_arg3) = m ((c.tc : Thread Cert.MmDh2.nD Cert.MmDh2.τ).loc Cert.MmDh2.main_arg3)
      ∧ r.2.mem ((c.tc : Thread Cert.MmDh2.nD Cert.MmDh2.τ).loc Cert.MmDh2.main_arg4) = m ((c.tc : Thread Cert.MmDh2.nD Cert.MmDh2.τ).loc Cert.MmDh2.main_arg4)
      ∧ r.2.mem ((c.tc : Thread Cert.MmDh2.nD Cert.MmDh2.τ).loc Cert.MmDh2.main_arg5) = m ((c.tc : Thread Cert.MmDh2.nD Cert.MmDh2.τ).loc Cert.MmDh2.main_arg5)
      ∧ r.2.mem ((c.tc : Thread Cert.MmDh2.nD Cert.MmDh2.τ).loc Cert.MmDh2.main_arg6) = m ((c.tc : Thread Cert.MmDh2.nD Cert.MmDh2.τ).loc Cert.MmDh2.main_arg6))
      ∧ r.2.sem = fun _ => 0)

def quiescent_MmDh2Ideal [hMmDh2Ideal : Cert.MmDh2Ideal.Facts] : Prop :=
  ∀ (m : (ℓ : Loc Cert.MmDh2Ideal.nD Cert.MmDh2Ideal.τ Cert.MmDh2Ideal.sig) → Buf (Elt Ideal) ℓ) (g : Dev Cert.MmDh2Ideal.nD → PrngReg), Pre_MmDh2Ideal m →
    θ_run (Cert.MmDh2Ideal.defs (F := Ideal)) (onTc (τ := Cert.MmDh2Ideal.τ) (Cert.MmDh2Ideal.main (F := Ideal))) ⟨m, fun _ => 0, g⟩ (fun r => (∀ c : Dev Cert.MmDh2Ideal.nD,
      r.2.mem ((c.tc : Thread Cert.MmDh2Ideal.nD Cert.MmDh2Ideal.τ).loc Cert.MmDh2Ideal.main_arg0) = m ((c.tc : Thread Cert.MmDh2Ideal.nD Cert.MmDh2Ideal.τ).loc Cert.MmDh2Ideal.main_arg0)
      ∧ r.2.mem ((c.tc : Thread Cert.MmDh2Ideal.nD Cert.MmDh2Ideal.τ).loc Cert.MmDh2Ideal.main_arg1) = m ((c.tc : Thread Cert.MmDh2Ideal.nD Cert.MmDh2Ideal.τ).loc Cert.MmDh2Ideal.main_arg1)
      ∧ r.2.mem ((c.tc : Thread Cert.MmDh2Ideal.nD Cert.MmDh2Ideal.τ).loc Cert.MmDh2Ideal.main_arg2) = m ((c.tc : Thread Cert.MmDh2Ideal.nD Cert.MmDh2Ideal.τ).loc Cert.MmDh2Ideal.main_arg2)
      ∧ r.2.mem ((c.tc : Thread Cert.MmDh2Ideal.nD Cert.MmDh2Ideal.τ).loc Cert.MmDh2Ideal.main_arg3) = m ((c.tc : Thread Cert.MmDh2Ideal.nD Cert.MmDh2Ideal.τ).loc Cert.MmDh2Ideal.main_arg3)
      ∧ r.2.mem ((c.tc : Thread Cert.MmDh2Ideal.nD Cert.MmDh2Ideal.τ).loc Cert.MmDh2Ideal.main_arg4) = m ((c.tc : Thread Cert.MmDh2Ideal.nD Cert.MmDh2Ideal.τ).loc Cert.MmDh2Ideal.main_arg4)
      ∧ r.2.mem ((c.tc : Thread Cert.MmDh2Ideal.nD Cert.MmDh2Ideal.τ).loc Cert.MmDh2Ideal.main_arg5) = m ((c.tc : Thread Cert.MmDh2Ideal.nD Cert.MmDh2Ideal.τ).loc Cert.MmDh2Ideal.main_arg5)
      ∧ r.2.mem ((c.tc : Thread Cert.MmDh2Ideal.nD Cert.MmDh2Ideal.τ).loc Cert.MmDh2Ideal.main_arg6) = m ((c.tc : Thread Cert.MmDh2Ideal.nD Cert.MmDh2Ideal.τ).loc Cert.MmDh2Ideal.main_arg6))
      ∧ r.2.sem = fun _ => 0)

def quiescent_MmDh2RefIdeal [hMmDh2RefIdeal : Cert.MmDh2RefIdeal.Facts] : Prop :=
  ∀ (m : (ℓ : Loc Cert.MmDh2RefIdeal.nD Cert.MmDh2RefIdeal.τ Cert.MmDh2RefIdeal.sig) → Buf (Elt Ideal) ℓ) (g : Dev Cert.MmDh2RefIdeal.nD → PrngReg), Pre_MmDh2RefIdeal m →
    θ_run (Cert.MmDh2RefIdeal.defs (F := Ideal)) (onTc (τ := Cert.MmDh2RefIdeal.τ) (Cert.MmDh2RefIdeal.main (F := Ideal))) ⟨m, fun _ => 0, g⟩ (fun r => (∀ c : Dev Cert.MmDh2RefIdeal.nD,
      r.2.mem ((c.tc : Thread Cert.MmDh2RefIdeal.nD Cert.MmDh2RefIdeal.τ).loc Cert.MmDh2RefIdeal.main_arg0) = m ((c.tc : Thread Cert.MmDh2RefIdeal.nD Cert.MmDh2RefIdeal.τ).loc Cert.MmDh2RefIdeal.main_arg0)
      ∧ r.2.mem ((c.tc : Thread Cert.MmDh2RefIdeal.nD Cert.MmDh2RefIdeal.τ).loc Cert.MmDh2RefIdeal.main_arg1) = m ((c.tc : Thread Cert.MmDh2RefIdeal.nD Cert.MmDh2RefIdeal.τ).loc Cert.MmDh2RefIdeal.main_arg1)
      ∧ r.2.mem ((c.tc : Thread Cert.MmDh2RefIdeal.nD Cert.MmDh2RefIdeal.τ).loc Cert.MmDh2RefIdeal.main_arg2) = m ((c.tc : Thread Cert.MmDh2RefIdeal.nD Cert.MmDh2RefIdeal.τ).loc Cert.MmDh2RefIdeal.main_arg2)
      ∧ r.2.mem ((c.tc : Thread Cert.MmDh2RefIdeal.nD Cert.MmDh2RefIdeal.τ).loc Cert.MmDh2RefIdeal.main_arg3) = m ((c.tc : Thread Cert.MmDh2RefIdeal.nD Cert.MmDh2RefIdeal.τ).loc Cert.MmDh2RefIdeal.main_arg3)
      ∧ r.2.mem ((c.tc : Thread Cert.MmDh2RefIdeal.nD Cert.MmDh2RefIdeal.τ).loc Cert.MmDh2RefIdeal.main_arg4) = m ((c.tc : Thread Cert.MmDh2RefIdeal.nD Cert.MmDh2RefIdeal.τ).loc Cert.MmDh2RefIdeal.main_arg4)
      ∧ r.2.mem ((c.tc : Thread Cert.MmDh2RefIdeal.nD Cert.MmDh2RefIdeal.τ).loc Cert.MmDh2RefIdeal.main_arg5) = m ((c.tc : Thread Cert.MmDh2RefIdeal.nD Cert.MmDh2RefIdeal.τ).loc Cert.MmDh2RefIdeal.main_arg5)
      ∧ r.2.mem ((c.tc : Thread Cert.MmDh2RefIdeal.nD Cert.MmDh2RefIdeal.τ).loc Cert.MmDh2RefIdeal.main_arg6) = m ((c.tc : Thread Cert.MmDh2RefIdeal.nD Cert.MmDh2RefIdeal.τ).loc Cert.MmDh2RefIdeal.main_arg6))
      ∧ r.2.sem = fun _ => 0)

def quiescent_MmDh [hMmDh : Cert.MmDh.Facts] : Prop :=
  ∀ (m : (ℓ : Loc Cert.MmDh.nD Cert.MmDh.τ Cert.MmDh.sig) → Buf (Elt Bits) ℓ) (g : Dev Cert.MmDh.nD → PrngReg), Pre_MmDh m →
    θ_run (Cert.MmDh.defs (F := Bits)) (onTc (τ := Cert.MmDh.τ) (Cert.MmDh.main (F := Bits))) ⟨m, fun _ => 0, g⟩ (fun r => (∀ c : Dev Cert.MmDh.nD,
      r.2.mem ((c.tc : Thread Cert.MmDh.nD Cert.MmDh.τ).loc Cert.MmDh.main_arg0) = m ((c.tc : Thread Cert.MmDh.nD Cert.MmDh.τ).loc Cert.MmDh.main_arg0)
      ∧ r.2.mem ((c.tc : Thread Cert.MmDh.nD Cert.MmDh.τ).loc Cert.MmDh.main_arg1) = m ((c.tc : Thread Cert.MmDh.nD Cert.MmDh.τ).loc Cert.MmDh.main_arg1)
      ∧ r.2.mem ((c.tc : Thread Cert.MmDh.nD Cert.MmDh.τ).loc Cert.MmDh.main_arg2) = m ((c.tc : Thread Cert.MmDh.nD Cert.MmDh.τ).loc Cert.MmDh.main_arg2)
      ∧ r.2.mem ((c.tc : Thread Cert.MmDh.nD Cert.MmDh.τ).loc Cert.MmDh.main_arg3) = m ((c.tc : Thread Cert.MmDh.nD Cert.MmDh.τ).loc Cert.MmDh.main_arg3)
      ∧ r.2.mem ((c.tc : Thread Cert.MmDh.nD Cert.MmDh.τ).loc Cert.MmDh.main_arg4) = m ((c.tc : Thread Cert.MmDh.nD Cert.MmDh.τ).loc Cert.MmDh.main_arg4)
      ∧ r.2.mem ((c.tc : Thread Cert.MmDh.nD Cert.MmDh.τ).loc Cert.MmDh.main_arg5) = m ((c.tc : Thread Cert.MmDh.nD Cert.MmDh.τ).loc Cert.MmDh.main_arg5)
      ∧ r.2.mem ((c.tc : Thread Cert.MmDh.nD Cert.MmDh.τ).loc Cert.MmDh.main_arg6) = m ((c.tc : Thread Cert.MmDh.nD Cert.MmDh.τ).loc Cert.MmDh.main_arg6)
      ∧ r.2.mem ((c.tc : Thread Cert.MmDh.nD Cert.MmDh.τ).loc Cert.MmDh.main_arg7) = m ((c.tc : Thread Cert.MmDh.nD Cert.MmDh.τ).loc Cert.MmDh.main_arg7)
      ∧ r.2.mem ((c.tc : Thread Cert.MmDh.nD Cert.MmDh.τ).loc Cert.MmDh.main_arg8) = m ((c.tc : Thread Cert.MmDh.nD Cert.MmDh.τ).loc Cert.MmDh.main_arg8)
      ∧ r.2.mem ((c.tc : Thread Cert.MmDh.nD Cert.MmDh.τ).loc Cert.MmDh.main_arg9) = m ((c.tc : Thread Cert.MmDh.nD Cert.MmDh.τ).loc Cert.MmDh.main_arg9)
      ∧ r.2.mem ((c.tc : Thread Cert.MmDh.nD Cert.MmDh.τ).loc Cert.MmDh.main_arg10) = m ((c.tc : Thread Cert.MmDh.nD Cert.MmDh.τ).loc Cert.MmDh.main_arg10))
      ∧ r.2.sem = fun _ => 0)

def quiescent_MmDhIdeal [hMmDhIdeal : Cert.MmDhIdeal.Facts] : Prop :=
  ∀ (m : (ℓ : Loc Cert.MmDhIdeal.nD Cert.MmDhIdeal.τ Cert.MmDhIdeal.sig) → Buf (Elt Ideal) ℓ) (g : Dev Cert.MmDhIdeal.nD → PrngReg), Pre_MmDhIdeal m →
    θ_run (Cert.MmDhIdeal.defs (F := Ideal)) (onTc (τ := Cert.MmDhIdeal.τ) (Cert.MmDhIdeal.main (F := Ideal))) ⟨m, fun _ => 0, g⟩ (fun r => (∀ c : Dev Cert.MmDhIdeal.nD,
      r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
      ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
      ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
      ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
      ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4)
      ∧ r.2.mem ((c.tc : Thread Cert.MmDhIdeal.nD Cert.MmDhIdeal.τ).loc Cert.MmDhIdeal.main_arg5) = m ((c.tc : Thread Cert.MmDhIdeal.nD Cert.MmDhIdeal.τ).loc Cert.MmDhIdeal.main_arg5)
      ∧ r.2.mem ((c.tc : Thread Cert.MmDhIdeal.nD Cert.MmDhIdeal.τ).loc Cert.MmDhIdeal.main_arg6) = m ((c.tc : Thread Cert.MmDhIdeal.nD Cert.MmDhIdeal.τ).loc Cert.MmDhIdeal.main_arg6)
      ∧ r.2.mem ((c.tc : Thread Cert.MmDhIdeal.nD Cert.MmDhIdeal.τ).loc Cert.MmDhIdeal.main_arg7) = m ((c.tc : Thread Cert.MmDhIdeal.nD Cert.MmDhIdeal.τ).loc Cert.MmDhIdeal.main_arg7)
      ∧ r.2.mem ((c.tc : Thread Cert.MmDhIdeal.nD Cert.MmDhIdeal.τ).loc Cert.MmDhIdeal.main_arg8) = m ((c.tc : Thread Cert.MmDhIdeal.nD Cert.MmDhIdeal.τ).loc Cert.MmDhIdeal.main_arg8)
      ∧ r.2.mem ((c.tc : Thread Cert.MmDhIdeal.nD Cert.MmDhIdeal.τ).loc Cert.MmDhIdeal.main_arg9) = m ((c.tc : Thread Cert.MmDhIdeal.nD Cert.MmDhIdeal.τ).loc Cert.MmDhIdeal.main_arg9)
      ∧ r.2.mem ((c.tc : Thread Cert.MmDhIdeal.nD Cert.MmDhIdeal.τ).loc Cert.MmDhIdeal.main_arg10) = m ((c.tc : Thread Cert.MmDhIdeal.nD Cert.MmDhIdeal.τ).loc Cert.MmDhIdeal.main_arg10))
      ∧ r.2.sem = fun _ => 0)

def quiescent_MmDhRefIdeal [hMmDhRefIdeal : Cert.MmDhRefIdeal.Facts] : Prop :=
  ∀ (m : (ℓ : Loc Cert.MmDhRefIdeal.nD Cert.MmDhRefIdeal.τ Cert.MmDhRefIdeal.sig) → Buf (Elt Ideal) ℓ) (g : Dev Cert.MmDhRefIdeal.nD → PrngReg), Pre_MmDhRefIdeal m →
    θ_run (Cert.MmDhRefIdeal.defs (F := Ideal)) (onTc (τ := Cert.MmDhRefIdeal.τ) (Cert.MmDhRefIdeal.main (F := Ideal))) ⟨m, fun _ => 0, g⟩ (fun r => (∀ c : Dev Cert.MmDhRefIdeal.nD,
      r.2.mem ((c.tc : Thread Cert.MmDhRefIdeal.nD Cert.MmDhRefIdeal.τ).loc Cert.MmDhRefIdeal.main_arg0) = m ((c.tc : Thread Cert.MmDhRefIdeal.nD Cert.MmDhRefIdeal.τ).loc Cert.MmDhRefIdeal.main_arg0)
      ∧ r.2.mem ((c.tc : Thread Cert.MmDhRefIdeal.nD Cert.MmDhRefIdeal.τ).loc Cert.MmDhRefIdeal.main_arg1) = m ((c.tc : Thread Cert.MmDhRefIdeal.nD Cert.MmDhRefIdeal.τ).loc Cert.MmDhRefIdeal.main_arg1)
      ∧ r.2.mem ((c.tc : Thread Cert.MmDhRefIdeal.nD Cert.MmDhRefIdeal.τ).loc Cert.MmDhRefIdeal.main_arg2) = m ((c.tc : Thread Cert.MmDhRefIdeal.nD Cert.MmDhRefIdeal.τ).loc Cert.MmDhRefIdeal.main_arg2)
      ∧ r.2.mem ((c.tc : Thread Cert.MmDhRefIdeal.nD Cert.MmDhRefIdeal.τ).loc Cert.MmDhRefIdeal.main_arg3) = m ((c.tc : Thread Cert.MmDhRefIdeal.nD Cert.MmDhRefIdeal.τ).loc Cert.MmDhRefIdeal.main_arg3)
      ∧ r.2.mem ((c.tc : Thread Cert.MmDhRefIdeal.nD Cert.MmDhRefIdeal.τ).loc Cert.MmDhRefIdeal.main_arg4) = m ((c.tc : Thread Cert.MmDhRefIdeal.nD Cert.MmDhRefIdeal.τ).loc Cert.MmDhRefIdeal.main_arg4)
      ∧ r.2.mem ((c.tc : Thread Cert.MmDhRefIdeal.nD Cert.MmDhRefIdeal.τ).loc Cert.MmDhRefIdeal.main_arg5) = m ((c.tc : Thread Cert.MmDhRefIdeal.nD Cert.MmDhRefIdeal.τ).loc Cert.MmDhRefIdeal.main_arg5)
      ∧ r.2.mem ((c.tc : Thread Cert.MmDhRefIdeal.nD Cert.MmDhRefIdeal.τ).loc Cert.MmDhRefIdeal.main_arg6) = m ((c.tc : Thread Cert.MmDhRefIdeal.nD Cert.MmDhRefIdeal.τ).loc Cert.MmDhRefIdeal.main_arg6)
      ∧ r.2.mem ((c.tc : Thread Cert.MmDhRefIdeal.nD Cert.MmDhRefIdeal.τ).loc Cert.MmDhRefIdeal.main_arg7) = m ((c.tc : Thread Cert.MmDhRefIdeal.nD Cert.MmDhRefIdeal.τ).loc Cert.MmDhRefIdeal.main_arg7)
      ∧ r.2.mem ((c.tc : Thread Cert.MmDhRefIdeal.nD Cert.MmDhRefIdeal.τ).loc Cert.MmDhRefIdeal.main_arg8) = m ((c.tc : Thread Cert.MmDhRefIdeal.nD Cert.MmDhRefIdeal.τ).loc Cert.MmDhRefIdeal.main_arg8)
      ∧ r.2.mem ((c.tc : Thread Cert.MmDhRefIdeal.nD Cert.MmDhRefIdeal.τ).loc Cert.MmDhRefIdeal.main_arg9) = m ((c.tc : Thread Cert.MmDhRefIdeal.nD Cert.MmDhRefIdeal.τ).loc Cert.MmDhRefIdeal.main_arg9)
      ∧ r.2.mem ((c.tc : Thread Cert.MmDhRefIdeal.nD Cert.MmDhRefIdeal.τ).loc Cert.MmDhRefIdeal.main_arg10) = m ((c.tc : Thread Cert.MmDhRefIdeal.nD Cert.MmDhRefIdeal.τ).loc Cert.MmDhRefIdeal.main_arg10))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite [hPoolBwdIdeal : Cert.PoolBwdIdeal.Facts] [hPre_finite : Cert.Pre_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite [hPoolRefIdeal : Cert.PoolRefIdeal.Facts] [hPre_finite : Cert.Pre_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamWo [hAdamWo : Cert.AdamWo.Facts] : Prop :=
  ∀ (m : (ℓ : Loc Cert.AdamWo.nD Cert.AdamWo.τ Cert.AdamWo.sig) → Buf (Elt Bits) ℓ) (g : Dev Cert.AdamWo.nD → PrngReg), Pre_AdamWo m →
    θ_run (Cert.AdamWo.defs (F := Bits)) (onTc (τ := Cert.AdamWo.τ) (Cert.AdamWo.main (F := Bits))) ⟨m, fun _ => 0, g⟩ (fun r => (∀ c : Dev Cert.AdamWo.nD,
      r.2.mem ((c.tc : Thread Cert.AdamWo.nD Cert.AdamWo.τ).loc Cert.AdamWo.main_arg0) = m ((c.tc : Thread Cert.AdamWo.nD Cert.AdamWo.τ).loc Cert.AdamWo.main_arg0)
      ∧ r.2.mem ((c.tc : Thread Cert.AdamWo.nD Cert.AdamWo.τ).loc Cert.AdamWo.main_arg1) = m ((c.tc : Thread Cert.AdamWo.nD Cert.AdamWo.τ).loc Cert.AdamWo.main_arg1)
      ∧ r.2.mem ((c.tc : Thread Cert.AdamWo.nD Cert.AdamWo.τ).loc Cert.AdamWo.main_arg2) = m ((c.tc : Thread Cert.AdamWo.nD Cert.AdamWo.τ).loc Cert.AdamWo.main_arg2)
      ∧ r.2.mem ((c.tc : Thread Cert.AdamWo.nD Cert.AdamWo.τ).loc Cert.AdamWo.main_arg3) = m ((c.tc : Thread Cert.AdamWo.nD Cert.AdamWo.τ).loc Cert.AdamWo.main_arg3)
      ∧ r.2.mem ((c.tc : Thread Cert.AdamWo.nD Cert.AdamWo.τ).loc Cert.AdamWo.main_arg4) = m ((c.tc : Thread Cert.AdamWo.nD Cert.AdamWo.τ).loc Cert.AdamWo.main_arg4))
      ∧ r.2.sem = fun _ => 0)

def quiescent_AdamWoIdeal [hAdamWoIdeal : Cert.AdamWoIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg), Pre_AdamWoIdeal m →
    θ_run (Cert.AdamWoIdeal.defs (F := Ideal)) (onTc (τ := Cert.AdamWoIdeal.τ) (Cert.AdamWoIdeal.main (F := Ideal))) ⟨m, fun _ => 0, g⟩ (fun r => (∀ c : Dev Cert.AdamWoIdeal.nD,
      r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
      ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
      ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
      ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3)
      ∧ r.2.mem ((c.tc : Thread Cert.AdamWoIdeal.nD Cert.AdamWoIdeal.τ).loc Cert.AdamWoIdeal.main_arg4) = m ((c.tc : Thread Cert.AdamWoIdeal.nD Cert.AdamWoIdeal.τ).loc Cert.AdamWoIdeal.main_arg4))
      ∧ r.2.sem = fun _ => 0)

def quiescent_AdamWoRefIdeal [hAdamWoRefIdeal : Cert.AdamWoRefIdeal.Facts] : Prop :=
  ∀ (m : (ℓ : Loc Cert.AdamWoRefIdeal.nD Cert.AdamWoRefIdeal.τ Cert.AdamWoRefIdeal.sig) → Buf (Elt Ideal) ℓ) (g : Dev Cert.AdamWoRefIdeal.nD → PrngReg), Pre_AdamWoRefIdeal m →
    θ_run (Cert.AdamWoRefIdeal.defs (F := Ideal)) (onTc (τ := Cert.AdamWoRefIdeal.τ) (Cert.AdamWoRefIdeal.main (F := Ideal))) ⟨m, fun _ => 0, g⟩ (fun r => (∀ c : Dev Cert.AdamWoRefIdeal.nD,
      r.2.mem ((c.tc : Thread Cert.AdamWoRefIdeal.nD Cert.AdamWoRefIdeal.τ).loc Cert.AdamWoRefIdeal.main_arg0) = m ((c.tc : Thread Cert.AdamWoRefIdeal.nD Cert.AdamWoRefIdeal.τ).loc Cert.AdamWoRefIdeal.main_arg0)
      ∧ r.2.mem ((c.tc : Thread Cert.AdamWoRefIdeal.nD Cert.AdamWoRefIdeal.τ).loc Cert.AdamWoRefIdeal.main_arg1) = m ((c.tc : Thread Cert.AdamWoRefIdeal.nD Cert.AdamWoRefIdeal.τ).loc Cert.AdamWoRefIdeal.main_arg1)
      ∧ r.2.mem ((c.tc : Thread Cert.AdamWoRefIdeal.nD Cert.AdamWoRefIdeal.τ).loc Cert.AdamWoRefIdeal.main_arg2) = m ((c.tc : Thread Cert.AdamWoRefIdeal.nD Cert.AdamWoRefIdeal.τ).loc Cert.AdamWoRefIdeal.main_arg2)
      ∧ r.2.mem ((c.tc : Thread Cert.AdamWoRefIdeal.nD Cert.AdamWoRefIdeal.τ).loc Cert.AdamWoRefIdeal.main_arg3) = m ((c.tc : Thread Cert.AdamWoRefIdeal.nD Cert.AdamWoRefIdeal.τ).loc Cert.AdamWoRefIdeal.main_arg3)
      ∧ r.2.mem ((c.tc : Thread Cert.AdamWoRefIdeal.nD Cert.AdamWoRefIdeal.τ).loc Cert.AdamWoRefIdeal.main_arg4) = m ((c.tc : Thread Cert.AdamWoRefIdeal.nD Cert.AdamWoRefIdeal.τ).loc Cert.AdamWoRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_u [hPoolFwdIdeal : Cert.PoolFwdIdeal.Facts] [hPre_finite_u : Cert.Pre_finite_u.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_u m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_finite_u [hPoolFwdRefIdeal : Cert.PoolFwdRefIdeal.Facts] [hPre_finite_u : Cert.Pre_finite_u.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_u m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_qkb [hAttnFwdIdeal : Cert.AttnFwdIdeal.Facts] [hPre_finite_qkb : Cert.Pre_finite_qkb.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qkb m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_qkb [hAttnFwdRefIdeal : Cert.AttnFwdRefIdeal.Facts] [hPre_finite_qkb : Cert.Pre_finite_qkb.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qkb m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)) →
    ∃ (v0 : (c : Dev Cert.MixBwdIdeal.nD) → Buf (Elt Ideal) ((c.tc : Thread Cert.MixBwdIdeal.nD Cert.MixBwdIdeal.τ).loc Cert.MixBwdIdeal.main_v24_0)) (v1 : (c : Dev Cert.MixBwdIdeal.nD) → Buf (Elt Ideal) ((c.tc : Thread Cert.MixBwdIdeal.nD Cert.MixBwdIdeal.τ).loc Cert.MixBwdIdeal.main_v24_1)) (v2 : (c : Dev Cert.MixBwdIdeal.nD) → Buf (Elt Ideal) ((c.tc : Thread Cert.MixBwdIdeal.nD Cert.MixBwdIdeal.τ).loc Cert.MixBwdIdeal.main_v24_2)) (v3 : (c : Dev Cert.MixBwdIdeal.nD) → Buf (Elt Ideal) ((c.tc : Thread Cert.MixBwdIdeal.nD Cert.MixBwdIdeal.τ).loc Cert.MixBwdIdeal.main_v24_3)) (v4 : (c : Dev Cert.MixBwdIdeal.nD) → Buf (Elt Ideal) ((c.tc : Thread Cert.MixBwdIdeal.nD Cert.MixBwdIdeal.τ).loc Cert.MixBwdIdeal.main_v24_4)) (v5 : (c : Dev Cert.MixBwdIdeal.nD) → Buf (Elt Ideal) ((c.tc : Thread Cert.MixBwdIdeal.nD Cert.MixBwdIdeal.τ).loc Cert.MixBwdIdeal.main_v24_5)) (v6 : (c : Dev Cert.MixBwdIdeal.nD) → Buf (Elt Ideal) ((c.tc : Thread Cert.MixBwdIdeal.nD Cert.MixBwdIdeal.τ).loc Cert.MixBwdIdeal.main_v24_6)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v24_0) = v0 c
          ∧ r.2.mem ((c.tc : Thread Cert.MixBwdIdeal.nD Cert.MixBwdIdeal.τ).loc Cert.MixBwdIdeal.main_v24_1) = v1 c
          ∧ r.2.mem ((c.tc : Thread Cert.MixBwdIdeal.nD Cert.MixBwdIdeal.τ).loc Cert.MixBwdIdeal.main_v24_2) = v2 c
          ∧ r.2.mem ((c.tc : Thread Cert.MixBwdIdeal.nD Cert.MixBwdIdeal.τ).loc Cert.MixBwdIdeal.main_v24_3) = v3 c
          ∧ r.2.mem ((c.tc : Thread Cert.MixBwdIdeal.nD Cert.MixBwdIdeal.τ).loc Cert.MixBwdIdeal.main_v24_4) = v4 c
          ∧ r.2.mem ((c.tc : Thread Cert.MixBwdIdeal.nD Cert.MixBwdIdeal.τ).loc Cert.MixBwdIdeal.main_v24_5) = v5 c
          ∧ r.2.mem ((c.tc : Thread Cert.MixBwdIdeal.nD Cert.MixBwdIdeal.τ).loc Cert.MixBwdIdeal.main_v24_6) = v6 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v43) = v0 c
          ∧ r.2.mem ((c.tc : Thread Cert.MixRefIdeal.nD Cert.MixRefIdeal.τ).loc Cert.MixRefIdeal.main_v36) = v1 c
          ∧ r.2.mem ((c.tc : Thread Cert.MixRefIdeal.nD Cert.MixRefIdeal.τ).loc Cert.MixRefIdeal.main_v44) = v2 c
          ∧ r.2.mem ((c.tc : Thread Cert.MixRefIdeal.nD Cert.MixRefIdeal.τ).loc Cert.MixRefIdeal.main_v39) = v3 c
          ∧ r.2.mem ((c.tc : Thread Cert.MixRefIdeal.nD Cert.MixRefIdeal.τ).loc Cert.MixRefIdeal.main_v46) = v4 c
          ∧ r.2.mem ((c.tc : Thread Cert.MixRefIdeal.nD Cert.MixRefIdeal.τ).loc Cert.MixRefIdeal.main_v49) = v5 c
          ∧ r.2.mem ((c.tc : Thread Cert.MixRefIdeal.nD Cert.MixRefIdeal.τ).loc Cert.MixRefIdeal.main_v52) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v9) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_MmDh2_MmDh2Ideal : Prop :=
  True

def algebraic_MmDh2Ideal_MmDh2RefIdeal [hMmDh2Ideal : Cert.MmDh2Ideal.Facts] [hMmDh2RefIdeal : Cert.MmDh2RefIdeal.Facts] : Prop :=
  ∀ (m : (ℓ : Loc Cert.MmDh2Ideal.nD Cert.MmDh2Ideal.τ Cert.MmDh2Ideal.sig) → Buf (Elt Ideal) ℓ) (g : Dev Cert.MmDh2Ideal.nD → PrngReg)
    (m' : (ℓ : Loc Cert.MmDh2RefIdeal.nD Cert.MmDh2RefIdeal.τ Cert.MmDh2RefIdeal.sig) → Buf (Elt Ideal) ℓ) (g' : Dev Cert.MmDh2RefIdeal.nD → PrngReg), Pre_MmDh2Ideal m →
    (∀ c : Dev Cert.MmDh2Ideal.nD,
      m' ((c.tc : Thread Cert.MmDh2RefIdeal.nD Cert.MmDh2RefIdeal.τ).loc Cert.MmDh2RefIdeal.main_arg0) = m ((c.tc : Thread Cert.MmDh2Ideal.nD Cert.MmDh2Ideal.τ).loc Cert.MmDh2Ideal.main_arg0)
      ∧ m' ((c.tc : Thread Cert.MmDh2RefIdeal.nD Cert.MmDh2RefIdeal.τ).loc Cert.MmDh2RefIdeal.main_arg1) = m ((c.tc : Thread Cert.MmDh2Ideal.nD Cert.MmDh2Ideal.τ).loc Cert.MmDh2Ideal.main_arg1)
      ∧ m' ((c.tc : Thread Cert.MmDh2RefIdeal.nD Cert.MmDh2RefIdeal.τ).loc Cert.MmDh2RefIdeal.main_arg2) = m ((c.tc : Thread Cert.MmDh2Ideal.nD Cert.MmDh2Ideal.τ).loc Cert.MmDh2Ideal.main_arg2)
      ∧ m' ((c.tc : Thread Cert.MmDh2RefIdeal.nD Cert.MmDh2RefIdeal.τ).loc Cert.MmDh2RefIdeal.main_arg3) = m ((c.tc : Thread Cert.MmDh2Ideal.nD Cert.MmDh2Ideal.τ).loc Cert.MmDh2Ideal.main_arg3)
      ∧ m' ((c.tc : Thread Cert.MmDh2RefIdeal.nD Cert.MmDh2RefIdeal.τ).loc Cert.MmDh2RefIdeal.main_arg4) = m ((c.tc : Thread Cert.MmDh2Ideal.nD Cert.MmDh2Ideal.τ).loc Cert.MmDh2Ideal.main_arg4)
      ∧ m' ((c.tc : Thread Cert.MmDh2RefIdeal.nD Cert.MmDh2RefIdeal.τ).loc Cert.MmDh2RefIdeal.main_arg5) = m ((c.tc : Thread Cert.MmDh2Ideal.nD Cert.MmDh2Ideal.τ).loc Cert.MmDh2Ideal.main_arg5)
      ∧ m' ((c.tc : Thread Cert.MmDh2RefIdeal.nD Cert.MmDh2RefIdeal.τ).loc Cert.MmDh2RefIdeal.main_arg6) = m ((c.tc : Thread Cert.MmDh2Ideal.nD Cert.MmDh2Ideal.τ).loc Cert.MmDh2Ideal.main_arg6)) →
    ∃ (v0 : (c : Dev Cert.MmDh2Ideal.nD) → Buf (Elt Ideal) ((c.tc : Thread Cert.MmDh2Ideal.nD Cert.MmDh2Ideal.τ).loc Cert.MmDh2Ideal.main_v13_0)) (v1 : (c : Dev Cert.MmDh2Ideal.nD) → Buf (Elt Ideal) ((c.tc : Thread Cert.MmDh2Ideal.nD Cert.MmDh2Ideal.τ).loc Cert.MmDh2Ideal.main_v13_1)) (v2 : (c : Dev Cert.MmDh2Ideal.nD) → Buf (Elt Ideal) ((c.tc : Thread Cert.MmDh2Ideal.nD Cert.MmDh2Ideal.τ).loc Cert.MmDh2Ideal.main_v13_2)) (v3 : (c : Dev Cert.MmDh2Ideal.nD) → Buf (Elt Ideal) ((c.tc : Thread Cert.MmDh2Ideal.nD Cert.MmDh2Ideal.τ).loc Cert.MmDh2Ideal.main_v13_3)),
      θ_run (Cert.MmDh2Ideal.defs (F := Ideal)) (onTc (τ := Cert.MmDh2Ideal.τ) (Cert.MmDh2Ideal.main (F := Ideal))) ⟨m, fun _ => 0, g⟩ (fun r => ∀ c : Dev Cert.MmDh2Ideal.nD,
          r.2.mem ((c.tc : Thread Cert.MmDh2Ideal.nD Cert.MmDh2Ideal.τ).loc Cert.MmDh2Ideal.main_v13_0) = v0 c
          ∧ r.2.mem ((c.tc : Thread Cert.MmDh2Ideal.nD Cert.MmDh2Ideal.τ).loc Cert.MmDh2Ideal.main_v13_1) = v1 c
          ∧ r.2.mem ((c.tc : Thread Cert.MmDh2Ideal.nD Cert.MmDh2Ideal.τ).loc Cert.MmDh2Ideal.main_v13_2) = v2 c
          ∧ r.2.mem ((c.tc : Thread Cert.MmDh2Ideal.nD Cert.MmDh2Ideal.τ).loc Cert.MmDh2Ideal.main_v13_3) = v3 c
          ∧ r.2.mem ((c.tc : Thread Cert.MmDh2Ideal.nD Cert.MmDh2Ideal.τ).loc Cert.MmDh2Ideal.main_arg0) = m ((c.tc : Thread Cert.MmDh2Ideal.nD Cert.MmDh2Ideal.τ).loc Cert.MmDh2Ideal.main_arg0)
          ∧ r.2.mem ((c.tc : Thread Cert.MmDh2Ideal.nD Cert.MmDh2Ideal.τ).loc Cert.MmDh2Ideal.main_arg1) = m ((c.tc : Thread Cert.MmDh2Ideal.nD Cert.MmDh2Ideal.τ).loc Cert.MmDh2Ideal.main_arg1)
          ∧ r.2.mem ((c.tc : Thread Cert.MmDh2Ideal.nD Cert.MmDh2Ideal.τ).loc Cert.MmDh2Ideal.main_arg2) = m ((c.tc : Thread Cert.MmDh2Ideal.nD Cert.MmDh2Ideal.τ).loc Cert.MmDh2Ideal.main_arg2)
          ∧ r.2.mem ((c.tc : Thread Cert.MmDh2Ideal.nD Cert.MmDh2Ideal.τ).loc Cert.MmDh2Ideal.main_arg3) = m ((c.tc : Thread Cert.MmDh2Ideal.nD Cert.MmDh2Ideal.τ).loc Cert.MmDh2Ideal.main_arg3)
          ∧ r.2.mem ((c.tc : Thread Cert.MmDh2Ideal.nD Cert.MmDh2Ideal.τ).loc Cert.MmDh2Ideal.main_arg4) = m ((c.tc : Thread Cert.MmDh2Ideal.nD Cert.MmDh2Ideal.τ).loc Cert.MmDh2Ideal.main_arg4)
          ∧ r.2.mem ((c.tc : Thread Cert.MmDh2Ideal.nD Cert.MmDh2Ideal.τ).loc Cert.MmDh2Ideal.main_arg5) = m ((c.tc : Thread Cert.MmDh2Ideal.nD Cert.MmDh2Ideal.τ).loc Cert.MmDh2Ideal.main_arg5)
          ∧ r.2.mem ((c.tc : Thread Cert.MmDh2Ideal.nD Cert.MmDh2Ideal.τ).loc Cert.MmDh2Ideal.main_arg6) = m ((c.tc : Thread Cert.MmDh2Ideal.nD Cert.MmDh2Ideal.τ).loc Cert.MmDh2Ideal.main_arg6))
      ∧ θ_run (Cert.MmDh2RefIdeal.defs (F := Ideal)) (onTc (τ := Cert.MmDh2RefIdeal.τ) (Cert.MmDh2RefIdeal.main (F := Ideal))) ⟨m', fun _ => 0, g'⟩ (fun r => ∀ c : Dev Cert.MmDh2RefIdeal.nD,
          r.2.mem ((c.tc : Thread Cert.MmDh2RefIdeal.nD Cert.MmDh2RefIdeal.τ).loc Cert.MmDh2RefIdeal.main_v58) = v0 c
          ∧ r.2.mem ((c.tc : Thread Cert.MmDh2RefIdeal.nD Cert.MmDh2RefIdeal.τ).loc Cert.MmDh2RefIdeal.main_v79) = v1 c
          ∧ r.2.mem ((c.tc : Thread Cert.MmDh2RefIdeal.nD Cert.MmDh2RefIdeal.τ).loc Cert.MmDh2RefIdeal.main_v41) = v2 c
          ∧ r.2.mem ((c.tc : Thread Cert.MmDh2RefIdeal.nD Cert.MmDh2RefIdeal.τ).loc Cert.MmDh2RefIdeal.main_v62) = v3 c
          ∧ r.2.mem ((c.tc : Thread Cert.MmDh2RefIdeal.nD Cert.MmDh2RefIdeal.τ).loc Cert.MmDh2RefIdeal.main_arg0) = m' ((c.tc : Thread Cert.MmDh2RefIdeal.nD Cert.MmDh2RefIdeal.τ).loc Cert.MmDh2RefIdeal.main_arg0)
          ∧ r.2.mem ((c.tc : Thread Cert.MmDh2RefIdeal.nD Cert.MmDh2RefIdeal.τ).loc Cert.MmDh2RefIdeal.main_arg1) = m' ((c.tc : Thread Cert.MmDh2RefIdeal.nD Cert.MmDh2RefIdeal.τ).loc Cert.MmDh2RefIdeal.main_arg1)
          ∧ r.2.mem ((c.tc : Thread Cert.MmDh2RefIdeal.nD Cert.MmDh2RefIdeal.τ).loc Cert.MmDh2RefIdeal.main_arg2) = m' ((c.tc : Thread Cert.MmDh2RefIdeal.nD Cert.MmDh2RefIdeal.τ).loc Cert.MmDh2RefIdeal.main_arg2)
          ∧ r.2.mem ((c.tc : Thread Cert.MmDh2RefIdeal.nD Cert.MmDh2RefIdeal.τ).loc Cert.MmDh2RefIdeal.main_arg3) = m' ((c.tc : Thread Cert.MmDh2RefIdeal.nD Cert.MmDh2RefIdeal.τ).loc Cert.MmDh2RefIdeal.main_arg3)
          ∧ r.2.mem ((c.tc : Thread Cert.MmDh2RefIdeal.nD Cert.MmDh2RefIdeal.τ).loc Cert.MmDh2RefIdeal.main_arg4) = m' ((c.tc : Thread Cert.MmDh2RefIdeal.nD Cert.MmDh2RefIdeal.τ).loc Cert.MmDh2RefIdeal.main_arg4)
          ∧ r.2.mem ((c.tc : Thread Cert.MmDh2RefIdeal.nD Cert.MmDh2RefIdeal.τ).loc Cert.MmDh2RefIdeal.main_arg5) = m' ((c.tc : Thread Cert.MmDh2RefIdeal.nD Cert.MmDh2RefIdeal.τ).loc Cert.MmDh2RefIdeal.main_arg5)
          ∧ r.2.mem ((c.tc : Thread Cert.MmDh2RefIdeal.nD Cert.MmDh2RefIdeal.τ).loc Cert.MmDh2RefIdeal.main_arg6) = m' ((c.tc : Thread Cert.MmDh2RefIdeal.nD Cert.MmDh2RefIdeal.τ).loc Cert.MmDh2RefIdeal.main_arg6))

def preserves_MmDh_MmDhIdeal : Prop :=
  True

def algebraic_MmDhIdeal_MmDhRefIdeal [hMmDhIdeal : Cert.MmDhIdeal.Facts] [hMmDhRefIdeal : Cert.MmDhRefIdeal.Facts] : Prop :=
  ∀ (m : (ℓ : Loc Cert.MmDhIdeal.nD Cert.MmDhIdeal.τ Cert.MmDhIdeal.sig) → Buf (Elt Ideal) ℓ) (g : Dev Cert.MmDhIdeal.nD → PrngReg)
    (m' : (ℓ : Loc Cert.MmDhRefIdeal.nD Cert.MmDhRefIdeal.τ Cert.MmDhRefIdeal.sig) → Buf (Elt Ideal) ℓ) (g' : Dev Cert.MmDhRefIdeal.nD → PrngReg), Pre_MmDhIdeal m →
    (∀ c : Dev Cert.MmDhIdeal.nD,
      m' ((c.tc : Thread Cert.MmDhRefIdeal.nD Cert.MmDhRefIdeal.τ).loc Cert.MmDhRefIdeal.main_arg0) = m ((c.tc : Thread Cert.MmDhIdeal.nD Cert.MmDhIdeal.τ).loc Cert.MmDhIdeal.main_arg0)
      ∧ m' ((c.tc : Thread Cert.MmDhRefIdeal.nD Cert.MmDhRefIdeal.τ).loc Cert.MmDhRefIdeal.main_arg1) = m ((c.tc : Thread Cert.MmDhIdeal.nD Cert.MmDhIdeal.τ).loc Cert.MmDhIdeal.main_arg1)
      ∧ m' ((c.tc : Thread Cert.MmDhRefIdeal.nD Cert.MmDhRefIdeal.τ).loc Cert.MmDhRefIdeal.main_arg2) = m ((c.tc : Thread Cert.MmDhIdeal.nD Cert.MmDhIdeal.τ).loc Cert.MmDhIdeal.main_arg2)
      ∧ m' ((c.tc : Thread Cert.MmDhRefIdeal.nD Cert.MmDhRefIdeal.τ).loc Cert.MmDhRefIdeal.main_arg3) = m ((c.tc : Thread Cert.MmDhIdeal.nD Cert.MmDhIdeal.τ).loc Cert.MmDhIdeal.main_arg3)
      ∧ m' ((c.tc : Thread Cert.MmDhRefIdeal.nD Cert.MmDhRefIdeal.τ).loc Cert.MmDhRefIdeal.main_arg4) = m ((c.tc : Thread Cert.MmDhIdeal.nD Cert.MmDhIdeal.τ).loc Cert.MmDhIdeal.main_arg4)
      ∧ m' ((c.tc : Thread Cert.MmDhRefIdeal.nD Cert.MmDhRefIdeal.τ).loc Cert.MmDhRefIdeal.main_arg5) = m ((c.tc : Thread Cert.MmDhIdeal.nD Cert.MmDhIdeal.τ).loc Cert.MmDhIdeal.main_arg5)
      ∧ m' ((c.tc : Thread Cert.MmDhRefIdeal.nD Cert.MmDhRefIdeal.τ).loc Cert.MmDhRefIdeal.main_arg6) = m ((c.tc : Thread Cert.MmDhIdeal.nD Cert.MmDhIdeal.τ).loc Cert.MmDhIdeal.main_arg6)
      ∧ m' ((c.tc : Thread Cert.MmDhRefIdeal.nD Cert.MmDhRefIdeal.τ).loc Cert.MmDhRefIdeal.main_arg7) = m ((c.tc : Thread Cert.MmDhIdeal.nD Cert.MmDhIdeal.τ).loc Cert.MmDhIdeal.main_arg7)
      ∧ m' ((c.tc : Thread Cert.MmDhRefIdeal.nD Cert.MmDhRefIdeal.τ).loc Cert.MmDhRefIdeal.main_arg8) = m ((c.tc : Thread Cert.MmDhIdeal.nD Cert.MmDhIdeal.τ).loc Cert.MmDhIdeal.main_arg8)
      ∧ m' ((c.tc : Thread Cert.MmDhRefIdeal.nD Cert.MmDhRefIdeal.τ).loc Cert.MmDhRefIdeal.main_arg9) = m ((c.tc : Thread Cert.MmDhIdeal.nD Cert.MmDhIdeal.τ).loc Cert.MmDhIdeal.main_arg9)
      ∧ m' ((c.tc : Thread Cert.MmDhRefIdeal.nD Cert.MmDhRefIdeal.τ).loc Cert.MmDhRefIdeal.main_arg10) = m ((c.tc : Thread Cert.MmDhIdeal.nD Cert.MmDhIdeal.τ).loc Cert.MmDhIdeal.main_arg10)) →
    ∃ (v0 : (c : Dev Cert.MmDhIdeal.nD) → Buf (Elt Ideal) ((c.tc : Thread Cert.MmDhIdeal.nD Cert.MmDhIdeal.τ).loc Cert.MmDhIdeal.main_v13_0)) (v1 : (c : Dev Cert.MmDhIdeal.nD) → Buf (Elt Ideal) ((c.tc : Thread Cert.MmDhIdeal.nD Cert.MmDhIdeal.τ).loc Cert.MmDhIdeal.main_v13_1)) (v2 : (c : Dev Cert.MmDhIdeal.nD) → Buf (Elt Ideal) ((c.tc : Thread Cert.MmDhIdeal.nD Cert.MmDhIdeal.τ).loc Cert.MmDhIdeal.main_v13_2)) (v3 : (c : Dev Cert.MmDhIdeal.nD) → Buf (Elt Ideal) ((c.tc : Thread Cert.MmDhIdeal.nD Cert.MmDhIdeal.τ).loc Cert.MmDhIdeal.main_v13_3)),
      θ_run (Cert.MmDhIdeal.defs (F := Ideal)) (onTc (τ := Cert.MmDhIdeal.τ) (Cert.MmDhIdeal.main (F := Ideal))) ⟨m, fun _ => 0, g⟩ (fun r => ∀ c : Dev Cert.MmDhIdeal.nD,
          r.2.mem ((c.tc : Thread Cert.MmDhIdeal.nD Cert.MmDhIdeal.τ).loc Cert.MmDhIdeal.main_v13_0) = v0 c
          ∧ r.2.mem ((c.tc : Thread Cert.MmDhIdeal.nD Cert.MmDhIdeal.τ).loc Cert.MmDhIdeal.main_v13_1) = v1 c
          ∧ r.2.mem ((c.tc : Thread Cert.MmDhIdeal.nD Cert.MmDhIdeal.τ).loc Cert.MmDhIdeal.main_v13_2) = v2 c
          ∧ r.2.mem ((c.tc : Thread Cert.MmDhIdeal.nD Cert.MmDhIdeal.τ).loc Cert.MmDhIdeal.main_v13_3) = v3 c
          ∧ r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
          ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
          ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
          ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
          ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4)
          ∧ r.2.mem ((c.tc : Thread Cert.MmDhIdeal.nD Cert.MmDhIdeal.τ).loc Cert.MmDhIdeal.main_arg5) = m ((c.tc : Thread Cert.MmDhIdeal.nD Cert.MmDhIdeal.τ).loc Cert.MmDhIdeal.main_arg5)
          ∧ r.2.mem ((c.tc : Thread Cert.MmDhIdeal.nD Cert.MmDhIdeal.τ).loc Cert.MmDhIdeal.main_arg6) = m ((c.tc : Thread Cert.MmDhIdeal.nD Cert.MmDhIdeal.τ).loc Cert.MmDhIdeal.main_arg6)
          ∧ r.2.mem ((c.tc : Thread Cert.MmDhIdeal.nD Cert.MmDhIdeal.τ).loc Cert.MmDhIdeal.main_arg7) = m ((c.tc : Thread Cert.MmDhIdeal.nD Cert.MmDhIdeal.τ).loc Cert.MmDhIdeal.main_arg7)
          ∧ r.2.mem ((c.tc : Thread Cert.MmDhIdeal.nD Cert.MmDhIdeal.τ).loc Cert.MmDhIdeal.main_arg8) = m ((c.tc : Thread Cert.MmDhIdeal.nD Cert.MmDhIdeal.τ).loc Cert.MmDhIdeal.main_arg8)
          ∧ r.2.mem ((c.tc : Thread Cert.MmDhIdeal.nD Cert.MmDhIdeal.τ).loc Cert.MmDhIdeal.main_arg9) = m ((c.tc : Thread Cert.MmDhIdeal.nD Cert.MmDhIdeal.τ).loc Cert.MmDhIdeal.main_arg9)
          ∧ r.2.mem ((c.tc : Thread Cert.MmDhIdeal.nD Cert.MmDhIdeal.τ).loc Cert.MmDhIdeal.main_arg10) = m ((c.tc : Thread Cert.MmDhIdeal.nD Cert.MmDhIdeal.τ).loc Cert.MmDhIdeal.main_arg10))
      ∧ θ_run (Cert.MmDhRefIdeal.defs (F := Ideal)) (onTc (τ := Cert.MmDhRefIdeal.τ) (Cert.MmDhRefIdeal.main (F := Ideal))) ⟨m', fun _ => 0, g'⟩ (fun r => ∀ c : Dev Cert.MmDhRefIdeal.nD,
          r.2.mem ((c.tc : Thread Cert.MmDhRefIdeal.nD Cert.MmDhRefIdeal.τ).loc Cert.MmDhRefIdeal.main_v57) = v0 c
          ∧ r.2.mem ((c.tc : Thread Cert.MmDhRefIdeal.nD Cert.MmDhRefIdeal.τ).loc Cert.MmDhRefIdeal.main_v40) = v1 c
          ∧ r.2.mem ((c.tc : Thread Cert.MmDhRefIdeal.nD Cert.MmDhRefIdeal.τ).loc Cert.MmDhRefIdeal.main_v78) = v2 c
          ∧ r.2.mem ((c.tc : Thread Cert.MmDhRefIdeal.nD Cert.MmDhRefIdeal.τ).loc Cert.MmDhRefIdeal.main_v61) = v3 c
          ∧ r.2.mem ((c.tc : Thread Cert.MmDhRefIdeal.nD Cert.MmDhRefIdeal.τ).loc Cert.MmDhRefIdeal.main_arg0) = m' ((c.tc : Thread Cert.MmDhRefIdeal.nD Cert.MmDhRefIdeal.τ).loc Cert.MmDhRefIdeal.main_arg0)
          ∧ r.2.mem ((c.tc : Thread Cert.MmDhRefIdeal.nD Cert.MmDhRefIdeal.τ).loc Cert.MmDhRefIdeal.main_arg1) = m' ((c.tc : Thread Cert.MmDhRefIdeal.nD Cert.MmDhRefIdeal.τ).loc Cert.MmDhRefIdeal.main_arg1)
          ∧ r.2.mem ((c.tc : Thread Cert.MmDhRefIdeal.nD Cert.MmDhRefIdeal.τ).loc Cert.MmDhRefIdeal.main_arg2) = m' ((c.tc : Thread Cert.MmDhRefIdeal.nD Cert.MmDhRefIdeal.τ).loc Cert.MmDhRefIdeal.main_arg2)
          ∧ r.2.mem ((c.tc : Thread Cert.MmDhRefIdeal.nD Cert.MmDhRefIdeal.τ).loc Cert.MmDhRefIdeal.main_arg3) = m' ((c.tc : Thread Cert.MmDhRefIdeal.nD Cert.MmDhRefIdeal.τ).loc Cert.MmDhRefIdeal.main_arg3)
          ∧ r.2.mem ((c.tc : Thread Cert.MmDhRefIdeal.nD Cert.MmDhRefIdeal.τ).loc Cert.MmDhRefIdeal.main_arg4) = m' ((c.tc : Thread Cert.MmDhRefIdeal.nD Cert.MmDhRefIdeal.τ).loc Cert.MmDhRefIdeal.main_arg4)
          ∧ r.2.mem ((c.tc : Thread Cert.MmDhRefIdeal.nD Cert.MmDhRefIdeal.τ).loc Cert.MmDhRefIdeal.main_arg5) = m' ((c.tc : Thread Cert.MmDhRefIdeal.nD Cert.MmDhRefIdeal.τ).loc Cert.MmDhRefIdeal.main_arg5)
          ∧ r.2.mem ((c.tc : Thread Cert.MmDhRefIdeal.nD Cert.MmDhRefIdeal.τ).loc Cert.MmDhRefIdeal.main_arg6) = m' ((c.tc : Thread Cert.MmDhRefIdeal.nD Cert.MmDhRefIdeal.τ).loc Cert.MmDhRefIdeal.main_arg6)
          ∧ r.2.mem ((c.tc : Thread Cert.MmDhRefIdeal.nD Cert.MmDhRefIdeal.τ).loc Cert.MmDhRefIdeal.main_arg7) = m' ((c.tc : Thread Cert.MmDhRefIdeal.nD Cert.MmDhRefIdeal.τ).loc Cert.MmDhRefIdeal.main_arg7)
          ∧ r.2.mem ((c.tc : Thread Cert.MmDhRefIdeal.nD Cert.MmDhRefIdeal.τ).loc Cert.MmDhRefIdeal.main_arg8) = m' ((c.tc : Thread Cert.MmDhRefIdeal.nD Cert.MmDhRefIdeal.τ).loc Cert.MmDhRefIdeal.main_arg8)
          ∧ r.2.mem ((c.tc : Thread Cert.MmDhRefIdeal.nD Cert.MmDhRefIdeal.τ).loc Cert.MmDhRefIdeal.main_arg9) = m' ((c.tc : Thread Cert.MmDhRefIdeal.nD Cert.MmDhRefIdeal.τ).loc Cert.MmDhRefIdeal.main_arg9)
          ∧ r.2.mem ((c.tc : Thread Cert.MmDhRefIdeal.nD Cert.MmDhRefIdeal.τ).loc Cert.MmDhRefIdeal.main_arg10) = m' ((c.tc : Thread Cert.MmDhRefIdeal.nD Cert.MmDhRefIdeal.τ).loc Cert.MmDhRefIdeal.main_arg10))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v4) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)) (v2 : (c : Dev Cert.MixFwdIdeal.nD) → Buf (Elt Ideal) ((c.tc : Thread Cert.MixFwdIdeal.nD Cert.MixFwdIdeal.τ).loc Cert.MixFwdIdeal.main_v0_2)) (v3 : (c : Dev Cert.MixFwdIdeal.nD) → Buf (Elt Ideal) ((c.tc : Thread Cert.MixFwdIdeal.nD Cert.MixFwdIdeal.τ).loc Cert.MixFwdIdeal.main_v0_3)) (v4 : (c : Dev Cert.MixFwdIdeal.nD) → Buf (Elt Ideal) ((c.tc : Thread Cert.MixFwdIdeal.nD Cert.MixFwdIdeal.τ).loc Cert.MixFwdIdeal.main_v0_4)) (v5 : (c : Dev Cert.MixFwdIdeal.nD) → Buf (Elt Ideal) ((c.tc : Thread Cert.MixFwdIdeal.nD Cert.MixFwdIdeal.τ).loc Cert.MixFwdIdeal.main_v0_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_v0_2) = v2 c
          ∧ r.2.mem ((c.tc : Thread Cert.MixFwdIdeal.nD Cert.MixFwdIdeal.τ).loc Cert.MixFwdIdeal.main_v0_3) = v3 c
          ∧ r.2.mem ((c.tc : Thread Cert.MixFwdIdeal.nD Cert.MixFwdIdeal.τ).loc Cert.MixFwdIdeal.main_v0_4) = v4 c
          ∧ r.2.mem ((c.tc : Thread Cert.MixFwdIdeal.nD Cert.MixFwdIdeal.τ).loc Cert.MixFwdIdeal.main_v0_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v47) = v0 c
          ∧ r.2.mem ((c.tc : Thread Cert.MixFwdRefIdeal.nD Cert.MixFwdRefIdeal.τ).loc Cert.MixFwdRefIdeal.main_v48) = v1 c
          ∧ r.2.mem ((c.tc : Thread Cert.MixFwdRefIdeal.nD Cert.MixFwdRefIdeal.τ).loc Cert.MixFwdRefIdeal.main_v49) = v2 c
          ∧ r.2.mem ((c.tc : Thread Cert.MixFwdRefIdeal.nD Cert.MixFwdRefIdeal.τ).loc Cert.MixFwdRefIdeal.main_v21) = v3 c
          ∧ r.2.mem ((c.tc : Thread Cert.MixFwdRefIdeal.nD Cert.MixFwdRefIdeal.τ).loc Cert.MixFwdRefIdeal.main_v34) = v4 c
          ∧ r.2.mem ((c.tc : Thread Cert.MixFwdRefIdeal.nD Cert.MixFwdRefIdeal.τ).loc Cert.MixFwdRefIdeal.main_v50) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v35) = v0 c
          ∧ r.2.mem ((c.tc : Thread Cert.DownLossRefIdeal.nD Cert.DownLossRefIdeal.τ).loc Cert.DownLossRefIdeal.main_v55) = v1 c
          ∧ r.2.mem ((c.tc : Thread Cert.DownLossRefIdeal.nD Cert.DownLossRefIdeal.τ).loc Cert.DownLossRefIdeal.main_v38) = v2 c
          ∧ r.2.mem ((c.tc : Thread Cert.DownLossRefIdeal.nD Cert.DownLossRefIdeal.τ).loc Cert.DownLossRefIdeal.main_v56) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_PoolBwd_PoolBwdIdeal : Prop :=
  True

def algebraic_PoolBwdIdeal_PoolRefIdeal_pre_finite [hPoolBwdIdeal : Cert.PoolBwdIdeal.Facts] [hPoolRefIdeal : Cert.PoolRefIdeal.Facts] [hPre_finite : Cert.Pre_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_finite m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v63_0)) (v1 : (c : Dev Cert.PoolBwdIdeal.nD) → Buf (Elt Ideal) ((c.tc : Thread Cert.PoolBwdIdeal.nD Cert.PoolBwdIdeal.τ).loc Cert.PoolBwdIdeal.main_v63_1)) (v2 : (c : Dev Cert.PoolBwdIdeal.nD) → Buf (Elt Ideal) ((c.tc : Thread Cert.PoolBwdIdeal.nD Cert.PoolBwdIdeal.τ).loc Cert.PoolBwdIdeal.main_v63_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v63_0) = v0 c
          ∧ r.2.mem ((c.tc : Thread Cert.PoolBwdIdeal.nD Cert.PoolBwdIdeal.τ).loc Cert.PoolBwdIdeal.main_v63_1) = v1 c
          ∧ r.2.mem ((c.tc : Thread Cert.PoolBwdIdeal.nD Cert.PoolBwdIdeal.τ).loc Cert.PoolBwdIdeal.main_v63_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v128) = v0 c
          ∧ r.2.mem ((c.tc : Thread Cert.PoolRefIdeal.nD Cert.PoolRefIdeal.τ).loc Cert.PoolRefIdeal.main_v77) = v1 c
          ∧ r.2.mem ((c.tc : Thread Cert.PoolRefIdeal.nD Cert.PoolRefIdeal.τ).loc Cert.PoolRefIdeal.main_v69) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamWo_AdamWoIdeal : Prop :=
  True

def algebraic_AdamWoIdeal_AdamWoRefIdeal [hAdamWoIdeal : Cert.AdamWoIdeal.Facts] [hAdamWoRefIdeal : Cert.AdamWoRefIdeal.Facts] : Prop :=
  ∀ (m : (ℓ : Loc Cert.AdamWoIdeal.nD Cert.AdamWoIdeal.τ Cert.AdamWoIdeal.sig) → Buf (Elt Ideal) ℓ) (g : Dev Cert.AdamWoIdeal.nD → PrngReg)
    (m' : (ℓ : Loc Cert.AdamWoRefIdeal.nD Cert.AdamWoRefIdeal.τ Cert.AdamWoRefIdeal.sig) → Buf (Elt Ideal) ℓ) (g' : Dev Cert.AdamWoRefIdeal.nD → PrngReg), Pre_AdamWoIdeal m →
    (∀ c : Dev Cert.AdamWoIdeal.nD,
      m' ((c.tc : Thread Cert.AdamWoRefIdeal.nD Cert.AdamWoRefIdeal.τ).loc Cert.AdamWoRefIdeal.main_arg0) = m ((c.tc : Thread Cert.AdamWoIdeal.nD Cert.AdamWoIdeal.τ).loc Cert.AdamWoIdeal.main_arg0)
      ∧ m' ((c.tc : Thread Cert.AdamWoRefIdeal.nD Cert.AdamWoRefIdeal.τ).loc Cert.AdamWoRefIdeal.main_arg1) = m ((c.tc : Thread Cert.AdamWoIdeal.nD Cert.AdamWoIdeal.τ).loc Cert.AdamWoIdeal.main_arg1)
      ∧ m' ((c.tc : Thread Cert.AdamWoRefIdeal.nD Cert.AdamWoRefIdeal.τ).loc Cert.AdamWoRefIdeal.main_arg2) = m ((c.tc : Thread Cert.AdamWoIdeal.nD Cert.AdamWoIdeal.τ).loc Cert.AdamWoIdeal.main_arg2)
      ∧ m' ((c.tc : Thread Cert.AdamWoRefIdeal.nD Cert.AdamWoRefIdeal.τ).loc Cert.AdamWoRefIdeal.main_arg3) = m ((c.tc : Thread Cert.AdamWoIdeal.nD Cert.AdamWoIdeal.τ).loc Cert.AdamWoIdeal.main_arg3)
      ∧ m' ((c.tc : Thread Cert.AdamWoRefIdeal.nD Cert.AdamWoRefIdeal.τ).loc Cert.AdamWoRefIdeal.main_arg4) = m ((c.tc : Thread Cert.AdamWoIdeal.nD Cert.AdamWoIdeal.τ).loc Cert.AdamWoIdeal.main_arg4)) →
    ∃ (v0 : (c : Dev Cert.AdamWoIdeal.nD) → Buf (Elt Ideal) ((c.tc : Thread Cert.AdamWoIdeal.nD Cert.AdamWoIdeal.τ).loc Cert.AdamWoIdeal.main_v0_0)) (v1 : (c : Dev Cert.AdamWoIdeal.nD) → Buf (Elt Ideal) ((c.tc : Thread Cert.AdamWoIdeal.nD Cert.AdamWoIdeal.τ).loc Cert.AdamWoIdeal.main_v0_1)) (v2 : (c : Dev Cert.AdamWoIdeal.nD) → Buf (Elt Ideal) ((c.tc : Thread Cert.AdamWoIdeal.nD Cert.AdamWoIdeal.τ).loc Cert.AdamWoIdeal.main_v0_2)) (v3 : (c : Dev Cert.AdamWoIdeal.nD) → Buf (Elt Ideal) ((c.tc : Thread Cert.AdamWoIdeal.nD Cert.AdamWoIdeal.τ).loc Cert.AdamWoIdeal.main_v0_3)),
      θ_run (Cert.AdamWoIdeal.defs (F := Ideal)) (onTc (τ := Cert.AdamWoIdeal.τ) (Cert.AdamWoIdeal.main (F := Ideal))) ⟨m, fun _ => 0, g⟩ (fun r => ∀ c : Dev Cert.AdamWoIdeal.nD,
          r.2.mem ((c.tc : Thread Cert.AdamWoIdeal.nD Cert.AdamWoIdeal.τ).loc Cert.AdamWoIdeal.main_v0_0) = v0 c
          ∧ r.2.mem ((c.tc : Thread Cert.AdamWoIdeal.nD Cert.AdamWoIdeal.τ).loc Cert.AdamWoIdeal.main_v0_1) = v1 c
          ∧ r.2.mem ((c.tc : Thread Cert.AdamWoIdeal.nD Cert.AdamWoIdeal.τ).loc Cert.AdamWoIdeal.main_v0_2) = v2 c
          ∧ r.2.mem ((c.tc : Thread Cert.AdamWoIdeal.nD Cert.AdamWoIdeal.τ).loc Cert.AdamWoIdeal.main_v0_3) = v3 c
          ∧ r.2.mem ((c.tc : Thread Cert.AdamWoIdeal.nD Cert.AdamWoIdeal.τ).loc Cert.AdamWoIdeal.main_arg0) = m ((c.tc : Thread Cert.AdamWoIdeal.nD Cert.AdamWoIdeal.τ).loc Cert.AdamWoIdeal.main_arg0)
          ∧ r.2.mem ((c.tc : Thread Cert.AdamWoIdeal.nD Cert.AdamWoIdeal.τ).loc Cert.AdamWoIdeal.main_arg1) = m ((c.tc : Thread Cert.AdamWoIdeal.nD Cert.AdamWoIdeal.τ).loc Cert.AdamWoIdeal.main_arg1)
          ∧ r.2.mem ((c.tc : Thread Cert.AdamWoIdeal.nD Cert.AdamWoIdeal.τ).loc Cert.AdamWoIdeal.main_arg2) = m ((c.tc : Thread Cert.AdamWoIdeal.nD Cert.AdamWoIdeal.τ).loc Cert.AdamWoIdeal.main_arg2)
          ∧ r.2.mem ((c.tc : Thread Cert.AdamWoIdeal.nD Cert.AdamWoIdeal.τ).loc Cert.AdamWoIdeal.main_arg3) = m ((c.tc : Thread Cert.AdamWoIdeal.nD Cert.AdamWoIdeal.τ).loc Cert.AdamWoIdeal.main_arg3)
          ∧ r.2.mem ((c.tc : Thread Cert.AdamWoIdeal.nD Cert.AdamWoIdeal.τ).loc Cert.AdamWoIdeal.main_arg4) = m ((c.tc : Thread Cert.AdamWoIdeal.nD Cert.AdamWoIdeal.τ).loc Cert.AdamWoIdeal.main_arg4))
      ∧ θ_run (Cert.AdamWoRefIdeal.defs (F := Ideal)) (onTc (τ := Cert.AdamWoRefIdeal.τ) (Cert.AdamWoRefIdeal.main (F := Ideal))) ⟨m', fun _ => 0, g'⟩ (fun r => ∀ c : Dev Cert.AdamWoRefIdeal.nD,
          r.2.mem ((c.tc : Thread Cert.AdamWoRefIdeal.nD Cert.AdamWoRefIdeal.τ).loc Cert.AdamWoRefIdeal.main_v6) = v0 c
          ∧ r.2.mem ((c.tc : Thread Cert.AdamWoRefIdeal.nD Cert.AdamWoRefIdeal.τ).loc Cert.AdamWoRefIdeal.main_v30) = v1 c
          ∧ r.2.mem ((c.tc : Thread Cert.AdamWoRefIdeal.nD Cert.AdamWoRefIdeal.τ).loc Cert.AdamWoRefIdeal.main_v11) = v2 c
          ∧ r.2.mem ((c.tc : Thread Cert.AdamWoRefIdeal.nD Cert.AdamWoRefIdeal.τ).loc Cert.AdamWoRefIdeal.main_v17) = v3 c
          ∧ r.2.mem ((c.tc : Thread Cert.AdamWoRefIdeal.nD Cert.AdamWoRefIdeal.τ).loc Cert.AdamWoRefIdeal.main_arg0) = m' ((c.tc : Thread Cert.AdamWoRefIdeal.nD Cert.AdamWoRefIdeal.τ).loc Cert.AdamWoRefIdeal.main_arg0)
          ∧ r.2.mem ((c.tc : Thread Cert.AdamWoRefIdeal.nD Cert.AdamWoRefIdeal.τ).loc Cert.AdamWoRefIdeal.main_arg1) = m' ((c.tc : Thread Cert.AdamWoRefIdeal.nD Cert.AdamWoRefIdeal.τ).loc Cert.AdamWoRefIdeal.main_arg1)
          ∧ r.2.mem ((c.tc : Thread Cert.AdamWoRefIdeal.nD Cert.AdamWoRefIdeal.τ).loc Cert.AdamWoRefIdeal.main_arg2) = m' ((c.tc : Thread Cert.AdamWoRefIdeal.nD Cert.AdamWoRefIdeal.τ).loc Cert.AdamWoRefIdeal.main_arg2)
          ∧ r.2.mem ((c.tc : Thread Cert.AdamWoRefIdeal.nD Cert.AdamWoRefIdeal.τ).loc Cert.AdamWoRefIdeal.main_arg3) = m' ((c.tc : Thread Cert.AdamWoRefIdeal.nD Cert.AdamWoRefIdeal.τ).loc Cert.AdamWoRefIdeal.main_arg3)
          ∧ r.2.mem ((c.tc : Thread Cert.AdamWoRefIdeal.nD Cert.AdamWoRefIdeal.τ).loc Cert.AdamWoRefIdeal.main_arg4) = m' ((c.tc : Thread Cert.AdamWoRefIdeal.nD Cert.AdamWoRefIdeal.τ).loc Cert.AdamWoRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v4) = v0 c
          ∧ r.2.mem ((c.tc : Thread Cert.AdamConvRefIdeal.nD Cert.AdamConvRefIdeal.τ).loc Cert.AdamConvRefIdeal.main_v28) = v1 c
          ∧ r.2.mem ((c.tc : Thread Cert.AdamConvRefIdeal.nD Cert.AdamConvRefIdeal.τ).loc Cert.AdamConvRefIdeal.main_v9) = v2 c
          ∧ r.2.mem ((c.tc : Thread Cert.AdamConvRefIdeal.nD Cert.AdamConvRefIdeal.τ).loc Cert.AdamConvRefIdeal.main_v15) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PoolFwd_PoolFwdIdeal : Prop :=
  True

def algebraic_PoolFwdIdeal_PoolFwdRefIdeal_pre_finite_u [hPoolFwdIdeal : Cert.PoolFwdIdeal.Facts] [hPoolFwdRefIdeal : Cert.PoolFwdRefIdeal.Facts] [hPre_finite_u : Cert.Pre_finite_u.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_u m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v0_0)) (v1 : (c : Dev Cert.PoolFwdIdeal.nD) → Buf (Elt Ideal) ((c.tc : Thread Cert.PoolFwdIdeal.nD Cert.PoolFwdIdeal.τ).loc Cert.PoolFwdIdeal.main_v0_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0_0) = v0 c
          ∧ r.2.mem ((c.tc : Thread Cert.PoolFwdIdeal.nD Cert.PoolFwdIdeal.τ).loc Cert.PoolFwdIdeal.main_v0_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v63) = v0 c
          ∧ r.2.mem ((c.tc : Thread Cert.PoolFwdRefIdeal.nD Cert.PoolFwdRefIdeal.τ).loc Cert.PoolFwdRefIdeal.main_v69) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_finite_qkb [hAttnFwdIdeal : Cert.AttnFwdIdeal.Facts] [hAttnFwdRefIdeal : Cert.AttnFwdRefIdeal.Facts] [hPre_finite_qkb : Cert.Pre_finite_qkb.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qkb m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v5_0)) (v1 : (c : Dev Cert.AttnFwdIdeal.nD) → Buf (Elt Ideal) ((c.tc : Thread Cert.AttnFwdIdeal.nD Cert.AttnFwdIdeal.τ).loc Cert.AttnFwdIdeal.main_v5_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5_0) = v0 c
          ∧ r.2.mem ((c.tc : Thread Cert.AttnFwdIdeal.nD Cert.AttnFwdIdeal.τ).loc Cert.AttnFwdIdeal.main_v5_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v83) = v0 c
          ∧ r.2.mem ((c.tc : Thread Cert.AttnFwdRefIdeal.nD Cert.AttnFwdRefIdeal.τ).loc Cert.AttnFwdRefIdeal.main_v82) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def Claim : Prop :=
  ∃ (hMixBwd : Cert.MixBwd.Facts) (hMixBwdIdeal : Cert.MixBwdIdeal.Facts) (hMixRefIdeal : Cert.MixRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts) (hMmDh2 : Cert.MmDh2.Facts) (hMmDh2Ideal : Cert.MmDh2Ideal.Facts) (hMmDh2RefIdeal : Cert.MmDh2RefIdeal.Facts) (hMmDh : Cert.MmDh.Facts) (hMmDhIdeal : Cert.MmDhIdeal.Facts) (hMmDhRefIdeal : Cert.MmDhRefIdeal.Facts) (hMmIn : Cert.MmIn.Facts) (hMmInIdeal : Cert.MmInIdeal.Facts) (hMmInRefIdeal : Cert.MmInRefIdeal.Facts) (hMixFwd : Cert.MixFwd.Facts) (hMixFwdIdeal : Cert.MixFwdIdeal.Facts) (hMixFwdRefIdeal : Cert.MixFwdRefIdeal.Facts) (hDownLoss : Cert.DownLoss.Facts) (hDownLossIdeal : Cert.DownLossIdeal.Facts) (hDownLossRefIdeal : Cert.DownLossRefIdeal.Facts) (hPoolBwd : Cert.PoolBwd.Facts) (hPoolBwdIdeal : Cert.PoolBwdIdeal.Facts) (hPoolRefIdeal : Cert.PoolRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamWo : Cert.AdamWo.Facts) (hAdamWoIdeal : Cert.AdamWoIdeal.Facts) (hAdamWoRefIdeal : Cert.AdamWoRefIdeal.Facts) (hAdamConv : Cert.AdamConv.Facts) (hAdamConvIdeal : Cert.AdamConvIdeal.Facts) (hAdamConvRefIdeal : Cert.AdamConvRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPoolFwd : Cert.PoolFwd.Facts) (hPoolFwdIdeal : Cert.PoolFwdIdeal.Facts) (hPoolFwdRefIdeal : Cert.PoolFwdRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_finite_u : Cert.Pre_finite_u.Facts) (hPre_finite_qkb : Cert.Pre_finite_qkb.Facts),
    quiescent_MixBwd (hMixBwd := hMixBwd)
    ∧ quiescent_MixBwdIdeal (hMixBwdIdeal := hMixBwdIdeal)
    ∧ quiescent_MixRefIdeal (hMixRefIdeal := hMixRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MmDh2 (hMmDh2 := hMmDh2)
    ∧ quiescent_MmDh2Ideal (hMmDh2Ideal := hMmDh2Ideal)
    ∧ quiescent_MmDh2RefIdeal (hMmDh2RefIdeal := hMmDh2RefIdeal)
    ∧ quiescent_MmDh (hMmDh := hMmDh)
    ∧ quiescent_MmDhIdeal (hMmDhIdeal := hMmDhIdeal)
    ∧ quiescent_MmDhRefIdeal (hMmDhRefIdeal := hMmDhRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_PoolBwd (hPoolBwd := hPoolBwd)
    ∧ quiescent_PoolBwdIdeal (hPoolBwdIdeal := hPoolBwdIdeal)
    ∧ quiescent_PoolBwdIdeal_pre_finite (hPoolBwdIdeal := hPoolBwdIdeal) (hPre_finite := hPre_finite)
    ∧ quiescent_PoolRefIdeal (hPoolRefIdeal := hPoolRefIdeal)
    ∧ quiescent_PoolRefIdeal_pre_finite (hPoolRefIdeal := hPoolRefIdeal) (hPre_finite := hPre_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamWo (hAdamWo := hAdamWo)
    ∧ quiescent_AdamWoIdeal (hAdamWoIdeal := hAdamWoIdeal)
    ∧ quiescent_AdamWoRefIdeal (hAdamWoRefIdeal := hAdamWoRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PoolFwd (hPoolFwd := hPoolFwd)
    ∧ quiescent_PoolFwdIdeal (hPoolFwdIdeal := hPoolFwdIdeal)
    ∧ quiescent_PoolFwdIdeal_pre_finite_u (hPoolFwdIdeal := hPoolFwdIdeal) (hPre_finite_u := hPre_finite_u)
    ∧ quiescent_PoolFwdRefIdeal (hPoolFwdRefIdeal := hPoolFwdRefIdeal)
    ∧ quiescent_PoolFwdRefIdeal_pre_finite_u (hPoolFwdRefIdeal := hPoolFwdRefIdeal) (hPre_finite_u := hPre_finite_u)
    ∧ quiescent_AttnFwd (hAttnFwd := hAttnFwd)
    ∧ quiescent_AttnFwdIdeal (hAttnFwdIdeal := hAttnFwdIdeal)
    ∧ quiescent_AttnFwdIdeal_pre_finite_qkb (hAttnFwdIdeal := hAttnFwdIdeal) (hPre_finite_qkb := hPre_finite_qkb)
    ∧ quiescent_AttnFwdRefIdeal (hAttnFwdRefIdeal := hAttnFwdRefIdeal)
    ∧ quiescent_AttnFwdRefIdeal_pre_finite_qkb (hAttnFwdRefIdeal := hAttnFwdRefIdeal) (hPre_finite_qkb := hPre_finite_qkb)
    ∧ preserves_MixBwd_MixBwdIdeal
    ∧ algebraic_MixBwdIdeal_MixRefIdeal (hMixBwdIdeal := hMixBwdIdeal) (hMixRefIdeal := hMixRefIdeal)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
    ∧ preserves_MmDh2_MmDh2Ideal
    ∧ algebraic_MmDh2Ideal_MmDh2RefIdeal (hMmDh2Ideal := hMmDh2Ideal) (hMmDh2RefIdeal := hMmDh2RefIdeal)
    ∧ preserves_MmDh_MmDhIdeal
    ∧ algebraic_MmDhIdeal_MmDhRefIdeal (hMmDhIdeal := hMmDhIdeal) (hMmDhRefIdeal := hMmDhRefIdeal)
    ∧ preserves_MmIn_MmInIdeal
    ∧ algebraic_MmInIdeal_MmInRefIdeal (hMmInIdeal := hMmInIdeal) (hMmInRefIdeal := hMmInRefIdeal)
    ∧ preserves_MixFwd_MixFwdIdeal
    ∧ algebraic_MixFwdIdeal_MixFwdRefIdeal (hMixFwdIdeal := hMixFwdIdeal) (hMixFwdRefIdeal := hMixFwdRefIdeal)
    ∧ preserves_DownLoss_DownLossIdeal
    ∧ algebraic_DownLossIdeal_DownLossRefIdeal (hDownLossIdeal := hDownLossIdeal) (hDownLossRefIdeal := hDownLossRefIdeal)
    ∧ preserves_PoolBwd_PoolBwdIdeal
    ∧ algebraic_PoolBwdIdeal_PoolRefIdeal_pre_finite (hPoolBwdIdeal := hPoolBwdIdeal) (hPoolRefIdeal := hPoolRefIdeal) (hPre_finite := hPre_finite)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamWo_AdamWoIdeal
    ∧ algebraic_AdamWoIdeal_AdamWoRefIdeal (hAdamWoIdeal := hAdamWoIdeal) (hAdamWoRefIdeal := hAdamWoRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PoolFwd_PoolFwdIdeal
    ∧ algebraic_PoolFwdIdeal_PoolFwdRefIdeal_pre_finite_u (hPoolFwdIdeal := hPoolFwdIdeal) (hPoolFwdRefIdeal := hPoolFwdRefIdeal) (hPre_finite_u := hPre_finite_u)
    ∧ preserves_AttnFwd_AttnFwdIdeal
    ∧ algebraic_AttnFwdIdeal_AttnFwdRefIdeal_pre_finite_qkb (hAttnFwdIdeal := hAttnFwdIdeal) (hAttnFwdRefIdeal := hAttnFwdRefIdeal) (hPre_finite_qkb := hPre_finite_qkb)
-- ==== Pre_finite.lean ====
abbrev S8192x512 : Shape := ⟨2, ![8192, 512]⟩
abbrev S4x128x128 : Shape := ⟨3, ![4, 128, 128]⟩
abbrev S1x512 : Shape := ⟨2, ![1, 512]⟩
abbrev S128x512 : Shape := ⟨2, ![128, 512]⟩
abbrev S8321x512 : Shape := ⟨2, ![8321, 512]⟩
abbrev S_ : Shape := ⟨0, ![]⟩

class Facts : Prop where
  shapeCasts_S4x128x128_S128x512 : S4x128x128.ShapeCasts S128x512
  concatenates_S8192x512_S128x512_S1x512_S8321x512_d0 : Shape.Concatenates [S8192x512, S128x512, S1x512] S8321x512 0
  bcast_S_S8321x512 : S_.BroadcastsInDim S8321x512 (![] : Fin 0 → Fin S8321x512.rank)

variable [Facts]

def fn {F : FTy → Type} [FloatOps F] (main_arg0 : FVec F S8192x512 .f32) (main_arg1 : FVec F S8192x512 .f32) (main_arg2 : FVec F S4x128x128 .f32) (main_arg3 : FVec F S1x512 .f32) : IVec S8321x512 1 :=
  let main_v0 : FVec F S128x512 .f32 := shapeCast S128x512 main_arg2 shapeCasts_S4x128x128_S128x512
  let main_v1 : FVec F S8321x512 .f32 := concatenate S8321x512 0 [⟨S8192x512, main_arg0⟩, ⟨S128x512, main_v0⟩, ⟨S1x512, main_arg3⟩] concatenates_S8192x512_S128x512_S1x512_S8321x512_d0
  let main_v2 : FVec F S8321x512 .f32 := Host.absf main_v1
  let main_cst : FVec F S_ .f32 := constant S_ .f32 0x7F800000#32
  let main_v3 : FVec F S8321x512 .f32 := broadcastInDim S8321x512 ![] bcast_S_S8321x512 main_cst
  let main_v4 : IVec S8321x512 1 := cmpf .olt main_v2 main_v3
  main_v4
-- ==== Pre_finite_qkb.lean ====
abbrev S8192x4096 : Shape := ⟨2, ![8192, 4096]⟩
abbrev S8x64x576 : Shape := ⟨3, ![8, 64, 576]⟩
abbrev S8192x1024 : Shape := ⟨2, ![8192, 1024]⟩
abbrev S288x1024 : Shape := ⟨2, ![288, 1024]⟩
abbrev S8480x1024 : Shape := ⟨2, ![8480, 1024]⟩
abbrev S_ : Shape := ⟨0, ![]⟩

class Facts : Prop where
  slices_S8192x4096_S8192x1024_0_0 : S8192x4096.Slices ![0, 0] S8192x1024
  shapeCasts_S8x64x576_S288x1024 : S8x64x576.ShapeCasts S288x1024
  concatenates_S8192x1024_S288x1024_S8480x1024_d0 : Shape.Concatenates [S8192x1024, S288x1024] S8480x1024 0
  bcast_S_S8480x1024 : S_.BroadcastsInDim S8480x1024 (![] : Fin 0 → Fin S8480x1024.rank)

variable [Facts]

def fn {F : FTy → Type} [FloatOps F] (main_arg0 : FVec F S8192x4096 .f32) (main_arg1 : FVec F S8x64x576 .f32) : IVec S8480x1024 1 :=
  let main_v0 : FVec F S8192x1024 .f32 := (extractStridedSlice S8192x1024 ![0, 0] · slices_S8192x4096_S8192x1024_0_0) main_arg0
  let main_v1 : FVec F S288x1024 .f32 := shapeCast S288x1024 main_arg1 shapeCasts_S8x64x576_S288x1024
  let main_v2 : FVec F S8480x1024 .f32 := (fun a b => concatenate S8480x1024 0 [⟨S8192x1024, a⟩, ⟨S288x1024, b⟩] concatenates_S8192x1024_S288x1024_S8480x1024_d0) main_v0 main_v1
  let main_v3 : FVec F S8480x1024 .f32 := Host.absf main_v2
  let main_cst : FVec F S_ .f32 := constant S_ .f32 0x7F800000#32
  let main_v4 : FVec F S8480x1024 .f32 := broadcastInDim S8480x1024 ![] bcast_S_S8480x1024 main_cst
  let main_v5 : IVec S8480x1024 1 := cmpf .olt main_v3 main_v4
  main_v5
-- ==== Pre_finite_u.lean ====
abbrev S8192x4096 : Shape := ⟨2, ![8192, 4096]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩

class Facts : Prop where
  slices_S8192x4096_S8192x512_0_1536 : S8192x4096.Slices ![0, 1536] S8192x512
  bcast_S_S8192x512 : S_.BroadcastsInDim S8192x512 (![] : Fin 0 → Fin S8192x512.rank)

variable [Facts]

def fn {F : FTy → Type} [FloatOps F] (main_arg0 : FVec F S8192x4096 .f32) (main_arg1 : FVec F S4x128x128 .f32) (main_arg2 : FVec F S1x512 .f32) : IVec S8192x512 1 :=
  let main_v0 : FVec F S8192x512 .f32 := (extractStridedSlice S8192x512 ![0, 1536] · slices_S8192x4096_S8192x512_0_1536) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  main_v3
-- ==== MixBwd.lean ====
abbrev S8192x1024 : Shape := ⟨2, ![8192, 1024]⟩
abbrev S1024x1024 : Shape := ⟨2, ![1024, 1024]⟩
abbrev S8192x4096 : Shape := ⟨2, ![8192, 4096]⟩
abbrev S1x2048 : Shape := ⟨2, ![1, 2048]⟩
abbrev S512x1024 : Shape := ⟨2, ![512, 1024]⟩
abbrev S8192x512 : Shape := ⟨2, ![8192, 512]⟩
abbrev S8192x2048 : Shape := ⟨2, ![8192, 2048]⟩
abbrev S_ : Shape := ⟨0, ![]⟩
abbrev S8x128x1024 : Shape := ⟨3, ![8, 128, 1024]⟩
abbrev S8x512x128 : Shape := ⟨3, ![8, 512, 128]⟩
abbrev S256x1024 : Shape := ⟨2, ![256, 1024]⟩
abbrev S1x1024 : Shape := ⟨2, ![1, 1024]⟩
abbrev S256x512 : Shape := ⟨2, ![256, 512]⟩
abbrev S256x2048 : Shape := ⟨2, ![256, 2048]⟩
abbrev S1024 : Shape := ⟨1, ![1024]⟩
abbrev S128x1024 : Shape := ⟨2, ![128, 1024]⟩
abbrev S1x128x1024 : Shape := ⟨3, ![1, 128, 1024]⟩
abbrev S512x128 : Shape := ⟨2, ![512, 128]⟩
abbrev S1x512x128 : Shape := ⟨3, ![1, 512, 128]⟩

abbrev nBuf : Space → Nat
  | .hbm => 41
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x4096, .f32⟩
  | .hbm, ⟨3, _⟩ => ⟨S1x2048, .f32⟩
  | .hbm, ⟨4, _⟩ => ⟨S512x1024, .bf16⟩
  | .hbm, ⟨5, _⟩ => ⟨S512x1024, .bf16⟩
  | .hbm, ⟨6, _⟩ => ⟨S8192x512, .bf16⟩
  | .hbm, ⟨7, _⟩ => ⟨S8192x512, .bf16⟩
  | .hbm, ⟨8, _⟩ => ⟨S1024x1024, .f32⟩
  | .hbm, ⟨9, _⟩ => ⟨S512x1024, .f32⟩
  | .hbm, ⟨10, _⟩ => ⟨S512x1024, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .bf16⟩
  | .hbm, ⟨33, _⟩ => ⟨S8192x1024, .bf16⟩
  | .hbm, ⟨34, _⟩ => ⟨S8192x2048, .bf16⟩
  | .hbm, ⟨35, _⟩ => ⟨S1x2048, .f32⟩
  | .hbm, ⟨36, _⟩ => ⟨S8192x512, .bf16⟩
  | .hbm, ⟨37, _⟩ => ⟨S8192x512, .f32⟩
  | .hbm, ⟨38, _⟩ => ⟨S8x128x1024, .bf16⟩
  | .hbm, ⟨39, _⟩ => ⟨S8x512x128, .bf16⟩
  | .hbm, ⟨40, _⟩ => ⟨S8x512x128, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S512x1024, .bf16⟩
  | .local _ .vmem, ⟨14, _⟩ => ⟨S512x1024, .bf16⟩
  | .local _ .vmem, ⟨15, _⟩ => ⟨S256x1024, .bf16⟩
  | .local _ .vmem, ⟨16, _⟩ => ⟨S256x1024, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x2048, .bf16⟩
  | .local _ .vmem, ⟨22, _⟩ => ⟨S256x2048, .bf16⟩
  | .local _ .vmem, ⟨23, _⟩ => ⟨S1x2048, .f32⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S8x128x1024, .bf16⟩
  | .local _ .vmem, ⟨29, _⟩ => ⟨S8x512x128, .bf16⟩
  | .local _ .vmem, ⟨30, _⟩ => ⟨S8x512x128, .bf16⟩
  | .local _ .vmem, ⟨31, _⟩ => ⟨S1024x1024, .f32⟩
  | .local _ .vmem, ⟨32, _⟩ => ⟨S512x1024, .f32⟩
  | .local _ .vmem, ⟨33, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v93 : BitVec 1 := Scalar.cmpi .eq arg0 c31_i32
  let v94 : BitVec 32 := Scalar.extui v93
  let c0_i32_68 : BitVec 32 := 0#32
  let v95 : BitVec 1 := Scalar.cmpi .ne v94 c0_i32_68
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixRefIdeal.lean ====
abbrev S8192x1024 : Shape := ⟨2, ![8192, 1024]⟩
abbrev S1024x1024 : Shape := ⟨2, ![1024, 1024]⟩
abbrev S8192x4096 : Shape := ⟨2, ![8192, 4096]⟩
abbrev S1x2048 : Shape := ⟨2, ![1, 2048]⟩
abbrev S512x1024 : Shape := ⟨2, ![512, 1024]⟩
abbrev S8192x512 : Shape := ⟨2, ![8192, 512]⟩
abbrev S8192x2048 : Shape := ⟨2, ![8192, 2048]⟩
abbrev S_ : Shape := ⟨0, ![]⟩
abbrev S2048 : Shape := ⟨1, ![2048]⟩
abbrev S1024x512 : Shape := ⟨2, ![1024, 512]⟩
abbrev S8x128x1024 : Shape := ⟨3, ![8, 128, 1024]⟩
abbrev S512x8x128 : Shape := ⟨3, ![512, 8, 128]⟩
abbrev S8x512x128 : Shape := ⟨3, ![8, 512, 128]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x4096, .f32⟩
  | .hbm, ⟨3, _⟩ => ⟨S1x2048, .f32⟩
  | .hbm, ⟨4, _⟩ => ⟨S512x1024, .bf16⟩
  | .hbm, ⟨5, _⟩ => ⟨S512x1024, .bf16⟩
  | .hbm, ⟨6, _⟩ => ⟨S8192x512, .bf16⟩
  | .hbm, ⟨7, _⟩ => ⟨S8192x512, .bf16⟩
  | .hbm, ⟨8, _⟩ => ⟨S1024x1024, .f32⟩
  | .hbm, ⟨9, _⟩ => ⟨S512x1024, .f32⟩
  | .hbm, ⟨10, _⟩ => ⟨S512x1024, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1024x512, .f32⟩
  | .hbm, ⟨50, _⟩ => ⟨S512x1024, .f32⟩
  | .hbm, ⟨51, _⟩ => ⟨S8192x512, .f32⟩
  | .hbm, ⟨52, _⟩ => ⟨S1024x512, .f32⟩
  | .hbm, ⟨53, _⟩ => ⟨S512x1024, .f32⟩
  | .hbm, ⟨54, _⟩ => ⟨S8192x512, .f32⟩
  | .hbm, ⟨55, _⟩ => ⟨S8192x2048, .bf16⟩
  | .hbm, ⟨56, _⟩ => ⟨S8192x512, .bf16⟩
  | .hbm, ⟨57, _⟩ => ⟨S8x128x1024, .f32⟩
  | .hbm, ⟨58, _⟩ => ⟨S8x128x1024, .bf16⟩
  | .hbm, ⟨59, _⟩ => ⟨S512x8x128, .f32⟩
  | .hbm, ⟨60, _⟩ => ⟨S8x512x128, .f32⟩
  | .hbm, ⟨61, _⟩ => ⟨S8x512x128, .bf16⟩
  | .hbm, ⟨62, _⟩ => ⟨S512x8x128, .f32⟩
  | .hbm, ⟨63, _⟩ => ⟨S8x512x128, .f32⟩
  | .hbm, ⟨64, _⟩ => ⟨S8x512x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== DwUp.lean ====
abbrev S8192x1024 : Shape := ⟨2, ![8192, 1024]⟩
abbrev S2x4x8192x704 : Shape := ⟨4, ![2, 4, 8192, 704]⟩
abbrev S8x1024x704 : Shape := ⟨3, ![8, 1024, 704]⟩
abbrev S512x1024 : Shape := ⟨2, ![512, 1024]⟩
abbrev S1x4x512x704 : Shape := ⟨4, ![1, 4, 512, 704]⟩
abbrev S4x1024x704 : Shape := ⟨3, ![4, 1024, 704]⟩
abbrev S1024x512 : Shape := ⟨2, ![1024, 512]⟩
abbrev S1x1024x704 : Shape := ⟨3, ![1, 1024, 704]⟩
abbrev S1024x704 : Shape := ⟨2, ![1024, 704]⟩
abbrev S1x1x512x704 : Shape := ⟨4, ![1, 1, 512, 704]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x4x8192x704, .bf16⟩
  | .hbm, ⟨2, _⟩ => ⟨S8x1024x704, .bf16⟩
  | .local _ .vmem, ⟨0, _⟩ => ⟨S512x1024, .bf16⟩
  | .local _ .vmem, ⟨1, _⟩ => ⟨S512x1024, .bf16⟩
  | .local _ .vmem, ⟨2, _⟩ => ⟨S1x4x512x704, .bf16⟩
  | .local _ .vmem, ⟨3, _⟩ => ⟨S1x4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S4x1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_42 : BitVec 32 := 0#32
  let v43 : BitVec 1 := Scalar.cmpi .ne v42 c0_i32_42
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwUpRefIdeal.lean ====
abbrev S8192x1024 : Shape := ⟨2, ![8192, 1024]⟩
abbrev S2x4x8192x704 : Shape := ⟨4, ![2, 4, 8192, 704]⟩
abbrev S8192x2x4x704 : Shape := ⟨4, ![8192, 2, 4, 704]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x8192x704, .bf16⟩
  | .hbm, ⟨2, _⟩ => ⟨S2x4x8192x704, .f32⟩
  | .hbm, ⟨3, _⟩ => ⟨S8192x2x4x704, .f32⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwIn.lean ====
abbrev S8192x1024 : Shape := ⟨2, ![8192, 1024]⟩
abbrev S8192x512 : Shape := ⟨2, ![8192, 512]⟩
abbrev S8192x2048 : Shape := ⟨2, ![8192, 2048]⟩
abbrev S8x1024x512 : Shape := ⟨3, ![8, 1024, 512]⟩
abbrev S512x1024 : Shape := ⟨2, ![512, 1024]⟩
abbrev S512x512 : Shape := ⟨2, ![512, 512]⟩
abbrev S512x2048 : Shape := ⟨2, ![512, 2048]⟩
abbrev S1024x512 : Shape := ⟨2, ![1024, 512]⟩
abbrev S1x1024x512 : Shape := ⟨3, ![1, 1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x2048, .bf16⟩
  | .hbm, ⟨6, _⟩ => ⟨S8x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S8x1024x512, .bf16⟩
  | .local _ .vmem, ⟨13, _⟩ => ⟨S8x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_63 : BitVec 32 := 0#32
  let v71 : BitVec 1 := Scalar.cmpi .ne v70 c0_i32_63
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DwInRefIdeal.lean ====
abbrev S8192x1024 : Shape := ⟨2, ![8192, 1024]⟩
abbrev S8192x512 : Shape := ⟨2, ![8192, 512]⟩
abbrev S8192x2048 : Shape := ⟨2, ![8192, 2048]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x2048, .bf16⟩
  | .hbm, ⟨6, _⟩ => ⟨S8192x4096, .bf16⟩
  | .hbm, ⟨7, _⟩ => ⟨S8192x4096, .f32⟩
  | .hbm, ⟨8, _⟩ => ⟨S_, .f32⟩
  | .hbm, ⟨9, _⟩ => ⟨S1024x4096, .f32⟩
  | .hbm, ⟨10, _⟩ => ⟨S8192x1024, .f32⟩
  | .hbm, ⟨11, _⟩ => ⟨S8192x4096, .f32⟩
  | .hbm, ⟨12, _⟩ => ⟨S4096x1024, .f32⟩
  | .hbm, ⟨13, _⟩ => ⟨S1024x4096, .f32⟩
  | .hbm, ⟨14, _⟩ => ⟨S1024x8x512, .f32⟩
  | .hbm, ⟨15, _⟩ => ⟨S8x1024x512, .f32⟩
  | .hbm, ⟨16, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== MmDh2.lean ====
abbrev S2x4x8192x704 : Shape := ⟨4, ![2, 4, 8192, 704]⟩
abbrev S8x1024x704 : Shape := ⟨3, ![8, 1024, 704]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2x4x512x704 : Shape := ⟨4, ![2, 4, 512, 704]⟩
abbrev S512x1024 : Shape := ⟨2, ![512, 1024]⟩
abbrev S1x1x512x704 : Shape := ⟨4, ![1, 1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 27
  | .vmem => 17
  | .smem => 0
  | _ => 0

abbrev bufTy : (tb : Table) → Fin (tcTables nBuf tb) → BufTy
  | .hbm, ⟨0, _⟩ => ⟨S2x4x8192x704, .bf16⟩
  | .hbm, ⟨1, _⟩ => ⟨S8x1024x704, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S1x1024, .f32⟩
  | .hbm, ⟨26, _⟩ => ⟨S1x1024, .f32⟩
  | .local _ .vmem, ⟨0, _⟩ => ⟨S2x4x512x704, .bf16⟩
  | .local _ .vmem, ⟨1, _⟩ => ⟨S2x4x512x704, .bf16⟩
  | .local _ .vmem, ⟨2, _⟩ => ⟨S8x1024x704, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2x4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MmDh2RefIdeal.lean ====
abbrev S2x4x8192x704 : Shape := ⟨4, ![2, 4, 8192, 704]⟩
abbrev S8x1024x704 : Shape := ⟨3, ![8, 1024, 704]⟩
abbrev S8192x1024 : Shape := ⟨2, ![8192, 1024]⟩
abbrev S1x1024 : Shape := ⟨2, ![1, 1024]⟩
abbrev S8192x2x4x704 : Shape := ⟨4, ![8192, 2, 4, 704]⟩
abbrev S8192x5632 : Shape := ⟨2, ![8192, 5632]⟩
abbrev S1024x8x704 : Shape := ⟨3, ![1024, 8, 704]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S2x4x8192x704, .bf16⟩
  | .hbm, ⟨1, _⟩ => ⟨S8x1024x704, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S2x4x8192x704, .f32⟩
  | .hbm, ⟨8, _⟩ => ⟨S8192x2x4x704, .f32⟩
  | .hbm, ⟨9, _⟩ => ⟨S8192x5632, .f32⟩
  | .hbm, ⟨10, _⟩ => ⟨S8x1024x704, .f32⟩
  | .hbm, ⟨11, _⟩ => ⟨S1024x8x704, .f32⟩
  | .hbm, ⟨12, _⟩ => ⟨S1024x5632, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x5632, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | _, _ => ⟨S2x4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== MmDh.lean ====
abbrev S8192x512 : Shape := ⟨2, ![8192, 512]⟩
abbrev S8192x2048 : Shape := ⟨2, ![8192, 2048]⟩
abbrev S8x1024x512 : Shape := ⟨3, ![8, 1024, 512]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x512 : Shape := ⟨2, ![512, 512]⟩
abbrev S512x2048 : Shape := ⟨2, ![512, 2048]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 31
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S8x1024x512, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .bf16⟩
  | .hbm, ⟨30, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S8x1024x512, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MmDhRefIdeal.lean ====
abbrev S8192x512 : Shape := ⟨2, ![8192, 512]⟩
abbrev S8192x2048 : Shape := ⟨2, ![8192, 2048]⟩
abbrev S8x1024x512 : Shape := ⟨3, ![8, 1024, 512]⟩
abbrev S8192x1024 : Shape := ⟨2, ![8192, 1024]⟩
abbrev S1x1024 : Shape := ⟨2, ![1, 1024]⟩
abbrev S8192x4096 : Shape := ⟨2, ![8192, 4096]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S8x1024x512, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x4096, .bf16⟩
  | .hbm, ⟨12, _⟩ => ⟨S8192x4096, .f32⟩
  | .hbm, ⟨13, _⟩ => ⟨S8x1024x512, .f32⟩
  | .hbm, ⟨14, _⟩ => ⟨S1024x8x512, .f32⟩
  | .hbm, ⟨15, _⟩ => ⟨S1024x4096, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x4096, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== MmIn.lean ====
abbrev S8192x1024 : Shape := ⟨2, ![8192, 1024]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8x1024x512, .bf16⟩
  | .hbm, ⟨2, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .f32⟩
  | .local _ .vmem, ⟨4, _⟩ => ⟨S512x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmInRefIdeal.lean ====
abbrev S8192x1024 : Shape := ⟨2, ![8192, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x512, .bf16⟩
  | .hbm, ⟨2, _⟩ => ⟨S8x1024x512, .f32⟩
  | .hbm, ⟨3, _⟩ => ⟨S1024x8x512, .f32⟩
  | .hbm, ⟨4, _⟩ => ⟨S1024x4096, .f32⟩
  | .hbm, ⟨5, _⟩ => ⟨S8192x1024, .f32⟩
  | .hbm, ⟨6, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixFwd.lean ====
abbrev S8192x512 : Shape := ⟨2, ![8192, 512]⟩
abbrev S512x1024 : Shape := ⟨2, ![512, 1024]⟩
abbrev S8192x4096 : Shape := ⟨2, ![8192, 4096]⟩
abbrev S1x2048 : Shape := ⟨2, ![1, 2048]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 29
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x4096, .f32⟩
  | .hbm, ⟨5, _⟩ => ⟨S1x2048, .f32⟩
  | .hbm, ⟨6, _⟩ => ⟨S1024x1024, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S8192x1024, .f32⟩
  | .hbm, ⟨15, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixFwdRefIdeal.lean ====
abbrev S8192x512 : Shape := ⟨2, ![8192, 512]⟩
abbrev S512x1024 : Shape := ⟨2, ![512, 1024]⟩
abbrev S8192x4096 : Shape := ⟨2, ![8192, 4096]⟩
abbrev S1x2048 : Shape := ⟨2, ![1, 2048]⟩
abbrev S1024x1024 : Shape := ⟨2, ![1024, 1024]⟩
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x4096, .f32⟩
  | .hbm, ⟨5, _⟩ => ⟨S1x2048, .f32⟩
  | .hbm, ⟨6, _⟩ => ⟨S1024x1024, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x512, .f32⟩
  | .hbm, ⟨11, _⟩ => ⟨S512x1024, .f32⟩
  | .hbm, ⟨12, _⟩ => ⟨S8192x1024, .f32⟩
  | .hbm, ⟨13, _⟩ => ⟨S8192x512, .f32⟩
  | .hbm, ⟨14, _⟩ => ⟨S512x1024, .f32⟩
  | .hbm, ⟨15, _⟩ => ⟨S8192x1024, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== DownLoss.lean ====
abbrev S4x8192x704 : Shape := ⟨3, ![4, 8192, 704]⟩
abbrev S2816x1024 : Shape := ⟨2, ![2816, 1024]⟩
abbrev S8192x1024 : Shape := ⟨2, ![8192, 1024]⟩
abbrev S1x1024 : Shape := ⟨2, ![1, 1024]⟩
abbrev S8x128 : Shape := ⟨2, ![8, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x8192x704, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8x128, .f32⟩
  | .local _ .vmem, ⟨0, _⟩ => ⟨S4x512x704, .bf16⟩
  | .local _ .vmem, ⟨1, _⟩ => ⟨S4x512x704, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S4x8192x704 : Shape := ⟨3, ![4, 8192, 704]⟩
abbrev S2816x1024 : Shape := ⟨2, ![2816, 1024]⟩
abbrev S8192x1024 : Shape := ⟨2, ![8192, 1024]⟩
abbrev S1x1024 : Shape := ⟨2, ![1, 1024]⟩
abbrev S8192x4x704 : Shape := ⟨3, ![8192, 4, 704]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x8192x704, .f32⟩
  | .hbm, ⟨6, _⟩ => ⟨S8192x4x704, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8x128, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== PoolBwd.lean ====
abbrev S8192x512 : Shape := ⟨2, ![8192, 512]⟩
abbrev S4x128x128 : Shape := ⟨3, ![4, 128, 128]⟩
abbrev S1x512 : Shape := ⟨2, ![1, 512]⟩
abbrev S_ : Shape := ⟨0, ![]⟩
abbrev S16x512 : Shape := ⟨2, ![16, 512]⟩
abbrev S8208x512 : Shape := ⟨2, ![8208, 512]⟩
abbrev S8192 : Shape := ⟨1, ![8192]⟩
abbrev S8192x128 : Shape := ⟨2, ![8192, 128]⟩
abbrev S8192x1 : Shape := ⟨2, ![8192, 1]⟩
abbrev S8192x1x128 : Shape := ⟨3, ![8192, 1, 128]⟩
abbrev S8192x4x128 : Shape := ⟨3, ![8192, 4, 128]⟩
abbrev S512x512 : Shape := ⟨2, ![512, 512]⟩
abbrev S528x512 : Shape := ⟨2, ![528, 512]⟩
abbrev S528x1 : Shape := ⟨2, ![528, 1]⟩
abbrev S1x128x128 : Shape := ⟨3, ![1, 128, 128]⟩
abbrev S128x128 : Shape := ⟨2, ![128, 128]⟩
abbrev S512x128 : Shape := ⟨2, ![512, 128]⟩
abbrev S1x128 : Shape := ⟨2, ![1, 128]⟩
abbrev S128 : Shape := ⟨1, ![128]⟩
abbrev S528x128 : Shape := ⟨2, ![528, 128]⟩

abbrev nBuf : Space → Nat
  | .hbm => 81
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S4x128x128, .f32⟩
  | .hbm, ⟨3, _⟩ => ⟨S1x512, .f32⟩
  | .hbm, ⟨4, _⟩ => ⟨S_, .f32⟩
  | .hbm, ⟨5, _⟩ => ⟨S16x512, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S8208x512, .f32⟩
  | .hbm, ⟨10, _⟩ => ⟨S8192, .i32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .f32⟩
  | .hbm, ⟨36, _⟩ => ⟨S8192x1, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .f32⟩
  | .hbm, ⟨51, _⟩ => ⟨S8192x1, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x1x128, .f32⟩
  | .hbm, ⟨72, _⟩ => ⟨S8192x1x128, .f32⟩
  | .hbm, ⟨73, _⟩ => ⟨S8192x1x128, .f32⟩
  | .hbm, ⟨74, _⟩ => ⟨S8192x1x128, .f32⟩
  | .hbm, ⟨75, _⟩ => ⟨S8192x4x128, .f32⟩
  | .hbm, ⟨76, _⟩ => ⟨S8192x512, .f32⟩
  | .hbm, ⟨77, _⟩ => ⟨S8192x512, .bf16⟩
  | .hbm, ⟨78, _⟩ => ⟨S8192x512, .bf16⟩
  | .hbm, ⟨79, _⟩ => ⟨S4x128x128, .f32⟩
  | .hbm, ⟨80, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S4x128x128, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S4x128x128, .f32⟩
  | .local _ .vmem, ⟨11, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S8192x512 : Shape := ⟨2, ![8192, 512]⟩
abbrev S4x128x128 : Shape := ⟨3, ![4, 128, 128]⟩
abbrev S1x512 : Shape := ⟨2, ![1, 512]⟩
abbrev S_ : Shape := ⟨0, ![]⟩
abbrev S16x512 : Shape := ⟨2, ![16, 512]⟩
abbrev S8208x512 : Shape := ⟨2, ![8208, 512]⟩
abbrev S8192 : Shape := ⟨1, ![8192]⟩
abbrev S8192x128 : Shape := ⟨2, ![8192, 128]⟩
abbrev S8192x1 : Shape := ⟨2, ![8192, 1]⟩
abbrev S8192x1x128 : Shape := ⟨3, ![8192, 1, 128]⟩
abbrev S8192x4x128 : Shape := ⟨3, ![8192, 4, 128]⟩
abbrev S4x128x8192 : Shape := ⟨3, ![4, 128, 8192]⟩
abbrev S512 : Shape := ⟨1, ![512]⟩
abbrev S4x8192x128 : Shape := ⟨3, ![4, 8192, 128]⟩

abbrev nBuf : Space → Nat
  | .hbm => 160
  | .vmem => 0
  | .smem => 0
  | _ => 0

abbrev hbmTy0_0 (i : Nat) : BufTy := match i % 128 with
  | 0 => ⟨S8192x512, .f32⟩
  | 1 => ⟨S8192x512, .f32⟩
  | 2 => ⟨S4x128x128, .f32⟩
  | 3 => ⟨S1x512, .f32⟩
  | 4 => ⟨S_, .f32⟩
  | 5 => ⟨S16x512, .f32⟩
  | 6 => ⟨S_, .f32⟩
  | 7 => ⟨S_, .f32⟩
  | 8 => ⟨S8192x512, .f32⟩
  | 9 => ⟨S8208x512, .f32⟩
  | 10 => ⟨S_, .f32⟩
  | 11 => ⟨S16x512, .f32⟩
  | 12 => ⟨S8192, .i32⟩
  | 13 => ⟨S8192x128, .f32⟩
  | 14 => ⟨S8192x128, .f32⟩
  | 15 => ⟨S8192x128, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S8192x1, .f32⟩
  | 24 => ⟨S8192x128, .f32⟩
  | 25 => ⟨S8192x128, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .f32⟩
  | 38 => ⟨S8192x1, .f32⟩
  | 39 => ⟨S8192x128, .f32⟩
  | 40 => ⟨S8192x128, .f32⟩
  | 41 => ⟨S8192x128, .f32⟩
  | 42 => ⟨S8192x128, .f32⟩
  | 43 => ⟨S8192x128, .f32⟩
  | 44 => ⟨S8192x128, .f32⟩
  | 45 => ⟨S8192x128, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192, .f32⟩
  | 53 => ⟨S8192x1, .f32⟩
  | 54 => ⟨S8192x128, .f32⟩
  | 55 => ⟨S8192x128, .f32⟩
  | 56 => ⟨S8192x128, .f32⟩
  | 57 => ⟨S8192x128, .f32⟩
  | 58 => ⟨S8192x128, .f32⟩
  | 59 => ⟨S8192x128, .f32⟩
  | 60 => ⟨S8192x128, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S8192x1, .f32⟩
  | 69 => ⟨S8192x128, .f32⟩
  | 70 => ⟨S8192x128, .f32⟩
  | 71 => ⟨S8192x128, .f32⟩
  | 72 => ⟨S8192x128, .f32⟩
  | 73 => ⟨S8192x1x128, .f32⟩
  | 74 => ⟨S8192x1x128, .f32⟩
  | 75 => ⟨S8192x1x128, .f32⟩
  | 76 => ⟨S8192x1x128, .f32⟩
  | 77 => ⟨S8192x4x128, .f32⟩
  | 78 => ⟨S4x128x8192, .f32⟩
  | 79 => ⟨S8192x4x128, .f32⟩
  | 80 => ⟨S8192x512, .f32⟩
  | 81 => ⟨S8192x512, .f32⟩
  | 82 => ⟨S8192x512, .f32⟩
  | 83 => ⟨S8192x512, .f32⟩
  | 84 => ⟨S_, .f32⟩
  | 85 => ⟨S512, .f32⟩
  | 86 => ⟨S1x512, .f32⟩
  | 87 => ⟨S8192x512, .f32⟩
  | 88 => ⟨S8192x512, .f32⟩
  | 89 => ⟨S8192x4x128, .f32⟩
  | 90 => ⟨S4x128x8192, .f32⟩
  | 91 => ⟨S4x8192x128, .f32⟩
  | 92 => ⟨S8192x4x128, .f32⟩
  | 93 => ⟨S4x128x128, .f32⟩
  | 94 => ⟨S4x128x128, .f32⟩
  | 95 => ⟨S8192x1x128, .f32⟩
  | 96 => ⟨S8192x128, .f32⟩
  | 97 => ⟨S8192x1x128, .f32⟩
  | 98 => ⟨S8192x128, .f32⟩
  | 99 => ⟨S8192x1x128, .f32⟩
  | 100 => ⟨S8192x128, .f32⟩
  | 101 => ⟨S8192x1x128, .f32⟩
  | 102 => ⟨S8192x128, .f32⟩
  | 103 => ⟨S8192x128, .f32⟩
  | 104 => ⟨S_, .f32⟩
  | 105 => ⟨S8192x512, .f32⟩
  | 106 => ⟨S8192x128, .f32⟩
  | 107 => ⟨S8192x128, .f32⟩
  | 108 => ⟨S8192x128, .f32⟩
  | 109 => ⟨S_, .f32⟩
  | 110 => ⟨S8208x512, .f32⟩
  | 111 => ⟨S_, .f32⟩
  | 112 => ⟨S8208x512, .f32⟩
  | 113 => ⟨S8208x512, .f32⟩
  | 114 => ⟨S8192x128, .f32⟩
  | 115 => ⟨S_, .f32⟩
  | 116 => ⟨S8192x512, .f32⟩
  | 117 => ⟨S8192x512, .f32⟩
  | 118 => ⟨S8192x128, .f32⟩
  | 119 => ⟨S8192x128, .f32⟩
  | 120 => ⟨S8192x128, .f32⟩
  | 121 => ⟨S_, .f32⟩
  | 122 => ⟨S8208x512, .f32⟩
  | 123 => ⟨S8208x512, .f32⟩
  | 124 => ⟨S_, .f32⟩
  | 125 => ⟨S8208x512, .f32⟩
  | 126 => ⟨S8208x512, .f32⟩
  | 127 => ⟨S8192x128, .f32⟩
  | _ => ⟨S8192x512, .f32⟩

abbrev hbmTy0_1 (i : Nat) : BufTy := match i % 128 with
  | 0 => ⟨S_, .f32⟩
  | 1 => ⟨S8192x512, .f32⟩
  | 2 => ⟨S8192x512, .f32⟩
  | 3 => ⟨S8192x128, .f32⟩
  | 4 => ⟨S8192x128, .f32⟩
  | 5 => ⟨S8192x128, .f32⟩
  | 6 => ⟨S_, .f32⟩
  | 7 => ⟨S8208x512, .f32⟩
  | 8 => ⟨S8208x512, .f32⟩
  | 9 => ⟨S_, .f32⟩
  | 10 => ⟨S8208x512, .f32⟩
  | 11 => ⟨S8208x512, .f32⟩
  | 12 => ⟨S8192x128, .f32⟩
  | 13 => ⟨S_, .f32⟩
  | 14 => ⟨S8192x512, .f32⟩
  | 15 => ⟨S8192x512, .f32⟩
  | 16 => ⟨S8192x128, .f32⟩
  | 17 => ⟨S8192x128, .f32⟩
  | 18 => ⟨S8192x128, .f32⟩
  | 19 => ⟨S_, .f32⟩
  | 20 => ⟨S8208x512, .f32⟩
  | 21 => ⟨S8208x512, .f32⟩
  | 22 => ⟨S_, .f32⟩
  | 23 => ⟨S8208x512, .f32⟩
  | 24 => ⟨S8208x512, .f32⟩
  | 25 => ⟨S16x512, .f32⟩
  | 26 => ⟨S8192x512, .f32⟩
  | 27 => ⟨S_, .f32⟩
  | 28 => ⟨S_, .f32⟩
  | 29 => ⟨S8192x512, .f32⟩
  | 30 => ⟨S8192x512, .f32⟩
  | 31 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_10 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_13 : Ref sig .tc := ⟨.hbm, 121, rfl⟩
abbrev main_v100 : Ref sig .tc := ⟨.hbm, 122, rfl⟩
abbrev main_v101 : Ref sig .tc := ⟨.hbm, 123, rfl⟩
abbrev main_cst_14 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_15 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_16 : Ref sig .tc := ⟨.hbm, 134, rfl⟩
abbrev main_v110 : Ref sig .tc := ⟨.hbm, 135, rfl⟩
abbrev main_v111 : Ref sig .tc := ⟨.hbm, 136, rfl⟩
abbrev main_cst_17 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_18 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_19 : Ref sig .tc := ⟨.hbm, 147, rfl⟩
abbrev main_v120 : Ref sig .tc := ⟨.hbm, 148, rfl⟩
abbrev main_v121 : Ref sig .tc := ⟨.hbm, 149, rfl⟩
abbrev main_cst_20 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_call1_call0_cst : Ref sig .tc := ⟨.hbm, 155, rfl⟩
abbrev main_call1_call0_v0 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩

abbrev nD : Nat := 1
abbrev τ : Topo := Topo.v7x

variable {F : FTy → Type} [FloatOps F]
-- ==== AdamIn.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamWo.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWoRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamConv.lean ====
abbrev S8x3x704 : Shape := ⟨3, ![8, 3, 704]⟩
abbrev S2x3x704 : Shape := ⟨3, ![2, 3, 704]⟩
abbrev S1x3x704 : Shape := ⟨3, ![1, 3, 704]⟩
abbrev S3x704 : Shape := ⟨2, ![3, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S2x3x704, .f32⟩
  | .hbm, ⟨6, _⟩ => ⟨S2x3x704, .f32⟩
  | .hbm, ⟨7, _⟩ => ⟨S2x3x704, .f32⟩
  | .hbm, ⟨8, _⟩ => ⟨S2x3x704, .f32⟩
  | .local _ .vmem, ⟨0, _⟩ => ⟨S8x3x704, .f32⟩
  | .local _ .vmem, ⟨1, _⟩ => ⟨S8x3x704, .f32⟩
  | .local _ .vmem, ⟨2, _⟩ => ⟨S8x3x704, .f32⟩
  | .local _ .vmem, ⟨3, _⟩ => ⟨S8x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x3x704, .f32⟩
  | .local _ .vmem, ⟨17, _⟩ => ⟨S1x3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvRefIdeal.lean ====
abbrev S8x3x704 : Shape := ⟨3, ![8, 3, 704]⟩
abbrev S2x3x704 : Shape := ⟨3, ![2, 3, 704]⟩
abbrev S_ : Shape := ⟨0, ![]⟩
abbrev S3x704 : Shape := ⟨2, ![3, 704]⟩
abbrev S1x3x704 : Shape := ⟨3, ![1, 3, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S_, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S1x3x704, .f32⟩
  | .hbm, ⟨10, _⟩ => ⟨S1x3x704, .f32⟩
  | .hbm, ⟨11, _⟩ => ⟨S2x3x704, .f32⟩
  | .hbm, ⟨12, _⟩ => ⟨S_, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S2x3x704, .f32⟩
  | .hbm, ⟨23, _⟩ => ⟨S_, .f32⟩
  | .hbm, ⟨24, _⟩ => ⟨S2x3x704, .f32⟩
  | .hbm, ⟨25, _⟩ => ⟨S2x3x704, .f32⟩
  | .hbm, ⟨26, _⟩ => ⟨S2x3x704, .f32⟩
  | .hbm, ⟨27, _⟩ => ⟨S_, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S2x3x704, .f32⟩
  | .hbm, ⟨38, _⟩ => ⟨S_, .f32⟩
  | .hbm, ⟨39, _⟩ => ⟨S2x3x704, .f32⟩
  | .hbm, ⟨40, _⟩ => ⟨S2x3x704, .f32⟩
  | .hbm, ⟨41, _⟩ => ⟨S2x3x704, .f32⟩
  | .hbm, ⟨42, _⟩ => ⟨S_, .f32⟩
  | .hbm, ⟨43, _⟩ => ⟨S2x3x704, .f32⟩
  | .hbm, ⟨44, _⟩ => ⟨S2x3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamDown.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamSmall.lean ====
abbrev S8x168x1024 : Shape := ⟨3, ![8, 168, 1024]⟩
abbrev S168x1024 : Shape := ⟨2, ![168, 1024]⟩
abbrev S1x168x1024 : Shape := ⟨3, ![1, 168, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x168x1024, .f32⟩
  | .hbm, ⟨1, _⟩ => ⟨S168x1024, .f32⟩
  | .hbm, ⟨2, _⟩ => ⟨S168x1024, .f32⟩
  | .hbm, ⟨3, _⟩ => ⟨S168x1024, .f32⟩
  | .hbm, ⟨4, _⟩ => ⟨S168x1024, .f32⟩
  | .hbm, ⟨5, _⟩ => ⟨S168x1024, .f32⟩
  | .hbm, ⟨6, _⟩ => ⟨S168x1024, .f32⟩
  | .hbm, ⟨7, _⟩ => ⟨S168x1024, .f32⟩
  | .local _ .vmem, ⟨0, _⟩ => ⟨S8x168x1024, .f32⟩
  | .local _ .vmem, ⟨1, _⟩ => ⟨S168x1024, .f32⟩
  | .local _ .vmem, ⟨2, _⟩ => ⟨S168x1024, .f32⟩
  | .local _ .vmem, ⟨3, _⟩ => ⟨S168x1024, .f32⟩
  | .local _ .vmem, ⟨4, _⟩ => ⟨S168x1024, .f32⟩
  | .local _ .vmem, ⟨5, _⟩ => ⟨S168x1024, .f32⟩
  | .local _ .vmem, ⟨6, _⟩ => ⟨S168x1024, .f32⟩
  | .local _ .vmem, ⟨7, _⟩ => ⟨S168x1024, .f32⟩
  | _, _ => ⟨S8x168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x168x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S168x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S168x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S168x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S168x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S168x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S168x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S168x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AdamSmallRefIdeal.lean ====
abbrev S8x168x1024 : Shape := ⟨3, ![8, 168, 1024]⟩
abbrev S168x1024 : Shape := ⟨2, ![168, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x168x1024, .f32⟩
  | .hbm, ⟨1, _⟩ => ⟨S168x1024, .f32⟩
  | .hbm, ⟨2, _⟩ => ⟨S168x1024, .f32⟩
  | .hbm, ⟨3, _⟩ => ⟨S168x1024, .f32⟩
  | .hbm, ⟨4, _⟩ => ⟨S_, .f32⟩
  | .hbm, ⟨5, _⟩ => ⟨S168x1024, .f32⟩
  | .hbm, ⟨6, _⟩ => ⟨S_, .f32⟩
  | .hbm, ⟨7, _⟩ => ⟨S168x1024, .f32⟩
  | .hbm, ⟨8, _⟩ => ⟨S168x1024, .f32⟩
  | .hbm, ⟨9, _⟩ => ⟨S_, .f32⟩
  | .hbm, ⟨10, _⟩ => ⟨S168x1024, .f32⟩
  | .hbm, ⟨11, _⟩ => ⟨S168x1024, .f32⟩
  | .hbm, ⟨12, _⟩ => ⟨S168x1024, .f32⟩
  | .hbm, ⟨13, _⟩ => ⟨S_, .f32⟩
  | .hbm, ⟨14, _⟩ => ⟨S168x1024, .f32⟩
  | .hbm, ⟨15, _⟩ => ⟨S168x1024, .f32⟩
  | .hbm, ⟨16, _⟩ => ⟨S168x1024, .f32⟩
  | .hbm, ⟨17, _⟩ => ⟨S_, .f32⟩
  | .hbm, ⟨18, _⟩ => ⟨S168x1024, .f32⟩
  | .hbm, ⟨19, _⟩ => ⟨S168x1024, .f32⟩
  | .hbm, ⟨20, _⟩ => ⟨S168x1024, .f32⟩
  | .hbm, ⟨21, _⟩ => ⟨S_, .f32⟩
  | .hbm, ⟨22, _⟩ => ⟨S168x1024, .f32⟩
  | .hbm, ⟨23, _⟩ => ⟨S168x1024, .f32⟩
  | .hbm, ⟨24, _⟩ => ⟨S_, .f32⟩
  | .hbm, ⟨25, _⟩ => ⟨S168x1024, .f32⟩
  | .hbm, ⟨26, _⟩ => ⟨S168x1024, .f32⟩
  | .hbm, ⟨27, _⟩ => ⟨S168x1024, .f32⟩
  | .hbm, ⟨28, _⟩ => ⟨S_, .f32⟩
  | .hbm, ⟨29, _⟩ => ⟨S168x1024, .f32⟩
  | .hbm, ⟨30, _⟩ => ⟨S168x1024, .f32⟩
  | .hbm, ⟨31, _⟩ => ⟨S168x1024, .f32⟩
  | .hbm, ⟨32, _⟩ => ⟨S_, .f32⟩
  | .hbm, ⟨33, _⟩ => ⟨S168x1024, .f32⟩
  | .hbm, ⟨34, _⟩ => ⟨S168x1024, .f32⟩
  | .hbm, ⟨35, _⟩ => ⟨S168x1024, .f32⟩
  | .hbm, ⟨36, _⟩ => ⟨S_, .f32⟩
  | .hbm, ⟨37, _⟩ => ⟨S168x1024, .f32⟩
  | .hbm, ⟨38, _⟩ => ⟨S168x1024, .f32⟩
  | _, _ => ⟨S8x168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PoolFwd.lean ====
abbrev S8192x4096 : Shape := ⟨2, ![8192, 4096]⟩
abbrev S4x128x128 : Shape := ⟨3, ![4, 128, 128]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4x128x128, .f32⟩
  | .hbm, ⟨2, _⟩ => ⟨S1x512, .f32⟩
  | .hbm, ⟨3, _⟩ => ⟨S8192x512, .bf16⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFwdRefIdeal.lean ====
abbrev S8192x4096 : Shape := ⟨2, ![8192, 4096]⟩
abbrev S4x128x128 : Shape := ⟨3, ![4, 128, 128]⟩
abbrev S1x512 : Shape := ⟨2, ![1, 512]⟩
abbrev S8192x512 : Shape := ⟨2, ![8192, 512]⟩
abbrev S_ : Shape := ⟨0, ![]⟩
abbrev S16x512 : Shape := ⟨2, ![16, 512]⟩
abbrev S8208x512 : Shape := ⟨2, ![8208, 512]⟩
abbrev S8192 : Shape := ⟨1, ![8192]⟩
abbrev S8192x128 : Shape := ⟨2, ![8192, 128]⟩
abbrev S8192x1 : Shape := ⟨2, ![8192, 1]⟩
abbrev S8192x1x128 : Shape := ⟨3, ![8192, 1, 128]⟩
abbrev S8192x4x128 : Shape := ⟨3, ![8192, 4, 128]⟩
abbrev S4x128x8192 : Shape := ⟨3, ![4, 128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x128x128, .f32⟩
  | .hbm, ⟨2, _⟩ => ⟨S1x512, .f32⟩
  | .hbm, ⟨3, _⟩ => ⟨S8192x512, .f32⟩
  | .hbm, ⟨4, _⟩ => ⟨S_, .f32⟩
  | .hbm, ⟨5, _⟩ => ⟨S16x512, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S8208x512, .f32⟩
  | .hbm, ⟨10, _⟩ => ⟨S8192, .i32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .f32⟩
  | .hbm, ⟨36, _⟩ => ⟨S8192x1, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .f32⟩
  | .hbm, ⟨51, _⟩ => ⟨S8192x1, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x1, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x1x128, .f32⟩
  | .hbm, ⟨72, _⟩ => ⟨S8192x1x128, .f32⟩
  | .hbm, ⟨73, _⟩ => ⟨S8192x1x128, .f32⟩
  | .hbm, ⟨74, _⟩ => ⟨S8192x1x128, .f32⟩
  | .hbm, ⟨75, _⟩ => ⟨S8192x4x128, .f32⟩
  | .hbm, ⟨76, _⟩ => ⟨S8192x512, .f32⟩
  | .hbm, ⟨77, _⟩ => ⟨S8192x512, .bf16⟩
  | .hbm, ⟨78, _⟩ => ⟨S4x128x8192, .f32⟩
  | .hbm, ⟨79, _⟩ => ⟨S8192x4x128, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== AttnFwd.lean ====
abbrev S8192x4096 : Shape := ⟨2, ![8192, 4096]⟩
abbrev S8x64x576 : Shape := ⟨3, ![8, 64, 576]⟩
abbrev S_ : Shape := ⟨0, ![]⟩
abbrev S8x64x768 : Shape := ⟨3, ![8, 64, 768]⟩
abbrev S8x256x768 : Shape := ⟨3, ![8, 256, 768]⟩
abbrev S8192x512 : Shape := ⟨2, ![8192, 512]⟩
abbrev S256x128 : Shape := ⟨2, ![256, 128]⟩
abbrev S2x256x768 : Shape := ⟨3, ![2, 256, 768]⟩
abbrev S768x128 : Shape := ⟨2, ![768, 128]⟩
abbrev S1x768 : Shape := ⟨2, ![1, 768]⟩
abbrev S256x768 : Shape := ⟨2, ![256, 768]⟩
abbrev S1x256x768 : Shape := ⟨3, ![1, 256, 768]⟩
abbrev S768x256 : Shape := ⟨2, ![768, 256]⟩
abbrev S256 : Shape := ⟨1, ![256]⟩
abbrev S256x1 : Shape := ⟨2, ![256, 1]⟩
abbrev S256x256 : Shape := ⟨2, ![256, 256]⟩

abbrev nBuf : Space → Nat
  | .hbm => 17
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8x64x576, .f32⟩
  | .hbm, ⟨2, _⟩ => ⟨S_, .f32⟩
  | .hbm, ⟨3, _⟩ => ⟨S_, .f32⟩
  | .hbm, ⟨4, _⟩ => ⟨S8x64x768, .f32⟩
  | .hbm, ⟨5, _⟩ => ⟨S_, .f32⟩
  | .hbm, ⟨6, _⟩ => ⟨S_, .f32⟩
  | .hbm, ⟨7, _⟩ => ⟨S8x64x768, .f32⟩
  | .hbm, ⟨8, _⟩ => ⟨S_, .f32⟩
  | .hbm, ⟨9, _⟩ => ⟨S_, .f32⟩
  | .hbm, ⟨10, _⟩ => ⟨S8x64x768, .f32⟩
  | .hbm, ⟨11, _⟩ => ⟨S_, .f32⟩
  | .hbm, ⟨12, _⟩ => ⟨S_, .f32⟩
  | .hbm, ⟨13, _⟩ => ⟨S8x64x768, .f32⟩
  | .hbm, ⟨14, _⟩ => ⟨S8x256x768, .f32⟩
  | .hbm, ⟨15, _⟩ => ⟨S8192x512, .bf16⟩
  | .hbm, ⟨16, _⟩ => ⟨S8192x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S2x256x768, .f32⟩
  | .local _ .vmem, ⟨15, _⟩ => ⟨S2x256x768, .f32⟩
  | .local _ .vmem, ⟨16, _⟩ => ⟨S256x128, .bf16⟩
  | .local _ .vmem, ⟨17, _⟩ => ⟨S256x128, .bf16⟩
  | .local _ .vmem, ⟨18, _⟩ => ⟨S256x128, .f32⟩
  | .local _ .vmem, ⟨19, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_cst_1 : Ref sig .tc := ⟨.hbm, 8, rfl⟩
abbrev main_call2_v0 : Ref sig .tc := ⟨.hbm, 9, rfl⟩
abbrev main_v2 : Ref sig .tc := ⟨.hbm, 10, rfl⟩
abbrev main_cst_2 : Ref sig .tc := ⟨.hbm, 11, rfl⟩
abbrev main_call3_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c4_i32 : BitVec 32 := 4#32
  let v3 : BitVec 32 := Scalar.addi c4_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c4_i32 : BitVec 32 := 4#32
  let v3 : BitVec 32 := Scalar.addi c4_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c8_i32 : BitVec 32 := 8#32
  let v3 : BitVec 32 := Scalar.addi c8_i32 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c8_i32 : BitVec 32 := 8#32
  let v3 : BitVec 32 := Scalar.addi c8_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8192x4096 : Shape := ⟨2, ![8192, 4096]⟩
abbrev S8x64x576 : Shape := ⟨3, ![8, 64, 576]⟩
abbrev S8192x1536 : Shape := ⟨2, ![8192, 1536]⟩
abbrev S8192x512 : Shape := ⟨2, ![8192, 512]⟩
abbrev S8192x8x64 : Shape := ⟨3, ![8192, 8, 64]⟩
abbrev S128x64x8x64 : Shape := ⟨4, ![128, 64, 8, 64]⟩
abbrev S_ : Shape := ⟨0, ![]⟩
abbrev S512x8x64 : Shape := ⟨3, ![512, 8, 64]⟩
abbrev S8704x8x64 : Shape := ⟨3, ![8704, 8, 64]⟩
abbrev S136x64x8x64 : Shape := ⟨4, ![136, 64, 8, 64]⟩
abbrev S128x576x8x64 : Shape := ⟨4, ![128, 576, 8, 64]⟩
abbrev S128x8x64x576 : Shape := ⟨4, ![128, 8, 64, 576]⟩
abbrev S1x8x64x576 : Shape := ⟨4, ![1, 8, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x8x64 : Shape := ⟨3, ![128, 8, 64]⟩
abbrev S128x8x64x1 : Shape := ⟨4, ![128, 8, 64, 1]⟩
abbrev S128x8x64x64 : Shape := ⟨4, ![128, 8, 64, 64]⟩
abbrev S128x64x8 : Shape := ⟨3, ![128, 64, 8]⟩
abbrev S8192x8 : Shape := ⟨2, ![8192, 8]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x64x576, .f32⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8192x8x64, .f32⟩
  | .hbm, ⟨8, _⟩ => ⟨S8192x8x64, .f32⟩
  | .hbm, ⟨9, _⟩ => ⟨S128x64x8x64, .f32⟩
  | .hbm, ⟨10, _⟩ => ⟨S_, .f32⟩
  | .hbm, ⟨11, _⟩ => ⟨S512x8x64, .f32⟩
  | .hbm, ⟨12, _⟩ => ⟨S8704x8x64, .f32⟩
  | .hbm, ⟨13, _⟩ => ⟨S136x64x8x64, .f32⟩
  | .hbm, ⟨14, _⟩ => ⟨S128x64x8x64, .f32⟩
  | .hbm, ⟨15, _⟩ => ⟨S128x64x8x64, .f32⟩
  | .hbm, ⟨16, _⟩ => ⟨S128x64x8x64, .f32⟩
  | .hbm, ⟨17, _⟩ => ⟨S128x64x8x64, .f32⟩
  | .hbm, ⟨18, _⟩ => ⟨S128x64x8x64, .f32⟩
  | .hbm, ⟨19, _⟩ => ⟨S128x64x8x64, .f32⟩
  | .hbm, ⟨20, _⟩ => ⟨S128x64x8x64, .f32⟩
  | .hbm, ⟨21, _⟩ => ⟨S128x64x8x64, .f32⟩
  | .hbm, ⟨22, _⟩ => ⟨S128x64x8x64, .f32⟩
  | .hbm, ⟨23, _⟩ => ⟨S128x576x8x64, .f32⟩
  | .hbm, ⟨24, _⟩ => ⟨S128x8x64x576, .f32⟩
  | .hbm, ⟨25, _⟩ => ⟨S_, .f32⟩
  | .hbm, ⟨26, _⟩ => ⟨S128x8x64x576, .f32⟩
  | .hbm, ⟨27, _⟩ => ⟨S128x8x64x576, .f32⟩
  | .hbm, ⟨28, _⟩ => ⟨S1x8x64x576, .f32⟩
  | .hbm, ⟨29, _⟩ => ⟨S128x8x64x576, .f32⟩
  | .hbm, ⟨30, _⟩ => ⟨S128x8x64x576, .f32⟩
  | .hbm, ⟨31, _⟩ => ⟨S128, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S576, .i32⟩
  | .hbm, ⟨40, _⟩ => ⟨S1x576, .i32⟩
  | .hbm, ⟨41, _⟩ => ⟨S128x576, .i32⟩
  | .hbm, ⟨42, _⟩ => ⟨S128x576, .i32⟩
  | .hbm, ⟨43, _⟩ => ⟨S128x576, .i32⟩
  | .hbm, ⟨44, _⟩ => ⟨S_, .i32⟩
  | .hbm, ⟨45, _⟩ => ⟨S128x576, .i32⟩
  | .hbm, ⟨46, _⟩ => ⟨S128x576, .i1⟩
  | .hbm, ⟨47, _⟩ => ⟨S128x1x1x576, .i1⟩
  | .hbm, ⟨48, _⟩ => ⟨S_, .f32⟩
  | .hbm, ⟨49, _⟩ => ⟨S_, .f32⟩
  | .hbm, ⟨50, _⟩ => ⟨S128x8x64x576, .i1⟩
  | .hbm, ⟨51, _⟩ => ⟨S128x8x64x576, .f32⟩
  | .hbm, ⟨52, _⟩ => ⟨S128x8x64x576, .f32⟩
  | .hbm, ⟨53, _⟩ => ⟨S_, .f32⟩
  | .hbm, ⟨54, _⟩ => ⟨S128x8x64, .f32⟩
  | .hbm, ⟨55, _⟩ => ⟨S128x8x64x1, .f32⟩
  | .hbm, ⟨56, _⟩ => ⟨S128x8x64x576, .f32⟩
  | .hbm, ⟨57, _⟩ => ⟨S128x8x64x576, .f32⟩
  | .hbm, ⟨58, _⟩ => ⟨S128x8x64x576, .f32⟩
  | .hbm, ⟨59, _⟩ => ⟨S_, .f32⟩
  | .hbm, ⟨60, _⟩ => ⟨S128x8x64, .f32⟩
  | .hbm, ⟨61, _⟩ => ⟨S128x8x64x1, .f32⟩
  | .hbm, ⟨62, _⟩ => ⟨S128x8x64x1, .f32⟩
  | .hbm, ⟨63, _⟩ => ⟨S128x8x64x1, .f32⟩
  | .hbm, ⟨64, _⟩ => ⟨S_, .f32⟩
  | .hbm, ⟨65, _⟩ => ⟨S128x8x64, .f32⟩
  | .hbm, ⟨66, _⟩ => ⟨S_, .f32⟩
  | .hbm, ⟨67, _⟩ => ⟨S128x8x64, .f32⟩
  | .hbm, ⟨68, _⟩ => ⟨S128x8x64, .f32⟩
  | .hbm, ⟨69, _⟩ => ⟨S128x8x64x1, .f32⟩
  | .hbm, ⟨70, _⟩ => ⟨S128x8x64x576, .f32⟩
  | .hbm, ⟨71, _⟩ => ⟨S128x8x64x576, .f32⟩
  | .hbm, ⟨72, _⟩ => ⟨S128x8x64x576, .f32⟩
  | .hbm, ⟨73, _⟩ => ⟨S_, .f32⟩
  | .hbm, ⟨74, _⟩ => ⟨S128x8x64, .f32⟩
  | .hbm, ⟨75, _⟩ => ⟨S128x8x64x1, .f32⟩
  | .hbm, ⟨76, _⟩ => ⟨S128x8x64x576, .f32⟩
  | .hbm, ⟨77, _⟩ => ⟨S128x8x64x576, .f32⟩
  | .hbm, ⟨78, _⟩ => ⟨S_, .f32⟩
  | .hbm, ⟨79, _⟩ => ⟨S512x8x64, .f32⟩
  | .hbm, ⟨80, _⟩ => ⟨S8704x8x64, .f32⟩
  | .hbm, ⟨81, _⟩ => ⟨S136x64x8x64, .f32⟩
  | .hbm, ⟨82, _⟩ => ⟨S128x64x8x64, .f32⟩
  | .hbm, ⟨83, _⟩ => ⟨S128x64x8x64, .f32⟩
  | .hbm, ⟨84, _⟩ => ⟨S128x64x8x64, .f32⟩
  | .hbm, ⟨85, _⟩ => ⟨S128x64x8x64, .f32⟩
  | .hbm, ⟨86, _⟩ => ⟨S128x64x8x64, .f32⟩
  | .hbm, ⟨87, _⟩ => ⟨S128x64x8x64, .f32⟩
  | .hbm, ⟨88, _⟩ => ⟨S128x64x8x64, .f32⟩
  | .hbm, ⟨89, _⟩ => ⟨S128x64x8x64, .f32⟩
  | .hbm, ⟨90, _⟩ => ⟨S128x64x8x64, .f32⟩
  | .hbm, ⟨91, _⟩ => ⟨S128x576x8x64, .f32⟩
  | .hbm, ⟨92, _⟩ => ⟨S128x8x64x64, .f32⟩
  | .hbm, ⟨93, _⟩ => ⟨S128x64x8x64, .f32⟩
  | .hbm, ⟨94, _⟩ => ⟨S8192x512, .f32⟩
  | .hbm, ⟨95, _⟩ => ⟨S128x8x64, .f32⟩
  | .hbm, ⟨96, _⟩ => ⟨S128x64x8, .f32⟩
  | .hbm, ⟨97, _⟩ => ⟨S8192x8, .f32⟩
  | .hbm, ⟨98, _⟩ => ⟨S8192x8x64, .f32⟩
  | .hbm, ⟨99, _⟩ => ⟨S8192x512, .f32⟩
  | .hbm, ⟨100, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c : Ref sig .tc := ⟨.hbm, 33, rfl⟩
abbrev main_v29 : Ref sig .tc := ⟨.hbm, 34, rfl⟩
abbrev main_v30 : Ref sig .tc := ⟨.hbm, 35, rfl⟩
abbrev main_c_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Proof.Mix.Spec.lean ====
/-
  The gate gradient in plain sums over the extended reals: what both programs are shown to compute. Arguments, in the
  order of the programs: `A0` the gradient of the mixed result, `A1` the output weights, `A2` the projection, `A3` the
  gate bias, `A4` and `A5` the two branches' weights, `A6` the attention's result, `A7` the pooling's result.
-/
module

public import Idealize.ShloMosaic.Lib.Pointwise
public import Idealize.ShloMosaic.PureOps.Ideal

@[expose] public section

noncomputable section

namespace Cert.Mix

open Idealize.ShloMosaic

/-- The array shapes of the arguments. -/
abbrev Rows : Shape := ⟨2, ![8192, 1024]⟩
abbrev Sq : Shape := ⟨2, ![1024, 1024]⟩
abbrev Proj : Shape := ⟨2, ![8192, 4096]⟩
abbrev Bias : Shape := ⟨2, ![1, 2048]⟩
abbrev Br : Shape := ⟨2, ![512, 1024]⟩
abbrev Half : Shape := ⟨2, ![8192, 512]⟩

/-- The logistic function as both programs spell it. -/
def sg (x : EReal) : EReal := Ideal.div 1 (1 + Ideal.exp (-x))

/-- A gate's own derivative factor times what enters it. -/
def slope (d y g : EReal) : EReal := d * y * (g * (1 - g))

variable (A0 : FVec Ideal Rows .bf16) (A1 : FVec Ideal Sq .bf16) (A2 : FVec Ideal Proj .f32) (A3 : FVec Ideal Bias .f32)
  (A4 A5 : FVec Ideal Br .bf16) (A6 A7 : FVec Ideal Half .bf16)

/-- The gradient of the gated sum: `dmix · w_oᵀ`. -/
def DZ (r : Fin 8192) (j : Fin 1024) : EReal := ∑ k : Fin 1024, A0 (ix2 r k) * A1 (ix2 j k)

/-- The gates, side by side; the attention's and the pooling's. -/
def G (r : Fin 8192) (q : Fin 2048) : EReal := sg (A2 (ix2 r ⟨2048 + q, by omega⟩) + A3 (ix2 0 q))
def GA (r : Fin 8192) (j : Fin 1024) : EReal := G A2 A3 r ⟨j, by omega⟩
def GB (r : Fin 8192) (j : Fin 1024) : EReal := G A2 A3 r ⟨1024 + j, by omega⟩

/-- A branch's result: `x · w`. -/
def Y (X : FVec Ideal Half .bf16) (W : FVec Ideal Br .bf16) (r : Fin 8192) (j : Fin 1024) : EReal :=
  ∑ k : Fin 512, X (ix2 r k) * W (ix2 k j)

/-- The gated sum of the branches. -/
def Z (r : Fin 8192) (j : Fin 1024) : EReal := GA A2 A3 r j * Y A6 A4 r j + GB A2 A3 r j * Y A7 A5 r j

/-- The gradient entering a branch. -/
def DA (r : Fin 8192) (j : Fin 1024) : EReal := DZ A0 A1 r j * GA A2 A3 r j
def DB (r : Fin 8192) (j : Fin 1024) : EReal := DZ A0 A1 r j * GB A2 A3 r j

/-- The gradient of the gates' arguments, the two gates side by side. -/
def DG (r : Fin 8192) (q : Fin 2048) : EReal :=
  if h : q.val < 1024 then slope (DZ A0 A1 r ⟨q, h⟩) (Y A6 A4 r ⟨q, h⟩) (GA A2 A3 r ⟨q, h⟩)
  else slope (DZ A0 A1 r ⟨q - 1024, by omega⟩) (Y A7 A5 r ⟨q - 1024, by omega⟩) (GB A2 A3 r ⟨q - 1024, by omega⟩)

/-- A branch's gradient with respect to its argument: `d · wᵀ`, for what enters the branch `d`. -/
def DX (d : Fin 8192 → Fin 1024 → EReal) (W : FVec Ideal Br .bf16) (r : Fin 8192) (a : Fin 512) : EReal :=
  ∑ j : Fin 1024, d r j * W (ix2 a j)

/-- A branch's gradient with respect to its weights: `xᵀ · d`. -/
def DW (X : FVec Ideal Half .bf16) (d : Fin 8192 → Fin 1024 → EReal) (a : Fin 512) (j : Fin 1024) : EReal :=
  ∑ r : Fin 8192, X (ix2 r a) * d r j

/-- The output weights' gradient: `zᵀ · dmix`. -/
def DO (p j : Fin 1024) : EReal := ∑ r : Fin 8192, Z A2 A3 A4 A5 A6 A7 r p * A0 (ix2 r j)

/-- The gate bias's gradient: the sum of the gates' gradient over the rows. -/
def DBG (q : Fin 2048) : EReal := ∑ r : Fin 8192, DG A0 A1 A2 A3 A4 A5 A6 A7 r q

/-- The gates' gradient on the attention's half and on the pooling's half. -/
theorem DG_lo (r : Fin 8192) (j : Fin 1024) (q : Fin 2048) (h : q.val = j.val) :
    DG A0 A1 A2 A3 A4 A5 A6 A7 r q = slope (DZ A0 A1 r j) (Y A6 A4 r j) (GA A2 A3 r j) := by
  have hq : q.val < 1024 := by omega
  have e : (⟨q.val, hq⟩ : Fin 1024) = j := Fin.ext h
  unfold DG
  rw [dif_pos hq, e]

theorem DG_hi (r : Fin 8192) (j : Fin 1024) (q : Fin 2048) (h : q.val = 1024 + j.val) :
    DG A0 A1 A2 A3 A4 A5 A6 A7 r q = slope (DZ A0 A1 r j) (Y A7 A5 r j) (GB A2 A3 r j) := by
  have hq : ¬ q.val < 1024 := by omega
  have e : (⟨q.val - 1024, by omega⟩ : Fin 1024) = j := Fin.ext (by show q.val - 1024 = j.val; omega)
  unfold DG
  rw [dif_neg hq, e]

/-- A column named by its block of 128 and its place in the block. -/
def col (d : Fin 8) (q : Fin 128) : Fin 1024 := ⟨d * 128 + q, by omega⟩

end Cert.Mix

end
-- ==== Proof.Mix.Body.lean ====
/-
  What the kernel's body computes from one block of rows, payload by payload, read at an index.
-/
module

public import proofs.«01_k».proof.Proof.Mix.Spec
public import proofs.«01_k».proof.Proof.Gen.MixBwdIdeal.Skeleton

@[expose] public section

set_option maxRecDepth 16384

noncomputable section

namespace Cert.Mix

open Idealize.ShloMosaic Cert.MixBwdIdeal Cert.MixBwdIdeal.Gen

variable (x0 : FVec Ideal S256x1024 .bf16) (x1 : FVec Ideal S1024x1024 .bf16) (x2 x3 : FVec Ideal S256x1024 .f32)
  (x4 x5 : FVec Ideal S1x1024 .f32) (x6 x7 x10 : FVec Ideal S256x1024 .bf16) (x8 x9 : FVec Ideal S512x1024 .bf16)
  (x11 x12 : FVec Ideal S256x512 .bf16)

/-- The block's gradient of the gated sum. -/
def bz (r : Fin 256) (j : Fin 1024) : EReal := ∑ k : Fin 1024, x0 (ix2 r k) * x1 (ix2 j k)

/-- A gate over the block. -/
def bg (r : Fin 256) (j : Fin 1024) : EReal := sg (x2 (ix2 r j) + x4 (ix2 0 j))

theorem pay32_at (r : Fin 256) (j : Fin 1024) : k0_pay32 (F := Ideal) x0 x1 (ix2 r j) = bz x0 x1 r j := by
  pointwise [k0_pay32, bz]

theorem pay33_at (r : Fin 256) (j : Fin 1024) : k0_pay33 (F := Ideal) x2 x4 (ix2 r j) = bg x2 x4 r j := by
  pointwise [k0_pay33, bg, sg, zero_sub]

theorem pay34_at (r : Fin 256) (j : Fin 1024) : k0_pay34 (F := Ideal) x2 x4 (ix2 r j) = bg x2 x4 r j := by
  pointwise [k0_pay34, bg, sg, zero_sub]

theorem pay35_at (r : Fin 256) (j : Fin 1024) : k0_pay35 (F := Ideal) x0 x1 x2 x4 (ix2 r j) = bz x0 x1 r j * bg x2 x4 r j := by
  pointwise [k0_pay35, pay32_at, pay33_at]

theorem pay36_at (r : Fin 256) (j : Fin 1024) : k0_pay36 (F := Ideal) x0 x1 x2 x4 (ix2 r j) = bz x0 x1 r j * bg x2 x4 r j := by
  pointwise [k0_pay36, pay32_at, pay34_at]

/-- The gradients of the branches' arguments. -/
theorem pay38_at (r : Fin 256) (a : Fin 512) : k0_pay38 (F := Ideal) (k0_pay37 x0 x1 x2 x4 x8) (ix2 r a) =
    ∑ j : Fin 1024, bz x0 x1 r j * bg x2 x4 r j * x8 (ix2 a j) := by
  pointwise [k0_pay38, k0_pay37, pay35_at]

theorem pay39_at (r : Fin 256) (a : Fin 512) : k0_pay39 (F := Ideal) (k0_pay36 x0 x1 x3 x5) x9 (ix2 r a) =
    ∑ j : Fin 1024, bz x0 x1 r j * bg x3 x5 r j * x9 (ix2 a j) := by
  pointwise [k0_pay39, pay36_at]

/-- The three accumulated products: what was there plus the block's own product. -/
theorem pay40_at (acc : FVec Ideal S1024x1024 .f32) (p j : Fin 1024) : k0_pay40 (F := Ideal) x0 acc x10 (ix2 p j) =
    acc (ix2 p j) + ∑ r : Fin 256, x10 (ix2 r p) * x0 (ix2 r j) := by
  pointwise [k0_pay40]

theorem pay41_at (acc : FVec Ideal S512x1024 .f32) (a : Fin 512) (j : Fin 1024) :
    k0_pay41 (F := Ideal) (k0_pay35 x0 x1 x2 x4) acc x11 (ix2 a j) =
    acc (ix2 a j) + ∑ r : Fin 256, x11 (ix2 r a) * (bz x0 x1 r j * bg x2 x4 r j) := by
  pointwise [k0_pay41, pay35_at]

theorem pay42_at (acc : FVec Ideal S512x1024 .f32) (a : Fin 512) (j : Fin 1024) :
    k0_pay42 (F := Ideal) (k0_pay36 x0 x1 x3 x5) acc x12 (ix2 a j) =
    acc (ix2 a j) + ∑ r : Fin 256, x12 (ix2 r a) * (bz x0 x1 r j * bg x3 x5 r j) := by
  pointwise [k0_pay42, pay36_at]

/-- The gates' gradient, each half. -/
theorem pay45_at (r : Fin 256) (j : Fin 1024) : k0_pay45 (F := Ideal) (k0_pay32 x0 x1) (k0_pay33 x2 x4) x6 (ix2 r j) =
    slope (bz x0 x1 r j) (x6 (ix2 r j)) (bg x2 x4 r j) := by
  pointwise [k0_pay45, k0_pay43, pay32_at, pay33_at, slope, mul_assoc]

theorem pay46_at (r : Fin 256) (j : Fin 1024) : k0_pay46 (F := Ideal) (k0_pay32 x0 x1) (k0_pay34 x3 x5) x7 (ix2 r j) =
    slope (bz x0 x1 r j) (x7 (ix2 r j)) (bg x3 x5 r j) := by
  pointwise [k0_pay46, k0_pay44, pay32_at, pay34_at, slope, mul_assoc]

/-- The gate bias's gradient, each half: what was there plus the block's row sum. -/
theorem pay47_at (acc : FVec Ideal S1x1024 .f32) (z : Fin 1) (j : Fin 1024) :
    k0_pay47 (F := Ideal) (k0_pay32 x0 x1) (k0_pay33 x2 x4) x6 acc (ix2 z j) =
    acc (ix2 z j) + ∑ r : Fin 256, slope (bz x0 x1 r j) (x6 (ix2 r j)) (bg x2 x4 r j) := by
  pointwise [k0_pay47, k0_pay43, pay32_at, pay33_at, slope, mul_assoc]

theorem pay48_at (acc : FVec Ideal S1x1024 .f32) (z : Fin 1) (j : Fin 1024) :
    k0_pay48 (F := Ideal) (k0_pay32 x0 x1) (k0_pay34 x3 x5) x7 acc (ix2 z j) =
    acc (ix2 z j) + ∑ r : Fin 256, slope (bz x0 x1 r j) (x7 (ix2 r j)) (bg x3 x5 r j) := by
  pointwise [k0_pay48, k0_pay44, pay32_at, pay34_at, slope, mul_assoc]

end Cert.Mix

end
-- ==== Proof.Mix.Saved.lean ====
/-
  The three arrays the host computes before the launch (the branches' results and their gated sum), read at an index.
-/
module

public import proofs.«01_k».proof.Proof.Mix.Spec
public import proofs.«01_k».proof.Proof.Gen.MixBwdIdeal.Frame.Runs
public import Idealize.ShloMosaic.Lib.Claim

@[expose] public section

set_option maxRecDepth 16384

noncomputable section

namespace Cert.Mix

open Idealize.ShloMosaic Idealize.ShloMosaic.TcCoe Cert.MixBwdIdeal Cert.MixBwdIdeal.Gen

variable (m : (ℓ : Loc nD τ sig) → Buf (Elt Ideal) ℓ) (c : Dev nD)

/-- The arguments as the launch finds them. -/
abbrev B0 : FVec Ideal Rows .bf16 := m ((c : Thread nD τ).loc main_arg0)
abbrev B1 : FVec Ideal Sq .bf16 := m ((c : Thread nD τ).loc main_arg1)
abbrev B2 : FVec Ideal Proj .f32 := m ((c : Thread nD τ).loc main_arg2)
abbrev B3 : FVec Ideal Bias .f32 := m ((c : Thread nD τ).loc main_arg3)
abbrev B4 : FVec Ideal Br .bf16 := m ((c : Thread nD τ).loc main_arg4)
abbrev B5 : FVec Ideal Br .bf16 := m ((c : Thread nD τ).loc main_arg5)
abbrev B6 : FVec Ideal Half .bf16 := m ((c : Thread nD τ).loc main_arg6)
abbrev B7 : FVec Ideal Half .bf16 := m ((c : Thread nD τ).loc main_arg7)

theorem saved_ya (r : Fin 8192) (j : Fin 1024) : V m c main_v21 (ix2 r j) = Y (B6 m c) (B4 m c) r j := by
  entry_read
  pointwise [Y]

theorem saved_yb (r : Fin 8192) (j : Fin 1024) : V m c main_v22 (ix2 r j) = Y (B7 m c) (B5 m c) r j := by
  entry_read
  pointwise [Y]

theorem saved_z (r : Fin 8192) (j : Fin 1024) : V m c main_v23 (ix2 r j) =
    Z (B2 m c) (B3 m c) (B4 m c) (B5 m c) (B6 m c) (B7 m c) r j := by
  entry_read
  pointwise [Z, Y, GA, GB, G, sg]

end Cert.Mix

end
-- ==== Proof.Mix.Point.lean ====
/-
  The blocks a grid point reads, as rows of the arrays: point `t` reads rows `256 t … 256 t + 255`.
-/
module

public import proofs.«01_k».proof.Proof.Mix.Body
public import proofs.«01_k».proof.Proof.Mix.Saved
public import Idealize.ShloMosaic.Lib.Pipeline.ValueKit

@[expose] public section

set_option maxRecDepth 16384

noncomputable section

namespace Cert.Mix

open Idealize.ShloMosaic Idealize.ShloMosaic.TcCoe Cert.MixBwdIdeal Cert.MixBwdIdeal.Gen

/-- Where each window's block lies at a point. -/
theorem idx : ∀ t : Fin cfg0.N, win0_0.index t = ![t.val, 0] ∧ win0_1.index t = ![0, 0] ∧ win0_2.index t = ![t.val, 2]
    ∧ win0_3.index t = ![t.val, 3] ∧ win0_4.index t = ![0, 0] ∧ win0_5.index t = ![0, 1] ∧ win0_6.index t = ![t.val, 0]
    ∧ win0_7.index t = ![t.val, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![0, 0] ∧ win0_15.index t = ![t.val, 0] ∧ win0_16.index t = ![t.val, 0]
    ∧ win0_17.index t = ![0, 0, 0] ∧ win0_18.index t = ![0, 0, 0] ∧ win0_19.index t = ![0, 0, 0] :=
  (by decide +kernel : ∀ t : Fin grid0.N, _)

variable (m : (ℓ : Loc nD τ sig) → Buf (Elt Ideal) ℓ) (c : Dev nD) (t : Fin cfg0.N)

theorem lt32 : t.val < 32 := t.isLt

/-- Row `r` of point `t`'s block. -/
def row (t : Fin cfg0.N) (r : Fin 256) : Fin 8192 := ⟨t.val * 256 + r, by have := lt32 t; omega⟩

theorem blk_x0 (r : Fin 256) (j : Fin 1024) : iblk m c 0 t (ix2 r j) = B0 m c (ix2 (row t r) j) := by
  blk_point [iblk, V, row, idx t]

theorem blk_x1 (r : Fin 1024) (j : Fin 1024) : iblk m c 1 t (ix2 r j) = B1 m c (ix2 r j) := by
  blk_point [iblk, V, row, idx t]

theorem blk_x2 (r : Fin 256) (j : Fin 1024) : iblk m c 2 t (ix2 r j) = B2 m c (ix2 (row t r) ⟨2048 + j, by omega⟩) := by
  blk_point [iblk, V, row, idx t]

theorem blk_x3 (r : Fin 256) (j : Fin 1024) : iblk m c 3 t (ix2 r j) = B2 m c (ix2 (row t r) ⟨3072 + j, by omega⟩) := by
  blk_point [iblk, V, row, idx t]

theorem blk_x4 (j : Fin 1024) : iblk m c 4 t (ix2 0 j) = B3 m c (ix2 0 ⟨j, by omega⟩) := by
  blk_point [iblk, V, row, idx t]

theorem blk_x5 (j : Fin 1024) : iblk m c 5 t (ix2 0 j) = B3 m c (ix2 0 ⟨1024 + j, by omega⟩) := by
  blk_point [iblk, V, row, idx t]

theorem blk_x6 (r : Fin 256) (j : Fin 1024) : iblk m c 6 t (ix2 r j) = Y (B6 m c) (B4 m c) (row t r) j := by
  rw [← saved_ya]
  blk_point [iblk, V, row, idx t]

theorem blk_x7 (r : Fin 256) (j : Fin 1024) : iblk m c 7 t (ix2 r j) = Y (B7 m c) (B5 m c) (row t r) j := by
  rw [← saved_yb]
  blk_point [iblk, V, row, idx t]

theorem blk_x8 (r : Fin 512) (j : Fin 1024) : iblk m c 8 t (ix2 r j) = B4 m c (ix2 r j) := by
  blk_point [iblk, V, row, idx t]

theorem blk_x9 (r : Fin 512) (j : Fin 1024) : iblk m c 9 t (ix2 r j) = B5 m c (ix2 r j) := by
  blk_point [iblk, V, row, idx t]

theorem blk_x10 (r : Fin 256) (j : Fin 1024) : iblk m c 10 t (ix2 r j) =
    Z (B2 m c) (B3 m c) (B4 m c) (B5 m c) (B6 m c) (B7 m c) (row t r) j := by
  rw [← saved_z]
  blk_point [iblk, V, row, idx t]

theorem blk_x11 (r : Fin 256) (j : Fin 512) : iblk m c 11 t (ix2 r j) = B6 m c (ix2 (row t r) j) := by
  blk_point [iblk, V, row, idx t]

theorem blk_x12 (r : Fin 256) (j : Fin 512) : iblk m c 12 t (ix2 r j) = B7 m c (ix2 (row t r) j) := by
  blk_point [iblk, V, row, idx t]

/-- So the body's own sums over a block are the whole program's at that row. -/
theorem bz_blk (r : Fin 256) (j : Fin 1024) : bz (iblk m c 0 t) (iblk m c 1 t) r j = DZ (B0 m c) (B1 m c) (row t r) j := by
  simp only [bz, DZ, blk_x0, blk_x1]

theorem bg_blk_a (r : Fin 256) (j : Fin 1024) : bg (iblk m c 2 t) (iblk m c 4 t) r j = GA (B2 m c) (B3 m c) (row t r) j := by
  simp only [bg, GA, G, blk_x2, blk_x4]

theorem bg_blk_b (r : Fin 256) (j : Fin 1024) : bg (iblk m c 3 t) (iblk m c 5 t) r j = GB (B2 m c) (B3 m c) (row t r) j := by
  simp only [bg, GB, G, blk_x3, blk_x5]
  have e : (⟨3072 + j.val, by omega⟩ : Fin 4096) = ⟨2048 + (1024 + j.val), by omega⟩ := Fin.ext (by show 3072 + j.val = 2048 + (1024 + j.val); omega)
  rw [e]

/-- The gates' gradient over a block, each half. -/
theorem pay45_blk (x : S256x1024.Idx) (r : Fin 256) (q : Fin 2048) (h0 : r.val = (x 0).val) (h1 : q.val = (x 1).val) :
    k0_pay45 (F := Ideal) (k0_pay32 (iblk m c 0 t) (iblk m c 1 t)) (k0_pay33 (iblk m c 2 t) (iblk m c 4 t)) (iblk m c 6 t) x =
    DG (B0 m c) (B1 m c) (B2 m c) (B3 m c) (B4 m c) (B5 m c) (B6 m c) (B7 m c) (row t r) q := by
  idx_vars x
  obtain rfl : r = x0 := Fin.ext h0
  rw [pay45_at, bz_blk, bg_blk_a, blk_x6, DG_lo _ _ _ _ _ _ _ _ _ x1 q h1]

theorem pay46_blk (x : S256x1024.Idx) (r : Fin 256) (q : Fin 2048) (h0 : r.val = (x 0).val) (h1 : q.val = 1024 + (x 1).val) :
    k0_pay46 (F := Ideal) (k0_pay32 (iblk m c 0 t) (iblk m c 1 t)) (k0_pay34 (iblk m c 3 t) (iblk m c 5 t)) (iblk m c 7 t) x =
    DG (B0 m c) (B1 m c) (B2 m c) (B3 m c) (B4 m c) (B5 m c) (B6 m c) (B7 m c) (row t r) q := by
  idx_vars x
  obtain rfl : r = x0 := Fin.ext h0
  rw [pay46_at, bz_blk, bg_blk_b, blk_x7, DG_hi _ _ _ _ _ _ _ _ _ x1 q h1]

/-- The block's share of the gate bias's gradient, each half. -/
theorem pay47_blk (acc : FVec Ideal S1x1024 .f32) (x : S1x1024.Idx) (q : Fin 2048) (h1 : q.val = (x 1).val) :
    k0_pay47 (F := Ideal) (k0_pay32 (iblk m c 0 t) (iblk m c 1 t)) (k0_pay33 (iblk m c 2 t) (iblk m c 4 t)) (iblk m c 6 t) acc x =
    acc x + ∑ r : Fin 256, DG (B0 m c) (B1 m c) (B2 m c) (B3 m c) (B4 m c) (B5 m c) (B6 m c) (B7 m c) (row t r) q := by
  idx_vars x
  rw [pay47_at]
  simp only [bz_blk, bg_blk_a, blk_x6, DG_lo _ _ _ _ _ _ _ _ _ x1 q h1]

theorem pay48_blk (acc : FVec Ideal S1x1024 .f32) (x : S1x1024.Idx) (q : Fin 2048) (h1 : q.val = 1024 + (x 1).val) :
    k0_pay48 (F := Ideal) (k0_pay32 (iblk m c 0 t) (iblk m c 1 t)) (k0_pay34 (iblk m c 3 t) (iblk m c 5 t)) (iblk m c 7 t) acc x =
    acc x + ∑ r : Fin 256, DG (B0 m c) (B1 m c) (B2 m c) (B3 m c) (B4 m c) (B5 m c) (B6 m c) (B7 m c) (row t r) q := by
  idx_vars x
  rw [pay48_at]
  simp only [bz_blk, bg_blk_b, blk_x7, DG_hi _ _ _ _ _ _ _ _ _ x1 q h1]

end Cert.Mix

end
-- ==== Proof.Mix.Rows.lean ====
/-
  The results written block by block: the gates' gradient and the gradients of the two branches' arguments.
-/
module

public import proofs.«01_k».proof.Proof.Mix.Point
public import proofs.«01_k».proof.Proof.Gen.MixBwdIdeal.Frame

@[expose] public section

set_option maxRecDepth 16384

noncomputable section

namespace Cert.Mix

open Idealize.ShloMosaic Idealize.ShloMosaic.TcCoe Cert.MixBwdIdeal Cert.MixBwdIdeal.Gen

variable (m : (ℓ : Loc nD τ sig) → Buf (Elt Ideal) ℓ) (c : Dev nD)

/-- What a point leaves in the two blocks of the branches' arguments' gradients, whichever case it is. -/
theorem at15 (t : Fin cfg0.N) (y : S256x512.Idx) : (outsAt0 m c t.val t.isLt).2.2.1 y =
    k0_pay38 (k0_pay37 (iblk m c 0 t) (iblk m c 1 t) (iblk m c 2 t) (iblk m c 4 t) (iblk m c 8 t)) y := by
  by_cases h0 : t.val % 32 = 0
  · rw [outsAt0_A m c t h0 (by omega)]
    frame_out
  · by_cases h1 : t.val % 32 = 31
    · rw [outsAt0_C m c t h0 h1]
      frame_out
    · rw [outsAt0_B m c t h0 h1]
      frame_out

theorem at16 (t : Fin cfg0.N) (y : S256x512.Idx) : (outsAt0 m c t.val t.isLt).2.2.2.1 y =
    k0_pay39 (k0_pay36 (iblk m c 0 t) (iblk m c 1 t) (iblk m c 3 t) (iblk m c 5 t)) (iblk m c 9 t) y := by
  by_cases h0 : t.val % 32 = 0
  · rw [outsAt0_A m c t h0 (by omega)]
    frame_out
  · by_cases h1 : t.val % 32 = 31
    · rw [outsAt0_C m c t h0 h1]
      frame_out
    · rw [outsAt0_B m c t h0 h1]
      frame_out

/-- The block of the gates' gradient, stored in two halves. -/
theorem at13 (t : Fin cfg0.N) (r : Fin 256) (q : Fin 2048) : (outsAt0 m c t.val t.isLt).1 (ix2 r q) =
    DG (B0 m c) (B1 m c) (B2 m c) (B3 m c) (B4 m c) (B5 m c) (B6 m c) (B7 m c) (row t r) q := by
  by_cases h0 : t.val % 32 = 0
  · rw [outsAt0_A m c t h0 (by omega)]
    frame_out
    canon_tiles x hx
    · exact pay46_blk m c t x r q hx0 hx1
    · exact pay45_blk m c t x r q hx0 hx1
  · by_cases h1 : t.val % 32 = 31
    · rw [outsAt0_C m c t h0 h1]
      frame_out
      canon_tiles x hx
      · exact pay46_blk m c t x r q hx0 hx1
      · exact pay45_blk m c t x r q hx0 hx1
    · rw [outsAt0_B m c t h0 h1]
      frame_out
      canon_tiles x hx
      · exact pay46_blk m c t x r q hx0 hx1
      · exact pay45_blk m c t x r q hx0 hx1

/-- The gates' gradient, the whole array. -/
theorem final13 (r : Fin 8192) (q : Fin 2048) : (dats m 0 c).arrAt 13 cfg0.N (ix2 r q) =
    DG (B0 m c) (B1 m c) (B2 m c) (B3 m c) (B4 m c) (B5 m c) (B6 m c) (B7 m c) r q := by
  have e : (dats m 0 c).arrAt 13 cfg0.N = (fun i : S8192x2048.Idx =>
      DG (B0 m c) (B1 m c) (B2 m c) (B3 m c) (B4 m c) (B5 m c) (B6 m c) (B7 m c) (i 0) (i 1)) := by
    refine (dats m 0 c).arrAt_eq_of_covers 13 _ (by decide +kernel) fun t hf y => ?_
    blk_simp
    rw [after0_13]
    idx_vars y
    rw [at13]
    refine congrArg₂ (DG (B0 m c) (B1 m c) (B2 m c) (B3 m c) (B4 m c) (B5 m c) (B6 m c) (B7 m c)) (Fin.ext ?_) (Fin.ext ?_)
    · blk_simp [row, idx t]
      try omega
    · blk_simp [row, idx t]
      try omega
  rw [e]
  rfl

/-- The gradient towards one branch, a block. -/
theorem row15 (t : Fin cfg0.N) (r : Fin 256) (a : Fin 512) : (outsAt0 m c t.val t.isLt).2.2.1 (ix2 r a) =
    DX (DA (B0 m c) (B1 m c) (B2 m c) (B3 m c)) (B4 m c) (row t r) a := by
  rw [at15, pay38_at]
  simp only [DX, DA, DB, bz_blk, bg_blk_a, blk_x8]

/-- The gradient towards one branch, the whole array. -/
theorem final15 (r : Fin 8192) (a : Fin 512) : (dats m 0 c).arrAt 15 cfg0.N (ix2 r a) =
    DX (DA (B0 m c) (B1 m c) (B2 m c) (B3 m c)) (B4 m c) r a := by
  have e : (dats m 0 c).arrAt 15 cfg0.N = (fun i : S8192x512.Idx => DX (DA (B0 m c) (B1 m c) (B2 m c) (B3 m c)) (B4 m c) (i 0) (i 1)) := by
    refine (dats m 0 c).arrAt_eq_of_covers 15 _ (by decide +kernel) fun t hf y => ?_
    blk_simp
    rw [after0_15]
    idx_vars y
    rw [row15]
    refine congrArg₂ (DX (DA (B0 m c) (B1 m c) (B2 m c) (B3 m c)) (B4 m c)) (Fin.ext ?_) (Fin.ext ?_)
    · blk_simp [row, idx t]
      try omega
    · blk_simp [row, idx t]
      try omega
  rw [e]
  rfl

/-- The gradient towards one branch, a block. -/
theorem row16 (t : Fin cfg0.N) (r : Fin 256) (a : Fin 512) : (outsAt0 m c t.val t.isLt).2.2.2.1 (ix2 r a) =
    DX (DB (B0 m c) (B1 m c) (B2 m c) (B3 m c)) (B5 m c) (row t r) a := by
  rw [at16, pay39_at]
  simp only [DX, DA, DB, bz_blk, bg_blk_b, blk_x9]

/-- The gradient towards one branch, the whole array. -/
theorem final16 (r : Fin 8192) (a : Fin 512) : (dats m 0 c).arrAt 16 cfg0.N (ix2 r a) =
    DX (DB (B0 m c) (B1 m c) (B2 m c) (B3 m c)) (B5 m c) r a := by
  have e : (dats m 0 c).arrAt 16 cfg0.N = (fun i : S8192x512.Idx => DX (DB (B0 m c) (B1 m c) (B2 m c) (B3 m c)) (B5 m c) (i 0) (i 1)) := by
    refine (dats m 0 c).arrAt_eq_of_covers 16 _ (by decide +kernel) fun t hf y => ?_
    blk_simp
    rw [after0_16]
    idx_vars y
    rw [row16]
    refine congrArg₂ (DX (DB (B0 m c) (B1 m c) (B2 m c) (B3 m c)) (B5 m c)) (Fin.ext ?_) (Fin.ext ?_)
    · blk_simp [row, idx t]
      try omega
    · blk_simp [row, idx t]
      try omega
  rw [e]
  rfl

end Cert.Mix

end
-- ==== Proof.Mix.Sums.lean ====
/-
  What is added up over the grid's 32 points: the gate bias's gradient in its output block, and the three weight
  gradients in the scratch buffers, each after the last point a sum over all 8192 rows.
-/
module

public import proofs.«01_k».proof.Proof.Mix.Point
public import proofs.«01_k».proof.Proof.Gen.MixBwdIdeal.Frame
public import Idealize.ShloMosaic.Lib.Pipeline.ReadBack

@[expose] public section

set_option maxRecDepth 16384

noncomputable section

namespace Cert.Mix

open Idealize.ShloMosaic Idealize.ShloMosaic.TcCoe Cert.MixBwdIdeal Cert.MixBwdIdeal.Gen

variable (m : (ℓ : Loc nD τ sig) → Buf (Elt Ideal) ℓ) (c : Dev nD)

/-- A sum over points and the rows of each is a sum over all rows. -/
theorem sum_rows (f : Fin 8192 → EReal) : ∑ t : Fin cfg0.N, ∑ r : Fin 256, f (row t r) = ∑ l : Fin 8192, f l := by
  show ∑ t : Fin 32, ∑ r : Fin 256, f (row t r) = ∑ l : Fin 8192, f l
  exact Fin.sum_mul_add_congr fun s k hl => rfl

theorem zero29 (i : S1024x1024.Idx) : k0_pay29 (F := Ideal) i = 0 := by pointwise [k0_pay29]
theorem zero30 (i : S512x1024.Idx) : k0_pay30 (F := Ideal) i = 0 := by pointwise [k0_pay30]
theorem zero31 (i : S512x1024.Idx) : k0_pay31 (F := Ideal) i = 0 := by pointwise [k0_pay31]
theorem zero28 (i : S1x2048.Idx) : k0_pay28 (F := Ideal) i = 0 := by pointwise [k0_pay28]

/-- One point's share of each sum. -/
def partO (t : Fin cfg0.N) (i : S1024x1024.Idx) : EReal := ∑ r : Fin 256,
  Z (B2 m c) (B3 m c) (B4 m c) (B5 m c) (B6 m c) (B7 m c) (row t r) (i 0) * B0 m c (ix2 (row t r) (i 1))

def partA (t : Fin cfg0.N) (i : S512x1024.Idx) : EReal := ∑ r : Fin 256,
  B6 m c (ix2 (row t r) (i 0)) * DA (B0 m c) (B1 m c) (B2 m c) (B3 m c) (row t r) (i 1)

def partB (t : Fin cfg0.N) (i : S512x1024.Idx) : EReal := ∑ r : Fin 256,
  B7 m c (ix2 (row t r) (i 0)) * DB (B0 m c) (B1 m c) (B2 m c) (B3 m c) (row t r) (i 1)

def partG (t : Fin cfg0.N) (i : S1x2048.Idx) : EReal := ∑ r : Fin 256,
  DG (B0 m c) (B1 m c) (B2 m c) (B3 m c) (B4 m c) (B5 m c) (B6 m c) (B7 m c) (row t r) (i 1)

theorem pay40_blk (t : Fin cfg0.N) (acc : FVec Ideal S1024x1024 .f32) (i : S1024x1024.Idx) :
    k0_pay40 (F := Ideal) (iblk m c 0 t) acc (iblk m c 10 t) i = acc i + partO m c t i := by
  idx_vars i
  rw [pay40_at]
  simp only [blk_x0, blk_x10, partO]
  rfl

theorem pay41_blk (t : Fin cfg0.N) (acc : FVec Ideal S512x1024 .f32) (i : S512x1024.Idx) :
    k0_pay41 (F := Ideal) (k0_pay35 (iblk m c 0 t) (iblk m c 1 t) (iblk m c 2 t) (iblk m c 4 t)) acc (iblk m c 11 t) i =
    acc i + partA m c t i := by
  idx_vars i
  rw [pay41_at]
  simp only [blk_x11, bz_blk, bg_blk_a, partA]
  rfl

theorem pay42_blk (t : Fin cfg0.N) (acc : FVec Ideal S512x1024 .f32) (i : S512x1024.Idx) :
    k0_pay42 (F := Ideal) (k0_pay36 (iblk m c 0 t) (iblk m c 1 t) (iblk m c 3 t) (iblk m c 5 t)) acc (iblk m c 12 t) i =
    acc i + partB m c t i := by
  idx_vars i
  rw [pay42_at]
  simp only [blk_x12, bz_blk, bg_blk_b, partB]
  rfl

theorem acco_last (t : Fin cfg0.N) (ht : t.val + 1 = cfg0.N) (p j : Fin 1024) :
    (outsAt0 m c t.val t.isLt).2.2.2.2.2.2.2.1 (ix2 p j) =
    DO (B0 m c) (B2 m c) (B3 m c) (B4 m c) (B5 m c) (B6 m c) (B7 m c) p j := by
  rw [Pipeline.eq_sum_fin_of_reset_step_apply_last (fun n h => (outsAt0 m c n h).2.2.2.2.2.2.2.1) 32 (fun _ => 0) (partO m c)
    (fun t h i => by
      rw [outsAt0_A m c t h (by omega)]
      frame_out
      rw [pay40_blk, zero29])
    (fun t h i => by
      by_cases h1 : t.val % 32 = 31
      · rw [outsAt0_C m c t h h1]
        frame_out
        rw [pay40_blk, read_unread_whole]
      · rw [outsAt0_B m c t h h1]
        frame_out
        rw [pay40_blk, read_unread_whole])
    (le_of_eq N_0) t ht (ix2 p j), zero_add]
  exact sum_rows fun l => Z (B2 m c) (B3 m c) (B4 m c) (B5 m c) (B6 m c) (B7 m c) l p * B0 m c (ix2 l j)

theorem acca_last (t : Fin cfg0.N) (ht : t.val + 1 = cfg0.N) (a : Fin 512) (j : Fin 1024) :
    (outsAt0 m c t.val t.isLt).2.2.2.2.2.2.2.2.1 (ix2 a j) =
    DW (B6 m c) (DA (B0 m c) (B1 m c) (B2 m c) (B3 m c)) a j := by
  rw [Pipeline.eq_sum_fin_of_reset_step_apply_last (fun n h => (outsAt0 m c n h).2.2.2.2.2.2.2.2.1) 32 (fun _ => 0) (partA m c)
    (fun t h i => by
      rw [outsAt0_A m c t h (by omega)]
      frame_out
      rw [pay41_blk, zero30])
    (fun t h i => by
      by_cases h1 : t.val % 32 = 31
      · rw [outsAt0_C m c t h h1]
        frame_out
        rw [pay41_blk, read_unread_whole]
      · rw [outsAt0_B m c t h h1]
        frame_out
        rw [pay41_blk, read_unread_whole])
    (le_of_eq N_0) t ht (ix2 a j), zero_add]
  exact sum_rows fun l => B6 m c (ix2 l a) * DA (B0 m c) (B1 m c) (B2 m c) (B3 m c) l j

theorem accb_last (t : Fin cfg0.N) (ht : t.val + 1 = cfg0.N) (a : Fin 512) (j : Fin 1024) :
    (outsAt0 m c t.val t.isLt).2.2.2.2.2.2.2.2.2 (ix2 a j) =
    DW (B7 m c) (DB (B0 m c) (B1 m c) (B2 m c) (B3 m c)) a j := by
  rw [Pipeline.eq_sum_fin_of_reset_step_apply_last (fun n h => (outsAt0 m c n h).2.2.2.2.2.2.2.2.2) 32 (fun _ => 0) (partB m c)
    (fun t h i => by
      rw [outsAt0_A m c t h (by omega)]
      frame_out
      rw [pay42_blk, zero31])
    (fun t h i => by
      by_cases h1 : t.val % 32 = 31
      · rw [outsAt0_C m c t h h1]
        frame_out
        rw [pay42_blk, read_unread_whole]
      · rw [outsAt0_B m c t h h1]
        frame_out
        rw [pay42_blk, read_unread_whole])
    (le_of_eq N_0) t ht (ix2 a j), zero_add]
  exact sum_rows fun l => B7 m c (ix2 l a) * DB (B0 m c) (B1 m c) (B2 m c) (B3 m c) l j

/-- The gate bias's gradient after the last point: its two halves are added to one by one. -/
theorem dbg_last (t : Fin cfg0.N) (ht : t.val + 1 = cfg0.N) (z : Fin 1) (q : Fin 2048) :
    (outsAt0 m c t.val t.isLt).2.1 (ix2 z q) =
    DBG (B0 m c) (B1 m c) (B2 m c) (B3 m c) (B4 m c) (B5 m c) (B6 m c) (B7 m c) q := by
  rw [Pipeline.eq_sum_fin_of_reset_step_apply_last (fun n h => (outsAt0 m c n h).2.1) 32 (fun _ => 0) (partG m c)
    (fun t h i => by
      rw [outsAt0_A m c t h (by omega)]
      frame_out
      simp (disch := decide) only [↓ View.readCov_skip, ↓ View.readCov_cons_toLoadRect, ↓ View.readCov_fill]
      refine View.canon_append_of_piecesOf (Val := Elt Ideal) (s := S1x2048) (e := .f32) (fun i => 0 + partG m c t i) [_] [_, _] ⟨fun x => ?_, fun x => ?_, trivial⟩ i ?_
      · refine (pay48_blk m c t _ x ((Rect.unit (s := S1x2048) ![0, 1024] ![1, 1024] inb_S1x2048_S1x1024_0_1024).emb x 1) ?_).trans ?_
        · blk_simp
        · show k0_pay28 _ + _ = _
          rw [zero28]
          rfl
      · refine (pay47_blk m c t _ x ((Rect.unit (s := S1x2048) ![0, 0] ![1, 1024] inb_S1x2048_S1x1024_0_0).emb x 1) ?_).trans ?_
        · blk_simp
        · show k0_pay28 _ + _ = _
          rw [zero28]
          rfl
      · exact View.cover_of_tiledBy _ ![1, 1024] (by sl_kernel_rfl) i)
    (fun t h i => by
      by_cases h1 : t.val % 32 = 31
      · rw [outsAt0_C m c t h h1]
        frame_out
        idx_vars i
        canon_tiles x hx
        · rw [pay48_blk m c t _ x i1 hx1]
          refine congrArg (· + _) ?_
          idx_vars x
          pointwise
          blk_ext
        · rw [pay47_blk m c t _ x i1 hx1]
          refine congrArg (· + _) ?_
          idx_vars x
          pointwise
          blk_ext
      · rw [outsAt0_B m c t h h1]
        frame_out
        idx_vars i
        canon_tiles x hx
        · rw [pay48_blk m c t _ x i1 hx1]
          refine congrArg (· + _) ?_
          idx_vars x
          pointwise
          blk_ext
        · rw [pay47_blk m c t _ x i1 hx1]
          refine congrArg (· + _) ?_
          idx_vars x
          pointwise
          blk_ext)
    (le_of_eq N_0) t ht (ix2 z q), zero_add]
  exact sum_rows fun l => DG (B0 m c) (B1 m c) (B2 m c) (B3 m c) (B4 m c) (B5 m c) (B6 m c) (B7 m c) l q

end Cert.Mix

end
-- ==== Proof.Mix.Last.lean ====
/-
  What the last point writes: the three weight gradients, cut into the eight devices' blocks.
-/
module

public import proofs.«01_k».proof.Proof.Mix.Sums

@[expose] public section

set_option maxRecDepth 16384

noncomputable section

namespace Cert.Mix

open Idealize.ShloMosaic Idealize.ShloMosaic.TcCoe Cert.MixBwdIdeal Cert.MixBwdIdeal.Gen

variable (m : (ℓ : Loc nD τ sig) → Buf (Elt Ideal) ℓ) (c : Dev nD)

/-- The last point's own update of each sum is the whole sum. -/
theorem acco_C (t : Fin cfg0.N) (h : t.val % 32 = 31) (i : S1024x1024.Idx) :
    k0_pay40 (F := Ideal) (iblk m c 0 t) (outsAt0 m c (t.val - 1) (Nat.lt_of_le_of_lt (Nat.sub_le _ _) t.isLt)).2.2.2.2.2.2.2.1 (iblk m c 10 t) i =
    DO (B0 m c) (B2 m c) (B3 m c) (B4 m c) (B5 m c) (B6 m c) (B7 m c) (i 0) (i 1) := by
  have hN : cfg0.N = 32 := N_0
  have hl := lt32 t
  idx_vars i
  have e := acco_last m c t (by omega) i0 i1
  rw [outsAt0_C m c t (by omega) h] at e
  revert e
  frame_out
  simp only [read_unread_whole]
  exact id

theorem acca_C (t : Fin cfg0.N) (h : t.val % 32 = 31) (i : S512x1024.Idx) :
    k0_pay41 (F := Ideal) (k0_pay35 (iblk m c 0 t) (iblk m c 1 t) (iblk m c 2 t) (iblk m c 4 t))
      (outsAt0 m c (t.val - 1) (Nat.lt_of_le_of_lt (Nat.sub_le _ _) t.isLt)).2.2.2.2.2.2.2.2.1 (iblk m c 11 t) i =
    DW (B6 m c) (DA (B0 m c) (B1 m c) (B2 m c) (B3 m c)) (i 0) (i 1) := by
  have hN : cfg0.N = 32 := N_0
  have hl := lt32 t
  idx_vars i
  have e := acca_last m c t (by omega) i0 i1
  rw [outsAt0_C m c t (by omega) h] at e
  revert e
  frame_out
  simp only [read_unread_whole]
  exact id

theorem accb_C (t : Fin cfg0.N) (h : t.val % 32 = 31) (i : S512x1024.Idx) :
    k0_pay42 (F := Ideal) (k0_pay36 (iblk m c 0 t) (iblk m c 1 t) (iblk m c 3 t) (iblk m c 5 t))
      (outsAt0 m c (t.val - 1) (Nat.lt_of_le_of_lt (Nat.sub_le _ _) t.isLt)).2.2.2.2.2.2.2.2.2 (iblk m c 12 t) i =
    DW (B7 m c) (DB (B0 m c) (B1 m c) (B2 m c) (B3 m c)) (i 0) (i 1) := by
  have hN : cfg0.N = 32 := N_0
  have hl := lt32 t
  idx_vars i
  have e := accb_last m c t (by omega) i0 i1
  rw [outsAt0_C m c t (by omega) h] at e
  revert e
  frame_out
  simp only [read_unread_whole]
  exact id

/-- The output projection's gradient, cut by rows. -/
theorem at17 (t : Fin cfg0.N) (h : t.val % 32 = 31) (d : Fin 8) (q : Fin 128) (j : Fin 1024) :
    (outsAt0 m c t.val t.isLt).2.2.2.2.1 (ix3 d q j) =
    DO (B0 m c) (B2 m c) (B3 m c) (B4 m c) (B5 m c) (B6 m c) (B7 m c) (col d q) j := by
  have hA := acco_C m c t h
  rw [outsAt0_C m c t (by omega) h]
  frame_out
  simp only [read_unread_whole]
  revert hA
  generalize k0_pay40 (F := Ideal) _ _ _ = A
  intro hA
  simp (disch := decide) only [↓ View.readCov_skip, ↓ View.readCov_cons_toLoadRect, ↓ View.readCov_fill]
  canon_tiles x hx <;> (
    idx_vars x
    open_payloads
    pointwise
    rw [hA]
    refine congrArg₂ (DO (B0 m c) (B2 m c) (B3 m c) (B4 m c) (B5 m c) (B6 m c) (B7 m c)) (Fin.ext ?_) (Fin.ext ?_) <;> (simp [col]; try omega))

/-- The first branch's projection, cut by columns. -/
theorem at18 (t : Fin cfg0.N) (h : t.val % 32 = 31) (d : Fin 8) (a : Fin 512) (q : Fin 128) :
    (outsAt0 m c t.val t.isLt).2.2.2.2.2.1 (ix3 d a q) =
    DW (B6 m c) (DA (B0 m c) (B1 m c) (B2 m c) (B3 m c)) a (col d q) := by
  have hA := acca_C m c t h
  rw [outsAt0_C m c t (by omega) h]
  frame_out
  simp only [read_unread_whole]
  revert hA
  generalize k0_pay41 (F := Ideal) _ _ _ = A
  intro hA
  simp (disch := decide) only [↓ View.readCov_skip, ↓ View.readCov_cons_toLoadRect, ↓ View.readCov_fill]
  canon_tiles x hx <;> (
    idx_vars x
    open_payloads
    pointwise
    rw [hA]
    refine congrArg₂ (DW (B6 m c) (DA (B0 m c) (B1 m c) (B2 m c) (B3 m c))) (Fin.ext ?_) (Fin.ext ?_) <;> (simp [col]; try omega))

/-- The second branch's projection, cut by columns. -/
theorem at19 (t : Fin cfg0.N) (h : t.val % 32 = 31) (d : Fin 8) (a : Fin 512) (q : Fin 128) :
    (outsAt0 m c t.val t.isLt).2.2.2.2.2.2.1 (ix3 d a q) =
    DW (B7 m c) (DB (B0 m c) (B1 m c) (B2 m c) (B3 m c)) a (col d q) := by
  have hA := accb_C m c t h
  rw [outsAt0_C m c t (by omega) h]
  frame_out
  simp only [read_unread_whole]
  revert hA
  generalize k0_pay42 (F := Ideal) _ _ _ = A
  intro hA
  simp (disch := decide) only [↓ View.readCov_skip, ↓ View.readCov_cons_toLoadRect, ↓ View.readCov_fill]
  canon_tiles x hx <;> (
    idx_vars x
    open_payloads
    pointwise
    rw [hA]
    refine congrArg₂ (DW (B7 m c) (DB (B0 m c) (B1 m c) (B2 m c) (B3 m c))) (Fin.ext ?_) (Fin.ext ?_) <;> (simp [col]; try omega))

/-- The output projection's gradient, the whole array. -/
theorem final17 (d : Fin 8) (q : Fin 128) (j : Fin 1024) : (dats m 0 c).arrAt 17 cfg0.N (ix3 d q j) =
    DO (B0 m c) (B2 m c) (B3 m c) (B4 m c) (B5 m c) (B6 m c) (B7 m c) (col d q) j := by
  have e : (dats m 0 c).arrAt 17 cfg0.N = (fun i : S8x128x1024.Idx => DO (B0 m c) (B2 m c) (B3 m c) (B4 m c) (B5 m c) (B6 m c) (B7 m c) (col (i 0) (i 1)) (i 2)) := by
    refine (dats m 0 c).arrAt_eq_of_covers 17 _ (by decide +kernel) fun t hf y => ?_
    have h : t.val % 32 = 31 := (flush0_17 t).mp hf
    blk_simp
    rw [after0_17]
    idx_vars y
    rw [at17 m c t h]
    refine congrArg₂ (DO (B0 m c) (B2 m c) (B3 m c) (B4 m c) (B5 m c) (B6 m c) (B7 m c)) (Fin.ext ?_) (Fin.ext ?_) <;> (
      blk_simp [col, idx t]
      try omega)
  rw [e]
  rfl

/-- The first branch's projection, the whole array. -/
theorem final18 (d : Fin 8) (a : Fin 512) (q : Fin 128) : (dats m 0 c).arrAt 18 cfg0.N (ix3 d a q) =
    DW (B6 m c) (DA (B0 m c) (B1 m c) (B2 m c) (B3 m c)) a (col d q) := by
  have e : (dats m 0 c).arrAt 18 cfg0.N = (fun i : S8x512x128.Idx => DW (B6 m c) (DA (B0 m c) (B1 m c) (B2 m c) (B3 m c)) (i 1) (col (i 0) (i 2))) := by
    refine (dats m 0 c).arrAt_eq_of_covers 18 _ (by decide +kernel) fun t hf y => ?_
    have h : t.val % 32 = 31 := (flush0_18 t).mp hf
    blk_simp
    rw [after0_18]
    idx_vars y
    rw [at18 m c t h]
    refine congrArg₂ (DW (B6 m c) (DA (B0 m c) (B1 m c) (B2 m c) (B3 m c))) (Fin.ext ?_) (Fin.ext ?_) <;> (
      blk_simp [col, idx t]
      try omega)
  rw [e]
  rfl

/-- The second branch's projection, the whole array. -/
theorem final19 (d : Fin 8) (a : Fin 512) (q : Fin 128) : (dats m 0 c).arrAt 19 cfg0.N (ix3 d a q) =
    DW (B7 m c) (DB (B0 m c) (B1 m c) (B2 m c) (B3 m c)) a (col d q) := by
  have e : (dats m 0 c).arrAt 19 cfg0.N = (fun i : S8x512x128.Idx => DW (B7 m c) (DB (B0 m c) (B1 m c) (B2 m c) (B3 m c)) (i 1) (col (i 0) (i 2))) := by
    refine (dats m 0 c).arrAt_eq_of_covers 19 _ (by decide +kernel) fun t hf y => ?_
    have h : t.val % 32 = 31 := (flush0_19 t).mp hf
    blk_simp
    rw [after0_19]
    idx_vars y
    rw [at19 m c t h]
    refine congrArg₂ (DW (B7 m c) (DB (B0 m c) (B1 m c) (B2 m c) (B3 m c))) (Fin.ext ?_) (Fin.ext ?_) <;> (
      blk_simp [col, idx t]
      try omega)
  rw [e]
  rfl

/-- The biases' gradient, the whole array. -/
theorem final14 (z : Fin 1) (q : Fin 2048) : (dats m 0 c).arrAt 14 cfg0.N (ix2 z q) =
    DBG (B0 m c) (B1 m c) (B2 m c) (B3 m c) (B4 m c) (B5 m c) (B6 m c) (B7 m c) q := by
  have e : (dats m 0 c).arrAt 14 cfg0.N = (fun i : S1x2048.Idx =>
      DBG (B0 m c) (B1 m c) (B2 m c) (B3 m c) (B4 m c) (B5 m c) (B6 m c) (B7 m c) (i 1)) := by
    refine (dats m 0 c).arrAt_eq_of_covers 14 _ (by decide +kernel) fun t hf y => ?_
    have h : t.val % 32 = 31 := (flush0_14 t).mp hf
    have hN : cfg0.N = 32 := N_0
    have hl := lt32 t
    blk_simp
    rw [after0_14]
    idx_vars y
    rw [dbg_last m c t (by omega)]
    refine congrArg (DBG (B0 m c) (B1 m c) (B2 m c) (B3 m c) (B4 m c) (B5 m c) (B6 m c) (B7 m c)) (Fin.ext ?_)
    blk_simp [idx t]
    try omega
  rw [e]
  rfl

end Cert.Mix

end
-- ==== Proof.Mix.Ref.lean ====
/-
  The reference's seven results, read at an index: the plain sums of `Spec.lean`.
-/
module

public import proofs.«01_k».proof.Proof.Mix.Spec
public import proofs.«01_k».proof.Proof.Gen.MixRefIdeal.Read

@[expose] public section

set_option maxRecDepth 16384

noncomputable section

namespace Cert.Mix

open Idealize.ShloMosaic Cert.MixRefIdeal Cert.MixRefIdeal.Gen Cert.MixRefIdeal.Read

variable (A0 : FVec Ideal Rows .bf16) (A1 : FVec Ideal Sq .bf16) (A2 : FVec Ideal Proj .f32) (A3 : FVec Ideal Bias .f32)
  (A4 A5 : FVec Ideal Br .bf16) (A6 A7 : FVec Ideal Half .bf16)

/-- The gates. -/
theorem ref_gate (r : Fin 8192) (q : Fin 2048) : val_main_v16 (F := Ideal) A2 A3 (ix2 r q) = G A2 A3 r q := by
  pointwise [val_main_v16, val_main_v15, val_main_v14, val_main_v13, val_main_v12, val_main_v11, val_main_v10, val_main_v9, val_main_v6, val_main_cst, val_main_cst_0, G, sg]

/-- The gradient of the gated sum. -/
theorem ref_dz (r : Fin 8192) (j : Fin 1024) : val_main_v28 (F := Ideal) A0 A1 (ix2 r j) = DZ A0 A1 r j := by
  pointwise [val_main_v28, val_main_v5, val_main_v0, DZ]

/-- The branches' results. -/
theorem ref_ya (r : Fin 8192) (j : Fin 1024) : val_main_v7 (F := Ideal) A4 A6 (ix2 r j) = Y A6 A4 r j := by
  pointwise [val_main_v7, val_main_v3, val_main_v1, Y]

theorem ref_yb (r : Fin 8192) (j : Fin 1024) : val_main_v8 (F := Ideal) A5 A7 (ix2 r j) = Y A7 A5 r j := by
  pointwise [val_main_v8, val_main_v4, val_main_v2, Y]

/-- The gated sum of the branches. -/
theorem ref_z (r : Fin 8192) (j : Fin 1024) : val_main_v24 (F := Ideal) A2 A3 A4 A5 A6 A7 (ix2 r j) = Z A2 A3 A4 A5 A6 A7 r j := by
  pointwise [val_main_v24, val_main_v23, val_main_v22, val_main_v21, val_main_v20, ref_gate, ref_ya, ref_yb, Z, GA, GB]

/-- The gradients entering the branches. -/
theorem ref_da (r : Fin 8192) (j : Fin 1024) : val_main_v31 (F := Ideal) A0 A1 A2 A3 (ix2 r j) = DA A0 A1 A2 A3 r j := by
  pointwise [val_main_v31, val_main_v20, ref_gate, ref_dz, DA, GA, mul_comm]

theorem ref_db (r : Fin 8192) (j : Fin 1024) : val_main_v29 (F := Ideal) A0 A1 A2 A3 (ix2 r j) = DB A0 A1 A2 A3 r j := by
  pointwise [val_main_v29, val_main_v21, ref_gate, ref_dz, DB, GB, mul_comm]

/-- The gradient of the gates' arguments. -/
theorem ref_dg (r : Fin 8192) (q : Fin 2048) : val_main_v34 (F := Ideal) A0 A1 A2 A3 A4 A5 A6 A7 (ix2 r q) = DG A0 A1 A2 A3 A4 A5 A6 A7 r q := by
  pointwise [val_main_v34, val_main_v33, val_main_v32, val_main_v30, val_main_v19, val_main_v18, val_main_v17, val_main_cst_1, ref_gate, ref_dz, ref_ya, ref_yb, DG, slope, GA, GB]
  split
  · rfl
  · rename_i h
    have e : (⟨1024 + (q.val - 1024), by omega⟩ : Fin 2048) = q := Fin.ext (by show 1024 + (q.val - 1024) = q.val; omega)
    rw [e]

/-- The first result, the gates' gradient. -/
theorem ref_v43 (r : Fin 8192) (q : Fin 2048) : val_main_v43 (F := Ideal) A0 A1 A2 A3 A4 A5 A6 A7 (ix2 r q) = DG A0 A1 A2 A3 A4 A5 A6 A7 r q := by
  pointwise [val_main_v43, ref_dg]

/-- The second, the gate bias's gradient. -/
theorem ref_v36 (z : Fin 1) (q : Fin 2048) : val_main_v36 (F := Ideal) A0 A1 A2 A3 A4 A5 A6 A7 (ix2 z q) = DBG A0 A1 A2 A3 A4 A5 A6 A7 q := by
  pointwise [val_main_v36, val_main_v35, val_main_cst_2, ref_dg, DBG]

/-- The third and the fourth, the gradients of the two branches' arguments. -/
theorem ref_v44 (r : Fin 8192) (a : Fin 512) : val_main_v44 (F := Ideal) A0 A1 A2 A3 A4 (ix2 r a) = DX (DA A0 A1 A2 A3) A4 r a := by
  pointwise [val_main_v44, val_main_v42, val_main_v1, ref_da, DX]

theorem ref_v39 (r : Fin 8192) (a : Fin 512) : val_main_v39 (F := Ideal) A0 A1 A2 A3 A5 (ix2 r a) = DX (DB A0 A1 A2 A3) A5 r a := by
  pointwise [val_main_v39, val_main_v2, ref_db, DX]

/-- The fifth, the output weights' gradient by blocks of 128 rows. -/
theorem ref_v46 (d : Fin 8) (q : Fin 128) (j : Fin 1024) : val_main_v46 (F := Ideal) A0 A2 A3 A4 A5 A6 A7 (ix3 d q j) = DO A0 A2 A3 A4 A5 A6 A7 (col d q) j := by
  pointwise [val_main_v46, val_main_v45, val_main_v27, val_main_v26, val_main_v0, val_main_v25, val_main_v5, ref_z, DO, mul_comm, col]

/-- The sixth and the seventh, the branches' weights' gradients by blocks of 128 columns. -/
theorem ref_v49 (d : Fin 8) (a : Fin 512) (q : Fin 128) : val_main_v49 (F := Ideal) A0 A1 A2 A3 A6 (ix3 d a q) = DW A6 (DA A0 A1 A2 A3) a (col d q) := by
  pointwise [val_main_v49, val_main_v48, val_main_v47, val_main_v41, val_main_v40, val_main_v3, ref_da, DW, mul_comm, col]

theorem ref_v52 (d : Fin 8) (a : Fin 512) (q : Fin 128) : val_main_v52 (F := Ideal) A0 A1 A2 A3 A7 (ix3 d a q) = DW A7 (DB A0 A1 A2 A3) a (col d q) := by
  pointwise [val_main_v52, val_main_v51, val_main_v50, val_main_v38, val_main_v37, val_main_v4, ref_db, DW, mul_comm, col]

end Cert.Mix

end
-- ==== Proof.Mix.Claims.lean ====
/-
  The gate gradient's claims: the reference's frame, and that both programs end with the same seven arrays.
-/
module

public import proofs.«01_k».proof.Defs
public import proofs.«01_k».proof.Proof.Mix.Rows
public import proofs.«01_k».proof.Proof.Mix.Last
public import proofs.«01_k».proof.Proof.Mix.Ref
public import proofs.«01_k».proof.Proof.Gen.MixBwdIdeal.Value
public import proofs.«01_k».proof.Proof.Gen.MixRefIdeal
public import Idealize.ShloMosaic.Lib.Quiescent

@[expose] public section

set_option maxRecDepth 16384

noncomputable section

namespace Cert.Mix

open Idealize.ShloMosaic Idealize.ShloMosaic.TcCoe Idealize.SL.Sem

/-- The reference runs, its arguments are unchanged and its counters end at zero: it has none. -/
theorem frame_ref : Cert.quiescent_MixRefIdeal (hMixRefIdeal := Cert.MixRefIdeal.Gen.facts) := fun m ρ _ =>
  (θ_run (Cert.MixRefIdeal.defs (F := Ideal)) _ _).mono
    (fun r h => ⟨fun c => (h c).2.2.2.2.2.2.2, Idealize.ShloMosaic.sem_eq_zero_of_no_sems (by decide) r.2⟩)
    (Cert.MixRefIdeal.Value.run (F := Ideal) m ρ)

section
variable (m : (ℓ : Loc Cert.MixBwdIdeal.nD Cert.MixBwdIdeal.τ Cert.MixBwdIdeal.sig) → Buf (Elt Ideal) ℓ) (c : Dev Cert.MixBwdIdeal.nD)
open Cert.MixRefIdeal.Read Cert.MixBwdIdeal Cert.MixBwdIdeal.Gen

/-! Each array the kernel leaves is the reference's, of the same arguments. -/

theorem eq13 : (dats m 0 c).arrAt 13 cfg0.N =
    val_main_v43 (F := Ideal) (B0 m c) (B1 m c) (B2 m c) (B3 m c) (B4 m c) (B5 m c) (B6 m c) (B7 m c) := by
  funext i
  idx_vars i
  exact (final13 m c i0 i1).trans (ref_v43 _ _ _ _ _ _ _ _ i0 i1).symm

theorem eq14 : (dats m 0 c).arrAt 14 cfg0.N =
    val_main_v36 (F := Ideal) (B0 m c) (B1 m c) (B2 m c) (B3 m c) (B4 m c) (B5 m c) (B6 m c) (B7 m c) := by
  funext i
  idx_vars i
  exact (final14 m c i0 i1).trans (ref_v36 _ _ _ _ _ _ _ _ i0 i1).symm

theorem eq15 : (dats m 0 c).arrAt 15 cfg0.N =
    val_main_v44 (F := Ideal) (B0 m c) (B1 m c) (B2 m c) (B3 m c) (B4 m c) := by
  funext i
  idx_vars i
  exact (final15 m c i0 i1).trans (ref_v44 _ _ _ _ _ i0 i1).symm

theorem eq16 : (dats m 0 c).arrAt 16 cfg0.N =
    val_main_v39 (F := Ideal) (B0 m c) (B1 m c) (B2 m c) (B3 m c) (B5 m c) := by
  funext i
  idx_vars i
  exact (final16 m c i0 i1).trans (ref_v39 _ _ _ _ _ i0 i1).symm

theorem eq17 : (dats m 0 c).arrAt 17 cfg0.N =
    val_main_v46 (F := Ideal) (B0 m c) (B2 m c) (B3 m c) (B4 m c) (B5 m c) (B6 m c) (B7 m c) := by
  funext i
  idx_vars i
  exact (final17 m c i0 i1 i2).trans (ref_v46 _ _ _ _ _ _ _ i0 i1 i2).symm

theorem eq18 : (dats m 0 c).arrAt 18 cfg0.N =
    val_main_v49 (F := Ideal) (B0 m c) (B1 m c) (B2 m c) (B3 m c) (B6 m c) := by
  funext i
  idx_vars i
  exact (final18 m c i0 i1 i2).trans (ref_v49 _ _ _ _ _ i0 i1 i2).symm

theorem eq19 : (dats m 0 c).arrAt 19 cfg0.N =
    val_main_v52 (F := Ideal) (B0 m c) (B1 m c) (B2 m c) (B3 m c) (B7 m c) := by
  funext i
  idx_vars i
  exact (final19 m c i0 i1 i2).trans (ref_v52 _ _ _ _ _ i0 i1 i2).symm

end

/-- From equal arguments both programs end with the same seven arrays. -/
theorem algebraic : Cert.algebraic_MixBwdIdeal_MixRefIdeal (hMixBwdIdeal := Cert.MixBwdIdeal.Gen.facts)
    (hMixRefIdeal := Cert.MixRefIdeal.Gen.facts) := by
  intro m g m' g' _ ha
  refine ⟨_, _, _, _, _, _, _, Cert.MixBwdIdeal.Value.run_blocks (F := Ideal) m g, ?_⟩
  refine (θ_run (Cert.MixRefIdeal.defs (F := Ideal)) _ _).mono (fun r h c => ?_) (Cert.MixRefIdeal.Value.run (F := Ideal) m' g')
  obtain ⟨h0, h1, h2, h3, h4, h5, h6, hk⟩ := h c
  obtain ⟨a0, a1, a2, a3, a4, a5, a6, a7⟩ := ha c
  rw [a0, a1, a2, a3, a4, a5, a6, a7] at h0 h1
  rw [a0, a1, a2, a3, a4] at h2
  rw [a0, a1, a2, a3, a5] at h3
  rw [a0, a2, a3, a4, a5, a6, a7] at h4
  rw [a0, a1, a2, a3, a6] at h5
  rw [a0, a1, a2, a3, a7] at h6
  exact ⟨h0.trans (eq13 m c).symm, h1.trans (eq14 m c).symm, h2.trans (eq15 m c).symm, h3.trans (eq16 m c).symm,
    h4.trans (eq17 m c).symm, h5.trans (eq18 m c).symm, h6.trans (eq19 m c).symm, hk⟩

end Cert.Mix

end
-- ==== Proof.DwUp.Spec.lean ====
/-
  The up projection's weight gradient in plain sums over the extended reals: what both programs are shown to compute.
  Arguments, in the order of the programs: `A0` the normed rows that enter the projection, `A1` the gradient of its result,
  by device: device `d` has the 704 columns at place `d % 4` of half `d / 4`.
-/
module

public import Idealize.ShloMosaic.Lib.Pointwise
public import Idealize.ShloMosaic.PureOps.Ideal

@[expose] public section

noncomputable section

namespace Cert.Up

open Idealize.ShloMosaic

abbrev Rows : Shape := ⟨2, ![8192, 1024]⟩
abbrev Parts : Shape := ⟨4, ![2, 4, 8192, 704]⟩

variable (A0 : FVec Ideal Rows .bf16) (A1 : FVec Ideal Parts .bf16)

/-- The gradient of one half's column block `j`: `hᵀ · d`. -/
def DU (h : Fin 2) (j : Fin 4) (p : Fin 1024) (q : Fin 704) : EReal := ∑ l : Fin 8192, A0 (ix2 l p) * A1 (ix4 h j l q)

/-- A device's half, and its place in the half. -/
def half (d : Fin 8) : Fin 2 := ⟨d / 4, by omega⟩
def place (d : Fin 8) : Fin 4 := ⟨d % 4, by omega⟩

end Cert.Up

end
-- ==== Proof.DwUp.Body.lean ====
/-
  What the kernel's body computes from one block of rows, payload by payload, read at an index: each of the four column
  blocks has what was there plus the block's own product.
-/
module

public import proofs.«01_k».proof.Proof.DwUp.Spec
public import proofs.«01_k».proof.Proof.Gen.DwUpIdeal.Skeleton

@[expose] public section

set_option maxRecDepth 16384

noncomputable section

namespace Cert.Up

open Idealize.ShloMosaic Cert.DwUpIdeal Cert.DwUpIdeal.Gen

variable (x : FVec Ideal S512x1024 .bf16) (acc : FVec Ideal S1x1024x704 .f32) (d : FVec Ideal S1x1x512x704 .bf16)

/-- The block's product. -/
def bp (p : Fin 1024) (q : Fin 704) : EReal := ∑ r : Fin 512, x (ix2 r p) * d (ix4 0 0 r q)

theorem pay6_at (z : Fin 1) (p : Fin 1024) (q : Fin 704) : k0_pay6 (F := Ideal) x acc d (ix3 z p q) = acc (ix3 z p q) + bp x d p q := by
  obtain rfl : z = 0 := Subsingleton.elim _ _
  pointwise [k0_pay6, k0_pay5, bp]

theorem pay7_at (z : Fin 1) (p : Fin 1024) (q : Fin 704) : k0_pay7 (F := Ideal) x acc d (ix3 z p q) = acc (ix3 z p q) + bp x d p q := by
  obtain rfl : z = 0 := Subsingleton.elim _ _
  pointwise [k0_pay7, k0_pay5, bp]

theorem pay1_at (z : Fin 1) (p : Fin 1024) (q : Fin 704) : k0_pay1 (F := Ideal) (k0_pay5 x) (k0_pay8 acc) d (ix3 z p q) = acc (ix3 z p q) + bp x d p q := by
  obtain rfl : z = 0 := Subsingleton.elim _ _
  pointwise [k0_pay1, k0_pay5, k0_pay8, bp]

theorem pay2_at (z : Fin 1) (p : Fin 1024) (q : Fin 704) : k0_pay2 (F := Ideal) (k0_pay5 x) acc d (ix3 z p q) = acc (ix3 z p q) + bp x d p q := by
  obtain rfl : z = 0 := Subsingleton.elim _ _
  pointwise [k0_pay2, k0_pay5, bp]

theorem pay4_at (i : S4x1024x704.Idx) : k0_pay4 (F := Ideal) i = 0 := by pointwise [k0_pay4]

end Cert.Up

end
-- ==== Proof.DwUp.Point.lean ====
/-
  The blocks a grid point reads, and what one point adds. Point `t` works on half `t / 16` and reads the rows
  `512 (t % 16) … 512 (t % 16) + 511`.
-/
module

public import proofs.«01_k».proof.Proof.DwUp.Body
public import proofs.«01_k».proof.Proof.Gen.DwUpIdeal.Frame
public import Idealize.ShloMosaic.Lib.Pipeline.ValueKit
public import Idealize.ShloMosaic.Lib.Pipeline.ReadBack

@[expose] public section

set_option maxRecDepth 16384

noncomputable section

namespace Cert.Up

open Idealize.ShloMosaic Idealize.ShloMosaic.TcCoe Cert.DwUpIdeal Cert.DwUpIdeal.Gen

/-- Where each window's block lies at a point. -/
theorem idx : ∀ t : Fin cfg0.N, win0_0.index t = ![t.val % 16, 0] ∧ win0_1.index t = ![t.val / 16, 0, t.val % 16, 0]
    ∧ win0_2.index t = ![t.val / 16, 0, 0] := (by decide +kernel : ∀ t : Fin grid0.N, _)

variable (m : (ℓ : Loc nD τ sig) → Buf (Elt Ideal) ℓ) (c : Dev nD) (t : Fin cfg0.N)

/-- The arguments as the launch finds them. -/
abbrev B0 : FVec Ideal Rows .bf16 := m ((c : Thread nD τ).loc main_arg0)
abbrev B1 : FVec Ideal Parts .bf16 := m ((c : Thread nD τ).loc main_arg1)

theorem lt32 : t.val < 32 := t.isLt

/-- Row `r` of the block that point `t` reads, and the half it works on. -/
def row (k : Fin 16) (r : Fin 512) : Fin 8192 := ⟨k * 512 + r, by omega⟩
def step (t : Fin cfg0.N) : Fin 16 := ⟨t.val % 16, by omega⟩
def side (t : Fin cfg0.N) : Fin 2 := ⟨t.val / 16, by have := lt32 t; omega⟩

theorem blk_x (r : Fin 512) (p : Fin 1024) : iblk m c 0 t (ix2 r p) = B0 m c (ix2 (row (step t) r) p) := by
  blk_point [iblk, V, row, step, idx t]

theorem blk_d (z : Fin 1) (j : Fin 4) (r : Fin 512) (q : Fin 704) : iblk m c 1 t (ix4 z j r q) = B1 m c (ix4 (side t) j (row (step t) r) q) := by
  blk_point [iblk, V, row, step, side, idx t]

/-- What one point adds. -/
def part (t : Fin cfg0.N) (i : S4x1024x704.Idx) : EReal := ∑ r : Fin 512,
  B0 m c (ix2 (row (step t) r) (i 1)) * B1 m c (ix4 (side t) (i 0) (row (step t) r) (i 2))

/-- A half's points together add what all rows give. -/
theorem sum_rows (f : Fin 8192 → EReal) : ∑ k : Fin 16, ∑ r : Fin 512, f (row k r) = ∑ l : Fin 8192, f l :=
  Fin.sum_mul_add_congr fun s k hl => rfl

/-- One column block: whichever payload it goes through, it has what was there plus the point's product. -/
theorem tile (f acc : FVec Ideal S1x1024x704 .f32) (d : FVec Ideal S1x1x512x704 .bf16) (j : Fin 4)
    (hf : ∀ (z : Fin 1) (p : Fin 1024) (q : Fin 704), f (ix3 z p q) = acc (ix3 z p q) + bp (iblk m c 0 t) d p q)
    (hd : ∀ (r : Fin 512) (q : Fin 704), d (ix4 0 0 r q) = iblk m c 1 t (ix4 0 j r q))
    (x : S1x1024x704.Idx) (i : S4x1024x704.Idx) (h0 : (i 0).val = j.val) (h1 : (i 1).val = (x 1).val) (h2 : (i 2).val = (x 2).val) :
    f x = acc x + part m c t i := by
  idx_vars x
  idx_vars i
  obtain rfl : i0 = j := Fin.ext h0
  obtain rfl : i1 = x1 := Fin.ext h1
  obtain rfl : i2 = x2 := Fin.ext h2
  rw [hf]
  simp only [bp, hd, blk_x, blk_d, part]
  rfl

theorem ld0 (r : Fin 512) (q : Fin 704) : View.ld (iblk m c 1 t) (Rect.unit (s := S1x4x512x704) ![0, 0, 0, 0] ![1, 1, 512, 704] inb_S1x4x512x704_S1x1x512x704_0_0_0_0) (ix4 0 0 r q) = iblk m c 1 t (ix4 0 0 r q) := by
  pointwise
  blk_ext
theorem ld1 (r : Fin 512) (q : Fin 704) : View.ld (iblk m c 1 t) (Rect.unit (s := S1x4x512x704) ![0, 1, 0, 0] ![1, 1, 512, 704] inb_S1x4x512x704_S1x1x512x704_0_1_0_0) (ix4 0 0 r q) = iblk m c 1 t (ix4 0 1 r q) := by
  pointwise
  blk_ext
theorem ld2 (r : Fin 512) (q : Fin 704) : View.ld (iblk m c 1 t) (Rect.unit (s := S1x4x512x704) ![0, 2, 0, 0] ![1, 1, 512, 704] inb_S1x4x512x704_S1x1x512x704_0_2_0_0) (ix4 0 0 r q) = iblk m c 1 t (ix4 0 2 r q) := by
  pointwise
  blk_ext
theorem ld3 (r : Fin 512) (q : Fin 704) : View.ld (iblk m c 1 t) (Rect.unit (s := S1x4x512x704) ![0, 3, 0, 0] ![1, 1, 512, 704] inb_S1x4x512x704_S1x1x512x704_0_3_0_0) (ix4 0 0 r q) = iblk m c 1 t (ix4 0 3 r q) := by
  pointwise
  blk_ext

theorem acc_last (h : t.val % 16 = 15) (i : S4x1024x704.Idx) :
    (outsAt0 m c t.val t.isLt).2 i = DU (B0 m c) (B1 m c) (side t) (i 0) (i 1) (i 2) := by
  rw [Pipeline.eq_sum_fin_of_reset_step_apply_of_flush (fun n h => (outsAt0 m c n h).2) 16 (fun _ => 0) (part m c)
    (fun t h i => by
      rw [outsAt0_A m c t h (by omega)]
      frame_out
      simp (disch := decide) only [↓ View.readCov_skip, ↓ View.readCov_cons_toLoadRect, ↓ View.readCov_fill]
      refine View.canon_append_of_piecesOf (Val := Elt Ideal) (s := S4x1024x704) (e := .f32) (fun i => 0 + part m c t i) [_] [_, _, _, _] ⟨fun x => ?_, fun x => ?_, fun x => ?_, fun x => ?_, trivial⟩ i ?_
      · refine (tile m c t _ _ _ 3 (pay2_at _ _ _) (ld3 m c t) x ((Rect.unit (s := S4x1024x704) ![3, 0, 0] ![1, 1024, 704] inb_S4x1024x704_S1x1024x704_3_0_0).emb x) ?_ ?_ ?_).trans ?_
        · idx_vars x
          blk_simp
          try omega
        · blk_simp
        · blk_simp
        · show k0_pay4 _ + _ = _
          rw [pay4_at]
      · refine (tile m c t _ _ _ 2 (pay1_at _ _ _) (ld2 m c t) x ((Rect.unit (s := S4x1024x704) ![2, 0, 0] ![1, 1024, 704] inb_S4x1024x704_S1x1024x704_2_0_0).emb x) ?_ ?_ ?_).trans ?_
        · idx_vars x
          blk_simp
          try omega
        · blk_simp
        · blk_simp
        · show k0_pay4 _ + _ = _
          rw [pay4_at]
      · refine (tile m c t _ _ _ 1 (pay7_at _ _ _) (ld1 m c t) x ((Rect.unit (s := S4x1024x704) ![1, 0, 0] ![1, 1024, 704] inb_S4x1024x704_S1x1024x704_1_0_0).emb x) ?_ ?_ ?_).trans ?_
        · idx_vars x
          blk_simp
          try omega
        · blk_simp
        · blk_simp
        · show k0_pay4 _ + _ = _
          rw [pay4_at]
      · refine (tile m c t _ _ _ 0 (pay6_at _ _ _) (ld0 m c t) x ((Rect.unit (s := S4x1024x704) ![0, 0, 0] ![1, 1024, 704] inb_S4x1024x704_S1x1024x704_0_0_0).emb x) ?_ ?_ ?_).trans ?_
        · idx_vars x
          blk_simp
          try omega
        · blk_simp
        · blk_simp
        · show k0_pay4 _ + _ = _
          rw [pay4_at]
      · exact View.cover_of_tiledBy _ ![1, 1024, 704] (by sl_kernel_rfl) i)
    (fun t h i => by
      by_cases h1 : t.val % 16 = 15
      · rw [outsAt0_C m c t h h1]
        frame_out
        simp only [read_unread_whole]
        idx_vars i
        canon_tiles x hx
        · refine (tile m c t _ _ _ 3 (pay2_at _ _ _) (ld3 m c t) x (ix3 i0 i1 i2) (by omega) hx1 hx2).trans (congrArg (· + _) ?_)
          idx_vars x
          pointwise
          blk_ext
        · refine (tile m c t _ _ _ 2 (pay1_at _ _ _) (ld2 m c t) x (ix3 i0 i1 i2) (by omega) hx1 hx2).trans (congrArg (· + _) ?_)
          idx_vars x
          pointwise
          blk_ext
        · refine (tile m c t _ _ _ 1 (pay7_at _ _ _) (ld1 m c t) x (ix3 i0 i1 i2) (by omega) hx1 hx2).trans (congrArg (· + _) ?_)
          idx_vars x
          pointwise
          blk_ext
        · refine (tile m c t _ _ _ 0 (pay6_at _ _ _) (ld0 m c t) x (ix3 i0 i1 i2) (by omega) hx1 hx2).trans (congrArg (· + _) ?_)
          idx_vars x
          pointwise
          blk_ext
      · rw [outsAt0_B m c t h h1]
        frame_out
        simp only [read_unread_whole]
        idx_vars i
        canon_tiles x hx
        · refine (tile m c t _ _ _ 3 (pay2_at _ _ _) (ld3 m c t) x (ix3 i0 i1 i2) (by omega) hx1 hx2).trans (congrArg (· + _) ?_)
          idx_vars x
          pointwise
          blk_ext
        · refine (tile m c t _ _ _ 2 (pay1_at _ _ _) (ld2 m c t) x (ix3 i0 i1 i2) (by omega) hx1 hx2).trans (congrArg (· + _) ?_)
          idx_vars x
          pointwise
          blk_ext
        · refine (tile m c t _ _ _ 1 (pay7_at _ _ _) (ld1 m c t) x (ix3 i0 i1 i2) (by omega) hx1 hx2).trans (congrArg (· + _) ?_)
          idx_vars x
          pointwise
          blk_ext
        · refine (tile m c t _ _ _ 0 (pay6_at _ _ _) (ld0 m c t) x (ix3 i0 i1 i2) (by omega) hx1 hx2).trans (congrArg (· + _) ?_)
          idx_vars x
          pointwise
          blk_ext)
    t h i, zero_add]
  have e : ∀ s : Fin 16, ∀ hs : 16 * (t.val / 16) + s.val < cfg0.N, part m c ⟨16 * (t.val / 16) + s.val, hs⟩ i = ∑ r : Fin 512,
      B0 m c (ix2 (row s r) (i 1)) * B1 m c (ix4 (side t) (i 0) (row s r) (i 2)) := fun s hs => by
    have e1 : step ⟨16 * (t.val / 16) + s.val, hs⟩ = s := Fin.ext (by show (16 * (t.val / 16) + s.val) % 16 = s.val; omega)
    have e2 : side ⟨16 * (t.val / 16) + s.val, hs⟩ = side t := Fin.ext (by show (16 * (t.val / 16) + s.val) / 16 = t.val / 16; omega)
    unfold part
    rw [e1, e2]
  simp only [e]
  exact sum_rows fun l => B0 m c (ix2 l (i 1)) * B1 m c (ix4 (side t) (i 0) l (i 2))

end Cert.Up

end
-- ==== Proof.DwUp.Last.lean ====
/-
  What each half's last point writes: the four column blocks of the weight gradient.
-/
module

public import proofs.«01_k».proof.Proof.DwUp.Point

@[expose] public section

set_option maxRecDepth 16384

noncomputable section

namespace Cert.Up

open Idealize.ShloMosaic Idealize.ShloMosaic.TcCoe Cert.DwUpIdeal Cert.DwUpIdeal.Gen

variable (m : (ℓ : Loc nD τ sig) → Buf (Elt Ideal) ℓ) (c : Dev nD)

/-- The stored blocks are the sums themselves. -/
theorem at2 (t : Fin cfg0.N) (h : t.val % 16 = 15) (i : S4x1024x704.Idx) :
    (outsAt0 m c t.val t.isLt).1 i = DU (B0 m c) (B1 m c) (side t) (i 0) (i 1) (i 2) := by
  have e := acc_last m c t h i
  rw [outsAt0_C m c t (by omega) h] at e ⊢
  revert e
  frame_out
  simp only [read_unread_whole]
  rw [View.readCov_eq_canon']
  generalize View.canon (Val := Elt Ideal) (s := S4x1024x704) (e := .f32) _ = C
  intro e
  rw [← e]
  show C ((Rect.unit (s := S4x1024x704) ![0, 0, 0] ![4, 1024, 704] inb_S4x1024x704_S4x1024x704_0_0_0).emb i) = C i
  idx_vars i
  blk_ext

/-- The weight gradient, the whole array. -/
theorem final2 (d : Fin 8) (p : Fin 1024) (q : Fin 704) : (dats m 0 c).arrAt 2 cfg0.N (ix3 d p q) =
    DU (B0 m c) (B1 m c) (half d) (place d) p q := by
  have e : (dats m 0 c).arrAt 2 cfg0.N = (fun i : S8x1024x704.Idx => DU (B0 m c) (B1 m c) (half (i 0)) (place (i 0)) (i 1) (i 2)) := by
    refine (dats m 0 c).arrAt_eq_of_covers 2 _ (by decide +kernel) fun t hf y => ?_
    have h : t.val % 16 = 15 := (flush0_2 t).mp hf
    have hl := lt32 t
    blk_simp
    rw [after0_2]
    idx_vars y
    rw [at2 m c t h]
    have e0 : side t = half (((View.whole main_v0).slice (win0_2.rect t)).emb (ix3 y0 y1 y2) 0) := Fin.ext (by
      blk_simp [side, half, idx t]
      show t.val / 16 = (t.val / 16 * 4 + y0.val) / 4
      omega)
    have e1 : y0 = place (((View.whole main_v0).slice (win0_2.rect t)).emb (ix3 y0 y1 y2) 0) := Fin.ext (by
      blk_simp [place, idx t]
      show y0.val = (t.val / 16 * 4 + y0.val) % 4
      omega)
    rw [← e0, ← e1]
    refine congrArg₂ (DU (B0 m c) (B1 m c) (side t) y0) (Fin.ext ?_) (Fin.ext ?_) <;> (
      blk_simp [idx t]
      try omega)
  rw [e]
  rfl

end Cert.Up

end
-- ==== Proof.DwUp.Ref.lean ====
/-
  The reference's result, read at an index: the plain sum of `Spec.lean`.
-/
module

public import proofs.«01_k».proof.Proof.DwUp.Spec
public import proofs.«01_k».proof.Proof.Gen.DwUpRefIdeal.Read

@[expose] public section

set_option maxRecDepth 16384

noncomputable section

namespace Cert.Up

open Idealize.ShloMosaic Cert.DwUpRefIdeal Cert.DwUpRefIdeal.Gen Cert.DwUpRefIdeal.Read

variable (A0 : FVec Ideal Rows .bf16) (A1 : FVec Ideal Parts .bf16)

theorem ref_v10 (d : Fin 8) (p : Fin 1024) (q : Fin 704) : val_main_v10 (F := Ideal) A0 A1 (ix3 d p q) =
    DU A0 A1 (half d) (place d) p q := by
  pointwise [val_main_v10, val_main_v9, val_main_v8, val_main_v7, val_main_v6, val_main_v4, val_main_v2, val_main_v1, val_main_v0, DU, half, place, mul_comm]
  have e1 : (⟨(d.val * 704 + q.val) / 2816, by omega⟩ : Fin 2) = ⟨d.val / 4, by omega⟩ := Fin.ext (by
    show (d.val * 704 + q.val) / 2816 = d.val / 4
    omega)
  have e2 : (⟨(d.val * 704 + q.val) / 704 % 4, by omega⟩ : Fin 4) = ⟨d.val % 4, by omega⟩ := Fin.ext (by
    show (d.val * 704 + q.val) / 704 % 4 = d.val % 4
    omega)
  exact Finset.sum_congr rfl fun l _ => congrArg₂ (fun a b => A0 (ix2 l p) * A1 (ix4 a b l q)) e1 e2

end Cert.Up

end
-- ==== Proof.DwUp.Claims.lean ====
/-
  The up projection's weight gradient: the reference's frame, and that both programs end with the same array.
-/
module

public import proofs.«01_k».proof.Defs
public import proofs.«01_k».proof.Proof.DwUp.Last
public import proofs.«01_k».proof.Proof.DwUp.Ref
public import proofs.«01_k».proof.Proof.Gen.DwUpIdeal.Value
public import proofs.«01_k».proof.Proof.Gen.DwUpRefIdeal
public import Idealize.ShloMosaic.Lib.Quiescent

@[expose] public section

set_option maxRecDepth 16384

noncomputable section

namespace Cert.Up

open Idealize.ShloMosaic Idealize.ShloMosaic.TcCoe Idealize.SL.Sem

/-- The reference runs, its arguments are unchanged and its counters end at zero: it has none. -/
theorem frame_ref : Cert.quiescent_DwUpRefIdeal (hDwUpRefIdeal := Cert.DwUpRefIdeal.Gen.facts) := fun m ρ _ =>
  (θ_run (Cert.DwUpRefIdeal.defs (F := Ideal)) _ _).mono
    (fun r h => ⟨fun c => (h c).2, Idealize.ShloMosaic.sem_eq_zero_of_no_sems (by decide) r.2⟩)
    (Cert.DwUpRefIdeal.Value.run (F := Ideal) m ρ)

section
variable (m : (ℓ : Loc Cert.DwUpIdeal.nD Cert.DwUpIdeal.τ Cert.DwUpIdeal.sig) → Buf (Elt Ideal) ℓ) (c : Dev Cert.DwUpIdeal.nD)
open Cert.DwUpRefIdeal.Read Cert.DwUpIdeal Cert.DwUpIdeal.Gen

/-- The array the kernel leaves is the reference's, of the same arguments. -/
theorem eq2 : (dats m 0 c).arrAt 2 cfg0.N = val_main_v10 (F := Ideal) (B0 m c) (B1 m c) := by
  funext i
  idx_vars i
  exact (final2 m c i0 i1 i2).trans (ref_v10 _ _ i0 i1 i2).symm

end

/-- From equal arguments both programs end with the same array. -/
theorem algebraic : Cert.algebraic_DwUpIdeal_DwUpRefIdeal (hDwUpIdeal := Cert.DwUpIdeal.Gen.facts)
    (hDwUpRefIdeal := Cert.DwUpRefIdeal.Gen.facts) := by
  intro m g m' g' _ ha
  refine ⟨_, Cert.DwUpIdeal.Value.run_blocks (F := Ideal) m g, ?_⟩
  refine (θ_run (Cert.DwUpRefIdeal.defs (F := Ideal)) _ _).mono (fun r h c => ?_) (Cert.DwUpRefIdeal.Value.run (F := Ideal) m' g')
  obtain ⟨h0, hk⟩ := h c
  obtain ⟨a0, a1⟩ := ha c
  rw [a0, a1] at h0
  exact ⟨h0.trans (eq2 m c).symm, hk⟩

end Cert.Up

end
-- ==== Proof.DwIn.Spec.lean ====
/-
  The input projection's weight gradient in plain sums over the extended reals: what both programs are shown to compute.
  Arguments, in the order of the programs: `A0` the normed rows that enter the projection, then the gradient of its result in
  five pieces side by side: `A1`, `A2`, `A3` of the queries, keys and values, `A4` of the convolution's input, `A5` of the gates.
  Device `d` has the columns `512 d … 512 d + 511`.
-/
module

public import Idealize.ShloMosaic.Lib.Pointwise
public import Idealize.ShloMosaic.PureOps.Ideal

@[expose] public section

set_option maxRecDepth 16384

noncomputable section

namespace Cert.In

open Idealize.ShloMosaic

abbrev Rows : Shape := ⟨2, ![8192, 1024]⟩
abbrev Piece : Shape := ⟨2, ![8192, 512]⟩
abbrev Gates : Shape := ⟨2, ![8192, 2048]⟩

variable (A0 : FVec Ideal Rows .bf16) (A1 A2 A3 A4 : FVec Ideal Piece .bf16) (A5 : FVec Ideal Gates .bf16)

/-- The pieces side by side, at a row and a column. -/
def seg (l : Fin 8192) (k : Fin 4096) : EReal :=
  if h : k.val < 512 then A1 (ix2 l ⟨k, h⟩)
  else if h : k.val - 512 < 512 then A2 (ix2 l ⟨k - 512, h⟩)
  else if h : k.val - 512 - 512 < 512 then A3 (ix2 l ⟨k - 512 - 512, h⟩)
  else if h : k.val - 512 - 512 - 512 < 512 then A4 (ix2 l ⟨k - 512 - 512 - 512, h⟩)
  else A5 (ix2 l ⟨k - 512 - 512 - 512 - 512, by omega⟩)

/-- Column `q` of device `d`. -/
def col (d : Fin 8) (q : Fin 512) : Fin 4096 := ⟨d * 512 + q, by omega⟩

/-- The gradient of device `d`'s columns: `hᵀ · d`. -/
def DI (d : Fin 8) (p : Fin 1024) (q : Fin 512) : EReal := ∑ l : Fin 8192, A0 (ix2 l p) * seg A1 A2 A3 A4 A5 l (col d q)

theorem seg_0 (l : Fin 8192) (q : Fin 512) : seg A1 A2 A3 A4 A5 l (col 0 q) = A1 (ix2 l q) := by
  have h : (col 0 q).val < 512 := by show 0 * 512 + q.val < 512; omega
  rw [seg, dif_pos h]
  exact congrArg A1 (congrArg (ix2 l) (Fin.ext (by show 0 * 512 + q.val = q.val; omega)))

theorem seg_1 (l : Fin 8192) (q : Fin 512) : seg A1 A2 A3 A4 A5 l (col 1 q) = A2 (ix2 l q) := by
  have e : (col 1 q).val = 1 * 512 + q.val := rfl
  rw [seg, dif_neg (by omega), dif_pos (by omega)]
  exact congrArg A2 (congrArg (ix2 l) (Fin.ext (by show (col 1 q).val - 512 = q.val; omega)))

theorem seg_2 (l : Fin 8192) (q : Fin 512) : seg A1 A2 A3 A4 A5 l (col 2 q) = A3 (ix2 l q) := by
  have e : (col 2 q).val = 2 * 512 + q.val := rfl
  rw [seg, dif_neg (by omega), dif_neg (by omega), dif_pos (by omega)]
  exact congrArg A3 (congrArg (ix2 l) (Fin.ext (by show (col 2 q).val - 512 - 512 = q.val; omega)))

theorem seg_3 (l : Fin 8192) (q : Fin 512) : seg A1 A2 A3 A4 A5 l (col 3 q) = A4 (ix2 l q) := by
  have e : (col 3 q).val = 3 * 512 + q.val := rfl
  rw [seg, dif_neg (by omega), dif_neg (by omega), dif_neg (by omega), dif_pos (by omega)]
  exact congrArg A4 (congrArg (ix2 l) (Fin.ext (by show (col 3 q).val - 512 - 512 - 512 = q.val; omega)))

/-- From the fifth device on the columns are the gates'. -/
theorem seg_gates (d : Fin 8) (hd : 4 ≤ d.val) (l : Fin 8192) (q : Fin 512) :
    seg A1 A2 A3 A4 A5 l (col d q) = A5 (ix2 l ⟨(d.val - 4) * 512 + q.val, by omega⟩) := by
  have e : (col d q).val = d.val * 512 + q.val := rfl
  rw [seg, dif_neg (by omega), dif_neg (by omega), dif_neg (by omega), dif_neg (by omega)]
  exact congrArg A5 (congrArg (ix2 l) (Fin.ext (by show (col d q).val - 512 - 512 - 512 - 512 = (d.val - 4) * 512 + q.val; omega)))

end Cert.In

end
-- ==== Proof.DwIn.Body.lean ====
/-
  What the kernel's body computes from one block of rows, payload by payload, read at an index: each device's columns have
  what was there plus the block's own product.
-/
module

public import proofs.«01_k».proof.Proof.DwIn.Spec
public import proofs.«01_k».proof.Proof.Gen.DwInIdeal.Skeleton

@[expose] public section

set_option maxRecDepth 16384

noncomputable section

namespace Cert.In

open Idealize.ShloMosaic Cert.DwInIdeal Cert.DwInIdeal.Gen

variable (x : FVec Ideal S512x1024 .bf16) (acc : FVec Ideal S1x1024x512 .f32) (d : FVec Ideal S512x512 .bf16)

/-- The block's product. -/
def bp (p : Fin 1024) (q : Fin 512) : EReal := ∑ r : Fin 512, x (ix2 r p) * d (ix2 r q)

theorem pay6_at (z : Fin 1) (p : Fin 1024) (q : Fin 512) : k0_pay6 (F := Ideal) x acc d (ix3 z p q) = acc (ix3 z p q) + bp x d p q := by
  obtain rfl : z = 0 := Subsingleton.elim _ _
  pointwise [k0_pay6, k0_pay5, k0_pay8, bp]

theorem pay7_at (z : Fin 1) (p : Fin 1024) (q : Fin 512) : k0_pay7 (F := Ideal) x acc d (ix3 z p q) = acc (ix3 z p q) + bp x d p q := by
  obtain rfl : z = 0 := Subsingleton.elim _ _
  pointwise [k0_pay7, k0_pay5, k0_pay8, bp]

theorem pay9_at (z : Fin 1) (p : Fin 1024) (q : Fin 512) : k0_pay9 (F := Ideal) (k0_pay8 x acc d) (ix3 z p q) = acc (ix3 z p q) + bp x d p q := by
  obtain rfl : z = 0 := Subsingleton.elim _ _
  pointwise [k0_pay9, k0_pay5, k0_pay8, bp]

theorem pay10_at (z : Fin 1) (p : Fin 1024) (q : Fin 512) : k0_pay10 (F := Ideal) (k0_pay5 x) acc d (ix3 z p q) = acc (ix3 z p q) + bp x d p q := by
  obtain rfl : z = 0 := Subsingleton.elim _ _
  pointwise [k0_pay10, k0_pay5, k0_pay8, bp]

theorem pay11_at (z : Fin 1) (p : Fin 1024) (q : Fin 512) : k0_pay11 (F := Ideal) (k0_pay5 x) acc d (ix3 z p q) = acc (ix3 z p q) + bp x d p q := by
  obtain rfl : z = 0 := Subsingleton.elim _ _
  pointwise [k0_pay11, k0_pay5, k0_pay8, bp]

theorem pay12_at (z : Fin 1) (p : Fin 1024) (q : Fin 512) : k0_pay12 (F := Ideal) (k0_pay5 x) acc d (ix3 z p q) = acc (ix3 z p q) + bp x d p q := by
  obtain rfl : z = 0 := Subsingleton.elim _ _
  pointwise [k0_pay12, k0_pay5, k0_pay8, bp]

theorem pay1_at (z : Fin 1) (p : Fin 1024) (q : Fin 512) : k0_pay1 (F := Ideal) (k0_pay5 x) acc d (ix3 z p q) = acc (ix3 z p q) + bp x d p q := by
  obtain rfl : z = 0 := Subsingleton.elim _ _
  pointwise [k0_pay1, k0_pay5, k0_pay8, bp]

theorem pay2_at (z : Fin 1) (p : Fin 1024) (q : Fin 512) : k0_pay2 (F := Ideal) (k0_pay5 x) acc d (ix3 z p q) = acc (ix3 z p q) + bp x d p q := by
  obtain rfl : z = 0 := Subsingleton.elim _ _
  pointwise [k0_pay2, k0_pay5, k0_pay8, bp]

theorem pay4_at (i : S8x1024x512.Idx) : k0_pay4 (F := Ideal) i = 0 := by pointwise [k0_pay4]

theorem pay3_at (x : FVec Ideal S8x1024x512 .f32) (i : S8x1024x512.Idx) : k0_pay3 (F := Ideal) x i = x i := by
  idx_vars i
  pointwise [k0_pay3]

end Cert.In

end
-- ==== Proof.DwIn.Point.lean ====
/-
  The blocks a grid point reads, and what one point adds. Point `t` reads the rows `512 t … 512 t + 511`.
-/
module

public import proofs.«01_k».proof.Proof.DwIn.Body
public import proofs.«01_k».proof.Proof.Gen.DwInIdeal.Frame
public import Idealize.ShloMosaic.Lib.Pipeline.ValueKit
public import Idealize.ShloMosaic.Lib.Pipeline.ReadBack

@[expose] public section

set_option maxRecDepth 16384

noncomputable section

namespace Cert.In

open Idealize.ShloMosaic Idealize.ShloMosaic.TcCoe Cert.DwInIdeal Cert.DwInIdeal.Gen

/-- Where each window's block lies at a point. -/
theorem idx : ∀ t : Fin cfg0.N, win0_0.index t = ![t.val % 16, 0] ∧ win0_1.index t = ![t.val % 16, 0] ∧ win0_2.index t = ![t.val % 16, 0]
    ∧ win0_3.index t = ![t.val % 16, 0] ∧ win0_4.index t = ![t.val % 16, 0] ∧ win0_5.index t = ![t.val % 16, 0]
    ∧ win0_6.index t = ![0, 0, 0] := (by decide +kernel : ∀ t : Fin grid0.N, _)

variable (m : (ℓ : Loc nD τ sig) → Buf (Elt Ideal) ℓ) (c : Dev nD) (t : Fin cfg0.N)

/-- The arguments as the launch finds them. -/
abbrev B0 : FVec Ideal Rows .bf16 := m ((c : Thread nD τ).loc main_arg0)
abbrev B1 : FVec Ideal Piece .bf16 := m ((c : Thread nD τ).loc main_arg1)
abbrev B2 : FVec Ideal Piece .bf16 := m ((c : Thread nD τ).loc main_arg2)
abbrev B3 : FVec Ideal Piece .bf16 := m ((c : Thread nD τ).loc main_arg3)
abbrev B4 : FVec Ideal Piece .bf16 := m ((c : Thread nD τ).loc main_arg4)
abbrev B5 : FVec Ideal Gates .bf16 := m ((c : Thread nD τ).loc main_arg5)

/-- Row `r` of the block that a point reads. -/
def row (k : Fin 16) (r : Fin 512) : Fin 8192 := ⟨k * 512 + r, by omega⟩
def step (t : Fin cfg0.N) : Fin 16 := ⟨t.val % 16, by omega⟩

theorem blk_0 (r : Fin 512) (q : Fin 1024) : iblk m c 0 t (ix2 r q) = B0 m c (ix2 (row (step t) r) q) := by
  blk_point [iblk, V, row, step, idx t]

theorem blk_1 (r : Fin 512) (q : Fin 512) : iblk m c 1 t (ix2 r q) = B1 m c (ix2 (row (step t) r) q) := by
  blk_point [iblk, V, row, step, idx t]

theorem blk_2 (r : Fin 512) (q : Fin 512) : iblk m c 2 t (ix2 r q) = B2 m c (ix2 (row (step t) r) q) := by
  blk_point [iblk, V, row, step, idx t]

theorem blk_3 (r : Fin 512) (q : Fin 512) : iblk m c 3 t (ix2 r q) = B3 m c (ix2 (row (step t) r) q) := by
  blk_point [iblk, V, row, step, idx t]

theorem blk_4 (r : Fin 512) (q : Fin 512) : iblk m c 4 t (ix2 r q) = B4 m c (ix2 (row (step t) r) q) := by
  blk_point [iblk, V, row, step, idx t]

theorem blk_5 (r : Fin 512) (q : Fin 2048) : iblk m c 5 t (ix2 r q) = B5 m c (ix2 (row (step t) r) q) := by
  blk_point [iblk, V, row, step, idx t]

/-- What one point adds. -/
def part (t : Fin cfg0.N) (i : S8x1024x512.Idx) : EReal := ∑ r : Fin 512,
  B0 m c (ix2 (row (step t) r) (i 1)) * seg (B1 m c) (B2 m c) (B3 m c) (B4 m c) (B5 m c) (row (step t) r) (col (i 0) (i 2))

/-- The points together add what all rows give. -/
theorem sum_rows (f : Fin 8192 → EReal) : ∑ k : Fin 16, ∑ r : Fin 512, f (row k r) = ∑ l : Fin 8192, f l :=
  Fin.sum_mul_add_congr fun s k hl => rfl

/-- One device's columns: whichever payload they go through, they have what was there plus the point's product. -/
theorem tile (f acc : FVec Ideal S1x1024x512 .f32) (d : FVec Ideal S512x512 .bf16) (j : Fin 8)
    (hf : ∀ (z : Fin 1) (p : Fin 1024) (q : Fin 512), f (ix3 z p q) = acc (ix3 z p q) + bp (iblk m c 0 t) d p q)
    (hd : ∀ r q : Fin 512, d (ix2 r q) = seg (B1 m c) (B2 m c) (B3 m c) (B4 m c) (B5 m c) (row (step t) r) (col j q))
    (x : S1x1024x512.Idx) (i : S8x1024x512.Idx) (h0 : (i 0).val = j.val) (h1 : (i 1).val = (x 1).val) (h2 : (i 2).val = (x 2).val) :
    f x = acc x + part m c t i := by
  idx_vars x
  idx_vars i
  obtain rfl : i0 = j := Fin.ext h0
  obtain rfl : i1 = x1 := Fin.ext h1
  obtain rfl : i2 = x2 := Fin.ext h2
  rw [hf]
  simp only [bp, hd, blk_0, part]
  rfl

theorem ld0 (r q : Fin 512) : iblk m c 1 t (ix2 r q) = seg (B1 m c) (B2 m c) (B3 m c) (B4 m c) (B5 m c) (row (step t) r) (col 0 q) := by
  rw [blk_1, seg_0]

theorem ld1 (r q : Fin 512) : iblk m c 2 t (ix2 r q) = seg (B1 m c) (B2 m c) (B3 m c) (B4 m c) (B5 m c) (row (step t) r) (col 1 q) := by
  rw [blk_2, seg_1]

theorem ld2 (r q : Fin 512) : iblk m c 3 t (ix2 r q) = seg (B1 m c) (B2 m c) (B3 m c) (B4 m c) (B5 m c) (row (step t) r) (col 2 q) := by
  rw [blk_3, seg_2]

theorem ld3 (r q : Fin 512) : iblk m c 4 t (ix2 r q) = seg (B1 m c) (B2 m c) (B3 m c) (B4 m c) (B5 m c) (row (step t) r) (col 3 q) := by
  rw [blk_4, seg_3]

theorem ld4 (r q : Fin 512) : View.ld (iblk m c 5 t) (Rect.unit (s := S512x2048) ![0, 0] ![512, 512] inb_S512x2048_S512x512_0_0) (ix2 r q) =
    seg (B1 m c) (B2 m c) (B3 m c) (B4 m c) (B5 m c) (row (step t) r) (col 4 q) := by
  rw [seg_gates _ _ _ _ _ _ (by decide)]
  have e : View.ld (iblk m c 5 t) (Rect.unit (s := S512x2048) ![0, 0] ![512, 512] inb_S512x2048_S512x512_0_0) (ix2 r q) =
      iblk m c 5 t (ix2 r ⟨0 + q.val, by omega⟩) := by
    pointwise
    blk_ext
  rw [e, blk_5]
  exact congrArg (B5 m c) (congrArg (ix2 _) (Fin.ext (by show 0 + q.val = (4 - 4) * 512 + q.val; omega)))

theorem ld5 (r q : Fin 512) : View.ld (iblk m c 5 t) (Rect.unit (s := S512x2048) ![0, 512] ![512, 512] inb_S512x2048_S512x512_0_512) (ix2 r q) =
    seg (B1 m c) (B2 m c) (B3 m c) (B4 m c) (B5 m c) (row (step t) r) (col 5 q) := by
  rw [seg_gates _ _ _ _ _ _ (by decide)]
  have e : View.ld (iblk m c 5 t) (Rect.unit (s := S512x2048) ![0, 512] ![512, 512] inb_S512x2048_S512x512_0_512) (ix2 r q) =
      iblk m c 5 t (ix2 r ⟨512 + q.val, by omega⟩) := by
    pointwise
    blk_ext
  rw [e, blk_5]
  exact congrArg (B5 m c) (congrArg (ix2 _) (Fin.ext (by show 512 + q.val = (5 - 4) * 512 + q.val; omega)))

theorem ld6 (r q : Fin 512) : View.ld (iblk m c 5 t) (Rect.unit (s := S512x2048) ![0, 1024] ![512, 512] inb_S512x2048_S512x512_0_1024) (ix2 r q) =
    seg (B1 m c) (B2 m c) (B3 m c) (B4 m c) (B5 m c) (row (step t) r) (col 6 q) := by
  rw [seg_gates _ _ _ _ _ _ (by decide)]
  have e : View.ld (iblk m c 5 t) (Rect.unit (s := S512x2048) ![0, 1024] ![512, 512] inb_S512x2048_S512x512_0_1024) (ix2 r q) =
      iblk m c 5 t (ix2 r ⟨1024 + q.val, by omega⟩) := by
    pointwise
    blk_ext
  rw [e, blk_5]
  exact congrArg (B5 m c) (congrArg (ix2 _) (Fin.ext (by show 1024 + q.val = (6 - 4) * 512 + q.val; omega)))

theorem ld7 (r q : Fin 512) : View.ld (iblk m c 5 t) (Rect.unit (s := S512x2048) ![0, 1536] ![512, 512] inb_S512x2048_S512x512_0_1536) (ix2 r q) =
    seg (B1 m c) (B2 m c) (B3 m c) (B4 m c) (B5 m c) (row (step t) r) (col 7 q) := by
  rw [seg_gates _ _ _ _ _ _ (by decide)]
  have e : View.ld (iblk m c 5 t) (Rect.unit (s := S512x2048) ![0, 1536] ![512, 512] inb_S512x2048_S512x512_0_1536) (ix2 r q) =
      iblk m c 5 t (ix2 r ⟨1536 + q.val, by omega⟩) := by
    pointwise
    blk_ext
  rw [e, blk_5]
  exact congrArg (B5 m c) (congrArg (ix2 _) (Fin.ext (by show 1536 + q.val = (7 - 4) * 512 + q.val; omega)))

end Cert.In

end
-- ==== Proof.DwIn.Acc.lean ====
/-
  What the running sums hold at the last point: the sums over all rows.
-/
module

public import proofs.«01_k».proof.Proof.DwIn.Point

@[expose] public section

set_option maxRecDepth 16384

noncomputable section

namespace Cert.In

open Idealize.ShloMosaic Idealize.ShloMosaic.TcCoe Cert.DwInIdeal Cert.DwInIdeal.Gen

variable (m : (ℓ : Loc nD τ sig) → Buf (Elt Ideal) ℓ) (c : Dev nD) (t : Fin cfg0.N)

theorem acc_last (h : t.val % 16 = 15) (i : S8x1024x512.Idx) :
    (outsAt0 m c t.val t.isLt).2 i = DI (B0 m c) (B1 m c) (B2 m c) (B3 m c) (B4 m c) (B5 m c) (i 0) (i 1) (i 2) := by
  rw [Pipeline.eq_sum_fin_of_reset_step_apply_of_flush (fun n h => (outsAt0 m c n h).2) 16 (fun _ => 0) (part m c)
    (fun t h i => by
      rw [outsAt0_A m c t h (by omega)]
      frame_out
      simp (disch := decide) only [↓ View.readCov_skip, ↓ View.readCov_cons_toLoadRect, ↓ View.readCov_fill]
      refine View.canon_append_of_piecesOf (Val := Elt Ideal) (s := S8x1024x512) (e := .f32) (fun i => 0 + part m c t i) [_] [_, _, _, _, _, _, _, _]
        ⟨fun x => ?_, fun x => ?_, fun x => ?_, fun x => ?_, fun x => ?_, fun x => ?_, fun x => ?_, fun x => ?_, trivial⟩ i ?_
      · refine (tile m c t _ _ _ 7 (pay2_at _ _ _) (ld7 m c t) x ((Rect.unit (s := S8x1024x512) ![7, 0, 0] ![1, 1024, 512] inb_S8x1024x512_S1x1024x512_7_0_0).emb x) ?_ ?_ ?_).trans ?_
        · idx_vars x
          blk_simp
          try omega
        · blk_simp
        · blk_simp
        · show k0_pay4 _ + _ = _
          rw [pay4_at]
      · refine (tile m c t _ _ _ 6 (pay1_at _ _ _) (ld6 m c t) x ((Rect.unit (s := S8x1024x512) ![6, 0, 0] ![1, 1024, 512] inb_S8x1024x512_S1x1024x512_6_0_0).emb x) ?_ ?_ ?_).trans ?_
        · idx_vars x
          blk_simp
          try omega
        · blk_simp
        · blk_simp
        · show k0_pay4 _ + _ = _
          rw [pay4_at]
      · refine (tile m c t _ _ _ 5 (pay12_at _ _ _) (ld5 m c t) x ((Rect.unit (s := S8x1024x512) ![5, 0, 0] ![1, 1024, 512] inb_S8x1024x512_S1x1024x512_5_0_0).emb x) ?_ ?_ ?_).trans ?_
        · idx_vars x
          blk_simp
          try omega
        · blk_simp
        · blk_simp
        · show k0_pay4 _ + _ = _
          rw [pay4_at]
      · refine (tile m c t _ _ _ 4 (pay11_at _ _ _) (ld4 m c t) x ((Rect.unit (s := S8x1024x512) ![4, 0, 0] ![1, 1024, 512] inb_S8x1024x512_S1x1024x512_4_0_0).emb x) ?_ ?_ ?_).trans ?_
        · idx_vars x
          blk_simp
          try omega
        · blk_simp
        · blk_simp
        · show k0_pay4 _ + _ = _
          rw [pay4_at]
      · refine (tile m c t _ _ _ 3 (pay10_at _ _ _) (ld3 m c t) x ((Rect.unit (s := S8x1024x512) ![3, 0, 0] ![1, 1024, 512] inb_S8x1024x512_S1x1024x512_3_0_0).emb x) ?_ ?_ ?_).trans ?_
        · idx_vars x
          blk_simp
          try omega
        · blk_simp
        · blk_simp
        · show k0_pay4 _ + _ = _
          rw [pay4_at]
      · refine (tile m c t _ _ _ 2 (pay9_at _ _ _) (ld2 m c t) x ((Rect.unit (s := S8x1024x512) ![2, 0, 0] ![1, 1024, 512] inb_S8x1024x512_S1x1024x512_2_0_0).emb x) ?_ ?_ ?_).trans ?_
        · idx_vars x
          blk_simp
          try omega
        · blk_simp
        · blk_simp
        · show k0_pay4 _ + _ = _
          rw [pay4_at]
      · refine (tile m c t _ _ _ 1 (pay7_at _ _ _) (ld1 m c t) x ((Rect.unit (s := S8x1024x512) ![1, 0, 0] ![1, 1024, 512] inb_S8x1024x512_S1x1024x512_1_0_0).emb x) ?_ ?_ ?_).trans ?_
        · idx_vars x
          blk_simp
          try omega
        · blk_simp
        · blk_simp
        · show k0_pay4 _ + _ = _
          rw [pay4_at]
      · refine (tile m c t _ _ _ 0 (pay6_at _ _ _) (ld0 m c t) x ((Rect.unit (s := S8x1024x512) ![0, 0, 0] ![1, 1024, 512] inb_S8x1024x512_S1x1024x512_0_0_0).emb x) ?_ ?_ ?_).trans ?_
        · idx_vars x
          blk_simp
          try omega
        · blk_simp
        · blk_simp
        · show k0_pay4 _ + _ = _
          rw [pay4_at]
      · exact View.cover_of_tiledBy _ ![1, 1024, 512] (by sl_kernel_rfl) i)
    (fun t h i => by
      by_cases h1 : t.val % 16 = 15
      · rw [outsAt0_C m c t h h1]
        frame_out
        simp only [read_unread_whole]
        idx_vars i
        canon_tiles x hx
        · refine (tile m c t _ _ _ 7 (pay2_at _ _ _) (ld7 m c t) x (ix3 i0 i1 i2) (by omega) hx1 hx2).trans (congrArg (· + _) ?_)
          idx_vars x
          pointwise
          blk_ext
        · refine (tile m c t _ _ _ 6 (pay1_at _ _ _) (ld6 m c t) x (ix3 i0 i1 i2) (by omega) hx1 hx2).trans (congrArg (· + _) ?_)
          idx_vars x
          pointwise
          blk_ext
        · refine (tile m c t _ _ _ 5 (pay12_at _ _ _) (ld5 m c t) x (ix3 i0 i1 i2) (by omega) hx1 hx2).trans (congrArg (· + _) ?_)
          idx_vars x
          pointwise
          blk_ext
        · refine (tile m c t _ _ _ 4 (pay11_at _ _ _) (ld4 m c t) x (ix3 i0 i1 i2) (by omega) hx1 hx2).trans (congrArg (· + _) ?_)
          idx_vars x
          pointwise
          blk_ext
        · refine (tile m c t _ _ _ 3 (pay10_at _ _ _) (ld3 m c t) x (ix3 i0 i1 i2) (by omega) hx1 hx2).trans (congrArg (· + _) ?_)
          idx_vars x
          pointwise
          blk_ext
        · refine (tile m c t _ _ _ 2 (pay9_at _ _ _) (ld2 m c t) x (ix3 i0 i1 i2) (by omega) hx1 hx2).trans (congrArg (· + _) ?_)
          idx_vars x
          pointwise
          blk_ext
        · refine (tile m c t _ _ _ 1 (pay7_at _ _ _) (ld1 m c t) x (ix3 i0 i1 i2) (by omega) hx1 hx2).trans (congrArg (· + _) ?_)
          idx_vars x
          pointwise
          blk_ext
        · refine (tile m c t _ _ _ 0 (pay6_at _ _ _) (ld0 m c t) x (ix3 i0 i1 i2) (by omega) hx1 hx2).trans (congrArg (· + _) ?_)
          idx_vars x
          pointwise
          blk_ext
      · rw [outsAt0_B m c t h h1]
        frame_out
        simp only [read_unread_whole]
        idx_vars i
        canon_tiles x hx
        · refine (tile m c t _ _ _ 7 (pay2_at _ _ _) (ld7 m c t) x (ix3 i0 i1 i2) (by omega) hx1 hx2).trans (congrArg (· + _) ?_)
          idx_vars x
          pointwise
          blk_ext
        · refine (tile m c t _ _ _ 6 (pay1_at _ _ _) (ld6 m c t) x (ix3 i0 i1 i2) (by omega) hx1 hx2).trans (congrArg (· + _) ?_)
          idx_vars x
          pointwise
          blk_ext
        · refine (tile m c t _ _ _ 5 (pay12_at _ _ _) (ld5 m c t) x (ix3 i0 i1 i2) (by omega) hx1 hx2).trans (congrArg (· + _) ?_)
          idx_vars x
          pointwise
          blk_ext
        · refine (tile m c t _ _ _ 4 (pay11_at _ _ _) (ld4 m c t) x (ix3 i0 i1 i2) (by omega) hx1 hx2).trans (congrArg (· + _) ?_)
          idx_vars x
          pointwise
          blk_ext
        · refine (tile m c t _ _ _ 3 (pay10_at _ _ _) (ld3 m c t) x (ix3 i0 i1 i2) (by omega) hx1 hx2).trans (congrArg (· + _) ?_)
          idx_vars x
          pointwise
          blk_ext
        · refine (tile m c t _ _ _ 2 (pay9_at _ _ _) (ld2 m c t) x (ix3 i0 i1 i2) (by omega) hx1 hx2).trans (congrArg (· + _) ?_)
          idx_vars x
          pointwise
          blk_ext
        · refine (tile m c t _ _ _ 1 (pay7_at _ _ _) (ld1 m c t) x (ix3 i0 i1 i2) (by omega) hx1 hx2).trans (congrArg (· + _) ?_)
          idx_vars x
          pointwise
          blk_ext
        · refine (tile m c t _ _ _ 0 (pay6_at _ _ _) (ld0 m c t) x (ix3 i0 i1 i2) (by omega) hx1 hx2).trans (congrArg (· + _) ?_)
          idx_vars x
          pointwise
          blk_ext)
    t h i, zero_add]
  have e : ∀ s : Fin 16, ∀ hs : 16 * (t.val / 16) + s.val < cfg0.N, part m c ⟨16 * (t.val / 16) + s.val, hs⟩ i = ∑ r : Fin 512,
      B0 m c (ix2 (row s r) (i 1)) * seg (B1 m c) (B2 m c) (B3 m c) (B4 m c) (B5 m c) (row s r) (col (i 0) (i 2)) := fun s hs => by
    have e1 : step ⟨16 * (t.val / 16) + s.val, hs⟩ = s := Fin.ext (by show (16 * (t.val / 16) + s.val) % 16 = s.val; omega)
    unfold part
    rw [e1]
  simp only [e]
  exact sum_rows fun l => B0 m c (ix2 l (i 1)) * seg (B1 m c) (B2 m c) (B3 m c) (B4 m c) (B5 m c) l (col (i 0) (i 2))

end Cert.In

end
-- ==== Proof.DwIn.Last.lean ====
/-
  What the last point writes: the weight gradient, by device.
-/
module

public import proofs.«01_k».proof.Proof.DwIn.Acc

@[expose] public section

set_option maxRecDepth 16384

noncomputable section

namespace Cert.In

open Idealize.ShloMosaic Idealize.ShloMosaic.TcCoe Cert.DwInIdeal Cert.DwInIdeal.Gen

variable (m : (ℓ : Loc nD τ sig) → Buf (Elt Ideal) ℓ) (c : Dev nD)

/-- The stored blocks are the sums themselves. -/
theorem at6 (t : Fin cfg0.N) (h : t.val % 16 = 15) (i : S8x1024x512.Idx) :
    (outsAt0 m c t.val t.isLt).1 i = DI (B0 m c) (B1 m c) (B2 m c) (B3 m c) (B4 m c) (B5 m c) (i 0) (i 1) (i 2) := by
  have e := acc_last m c t h i
  rw [outsAt0_C m c t (by omega) h] at e ⊢
  revert e
  frame_out
  simp only [read_unread_whole]
  rw [View.readCov_eq_canon']
  generalize View.canon (Val := Elt Ideal) (s := S8x1024x512) (e := .f32) _ = C
  intro e
  rw [← e]
  show C ((Rect.unit (s := S8x1024x512) ![0, 0, 0] ![8, 1024, 512] inb_S8x1024x512_S8x1024x512_0_0_0).emb i) = C i
  idx_vars i
  blk_ext

/-- The weight gradient, the whole array. -/
theorem final6 (d : Fin 8) (p : Fin 1024) (q : Fin 512) : (dats m 0 c).arrAt 6 cfg0.N (ix3 d p q) =
    DI (B0 m c) (B1 m c) (B2 m c) (B3 m c) (B4 m c) (B5 m c) d p q := by
  have e : (dats m 0 c).arrAt 6 cfg0.N = (fun i : S8x1024x512.Idx => DI (B0 m c) (B1 m c) (B2 m c) (B3 m c) (B4 m c) (B5 m c) (i 0) (i 1) (i 2)) := by
    refine (dats m 0 c).arrAt_eq_of_covers 6 _ (by decide +kernel) fun t hf y => ?_
    have h : t.val % 16 = 15 := (flush0_6 t).mp hf
    blk_simp
    rw [after0_6]
    idx_vars y
    rw [at6 m c t h]
    have e0 : y0 = (((View.whole main_v0).slice (win0_6.rect t)).emb (ix3 y0 y1 y2) 0) := Fin.ext (by
      blk_simp [idx t]
      try omega)
    rw [← e0]
    refine congrArg₂ (DI (B0 m c) (B1 m c) (B2 m c) (B3 m c) (B4 m c) (B5 m c) y0) (Fin.ext ?_) (Fin.ext ?_) <;> (
      blk_simp [idx t]
      try omega)
  rw [e]
  rfl

end Cert.In

end
-- ==== Proof.DwIn.Ref.lean ====
/-
  The reference's result, read at an index: the plain sum of `Spec.lean`.
-/
module

public import proofs.«01_k».proof.Proof.DwIn.Spec
public import proofs.«01_k».proof.Proof.Gen.DwInRefIdeal.Read

@[expose] public section

set_option maxRecDepth 16384

noncomputable section

namespace Cert.In

open Idealize.ShloMosaic Cert.DwInRefIdeal Cert.DwInRefIdeal.Gen Cert.DwInRefIdeal.Read

variable (A0 : FVec Ideal Rows .bf16) (A1 A2 A3 A4 : FVec Ideal Piece .bf16) (A5 : FVec Ideal Gates .bf16)

/-- The pieces joined. -/
theorem ref_v0 (l : Fin 8192) (k : Fin 4096) : val_main_v0 (F := Ideal) A1 A2 A3 A4 A5 (ix2 l k) = seg A1 A2 A3 A4 A5 l k := by
  pointwise [val_main_v0, seg]

theorem ref_v9 (d : Fin 8) (p : Fin 1024) (q : Fin 512) : val_main_v9 (F := Ideal) A0 A1 A2 A3 A4 A5 (ix3 d p q) =
    DI A0 A1 A2 A3 A4 A5 d p q := by
  pointwise [val_main_v9, val_main_v8, val_main_v7, val_main_v6, val_main_v5, val_main_v3, val_main_v1, ref_v0, DI]
  exact Finset.sum_congr rfl fun l _ => mul_comm _ _

end Cert.In

end
-- ==== Proof.DwIn.Claims.lean ====
/-
  The input projection's weight gradient: the reference's frame, and that both programs end with the same array.
-/
module

public import proofs.«01_k».proof.Defs
public import proofs.«01_k».proof.Proof.DwIn.Last
public import proofs.«01_k».proof.Proof.DwIn.Ref
public import proofs.«01_k».proof.Proof.Gen.DwInIdeal.Value
public import proofs.«01_k».proof.Proof.Gen.DwInRefIdeal
public import Idealize.ShloMosaic.Lib.Quiescent

@[expose] public section

set_option maxRecDepth 16384

noncomputable section

namespace Cert.In

open Idealize.ShloMosaic Idealize.ShloMosaic.TcCoe Idealize.SL.Sem

/-- The reference runs, its arguments are unchanged and its counters end at zero: it has none. -/
theorem frame_ref : Cert.quiescent_DwInRefIdeal (hDwInRefIdeal := Cert.DwInRefIdeal.Gen.facts) := fun m ρ _ =>
  (θ_run (Cert.DwInRefIdeal.defs (F := Ideal)) _ _).mono
    (fun r h => ⟨fun c => (h c).2, Idealize.ShloMosaic.sem_eq_zero_of_no_sems (by decide) r.2⟩)
    (Cert.DwInRefIdeal.Value.run (F := Ideal) m ρ)

section
variable (m : (ℓ : Loc Cert.DwInIdeal.nD Cert.DwInIdeal.τ Cert.DwInIdeal.sig) → Buf (Elt Ideal) ℓ) (c : Dev Cert.DwInIdeal.nD)
open Cert.DwInRefIdeal.Read Cert.DwInIdeal Cert.DwInIdeal.Gen

/-- The array the kernel leaves is the reference's, of the same arguments. -/
theorem eq6 : (dats m 0 c).arrAt 6 cfg0.N = val_main_v9 (F := Ideal) (B0 m c) (B1 m c) (B2 m c) (B3 m c) (B4 m c) (B5 m c) := by
  funext i
  idx_vars i
  exact (final6 m c i0 i1 i2).trans (ref_v9 _ _ _ _ _ _ i0 i1 i2).symm

end

/-- From equal arguments both programs end with the same array. -/
theorem algebraic : Cert.algebraic_DwInIdeal_DwInRefIdeal (hDwInIdeal := Cert.DwInIdeal.Gen.facts)
    (hDwInRefIdeal := Cert.DwInRefIdeal.Gen.facts) := by
  intro m g m' g' _ ha
  refine ⟨_, Cert.DwInIdeal.Value.run_blocks (F := Ideal) m g, ?_⟩
  refine (θ_run (Cert.DwInRefIdeal.defs (F := Ideal)) _ _).mono (fun r h c => ?_) (Cert.DwInRefIdeal.Value.run (F := Ideal) m' g')
  obtain ⟨h0, hk⟩ := h c
  obtain ⟨a0, a1, a2, a3, a4, a5⟩ := ha c
  rw [a0, a1, a2, a3, a4, a5] at h0
  exact ⟨h0.trans (eq6 m c).symm, hk⟩

end Cert.In

end
-- ==== Proof.Norm.Algebra.lean ====
/-
  The norm's gradient over the extended reals: the factor `1/√v` is a non-negative real for every positive `v`, the
  infinite one included, so it distributes over sums whatever the rows hold.
-/
module

public import Mathlib.Algebra.BigOperators.Fin
public import Idealize.ShloMosaic.PureOps.Ideal
public import Idealize.ShloMosaic.PureOps.Ideal.Laws

@[expose] public section

noncomputable section

namespace Cert.Norm

open Idealize.ShloMosaic

/-- `1/√v` of a positive `v`. -/
theorem rsqrt_nonneg (v : EReal) (h : 0 < v) : 0 ≤ Ideal.rsqrt v := by
  induction v with
  | bot => simp at h
  | top => simp
  | coe r =>
    have hr : 0 < r := by exact_mod_cast h
    rw [Ideal.rsqrt_coe, if_neg (not_lt.mpr hr.le), if_neg hr.ne']
    exact_mod_cast inv_nonneg.mpr (Real.sqrt_nonneg r)

theorem rsqrt_ne_top (v : EReal) (h : 0 < v) : Ideal.rsqrt v ≠ ⊤ := by
  induction v with
  | bot => simp at h
  | top => simp
  | coe r =>
    have hr : 0 < r := by exact_mod_cast h
    rw [Ideal.rsqrt_coe, if_neg (not_lt.mpr hr.le), if_neg hr.ne']
    exact EReal.coe_ne_top _

/-- `(1/√v)/v` is the third power of `1/√v`. -/
theorem rsqrt_div (v : EReal) (h : 0 < v) : Ideal.div (Ideal.rsqrt v) v = Ideal.rsqrt v * Ideal.rsqrt v * Ideal.rsqrt v := by
  unfold Ideal.div
  rw [if_neg h.ne']
  induction v with
  | bot => simp at h
  | top => simp
  | coe r =>
    have hr : 0 < r := by exact_mod_cast h
    rw [Ideal.rsqrt_coe, if_neg (not_lt.mpr hr.le), if_neg hr.ne', ← EReal.coe_inv, ← EReal.coe_mul, ← EReal.coe_mul, ← EReal.coe_mul]
    congr 1
    have hs : Real.sqrt r * Real.sqrt r = r := Real.mul_self_sqrt hr.le
    rw [mul_assoc, ← mul_inv (Real.sqrt r) (Real.sqrt r), hs]

/-- A non-negative real factor moves into a sum. -/
theorem mul_sum {n : ℕ} (r : EReal) (h : 0 ≤ r) (h' : r ≠ ⊤) (f : Fin n → EReal) : r * ∑ k, f k = ∑ k, r * f k := by
  induction n with
  | zero => simp
  | succ n ih => rw [Fin.sum_univ_succ, Fin.sum_univ_succ, EReal.left_distrib_of_nonneg_of_ne_top h h', ih]

/-- A square is non-negative. -/
theorem sq_nonneg (x : EReal) : 0 ≤ x * x := by
  induction x with
  | bot => simp
  | top => simp
  | coe r => exact_mod_cast mul_self_nonneg r

theorem sum_sq_nonneg {n : ℕ} (x : Fin n → EReal) : 0 ≤ ∑ k, x k * x k := Finset.sum_nonneg fun k _ => sq_nonneg (x k)

/-- Minus a half of a value, twice. -/
theorem neg_halves (b : EReal) : b * ((-1/2 : ℝ) : EReal) + b * ((-1/2 : ℝ) : EReal) = -b := by
  induction b with
  | bot => rw [EReal.bot_mul_coe_of_neg (by norm_num)]; simp
  | top => rw [EReal.top_mul_coe_of_neg (by norm_num)]; simp
  | coe r =>
    rw [← EReal.coe_mul, ← EReal.coe_add, ← EReal.coe_neg]
    congr 1
    ring

/-- Division by a positive real is multiplication by its inverse. -/
theorem div_pos (y : EReal) (d : ℝ) (hd : 0 < d) : Ideal.div y (d : EReal) = y * ((d⁻¹ : ℝ) : EReal) := by
  unfold Ideal.div
  rw [if_neg (by exact_mod_cast hd.ne'), EReal.coe_inv]

/-- The norm's mean square plus a positive real is positive. -/
theorem ms_pos {n : ℕ} (x : Fin n → EReal) (d e : ℝ) (hd : 0 < d) (he : 0 < e) :
    0 < Ideal.div (∑ k, x k * x k) (d : EReal) + (e : EReal) := by
  rw [div_pos _ d hd]
  refine lt_of_lt_of_le (b := (e : EReal)) (by exact_mod_cast he) ?_
  exact le_add_of_nonneg_left (mul_nonneg (sum_sq_nonneg x) (by exact_mod_cast (inv_pos.mpr hd).le))

/-- The norm's gradient: what enters it less its part along the row, scaled at the end, is the sum of the three terms of
the chain rule. -/
theorem dnorm_eq {n : ℕ} (x t : Fin n → EReal) (v : EReal) (hv : 0 < v) (d : ℝ) (hd : 0 < d) (j : Fin n) :
    Ideal.rsqrt v * (t j - x j * Ideal.rsqrt v * Ideal.div (∑ k, t k * (x k * Ideal.rsqrt v)) (d : EReal)) =
    t j * Ideal.rsqrt v +
      (Ideal.div ((∑ k, x k * t k) * (((-1/2 : ℝ) : EReal) * Ideal.div (Ideal.rsqrt v) v)) (d : EReal) * x j +
       Ideal.div ((∑ k, x k * t k) * (((-1/2 : ℝ) : EReal) * Ideal.div (Ideal.rsqrt v) v)) (d : EReal) * x j) := by
  rw [rsqrt_div v hv, div_pos _ d hd, div_pos _ d hd]
  have h0 := rsqrt_nonneg v hv
  have h1 := rsqrt_ne_top v hv
  generalize Ideal.rsqrt v = r at h0 h1 ⊢
  have hs : ∑ k, t k * (x k * r) = r * ∑ k, x k * t k := by
    rw [mul_sum r h0 h1]
    exact Finset.sum_congr rfl fun k _ => by ac_rfl
  rw [hs]
  generalize (∑ k, x k * t k) = s
  rw [sub_eq_add_neg, EReal.left_distrib_of_nonneg_of_ne_top h0 h1, mul_neg, mul_comm r (t j)]
  congr 1
  have e : s * (((-1/2 : ℝ) : EReal) * (r * r * r)) * ((d⁻¹ : ℝ) : EReal) * x j =
      (r * (x j * r * (r * s * ((d⁻¹ : ℝ) : EReal)))) * ((-1/2 : ℝ) : EReal) := by ac_rfl
  rw [e, neg_halves]

end Cert.Norm

end
-- ==== Proof.Norm.Spec.lean ====
/-
  The root mean square norm of a row of 1024 and its gradient over the extended reals, in the form the kernels compute,
  and that the chain rule's three terms add up to it.
-/
module

public import proofs.«01_k».proof.Proof.Norm.Algebra

@[expose] public section

noncomputable section

namespace Cert.Norm

open Idealize.ShloMosaic

/-- A row's mean square plus the norm's small constant. -/
def ms (x : Fin 1024 → EReal) : EReal :=
  Ideal.div (∑ k, x k * x k) (Ideal.ofBits .f32 0x44800000#32) + Ideal.ofBits .f32 0x358637BD#32

/-- The normed row, without the gain. -/
def nrm (x : Fin 1024 → EReal) (j : Fin 1024) : EReal := x j * Ideal.rsqrt (ms x)

/-- The gradient through the norm of what enters it, `t`. -/
def dn (x t : Fin 1024 → EReal) (j : Fin 1024) : EReal :=
  Ideal.rsqrt (ms x) * (t j - nrm x j * Ideal.div (∑ k, t k * nrm x k) (Ideal.ofBits .f32 0x44800000#32))

/-- The chain rule's factor of a row: the gradient through the mean square, divided among the row. -/
def uu (x t : Fin 1024 → EReal) : EReal :=
  Ideal.div ((∑ k, x k * t k) * (Ideal.ofBits .f32 0xBF000000#32 * Ideal.div (Ideal.rsqrt (ms x)) (ms x))) (Ideal.ofBits .f32 0x44800000#32)

/-- The three constants. -/
theorem c_len : Ideal.ofBits .f32 0x44800000#32 = ((1024 : ℝ) : EReal) := by
  simp [Ideal.ofBits, Ideal.ieee, -EReal.coe_mul]
  norm_num

theorem c_half : Ideal.ofBits .f32 0xBF000000#32 = ((-1/2 : ℝ) : EReal) := by
  simp [Ideal.ofBits, Ideal.ieee, -EReal.coe_mul]
  norm_num

theorem c_eps : ∃ e : ℝ, 0 < e ∧ Ideal.ofBits .f32 0x358637BD#32 = (e : EReal) := by
  refine ⟨_, ?_, by simp [Ideal.ofBits, Ideal.ieee, -EReal.coe_mul]; rfl⟩
  positivity

theorem pos (x : Fin 1024 → EReal) : 0 < ms x := by
  obtain ⟨e, he, h⟩ := c_eps
  rw [ms, c_len, h]
  exact ms_pos x 1024 e (by norm_num) he

/-- The three terms. -/
theorem dn_eq (x t : Fin 1024 → EReal) (j : Fin 1024) :
    t j * Ideal.rsqrt (ms x) + (x j * uu x t + uu x t * x j) = dn x t j := by
  rw [mul_comm (x j) (uu x t)]
  unfold uu dn nrm
  rw [c_len, c_half]
  exact (dnorm_eq x t (ms x) (pos x) 1024 (by norm_num) j).symm

/-- The three terms added one by one. -/
theorem dn_eq' (x t : Fin 1024 → EReal) (j : Fin 1024) :
    t j * Ideal.rsqrt (ms x) + x j * uu x t + uu x t * x j = dn x t j := by
  rw [add_assoc, dn_eq]

/-- The three terms added one by one to what is there. -/
theorem dn_add (b : EReal) (x t : Fin 1024 → EReal) (j : Fin 1024) :
    b + t j * Ideal.rsqrt (ms x) + x j * uu x t + uu x t * x j = b + dn x t j := by
  rw [add_assoc, add_assoc, dn_eq]

end Cert.Norm

end
-- ==== Proof.Dh2.Spec.lean ====
/-
  The gradient through the up projection, the norm before it, the residual sum and the norm after the mixing: what both
  programs are shown to compute. Arguments, in the order of the programs: `A0` the gradient of the projection's result and
  `A1` its weights, both by device, `A2` the residual stream before the sum, `A3` the gain of the norm before the projection,
  `A4` the residual stream's gradient from above, `A5` the mixed result and `A6` the gain of its norm.
-/
module

public import proofs.«01_k».proof.Proof.Norm.Spec
public import Idealize.ShloMosaic.Lib.Pointwise
public import Idealize.ShloMosaic.PureOps.Ideal

@[expose] public section

set_option maxRecDepth 16384

noncomputable section

namespace Cert.Dh2

open Idealize.ShloMosaic Cert.Norm

abbrev Rows : Shape := ⟨2, ![8192, 1024]⟩
abbrev Gain : Shape := ⟨2, ![1, 1024]⟩
abbrev Parts : Shape := ⟨4, ![2, 4, 8192, 704]⟩
abbrev Wt : Shape := ⟨3, ![8, 1024, 704]⟩

/-- A device's half, and its place in the half. -/
def half (d : Fin 8) : Fin 2 := ⟨d / 4, by omega⟩
def place (d : Fin 8) : Fin 4 := ⟨d % 4, by omega⟩

variable (A0 : FVec Ideal Parts .bf16) (A1 : FVec Ideal Wt .bf16)
  (A2 : FVec Ideal Rows .f32) (A3 : FVec Ideal Gain .f32) (A4 A5 : FVec Ideal Rows .f32) (A6 : FVec Ideal Gain .f32)

/-- The residual stream after the sum. -/
def X1 (r : Fin 8192) (j : Fin 1024) : EReal := A2 (ix2 r j) + nrm (fun k => A5 (ix2 r k)) j * A6 (ix2 0 j)

/-- The gradient of the projection's argument: a sum over devices of the columns of each. -/
def DH (r : Fin 8192) (j : Fin 1024) : EReal := ∑ d : Fin 8, ∑ q : Fin 704, A0 (ix4 (half d) (place d) r q) * A1 (ix3 d j q)

/-- What enters the norm's gradient. -/
def TT (r : Fin 8192) (j : Fin 1024) : EReal := DH A0 A1 r j * A3 (ix2 0 j)

/-- The gradient of the residual stream. -/
def D1 (r : Fin 8192) (j : Fin 1024) : EReal := A4 (ix2 r j) + dn (X1 A2 A5 A6 r) (TT A0 A1 A3 r) j

/-- The gradient through the norm of the sum's second term. -/
def DM (r : Fin 8192) (j : Fin 1024) : EReal := dn (fun k => A5 (ix2 r k)) (fun k => D1 A0 A1 A2 A3 A4 A5 A6 r k * A6 (ix2 0 k)) j

/-- The two gains' gradients. -/
def DN (j : Fin 1024) : EReal := ∑ l : Fin 8192, DH A0 A1 l j * nrm (X1 A2 A5 A6 l) j
def DG (j : Fin 1024) : EReal := ∑ l : Fin 8192, D1 A0 A1 A2 A3 A4 A5 A6 l j * nrm (fun k => A5 (ix2 l k)) j

end Cert.Dh2

end
-- ==== Proof.Dh2.Body.lean ====
/-
  What the kernel's body computes from one block of rows, payload by payload, read at an index.
-/
module

public import proofs.«01_k».proof.Proof.Dh2.Spec
public import proofs.«01_k».proof.Proof.Gen.MmDh2Ideal.Skeleton

@[expose] public section

set_option maxRecDepth 16384

noncomputable section

namespace Cert.Dh2

open Idealize.ShloMosaic Cert.Norm Cert.MmDh2Ideal Cert.MmDh2Ideal.Gen

variable (x y e : FVec Ideal S512x1024 .f32) (g h : FVec Ideal S1x1024 .f32) (acc : FVec Ideal S1x1024 .f32)

variable (v : FVec Ideal S512x1024 .f32) (d0 d1 d2 d3 d4 d5 d6 d7 : FVec Ideal S1x1x512x704 .bf16) (w0 w1 w2 w3 w4 w5 w6 w7 : FVec Ideal S1x1024x704 .bf16)

/-- One device's part of the projection's gradient. -/
def bd (d : FVec Ideal S1x1x512x704 .bf16) (w : FVec Ideal S1x1024x704 .bf16) (r : Fin 512) (j : Fin 1024) : EReal :=
  ∑ q : Fin 704, d (ix4 0 0 r q) * w (ix3 0 j q)

theorem dh_at (r : Fin 512) (j : Fin 1024) :
    k0_pay9 (F := Ideal) (k0_pay6 d0 w0 d1 w1 d2 w2) (k0_pay7 d3) (k0_pay8 w3) (constant S512x1024 .f32 0x00000000#32) d4 w4 d5 w5 d6 w6 d7 w7 (ix2 r j) =
    bd d0 w0 r j + bd d1 w1 r j + bd d2 w2 r j + bd d3 w3 r j + bd d4 w4 r j + bd d5 w5 r j + bd d6 w6 r j + bd d7 w7 r j := by
  pointwise [k0_pay9, k0_pay8, k0_pay7, k0_pay6, bd]

theorem d1_at (r : Fin 512) (j : Fin 1024) : k0_pay14 (F := Ideal) v x g e (ix2 r j) =
    e (ix2 r j) + dn (fun k => x (ix2 r k)) (fun k => v (ix2 r k) * g (ix2 0 k)) j := by
  pointwise [k0_pay14, k0_pay12, k0_pay11, k0_pay10, dn, nrm, ms]

theorem dm_at (r : Fin 512) (j : Fin 1024) : k0_pay1 (F := Ideal) v h (k0_pay15 y) (k0_pay16 y) (ix2 r j) =
    dn (fun k => y (ix2 r k)) (fun k => v (ix2 r k) * h (ix2 0 k)) j := by
  pointwise [k0_pay1, k0_pay16, k0_pay15, dn, nrm, ms]

theorem accN_at (z : Fin 1) (j : Fin 1024) : k0_pay2 (F := Ideal) (k0_pay13 v x) acc (ix2 z j) =
    acc (ix2 z j) + ∑ r : Fin 512, v (ix2 r j) * nrm (fun k => x (ix2 r k)) j := by
  obtain rfl : z = 0 := Subsingleton.elim _ _
  pointwise [k0_pay2, k0_pay13, k0_pay12, k0_pay11, k0_pay10, nrm, ms]

theorem accG_at (z : Fin 1) (j : Fin 1024) : k0_pay3 (F := Ideal) (k0_pay17 v x g e y) acc (ix2 z j) =
    acc (ix2 z j) + ∑ r : Fin 512, k0_pay14 v x g e (ix2 r j) * nrm (fun k => y (ix2 r k)) j := by
  obtain rfl : z = 0 := Subsingleton.elim _ _
  pointwise [k0_pay3, k0_pay17, k0_pay16, k0_pay15, nrm, ms]

theorem zeroN (i : S1x1024.Idx) : k0_pay4 (F := Ideal) i = 0 := by pointwise [k0_pay4]
theorem zeroG (i : S1x1024.Idx) : k0_pay5 (F := Ideal) i = 0 := by pointwise [k0_pay5]

end Cert.Dh2

end
-- ==== Proof.Dh2.Saved.lean ====
/-
  The residual stream, which the host computes before the launch, read at an index.
-/
module

public import proofs.«01_k».proof.Proof.Dh2.Spec
public import proofs.«01_k».proof.Proof.Gen.MmDh2Ideal.Frame.Runs
public import Idealize.ShloMosaic.Lib.Claim

@[expose] public section

set_option maxRecDepth 16384

noncomputable section

namespace Cert.Dh2

open Idealize.ShloMosaic Idealize.ShloMosaic.TcCoe Cert.Norm Cert.MmDh2Ideal Cert.MmDh2Ideal.Gen

variable (m : (ℓ : Loc nD τ sig) → Buf (Elt Ideal) ℓ) (c : Dev nD)

/-- The arguments as the launch finds them. -/
abbrev B0 : FVec Ideal Parts .bf16 := m ((c : Thread nD τ).loc main_arg0)
abbrev B1 : FVec Ideal Wt .bf16 := m ((c : Thread nD τ).loc main_arg1)
abbrev B2 : FVec Ideal Rows .f32 := m ((c : Thread nD τ).loc main_arg2)
abbrev B3 : FVec Ideal Gain .f32 := m ((c : Thread nD τ).loc main_arg3)
abbrev B4 : FVec Ideal Rows .f32 := m ((c : Thread nD τ).loc main_arg4)
abbrev B5 : FVec Ideal Rows .f32 := m ((c : Thread nD τ).loc main_arg5)
abbrev B6 : FVec Ideal Gain .f32 := m ((c : Thread nD τ).loc main_arg6)

theorem saved_x1 (r : Fin 8192) (j : Fin 1024) : V m c main_v12 (ix2 r j) = X1 (B2 m c) (B5 m c) (B6 m c) r j := by
  entry_read
  pointwise [X1, nrm, ms]

end Cert.Dh2

end
-- ==== Proof.Dh2.Point.lean ====
/-
  The blocks a grid point reads, as rows of the arrays: point `t` reads rows `512 t … 512 t + 511`. Then what the body
  computes of them.
-/
module

public import proofs.«01_k».proof.Proof.Dh2.Body
public import proofs.«01_k».proof.Proof.Dh2.Saved
public import proofs.«01_k».proof.Proof.Gen.MmDh2Ideal.Frame
public import Idealize.ShloMosaic.Lib.Pipeline.ValueKit

@[expose] public section

set_option maxRecDepth 16384

noncomputable section

namespace Cert.Dh2

open Idealize.ShloMosaic Idealize.ShloMosaic.TcCoe Cert.Norm Cert.MmDh2Ideal Cert.MmDh2Ideal.Gen

/-- Where each window's block lies at a point. -/
theorem idx : ∀ t : Fin cfg0.N, win0_0.index t = ![0, 0, t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] ∧ win0_10.index t = ![0, 0] :=
  (by decide +kernel : ∀ t : Fin grid0.N, _)

variable (m : (ℓ : Loc nD τ sig) → Buf (Elt Ideal) ℓ) (c : Dev nD) (t : Fin cfg0.N)

theorem lt16 : t.val < 16 := t.isLt

/-- Row `r` of point `t`'s block. -/
def row (t : Fin cfg0.N) (r : Fin 512) : Fin 8192 := ⟨t.val * 512 + r, by have := lt16 t; omega⟩

theorem blk_d (h : Fin 2) (p : Fin 4) (r : Fin 512) (q : Fin 704) : iblk m c 0 t (ix4 h p r q) = B0 m c (ix4 h p (row t r) q) := by
  blk_point [iblk, V, row, idx t]

theorem blk_w (d : Fin 8) (j : Fin 1024) (q : Fin 704) : iblk m c 1 t (ix3 d j q) = B1 m c (ix3 d j q) := by
  blk_point [iblk, V, row, idx t]

theorem blk_x (r : Fin 512) (j : Fin 1024) : iblk m c 2 t (ix2 r j) = X1 (B2 m c) (B5 m c) (B6 m c) (row t r) j := by
  rw [← saved_x1]
  blk_point [iblk, V, row, idx t]

theorem blk_n (j : Fin 1024) : iblk m c 3 t (ix2 0 j) = B3 m c (ix2 0 j) := by
  blk_point [iblk, V, row, idx t]

theorem blk_e (r : Fin 512) (j : Fin 1024) : iblk m c 4 t (ix2 r j) = B4 m c (ix2 (row t r) j) := by
  blk_point [iblk, V, row, idx t]

theorem blk_y (r : Fin 512) (j : Fin 1024) : iblk m c 5 t (ix2 r j) = B5 m c (ix2 (row t r) j) := by
  blk_point [iblk, V, row, idx t]

theorem blk_g (j : Fin 1024) : iblk m c 6 t (ix2 0 j) = B6 m c (ix2 0 j) := by
  blk_point [iblk, V, row, idx t]

theorem ldd0 (r : Fin 512) (q : Fin 704) : View.ld (iblk m c 0 t) (Rect.unit (s := S2x4x512x704) ![0, 0, 0, 0] ![1, 1, 512, 704] inb_S2x4x512x704_S1x1x512x704_0_0_0_0) (ix4 0 0 r q) =
    B0 m c (ix4 (half 0) (place 0) (row t r) q) := by
  refine Eq.trans (b := iblk m c 0 t (ix4 0 0 r q)) ?_ (blk_d m c t 0 0 r q)
  pointwise
  blk_ext
theorem ldw0 (j : Fin 1024) (q : Fin 704) : View.ld (iblk m c 1 t) (Rect.unit (s := S8x1024x704) ![0, 0, 0] ![1, 1024, 704] inb_S8x1024x704_S1x1024x704_0_0_0) (ix3 0 j q) =
    B1 m c (ix3 0 j q) := by
  rw [← blk_w m c t]
  pointwise
  blk_ext
theorem ldd1 (r : Fin 512) (q : Fin 704) : View.ld (iblk m c 0 t) (Rect.unit (s := S2x4x512x704) ![0, 1, 0, 0] ![1, 1, 512, 704] inb_S2x4x512x704_S1x1x512x704_0_1_0_0) (ix4 0 0 r q) =
    B0 m c (ix4 (half 1) (place 1) (row t r) q) := by
  refine Eq.trans (b := iblk m c 0 t (ix4 0 1 r q)) ?_ (blk_d m c t 0 1 r q)
  pointwise
  blk_ext
theorem ldw1 (j : Fin 1024) (q : Fin 704) : View.ld (iblk m c 1 t) (Rect.unit (s := S8x1024x704) ![1, 0, 0] ![1, 1024, 704] inb_S8x1024x704_S1x1024x704_1_0_0) (ix3 0 j q) =
    B1 m c (ix3 1 j q) := by
  rw [← blk_w m c t]
  pointwise
  blk_ext
theorem ldd2 (r : Fin 512) (q : Fin 704) : View.ld (iblk m c 0 t) (Rect.unit (s := S2x4x512x704) ![0, 2, 0, 0] ![1, 1, 512, 704] inb_S2x4x512x704_S1x1x512x704_0_2_0_0) (ix4 0 0 r q) =
    B0 m c (ix4 (half 2) (place 2) (row t r) q) := by
  refine Eq.trans (b := iblk m c 0 t (ix4 0 2 r q)) ?_ (blk_d m c t 0 2 r q)
  pointwise
  blk_ext
theorem ldw2 (j : Fin 1024) (q : Fin 704) : View.ld (iblk m c 1 t) (Rect.unit (s := S8x1024x704) ![2, 0, 0] ![1, 1024, 704] inb_S8x1024x704_S1x1024x704_2_0_0) (ix3 0 j q) =
    B1 m c (ix3 2 j q) := by
  rw [← blk_w m c t]
  pointwise
  blk_ext
theorem ldd3 (r : Fin 512) (q : Fin 704) : View.ld (iblk m c 0 t) (Rect.unit (s := S2x4x512x704) ![0, 3, 0, 0] ![1, 1, 512, 704] inb_S2x4x512x704_S1x1x512x704_0_3_0_0) (ix4 0 0 r q) =
    B0 m c (ix4 (half 3) (place 3) (row t r) q) := by
  refine Eq.trans (b := iblk m c 0 t (ix4 0 3 r q)) ?_ (blk_d m c t 0 3 r q)
  pointwise
  blk_ext
theorem ldw3 (j : Fin 1024) (q : Fin 704) : View.ld (iblk m c 1 t) (Rect.unit (s := S8x1024x704) ![3, 0, 0] ![1, 1024, 704] inb_S8x1024x704_S1x1024x704_3_0_0) (ix3 0 j q) =
    B1 m c (ix3 3 j q) := by
  rw [← blk_w m c t]
  pointwise
  blk_ext
theorem ldd4 (r : Fin 512) (q : Fin 704) : View.ld (iblk m c 0 t) (Rect.unit (s := S2x4x512x704) ![1, 0, 0, 0] ![1, 1, 512, 704] inb_S2x4x512x704_S1x1x512x704_1_0_0_0) (ix4 0 0 r q) =
    B0 m c (ix4 (half 4) (place 4) (row t r) q) := by
  refine Eq.trans (b := iblk m c 0 t (ix4 1 0 r q)) ?_ (blk_d m c t 1 0 r q)
  pointwise
  blk_ext
theorem ldw4 (j : Fin 1024) (q : Fin 704) : View.ld (iblk m c 1 t) (Rect.unit (s := S8x1024x704) ![4, 0, 0] ![1, 1024, 704] inb_S8x1024x704_S1x1024x704_4_0_0) (ix3 0 j q) =
    B1 m c (ix3 4 j q) := by
  rw [← blk_w m c t]
  pointwise
  blk_ext
theorem ldd5 (r : Fin 512) (q : Fin 704) : View.ld (iblk m c 0 t) (Rect.unit (s := S2x4x512x704) ![1, 1, 0, 0] ![1, 1, 512, 704] inb_S2x4x512x704_S1x1x512x704_1_1_0_0) (ix4 0 0 r q) =
    B0 m c (ix4 (half 5) (place 5) (row t r) q) := by
  refine Eq.trans (b := iblk m c 0 t (ix4 1 1 r q)) ?_ (blk_d m c t 1 1 r q)
  pointwise
  blk_ext
theorem ldw5 (j : Fin 1024) (q : Fin 704) : View.ld (iblk m c 1 t) (Rect.unit (s := S8x1024x704) ![5, 0, 0] ![1, 1024, 704] inb_S8x1024x704_S1x1024x704_5_0_0) (ix3 0 j q) =
    B1 m c (ix3 5 j q) := by
  rw [← blk_w m c t]
  pointwise
  blk_ext
theorem ldd6 (r : Fin 512) (q : Fin 704) : View.ld (iblk m c 0 t) (Rect.unit (s := S2x4x512x704) ![1, 2, 0, 0] ![1, 1, 512, 704] inb_S2x4x512x704_S1x1x512x704_1_2_0_0) (ix4 0 0 r q) =
    B0 m c (ix4 (half 6) (place 6) (row t r) q) := by
  refine Eq.trans (b := iblk m c 0 t (ix4 1 2 r q)) ?_ (blk_d m c t 1 2 r q)
  pointwise
  blk_ext
theorem ldw6 (j : Fin 1024) (q : Fin 704) : View.ld (iblk m c 1 t) (Rect.unit (s := S8x1024x704) ![6, 0, 0] ![1, 1024, 704] inb_S8x1024x704_S1x1024x704_6_0_0) (ix3 0 j q) =
    B1 m c (ix3 6 j q) := by
  rw [← blk_w m c t]
  pointwise
  blk_ext
theorem ldd7 (r : Fin 512) (q : Fin 704) : View.ld (iblk m c 0 t) (Rect.unit (s := S2x4x512x704) ![1, 3, 0, 0] ![1, 1, 512, 704] inb_S2x4x512x704_S1x1x512x704_1_3_0_0) (ix4 0 0 r q) =
    B0 m c (ix4 (half 7) (place 7) (row t r) q) := by
  refine Eq.trans (b := iblk m c 0 t (ix4 1 3 r q)) ?_ (blk_d m c t 1 3 r q)
  pointwise
  blk_ext
theorem ldw7 (j : Fin 1024) (q : Fin 704) : View.ld (iblk m c 1 t) (Rect.unit (s := S8x1024x704) ![7, 0, 0] ![1, 1024, 704] inb_S8x1024x704_S1x1024x704_7_0_0) (ix3 0 j q) =
    B1 m c (ix3 7 j q) := by
  rw [← blk_w m c t]
  pointwise
  blk_ext

/-- The gradient of the projection's argument, a block. -/
abbrev dhK : FVec Ideal S512x1024 .f32 := k0_pay9 (F := Ideal) (k0_pay6 (View.ld (iblk m c 0 t) (Rect.unit (s := S2x4x512x704) ![0, 0, 0, 0] ![1, 1, 512, 704] inb_S2x4x512x704_S1x1x512x704_0_0_0_0)) (View.ld (iblk m c 1 t) (Rect.unit (s := S8x1024x704) ![0, 0, 0] ![1, 1024, 704] inb_S8x1024x704_S1x1024x704_0_0_0)) (View.ld (iblk m c 0 t) (Rect.unit (s := S2x4x512x704) ![0, 1, 0, 0] ![1, 1, 512, 704] inb_S2x4x512x704_S1x1x512x704_0_1_0_0)) (View.ld (iblk m c 1 t) (Rect.unit (s := S8x1024x704) ![1, 0, 0] ![1, 1024, 704] inb_S8x1024x704_S1x1024x704_1_0_0)) (View.ld (iblk m c 0 t) (Rect.unit (s := S2x4x512x704) ![0, 2, 0, 0] ![1, 1, 512, 704] inb_S2x4x512x704_S1x1x512x704_0_2_0_0)) (View.ld (iblk m c 1 t) (Rect.unit (s := S8x1024x704) ![2, 0, 0] ![1, 1024, 704] inb_S8x1024x704_S1x1024x704_2_0_0))) (k0_pay7 (View.ld (iblk m c 0 t) (Rect.unit (s := S2x4x512x704) ![0, 3, 0, 0] ![1, 1, 512, 704] inb_S2x4x512x704_S1x1x512x704_0_3_0_0))) (k0_pay8 (View.ld (iblk m c 1 t) (Rect.unit (s := S8x1024x704) ![3, 0, 0] ![1, 1024, 704] inb_S8x1024x704_S1x1024x704_3_0_0))) (constant S512x1024 .f32 0x00000000#32) (View.ld (iblk m c 0 t) (Rect.unit (s := S2x4x512x704) ![1, 0, 0, 0] ![1, 1, 512, 704] inb_S2x4x512x704_S1x1x512x704_1_0_0_0)) (View.ld (iblk m c 1 t) (Rect.unit (s := S8x1024x704) ![4, 0, 0] ![1, 1024, 704] inb_S8x1024x704_S1x1024x704_4_0_0)) (View.ld (iblk m c 0 t) (Rect.unit (s := S2x4x512x704) ![1, 1, 0, 0] ![1, 1, 512, 704] inb_S2x4x512x704_S1x1x512x704_1_1_0_0)) (View.ld (iblk m c 1 t) (Rect.unit (s := S8x1024x704) ![5, 0, 0] ![1, 1024, 704] inb_S8x1024x704_S1x1024x704_5_0_0)) (View.ld (iblk m c 0 t) (Rect.unit (s := S2x4x512x704) ![1, 2, 0, 0] ![1, 1, 512, 704] inb_S2x4x512x704_S1x1x512x704_1_2_0_0)) (View.ld (iblk m c 1 t) (Rect.unit (s := S8x1024x704) ![6, 0, 0] ![1, 1024, 704] inb_S8x1024x704_S1x1024x704_6_0_0)) (View.ld (iblk m c 0 t) (Rect.unit (s := S2x4x512x704) ![1, 3, 0, 0] ![1, 1, 512, 704] inb_S2x4x512x704_S1x1x512x704_1_3_0_0)) (View.ld (iblk m c 1 t) (Rect.unit (s := S8x1024x704) ![7, 0, 0] ![1, 1024, 704] inb_S8x1024x704_S1x1024x704_7_0_0))

theorem dhK_at (r : Fin 512) (j : Fin 1024) : dhK m c t (ix2 r j) = DH (B0 m c) (B1 m c) (row t r) j := by
  rw [dhK, dh_at, DH, Fin.sum_univ_eight]
  simp only [bd, ldd0, ldw0, ldd1, ldw1, ldd2, ldw2, ldd3, ldw3, ldd4, ldw4, ldd5, ldw5, ldd6, ldw6, ldd7, ldw7]

/-- The residual stream's gradient, a block. -/
abbrev d1K : FVec Ideal S512x1024 .f32 := k0_pay14 (F := Ideal) (dhK m c t) (iblk m c 2 t) (iblk m c 3 t) (iblk m c 4 t)

theorem d1K_at (r : Fin 512) (j : Fin 1024) : d1K m c t (ix2 r j) = D1 (B0 m c) (B1 m c) (B2 m c) (B3 m c) (B4 m c) (B5 m c) (B6 m c) (row t r) j := by
  rw [d1K, d1_at]
  simp only [blk_x, blk_n, blk_e, dhK_at, D1]
  rfl

/-- The gradient through the second term's norm, a block. -/
abbrev dmK : FVec Ideal S512x1024 .bf16 := k0_pay1 (F := Ideal) (d1K m c t) (iblk m c 6 t) (k0_pay15 (iblk m c 5 t)) (k0_pay16 (iblk m c 5 t))

theorem dmK_at (r : Fin 512) (j : Fin 1024) : dmK m c t (ix2 r j) = DM (B0 m c) (B1 m c) (B2 m c) (B3 m c) (B4 m c) (B5 m c) (B6 m c) (row t r) j := by
  rw [dmK, dm_at]
  have e : ∀ k : Fin 1024, k0_pay14 (F := Ideal) (dhK m c t) (iblk m c 2 t) (iblk m c 3 t) (iblk m c 4 t) (ix2 r k) = D1 (B0 m c) (B1 m c) (B2 m c) (B3 m c) (B4 m c) (B5 m c) (B6 m c) (row t r) k := d1K_at m c t r
  simp only [blk_y, blk_g, e, DM]

/-- One point's shares of the two gains' gradients. -/
def partN (t : Fin cfg0.N) (i : S1x1024.Idx) : EReal := ∑ r : Fin 512, DH (B0 m c) (B1 m c) (row t r) (i 1) * nrm (X1 (B2 m c) (B5 m c) (B6 m c) (row t r)) (i 1)

def partG (t : Fin cfg0.N) (i : S1x1024.Idx) : EReal := ∑ r : Fin 512, D1 (B0 m c) (B1 m c) (B2 m c) (B3 m c) (B4 m c) (B5 m c) (B6 m c) (row t r) (i 1) * nrm (fun k => (B5 m c) (ix2 (row t r) k)) (i 1)

theorem accN_step (acc : FVec Ideal S1x1024 .f32) (i : S1x1024.Idx) : k0_pay2 (F := Ideal) (k0_pay13 (dhK m c t) (iblk m c 2 t)) acc i = acc i + partN m c t i := by
  idx_vars i
  rw [accN_at]
  simp only [dhK_at, blk_x, partN]
  rfl

theorem accG_step (acc : FVec Ideal S1x1024 .f32) (i : S1x1024.Idx) : k0_pay3 (F := Ideal) (k0_pay17 (dhK m c t) (iblk m c 2 t) (iblk m c 3 t) (iblk m c 4 t) (iblk m c 5 t)) acc i = acc i + partG m c t i := by
  idx_vars i
  rw [accG_at]
  have e : ∀ (r : Fin 512) (k : Fin 1024), k0_pay14 (F := Ideal) (dhK m c t) (iblk m c 2 t) (iblk m c 3 t) (iblk m c 4 t) (ix2 r k) = D1 (B0 m c) (B1 m c) (B2 m c) (B3 m c) (B4 m c) (B5 m c) (B6 m c) (row t r) k := d1K_at m c t
  simp only [blk_y, e, partG]
  rfl

end Cert.Dh2

end
-- ==== Proof.Dh2.Rows.lean ====
/-
  The two results written block by block.
-/
module

public import proofs.«01_k».proof.Proof.Dh2.Point
public import Idealize.ShloMosaic.Lib.Pipeline.ReadBack

@[expose] public section

set_option maxRecDepth 16384

noncomputable section

namespace Cert.Dh2

open Idealize.ShloMosaic Idealize.ShloMosaic.TcCoe Cert.Norm Cert.MmDh2Ideal Cert.MmDh2Ideal.Gen

variable (m : (ℓ : Loc nD τ sig) → Buf (Elt Ideal) ℓ) (c : Dev nD)

/-- The residual stream's gradient, a block and the whole array. -/
theorem at1 (t : Fin cfg0.N) (r : Fin 512) (j : Fin 1024) : (outsAt0 m c t.val t.isLt).1 (ix2 r j) = D1 (B0 m c) (B1 m c) (B2 m c) (B3 m c) (B4 m c) (B5 m c) (B6 m c) (row t r) j := by
  by_cases h0 : t.val % 16 = 0
  · rw [outsAt0_A m c t h0]
    frame_out
    exact d1K_at m c t r j
  · rw [outsAt0_B m c t h0]
    frame_out
    exact d1K_at m c t r j

theorem final1 (r : Fin 8192) (j : Fin 1024) : (dats m 0 c).arrAt 7 cfg0.N (ix2 r j) = D1 (B0 m c) (B1 m c) (B2 m c) (B3 m c) (B4 m c) (B5 m c) (B6 m c) r j := by
  have e : (dats m 0 c).arrAt 7 cfg0.N = (fun i : S8192x1024.Idx => D1 (B0 m c) (B1 m c) (B2 m c) (B3 m c) (B4 m c) (B5 m c) (B6 m c) (i 0) (i 1)) := by
    refine (dats m 0 c).arrAt_eq_of_covers 7 _ (by decide +kernel) fun t hf y => ?_
    blk_simp
    rw [after0_7]
    idx_vars y
    rw [at1]
    refine congrArg₂ (D1 (B0 m c) (B1 m c) (B2 m c) (B3 m c) (B4 m c) (B5 m c) (B6 m c)) (Fin.ext ?_) (Fin.ext ?_) <;> (
      blk_simp [row, idx t]
      try omega)
  rw [e]
  rfl

/-- The second term's gradient, a block and the whole array. -/
theorem atM (t : Fin cfg0.N) (r : Fin 512) (j : Fin 1024) : (outsAt0 m c t.val t.isLt).2.1 (ix2 r j) = DM (B0 m c) (B1 m c) (B2 m c) (B3 m c) (B4 m c) (B5 m c) (B6 m c) (row t r) j := by
  by_cases h0 : t.val % 16 = 0
  · rw [outsAt0_A m c t h0]
    frame_out
    exact dmK_at m c t r j
  · rw [outsAt0_B m c t h0]
    frame_out
    exact dmK_at m c t r j

theorem finalM (r : Fin 8192) (j : Fin 1024) : (dats m 0 c).arrAt 8 cfg0.N (ix2 r j) = DM (B0 m c) (B1 m c) (B2 m c) (B3 m c) (B4 m c) (B5 m c) (B6 m c) r j := by
  have e : (dats m 0 c).arrAt 8 cfg0.N = (fun i : S8192x1024.Idx => DM (B0 m c) (B1 m c) (B2 m c) (B3 m c) (B4 m c) (B5 m c) (B6 m c) (i 0) (i 1)) := by
    refine (dats m 0 c).arrAt_eq_of_covers 8 _ (by decide +kernel) fun t hf y => ?_
    blk_simp
    rw [after0_8]
    idx_vars y
    rw [atM]
    refine congrArg₂ (DM (B0 m c) (B1 m c) (B2 m c) (B3 m c) (B4 m c) (B5 m c) (B6 m c)) (Fin.ext ?_) (Fin.ext ?_) <;> (
      blk_simp [row, idx t]
      try omega)
  rw [e]
  rfl

end Cert.Dh2

end
-- ==== Proof.Dh2.Sums.lean ====
/-
  What is added up over the grid's 16 points: the two gains' gradients, each after the last point a sum over all 8192 rows.
-/
module

public import proofs.«01_k».proof.Proof.Dh2.Point
public import Idealize.ShloMosaic.Lib.Pipeline.ReadBack

@[expose] public section

set_option maxRecDepth 16384

noncomputable section

namespace Cert.Dh2

open Idealize.ShloMosaic Idealize.ShloMosaic.TcCoe Cert.Norm Cert.MmDh2Ideal Cert.MmDh2Ideal.Gen

variable (m : (ℓ : Loc nD τ sig) → Buf (Elt Ideal) ℓ) (c : Dev nD)

/-- A sum over points and the rows of each is a sum over all rows. -/
theorem sum_rows (f : Fin 8192 → EReal) : ∑ t : Fin cfg0.N, ∑ r : Fin 512, f (row t r) = ∑ l : Fin 8192, f l := by
  show ∑ t : Fin 16, ∑ r : Fin 512, f (row t r) = ∑ l : Fin 8192, f l
  exact Fin.sum_mul_add_congr fun s k hl => rfl

theorem accN_last (t : Fin cfg0.N) (ht : t.val + 1 = cfg0.N) (z : Fin 1) (j : Fin 1024) : (outsAt0 m c t.val t.isLt).2.2.1 (ix2 z j) = DN (B0 m c) (B1 m c) (B2 m c) (B5 m c) (B6 m c) j := by
  rw [Pipeline.eq_sum_fin_of_reset_step_apply_last (fun n h => (outsAt0 m c n h).2.2.1) 16 (fun _ => 0) (partN m c)
    (fun t h i => by
      rw [outsAt0_A m c t h]
      frame_out
      refine (accN_step m c t _ i).trans ?_
      rw [zeroN])
    (fun t h i => by
      rw [outsAt0_B m c t h]
      frame_out
      refine (accN_step m c t _ i).trans ?_
      try rw [read_unread_whole]
      rfl)
    (le_of_eq N_0) t ht (ix2 z j), zero_add]
  exact sum_rows fun l => DH (B0 m c) (B1 m c) l j * nrm (X1 (B2 m c) (B5 m c) (B6 m c) l) j

theorem accG_last (t : Fin cfg0.N) (ht : t.val + 1 = cfg0.N) (z : Fin 1) (j : Fin 1024) : (outsAt0 m c t.val t.isLt).2.2.2 (ix2 z j) = DG (B0 m c) (B1 m c) (B2 m c) (B3 m c) (B4 m c) (B5 m c) (B6 m c) j := by
  rw [Pipeline.eq_sum_fin_of_reset_step_apply_last (fun n h => (outsAt0 m c n h).2.2.2) 16 (fun _ => 0) (partG m c)
    (fun t h i => by
      rw [outsAt0_A m c t h]
      frame_out
      refine (accG_step m c t _ i).trans ?_
      rw [zeroG])
    (fun t h i => by
      rw [outsAt0_B m c t h]
      frame_out
      refine (accG_step m c t _ i).trans ?_
      try rw [read_unread_whole]
      rfl)
    (le_of_eq N_0) t ht (ix2 z j), zero_add]
  exact sum_rows fun l => D1 (B0 m c) (B1 m c) (B2 m c) (B3 m c) (B4 m c) (B5 m c) (B6 m c) l j * nrm (fun k => (B5 m c) (ix2 l k)) j

theorem finalN (z : Fin 1) (j : Fin 1024) : (dats m 0 c).arrAt 9 cfg0.N (ix2 z j) = DN (B0 m c) (B1 m c) (B2 m c) (B5 m c) (B6 m c) j := by
  have e : (dats m 0 c).arrAt 9 cfg0.N = (fun i : S1x1024.Idx => DN (B0 m c) (B1 m c) (B2 m c) (B5 m c) (B6 m c) (i 1)) := by
    refine (dats m 0 c).arrAt_eq_of_covers 9 _ (by decide +kernel) fun t hf y => ?_
    have h : t.val % 16 = 15 := (flush0_9 t).mp hf
    have hl := lt16 t
    have ht : t.val + 1 = cfg0.N := by rw [show cfg0.N = 16 from N_0]; omega
    blk_simp
    rw [after0_9]
    idx_vars y
    rw [accN_last m c t ht]
    refine congrArg (DN (B0 m c) (B1 m c) (B2 m c) (B5 m c) (B6 m c)) (Fin.ext ?_)
    blk_simp [idx t]
    try omega
  rw [e]
  rfl

theorem finalG (z : Fin 1) (j : Fin 1024) : (dats m 0 c).arrAt 10 cfg0.N (ix2 z j) = DG (B0 m c) (B1 m c) (B2 m c) (B3 m c) (B4 m c) (B5 m c) (B6 m c) j := by
  have e : (dats m 0 c).arrAt 10 cfg0.N = (fun i : S1x1024.Idx => DG (B0 m c) (B1 m c) (B2 m c) (B3 m c) (B4 m c) (B5 m c) (B6 m c) (i 1)) := by
    refine (dats m 0 c).arrAt_eq_of_covers 10 _ (by decide +kernel) fun t hf y => ?_
    have h : t.val % 16 = 15 := (flush0_10 t).mp hf
    have hl := lt16 t
    have ht : t.val + 1 = cfg0.N := by rw [show cfg0.N = 16 from N_0]; omega
    blk_simp
    rw [after0_10]
    idx_vars y
    rw [accG_last m c t ht]
    refine congrArg (DG (B0 m c) (B1 m c) (B2 m c) (B3 m c) (B4 m c) (B5 m c) (B6 m c)) (Fin.ext ?_)
    blk_simp [idx t]
    try omega
  rw [e]
  rfl

end Cert.Dh2

end
-- ==== Proof.Dh2.Ref.lean ====
/-
  The reference's values, read at an index: the sums of `Spec.lean`.
-/
module

public import proofs.«01_k».proof.Proof.Dh2.Spec
public import proofs.«01_k».proof.Proof.Gen.MmDh2RefIdeal.Read
public import Idealize.ShloMosaic.Lib.Pipeline.ValueKit

@[expose] public section

set_option maxRecDepth 16384

noncomputable section

namespace Cert.Dh2

open Idealize.ShloMosaic Cert.Norm Cert.MmDh2RefIdeal Cert.MmDh2RefIdeal.Gen Cert.MmDh2RefIdeal.Read

variable (A0 : FVec Ideal Parts .bf16) (A1 : FVec Ideal Wt .bf16)
  (A2 : FVec Ideal Rows .f32) (A3 : FVec Ideal Gain .f32) (A4 A5 : FVec Ideal Rows .f32) (A6 : FVec Ideal Gain .f32)

/-- The gradient of the projection's argument. -/
theorem ref_dh (r : Fin 8192) (j : Fin 1024) : val_main_v38 (F := Ideal) A0 A1 (ix2 r j) = DH A0 A1 r j := by
  pointwise [val_main_v38, val_main_v5, val_main_v4, val_main_v3, val_main_v2, val_main_v1, val_main_v0]
  refine Eq.symm (Fin.sum_mul_add_congr fun s k hl => ?_)
  have e1 : half s = ⟨(s.val * 704 + k.val) / 2816, by omega⟩ := Fin.ext (by show s.val / 4 = (s.val * 704 + k.val) / 2816; omega)
  have e2 : place s = ⟨(s.val * 704 + k.val) / 704 % 4, by omega⟩ := Fin.ext (by show s.val % 4 = (s.val * 704 + k.val) / 704 % 4; omega)
  have e3 : k = ⟨(s.val * 704 + k.val) % 704, by omega⟩ := Fin.ext (by show k.val = (s.val * 704 + k.val) % 704; omega)
  have e4 : s = ⟨(s.val * 704 + k.val) / 704, by omega⟩ := Fin.ext (by show s.val = (s.val * 704 + k.val) / 704; omega)
  refine congrArg₂ (fun a b : EReal => a * b) ?_ ?_
  · show A0 (ix4 (half s) (place s) r k) = A0 (ix4 _ _ r _)
    rw [e1, e2]
    exact congrArg (fun a => A0 (ix4 _ _ r a)) e3
  · exact congrArg₂ (fun a b => A1 (ix3 a j b)) e4 e3

/-- The first norm. -/
theorem ref_ms (r : Fin 8192) (z : Fin 1) : val_main_v12 (F := Ideal) A5 (ix2 r z) = ms (fun k => A5 (ix2 r k)) := by
  obtain rfl : z = 0 := Subsingleton.elim _ _
  pointwise [val_main_v12, val_main_v11, val_main_v10, val_main_v9, val_main_v8, val_main_v7, val_main_v6, val_main_cst, val_main_cst_0, val_main_cst_1, ms]

theorem ref_slope (r : Fin 8192) (z : Fin 1) : val_main_v16 (F := Ideal) A5 (ix2 r z) =
    Ideal.ofBits .f32 0xBF000000#32 * Ideal.div (Ideal.rsqrt (ms (fun k => A5 (ix2 r k)))) (ms (fun k => A5 (ix2 r k))) := by
  obtain rfl : z = 0 := Subsingleton.elim _ _
  pointwise [val_main_v16, val_main_v15, val_main_v14, val_main_v13, val_main_cst_2, ref_ms]

theorem ref_nrm (r : Fin 8192) (j : Fin 1024) : val_main_v18 (F := Ideal) A5 (ix2 r j) = nrm (fun k => A5 (ix2 r k)) j := by
  pointwise [val_main_v18, val_main_v17, val_main_v13, ref_ms, nrm]

/-- The residual stream. -/
theorem ref_x1 (r : Fin 8192) (j : Fin 1024) : val_main_v21 (F := Ideal) A2 A5 A6 (ix2 r j) = X1 A2 A5 A6 r j := by
  pointwise [val_main_v21, val_main_v20, val_main_v19, ref_nrm, X1]

/-- The second norm. -/
theorem ref_ms1 (r : Fin 8192) (z : Fin 1) : val_main_v28 (F := Ideal) A2 A5 A6 (ix2 r z) = ms (X1 A2 A5 A6 r) := by
  obtain rfl : z = 0 := Subsingleton.elim _ _
  pointwise [val_main_v28, val_main_v27, val_main_v26, val_main_v25, val_main_v24, val_main_v23, val_main_v22, val_main_cst_3, val_main_cst_4, val_main_cst_5, ref_x1, ms]

theorem ref_slope1 (r : Fin 8192) (z : Fin 1) : val_main_v32 (F := Ideal) A2 A5 A6 (ix2 r z) =
    Ideal.ofBits .f32 0xBF000000#32 * Ideal.div (Ideal.rsqrt (ms (X1 A2 A5 A6 r))) (ms (X1 A2 A5 A6 r)) := by
  obtain rfl : z = 0 := Subsingleton.elim _ _
  pointwise [val_main_v32, val_main_v31, val_main_v30, val_main_v29, val_main_cst_6, ref_ms1]

theorem ref_nrm1 (r : Fin 8192) (j : Fin 1024) : val_main_v34 (F := Ideal) A2 A5 A6 (ix2 r j) = nrm (X1 A2 A5 A6 r) j := by
  pointwise [val_main_v34, val_main_v33, val_main_v29, ref_ms1, ref_x1, nrm]

/-- The second norm's gain's gradient. -/
theorem ref_dn (z : Fin 1) (j : Fin 1024) : val_main_v41 (F := Ideal) A0 A1 A2 A5 A6 (ix2 z j) = DN A0 A1 A2 A5 A6 j := by
  obtain rfl : z = 0 := Subsingleton.elim _ _
  pointwise [val_main_v41, val_main_v40, val_main_v39, val_main_cst_7, ref_dh, ref_nrm1, DN]
  exact Finset.sum_congr rfl fun l _ => mul_comm _ _

theorem ref_tt (r : Fin 8192) (j : Fin 1024) : val_main_v43 (F := Ideal) A0 A1 A3 (ix2 r j) = TT A0 A1 A3 r j := by
  pointwise [val_main_v43, val_main_v42, ref_dh, TT]

theorem ref_uu (r : Fin 8192) (j : Fin 1024) : val_main_v54 (F := Ideal) A0 A1 A2 A3 A5 A6 (ix2 r j) = uu (X1 A2 A5 A6 r) (TT A0 A1 A3 r) := by
  pointwise [val_main_v54, val_main_v53, val_main_v52, val_main_v51, val_main_v50, val_main_v46, val_main_v45, val_main_v44, val_main_cst_8, val_main_cst_9, val_main_cst_10, ref_x1, ref_tt, ref_slope1, uu]
  exact Fintype.sum_unique _

/-- The residual stream's gradient. -/
theorem ref_d1 (r : Fin 8192) (j : Fin 1024) : val_main_v58 (F := Ideal) A0 A1 A2 A3 A4 A5 A6 (ix2 r j) = D1 A0 A1 A2 A3 A4 A5 A6 r j := by
  pointwise [val_main_v58, val_main_v57, val_main_v56, val_main_v55, val_main_v49, val_main_v48, val_main_v47, val_main_v29, ref_x1, ref_tt, ref_uu, ref_ms1, D1]
  exact dn_add _ _ _ _

theorem ref_d1' (r : Fin 8192) (j : Fin 1024) : val_main_v59 (F := Ideal) A0 A1 A2 A3 A4 A5 A6 (ix2 r j) = D1 A0 A1 A2 A3 A4 A5 A6 r j := by
  pointwise [val_main_v59, ref_d1]

/-- The first norm's gain's gradient. -/
theorem ref_dg (z : Fin 1) (j : Fin 1024) : val_main_v62 (F := Ideal) A0 A1 A2 A3 A4 A5 A6 (ix2 z j) = DG A0 A1 A2 A3 A4 A5 A6 j := by
  obtain rfl : z = 0 := Subsingleton.elim _ _
  pointwise [val_main_v62, val_main_v61, val_main_v60, val_main_cst_11, ref_d1', ref_nrm, DG]
  exact Finset.sum_congr rfl fun l _ => mul_comm _ _

theorem ref_t2 (r : Fin 8192) (j : Fin 1024) : val_main_v64 (F := Ideal) A0 A1 A2 A3 A4 A5 A6 (ix2 r j) = D1 A0 A1 A2 A3 A4 A5 A6 r j * A6 (ix2 0 j) := by
  pointwise [val_main_v64, val_main_v63, ref_d1']

theorem ref_uu2 (r : Fin 8192) (j : Fin 1024) : val_main_v74 (F := Ideal) A0 A1 A2 A3 A4 A5 A6 (ix2 r j) =
    uu (fun k => A5 (ix2 r k)) (fun k => D1 A0 A1 A2 A3 A4 A5 A6 r k * A6 (ix2 0 k)) := by
  pointwise [val_main_v74, val_main_v73, val_main_v72, val_main_v71, val_main_v70, val_main_v67, val_main_v66, val_main_v65, val_main_cst_12, val_main_cst_13, val_main_cst_14, ref_t2, ref_slope, uu]
  exact Fintype.sum_unique _

/-- The gradient of the sum's second term. -/
theorem ref_dm (r : Fin 8192) (j : Fin 1024) : val_main_v79 (F := Ideal) A0 A1 A2 A3 A4 A5 A6 (ix2 r j) = DM A0 A1 A2 A3 A4 A5 A6 r j := by
  pointwise [val_main_v79, val_main_v78, val_main_v77, val_main_v76, val_main_v75, val_main_v69, val_main_v68, val_main_v13, ref_t2, ref_uu2, ref_ms, DM]
  exact dn_eq' (fun k => A5 (ix2 r k)) (fun k => D1 A0 A1 A2 A3 A4 A5 A6 r k * A6 (ix2 0 k)) j

end Cert.Dh2

end
-- ==== Proof.Dh2.Claims.lean ====
/-
  The gradient through the up projection: the reference's frame, and that both programs end with the same arrays.
-/
module

public import proofs.«01_k».proof.Defs
public import proofs.«01_k».proof.Proof.Dh2.Rows
public import proofs.«01_k».proof.Proof.Dh2.Sums
public import proofs.«01_k».proof.Proof.Dh2.Ref
public import proofs.«01_k».proof.Proof.Gen.MmDh2Ideal.Value
public import proofs.«01_k».proof.Proof.Gen.MmDh2RefIdeal
public import Idealize.ShloMosaic.Lib.Quiescent

@[expose] public section

set_option maxRecDepth 16384

noncomputable section

namespace Cert.Dh2

open Idealize.ShloMosaic Idealize.ShloMosaic.TcCoe Idealize.SL.Sem

/-- The reference runs, its arguments are unchanged and its counters end at zero: it has none. -/
theorem frame_ref : Cert.quiescent_MmDh2RefIdeal (hMmDh2RefIdeal := Cert.MmDh2RefIdeal.Gen.facts) := fun m ρ _ =>
  (θ_run (Cert.MmDh2RefIdeal.defs (F := Ideal)) _ _).mono
    (fun r h => ⟨fun c => (h c).2.2.2.2, Idealize.ShloMosaic.sem_eq_zero_of_no_sems (by decide) r.2⟩)
    (Cert.MmDh2RefIdeal.Value.run (F := Ideal) m ρ)

section
variable (m : (ℓ : Loc Cert.MmDh2Ideal.nD Cert.MmDh2Ideal.τ Cert.MmDh2Ideal.sig) → Buf (Elt Ideal) ℓ) (c : Dev Cert.MmDh2Ideal.nD)
open Cert.MmDh2RefIdeal.Read Cert.MmDh2Ideal Cert.MmDh2Ideal.Gen

/-! The arrays the kernel leaves are the reference's, of the same arguments. -/

theorem eq7 : (dats m 0 c).arrAt 7 cfg0.N = val_main_v58 (F := Ideal) (B0 m c) (B1 m c) (B2 m c) (B3 m c) (B4 m c) (B5 m c) (B6 m c) := by
  funext i
  idx_vars i
  exact (final1 m c i0 i1).trans (ref_d1 _ _ _ _ _ _ _ i0 i1).symm

theorem eq8 : (dats m 0 c).arrAt 8 cfg0.N = val_main_v79 (F := Ideal) (B0 m c) (B1 m c) (B2 m c) (B3 m c) (B4 m c) (B5 m c) (B6 m c) := by
  funext i
  idx_vars i
  exact (finalM m c i0 i1).trans (ref_dm _ _ _ _ _ _ _ i0 i1).symm

theorem eq9 : (dats m 0 c).arrAt 9 cfg0.N = val_main_v41 (F := Ideal) (B0 m c) (B1 m c) (B2 m c) (B5 m c) (B6 m c) := by
  funext i
  idx_vars i
  exact (finalN m c i0 i1).trans (ref_dn _ _ _ _ _ i0 i1).symm

theorem eq10 : (dats m 0 c).arrAt 10 cfg0.N = val_main_v62 (F := Ideal) (B0 m c) (B1 m c) (B2 m c) (B3 m c) (B4 m c) (B5 m c) (B6 m c) := by
  funext i
  idx_vars i
  exact (finalG m c i0 i1).trans (ref_dg _ _ _ _ _ _ _ i0 i1).symm

end

/-- From equal arguments both programs end with the same four arrays. -/
theorem algebraic : Cert.algebraic_MmDh2Ideal_MmDh2RefIdeal (hMmDh2Ideal := Cert.MmDh2Ideal.Gen.facts)
    (hMmDh2RefIdeal := Cert.MmDh2RefIdeal.Gen.facts) := by
  intro m g m' g' _ ha
  refine ⟨_, _, _, _, Cert.MmDh2Ideal.Value.run_blocks (F := Ideal) m g, ?_⟩
  refine (θ_run (Cert.MmDh2RefIdeal.defs (F := Ideal)) _ _).mono (fun r h c => ?_) (Cert.MmDh2RefIdeal.Value.run (F := Ideal) m' g')
  obtain ⟨h0, h1, h2, h3, hk⟩ := h c
  obtain ⟨a0, a1, a2, a3, a4, a5, a6⟩ := ha c
  rw [Cert.MmDh2RefIdeal.Read.val_main_v58_eq, a0, a1, a2, a3, a4, a5, a6] at h0
  rw [Cert.MmDh2RefIdeal.Read.val_main_v79_eq, a0, a1, a2, a3, a4, a5, a6] at h1
  rw [Cert.MmDh2RefIdeal.Read.val_main_v62_eq, a0, a1, a2, a3, a4, a5, a6] at h3
  rw [a0, a1, a2, a5, a6] at h2
  exact ⟨h0.trans (eq7 m c).symm, h1.trans (eq8 m c).symm, h2.trans (eq9 m c).symm, h3.trans (eq10 m c).symm, hk⟩

end Cert.Dh2

end
-- ==== Proof.Dh.Spec.lean ====
/-
  The gradient through the input projections, the norm before them, the residual sum and the norm after the layer below:
  what both programs are shown to compute. Arguments, in the order of the programs: the gradient of the projections' results
  in five pieces, `A0`, `A1`, `A2` of the queries, keys and values, `A3` of the convolution's input, `A4` of the gates; `A5` the
  weights by device, `A6` the residual stream before the sum, `A7` the gain of the norm before the projections, `A8` the
  residual stream's gradient from above, `A9` what the layer below adds and `A10` the gain of its norm.
-/
module

public import proofs.«01_k».proof.Proof.Norm.Spec
public import proofs.«01_k».proof.Proof.DwIn.Spec

@[expose] public section

set_option maxRecDepth 16384

noncomputable section

namespace Cert.Dh

open Cert.In (Piece Gates seg col seg_0 seg_1 seg_2 seg_3 seg_gates)
open Idealize.ShloMosaic Cert.Norm

abbrev Rows : Shape := ⟨2, ![8192, 1024]⟩
abbrev Gain : Shape := ⟨2, ![1, 1024]⟩
abbrev Wt : Shape := ⟨3, ![8, 1024, 512]⟩

variable (A0 : FVec Ideal Piece .bf16) (A1 : FVec Ideal Piece .bf16) (A2 : FVec Ideal Piece .bf16) (A3 : FVec Ideal Piece .bf16) (A4 : FVec Ideal Gates .bf16) (A5 : FVec Ideal Wt .bf16)
  (A6 : FVec Ideal Rows .f32) (A7 : FVec Ideal Gain .f32) (A8 A9 : FVec Ideal Rows .f32) (A10 : FVec Ideal Gain .f32)

/-- The residual stream after the sum. -/
def X1 (r : Fin 8192) (j : Fin 1024) : EReal := A6 (ix2 r j) + nrm (fun k => A9 (ix2 r k)) j * A10 (ix2 0 j)

/-- The gradient of the projections' argument: a sum over devices of the columns of each. -/
def DH (r : Fin 8192) (j : Fin 1024) : EReal :=
  ∑ d : Fin 8, ∑ q : Fin 512, seg A0 A1 A2 A3 A4 r (col d q) * A5 (ix3 d j q)

/-- What enters the norm's gradient. -/
def TT (r : Fin 8192) (j : Fin 1024) : EReal := DH A0 A1 A2 A3 A4 A5 r j * A7 (ix2 0 j)

/-- The gradient of the residual stream. -/
def D1 (r : Fin 8192) (j : Fin 1024) : EReal := A8 (ix2 r j) + dn (X1 A6 A9 A10 r) (TT A0 A1 A2 A3 A4 A5 A7 r) j

/-- The gradient through the norm of the sum's second term. -/
def DM (r : Fin 8192) (j : Fin 1024) : EReal := dn (fun k => A9 (ix2 r k)) (fun k => D1 A0 A1 A2 A3 A4 A5 A6 A7 A8 A9 A10 r k * A10 (ix2 0 k)) j

/-- The two gains' gradients. -/
def DN (j : Fin 1024) : EReal := ∑ l : Fin 8192, DH A0 A1 A2 A3 A4 A5 l j * nrm (X1 A6 A9 A10 l) j
def DG (j : Fin 1024) : EReal := ∑ l : Fin 8192, D1 A0 A1 A2 A3 A4 A5 A6 A7 A8 A9 A10 l j * nrm (fun k => A9 (ix2 l k)) j

end Cert.Dh

end
-- ==== Proof.Dh.Body.lean ====
/-
  What the kernel's body computes from one block of rows, payload by payload, read at an index.
-/
module

public import proofs.«01_k».proof.Proof.Dh.Spec
public import proofs.«01_k».proof.Proof.Gen.MmDhIdeal.Skeleton

@[expose] public section

set_option maxRecDepth 16384

noncomputable section

namespace Cert.Dh

open Cert.In (Piece Gates seg col seg_0 seg_1 seg_2 seg_3 seg_gates)
open Idealize.ShloMosaic Cert.Norm Cert.MmDhIdeal Cert.MmDhIdeal.Gen

variable (x y e : FVec Ideal S512x1024 .f32) (g h : FVec Ideal S1x1024 .f32) (acc : FVec Ideal S1x1024 .f32)

variable (v21 v25 v54 v59 : FVec Ideal S512x1024 .f32) (v52 : FVec Ideal S512x1 .f32)
variable (d0 d1 d2 d3 d4 d5 d6 d7 : FVec Ideal S512x512 .bf16) (w0 w1 w2 w3 w4 w5 w6 w7 : FVec Ideal S1x1024x512 .bf16)

/-- One device's part of the projections' gradient. -/
def bd (d : FVec Ideal S512x512 .bf16) (w : FVec Ideal S1x1024x512 .bf16) (r : Fin 512) (j : Fin 1024) : EReal :=
  ∑ q : Fin 512, d (ix2 r q) * w (ix3 0 j q)

theorem dh_at (r : Fin 512) (j : Fin 1024) :
    k0_pay7 (F := Ideal) (k0_pay5 d0 w0 d1 w1 d2 w2 d3 w3) (k0_pay6 d4 w4) d5 w5 d6 w6 d7 w7 (ix2 r j) =
    bd d0 w0 r j + bd d1 w1 r j + bd d2 w2 r j + bd d3 w3 r j + bd d4 w4 r j + bd d5 w5 r j + bd d6 w6 r j + bd d7 w7 r j := by
  pointwise [k0_pay7, k0_pay6, k0_pay5, bd]

theorem tt_at (r : Fin 512) (j : Fin 1024) : k0_pay12 (F := Ideal) v21 v25 d5 w5 d6 w6 d7 w7 g (ix2 r j) =
    k0_pay7 (F := Ideal) v21 v25 d5 w5 d6 w6 d7 w7 (ix2 r j) * g (ix2 0 j) := by
  pointwise [k0_pay12]

theorem d1_at (r : Fin 512) (j : Fin 1024) : k0_pay13 (F := Ideal) (k0_pay9 x) (k0_pay10 x) v59 e (ix2 r j) =
    e (ix2 r j) + dn (fun k => x (ix2 r k)) (fun k => v59 (ix2 r k)) j := by
  pointwise [k0_pay13, k0_pay10, k0_pay9, k0_pay8, dn, nrm, ms]

theorem dm_at (r : Fin 512) (j : Fin 1024) :
    k0_pay1 (F := Ideal) (k0_pay15 y) (k0_pay16 y) (k0_pay18 v52 v54 v59 e h) (k0_pay19 v52 v54 v59 e y h) k0_pay20 (ix2 r j) =
    dn (fun k => y (ix2 r k)) (fun k => k0_pay13 v52 v54 v59 e (ix2 r k) * h (ix2 0 k)) j := by
  pointwise [k0_pay1, k0_pay20, k0_pay19, k0_pay18, k0_pay16, k0_pay15, dn, nrm, ms]

theorem accN_at (z : Fin 1) (j : Fin 1024) : k0_pay14 (F := Ideal) (k0_pay11 v21 v25 d5 w5 d6 w6 d7 w7 x) acc (ix2 z j) =
    acc (ix2 z j) + ∑ r : Fin 512, k0_pay7 v21 v25 d5 w5 d6 w6 d7 w7 (ix2 r j) * nrm (fun k => x (ix2 r k)) j := by
  obtain rfl : z = 0 := Subsingleton.elim _ _
  pointwise [k0_pay14, k0_pay11, k0_pay10, k0_pay9, k0_pay8, nrm, ms]

theorem accG_at (z : Fin 1) (j : Fin 1024) : k0_pay2 (F := Ideal) (k0_pay17 v52 v54 v59 e y) acc (ix2 z j) =
    acc (ix2 z j) + ∑ r : Fin 512, k0_pay13 v52 v54 v59 e (ix2 r j) * nrm (fun k => y (ix2 r k)) j := by
  obtain rfl : z = 0 := Subsingleton.elim _ _
  pointwise [k0_pay2, k0_pay17, k0_pay16, k0_pay15, nrm, ms]

theorem zeroN (i : S1x1024.Idx) : k0_pay3 (F := Ideal) i = 0 := by pointwise [k0_pay3]
theorem zeroG (i : S1x1024.Idx) : k0_pay4 (F := Ideal) i = 0 := by pointwise [k0_pay4]

end Cert.Dh

end
-- ==== Proof.Dh.Saved.lean ====
/-
  The residual stream, which the host computes before the launch, read at an index.
-/
module

public import proofs.«01_k».proof.Proof.Dh.Spec
public import proofs.«01_k».proof.Proof.Gen.MmDhIdeal.Frame.Runs
public import Idealize.ShloMosaic.Lib.Claim

@[expose] public section

set_option maxRecDepth 16384

noncomputable section

namespace Cert.Dh

open Cert.In (Piece Gates seg col seg_0 seg_1 seg_2 seg_3 seg_gates)
open Idealize.ShloMosaic Idealize.ShloMosaic.TcCoe Cert.Norm Cert.MmDhIdeal Cert.MmDhIdeal.Gen

variable (m : (ℓ : Loc nD τ sig) → Buf (Elt Ideal) ℓ) (c : Dev nD)

/-- The arguments as the launch finds them. -/
abbrev B0 : FVec Ideal Piece .bf16 := m ((c : Thread nD τ).loc main_arg0)
abbrev B1 : FVec Ideal Piece .bf16 := m ((c : Thread nD τ).loc main_arg1)
abbrev B2 : FVec Ideal Piece .bf16 := m ((c : Thread nD τ).loc main_arg2)
abbrev B3 : FVec Ideal Piece .bf16 := m ((c : Thread nD τ).loc main_arg3)
abbrev B4 : FVec Ideal Gates .bf16 := m ((c : Thread nD τ).loc main_arg4)
abbrev B5 : FVec Ideal Wt .bf16 := m ((c : Thread nD τ).loc main_arg5)
abbrev B6 : FVec Ideal Rows .f32 := m ((c : Thread nD τ).loc main_arg6)
abbrev B7 : FVec Ideal Gain .f32 := m ((c : Thread nD τ).loc main_arg7)
abbrev B8 : FVec Ideal Rows .f32 := m ((c : Thread nD τ).loc main_arg8)
abbrev B9 : FVec Ideal Rows .f32 := m ((c : Thread nD τ).loc main_arg9)
abbrev B10 : FVec Ideal Gain .f32 := m ((c : Thread nD τ).loc main_arg10)

theorem saved_x1 (r : Fin 8192) (j : Fin 1024) : V m c main_v12 (ix2 r j) = X1 (B6 m c) (B9 m c) (B10 m c) r j := by
  entry_read
  pointwise [X1, nrm, ms]

end Cert.Dh

end
-- ==== Proof.Dh.Point.lean ====
/-
  The blocks a grid point reads, as rows of the arrays: point `t` reads rows `512 t … 512 t + 511`. Then what the body
  computes of them.
-/
module

public import proofs.«01_k».proof.Proof.Dh.Body
public import proofs.«01_k».proof.Proof.Dh.Saved
public import proofs.«01_k».proof.Proof.Gen.MmDhIdeal.Frame
public import Idealize.ShloMosaic.Lib.Pipeline.ValueKit

@[expose] public section

set_option maxRecDepth 16384

noncomputable section

namespace Cert.Dh

open Cert.In (Piece Gates seg col seg_0 seg_1 seg_2 seg_3 seg_gates)
open Idealize.ShloMosaic Idealize.ShloMosaic.TcCoe Cert.Norm Cert.MmDhIdeal Cert.MmDhIdeal.Gen

/-- Where each window's block lies at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0, 0] ∧ win0_6.index t = ![t.val, 0] ∧ win0_7.index t = ![0, 0] ∧ win0_8.index t = ![t.val, 0] ∧ win0_9.index t = ![t.val, 0] ∧ win0_10.index t = ![0, 0] ∧ win0_11.index t = ![t.val, 0] ∧ win0_12.index t = ![0, 0] ∧ win0_13.index t = ![t.val, 0] ∧ win0_14.index t = ![0, 0] :=
  (by decide +kernel : ∀ t : Fin grid0.N, _)

variable (m : (ℓ : Loc nD τ sig) → Buf (Elt Ideal) ℓ) (c : Dev nD) (t : Fin cfg0.N)

theorem lt16 : t.val < 16 := t.isLt

/-- Row `r` of point `t`'s block. -/
def row (t : Fin cfg0.N) (r : Fin 512) : Fin 8192 := ⟨t.val * 512 + r, by have := lt16 t; omega⟩

theorem blk_0 (r : Fin 512) (q : Fin 512) : iblk m c 0 t (ix2 r q) = B0 m c (ix2 (row t r) q) := by
  blk_point [iblk, V, row, idx t]

theorem blk_1 (r : Fin 512) (q : Fin 512) : iblk m c 1 t (ix2 r q) = B1 m c (ix2 (row t r) q) := by
  blk_point [iblk, V, row, idx t]

theorem blk_2 (r : Fin 512) (q : Fin 512) : iblk m c 2 t (ix2 r q) = B2 m c (ix2 (row t r) q) := by
  blk_point [iblk, V, row, idx t]

theorem blk_3 (r : Fin 512) (q : Fin 512) : iblk m c 3 t (ix2 r q) = B3 m c (ix2 (row t r) q) := by
  blk_point [iblk, V, row, idx t]

theorem blk_4 (r : Fin 512) (q : Fin 2048) : iblk m c 4 t (ix2 r q) = B4 m c (ix2 (row t r) q) := by
  blk_point [iblk, V, row, idx t]

theorem blk_w (d : Fin 8) (j : Fin 1024) (q : Fin 512) : iblk m c 5 t (ix3 d j q) = B5 m c (ix3 d j q) := by
  blk_point [iblk, V, row, idx t]

theorem blk_x (r : Fin 512) (j : Fin 1024) : iblk m c 6 t (ix2 r j) = X1 (B6 m c) (B9 m c) (B10 m c) (row t r) j := by
  rw [← saved_x1]
  blk_point [iblk, V, row, idx t]

theorem blk_n (j : Fin 1024) : iblk m c 7 t (ix2 0 j) = B7 m c (ix2 0 j) := by
  blk_point [iblk, V, row, idx t]

theorem blk_e (r : Fin 512) (j : Fin 1024) : iblk m c 8 t (ix2 r j) = B8 m c (ix2 (row t r) j) := by
  blk_point [iblk, V, row, idx t]

theorem blk_y (r : Fin 512) (j : Fin 1024) : iblk m c 9 t (ix2 r j) = B9 m c (ix2 (row t r) j) := by
  blk_point [iblk, V, row, idx t]

theorem blk_g (j : Fin 1024) : iblk m c 10 t (ix2 0 j) = B10 m c (ix2 0 j) := by
  blk_point [iblk, V, row, idx t]

theorem ldd0 (r q : Fin 512) : (iblk m c 0 t) (ix2 r q) = seg (B0 m c) (B1 m c) (B2 m c) (B3 m c) (B4 m c) (row t r) (col 0 q) := by
  rw [blk_0, seg_0]
theorem ldw0 (j : Fin 1024) (q : Fin 512) : (View.ld (iblk m c 5 t) (Rect.unit (s := S8x1024x512) ![0, 0, 0] ![1, 1024, 512] inb_S8x1024x512_S1x1024x512_0_0_0)) (ix3 0 j q) = B5 m c (ix3 0 j q) := by
  rw [← blk_w m c t]
  pointwise
  blk_ext

theorem ldd1 (r q : Fin 512) : (iblk m c 1 t) (ix2 r q) = seg (B0 m c) (B1 m c) (B2 m c) (B3 m c) (B4 m c) (row t r) (col 1 q) := by
  rw [blk_1, seg_1]
theorem ldw1 (j : Fin 1024) (q : Fin 512) : (View.ld (iblk m c 5 t) (Rect.unit (s := S8x1024x512) ![1, 0, 0] ![1, 1024, 512] inb_S8x1024x512_S1x1024x512_1_0_0)) (ix3 0 j q) = B5 m c (ix3 1 j q) := by
  rw [← blk_w m c t]
  pointwise
  blk_ext

theorem ldd2 (r q : Fin 512) : (iblk m c 2 t) (ix2 r q) = seg (B0 m c) (B1 m c) (B2 m c) (B3 m c) (B4 m c) (row t r) (col 2 q) := by
  rw [blk_2, seg_2]
theorem ldw2 (j : Fin 1024) (q : Fin 512) : (View.ld (iblk m c 5 t) (Rect.unit (s := S8x1024x512) ![2, 0, 0] ![1, 1024, 512] inb_S8x1024x512_S1x1024x512_2_0_0)) (ix3 0 j q) = B5 m c (ix3 2 j q) := by
  rw [← blk_w m c t]
  pointwise
  blk_ext

theorem ldd3 (r q : Fin 512) : (iblk m c 3 t) (ix2 r q) = seg (B0 m c) (B1 m c) (B2 m c) (B3 m c) (B4 m c) (row t r) (col 3 q) := by
  rw [blk_3, seg_3]
theorem ldw3 (j : Fin 1024) (q : Fin 512) : (View.ld (iblk m c 5 t) (Rect.unit (s := S8x1024x512) ![3, 0, 0] ![1, 1024, 512] inb_S8x1024x512_S1x1024x512_3_0_0)) (ix3 0 j q) = B5 m c (ix3 3 j q) := by
  rw [← blk_w m c t]
  pointwise
  blk_ext

theorem ldd4 (r q : Fin 512) : (View.ld (iblk m c 4 t) (Rect.unit (s := S512x2048) ![0, 0] ![512, 512] inb_S512x2048_S512x512_0_0)) (ix2 r q) = seg (B0 m c) (B1 m c) (B2 m c) (B3 m c) (B4 m c) (row t r) (col 4 q) := by
  rw [seg_gates _ _ _ _ _ _ (by decide)]
  have e : (View.ld (iblk m c 4 t) (Rect.unit (s := S512x2048) ![0, 0] ![512, 512] inb_S512x2048_S512x512_0_0)) (ix2 r q) = iblk m c 4 t (ix2 r ⟨0 + q.val, by omega⟩) := by
    pointwise
    blk_ext
  rw [e, blk_4]
  exact congrArg (B4 m c) (congrArg (ix2 _) (Fin.ext (by show 0 + q.val = (4 - 4) * 512 + q.val; omega)))
theorem ldw4 (j : Fin 1024) (q : Fin 512) : (View.ld (iblk m c 5 t) (Rect.unit (s := S8x1024x512) ![4, 0, 0] ![1, 1024, 512] inb_S8x1024x512_S1x1024x512_4_0_0)) (ix3 0 j q) = B5 m c (ix3 4 j q) := by
  rw [← blk_w m c t]
  pointwise
  blk_ext

theorem ldd5 (r q : Fin 512) : (View.ld (iblk m c 4 t) (Rect.unit (s := S512x2048) ![0, 512] ![512, 512] inb_S512x2048_S512x512_0_512)) (ix2 r q) = seg (B0 m c) (B1 m c) (B2 m c) (B3 m c) (B4 m c) (row t r) (col 5 q) := by
  rw [seg_gates _ _ _ _ _ _ (by decide)]
  have e : (View.ld (iblk m c 4 t) (Rect.unit (s := S512x2048) ![0, 512] ![512, 512] inb_S512x2048_S512x512_0_512)) (ix2 r q) = iblk m c 4 t (ix2 r ⟨512 + q.val, by omega⟩) := by
    pointwise
    blk_ext
  rw [e, blk_4]
  exact congrArg (B4 m c) (congrArg (ix2 _) (Fin.ext (by show 512 + q.val = (5 - 4) * 512 + q.val; omega)))
theorem ldw5 (j : Fin 1024) (q : Fin 512) : (View.ld (iblk m c 5 t) (Rect.unit (s := S8x1024x512) ![5, 0, 0] ![1, 1024, 512] inb_S8x1024x512_S1x1024x512_5_0_0)) (ix3 0 j q) = B5 m c (ix3 5 j q) := by
  rw [← blk_w m c t]
  pointwise
  blk_ext

theorem ldd6 (r q : Fin 512) : (View.ld (iblk m c 4 t) (Rect.unit (s := S512x2048) ![0, 1024] ![512, 512] inb_S512x2048_S512x512_0_1024)) (ix2 r q) = seg (B0 m c) (B1 m c) (B2 m c) (B3 m c) (B4 m c) (row t r) (col 6 q) := by
  rw [seg_gates _ _ _ _ _ _ (by decide)]
  have e : (View.ld (iblk m c 4 t) (Rect.unit (s := S512x2048) ![0, 1024] ![512, 512] inb_S512x2048_S512x512_0_1024)) (ix2 r q) = iblk m c 4 t (ix2 r ⟨1024 + q.val, by omega⟩) := by
    pointwise
    blk_ext
  rw [e, blk_4]
  exact congrArg (B4 m c) (congrArg (ix2 _) (Fin.ext (by show 1024 + q.val = (6 - 4) * 512 + q.val; omega)))
theorem ldw6 (j : Fin 1024) (q : Fin 512) : (View.ld (iblk m c 5 t) (Rect.unit (s := S8x1024x512) ![6, 0, 0] ![1, 1024, 512] inb_S8x1024x512_S1x1024x512_6_0_0)) (ix3 0 j q) = B5 m c (ix3 6 j q) := by
  rw [← blk_w m c t]
  pointwise
  blk_ext

theorem ldd7 (r q : Fin 512) : (View.ld (iblk m c 4 t) (Rect.unit (s := S512x2048) ![0, 1536] ![512, 512] inb_S512x2048_S512x512_0_1536)) (ix2 r q) = seg (B0 m c) (B1 m c) (B2 m c) (B3 m c) (B4 m c) (row t r) (col 7 q) := by
  rw [seg_gates _ _ _ _ _ _ (by decide)]
  have e : (View.ld (iblk m c 4 t) (Rect.unit (s := S512x2048) ![0, 1536] ![512, 512] inb_S512x2048_S512x512_0_1536)) (ix2 r q) = iblk m c 4 t (ix2 r ⟨1536 + q.val, by omega⟩) := by
    pointwise
    blk_ext
  rw [e, blk_4]
  exact congrArg (B4 m c) (congrArg (ix2 _) (Fin.ext (by show 1536 + q.val = (7 - 4) * 512 + q.val; omega)))
theorem ldw7 (j : Fin 1024) (q : Fin 512) : (View.ld (iblk m c 5 t) (Rect.unit (s := S8x1024x512) ![7, 0, 0] ![1, 1024, 512] inb_S8x1024x512_S1x1024x512_7_0_0)) (ix3 0 j q) = B5 m c (ix3 7 j q) := by
  rw [← blk_w m c t]
  pointwise
  blk_ext

/-- The gradient of the projections' argument, a block. -/
abbrev dhK : FVec Ideal S512x1024 .f32 := k0_pay7 (F := Ideal) (k0_pay5 (iblk m c 0 t) (View.ld (iblk m c 5 t) (Rect.unit (s := S8x1024x512) ![0, 0, 0] ![1, 1024, 512] inb_S8x1024x512_S1x1024x512_0_0_0)) (iblk m c 1 t) (View.ld (iblk m c 5 t) (Rect.unit (s := S8x1024x512) ![1, 0, 0] ![1, 1024, 512] inb_S8x1024x512_S1x1024x512_1_0_0)) (iblk m c 2 t) (View.ld (iblk m c 5 t) (Rect.unit (s := S8x1024x512) ![2, 0, 0] ![1, 1024, 512] inb_S8x1024x512_S1x1024x512_2_0_0)) (iblk m c 3 t) (View.ld (iblk m c 5 t) (Rect.unit (s := S8x1024x512) ![3, 0, 0] ![1, 1024, 512] inb_S8x1024x512_S1x1024x512_3_0_0))) (k0_pay6 (View.ld (iblk m c 4 t) (Rect.unit (s := S512x2048) ![0, 0] ![512, 512] inb_S512x2048_S512x512_0_0)) (View.ld (iblk m c 5 t) (Rect.unit (s := S8x1024x512) ![4, 0, 0] ![1, 1024, 512] inb_S8x1024x512_S1x1024x512_4_0_0))) (View.ld (iblk m c 4 t) (Rect.unit (s := S512x2048) ![0, 512] ![512, 512] inb_S512x2048_S512x512_0_512)) (View.ld (iblk m c 5 t) (Rect.unit (s := S8x1024x512) ![5, 0, 0] ![1, 1024, 512] inb_S8x1024x512_S1x1024x512_5_0_0)) (View.ld (iblk m c 4 t) (Rect.unit (s := S512x2048) ![0, 1024] ![512, 512] inb_S512x2048_S512x512_0_1024)) (View.ld (iblk m c 5 t) (Rect.unit (s := S8x1024x512) ![6, 0, 0] ![1, 1024, 512] inb_S8x1024x512_S1x1024x512_6_0_0)) (View.ld (iblk m c 4 t) (Rect.unit (s := S512x2048) ![0, 1536] ![512, 512] inb_S512x2048_S512x512_0_1536)) (View.ld (iblk m c 5 t) (Rect.unit (s := S8x1024x512) ![7, 0, 0] ![1, 1024, 512] inb_S8x1024x512_S1x1024x512_7_0_0))

theorem dhK_at (r : Fin 512) (j : Fin 1024) : dhK m c t (ix2 r j) = DH (B0 m c) (B1 m c) (B2 m c) (B3 m c) (B4 m c) (B5 m c) (row t r) j := by
  rw [dhK, dh_at, DH, Fin.sum_univ_eight]
  simp only [bd, ldd0, ldw0, ldd1, ldw1, ldd2, ldw2, ldd3, ldw3, ldd4, ldw4, ldd5, ldw5, ldd6, ldw6, ldd7, ldw7]

/-- What enters the norm's gradient, a block. -/
abbrev ttK : FVec Ideal S512x1024 .f32 := k0_pay12 (F := Ideal) (k0_pay5 (iblk m c 0 t) (View.ld (iblk m c 5 t) (Rect.unit (s := S8x1024x512) ![0, 0, 0] ![1, 1024, 512] inb_S8x1024x512_S1x1024x512_0_0_0)) (iblk m c 1 t) (View.ld (iblk m c 5 t) (Rect.unit (s := S8x1024x512) ![1, 0, 0] ![1, 1024, 512] inb_S8x1024x512_S1x1024x512_1_0_0)) (iblk m c 2 t) (View.ld (iblk m c 5 t) (Rect.unit (s := S8x1024x512) ![2, 0, 0] ![1, 1024, 512] inb_S8x1024x512_S1x1024x512_2_0_0)) (iblk m c 3 t) (View.ld (iblk m c 5 t) (Rect.unit (s := S8x1024x512) ![3, 0, 0] ![1, 1024, 512] inb_S8x1024x512_S1x1024x512_3_0_0))) (k0_pay6 (View.ld (iblk m c 4 t) (Rect.unit (s := S512x2048) ![0, 0] ![512, 512] inb_S512x2048_S512x512_0_0)) (View.ld (iblk m c 5 t) (Rect.unit (s := S8x1024x512) ![4, 0, 0] ![1, 1024, 512] inb_S8x1024x512_S1x1024x512_4_0_0))) (View.ld (iblk m c 4 t) (Rect.unit (s := S512x2048) ![0, 512] ![512, 512] inb_S512x2048_S512x512_0_512)) (View.ld (iblk m c 5 t) (Rect.unit (s := S8x1024x512) ![5, 0, 0] ![1, 1024, 512] inb_S8x1024x512_S1x1024x512_5_0_0)) (View.ld (iblk m c 4 t) (Rect.unit (s := S512x2048) ![0, 1024] ![512, 512] inb_S512x2048_S512x512_0_1024)) (View.ld (iblk m c 5 t) (Rect.unit (s := S8x1024x512) ![6, 0, 0] ![1, 1024, 512] inb_S8x1024x512_S1x1024x512_6_0_0)) (View.ld (iblk m c 4 t) (Rect.unit (s := S512x2048) ![0, 1536] ![512, 512] inb_S512x2048_S512x512_0_1536)) (View.ld (iblk m c 5 t) (Rect.unit (s := S8x1024x512) ![7, 0, 0] ![1, 1024, 512] inb_S8x1024x512_S1x1024x512_7_0_0)) (iblk m c 7 t)

theorem ttK_at (r : Fin 512) (j : Fin 1024) : ttK m c t (ix2 r j) = TT (B0 m c) (B1 m c) (B2 m c) (B3 m c) (B4 m c) (B5 m c) (B7 m c) (row t r) j := by
  rw [ttK, tt_at]
  exact congrArg₂ (fun a b : EReal => a * b) (dhK_at m c t r j) (blk_n m c t j)

/-- The residual stream's gradient, a block. -/
abbrev d1K : FVec Ideal S512x1024 .f32 := k0_pay13 (F := Ideal) (k0_pay9 (iblk m c 6 t)) (k0_pay10 (iblk m c 6 t)) (ttK m c t) (iblk m c 8 t)

theorem d1K_at (r : Fin 512) (j : Fin 1024) : d1K m c t (ix2 r j) = D1 (B0 m c) (B1 m c) (B2 m c) (B3 m c) (B4 m c) (B5 m c) (B6 m c) (B7 m c) (B8 m c) (B9 m c) (B10 m c) (row t r) j := by
  rw [d1K, d1_at]
  simp only [ttK_at, blk_x, blk_e, D1]

/-- The gradient through the second term's norm, a block. -/
abbrev dmK : FVec Ideal S512x1024 .bf16 := k0_pay1 (F := Ideal) (k0_pay15 (iblk m c 9 t)) (k0_pay16 (iblk m c 9 t)) (k0_pay18 (k0_pay9 (iblk m c 6 t)) (k0_pay10 (iblk m c 6 t)) (ttK m c t) (iblk m c 8 t) (iblk m c 10 t)) (k0_pay19 (k0_pay9 (iblk m c 6 t)) (k0_pay10 (iblk m c 6 t)) (ttK m c t) (iblk m c 8 t) (iblk m c 9 t) (iblk m c 10 t)) k0_pay20

theorem dmK_at (r : Fin 512) (j : Fin 1024) : dmK m c t (ix2 r j) = DM (B0 m c) (B1 m c) (B2 m c) (B3 m c) (B4 m c) (B5 m c) (B6 m c) (B7 m c) (B8 m c) (B9 m c) (B10 m c) (row t r) j := by
  rw [dmK, dm_at]
  have e : ∀ k : Fin 1024, k0_pay13 (F := Ideal) (k0_pay9 (iblk m c 6 t)) (k0_pay10 (iblk m c 6 t)) (ttK m c t) (iblk m c 8 t) (ix2 r k) = D1 (B0 m c) (B1 m c) (B2 m c) (B3 m c) (B4 m c) (B5 m c) (B6 m c) (B7 m c) (B8 m c) (B9 m c) (B10 m c) (row t r) k := d1K_at m c t r
  simp only [blk_y, blk_g, e, DM]

/-- One point's shares of the two gains' gradients. -/
def partN (t : Fin cfg0.N) (i : S1x1024.Idx) : EReal := ∑ r : Fin 512, DH (B0 m c) (B1 m c) (B2 m c) (B3 m c) (B4 m c) (B5 m c) (row t r) (i 1) * nrm (X1 (B6 m c) (B9 m c) (B10 m c) (row t r)) (i 1)

def partG (t : Fin cfg0.N) (i : S1x1024.Idx) : EReal := ∑ r : Fin 512, D1 (B0 m c) (B1 m c) (B2 m c) (B3 m c) (B4 m c) (B5 m c) (B6 m c) (B7 m c) (B8 m c) (B9 m c) (B10 m c) (row t r) (i 1) * nrm (fun k => (B9 m c) (ix2 (row t r) k)) (i 1)

theorem accN_step (acc : FVec Ideal S1x1024 .f32) (i : S1x1024.Idx) : k0_pay14 (F := Ideal) (k0_pay11 (k0_pay5 (iblk m c 0 t) (View.ld (iblk m c 5 t) (Rect.unit (s := S8x1024x512) ![0, 0, 0] ![1, 1024, 512] inb_S8x1024x512_S1x1024x512_0_0_0)) (iblk m c 1 t) (View.ld (iblk m c 5 t) (Rect.unit (s := S8x1024x512) ![1, 0, 0] ![1, 1024, 512] inb_S8x1024x512_S1x1024x512_1_0_0)) (iblk m c 2 t) (View.ld (iblk m c 5 t) (Rect.unit (s := S8x1024x512) ![2, 0, 0] ![1, 1024, 512] inb_S8x1024x512_S1x1024x512_2_0_0)) (iblk m c 3 t) (View.ld (iblk m c 5 t) (Rect.unit (s := S8x1024x512) ![3, 0, 0] ![1, 1024, 512] inb_S8x1024x512_S1x1024x512_3_0_0))) (k0_pay6 (View.ld (iblk m c 4 t) (Rect.unit (s := S512x2048) ![0, 0] ![512, 512] inb_S512x2048_S512x512_0_0)) (View.ld (iblk m c 5 t) (Rect.unit (s := S8x1024x512) ![4, 0, 0] ![1, 1024, 512] inb_S8x1024x512_S1x1024x512_4_0_0))) (View.ld (iblk m c 4 t) (Rect.unit (s := S512x2048) ![0, 512] ![512, 512] inb_S512x2048_S512x512_0_512)) (View.ld (iblk m c 5 t) (Rect.unit (s := S8x1024x512) ![5, 0, 0] ![1, 1024, 512] inb_S8x1024x512_S1x1024x512_5_0_0)) (View.ld (iblk m c 4 t) (Rect.unit (s := S512x2048) ![0, 1024] ![512, 512] inb_S512x2048_S512x512_0_1024)) (View.ld (iblk m c 5 t) (Rect.unit (s := S8x1024x512) ![6, 0, 0] ![1, 1024, 512] inb_S8x1024x512_S1x1024x512_6_0_0)) (View.ld (iblk m c 4 t) (Rect.unit (s := S512x2048) ![0, 1536] ![512, 512] inb_S512x2048_S512x512_0_1536)) (View.ld (iblk m c 5 t) (Rect.unit (s := S8x1024x512) ![7, 0, 0] ![1, 1024, 512] inb_S8x1024x512_S1x1024x512_7_0_0)) (iblk m c 6 t)) acc i = acc i + partN m c t i := by
  idx_vars i
  rw [accN_at]
  simp only [dhK_at, blk_x, partN]
  rfl

theorem accG_step (acc : FVec Ideal S1x1024 .f32) (i : S1x1024.Idx) : k0_pay2 (F := Ideal) (k0_pay17 (k0_pay9 (iblk m c 6 t)) (k0_pay10 (iblk m c 6 t)) (ttK m c t) (iblk m c 8 t) (iblk m c 9 t)) acc i = acc i + partG m c t i := by
  idx_vars i
  rw [accG_at]
  have e : ∀ (r : Fin 512) (k : Fin 1024), k0_pay13 (F := Ideal) (k0_pay9 (iblk m c 6 t)) (k0_pay10 (iblk m c 6 t)) (ttK m c t) (iblk m c 8 t) (ix2 r k) = D1 (B0 m c) (B1 m c) (B2 m c) (B3 m c) (B4 m c) (B5 m c) (B6 m c) (B7 m c) (B8 m c) (B9 m c) (B10 m c) (row t r) k := d1K_at m c t
  simp only [blk_y, e, partG]
  rfl

end Cert.Dh

end
-- ==== Proof.Dh.Rows.lean ====
/-
  The two results written block by block.
-/
module

public import proofs.«01_k».proof.Proof.Dh.Point
public import Idealize.ShloMosaic.Lib.Pipeline.ReadBack

@[expose] public section

set_option maxRecDepth 16384

noncomputable section

namespace Cert.Dh

open Cert.In (Piece Gates seg col seg_0 seg_1 seg_2 seg_3 seg_gates)
open Idealize.ShloMosaic Idealize.ShloMosaic.TcCoe Cert.Norm Cert.MmDhIdeal Cert.MmDhIdeal.Gen

variable (m : (ℓ : Loc nD τ sig) → Buf (Elt Ideal) ℓ) (c : Dev nD)

/-- The residual stream's gradient, a block and the whole array. -/
theorem at1 (t : Fin cfg0.N) (r : Fin 512) (j : Fin 1024) : (outsAt0 m c t.val t.isLt).1 (ix2 r j) = D1 (B0 m c) (B1 m c) (B2 m c) (B3 m c) (B4 m c) (B5 m c) (B6 m c) (B7 m c) (B8 m c) (B9 m c) (B10 m c) (row t r) j := by
  by_cases h0 : t.val % 16 = 0
  · rw [outsAt0_A m c t h0]
    frame_out
    exact d1K_at m c t r j
  · rw [outsAt0_B m c t h0]
    frame_out
    exact d1K_at m c t r j

theorem final1 (r : Fin 8192) (j : Fin 1024) : (dats m 0 c).arrAt 11 cfg0.N (ix2 r j) = D1 (B0 m c) (B1 m c) (B2 m c) (B3 m c) (B4 m c) (B5 m c) (B6 m c) (B7 m c) (B8 m c) (B9 m c) (B10 m c) r j := by
  have e : (dats m 0 c).arrAt 11 cfg0.N = (fun i : S8192x1024.Idx => D1 (B0 m c) (B1 m c) (B2 m c) (B3 m c) (B4 m c) (B5 m c) (B6 m c) (B7 m c) (B8 m c) (B9 m c) (B10 m c) (i 0) (i 1)) := by
    refine (dats m 0 c).arrAt_eq_of_covers 11 _ (by decide +kernel) fun t hf y => ?_
    blk_simp
    rw [after0_11]
    idx_vars y
    rw [at1]
    refine congrArg₂ (D1 (B0 m c) (B1 m c) (B2 m c) (B3 m c) (B4 m c) (B5 m c) (B6 m c) (B7 m c) (B8 m c) (B9 m c) (B10 m c)) (Fin.ext ?_) (Fin.ext ?_) <;> (
      blk_simp [row, idx t]
      try omega)
  rw [e]
  rfl

/-- The second term's gradient, a block and the whole array. -/
theorem atM (t : Fin cfg0.N) (r : Fin 512) (j : Fin 1024) : (outsAt0 m c t.val t.isLt).2.2.1 (ix2 r j) = DM (B0 m c) (B1 m c) (B2 m c) (B3 m c) (B4 m c) (B5 m c) (B6 m c) (B7 m c) (B8 m c) (B9 m c) (B10 m c) (row t r) j := by
  by_cases h0 : t.val % 16 = 0
  · rw [outsAt0_A m c t h0]
    frame_out
    exact dmK_at m c t r j
  · rw [outsAt0_B m c t h0]
    frame_out
    exact dmK_at m c t r j

theorem finalM (r : Fin 8192) (j : Fin 1024) : (dats m 0 c).arrAt 13 cfg0.N (ix2 r j) = DM (B0 m c) (B1 m c) (B2 m c) (B3 m c) (B4 m c) (B5 m c) (B6 m c) (B7 m c) (B8 m c) (B9 m c) (B10 m c) r j := by
  have e : (dats m 0 c).arrAt 13 cfg0.N = (fun i : S8192x1024.Idx => DM (B0 m c) (B1 m c) (B2 m c) (B3 m c) (B4 m c) (B5 m c) (B6 m c) (B7 m c) (B8 m c) (B9 m c) (B10 m c) (i 0) (i 1)) := by
    refine (dats m 0 c).arrAt_eq_of_covers 13 _ (by decide +kernel) fun t hf y => ?_
    blk_simp
    rw [after0_13]
    idx_vars y
    rw [atM]
    refine congrArg₂ (DM (B0 m c) (B1 m c) (B2 m c) (B3 m c) (B4 m c) (B5 m c) (B6 m c) (B7 m c) (B8 m c) (B9 m c) (B10 m c)) (Fin.ext ?_) (Fin.ext ?_) <;> (
      blk_simp [row, idx t]
      try omega)
  rw [e]
  rfl

end Cert.Dh

end
-- ==== Proof.Dh.Sums.lean ====
/-
  What is added up over the grid's 16 points: the two gains' gradients, each after the last point a sum over all 8192 rows.
-/
module

public import proofs.«01_k».proof.Proof.Dh.Point
public import Idealize.ShloMosaic.Lib.Pipeline.ReadBack

@[expose] public section

set_option maxRecDepth 16384

noncomputable section

namespace Cert.Dh

open Cert.In (Piece Gates seg col seg_0 seg_1 seg_2 seg_3 seg_gates)
open Idealize.ShloMosaic Idealize.ShloMosaic.TcCoe Cert.Norm Cert.MmDhIdeal Cert.MmDhIdeal.Gen

variable (m : (ℓ : Loc nD τ sig) → Buf (Elt Ideal) ℓ) (c : Dev nD)

/-- A sum over points and the rows of each is a sum over all rows. -/
theorem sum_rows (f : Fin 8192 → EReal) : ∑ t : Fin cfg0.N, ∑ r : Fin 512, f (row t r) = ∑ l : Fin 8192, f l := by
  show ∑ t : Fin 16, ∑ r : Fin 512, f (row t r) = ∑ l : Fin 8192, f l
  exact Fin.sum_mul_add_congr fun s k hl => rfl

theorem accN_last (t : Fin cfg0.N) (ht : t.val + 1 = cfg0.N) (z : Fin 1) (j : Fin 1024) : (outsAt0 m c t.val t.isLt).2.1 (ix2 z j) = DN (B0 m c) (B1 m c) (B2 m c) (B3 m c) (B4 m c) (B5 m c) (B6 m c) (B9 m c) (B10 m c) j := by
  rw [Pipeline.eq_sum_fin_of_reset_step_apply_last (fun n h => (outsAt0 m c n h).2.1) 16 (fun _ => 0) (partN m c)
    (fun t h i => by
      rw [outsAt0_A m c t h]
      frame_out
      refine (accN_step m c t _ i).trans ?_
      rw [zeroN])
    (fun t h i => by
      rw [outsAt0_B m c t h]
      frame_out
      refine (accN_step m c t _ i).trans ?_
      try rw [read_unread_whole]
      rfl)
    (le_of_eq N_0) t ht (ix2 z j), zero_add]
  exact sum_rows fun l => DH (B0 m c) (B1 m c) (B2 m c) (B3 m c) (B4 m c) (B5 m c) l j * nrm (X1 (B6 m c) (B9 m c) (B10 m c) l) j

theorem accG_last (t : Fin cfg0.N) (ht : t.val + 1 = cfg0.N) (z : Fin 1) (j : Fin 1024) : (outsAt0 m c t.val t.isLt).2.2.2 (ix2 z j) = DG (B0 m c) (B1 m c) (B2 m c) (B3 m c) (B4 m c) (B5 m c) (B6 m c) (B7 m c) (B8 m c) (B9 m c) (B10 m c) j := by
  rw [Pipeline.eq_sum_fin_of_reset_step_apply_last (fun n h => (outsAt0 m c n h).2.2.2) 16 (fun _ => 0) (partG m c)
    (fun t h i => by
      rw [outsAt0_A m c t h]
      frame_out
      refine (accG_step m c t _ i).trans ?_
      rw [zeroG])
    (fun t h i => by
      rw [outsAt0_B m c t h]
      frame_out
      refine (accG_step m c t _ i).trans ?_
      try rw [read_unread_whole]
      rfl)
    (le_of_eq N_0) t ht (ix2 z j), zero_add]
  exact sum_rows fun l => D1 (B0 m c) (B1 m c) (B2 m c) (B3 m c) (B4 m c) (B5 m c) (B6 m c) (B7 m c) (B8 m c) (B9 m c) (B10 m c) l j * nrm (fun k => (B9 m c) (ix2 l k)) j

theorem finalN (z : Fin 1) (j : Fin 1024) : (dats m 0 c).arrAt 12 cfg0.N (ix2 z j) = DN (B0 m c) (B1 m c) (B2 m c) (B3 m c) (B4 m c) (B5 m c) (B6 m c) (B9 m c) (B10 m c) j := by
  have e : (dats m 0 c).arrAt 12 cfg0.N = (fun i : S1x1024.Idx => DN (B0 m c) (B1 m c) (B2 m c) (B3 m c) (B4 m c) (B5 m c) (B6 m c) (B9 m c) (B10 m c) (i 1)) := by
    refine (dats m 0 c).arrAt_eq_of_covers 12 _ (by decide +kernel) fun t hf y => ?_
    have h : t.val % 16 = 15 := (flush0_12 t).mp hf
    have hl := lt16 t
    have ht : t.val + 1 = cfg0.N := by rw [show cfg0.N = 16 from N_0]; omega
    blk_simp
    rw [after0_12]
    idx_vars y
    rw [accN_last m c t ht]
    refine congrArg (DN (B0 m c) (B1 m c) (B2 m c) (B3 m c) (B4 m c) (B5 m c) (B6 m c) (B9 m c) (B10 m c)) (Fin.ext ?_)
    blk_simp [idx t]
    try omega
  rw [e]
  rfl

theorem finalG (z : Fin 1) (j : Fin 1024) : (dats m 0 c).arrAt 14 cfg0.N (ix2 z j) = DG (B0 m c) (B1 m c) (B2 m c) (B3 m c) (B4 m c) (B5 m c) (B6 m c) (B7 m c) (B8 m c) (B9 m c) (B10 m c) j := by
  have e : (dats m 0 c).arrAt 14 cfg0.N = (fun i : S1x1024.Idx => DG (B0 m c) (B1 m c) (B2 m c) (B3 m c) (B4 m c) (B5 m c) (B6 m c) (B7 m c) (B8 m c) (B9 m c) (B10 m c) (i 1)) := by
    refine (dats m 0 c).arrAt_eq_of_covers 14 _ (by decide +kernel) fun t hf y => ?_
    have h : t.val % 16 = 15 := (flush0_14 t).mp hf
    have hl := lt16 t
    have ht : t.val + 1 = cfg0.N := by rw [show cfg0.N = 16 from N_0]; omega
    blk_simp
    rw [after0_14]
    idx_vars y
    rw [accG_last m c t ht]
    refine congrArg (DG (B0 m c) (B1 m c) (B2 m c) (B3 m c) (B4 m c) (B5 m c) (B6 m c) (B7 m c) (B8 m c) (B9 m c) (B10 m c)) (Fin.ext ?_)
    blk_simp [idx t]
    try omega
  rw [e]
  rfl

end Cert.Dh

end
-- ==== Proof.Dh.Ref.lean ====
/-
  The reference's values, read at an index: the sums of `Spec.lean`.
-/
module

public import proofs.«01_k».proof.Proof.Dh.Spec
public import proofs.«01_k».proof.Proof.Gen.MmDhRefIdeal.Read
public import Idealize.ShloMosaic.Lib.Pipeline.ValueKit

@[expose] public section

set_option maxRecDepth 16384

noncomputable section

namespace Cert.Dh

open Cert.In (Piece Gates seg col seg_0 seg_1 seg_2 seg_3 seg_gates)
open Idealize.ShloMosaic Cert.Norm Cert.MmDhRefIdeal Cert.MmDhRefIdeal.Gen Cert.MmDhRefIdeal.Read

variable (A0 : FVec Ideal Piece .bf16) (A1 : FVec Ideal Piece .bf16) (A2 : FVec Ideal Piece .bf16) (A3 : FVec Ideal Piece .bf16) (A4 : FVec Ideal Gates .bf16) (A5 : FVec Ideal Wt .bf16)
  (A6 : FVec Ideal Rows .f32) (A7 : FVec Ideal Gain .f32) (A8 A9 : FVec Ideal Rows .f32) (A10 : FVec Ideal Gain .f32)

/-- The gradient's pieces side by side. -/
theorem ref_seg (r : Fin 8192) (k : Fin 4096) : val_main_v1 (F := Ideal) A0 A1 A2 A3 A4 (ix2 r k) = seg A0 A1 A2 A3 A4 r k := by
  pointwise [val_main_v1, val_main_v0, seg]

/-- The gradient of the projections' argument. -/
theorem ref_dh (r : Fin 8192) (j : Fin 1024) : val_main_v37 (F := Ideal) A0 A1 A2 A3 A4 A5 (ix2 r j) = DH A0 A1 A2 A3 A4 A5 r j := by
  pointwise [val_main_v37, val_main_v4, val_main_v3, val_main_v2, ref_seg]
  refine Eq.symm (Fin.sum_mul_add_congr fun s k hl => ?_)
  have e3 : k = ⟨(s.val * 512 + k.val) % 512, by omega⟩ := Fin.ext (by show k.val = (s.val * 512 + k.val) % 512; omega)
  have e4 : s = ⟨(s.val * 512 + k.val) / 512, by omega⟩ := Fin.ext (by show s.val = (s.val * 512 + k.val) / 512; omega)
  exact congrArg₂ (fun a b : EReal => a * b) rfl (congrArg₂ (fun a b => A5 (ix3 a j b)) e4 e3)

/-- The first norm. -/
theorem ref_ms (r : Fin 8192) (z : Fin 1) : val_main_v11 (F := Ideal) A9 (ix2 r z) = ms (fun k => A9 (ix2 r k)) := by
  obtain rfl : z = 0 := Subsingleton.elim _ _
  pointwise [val_main_v11, val_main_v10, val_main_v9, val_main_v8, val_main_v7, val_main_v6, val_main_v5, val_main_cst, val_main_cst_0, val_main_cst_1, ms]

theorem ref_slope (r : Fin 8192) (z : Fin 1) : val_main_v15 (F := Ideal) A9 (ix2 r z) =
    Ideal.ofBits .f32 0xBF000000#32 * Ideal.div (Ideal.rsqrt (ms (fun k => A9 (ix2 r k)))) (ms (fun k => A9 (ix2 r k))) := by
  obtain rfl : z = 0 := Subsingleton.elim _ _
  pointwise [val_main_v15, val_main_v14, val_main_v13, val_main_v12, val_main_cst_2, ref_ms]

theorem ref_nrm (r : Fin 8192) (j : Fin 1024) : val_main_v17 (F := Ideal) A9 (ix2 r j) = nrm (fun k => A9 (ix2 r k)) j := by
  pointwise [val_main_v17, val_main_v16, val_main_v12, ref_ms, nrm]

/-- The residual stream. -/
theorem ref_x1 (r : Fin 8192) (j : Fin 1024) : val_main_v20 (F := Ideal) A6 A9 A10 (ix2 r j) = X1 A6 A9 A10 r j := by
  pointwise [val_main_v20, val_main_v19, val_main_v18, ref_nrm, X1]

/-- The second norm. -/
theorem ref_ms1 (r : Fin 8192) (z : Fin 1) : val_main_v27 (F := Ideal) A6 A9 A10 (ix2 r z) = ms (X1 A6 A9 A10 r) := by
  obtain rfl : z = 0 := Subsingleton.elim _ _
  pointwise [val_main_v27, val_main_v26, val_main_v25, val_main_v24, val_main_v23, val_main_v22, val_main_v21, val_main_cst_3, val_main_cst_4, val_main_cst_5, ref_x1, ms]

theorem ref_slope1 (r : Fin 8192) (z : Fin 1) : val_main_v31 (F := Ideal) A6 A9 A10 (ix2 r z) =
    Ideal.ofBits .f32 0xBF000000#32 * Ideal.div (Ideal.rsqrt (ms (X1 A6 A9 A10 r))) (ms (X1 A6 A9 A10 r)) := by
  obtain rfl : z = 0 := Subsingleton.elim _ _
  pointwise [val_main_v31, val_main_v30, val_main_v29, val_main_v28, val_main_cst_6, ref_ms1]

theorem ref_nrm1 (r : Fin 8192) (j : Fin 1024) : val_main_v33 (F := Ideal) A6 A9 A10 (ix2 r j) = nrm (X1 A6 A9 A10 r) j := by
  pointwise [val_main_v33, val_main_v32, val_main_v28, ref_ms1, ref_x1, nrm]

/-- The second norm's gain's gradient. -/
theorem ref_dn (z : Fin 1) (j : Fin 1024) : val_main_v40 (F := Ideal) A0 A1 A2 A3 A4 A5 A6 A9 A10 (ix2 z j) = DN A0 A1 A2 A3 A4 A5 A6 A9 A10 j := by
  obtain rfl : z = 0 := Subsingleton.elim _ _
  pointwise [val_main_v40, val_main_v39, val_main_v38, val_main_cst_7, ref_dh, ref_nrm1, DN]
  exact Finset.sum_congr rfl fun l _ => mul_comm _ _

theorem ref_tt (r : Fin 8192) (j : Fin 1024) : val_main_v42 (F := Ideal) A0 A1 A2 A3 A4 A5 A7 (ix2 r j) = TT A0 A1 A2 A3 A4 A5 A7 r j := by
  pointwise [val_main_v42, val_main_v41, ref_dh, TT]

theorem ref_uu (r : Fin 8192) (j : Fin 1024) : val_main_v53 (F := Ideal) A0 A1 A2 A3 A4 A5 A6 A7 A9 A10 (ix2 r j) = uu (X1 A6 A9 A10 r) (TT A0 A1 A2 A3 A4 A5 A7 r) := by
  pointwise [val_main_v53, val_main_v52, val_main_v51, val_main_v50, val_main_v49, val_main_v45, val_main_v44, val_main_v43, val_main_cst_8, val_main_cst_9, val_main_cst_10, ref_x1, ref_tt, ref_slope1, uu]
  exact Fintype.sum_unique _

/-- The residual stream's gradient. -/
theorem ref_d1 (r : Fin 8192) (j : Fin 1024) : val_main_v57 (F := Ideal) A0 A1 A2 A3 A4 A5 A6 A7 A8 A9 A10 (ix2 r j) = D1 A0 A1 A2 A3 A4 A5 A6 A7 A8 A9 A10 r j := by
  pointwise [val_main_v57, val_main_v56, val_main_v55, val_main_v54, val_main_v48, val_main_v47, val_main_v46, val_main_v28, ref_x1, ref_tt, ref_uu, ref_ms1, D1]
  exact dn_add _ _ _ _

theorem ref_d1' (r : Fin 8192) (j : Fin 1024) : val_main_v58 (F := Ideal) A0 A1 A2 A3 A4 A5 A6 A7 A8 A9 A10 (ix2 r j) = D1 A0 A1 A2 A3 A4 A5 A6 A7 A8 A9 A10 r j := by
  pointwise [val_main_v58, ref_d1]

/-- The first norm's gain's gradient. -/
theorem ref_dg (z : Fin 1) (j : Fin 1024) : val_main_v61 (F := Ideal) A0 A1 A2 A3 A4 A5 A6 A7 A8 A9 A10 (ix2 z j) = DG A0 A1 A2 A3 A4 A5 A6 A7 A8 A9 A10 j := by
  obtain rfl : z = 0 := Subsingleton.elim _ _
  pointwise [val_main_v61, val_main_v60, val_main_v59, val_main_cst_11, ref_d1', ref_nrm, DG]
  exact Finset.sum_congr rfl fun l _ => mul_comm _ _

theorem ref_t2 (r : Fin 8192) (j : Fin 1024) : val_main_v63 (F := Ideal) A0 A1 A2 A3 A4 A5 A6 A7 A8 A9 A10 (ix2 r j) = D1 A0 A1 A2 A3 A4 A5 A6 A7 A8 A9 A10 r j * A10 (ix2 0 j) := by
  pointwise [val_main_v63, val_main_v62, ref_d1']

theorem ref_uu2 (r : Fin 8192) (j : Fin 1024) : val_main_v73 (F := Ideal) A0 A1 A2 A3 A4 A5 A6 A7 A8 A9 A10 (ix2 r j) =
    uu (fun k => A9 (ix2 r k)) (fun k => D1 A0 A1 A2 A3 A4 A5 A6 A7 A8 A9 A10 r k * A10 (ix2 0 k)) := by
  pointwise [val_main_v73, val_main_v72, val_main_v71, val_main_v70, val_main_v69, val_main_v66, val_main_v65, val_main_v64, val_main_cst_12, val_main_cst_13, val_main_cst_14, ref_t2, ref_slope, uu]
  exact Fintype.sum_unique _

/-- The gradient of the sum's second term. -/
theorem ref_dm (r : Fin 8192) (j : Fin 1024) : val_main_v78 (F := Ideal) A0 A1 A2 A3 A4 A5 A6 A7 A8 A9 A10 (ix2 r j) = DM A0 A1 A2 A3 A4 A5 A6 A7 A8 A9 A10 r j := by
  pointwise [val_main_v78, val_main_v77, val_main_v76, val_main_v75, val_main_v74, val_main_v68, val_main_v67, val_main_v12, ref_t2, ref_uu2, ref_ms, DM]
  exact dn_eq' (fun k => A9 (ix2 r k)) (fun k => D1 A0 A1 A2 A3 A4 A5 A6 A7 A8 A9 A10 r k * A10 (ix2 0 k)) j

end Cert.Dh

end
-- ==== Proof.Dh.Claims.lean ====
/-
  The gradient through the input projections: the reference's frame, and that both programs end with the same arrays.
-/
module

public import proofs.«01_k».proof.Defs
public import proofs.«01_k».proof.Proof.Dh.Rows
public import proofs.«01_k».proof.Proof.Dh.Sums
public import proofs.«01_k».proof.Proof.Dh.Ref
public import proofs.«01_k».proof.Proof.Gen.MmDhIdeal.Value
public import proofs.«01_k».proof.Proof.Gen.MmDhRefIdeal
public import Idealize.ShloMosaic.Lib.Quiescent

@[expose] public section

set_option maxRecDepth 16384

noncomputable section

namespace Cert.Dh

open Cert.In (Piece Gates seg col seg_0 seg_1 seg_2 seg_3 seg_gates)
open Idealize.ShloMosaic Idealize.ShloMosaic.TcCoe Idealize.SL.Sem

/-- The reference runs, its arguments are unchanged and its counters end at zero: it has none. -/
theorem frame_ref : Cert.quiescent_MmDhRefIdeal (hMmDhRefIdeal := Cert.MmDhRefIdeal.Gen.facts) := fun m ρ _ =>
  (θ_run (Cert.MmDhRefIdeal.defs (F := Ideal)) _ _).mono
    (fun r h => ⟨fun c => (h c).2.2.2.2, Idealize.ShloMosaic.sem_eq_zero_of_no_sems (by decide) r.2⟩)
    (Cert.MmDhRefIdeal.Value.run (F := Ideal) m ρ)

section
variable (m : (ℓ : Loc Cert.MmDhIdeal.nD Cert.MmDhIdeal.τ Cert.MmDhIdeal.sig) → Buf (Elt Ideal) ℓ) (c : Dev Cert.MmDhIdeal.nD)
open Cert.MmDhRefIdeal.Read Cert.MmDhIdeal Cert.MmDhIdeal.Gen

/-! The arrays the kernel leaves are the reference's, of the same arguments. -/

theorem eq11 : (dats m 0 c).arrAt 11 cfg0.N = val_main_v57 (F := Ideal) (B0 m c) (B1 m c) (B2 m c) (B3 m c) (B4 m c) (B5 m c) (B6 m c) (B7 m c) (B8 m c) (B9 m c) (B10 m c) := by
  funext i
  idx_vars i
  exact (final1 m c i0 i1).trans (ref_d1 _ _ _ _ _ _ _ _ _ _ _ i0 i1).symm

theorem eq13 : (dats m 0 c).arrAt 13 cfg0.N = val_main_v78 (F := Ideal) (B0 m c) (B1 m c) (B2 m c) (B3 m c) (B4 m c) (B5 m c) (B6 m c) (B7 m c) (B8 m c) (B9 m c) (B10 m c) := by
  funext i
  idx_vars i
  exact (finalM m c i0 i1).trans (ref_dm _ _ _ _ _ _ _ _ _ _ _ i0 i1).symm

theorem eq12 : (dats m 0 c).arrAt 12 cfg0.N = val_main_v40 (F := Ideal) (B0 m c) (B1 m c) (B2 m c) (B3 m c) (B4 m c) (B5 m c) (B6 m c) (B9 m c) (B10 m c) := by
  funext i
  idx_vars i
  exact (finalN m c i0 i1).trans (ref_dn _ _ _ _ _ _ _ _ _ i0 i1).symm

theorem eq14 : (dats m 0 c).arrAt 14 cfg0.N = val_main_v61 (F := Ideal) (B0 m c) (B1 m c) (B2 m c) (B3 m c) (B4 m c) (B5 m c) (B6 m c) (B7 m c) (B8 m c) (B9 m c) (B10 m c) := by
  funext i
  idx_vars i
  exact (finalG m c i0 i1).trans (ref_dg _ _ _ _ _ _ _ _ _ _ _ i0 i1).symm

end

/-- From equal arguments both programs end with the same four arrays. -/
theorem algebraic : Cert.algebraic_MmDhIdeal_MmDhRefIdeal (hMmDhIdeal := Cert.MmDhIdeal.Gen.facts)
    (hMmDhRefIdeal := Cert.MmDhRefIdeal.Gen.facts) := by
  intro m g m' g' _ ha
  refine ⟨_, _, _, _, Cert.MmDhIdeal.Value.run_blocks (F := Ideal) m g, ?_⟩
  refine (θ_run (Cert.MmDhRefIdeal.defs (F := Ideal)) _ _).mono (fun r h c => ?_) (Cert.MmDhRefIdeal.Value.run (F := Ideal) m' g')
  obtain ⟨h0, h1, h2, h3, hk⟩ := h c
  obtain ⟨a0, a1, a2, a3, a4, a5, a6, a7, a8, a9, a10⟩ := ha c
  rw [Cert.MmDhRefIdeal.Read.val_main_v57_eq, a0, a1, a2, a3, a4, a5, a6, a7, a8, a9, a10] at h0
  rw [Cert.MmDhRefIdeal.Read.val_main_v78_eq, a0, a1, a2, a3, a4, a5, a6, a7, a8, a9, a10] at h2
  rw [Cert.MmDhRefIdeal.Read.val_main_v61_eq, a0, a1, a2, a3, a4, a5, a6, a7, a8, a9, a10] at h3
  rw [a0, a1, a2, a3, a4, a5, a6, a9, a10] at h1
  exact ⟨h0.trans (eq11 m c).symm, h1.trans (eq12 m c).symm, h2.trans (eq13 m c).symm, h3.trans (eq14 m c).symm, hk⟩

end Cert.Dh

end
-- ==== Proof.MmIn.Spec.lean ====
/-
  The input projections: what both programs are shown to compute. Arguments, in the order of the programs: `A0` the normed
  rows and `A1` the projections' weights by device.
-/
module

public import Idealize.ShloMosaic.Lib.Pointwise
public import Idealize.ShloMosaic.PureOps.Ideal

@[expose] public section

set_option maxRecDepth 16384

noncomputable section

namespace Cert.MIn

open Idealize.ShloMosaic

abbrev Rows : Shape := ⟨2, ![8192, 1024]⟩
abbrev Wt : Shape := ⟨3, ![8, 1024, 512]⟩

/-- A column's device and its place there. -/
def dev (q : Fin 4096) : Fin 8 := ⟨q / 512, by omega⟩
def place (q : Fin 4096) : Fin 512 := ⟨q % 512, by omega⟩

variable (A0 : FVec Ideal Rows .bf16) (A1 : FVec Ideal Wt .bf16)

/-- The projections, side by side: column `q` is column `q mod 512` of device `q / 512`. -/
def MI (r : Fin 8192) (q : Fin 4096) : EReal := ∑ k : Fin 1024, A0 (ix2 r k) * A1 (ix3 (dev q) k (place q))

end Cert.MIn

end
-- ==== Proof.MmIn.Body.lean ====
/-
  What the kernel's body computes from one block of rows, payload by payload, read at an index.
-/
module

public import proofs.«01_k».proof.Proof.MmIn.Spec
public import proofs.«01_k».proof.Proof.Gen.MmInIdeal.Skeleton

@[expose] public section

set_option maxRecDepth 16384

noncomputable section

namespace Cert.MIn

open Idealize.ShloMosaic Cert.MmInIdeal Cert.MmInIdeal.Gen

variable (h : FVec Ideal S512x1024 .bf16) (w : FVec Ideal S1x1024x512 .bf16)

/-- One device's product, a block. -/
def bp (r q : Fin 512) : EReal := ∑ k : Fin 1024, h (ix2 r k) * w (ix3 0 k q)

theorem pay1_at (r q : Fin 512) : k0_pay1 (F := Ideal) h w (ix2 r q) = bp h w r q := by
  pointwise [k0_pay1, bp]

theorem pay2_at (r q : Fin 512) : k0_pay2 (F := Ideal) h w (ix2 r q) = bp h w r q := by
  pointwise [k0_pay2, bp]

theorem pay3_at (r q : Fin 512) : k0_pay3 (F := Ideal) h w (ix2 r q) = bp h w r q := by
  pointwise [k0_pay3, bp]

theorem pay4_at (r q : Fin 512) : k0_pay4 (F := Ideal) h w (ix2 r q) = bp h w r q := by
  pointwise [k0_pay4, bp]

theorem pay5_at (r q : Fin 512) : k0_pay5 (F := Ideal) h w (ix2 r q) = bp h w r q := by
  pointwise [k0_pay5, bp]

theorem pay6_at (r q : Fin 512) : k0_pay6 (F := Ideal) h w (ix2 r q) = bp h w r q := by
  pointwise [k0_pay6, bp]

theorem pay7_at (r q : Fin 512) : k0_pay7 (F := Ideal) h w (ix2 r q) = bp h w r q := by
  pointwise [k0_pay7, bp]

theorem pay8_at (r q : Fin 512) : k0_pay8 (F := Ideal) h w (ix2 r q) = bp h w r q := by
  pointwise [k0_pay8, bp]

end Cert.MIn

end
-- ==== Proof.MmIn.Point.lean ====
/-
  The blocks a grid point reads and writes, as rows of the arrays: point `t` has the rows `512 t … 512 t + 511`.
-/
module

public import proofs.«01_k».proof.Proof.MmIn.Body
public import proofs.«01_k».proof.Proof.Gen.MmInIdeal.Frame
public import Idealize.ShloMosaic.Lib.Pipeline.ValueKit
public import Idealize.ShloMosaic.Lib.Pipeline.ReadBack

@[expose] public section

set_option maxRecDepth 16384

noncomputable section

namespace Cert.MIn

open Idealize.ShloMosaic Idealize.ShloMosaic.TcCoe Cert.MmInIdeal Cert.MmInIdeal.Gen

/-- Where each window's block lies at a point. -/
theorem idx : ∀ t : Fin cfg0.N, win0_0.index t = ![t.val, 0] ∧ win0_1.index t = ![0, 0, 0] ∧ win0_2.index t = ![t.val, 0] :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal Rows .bf16 := m ((c : Thread nD τ).loc main_arg0)
abbrev B1 : FVec Ideal Wt .bf16 := m ((c : Thread nD τ).loc main_arg1)

theorem lt16 : t.val < 16 := t.isLt

/-- Row `r` of point `t`'s block. -/
def row (t : Fin cfg0.N) (r : Fin 512) : Fin 8192 := ⟨t.val * 512 + r, by have := lt16 t; omega⟩

theorem blk_h (r : Fin 512) (k : Fin 1024) : iblk m c 0 t (ix2 r k) = B0 m c (ix2 (row t r) k) := by
  blk_point [iblk, V, row, idx t]

theorem blk_w (d : Fin 8) (k : Fin 1024) (q : Fin 512) : iblk m c 1 t (ix3 d k q) = B1 m c (ix3 d k q) := by
  blk_point [iblk, V, row, idx t]

theorem ld0 (k : Fin 1024) (q : Fin 512) : View.ld (iblk m c 1 t) (Rect.unit (s := S8x1024x512) ![0, 0, 0] ![1, 1024, 512] inb_S8x1024x512_S1x1024x512_0_0_0) (ix3 0 k q) =
    B1 m c (ix3 0 k q) := by
  rw [← blk_w m c t]
  pointwise
  blk_ext

theorem ld1 (k : Fin 1024) (q : Fin 512) : View.ld (iblk m c 1 t) (Rect.unit (s := S8x1024x512) ![1, 0, 0] ![1, 1024, 512] inb_S8x1024x512_S1x1024x512_1_0_0) (ix3 0 k q) =
    B1 m c (ix3 1 k q) := by
  rw [← blk_w m c t]
  pointwise
  blk_ext

theorem ld2 (k : Fin 1024) (q : Fin 512) : View.ld (iblk m c 1 t) (Rect.unit (s := S8x1024x512) ![2, 0, 0] ![1, 1024, 512] inb_S8x1024x512_S1x1024x512_2_0_0) (ix3 0 k q) =
    B1 m c (ix3 2 k q) := by
  rw [← blk_w m c t]
  pointwise
  blk_ext

theorem ld3 (k : Fin 1024) (q : Fin 512) : View.ld (iblk m c 1 t) (Rect.unit (s := S8x1024x512) ![3, 0, 0] ![1, 1024, 512] inb_S8x1024x512_S1x1024x512_3_0_0) (ix3 0 k q) =
    B1 m c (ix3 3 k q) := by
  rw [← blk_w m c t]
  pointwise
  blk_ext

theorem ld4 (k : Fin 1024) (q : Fin 512) : View.ld (iblk m c 1 t) (Rect.unit (s := S8x1024x512) ![4, 0, 0] ![1, 1024, 512] inb_S8x1024x512_S1x1024x512_4_0_0) (ix3 0 k q) =
    B1 m c (ix3 4 k q) := by
  rw [← blk_w m c t]
  pointwise
  blk_ext

theorem ld5 (k : Fin 1024) (q : Fin 512) : View.ld (iblk m c 1 t) (Rect.unit (s := S8x1024x512) ![5, 0, 0] ![1, 1024, 512] inb_S8x1024x512_S1x1024x512_5_0_0) (ix3 0 k q) =
    B1 m c (ix3 5 k q) := by
  rw [← blk_w m c t]
  pointwise
  blk_ext

theorem ld6 (k : Fin 1024) (q : Fin 512) : View.ld (iblk m c 1 t) (Rect.unit (s := S8x1024x512) ![6, 0, 0] ![1, 1024, 512] inb_S8x1024x512_S1x1024x512_6_0_0) (ix3 0 k q) =
    B1 m c (ix3 6 k q) := by
  rw [← blk_w m c t]
  pointwise
  blk_ext

theorem ld7 (k : Fin 1024) (q : Fin 512) : View.ld (iblk m c 1 t) (Rect.unit (s := S8x1024x512) ![7, 0, 0] ![1, 1024, 512] inb_S8x1024x512_S1x1024x512_7_0_0) (ix3 0 k q) =
    B1 m c (ix3 7 k q) := by
  rw [← blk_w m c t]
  pointwise
  blk_ext

/-- One device's columns of the block: whichever payload they go through, they are the point's product. -/
theorem tile (f : FVec Ideal S512x512 .f32) (w : FVec Ideal S1x1024x512 .bf16) (d : Fin 8)
    (hf : ∀ r q : Fin 512, f (ix2 r q) = bp (iblk m c 0 t) w r q) (hw : ∀ (k : Fin 1024) (q : Fin 512), w (ix3 0 k q) = B1 m c (ix3 d k q))
    (x : S512x512.Idx) (r : Fin 512) (q : Fin 4096) (h0 : r.val = (x 0).val) (h1 : q.val = d.val * 512 + (x 1).val) :
    f x = MI (B0 m c) (B1 m c) (row t r) q := by
  idx_vars x
  obtain rfl : r = x0 := Fin.ext h0
  have h1 : q.val = d.val * 512 + x1.val := h1
  have hx : x1.val < 512 := x1.isLt
  have e1 : dev q = d := Fin.ext (by show q.val / 512 = d.val; omega)
  have e2 : place q = x1 := Fin.ext (by show q.val % 512 = x1.val; omega)
  rw [hf]
  simp only [bp, hw, blk_h, MI, e1, e2]

/-- The block, whole. -/
theorem at2 (r : Fin 512) (q : Fin 4096) : out0_2 (iblk m c 0 t) (iblk m c 1 t) (ix2 r q) = MI (B0 m c) (B1 m c) (row t r) q := by
  frame_out
  canon_tiles x hx
  · exact tile m c t _ _ 7 (pay3_at _ _) (ld7 m c t) x r q (by simpa using hx0) (by simpa using hx1)
  · exact tile m c t _ _ 6 (pay2_at _ _) (ld6 m c t) x r q (by simpa using hx0) (by simpa using hx1)
  · exact tile m c t _ _ 5 (pay1_at _ _) (ld5 m c t) x r q (by simpa using hx0) (by simpa using hx1)
  · exact tile m c t _ _ 4 (pay8_at _ _) (ld4 m c t) x r q (by simpa using hx0) (by simpa using hx1)
  · exact tile m c t _ _ 3 (pay7_at _ _) (ld3 m c t) x r q (by simpa using hx0) (by simpa using hx1)
  · exact tile m c t _ _ 2 (pay6_at _ _) (ld2 m c t) x r q (by simpa using hx0) (by simpa using hx1)
  · exact tile m c t _ _ 1 (pay5_at _ _) (ld1 m c t) x r q (by simpa using hx0) (by simpa using hx1)
  · exact tile m c t _ _ 0 (pay4_at _ _) (ld0 m c t) x r q (by simpa using hx0) (by simpa using hx1)

/-- The projections, the whole array. -/
theorem final2 (r : Fin 8192) (q : Fin 4096) : (dats m 0 c).arrAt 2 cfg0.N (ix2 r q) = MI (B0 m c) (B1 m c) r q := by
  have e : (dats m 0 c).arrAt 2 cfg0.N = (fun i : S8192x4096.Idx => MI (B0 m c) (B1 m c) (i 0) (i 1)) := by
    refine (dats m 0 c).arrAt_eq_of_covers 2 _ (by decide +kernel) fun t hf y => ?_
    blk_simp
    rw [after0_2]
    idx_vars y
    rw [at2]
    refine congrArg₂ (MI (B0 m c) (B1 m c)) (Fin.ext ?_) (Fin.ext ?_) <;> (
      blk_simp [row, idx t]
      try omega)
  rw [e]
  rfl

end Cert.MIn

end
-- ==== Proof.MmIn.Ref.lean ====
/-
  The reference's result, read at an index: the sum of `Spec.lean`.
-/
module

public import proofs.«01_k».proof.Proof.MmIn.Spec
public import proofs.«01_k».proof.Proof.Gen.MmInRefIdeal.Read
public import Idealize.ShloMosaic.Lib.Pipeline.ValueKit

@[expose] public section

set_option maxRecDepth 16384

noncomputable section

namespace Cert.MIn

open Idealize.ShloMosaic Cert.MmInRefIdeal Cert.MmInRefIdeal.Gen Cert.MmInRefIdeal.Read

variable (A0 : FVec Ideal Rows .bf16) (A1 : FVec Ideal Wt .bf16)

theorem ref_mi (r : Fin 8192) (q : Fin 4096) : val_main_v4 (F := Ideal) A0 A1 (ix2 r q) = MI A0 A1 r q := by
  pointwise [val_main_v4, val_main_v3, val_main_v2, val_main_v1, val_main_v0, MI, dev, place]

end Cert.MIn

end
-- ==== Proof.MmIn.Claims.lean ====
/-
  The input projections: the reference's frame, and that both programs end with the same array.
-/
module

public import proofs.«01_k».proof.Defs
public import proofs.«01_k».proof.Proof.MmIn.Point
public import proofs.«01_k».proof.Proof.MmIn.Ref
public import proofs.«01_k».proof.Proof.Gen.MmInIdeal.Value
public import proofs.«01_k».proof.Proof.Gen.MmInRefIdeal
public import Idealize.ShloMosaic.Lib.Quiescent

@[expose] public section

set_option maxRecDepth 16384

noncomputable section

namespace Cert.MIn

open Idealize.ShloMosaic Idealize.ShloMosaic.TcCoe Idealize.SL.Sem

/-- The reference runs, its arguments are unchanged and its counters end at zero: it has none. -/
theorem frame_ref : Cert.quiescent_MmInRefIdeal (hMmInRefIdeal := Cert.MmInRefIdeal.Gen.facts) := fun m ρ _ =>
  (θ_run (Cert.MmInRefIdeal.defs (F := Ideal)) _ _).mono
    (fun r h => ⟨fun c => (h c).2, Idealize.ShloMosaic.sem_eq_zero_of_no_sems (by decide) r.2⟩)
    (Cert.MmInRefIdeal.Value.run (F := Ideal) m ρ)

section
variable (m : (ℓ : Loc Cert.MmInIdeal.nD Cert.MmInIdeal.τ Cert.MmInIdeal.sig) → Buf (Elt Ideal) ℓ) (c : Dev Cert.MmInIdeal.nD)
open Cert.MmInRefIdeal.Read Cert.MmInIdeal Cert.MmInIdeal.Gen

/-- The array the kernel leaves is the reference's, of the same arguments. -/
theorem eq2 : (dats m 0 c).arrAt 2 cfg0.N = val_main_v4 (F := Ideal) (B0 m c) (B1 m c) := by
  funext i
  idx_vars i
  exact (final2 m c i0 i1).trans (ref_mi _ _ i0 i1).symm

end

/-- From equal arguments both programs end with the same array. -/
theorem algebraic : Cert.algebraic_MmInIdeal_MmInRefIdeal (hMmInIdeal := Cert.MmInIdeal.Gen.facts)
    (hMmInRefIdeal := Cert.MmInRefIdeal.Gen.facts) := by
  intro m g m' g' _ ha
  refine ⟨_, Cert.MmInIdeal.Value.run_blocks (F := Ideal) m g, ?_⟩
  refine (θ_run (Cert.MmInRefIdeal.defs (F := Ideal)) _ _).mono (fun r h c => ?_) (Cert.MmInRefIdeal.Value.run (F := Ideal) m' g')
  obtain ⟨h0, hk⟩ := h c
  obtain ⟨a0, a1⟩ := ha c
  rw [a0, a1] at h0
  exact ⟨h0.trans (eq2 m c).symm, hk⟩

end Cert.MIn

end
-- ==== Proof.MixFwd.Spec.lean ====
/-
  The gated sum of the two branches, the output projection, the residual sum and the norms around it: what both programs are
  shown to compute. Arguments, in the order of the programs: `A0` the attention's result and `A1` the pooling's, `A2` and `A3`
  the branches' weights, `A4` the projection, `A5` the gate bias, `A6` the output weights, `A7` the residual stream, `A8` the
  gain of the norm after the mixing and `A9` that of the norm after the sum.
-/
module

public import proofs.«01_k».proof.Proof.Mix.Spec
public import proofs.«01_k».proof.Proof.Norm.Spec

@[expose] public section

set_option maxRecDepth 16384

noncomputable section

namespace Cert.Fwd

open Idealize.ShloMosaic Cert.Norm
open Cert.Mix (Half Br Proj Bias Sq Rows Y Z G GA GB sg)

abbrev Gain : Shape := ⟨2, ![1, 1024]⟩

variable (A0 A1 : FVec Ideal Half .bf16) (A2 A3 : FVec Ideal Br .bf16) (A4 : FVec Ideal Proj .f32) (A5 : FVec Ideal Bias .f32)
  (A6 : FVec Ideal Sq .bf16) (A7 : FVec Ideal Rows .f32) (A8 A9 : FVec Ideal Gain .f32)

/-- The gated sum. -/
def ZZ (r : Fin 8192) (j : Fin 1024) : EReal := Z A4 A5 A2 A3 A0 A1 r j

/-- The output projection. -/
def MX (r : Fin 8192) (j : Fin 1024) : EReal := ∑ k : Fin 1024, ZZ A0 A1 A2 A3 A4 A5 r k * A6 (ix2 k j)

/-- The residual stream after the sum. -/
def X1 (r : Fin 8192) (j : Fin 1024) : EReal := A7 (ix2 r j) + nrm (MX A0 A1 A2 A3 A4 A5 A6 r) j * A8 (ix2 0 j)

/-- The residual stream, normed. -/
def H2 (r : Fin 8192) (j : Fin 1024) : EReal := nrm (X1 A0 A1 A2 A3 A4 A5 A6 A7 A8 r) j * A9 (ix2 0 j)

end Cert.Fwd

end
-- ==== Proof.MixFwd.Body.lean ====
/-
  What the kernel's body computes from one block of rows, payload by payload, read at an index.
-/
module

public import proofs.«01_k».proof.Proof.MixFwd.Spec
public import proofs.«01_k».proof.Proof.Gen.MixFwdIdeal.Skeleton

@[expose] public section

set_option maxRecDepth 16384

noncomputable section

namespace Cert.Fwd

open Idealize.ShloMosaic Cert.Norm Cert.MixFwdIdeal Cert.MixFwdIdeal.Gen
open Cert.Mix (sg)

variable (a b : FVec Ideal S512x512 .bf16) (wa wb : FVec Ideal S512x1024 .bf16) (p q : FVec Ideal S512x1024 .f32) (u v : FVec Ideal S1x1024 .f32)
  (z : FVec Ideal S512x1024 .bf16) (w : FVec Ideal S1024x1024 .bf16) (x : FVec Ideal S512x1024 .f32) (g h : FVec Ideal S1x1024 .f32)

/-- A branch's result, a block. -/
def by' (a : FVec Ideal S512x512 .bf16) (wa : FVec Ideal S512x1024 .bf16) (r : Fin 512) (j : Fin 1024) : EReal :=
  ∑ k : Fin 512, a (ix2 r k) * wa (ix2 k j)

/-- The output projection, a block. -/
def bm (r : Fin 512) (j : Fin 1024) : EReal := ∑ k : Fin 1024, z (ix2 r k) * w (ix2 k j)

/-- The residual stream after the sum, a block. -/
def bx (r : Fin 512) (j : Fin 1024) : EReal := x (ix2 r j) + nrm (bm z w r) j * g (ix2 0 j)

theorem ya_at (r : Fin 512) (j : Fin 1024) : k0_pay7 (F := Ideal) (k0_pay2 a wa) (ix2 r j) = by' a wa r j := by
  pointwise [k0_pay7, k0_pay2, by']

theorem yb_at (r : Fin 512) (j : Fin 1024) : k0_pay8 (F := Ideal) (k0_pay3 a wa) (ix2 r j) = by' a wa r j := by
  pointwise [k0_pay8, k0_pay3, by']

theorem z_at (r : Fin 512) (j : Fin 1024) : k0_pay4 (F := Ideal) a wa b wb p u q v (ix2 r j) =
    sg (p (ix2 r j) + u (ix2 0 j)) * by' a wa r j + sg (q (ix2 r j) + v (ix2 0 j)) * by' b wb r j := by
  pointwise [k0_pay4, k0_pay2, k0_pay3, by', sg, zero_sub]

theorem mix_at (r : Fin 512) (j : Fin 1024) : k0_pay5 (F := Ideal) z w (ix2 r j) = bm z w r j := by
  pointwise [k0_pay5, bm]

theorem x1_at (r : Fin 512) (j : Fin 1024) : k0_pay6 (F := Ideal) z w x g (ix2 r j) = bx z w x g r j := by
  pointwise [k0_pay6, mix_at, bx, nrm, ms]

theorem ms_at (r : Fin 512) (o : Fin 1) : k0_pay9 (F := Ideal) z w x g (ix2 r o) = Ideal.rsqrt (ms (bx z w x g r)) := by
  obtain rfl : o = 0 := Subsingleton.elim _ _
  pointwise [k0_pay9, x1_at, ms]

theorem h2_at (r : Fin 512) (j : Fin 1024) : k0_pay1 (F := Ideal) (k0_pay6 z w x g) h (k0_pay9 z w x g) (ix2 r j) =
    nrm (bx z w x g r) j * h (ix2 0 j) := by
  pointwise [k0_pay1, x1_at, ms_at, nrm]

end Cert.Fwd

end
-- ==== Proof.MixFwd.Point.lean ====
/-
  The blocks a grid point reads, as rows of the arrays: point `t` has the rows `512 t … 512 t + 511`. Then what the body
  computes of them.
-/
module

public import proofs.«01_k».proof.Proof.MixFwd.Body
public import proofs.«01_k».proof.Proof.Gen.MixFwdIdeal.Frame
public import Idealize.ShloMosaic.Lib.Pipeline.ValueKit
public import Idealize.ShloMosaic.Lib.Pipeline.ReadBack

@[expose] public section

set_option maxRecDepth 16384

noncomputable section

namespace Cert.Fwd

open Idealize.ShloMosaic Idealize.ShloMosaic.TcCoe Cert.Norm
open Cert.Mix (Half Br Proj Bias Sq Rows Y Z G GA GB sg)
open Cert.MixFwdIdeal Cert.MixFwdIdeal.Gen

/-- Where each window's block lies at a point. -/
theorem idx : ∀ t : Fin cfg0.N, win0_0.index t = ![t.val, 0] ∧ win0_1.index t = ![t.val, 0] ∧ win0_2.index t = ![0, 0] ∧ win0_3.index t = ![0, 0] ∧ win0_4.index t = ![t.val, 2] ∧ win0_5.index t = ![t.val, 3] ∧ win0_6.index t = ![0, 0] ∧ win0_7.index t = ![0, 1] ∧ win0_8.index t = ![0, 0] ∧ win0_9.index t = ![t.val, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal Half .bf16 := m ((c : Thread nD τ).loc main_arg0)
abbrev B1 : FVec Ideal Half .bf16 := m ((c : Thread nD τ).loc main_arg1)
abbrev B2 : FVec Ideal Br .bf16 := m ((c : Thread nD τ).loc main_arg2)
abbrev B3 : FVec Ideal Br .bf16 := m ((c : Thread nD τ).loc main_arg3)
abbrev B4 : FVec Ideal Proj .f32 := m ((c : Thread nD τ).loc main_arg4)
abbrev B5 : FVec Ideal Bias .f32 := m ((c : Thread nD τ).loc main_arg5)
abbrev B6 : FVec Ideal Sq .bf16 := m ((c : Thread nD τ).loc main_arg6)
abbrev B7 : FVec Ideal Rows .f32 := m ((c : Thread nD τ).loc main_arg7)
abbrev B8 : FVec Ideal Gain .f32 := m ((c : Thread nD τ).loc main_arg8)
abbrev B9 : FVec Ideal Gain .f32 := m ((c : Thread nD τ).loc main_arg9)

theorem lt16 : t.val < 16 := t.isLt

/-- Row `r` of point `t`'s block. -/
def row (t : Fin cfg0.N) (r : Fin 512) : Fin 8192 := ⟨t.val * 512 + r, by have := lt16 t; omega⟩

theorem blk_a (r : Fin 512) (k : Fin 512) : iblk m c 0 t (ix2 r k) = B0 m c (ix2 (row t r) k) := by
  blk_point [iblk, V, row, idx t]

theorem blk_b (r : Fin 512) (k : Fin 512) : iblk m c 1 t (ix2 r k) = B1 m c (ix2 (row t r) k) := by
  blk_point [iblk, V, row, idx t]

theorem blk_wa (k : Fin 512) (j : Fin 1024) : iblk m c 2 t (ix2 k j) = B2 m c (ix2 k j) := by
  blk_point [iblk, V, row, idx t]

theorem blk_wb (k : Fin 512) (j : Fin 1024) : iblk m c 3 t (ix2 k j) = B3 m c (ix2 k j) := by
  blk_point [iblk, V, row, idx t]

theorem blk_p (r : Fin 512) (j : Fin 1024) : iblk m c 4 t (ix2 r j) = B4 m c (ix2 (row t r) ⟨2048 + j, by omega⟩) := by
  blk_point [iblk, V, row, idx t]

theorem blk_q (r : Fin 512) (j : Fin 1024) : iblk m c 5 t (ix2 r j) = B4 m c (ix2 (row t r) ⟨2048 + (1024 + j), by omega⟩) := by
  blk_point [iblk, V, row, idx t]

theorem blk_u (j : Fin 1024) : iblk m c 6 t (ix2 0 j) = B5 m c (ix2 0 ⟨j, by omega⟩) := by
  blk_point [iblk, V, row, idx t]

theorem blk_v (j : Fin 1024) : iblk m c 7 t (ix2 0 j) = B5 m c (ix2 0 ⟨1024 + j, by omega⟩) := by
  blk_point [iblk, V, row, idx t]

theorem blk_w (k j : Fin 1024) : iblk m c 8 t (ix2 k j) = B6 m c (ix2 k j) := by
  blk_point [iblk, V, row, idx t]

theorem blk_x (r : Fin 512) (j : Fin 1024) : iblk m c 9 t (ix2 r j) = B7 m c (ix2 (row t r) j) := by
  blk_point [iblk, V, row, idx t]

theorem blk_g (j : Fin 1024) : iblk m c 10 t (ix2 0 j) = B8 m c (ix2 0 j) := by
  blk_point [iblk, V, row, idx t]

theorem blk_h (j : Fin 1024) : iblk m c 11 t (ix2 0 j) = B9 m c (ix2 0 j) := by
  blk_point [iblk, V, row, idx t]

/-- The gated sum, a block. -/
abbrev zK : FVec Ideal S512x1024 .bf16 := k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem zK_eq : zK m c t = k0_pay4 (F := Ideal) (iblk m c 0 t) (iblk m c 2 t) (iblk m c 1 t) (iblk m c 3 t) (iblk m c 4 t) (iblk m c 6 t) (iblk m c 5 t) (iblk m c 7 t) := by
  unfold zK k0_pay10
  simp (disch := decide) only [View.ld_unit_lit]

theorem zK_at (r : Fin 512) (j : Fin 1024) : zK m c t (ix2 r j) = ZZ (B0 m c) (B1 m c) (B2 m c) (B3 m c) (B4 m c) (B5 m c) (row t r) j := by
  rw [zK_eq, z_at]
  simp only [by', blk_a, blk_b, blk_wa, blk_wb, blk_p, blk_q, blk_u, blk_v, ZZ, Z, GA, GB, G, Y]

theorem bm_eq (r : Fin 512) : bm (zK m c t) (iblk m c 8 t) r = MX (B0 m c) (B1 m c) (B2 m c) (B3 m c) (B4 m c) (B5 m c) (B6 m c) (row t r) := by
  funext j
  simp only [bm, blk_w, MX]
  exact Finset.sum_congr rfl fun k _ => congrArg (· * _) (zK_at m c t r k)

theorem bx_eq (r : Fin 512) : bx (zK m c t) (iblk m c 8 t) (iblk m c 9 t) (iblk m c 10 t) r = X1 (B0 m c) (B1 m c) (B2 m c) (B3 m c) (B4 m c) (B5 m c) (B6 m c) (B7 m c) (B8 m c) (row t r) := by
  funext j
  rw [bx, bm_eq, blk_x, blk_g, X1]

/-! What the body leaves in each output block. -/

theorem at12 (r : Fin 512) (j : Fin 1024) : (dats m 0 c).after 12 t (ix2 r j) = ZZ (B0 m c) (B1 m c) (B2 m c) (B3 m c) (B4 m c) (B5 m c) (row t r) j := by
  rw [after0_12]
  frame_out
  exact zK_at m c t r j

theorem at13 (r : Fin 512) (j : Fin 1024) : (dats m 0 c).after 13 t (ix2 r j) = Y (B0 m c) (B2 m c) (row t r) j := by
  rw [after0_13]
  frame_out
  refine (ya_at _ _ r j).trans ?_
  simp only [by', blk_a, blk_wa, Y]

theorem at14 (r : Fin 512) (j : Fin 1024) : (dats m 0 c).after 14 t (ix2 r j) = Y (B1 m c) (B3 m c) (row t r) j := by
  rw [after0_14]
  frame_out
  refine (yb_at _ _ r j).trans ?_
  simp only [by', blk_b, blk_wb, Y]

theorem at15 (r : Fin 512) (j : Fin 1024) : (dats m 0 c).after 15 t (ix2 r j) = MX (B0 m c) (B1 m c) (B2 m c) (B3 m c) (B4 m c) (B5 m c) (B6 m c) (row t r) j := by
  rw [after0_15]
  frame_out
  exact (mix_at _ _ r j).trans (congrFun (bm_eq m c t r) j)

theorem at16 (r : Fin 512) (j : Fin 1024) : (dats m 0 c).after 16 t (ix2 r j) = X1 (B0 m c) (B1 m c) (B2 m c) (B3 m c) (B4 m c) (B5 m c) (B6 m c) (B7 m c) (B8 m c) (row t r) j := by
  rw [after0_16]
  frame_out
  exact (x1_at _ _ _ _ r j).trans (congrFun (bx_eq m c t r) j)

theorem at17 (r : Fin 512) (j : Fin 1024) : (dats m 0 c).after 17 t (ix2 r j) = H2 (B0 m c) (B1 m c) (B2 m c) (B3 m c) (B4 m c) (B5 m c) (B6 m c) (B7 m c) (B8 m c) (B9 m c) (row t r) j := by
  rw [after0_17]
  frame_out
  refine (h2_at _ _ _ _ _ r j).trans ?_
  have e := bx_eq m c t r
  exact congrArg₂ (fun (f : Fin 1024 → EReal) (y : EReal) => nrm f j * y) e (blk_h m c t j)

end Cert.Fwd

end
-- ==== Proof.MixFwd.Rows.lean ====
/-
  The six results, each whole array.
-/
module

public import proofs.«01_k».proof.Proof.MixFwd.Point

@[expose] public section

set_option maxRecDepth 16384

noncomputable section

namespace Cert.Fwd

open Idealize.ShloMosaic Idealize.ShloMosaic.TcCoe Cert.Norm
open Cert.Mix (Half Br Proj Bias Sq Rows Y Z G GA GB sg)
open Cert.MixFwdIdeal Cert.MixFwdIdeal.Gen

variable (m : (ℓ : Loc nD τ sig) → Buf (Elt Ideal) ℓ) (c : Dev nD)

/-- The gated sum. -/
theorem final12 (r : Fin 8192) (j : Fin 1024) : (dats m 0 c).arrAt 12 cfg0.N (ix2 r j) = ZZ (B0 m c) (B1 m c) (B2 m c) (B3 m c) (B4 m c) (B5 m c) r j := by
  have e : (dats m 0 c).arrAt 12 cfg0.N = (fun i : S8192x1024.Idx => ZZ (B0 m c) (B1 m c) (B2 m c) (B3 m c) (B4 m c) (B5 m c) (i 0) (i 1)) := by
    refine (dats m 0 c).arrAt_eq_of_covers 12 _ (by decide +kernel) fun t hf y => ?_
    blk_simp
    idx_vars y
    rw [at12]
    refine congrArg₂ (ZZ (B0 m c) (B1 m c) (B2 m c) (B3 m c) (B4 m c) (B5 m c)) (Fin.ext ?_) (Fin.ext ?_) <;> (
      blk_simp [row, idx t]
      try omega)
  rw [e]
  rfl

/-- The attention branch's result. -/
theorem final13 (r : Fin 8192) (j : Fin 1024) : (dats m 0 c).arrAt 13 cfg0.N (ix2 r j) = Y (B0 m c) (B2 m c) r j := by
  have e : (dats m 0 c).arrAt 13 cfg0.N = (fun i : S8192x1024.Idx => Y (B0 m c) (B2 m c) (i 0) (i 1)) := by
    refine (dats m 0 c).arrAt_eq_of_covers 13 _ (by decide +kernel) fun t hf y => ?_
    blk_simp
    idx_vars y
    rw [at13]
    refine congrArg₂ (Y (B0 m c) (B2 m c)) (Fin.ext ?_) (Fin.ext ?_) <;> (
      blk_simp [row, idx t]
      try omega)
  rw [e]
  rfl

/-- The pooling branch's. -/
theorem final14 (r : Fin 8192) (j : Fin 1024) : (dats m 0 c).arrAt 14 cfg0.N (ix2 r j) = Y (B1 m c) (B3 m c) r j := by
  have e : (dats m 0 c).arrAt 14 cfg0.N = (fun i : S8192x1024.Idx => Y (B1 m c) (B3 m c) (i 0) (i 1)) := by
    refine (dats m 0 c).arrAt_eq_of_covers 14 _ (by decide +kernel) fun t hf y => ?_
    blk_simp
    idx_vars y
    rw [at14]
    refine congrArg₂ (Y (B1 m c) (B3 m c)) (Fin.ext ?_) (Fin.ext ?_) <;> (
      blk_simp [row, idx t]
      try omega)
  rw [e]
  rfl

/-- The output projection. -/
theorem final15 (r : Fin 8192) (j : Fin 1024) : (dats m 0 c).arrAt 15 cfg0.N (ix2 r j) = MX (B0 m c) (B1 m c) (B2 m c) (B3 m c) (B4 m c) (B5 m c) (B6 m c) r j := by
  have e : (dats m 0 c).arrAt 15 cfg0.N = (fun i : S8192x1024.Idx => MX (B0 m c) (B1 m c) (B2 m c) (B3 m c) (B4 m c) (B5 m c) (B6 m c) (i 0) (i 1)) := by
    refine (dats m 0 c).arrAt_eq_of_covers 15 _ (by decide +kernel) fun t hf y => ?_
    blk_simp
    idx_vars y
    rw [at15]
    refine congrArg₂ (MX (B0 m c) (B1 m c) (B2 m c) (B3 m c) (B4 m c) (B5 m c) (B6 m c)) (Fin.ext ?_) (Fin.ext ?_) <;> (
      blk_simp [row, idx t]
      try omega)
  rw [e]
  rfl

/-- The residual stream after the sum. -/
theorem final16 (r : Fin 8192) (j : Fin 1024) : (dats m 0 c).arrAt 16 cfg0.N (ix2 r j) = X1 (B0 m c) (B1 m c) (B2 m c) (B3 m c) (B4 m c) (B5 m c) (B6 m c) (B7 m c) (B8 m c) r j := by
  have e : (dats m 0 c).arrAt 16 cfg0.N = (fun i : S8192x1024.Idx => X1 (B0 m c) (B1 m c) (B2 m c) (B3 m c) (B4 m c) (B5 m c) (B6 m c) (B7 m c) (B8 m c) (i 0) (i 1)) := by
    refine (dats m 0 c).arrAt_eq_of_covers 16 _ (by decide +kernel) fun t hf y => ?_
    blk_simp
    idx_vars y
    rw [at16]
    refine congrArg₂ (X1 (B0 m c) (B1 m c) (B2 m c) (B3 m c) (B4 m c) (B5 m c) (B6 m c) (B7 m c) (B8 m c)) (Fin.ext ?_) (Fin.ext ?_) <;> (
      blk_simp [row, idx t]
      try omega)
  rw [e]
  rfl

/-- The residual stream, normed. -/
theorem final17 (r : Fin 8192) (j : Fin 1024) : (dats m 0 c).arrAt 17 cfg0.N (ix2 r j) = H2 (B0 m c) (B1 m c) (B2 m c) (B3 m c) (B4 m c) (B5 m c) (B6 m c) (B7 m c) (B8 m c) (B9 m c) r j := by
  have e : (dats m 0 c).arrAt 17 cfg0.N = (fun i : S8192x1024.Idx => H2 (B0 m c) (B1 m c) (B2 m c) (B3 m c) (B4 m c) (B5 m c) (B6 m c) (B7 m c) (B8 m c) (B9 m c) (i 0) (i 1)) := by
    refine (dats m 0 c).arrAt_eq_of_covers 17 _ (by decide +kernel) fun t hf y => ?_
    blk_simp
    idx_vars y
    rw [at17]
    refine congrArg₂ (H2 (B0 m c) (B1 m c) (B2 m c) (B3 m c) (B4 m c) (B5 m c) (B6 m c) (B7 m c) (B8 m c) (B9 m c)) (Fin.ext ?_) (Fin.ext ?_) <;> (
      blk_simp [row, idx t]
      try omega)
  rw [e]
  rfl

end Cert.Fwd

end
-- ==== Proof.MixFwd.Ref.lean ====
/-
  The reference's six results, read at an index: the sums of `Spec.lean`.
-/
module

public import proofs.«01_k».proof.Proof.MixFwd.Spec
public import proofs.«01_k».proof.Proof.Gen.MixFwdRefIdeal.Read

@[expose] public section

set_option maxRecDepth 16384

noncomputable section

namespace Cert.Fwd

open Idealize.ShloMosaic Cert.Norm
open Cert.Mix (Half Br Proj Bias Sq Rows Y Z G GA GB sg)
open Cert.MixFwdRefIdeal Cert.MixFwdRefIdeal.Gen Cert.MixFwdRefIdeal.Read

variable (A0 A1 : FVec Ideal Half .bf16) (A2 A3 : FVec Ideal Br .bf16) (A4 : FVec Ideal Proj .f32) (A5 : FVec Ideal Bias .f32)
  (A6 : FVec Ideal Sq .bf16) (A7 : FVec Ideal Rows .f32) (A8 A9 : FVec Ideal Gain .f32)

theorem ref_ya (r : Fin 8192) (j : Fin 1024) : val_main_v2 (F := Ideal) A0 A2 (ix2 r j) = Y A0 A2 r j := by
  pointwise [val_main_v2, val_main_v1, val_main_v0, Y]

theorem ref_yb (r : Fin 8192) (j : Fin 1024) : val_main_v5 (F := Ideal) A1 A3 (ix2 r j) = Y A1 A3 r j := by
  pointwise [val_main_v5, val_main_v4, val_main_v3, Y]

/-- The gates. -/
theorem ref_gate (r : Fin 8192) (q : Fin 2048) : val_main_v14 (F := Ideal) A4 A5 (ix2 r q) = G A4 A5 r q := by
  pointwise [val_main_v14, val_main_v13, val_main_v12, val_main_v11, val_main_v10, val_main_v9, val_main_v8, val_main_v7, val_main_v6, val_main_cst, val_main_cst_0, G, sg]

/-- The gated sum. -/
theorem ref_z (r : Fin 8192) (j : Fin 1024) : val_main_v19 (F := Ideal) A0 A1 A2 A3 A4 A5 (ix2 r j) = ZZ A0 A1 A2 A3 A4 A5 r j := by
  pointwise [val_main_v19, val_main_v18, val_main_v17, val_main_v16, val_main_v15, ref_gate, ref_ya, ref_yb, ZZ, Z, GA, GB]

/-- The output projection. -/
theorem ref_mix (r : Fin 8192) (j : Fin 1024) : val_main_v21 (F := Ideal) A0 A1 A2 A3 A4 A5 A6 (ix2 r j) = MX A0 A1 A2 A3 A4 A5 A6 r j := by
  pointwise [val_main_v21, val_main_v20, ref_z, MX]

theorem ref_ms (r : Fin 8192) (z : Fin 1) : val_main_v28 (F := Ideal) A0 A1 A2 A3 A4 A5 A6 (ix2 r z) = ms (MX A0 A1 A2 A3 A4 A5 A6 r) := by
  obtain rfl : z = 0 := Subsingleton.elim _ _
  pointwise [val_main_v28, val_main_v27, val_main_v26, val_main_v25, val_main_v24, val_main_v23, val_main_v22, val_main_cst_1, val_main_cst_2, val_main_cst_3, ref_mix, ms]

/-- The residual stream after the sum. -/
theorem ref_x1 (r : Fin 8192) (j : Fin 1024) : val_main_v34 (F := Ideal) A0 A1 A2 A3 A4 A5 A6 A7 A8 (ix2 r j) = X1 A0 A1 A2 A3 A4 A5 A6 A7 A8 r j := by
  pointwise [val_main_v34, val_main_v33, val_main_v32, val_main_v31, val_main_v30, val_main_v29, ref_mix, ref_ms, X1, nrm]

theorem ref_ms1 (r : Fin 8192) (z : Fin 1) : val_main_v41 (F := Ideal) A0 A1 A2 A3 A4 A5 A6 A7 A8 (ix2 r z) = ms (X1 A0 A1 A2 A3 A4 A5 A6 A7 A8 r) := by
  obtain rfl : z = 0 := Subsingleton.elim _ _
  pointwise [val_main_v41, val_main_v40, val_main_v39, val_main_v38, val_main_v37, val_main_v36, val_main_v35, val_main_cst_4, val_main_cst_5, val_main_cst_6, ref_x1, ms]

/-- The results that are rounded. -/
theorem ref_v47 (r : Fin 8192) (j : Fin 1024) : val_main_v47 (F := Ideal) A0 A1 A2 A3 A4 A5 (ix2 r j) = ZZ A0 A1 A2 A3 A4 A5 r j := by
  pointwise [val_main_v47, ref_z]

theorem ref_v48 (r : Fin 8192) (j : Fin 1024) : val_main_v48 (F := Ideal) A0 A2 (ix2 r j) = Y A0 A2 r j := by
  pointwise [val_main_v48, ref_ya]

theorem ref_v49 (r : Fin 8192) (j : Fin 1024) : val_main_v49 (F := Ideal) A1 A3 (ix2 r j) = Y A1 A3 r j := by
  pointwise [val_main_v49, ref_yb]

theorem ref_v50 (r : Fin 8192) (j : Fin 1024) : val_main_v50 (F := Ideal) A0 A1 A2 A3 A4 A5 A6 A7 A8 A9 (ix2 r j) = H2 A0 A1 A2 A3 A4 A5 A6 A7 A8 A9 r j := by
  pointwise [val_main_v50, val_main_v46, val_main_v45, val_main_v44, val_main_v43, val_main_v42, ref_x1, ref_ms1, H2, nrm]

end Cert.Fwd

end
-- ==== Proof.MixFwd.Claims.lean ====
/-
  The gated sum, the output projection and the norms: the reference's frame, and that both programs end with the same arrays.
-/
module

public import proofs.«01_k».proof.Defs
public import proofs.«01_k».proof.Proof.MixFwd.Rows
public import proofs.«01_k».proof.Proof.MixFwd.Ref
public import proofs.«01_k».proof.Proof.Gen.MixFwdIdeal.Value
public import proofs.«01_k».proof.Proof.Gen.MixFwdRefIdeal
public import Idealize.ShloMosaic.Lib.Quiescent

@[expose] public section

set_option maxRecDepth 16384

noncomputable section

namespace Cert.Fwd

open Idealize.ShloMosaic Idealize.ShloMosaic.TcCoe Idealize.SL.Sem

/-- The reference runs, its arguments are unchanged and its counters end at zero: it has none. -/
theorem frame_ref : Cert.quiescent_MixFwdRefIdeal (hMixFwdRefIdeal := Cert.MixFwdRefIdeal.Gen.facts) := fun m ρ _ =>
  (θ_run (Cert.MixFwdRefIdeal.defs (F := Ideal)) _ _).mono
    (fun r h => ⟨fun c => (h c).2.2.2.2.2.2, Idealize.ShloMosaic.sem_eq_zero_of_no_sems (by decide) r.2⟩)
    (Cert.MixFwdRefIdeal.Value.run (F := Ideal) m ρ)

section
variable (m : (ℓ : Loc Cert.MixFwdIdeal.nD Cert.MixFwdIdeal.τ Cert.MixFwdIdeal.sig) → Buf (Elt Ideal) ℓ) (c : Dev Cert.MixFwdIdeal.nD)
open Cert.MixFwdRefIdeal.Read Cert.MixFwdIdeal Cert.MixFwdIdeal.Gen

/-! The arrays the kernel leaves are the reference's, of the same arguments. -/

theorem eq12 : (dats m 0 c).arrAt 12 cfg0.N = val_main_v47 (F := Ideal) (B0 m c) (B1 m c) (B2 m c) (B3 m c) (B4 m c) (B5 m c) := by
  funext i
  idx_vars i
  exact (final12 m c i0 i1).trans (ref_v47 _ _ _ _ _ _ i0 i1).symm

theorem eq13 : (dats m 0 c).arrAt 13 cfg0.N = val_main_v48 (F := Ideal) (B0 m c) (B2 m c) := by
  funext i
  idx_vars i
  exact (final13 m c i0 i1).trans (ref_v48 _ _ i0 i1).symm

theorem eq14 : (dats m 0 c).arrAt 14 cfg0.N = val_main_v49 (F := Ideal) (B1 m c) (B3 m c) := by
  funext i
  idx_vars i
  exact (final14 m c i0 i1).trans (ref_v49 _ _ i0 i1).symm

theorem eq15 : (dats m 0 c).arrAt 15 cfg0.N = val_main_v21 (F := Ideal) (B0 m c) (B1 m c) (B2 m c) (B3 m c) (B4 m c) (B5 m c) (B6 m c) := by
  funext i
  idx_vars i
  exact (final15 m c i0 i1).trans (ref_mix _ _ _ _ _ _ _ i0 i1).symm

theorem eq16 : (dats m 0 c).arrAt 16 cfg0.N = val_main_v34 (F := Ideal) (B0 m c) (B1 m c) (B2 m c) (B3 m c) (B4 m c) (B5 m c) (B6 m c) (B7 m c) (B8 m c) := by
  funext i
  idx_vars i
  exact (final16 m c i0 i1).trans (ref_x1 _ _ _ _ _ _ _ _ _ i0 i1).symm

theorem eq17 : (dats m 0 c).arrAt 17 cfg0.N = val_main_v50 (F := Ideal) (B0 m c) (B1 m c) (B2 m c) (B3 m c) (B4 m c) (B5 m c) (B6 m c) (B7 m c) (B8 m c) (B9 m c) := by
  funext i
  idx_vars i
  exact (final17 m c i0 i1).trans (ref_v50 _ _ _ _ _ _ _ _ _ _ i0 i1).symm

end

/-- From equal arguments both programs end with the same six arrays. -/
theorem algebraic : Cert.algebraic_MixFwdIdeal_MixFwdRefIdeal (hMixFwdIdeal := Cert.MixFwdIdeal.Gen.facts)
    (hMixFwdRefIdeal := Cert.MixFwdRefIdeal.Gen.facts) := by
  intro m g m' g' _ ha
  refine ⟨_, _, _, _, _, _, Cert.MixFwdIdeal.Value.run_blocks (F := Ideal) m g, ?_⟩
  refine (θ_run (Cert.MixFwdRefIdeal.defs (F := Ideal)) _ _).mono (fun r h c => ?_) (Cert.MixFwdRefIdeal.Value.run (F := Ideal) m' g')
  obtain ⟨h0, h1, h2, h3, h4, h5, hk⟩ := h c
  obtain ⟨a0, a1, a2, a3, a4, a5, a6, a7, a8, a9⟩ := ha c
  rw [a0, a1, a2, a3, a4, a5] at h0
  rw [a0, a2] at h1
  rw [a1, a3] at h2
  rw [a0, a1, a2, a3, a4, a5, a6] at h3
  rw [Cert.MixFwdRefIdeal.Read.val_main_v34_eq, a0, a1, a2, a3, a4, a5, a6, a7, a8] at h4
  rw [Cert.MixFwdRefIdeal.Read.val_main_v50_eq, a0, a1, a2, a3, a4, a5, a6, a7, a8, a9] at h5
  exact ⟨h0.trans (eq12 m c).symm, h1.trans (eq13 m c).symm, h2.trans (eq14 m c).symm, h3.trans (eq15 m c).symm, h4.trans (eq16 m c).symm, h5.trans (eq17 m c).symm, hk⟩

end Cert.Fwd

end
-- ==== Proof.DownLoss.Spec.lean ====
/-
  The down projection, the norm after it, the residual sum, the loss and its gradient: what both programs are shown to
  compute. Arguments, in the order of the programs: `A0` the gated activation in four pieces of columns, `A1` the projection's
  weights, `A2` the residual stream, `A3` the norm's gain, `A4` the target.
-/
module

public import proofs.«01_k».proof.Proof.Norm.Spec
public import Idealize.ShloMosaic.Lib.Pointwise
public import Idealize.ShloMosaic.PureOps.Ideal

@[expose] public section

set_option maxRecDepth 16384

noncomputable section

namespace Cert.Loss

open Idealize.ShloMosaic Cert.Norm

abbrev Act : Shape := ⟨3, ![4, 8192, 704]⟩
abbrev Wt : Shape := ⟨2, ![2816, 1024]⟩
abbrev Rows : Shape := ⟨2, ![8192, 1024]⟩
abbrev Gain : Shape := ⟨2, ![1, 1024]⟩

/-- A piece's column among all. -/
def col (p : Fin 4) (q : Fin 704) : Fin 2816 := ⟨p * 704 + q, by omega⟩

variable (A0 : FVec Ideal Act .bf16) (A1 : FVec Ideal Wt .bf16) (A2 : FVec Ideal Rows .f32) (A3 : FVec Ideal Gain .f32) (A4 : FVec Ideal Rows .f32)

/-- The projection: a sum over pieces of the columns of each. -/
def FF (r : Fin 8192) (j : Fin 1024) : EReal := ∑ p : Fin 4, ∑ q : Fin 704, A0 (ix3 p r q) * A1 (ix2 (col p q) j)

/-- The residual stream's distance from the target. -/
def ER (r : Fin 8192) (j : Fin 1024) : EReal := A2 (ix2 r j) + nrm (FF A0 A1 r) j * A3 (ix2 0 j) - A4 (ix2 r j)

/-- The loss's gradient. -/
def DY (r : Fin 8192) (j : Fin 1024) : EReal := ER A0 A1 A2 A3 A4 r j * Ideal.ofBits .f32 0x3A800000#32

/-- The gradient of the projection's result. -/
def DF (r : Fin 8192) (j : Fin 1024) : EReal := dn (FF A0 A1 r) (fun k => DY A0 A1 A2 A3 A4 r k * A3 (ix2 0 k)) j

/-- The gain's gradient. -/
def DG (j : Fin 1024) : EReal := ∑ l : Fin 8192, DY A0 A1 A2 A3 A4 l j * nrm (FF A0 A1 l) j

/-- A row's mean square distance from the target. -/
def SQ (r : Fin 8192) : EReal := Ideal.div (∑ k : Fin 1024, ER A0 A1 A2 A3 A4 r k * ER A0 A1 A2 A3 A4 r k) (Ideal.ofBits .f32 0x44800000#32)

/-- The loss. -/
def LS : EReal := Ideal.ofBits .f32 0x3F000000#32 * ∑ l : Fin 8192, SQ A0 A1 A2 A3 A4 l

/-- A half is a real number that is not negative. -/
theorem c_half' : Ideal.ofBits .f32 0x3F000000#32 = ((1/2 : ℝ) : EReal) := by
  simp [Ideal.ofBits, Ideal.ieee, -EReal.coe_mul]
  norm_num

theorem c_two : Ideal.ofBits .f32 0x40000000#32 = ((2 : ℝ) : EReal) := by
  simp [Ideal.ofBits, Ideal.ieee, -EReal.coe_mul]
  norm_num

theorem c_inv : Ideal.ofBits .f32 0x3A800000#32 = ((1/1024 : ℝ) : EReal) := by
  simp [Ideal.ofBits, Ideal.ieee, -EReal.coe_mul]
  norm_num

/-- The chain rule's factors of the loss's gradient are the one factor of the kernel. -/
theorem dy_eq (e : EReal) : Ideal.div (Ideal.ofBits .f32 0x3F000000#32) (Ideal.ofBits .f32 0x44800000#32) * (Ideal.ofBits .f32 0x40000000#32 * e) =
    e * Ideal.ofBits .f32 0x3A800000#32 := by
  rw [c_half', c_two, c_inv, c_len, div_pos _ 1024 (by norm_num), ← mul_assoc, ← EReal.coe_mul, ← EReal.coe_mul, mul_comm]
  congr 2
  norm_num

/-- A half of a sum is the sum of the halves. -/
theorem half_sum {n : ℕ} (f : Fin n → EReal) : ∑ k, Ideal.ofBits .f32 0x3F000000#32 * f k = Ideal.ofBits .f32 0x3F000000#32 * ∑ k, f k := by
  rw [c_half']
  exact (Norm.mul_sum _ (by exact_mod_cast (by norm_num : (0:ℝ) ≤ 1/2)) (EReal.coe_ne_top _) f).symm

end Cert.Loss

end
-- ==== Proof.DownLoss.Body.lean ====
/-
  What the kernel's body computes from one block of rows, payload by payload, read at an index.
-/
module

public import proofs.«01_k».proof.Proof.DownLoss.Spec
public import proofs.«01_k».proof.Proof.Gen.DownLossIdeal.Skeleton

@[expose] public section

set_option maxRecDepth 16384

noncomputable section

namespace Cert.Loss

open Idealize.ShloMosaic Cert.Norm Cert.DownLossIdeal Cert.DownLossIdeal.Gen

variable (v x y : FVec Ideal S512x1024 .f32) (g h : FVec Ideal S1x1024 .f32) (s : FVec Ideal S512x1 .f32)
  (d0 d1 d2 d3 : FVec Ideal S1x512x704 .bf16) (w0 w1 w2 w3 : FVec Ideal S704x1024 .bf16)

/-- One piece's part of the projection. -/
def bd (d : FVec Ideal S1x512x704 .bf16) (w : FVec Ideal S704x1024 .bf16) (r : Fin 512) (j : Fin 1024) : EReal :=
  ∑ q : Fin 704, d (ix3 0 r q) * w (ix2 q j)

theorem f_at (r : Fin 512) (j : Fin 1024) : k0_pay5 (F := Ideal) d0 w0 d1 w1 d2 w2 d3 w3 (ix2 r j) =
    bd d0 w0 r j + bd d1 w1 r j + bd d2 w2 r j + bd d3 w3 r j := by
  pointwise [k0_pay5, bd]

theorem ms_at (r : Fin 512) (z : Fin 1) : k0_pay6 (F := Ideal) d0 w0 d1 w1 d2 w2 d3 w3 (ix2 r z) =
    ms (fun k => k0_pay5 (F := Ideal) d0 w0 d1 w1 d2 w2 d3 w3 (ix2 r k)) := by
  obtain rfl : z = 0 := Subsingleton.elim _ _
  pointwise [k0_pay6, ms]

theorem er_at (r : Fin 512) (j : Fin 1024) : k0_pay7 (F := Ideal) v x g s y (ix2 r j) =
    x (ix2 r j) + v (ix2 r j) * Ideal.rsqrt (s (ix2 r 0)) * g (ix2 0 j) - y (ix2 r j) := by
  pointwise [k0_pay7]

theorem dy_at (r : Fin 512) (j : Fin 1024) : k0_pay8 (F := Ideal) v x g s y (ix2 r j) =
    k0_pay7 (F := Ideal) v x g s y (ix2 r j) * Ideal.ofBits .f32 0x3A800000#32 := by
  pointwise [k0_pay8]

theorem df_at (r : Fin 512) (j : Fin 1024) : k0_pay12 (F := Ideal) v x g s y h (ix2 r j) =
    dn (fun k => v (ix2 r k)) (fun k => k0_pay8 (F := Ideal) v x g s y (ix2 r k) * h (ix2 0 k)) j := by
  pointwise [k0_pay12, k0_pay10, k0_pay9, dn, nrm, ms]

theorem dg_at (acc : FVec Ideal S1x1024 .f32) (z : Fin 1) (j : Fin 1024) : k0_pay4 (F := Ideal) (k0_pay11 v x g s y) acc (ix2 z j) =
    acc (ix2 z j) + ∑ r : Fin 512, k0_pay8 (F := Ideal) v x g s y (ix2 r j) * nrm (fun k => v (ix2 r k)) j := by
  obtain rfl : z = 0 := Subsingleton.elim _ _
  pointwise [k0_pay4, k0_pay11, k0_pay10, k0_pay9, nrm, ms]

theorem ls_at (acc : FVec Ideal S8x128 .f32) (p : Fin 8) (q : Fin 128) : k0_pay3 (F := Ideal) (k0_pay13 v x g s y) acc (ix2 p q) =
    acc (ix2 p q) + Ideal.ofBits .f32 0x3F000000#32 * ∑ r : Fin 512,
      Ideal.div (∑ k : Fin 1024, k0_pay7 (F := Ideal) v x g s y (ix2 r k) * k0_pay7 (F := Ideal) v x g s y (ix2 r k)) (Ideal.ofBits .f32 0x44800000#32) := by
  pointwise [k0_pay3, k0_pay13]

theorem zeroL (i : S8x128.Idx) : k0_pay1 (F := Ideal) i = 0 := by pointwise [k0_pay1]
theorem zeroG (i : S1x1024.Idx) : k0_pay2 (F := Ideal) i = 0 := by pointwise [k0_pay2]

end Cert.Loss

end
-- ==== Proof.DownLoss.Point.lean ====
/-
  The blocks a grid point reads, as rows of the arrays: point `t` reads rows `512 t … 512 t + 511`. Then what the body
  computes of them.
-/
module

public import proofs.«01_k».proof.Proof.DownLoss.Body
public import proofs.«01_k».proof.Proof.Gen.DownLossIdeal.Frame
public import Idealize.ShloMosaic.Lib.Pipeline.ValueKit

@[expose] public section

set_option maxRecDepth 16384

noncomputable section

namespace Cert.Loss

open Idealize.ShloMosaic Idealize.ShloMosaic.TcCoe Cert.Norm Cert.DownLossIdeal Cert.DownLossIdeal.Gen

/-- Where each window's block lies at a point. -/
theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal Act .bf16 := m ((c : Thread nD τ).loc main_arg0)
abbrev B1 : FVec Ideal Wt .bf16 := m ((c : Thread nD τ).loc main_arg1)
abbrev B2 : FVec Ideal Rows .f32 := m ((c : Thread nD τ).loc main_arg2)
abbrev B3 : FVec Ideal Gain .f32 := m ((c : Thread nD τ).loc main_arg3)
abbrev B4 : FVec Ideal Rows .f32 := m ((c : Thread nD τ).loc main_arg4)

theorem lt16 : t.val < 16 := t.isLt

/-- Row `r` of point `t`'s block. -/
def row (t : Fin cfg0.N) (r : Fin 512) : Fin 8192 := ⟨t.val * 512 + r, by have := lt16 t; omega⟩

theorem blk_d (p : Fin 4) (r : Fin 512) (q : Fin 704) : iblk m c 0 t (ix3 p r q) = B0 m c (ix3 p (row t r) q) := by
  blk_point [iblk, V, row, idx t]

theorem blk_w (k : Fin 2816) (j : Fin 1024) : iblk m c 1 t (ix2 k j) = B1 m c (ix2 k j) := by
  blk_point [iblk, V, row, idx t]

theorem blk_x (r : Fin 512) (j : Fin 1024) : iblk m c 2 t (ix2 r j) = B2 m c (ix2 (row t r) j) := by
  blk_point [iblk, V, row, idx t]

theorem blk_g (j : Fin 1024) : iblk m c 3 t (ix2 0 j) = B3 m c (ix2 0 j) := by
  blk_point [iblk, V, row, idx t]

theorem blk_y (r : Fin 512) (j : Fin 1024) : iblk m c 4 t (ix2 r j) = B4 m c (ix2 (row t r) j) := by
  blk_point [iblk, V, row, idx t]

theorem ldd0 (r : Fin 512) (q : Fin 704) : View.ld (iblk m c 0 t) (Rect.unit (s := S4x512x704) ![0, 0, 0] ![1, 512, 704] inb_S4x512x704_S1x512x704_0_0_0) (ix3 0 r q) =
    B0 m c (ix3 0 (row t r) q) := by
  rw [← blk_d m c t]
  pointwise
  blk_ext

theorem ldw0 (q : Fin 704) (j : Fin 1024) : View.ld (iblk m c 1 t) (Rect.unit (s := S2816x1024) ![0, 0] ![704, 1024] inb_S2816x1024_S704x1024_0_0) (ix2 q j) =
    B1 m c (ix2 (col 0 q) j) := by
  rw [← blk_w m c t]
  pointwise [col]
  blk_ext

theorem ldd1 (r : Fin 512) (q : Fin 704) : View.ld (iblk m c 0 t) (Rect.unit (s := S4x512x704) ![1, 0, 0] ![1, 512, 704] inb_S4x512x704_S1x512x704_1_0_0) (ix3 0 r q) =
    B0 m c (ix3 1 (row t r) q) := by
  rw [← blk_d m c t]
  pointwise
  blk_ext

theorem ldw1 (q : Fin 704) (j : Fin 1024) : View.ld (iblk m c 1 t) (Rect.unit (s := S2816x1024) ![704, 0] ![704, 1024] inb_S2816x1024_S704x1024_704_0) (ix2 q j) =
    B1 m c (ix2 (col 1 q) j) := by
  rw [← blk_w m c t]
  pointwise [col]
  blk_ext

theorem ldd2 (r : Fin 512) (q : Fin 704) : View.ld (iblk m c 0 t) (Rect.unit (s := S4x512x704) ![2, 0, 0] ![1, 512, 704] inb_S4x512x704_S1x512x704_2_0_0) (ix3 0 r q) =
    B0 m c (ix3 2 (row t r) q) := by
  rw [← blk_d m c t]
  pointwise
  blk_ext

theorem ldw2 (q : Fin 704) (j : Fin 1024) : View.ld (iblk m c 1 t) (Rect.unit (s := S2816x1024) ![1408, 0] ![704, 1024] inb_S2816x1024_S704x1024_1408_0) (ix2 q j) =
    B1 m c (ix2 (col 2 q) j) := by
  rw [← blk_w m c t]
  pointwise [col]
  blk_ext

theorem ldd3 (r : Fin 512) (q : Fin 704) : View.ld (iblk m c 0 t) (Rect.unit (s := S4x512x704) ![3, 0, 0] ![1, 512, 704] inb_S4x512x704_S1x512x704_3_0_0) (ix3 0 r q) =
    B0 m c (ix3 3 (row t r) q) := by
  rw [← blk_d m c t]
  pointwise
  blk_ext

theorem ldw3 (q : Fin 704) (j : Fin 1024) : View.ld (iblk m c 1 t) (Rect.unit (s := S2816x1024) ![2112, 0] ![704, 1024] inb_S2816x1024_S704x1024_2112_0) (ix2 q j) =
    B1 m c (ix2 (col 3 q) j) := by
  rw [← blk_w m c t]
  pointwise [col]
  blk_ext

/-- The projection, a block, and its mean square. -/
abbrev fK : FVec Ideal S512x1024 .f32 := k0_pay5 (F := Ideal) (View.ld (iblk m c 0 t) (Rect.unit (s := S4x512x704) ![0, 0, 0] ![1, 512, 704] inb_S4x512x704_S1x512x704_0_0_0)) (View.ld (iblk m c 1 t) (Rect.unit (s := S2816x1024) ![0, 0] ![704, 1024] inb_S2816x1024_S704x1024_0_0)) (View.ld (iblk m c 0 t) (Rect.unit (s := S4x512x704) ![1, 0, 0] ![1, 512, 704] inb_S4x512x704_S1x512x704_1_0_0)) (View.ld (iblk m c 1 t) (Rect.unit (s := S2816x1024) ![704, 0] ![704, 1024] inb_S2816x1024_S704x1024_704_0)) (View.ld (iblk m c 0 t) (Rect.unit (s := S4x512x704) ![2, 0, 0] ![1, 512, 704] inb_S4x512x704_S1x512x704_2_0_0)) (View.ld (iblk m c 1 t) (Rect.unit (s := S2816x1024) ![1408, 0] ![704, 1024] inb_S2816x1024_S704x1024_1408_0)) (View.ld (iblk m c 0 t) (Rect.unit (s := S4x512x704) ![3, 0, 0] ![1, 512, 704] inb_S4x512x704_S1x512x704_3_0_0)) (View.ld (iblk m c 1 t) (Rect.unit (s := S2816x1024) ![2112, 0] ![704, 1024] inb_S2816x1024_S704x1024_2112_0))

abbrev sK : FVec Ideal S512x1 .f32 := k0_pay6 (F := Ideal) (View.ld (iblk m c 0 t) (Rect.unit (s := S4x512x704) ![0, 0, 0] ![1, 512, 704] inb_S4x512x704_S1x512x704_0_0_0)) (View.ld (iblk m c 1 t) (Rect.unit (s := S2816x1024) ![0, 0] ![704, 1024] inb_S2816x1024_S704x1024_0_0)) (View.ld (iblk m c 0 t) (Rect.unit (s := S4x512x704) ![1, 0, 0] ![1, 512, 704] inb_S4x512x704_S1x512x704_1_0_0)) (View.ld (iblk m c 1 t) (Rect.unit (s := S2816x1024) ![704, 0] ![704, 1024] inb_S2816x1024_S704x1024_704_0)) (View.ld (iblk m c 0 t) (Rect.unit (s := S4x512x704) ![2, 0, 0] ![1, 512, 704] inb_S4x512x704_S1x512x704_2_0_0)) (View.ld (iblk m c 1 t) (Rect.unit (s := S2816x1024) ![1408, 0] ![704, 1024] inb_S2816x1024_S704x1024_1408_0)) (View.ld (iblk m c 0 t) (Rect.unit (s := S4x512x704) ![3, 0, 0] ![1, 512, 704] inb_S4x512x704_S1x512x704_3_0_0)) (View.ld (iblk m c 1 t) (Rect.unit (s := S2816x1024) ![2112, 0] ![704, 1024] inb_S2816x1024_S704x1024_2112_0))

theorem fK_at (r : Fin 512) (j : Fin 1024) : fK m c t (ix2 r j) = FF (B0 m c) (B1 m c) (row t r) j := by
  rw [fK, f_at, FF, Fin.sum_univ_four]
  simp only [bd, ldd0, ldw0, ldd1, ldw1, ldd2, ldw2, ldd3, ldw3]

theorem fK_eq (r : Fin 512) : (fun k => fK m c t (ix2 r k)) = FF (B0 m c) (B1 m c) (row t r) := funext fun k => fK_at m c t r k

theorem sK_at (r : Fin 512) (z : Fin 1) : sK m c t (ix2 r z) = ms (FF (B0 m c) (B1 m c) (row t r)) := by
  rw [sK, ms_at]
  exact congrArg ms (fK_eq m c t r)

/-- The distance from the target, a block. -/
abbrev eK : FVec Ideal S512x1024 .f32 := k0_pay7 (F := Ideal) (fK m c t) (iblk m c 2 t) (iblk m c 3 t) (sK m c t) (iblk m c 4 t)

theorem eK_at (r : Fin 512) (j : Fin 1024) : eK m c t (ix2 r j) = ER (B0 m c) (B1 m c) (B2 m c) (B3 m c) (B4 m c) (row t r) j := by
  refine (er_at _ _ _ _ _ r j).trans ?_
  rw [fK_at, sK_at, blk_x, blk_g, blk_y, ER, nrm]

/-- The loss's gradient, a block. -/
abbrev dyK : FVec Ideal S512x1024 .f32 := k0_pay8 (F := Ideal) (fK m c t) (iblk m c 2 t) (iblk m c 3 t) (sK m c t) (iblk m c 4 t)

theorem dyK_at (r : Fin 512) (j : Fin 1024) : dyK m c t (ix2 r j) = DY (B0 m c) (B1 m c) (B2 m c) (B3 m c) (B4 m c) (row t r) j :=
  (dy_at _ _ _ _ _ r j).trans (congrArg (· * _) (eK_at m c t r j))

/-- The gradient of the projection's result, a block. -/
abbrev dfK : FVec Ideal S512x1024 .bf16 := k0_pay12 (F := Ideal) (fK m c t) (iblk m c 2 t) (iblk m c 3 t) (sK m c t) (iblk m c 4 t) (iblk m c 3 t)

theorem dfK_at (r : Fin 512) (j : Fin 1024) : dfK m c t (ix2 r j) = DF (B0 m c) (B1 m c) (B2 m c) (B3 m c) (B4 m c) (row t r) j := by
  refine (df_at _ _ _ _ _ _ r j).trans ?_
  have e : (fun k => dyK m c t (ix2 r k) * iblk m c 3 t (ix2 0 k)) = fun k => DY (B0 m c) (B1 m c) (B2 m c) (B3 m c) (B4 m c) (row t r) k * B3 m c (ix2 0 k) :=
    funext fun k => congrArg₂ (fun a b : EReal => a * b) (dyK_at m c t r k) (blk_g m c t k)
  exact congrArg₂ (fun f g => dn f g j) (fK_eq m c t r) e

/-- One point's shares of the gain's gradient and of the loss. -/
def partG (t : Fin cfg0.N) (i : S1x1024.Idx) : EReal := ∑ r : Fin 512, DY (B0 m c) (B1 m c) (B2 m c) (B3 m c) (B4 m c) (row t r) (i 1) * nrm (FF (B0 m c) (B1 m c) (row t r)) (i 1)

def partL (t : Fin cfg0.N) (_ : S8x128.Idx) : EReal := Ideal.ofBits .f32 0x3F000000#32 * ∑ r : Fin 512, SQ (B0 m c) (B1 m c) (B2 m c) (B3 m c) (B4 m c) (row t r)

theorem accG_step (acc : FVec Ideal S1x1024 .f32) (i : S1x1024.Idx) :
    k0_pay4 (F := Ideal) (k0_pay11 (fK m c t) (iblk m c 2 t) (iblk m c 3 t) (sK m c t) (iblk m c 4 t)) acc i = acc i + partG m c t i := by
  idx_vars i
  refine (dg_at _ _ _ _ _ _ i0 i1).trans (congrArg (acc (ix2 i0 i1) + ·) (Finset.sum_congr rfl fun r _ => ?_))
  exact congrArg₂ (fun a f => a * nrm f i1) (dyK_at m c t r i1) (fK_eq m c t r)

theorem accL_step (acc : FVec Ideal S8x128 .f32) (i : S8x128.Idx) :
    k0_pay3 (F := Ideal) (k0_pay13 (fK m c t) (iblk m c 2 t) (iblk m c 3 t) (sK m c t) (iblk m c 4 t)) acc i = acc i + partL m c t i := by
  idx_vars i
  refine (ls_at _ _ _ _ _ _ i0 i1).trans (congrArg (fun s => acc (ix2 i0 i1) + _ * s) (Finset.sum_congr rfl fun r _ => ?_))
  refine congrArg (Ideal.div · _) (Finset.sum_congr rfl fun k _ => ?_)
  exact congrArg₂ (fun a b : EReal => a * b) (eK_at m c t r k) (eK_at m c t r k)

end Cert.Loss

end
-- ==== Proof.DownLoss.Rows.lean ====
/-
  The two results written block by block.
-/
module

public import proofs.«01_k».proof.Proof.DownLoss.Point
public import Idealize.ShloMosaic.Lib.Pipeline.ReadBack

@[expose] public section

set_option maxRecDepth 16384

noncomputable section

namespace Cert.Loss

open Idealize.ShloMosaic Idealize.ShloMosaic.TcCoe Cert.Norm Cert.DownLossIdeal Cert.DownLossIdeal.Gen

variable (m : (ℓ : Loc nD τ sig) → Buf (Elt Ideal) ℓ) (c : Dev nD)

/-- The loss's gradient, a block and the whole array. -/
theorem at5 (t : Fin cfg0.N) (r : Fin 512) (j : Fin 1024) : (outsAt0 m c t.val t.isLt).1 (ix2 r j) = DY (B0 m c) (B1 m c) (B2 m c) (B3 m c) (B4 m c) (row t r) j := by
  by_cases h0 : t.val % 16 = 0
  · rw [outsAt0_A m c t h0]
    frame_out
    exact dyK_at m c t r j
  · rw [outsAt0_B m c t h0]
    frame_out
    exact dyK_at m c t r j

theorem final5 (r : Fin 8192) (j : Fin 1024) : (dats m 0 c).arrAt 5 cfg0.N (ix2 r j) = DY (B0 m c) (B1 m c) (B2 m c) (B3 m c) (B4 m c) r j := by
  have e : (dats m 0 c).arrAt 5 cfg0.N = (fun i : S8192x1024.Idx => DY (B0 m c) (B1 m c) (B2 m c) (B3 m c) (B4 m c) (i 0) (i 1)) := by
    refine (dats m 0 c).arrAt_eq_of_covers 5 _ (by decide +kernel) fun t hf y => ?_
    blk_simp
    rw [after0_5]
    idx_vars y
    rw [at5]
    refine congrArg₂ (DY (B0 m c) (B1 m c) (B2 m c) (B3 m c) (B4 m c)) (Fin.ext ?_) (Fin.ext ?_) <;> (
      blk_simp [row, idx t]
      try omega)
  rw [e]
  rfl

/-- The gradient of the projection's result, a block and the whole array. -/
theorem at6 (t : Fin cfg0.N) (r : Fin 512) (j : Fin 1024) : (outsAt0 m c t.val t.isLt).2.1 (ix2 r j) = DF (B0 m c) (B1 m c) (B2 m c) (B3 m c) (B4 m c) (row t r) j := by
  by_cases h0 : t.val % 16 = 0
  · rw [outsAt0_A m c t h0]
    frame_out
    exact dfK_at m c t r j
  · rw [outsAt0_B m c t h0]
    frame_out
    exact dfK_at m c t r j

theorem final6 (r : Fin 8192) (j : Fin 1024) : (dats m 0 c).arrAt 6 cfg0.N (ix2 r j) = DF (B0 m c) (B1 m c) (B2 m c) (B3 m c) (B4 m c) r j := by
  have e : (dats m 0 c).arrAt 6 cfg0.N = (fun i : S8192x1024.Idx => DF (B0 m c) (B1 m c) (B2 m c) (B3 m c) (B4 m c) (i 0) (i 1)) := by
    refine (dats m 0 c).arrAt_eq_of_covers 6 _ (by decide +kernel) fun t hf y => ?_
    blk_simp
    rw [after0_6]
    idx_vars y
    rw [at6]
    refine congrArg₂ (DF (B0 m c) (B1 m c) (B2 m c) (B3 m c) (B4 m c)) (Fin.ext ?_) (Fin.ext ?_) <;> (
      blk_simp [row, idx t]
      try omega)
  rw [e]
  rfl

end Cert.Loss

end
-- ==== Proof.DownLoss.Sums.lean ====
/-
  What is added up over the grid's 16 points: the gain's gradient and the loss, each after the last point a sum over all 8192
  rows.
-/
module

public import proofs.«01_k».proof.Proof.DownLoss.Point
public import Idealize.ShloMosaic.Lib.Pipeline.ReadBack

@[expose] public section

set_option maxRecDepth 16384

noncomputable section

namespace Cert.Loss

open Idealize.ShloMosaic Idealize.ShloMosaic.TcCoe Cert.Norm Cert.DownLossIdeal Cert.DownLossIdeal.Gen

variable (m : (ℓ : Loc nD τ sig) → Buf (Elt Ideal) ℓ) (c : Dev nD)

/-- A sum over points and the rows of each is a sum over all rows. -/
theorem sum_rows (f : Fin 8192 → EReal) : ∑ t : Fin cfg0.N, ∑ r : Fin 512, f (row t r) = ∑ l : Fin 8192, f l := by
  show ∑ t : Fin 16, ∑ r : Fin 512, f (row t r) = ∑ l : Fin 8192, f l
  exact Fin.sum_mul_add_congr fun s k hl => rfl

theorem accG_last (t : Fin cfg0.N) (ht : t.val + 1 = cfg0.N) (z : Fin 1) (j : Fin 1024) : (outsAt0 m c t.val t.isLt).2.2.1 (ix2 z j) = DG (B0 m c) (B1 m c) (B2 m c) (B3 m c) (B4 m c) j := by
  rw [Pipeline.eq_sum_fin_of_reset_step_apply_last (fun n h => (outsAt0 m c n h).2.2.1) 16 (fun _ => 0) (partG m c)
    (fun t h i => by
      rw [outsAt0_A m c t h]
      frame_out
      refine (accG_step m c t _ i).trans ?_
      rw [zeroG])
    (fun t h i => by
      rw [outsAt0_B m c t h]
      frame_out
      refine (accG_step m c t _ i).trans ?_
      try rw [read_unread_whole]
      rfl)
    (le_of_eq N_0) t ht (ix2 z j), zero_add]
  exact sum_rows fun l => DY (B0 m c) (B1 m c) (B2 m c) (B3 m c) (B4 m c) l j * nrm (FF (B0 m c) (B1 m c) l) j

theorem accL_last (t : Fin cfg0.N) (ht : t.val + 1 = cfg0.N) (p : Fin 8) (q : Fin 128) : (outsAt0 m c t.val t.isLt).2.2.2 (ix2 p q) = LS (B0 m c) (B1 m c) (B2 m c) (B3 m c) (B4 m c) := by
  rw [Pipeline.eq_sum_fin_of_reset_step_apply_last (fun n h => (outsAt0 m c n h).2.2.2) 16 (fun _ => 0) (partL m c)
    (fun t h i => by
      rw [outsAt0_A m c t h]
      frame_out
      refine (accL_step m c t _ i).trans ?_
      rw [zeroL])
    (fun t h i => by
      rw [outsAt0_B m c t h]
      frame_out
      refine (accL_step m c t _ i).trans ?_
      try rw [read_unread_whole]
      rfl)
    (le_of_eq N_0) t ht (ix2 p q), zero_add]
  exact (half_sum _).trans (congrArg (_ * ·) (sum_rows fun l => SQ (B0 m c) (B1 m c) (B2 m c) (B3 m c) (B4 m c) l))

theorem finalG (z : Fin 1) (j : Fin 1024) : (dats m 0 c).arrAt 7 cfg0.N (ix2 z j) = DG (B0 m c) (B1 m c) (B2 m c) (B3 m c) (B4 m c) j := by
  have e : (dats m 0 c).arrAt 7 cfg0.N = (fun i : S1x1024.Idx => DG (B0 m c) (B1 m c) (B2 m c) (B3 m c) (B4 m c) (i 1)) := by
    refine (dats m 0 c).arrAt_eq_of_covers 7 _ (by decide +kernel) fun t hf y => ?_
    have h : t.val % 16 = 15 := (flush0_7 t).mp hf
    have hl := lt16 t
    have ht : t.val + 1 = cfg0.N := by rw [show cfg0.N = 16 from N_0]; omega
    blk_simp
    rw [after0_7]
    idx_vars y
    rw [accG_last m c t ht]
    refine congrArg (DG (B0 m c) (B1 m c) (B2 m c) (B3 m c) (B4 m c)) (Fin.ext ?_)
    blk_simp [idx t]
    try omega
  rw [e]
  rfl

theorem finalL (p : Fin 8) (q : Fin 128) : (dats m 0 c).arrAt 8 cfg0.N (ix2 p q) = LS (B0 m c) (B1 m c) (B2 m c) (B3 m c) (B4 m c) := by
  have e : (dats m 0 c).arrAt 8 cfg0.N = (fun _ : S8x128.Idx => LS (B0 m c) (B1 m c) (B2 m c) (B3 m c) (B4 m c)) := by
    refine (dats m 0 c).arrAt_eq_of_covers 8 _ (by decide +kernel) fun t hf y => ?_
    have h : t.val % 16 = 15 := (flush0_8 t).mp hf
    have hl := lt16 t
    have ht : t.val + 1 = cfg0.N := by rw [show cfg0.N = 16 from N_0]; omega
    blk_simp
    rw [after0_8]
    idx_vars y
    rw [accL_last m c t ht]
  rw [e]

end Cert.Loss

end
-- ==== Proof.DownLoss.Ref.lean ====
/-
  The reference's values, read at an index: the sums of `Spec.lean`.
-/
module

public import proofs.«01_k».proof.Proof.DownLoss.Spec
public import proofs.«01_k».proof.Proof.Gen.DownLossRefIdeal.Read
public import Idealize.ShloMosaic.Lib.Pipeline.ValueKit

@[expose] public section

set_option maxRecDepth 16384

noncomputable section

namespace Cert.Loss

open Idealize.ShloMosaic Cert.Norm Cert.DownLossRefIdeal Cert.DownLossRefIdeal.Gen Cert.DownLossRefIdeal.Read

variable (A0 : FVec Ideal Act .bf16) (A1 : FVec Ideal Wt .bf16) (A2 : FVec Ideal Rows .f32) (A3 : FVec Ideal Gain .f32) (A4 : FVec Ideal Rows .f32)

/-- The projection. -/
theorem ref_f (r : Fin 8192) (j : Fin 1024) : val_main_v4 (F := Ideal) A0 A1 (ix2 r j) = FF A0 A1 r j := by
  pointwise [val_main_v4, val_main_v3, val_main_v2, val_main_v1, val_main_v0]
  refine Eq.symm (Fin.sum_mul_add_congr fun s k hl => ?_)
  have e1 : s = ⟨(s.val * 704 + k.val) / 704, by omega⟩ := Fin.ext (by show s.val = (s.val * 704 + k.val) / 704; omega)
  have e2 : k = ⟨(s.val * 704 + k.val) % 704, by omega⟩ := Fin.ext (by show k.val = (s.val * 704 + k.val) % 704; omega)
  exact congrArg (· * A1 (ix2 (col s k) j)) (congrArg₂ (fun a b => A0 (ix3 a r b)) e1 e2)

/-- The norm. -/
theorem ref_ms (r : Fin 8192) (z : Fin 1) : val_main_v11 (F := Ideal) A0 A1 (ix2 r z) = ms (FF A0 A1 r) := by
  obtain rfl : z = 0 := Subsingleton.elim _ _
  pointwise [val_main_v11, val_main_v10, val_main_v9, val_main_v8, val_main_v7, val_main_v6, val_main_v5, val_main_cst, val_main_cst_0, val_main_cst_1, ref_f, ms]

theorem ref_slope (r : Fin 8192) (z : Fin 1) : val_main_v15 (F := Ideal) A0 A1 (ix2 r z) =
    Ideal.ofBits .f32 0xBF000000#32 * Ideal.div (Ideal.rsqrt (ms (FF A0 A1 r))) (ms (FF A0 A1 r)) := by
  obtain rfl : z = 0 := Subsingleton.elim _ _
  pointwise [val_main_v15, val_main_v14, val_main_v13, val_main_v12, val_main_cst_2, ref_ms]

theorem ref_nrm (r : Fin 8192) (j : Fin 1024) : val_main_v17 (F := Ideal) A0 A1 (ix2 r j) = nrm (FF A0 A1 r) j := by
  pointwise [val_main_v17, val_main_v16, val_main_v12, ref_ms, ref_f, nrm]

/-- The distance from the target. -/
theorem ref_er (r : Fin 8192) (j : Fin 1024) : val_main_v21 (F := Ideal) A0 A1 A2 A3 A4 (ix2 r j) = ER A0 A1 A2 A3 A4 r j := by
  pointwise [val_main_v21, val_main_v20, val_main_v19, val_main_v18, ref_nrm, ER]

/-- The loss's gradient. -/
theorem ref_dy (r : Fin 8192) (j : Fin 1024) : val_main_v35 (F := Ideal) A0 A1 A2 A3 A4 (ix2 r j) = DY A0 A1 A2 A3 A4 r j := by
  pointwise [val_main_v35, val_main_v34, val_main_v33, val_main_v32, val_main_v31, val_main_v30, val_main_v24, val_main_v23, val_main_cst_3, val_main_cst_8, val_main_cst_9, val_main_cst_10, ref_er, DY]
  exact dy_eq _

/-- The gain's gradient. -/
theorem ref_dg (z : Fin 1) (j : Fin 1024) : val_main_v38 (F := Ideal) A0 A1 A2 A3 A4 (ix2 z j) = DG A0 A1 A2 A3 A4 j := by
  obtain rfl : z = 0 := Subsingleton.elim _ _
  pointwise [val_main_v38, val_main_v37, val_main_v36, val_main_cst_11, ref_dy, ref_nrm, DG]
  exact Finset.sum_congr rfl fun l _ => mul_comm _ _

theorem ref_t (r : Fin 8192) (j : Fin 1024) : val_main_v40 (F := Ideal) A0 A1 A2 A3 A4 (ix2 r j) = DY A0 A1 A2 A3 A4 r j * A3 (ix2 0 j) := by
  pointwise [val_main_v40, val_main_v39, ref_dy]

theorem ref_uu (r : Fin 8192) (j : Fin 1024) : val_main_v50 (F := Ideal) A0 A1 A2 A3 A4 (ix2 r j) = uu (FF A0 A1 r) (fun k => DY A0 A1 A2 A3 A4 r k * A3 (ix2 0 k)) := by
  pointwise [val_main_v50, val_main_v49, val_main_v48, val_main_v47, val_main_v46, val_main_v43, val_main_v42, val_main_v41, val_main_cst_12, val_main_cst_13, val_main_cst_14, ref_f, ref_t, ref_slope, uu]
  exact Fintype.sum_unique _

/-- The gradient of the projection's result. -/
theorem ref_df (r : Fin 8192) (j : Fin 1024) : val_main_v55 (F := Ideal) A0 A1 A2 A3 A4 (ix2 r j) = DF A0 A1 A2 A3 A4 r j := by
  pointwise [val_main_v55, val_main_v54, val_main_v53, val_main_v52, val_main_v51, val_main_v45, val_main_v44, val_main_v12, ref_f, ref_t, ref_uu, ref_ms, DF]
  exact dn_eq' (FF A0 A1 r) (fun k => DY A0 A1 A2 A3 A4 r k * A3 (ix2 0 k)) j

/-- The loss, in every entry. -/
theorem ref_sq (r : Fin 8192) : val_main_v27 (F := Ideal) A0 A1 A2 A3 A4 (ix1 r) = SQ A0 A1 A2 A3 A4 r := by
  pointwise [val_main_v27, val_main_v26, val_main_v25, val_main_v22, val_main_cst_4, val_main_cst_5, ref_er, SQ]

theorem ref_ls (p : Fin 8) (q : Fin 128) : val_main_v56 (F := Ideal) A0 A1 A2 A3 A4 (ix2 p q) = LS A0 A1 A2 A3 A4 := by
  pointwise [val_main_v56, val_main_v29, val_main_v28, val_main_cst_6, val_main_cst_7, ref_sq, LS]

end Cert.Loss

end
-- ==== Proof.DownLoss.Claims.lean ====
/-
  The down projection and the loss: the reference's frame, and that both programs end with the same arrays.
-/
module

public import proofs.«01_k».proof.Defs
public import proofs.«01_k».proof.Proof.DownLoss.Rows
public import proofs.«01_k».proof.Proof.DownLoss.Sums
public import proofs.«01_k».proof.Proof.DownLoss.Ref
public import proofs.«01_k».proof.Proof.Gen.DownLossIdeal.Value
public import proofs.«01_k».proof.Proof.Gen.DownLossRefIdeal
public import Idealize.ShloMosaic.Lib.Quiescent

@[expose] public section

set_option maxRecDepth 16384

noncomputable section

namespace Cert.Loss

open Idealize.ShloMosaic Idealize.ShloMosaic.TcCoe Idealize.SL.Sem

/-- The reference runs, its arguments are unchanged and its counters end at zero: it has none. -/
theorem frame_ref : Cert.quiescent_DownLossRefIdeal (hDownLossRefIdeal := Cert.DownLossRefIdeal.Gen.facts) := fun m ρ _ =>
  (θ_run (Cert.DownLossRefIdeal.defs (F := Ideal)) _ _).mono
    (fun r h => ⟨fun c => (h c).2.2.2.2, Idealize.ShloMosaic.sem_eq_zero_of_no_sems (by decide) r.2⟩)
    (Cert.DownLossRefIdeal.Value.run (F := Ideal) m ρ)

section
variable (m : (ℓ : Loc Cert.DownLossIdeal.nD Cert.DownLossIdeal.τ Cert.DownLossIdeal.sig) → Buf (Elt Ideal) ℓ) (c : Dev Cert.DownLossIdeal.nD)
open Cert.DownLossRefIdeal.Read Cert.DownLossIdeal Cert.DownLossIdeal.Gen

/-! The arrays the kernel leaves are the reference's, of the same arguments. -/

theorem eq5 : (dats m 0 c).arrAt 5 cfg0.N = val_main_v35 (F := Ideal) (B0 m c) (B1 m c) (B2 m c) (B3 m c) (B4 m c) := by
  funext i
  idx_vars i
  exact (final5 m c i0 i1).trans (ref_dy _ _ _ _ _ i0 i1).symm

theorem eq6 : (dats m 0 c).arrAt 6 cfg0.N = val_main_v55 (F := Ideal) (B0 m c) (B1 m c) (B2 m c) (B3 m c) (B4 m c) := by
  funext i
  idx_vars i
  exact (final6 m c i0 i1).trans (ref_df _ _ _ _ _ i0 i1).symm

theorem eq7 : (dats m 0 c).arrAt 7 cfg0.N = val_main_v38 (F := Ideal) (B0 m c) (B1 m c) (B2 m c) (B3 m c) (B4 m c) := by
  funext i
  idx_vars i
  exact (finalG m c i0 i1).trans (ref_dg _ _ _ _ _ i0 i1).symm

theorem eq8 : (dats m 0 c).arrAt 8 cfg0.N = val_main_v56 (F := Ideal) (B0 m c) (B1 m c) (B2 m c) (B3 m c) (B4 m c) := by
  funext i
  idx_vars i
  exact (finalL m c i0 i1).trans (ref_ls _ _ _ _ _ i0 i1).symm

end

/-- From equal arguments both programs end with the same four arrays. -/
theorem algebraic : Cert.algebraic_DownLossIdeal_DownLossRefIdeal (hDownLossIdeal := Cert.DownLossIdeal.Gen.facts)
    (hDownLossRefIdeal := Cert.DownLossRefIdeal.Gen.facts) := by
  intro m g m' g' _ ha
  refine ⟨_, _, _, _, Cert.DownLossIdeal.Value.run_blocks (F := Ideal) m g, ?_⟩
  refine (θ_run (Cert.DownLossRefIdeal.defs (F := Ideal)) _ _).mono (fun r h c => ?_) (Cert.DownLossRefIdeal.Value.run (F := Ideal) m' g')
  obtain ⟨h0, h1, h2, h3, hk⟩ := h c
  obtain ⟨a0, a1, a2, a3, a4⟩ := ha c
  rw [a0, a1, a2, a3, a4] at h0
  rw [Cert.DownLossRefIdeal.Read.val_main_v55_eq, a0, a1, a2, a3, a4] at h1
  rw [a0, a1, a2, a3, a4] at h2
  rw [a0, a1, a2, a3, a4] at h3
  exact ⟨h0.trans (eq5 m c).symm, h1.trans (eq6 m c).symm, h2.trans (eq7 m c).symm, h3.trans (eq8 m c).symm, hk⟩

end Cert.Loss

end
-- ==== Proof.Pool.Spec.lean ====
/-
  The gradient of the multiscale pooling: what both programs are shown to compute. The pooling takes, in each of four groups
  of columns, the mean over the last 2, 4, 8 or 16 rows, subtracts the row itself and mixes the group's columns. Arguments, in
  the order of the programs: `A0` the gradient of the result, `A2` the four mixing matrices, `A3` the gain of each column; `P`
  is the pooled value.
-/
module

public import Idealize.ShloMosaic.Lib.Pointwise
public import Idealize.ShloMosaic.PureOps.Ideal

@[expose] public section

set_option maxRecDepth 16384

noncomputable section

namespace Cert.Pool

open Idealize.ShloMosaic

abbrev Rows : Shape := ⟨2, ![8192, 512]⟩
abbrev Pl : Shape := ⟨3, ![8192, 4, 128]⟩
abbrev Wt : Shape := ⟨3, ![4, 128, 128]⟩
abbrev Gain : Shape := ⟨2, ![1, 512]⟩

/-- A group's column among all. -/
def col (g : Fin 4) (c : Fin 128) : Fin 512 := ⟨g * 128 + c, by omega⟩

/-- The length of a group's window. -/
def wd (g : Fin 4) : ℕ := 2 ^ (g.val + 1)

/-- The number of rows in the window that ends at row `n`, as the programs compute it. -/
def cn (w n : ℕ) : EReal :=
  FloatOps.sitofp (F := Ideal) .f32 (IntOp.minsi (IntOp.addi (BitVec.ofNat 32 n) 1#32) (BitVec.ofNat 32 w))

variable (P : FVec Ideal Pl .f32) (A0 : FVec Ideal Rows .f32) (A2 : FVec Ideal Wt .f32) (A3 : FVec Ideal Gain .f32)

/-- The gradient of the pooled value: the gradient of the result, scaled, back through the group's matrix. -/
def DP (g : Fin 4) (c : Fin 128) (r : Fin 8192) : EReal :=
  ∑ d : Fin 128, A0 (ix2 r (col g d)) * A3 (ix2 0 (col g d)) * A2 (ix3 g c d)

/-- The same divided by the number of rows in the window; zero after the last row. -/
def DS (g : Fin 4) (c : Fin 128) (n : ℕ) : EReal :=
  if h : n < 8192 then Ideal.div (DP A0 A2 A3 g c ⟨n, h⟩) (cn (wd g) n) else 0

/-- The gradient of the pooling's argument: a row is in the windows that end at it and at the rows after it. -/
def DU (g : Fin 4) (c : Fin 128) (r : Fin 8192) : EReal :=
  (∑ k ∈ Finset.range (wd g), DS A0 A2 A3 g c (r.val + k)) - DP A0 A2 A3 g c r

/-- The gradient of the mixing matrices. -/
def DW (g : Fin 4) (c d : Fin 128) : EReal :=
  ∑ s : Fin 8192, P (ix3 s g c) * (A0 (ix2 s (col g d)) * A3 (ix2 0 (col g d)))

/-- The gradient of the gains. -/
def DG (g : Fin 4) (d : Fin 128) : EReal :=
  ∑ s : Fin 8192, A0 (ix2 s (col g d)) * ∑ c : Fin 128, P (ix3 s g c) * A2 (ix3 g c d)

theorem toInt_nat (n : ℕ) (h : n < 2 ^ 31) : (BitVec.ofNat 32 n).toInt = n := by
  rw [BitVec.toInt_eq_toNat_cond, BitVec.toNat_ofNat, Nat.mod_eq_of_lt (by omega), if_pos (by omega)]

/-- The number of rows is a real number and not zero. -/
theorem cn_eq (w n : ℕ) (hw : w ≤ 16) (hn : n < 10000) : cn w n = ((min (n + 1) w : ℕ) : ℝ) := by
  show (((IntOp.minsi (IntOp.addi (BitVec.ofNat 32 n) 1#32) (BitVec.ofNat 32 w)).toInt : ℝ) : EReal) = _
  have h1 : (IntOp.addi (BitVec.ofNat 32 n) 1#32).toInt = (n : ℤ) + 1 := by
    show (BitVec.ofNat 32 n + BitVec.ofNat 32 1).toInt = _
    rw [← BitVec.ofNat_add, toInt_nat _ (by omega)]
    norm_num
  have h2 : (BitVec.ofNat 32 w).toInt = (w : ℤ) := toInt_nat _ (by omega)
  have h3 : (IntOp.minsi (IntOp.addi (BitVec.ofNat 32 n) 1#32) (BitVec.ofNat 32 w)).toInt = ((min (n + 1) w : ℕ) : ℤ) := by
    show (if BitVec.slt _ _ then _ else _ : BitVec 32).toInt = _
    rw [BitVec.slt_eq_decide, h1, h2]
    split
    · next h => rw [h1]; have := of_decide_eq_true h; omega
    · next h => rw [h2]; have := of_decide_eq_false (Bool.eq_false_iff.2 h); omega
  rw [h3]
  norm_num

theorem wd_pos (g : Fin 4) : 0 < wd g := Nat.pow_pos (by norm_num)

theorem wd_le (g : Fin 4) : wd g ≤ 16 := by fin_cases g <;> decide

/-- Division by the number of rows takes a real number to a real number. -/
theorem div_cn (x : ℝ) (w n : ℕ) (hw : w ≤ 16) (h0 : 0 < w) (hn : n < 10000) :
    Ideal.div (x : EReal) (cn w n) = ((x / (min (n + 1) w : ℕ) : ℝ) : EReal) := by
  have hp : ((min (n + 1) w : ℕ) : ℝ) ≠ 0 := by have : 0 < min (n + 1) w := by omega
                                                exact_mod_cast this.ne'
  rw [cn_eq w n hw hn, Ideal.div, if_neg (by rw [← EReal.coe_zero, EReal.coe_eq_coe_iff]; exact hp), ← EReal.coe_inv, ← EReal.coe_mul, div_eq_mul_inv]

/-- A finite sum of real numbers is their sum. -/
theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

/-- A finite sum of real numbers is one. -/
theorem sum_real {ι : Type} (s : Finset ι) (f : ι → EReal) (h : ∀ i, ∃ x : ℝ, f i = x) : ∃ x : ℝ, ∑ i ∈ s, f i = x := by
  choose g hg using h
  exact ⟨∑ i ∈ s, g i, by rw [coe_sum]; exact Finset.sum_congr rfl fun i _ => hg i⟩

/-- The arguments are real numbers. -/
def Real3 : Prop := (∀ i, ∃ x : ℝ, A0 i = x) ∧ (∀ i, ∃ x : ℝ, A2 i = x) ∧ ∀ i, ∃ x : ℝ, A3 i = x

variable {A0 A2 A3} in
theorem DP_real (h : Real3 A0 A2 A3) (g : Fin 4) (c : Fin 128) (r : Fin 8192) : ∃ x : ℝ, DP A0 A2 A3 g c r = x := by
  obtain ⟨h0, h2, h3⟩ := h
  refine sum_real _ _ fun d => ?_
  obtain ⟨a, ha⟩ := h0 (ix2 r (col g d))
  obtain ⟨b, hb⟩ := h2 (ix3 g c d)
  obtain ⟨e, he⟩ := h3 (ix2 0 (col g d))
  exact ⟨a * e * b, by rw [ha, hb, he, EReal.coe_mul, EReal.coe_mul]⟩

variable {A0 A2 A3} in
theorem DS_real (h : Real3 A0 A2 A3) (g : Fin 4) (c : Fin 128) (n : ℕ) : ∃ x : ℝ, DS A0 A2 A3 g c n = x := by
  unfold DS
  split
  · next hn =>
    obtain ⟨x, hx⟩ := DP_real h g c ⟨n, hn⟩
    rw [hx]
    exact ⟨_, div_cn x _ _ (wd_le g) (wd_pos g) (by omega)⟩
  · exact ⟨0, rfl⟩

/-- A cumulative sum of differences, from a row on: what is left are the first terms. -/
theorem telescope (f : ℕ → ℝ) (n w r : ℕ) (hz : ∀ k, n ≤ k → f k = 0) :
    ∑ k ∈ Finset.range n, (f (r + k) - f (r + k + w)) = ∑ k ∈ Finset.range w, f (r + k) := by
  rw [Finset.sum_sub_distrib]
  have h1 := Finset.sum_range_add (fun k => f (r + k)) n w
  have h2 := Finset.sum_range_add (fun k => f (r + k)) w n
  have h3 : ∑ k ∈ Finset.range w, f (r + (n + k)) = 0 := Finset.sum_eq_zero fun k _ => hz _ (by omega)
  have h4 : ∑ k ∈ Finset.range n, f (r + (w + k)) = ∑ k ∈ Finset.range n, f (r + k + w) :=
    Finset.sum_congr rfl fun k _ => congrArg f (by omega)
  rw [add_comm w n] at h2
  linarith

/-- The same of the extended reals of the programs. -/
theorem telescope' (f : ℕ → EReal) (hf : ∀ k, ∃ x : ℝ, f k = x) (n w r : ℕ) (hz : ∀ k, n ≤ k → f k = 0) :
    ∑ k : Fin n, (-f (r + k.val + w) + f (r + k.val)) = ∑ k ∈ Finset.range w, f (r + k) := by
  choose φ hφ using hf
  have hz' : ∀ k, n ≤ k → φ k = 0 := fun k hk => by
    have := hz k hk
    rw [hφ k] at this
    exact_mod_cast this
  rw [Fin.sum_univ_eq_sum_range (fun k => -f (r + k + w) + f (r + k)) n]
  simp only [hφ, ← EReal.coe_neg, ← EReal.coe_add, ← coe_sum]
  rw [← telescope φ n w r hz']
  exact congrArg _ (Finset.sum_congr rfl fun k _ => by ring)

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A sum over a window of the whole length, as a cumulative sum from the end prints. -/
theorem window_sum {m n e : ℕ} (x : FVec Ideal ⟨2, ![m, n]⟩ .f32) (init : FVec Ideal ⟨0, ![]⟩ .f32)
    (h : (⟨2, ![m, n]⟩ : Shape).ReduceWindows (![m, 1] : Fin 2 → ℕ) ![1, 1] ![0, 0] ![e, 0] ⟨2, ![m, n]⟩) (hu : 0 < (⟨0, ![]⟩ : Shape).numel)
    (h0 : ∀ i, init i = 0) (r : Fin m) (j : Fin n) :
    Host.reduceWindowAdd (F := Ideal) ![m, 1] ![1, 1] ![0, 0] ![e, 0] x init h hu (ix2 r j) =
      ∑ k : Fin m, if hk : r.val + k.val < m then x (ix2 ⟨r.val + k.val, hk⟩ j) else 0 := by
  have hN : (⟨2, ![m, 1]⟩ : Shape).numel = m := by
    show ∏ a : Fin 2, (![m, 1] : Fin 2 → ℕ) a = m
    rw [Fin.prod_univ_two]
    exact Nat.mul_one m
  have hs : ∀ p : Fin (⟨2, ![m, 1]⟩ : Shape).numel, (⟨2, ![m, 1]⟩ : Shape).rowMajor.symm p = ix2 (p.cast hN) (0 : Fin 1) := fun p =>
    ((⟨2, ![m, 1]⟩ : Shape).rowMajor.symm_apply_eq).2 (Fin.ext (by
      rw [Shape.rowMajor_val_two]
      show p.val = p.val * 1 + 0
      omega))
  refine (foldl_add _ _ _).trans ?_
  rw [h0, zero_add, ← Fin.sum_univ_def]
  refine Fintype.sum_equiv (finCongr hN) _ _ fun p => ?_
  have q0 : ((⟨2, ![m, 1]⟩ : Shape).rowMajor.symm p 0).val = p.val := by rw [hs]; rfl
  have q1 : ((⟨2, ![m, 1]⟩ : Shape).rowMajor.symm p 1).val = 0 := by rw [hs]; rfl
  have hj := j.isLt
  dsimp only
  by_cases hk : r.val + p.val < m
  · rw [dif_pos (show r.val + ((finCongr hN) p).val < m from hk), dif_pos (fun a => by
      match a with
      | ⟨0, _⟩ =>
        show 0 ≤ r.val * 1 + ((⟨2, ![m, 1]⟩ : Shape).rowMajor.symm p 0).val ∧ r.val * 1 + ((⟨2, ![m, 1]⟩ : Shape).rowMajor.symm p 0).val - 0 < m
        rw [q0]; omega
      | ⟨1, _⟩ =>
        show 0 ≤ j.val * 1 + ((⟨2, ![m, 1]⟩ : Shape).rowMajor.symm p 1).val ∧ j.val * 1 + ((⟨2, ![m, 1]⟩ : Shape).rowMajor.symm p 1).val - 0 < n
        rw [q1]; omega)]
    refine congrArg x (funext fun a => Fin.ext ?_)
    match a with
    | ⟨0, _⟩ =>
      show r.val * 1 + ((⟨2, ![m, 1]⟩ : Shape).rowMajor.symm p 0).val - 0 = r.val + p.val
      rw [q0]; omega
    | ⟨1, _⟩ =>
      show j.val * 1 + ((⟨2, ![m, 1]⟩ : Shape).rowMajor.symm p 1).val - 0 = j.val
      rw [q1, Nat.mul_one, Nat.add_zero, Nat.sub_zero]
  · rw [dif_neg (show ¬ r.val + ((finCongr hN) p).val < m from hk), dif_neg (fun hin => hk (by
      have := (hin 0).2
      change r.val * 1 + ((⟨2, ![m, 1]⟩ : Shape).rowMajor.symm p 0).val - 0 < m at this
      rw [q0] at this; omega))]

end Cert.Pool

end
-- ==== Proof.Pool.Body.lean ====
/-
  What the kernel's arithmetic gives at an entry. `e` is the block of the result's gradient with the sixteen rows after it;
  a group reads its columns of it, its matrix `w`, its gains `s` and its columns `p` of the pooled value.
-/
module

public import proofs.«01_k».proof.Proof.Pool.Spec
public import proofs.«01_k».proof.Proof.Gen.PoolBwdIdeal.Skeleton
public import Idealize.ShloMosaic.Lib.KernelVsHost

@[expose] public section

set_option maxRecDepth 16384

noncomputable section

namespace Cert.Pool

open Idealize.ShloMosaic Cert.PoolBwdIdeal Cert.PoolBwdIdeal.Gen

variable (i : grid0.Coords) (x : FVec Ideal S512x512 .f32) (y : FVec Ideal S16x512 .f32) (e : FVec Ideal S528x512 .f32)
  (v9 : IVec S528x1 32) (w : FVec Ideal S1x128x128 .f32) (s : FVec Ideal S1x128 .f32) (p : FVec Ideal S512x128 .bf16)
  (a3 : FVec Ideal S1x128x128 .f32) (a1 : FVec Ideal S1x128 .f32)

theorem col0 (d : Fin 128) : col 0 d = ⟨d, by omega⟩ := Fin.ext (Nat.zero_add _)

/-- A row of the block as a row of the block with the rows after it. -/
def up (r : Fin 512) : Fin 528 := ⟨r, by omega⟩

/-- What a block adds to the gains' gradient. -/
def bg (g : Fin 4) (d : Fin 128) : EReal := ∑ r : Fin 512, e (ix2 (up r) (col g d)) * ∑ c : Fin 128, p (ix2 r c) * w (ix3 0 c d)

/-- What a block adds to a matrix's gradient. -/
def bw (g : Fin 4) (c d : Fin 128) : EReal := ∑ r : Fin 512, p (ix2 r c) * (e (ix2 (up r) (col g d)) * s (ix2 0 d))

/-- The gradient of the pooled value, of the block's rows and the rows after them. -/
def bp (g : Fin 4) (c : Fin 128) (t : Fin 528) : EReal := ∑ d : Fin 128, e (ix2 t (col g d)) * s (ix2 0 d) * w (ix3 0 c d)

theorem pay4_at (k : S4x128x128.Idx) : k0_pay4 (F := Ideal) k = 0 := by pointwise [k0_pay4]
theorem pay5_at (k : S1x512.Idx) : k0_pay5 (F := Ideal) k = 0 := by pointwise [k0_pay5]

theorem pay8_at (z : Fin 1) (d : Fin 128) : k0_pay8 (F := Ideal) i x y w p a1 (ix2 z d) = a1 (ix2 z d) + bg (k0_pay2 i x y) w p 0 d := by
  obtain rfl : z = 0 := Subsingleton.elim _ _
  unfold k0_pay8
  generalize k0_pay2 (F := Ideal) i x y = e
  pointwise [k0_pay6, k0_pay7, bg]
  simp only [col0]
  rfl

theorem pay14_at (z : Fin 1) (d : Fin 128) : k0_pay14 (F := Ideal) e w p a1 (ix2 z d) = a1 (ix2 z d) + bg e w p 1 d := by
  obtain rfl : z = 0 := Subsingleton.elim _ _
  pointwise [k0_pay14, k0_pay12, k0_pay13, bg]
  rfl

theorem pay16_at (z : Fin 1) (c d : Fin 128) : k0_pay16 (F := Ideal) e (k0_pay13 p) s a3 (ix3 z c d) = a3 (ix3 z c d) + bw e s p 1 c d := by
  obtain rfl : z = 0 := Subsingleton.elim _ _
  pointwise [k0_pay16, k0_pay15, k0_pay13, bw]
  rfl

theorem pay20_at (z : Fin 1) (d : Fin 128) : k0_pay20 (F := Ideal) e (k0_pay18 w) (k0_pay19 p) a1 (ix2 z d) = a1 (ix2 z d) + bg e w p 2 d := by
  obtain rfl : z = 0 := Subsingleton.elim _ _
  pointwise [k0_pay20, k0_pay18, k0_pay19, bg]
  rfl

theorem pay29_at (z : Fin 1) (d : Fin 128) : k0_pay29 (F := Ideal) e w p a1 (ix2 z d) = a1 (ix2 z d) + bg e w p 3 d := by
  obtain rfl : z = 0 := Subsingleton.elim _ _
  pointwise [k0_pay29, k0_pay27, k0_pay28, bg]
  rfl

theorem pay10_at (z : Fin 1) (c d : Fin 128) : k0_pay10 (F := Ideal) (k0_pay7 p) (k0_pay9 i x y s) a3 (ix3 z c d) = a3 (ix3 z c d) + bw (k0_pay2 i x y) s p 0 c d := by
  obtain rfl : z = 0 := Subsingleton.elim _ _
  unfold k0_pay10 k0_pay9
  generalize k0_pay2 (F := Ideal) i x y = e
  pointwise [k0_pay7, bw]
  simp only [col0]
  rfl

theorem pay22_at (z : Fin 1) (c d : Fin 128) : k0_pay22 (F := Ideal) e (k0_pay19 p) s a3 (ix3 z c d) = a3 (ix3 z c d) + bw e s p 2 c d := by
  obtain rfl : z = 0 := Subsingleton.elim _ _
  pointwise [k0_pay22, k0_pay21, k0_pay19, bw]
  rfl

theorem pay31_at (z : Fin 1) (c d : Fin 128) : k0_pay31 (F := Ideal) e p s a3 (ix3 z c d) = a3 (ix3 z c d) + bw e s p 3 c d := by
  obtain rfl : z = 0 := Subsingleton.elim _ _
  pointwise [k0_pay31, k0_pay30, k0_pay28, bw]
  rfl

/-- The matrix product back through a group's matrix. -/
def mm (v : FVec Ideal S528x128 .bf16) (u : FVec Ideal S128x128 .bf16) : FVec Ideal S528x128 .f32 :=
  matmul dot_S528x128_S128x128_S528x128_1_1_0_0_n_n none v u (constant S528x128 .f32 0x00000000#32)

theorem mm1 (t : Fin 528) (c : Fin 128) : mm (k0_pay15 e s) (k0_pay12 w) (ix2 t c) = bp e w s 1 c t := by
  pointwise [mm, k0_pay15, k0_pay12, bp]
  rfl

theorem mm0 (t : Fin 528) (c : Fin 128) : mm (k0_pay9 i x y s) (k0_pay6 w) (ix2 t c) = bp (k0_pay2 i x y) w s 0 c t := by
  unfold k0_pay9
  generalize k0_pay2 (F := Ideal) i x y = e
  pointwise [mm, k0_pay6, bp]
  simp only [col0]

theorem mm2 (t : Fin 528) (c : Fin 128) : mm (k0_pay21 e s) (k0_pay18 w) (ix2 t c) = bp e w s 2 c t := by
  pointwise [mm, k0_pay21, k0_pay18, bp]
  rfl

theorem mm3 (t : Fin 528) (c : Fin 128) : mm (k0_pay30 e s) (k0_pay27 w) (ix2 t c) = bp e w s 3 c t := by
  pointwise [mm, k0_pay30, k0_pay27, bp]
  rfl

/-- The number of rows in each window. -/
def cnt (n : BitVec 32) : FVec Ideal S528x128 .f32 :=
  broadcastTo S528x128 (sitofp .f32 (minsi (addi v9 (broadcast S528x1 1#32)) (broadcast S528x1 n))) broadcasts_S528x1_S528x128

theorem cnt_at (n : BitVec 32) (t : Fin 528) (c : Fin 128) : cnt v9 n (ix2 t c) =
    FloatOps.sitofp (F := Ideal) .f32 (IntOp.minsi (IntOp.addi (v9 (ix2 t 0)) 1#32) n) := by
  pointwise [cnt]

/-- An array and itself moved up. -/
def roll (n : BitVec 32) (v : FVec Ideal S528x128 .f32) : FVec Ideal S528x128 .f32 := addf v (dynamicRotate 0 n none v rotates_S528x128_d0)

/-- Moved up by the number of rows that each entry already sums: twice as many. -/
theorem roll_at (n : BitVec 32) (v : FVec Ideal S528x128 .f32) (c : Fin 128) (f : ℕ → EReal) (N k : ℕ) (hN : N ≤ 528) (hk : 0 < k) (hk' : k < 528)
    (hn : n.toNat = 528 - k) (h : ∀ (t : ℕ) (ht : t < N), v (ix2 ⟨t, by omega⟩ c) = ∑ l ∈ Finset.range k, f (t + l)) (t : ℕ) (ht : t < N - k) :
    roll n v (ix2 ⟨t, by omega⟩ c) = ∑ l ∈ Finset.range (k + k), f (t + l) := by
  rw [Finset.sum_range_add, ← h t (by omega)]
  show v _ + _ = _
  rw [dynamicRotate_apply (0 : Fin 2) n v rotates_S528x128_d0 (ix2 ⟨t, by omega⟩ c) (ix2 ⟨t + k, by omega⟩ c) (fun b => by
    match b with
    | ⟨0, _⟩ =>
      show t + k = (t + 528 - n.toNat % 528) % 528
      rw [hn]; omega
    | ⟨1, _⟩ => rfl), h (t + k) (by omega)]
  exact congrArg (v _ + ·) (Finset.sum_congr rfl fun l _ => congrArg f (by omega))

/-- The block's rows of a difference. -/
def fin (v u : FVec Ideal S528x128 .f32) : FVec Ideal S512x128 .bf16 :=
  truncf .bf16 (subf (extractStridedSlice S512x128 ![0, 0] v slices_S528x128_o0_0_S512x128)
    (extractStridedSlice S512x128 ![0, 0] u slices_S528x128_o0_0_S512x128)) bitsLt_bf16_f32

theorem fin_at (v u : FVec Ideal S528x128 .f32) (r : Fin 512) (c : Fin 128) : fin v u (ix2 r c) = v (ix2 (up r) c) - u (ix2 (up r) c) := by
  pointwise [fin]
  rfl

theorem pay11_eq (v : FVec Ideal S528x128 .bf16) : k0_pay11 (F := Ideal) v9 (k0_pay6 w) v =
    fin (roll 527#32 (divf (mm v (k0_pay6 w)) (cnt v9 2#32))) (mm v (k0_pay6 w)) := rfl

theorem pay17_eq : k0_pay17 (F := Ideal) e v9 (k0_pay12 w) s =
    fin (roll 526#32 (roll 527#32 (divf (mm (k0_pay15 e s) (k0_pay12 w)) (cnt v9 4#32)))) (mm (k0_pay15 e s) (k0_pay12 w)) := rfl

theorem pay26_eq : k0_pay26 (F := Ideal) (k0_pay24 e v9 (k0_pay18 w) s) (k0_pay25 e (k0_pay18 w) s) =
    fin (roll 524#32 (roll 526#32 (roll 527#32 (divf (mm (k0_pay21 e s) (k0_pay18 w)) (cnt v9 8#32))))) (mm (k0_pay21 e s) (k0_pay18 w)) := rfl

theorem pay1_eq : k0_pay1 (F := Ideal) (k0_pay32 e w s) (k0_pay33 v9) =
    fin (roll 520#32 (roll 524#32 (roll 526#32 (roll 527#32 (divf (mm (k0_pay30 e s) (k0_pay27 w)) (cnt v9 16#32)))))) (mm (k0_pay30 e s) (k0_pay27 w)) := rfl

theorem pay3_at (t : Fin 528) (z : Fin 1) : k0_pay3 i (ix2 t z) = BitVec.ofNat 32 ((i 0).val * 512 + t.val) := by
  pointwise [k0_pay3]
  show BitVec.ofNat 32 (i 0).val * BitVec.ofNat 32 512 + BitVec.ofNat 32 t.val = _
  rw [BitVec.ofNat_add, BitVec.ofNat_mul]

theorem pay2_at (t : Fin 528) (j : Fin 512) : k0_pay2 (F := Ideal) i x y (ix2 t j) =
    if h : t.val < 512 then x (ix2 ⟨t.val, h⟩ j) else if (i 0).val = 15 then 0 else y (ix2 ⟨t.val - 512, by omega⟩ j) := by
  pointwise [k0_pay2]
  have h0 : (i 0).val < 16 := (i 0).isLt
  by_cases h : (i 0).val = 15
  · simp [h, Scalar.select, Scalar.cmpi, IntOp.cmpi]
  · have hb : (BitVec.ofNat 32 (i 0).val == 15#32) = false := by
      rw [beq_eq_false_iff_ne]
      intro hc
      have := congrArg BitVec.toNat hc
      rw [BitVec.toNat_ofNat, Nat.mod_eq_of_lt (by omega)] at this
      exact h this
    simp [h, Scalar.select, Scalar.cmpi, IntOp.cmpi, hb]

end Cert.Pool

end
-- ==== Proof.Pool.Ref.lean ====
/-
  The reference's values, read at an index: the sums of `Spec.lean`.
-/
module

public import proofs.«01_k».proof.Proof.Pool.Spec
public import proofs.«01_k».proof.Proof.Gen.PoolRefIdeal.Read
public import Idealize.ShloMosaic.Lib.Pipeline.ValueKit

@[expose] public section

set_option maxRecDepth 16384

noncomputable section

namespace Cert.Pool

open Idealize.ShloMosaic Cert.PoolRefIdeal Cert.PoolRefIdeal.Gen Cert.PoolRefIdeal.Read

variable (A0 A1 : FVec Ideal Rows .f32) (A2 : FVec Ideal Wt .f32) (A3 : FVec Ideal Gain .f32)

/-- The pooled value. -/
abbrev PV : FVec Ideal Pl .f32 := val_main_v61 (F := Ideal) A1

/-- The gains' gradient. -/
theorem ref_dg (z : Fin 1) (g : Fin 4) (d : Fin 128) : val_main_v69 (F := Ideal) A0 A1 A2 (ix2 z (col g d)) = DG (PV A1) A0 A2 g d := by
  obtain rfl : z = 0 := Subsingleton.elim _ _
  unfold DG PV
  pointwise [val_main_v69, val_main_v68, val_main_v67, val_main_v64, val_main_v63, val_main_v62, val_main_cst_8]
  refine Finset.sum_congr rfl fun s _ => ?_
  have e1 : ∀ h, (⟨(col g d).val / 128, h⟩ : Fin 4) = g := fun _ => Fin.ext (by show (g.val * 128 + d.val) / 128 = g.val; omega)
  have e2 : ∀ h, (⟨(col g d).val % 128, h⟩ : Fin 128) = d := fun _ => Fin.ext (by show (g.val * 128 + d.val) % 128 = d.val; omega)
  rw [e1, e2, mul_comm]
  exact congrArg (_ * ·) (Finset.sum_congr rfl fun c _ => mul_comm _ _)

/-- The matrices' gradient. -/
theorem ref_dw (g : Fin 4) (c d : Fin 128) : val_main_v77 (F := Ideal) A0 A1 A3 (ix3 g c d) = DW (PV A1) A0 A3 g c d := by
  unfold DW PV
  pointwise [val_main_v77, val_main_v76, val_main_v73, val_main_v72, val_main_v71, val_main_v70]
  exact Finset.sum_congr rfl fun s _ => mul_comm _ _

/-- The gradient of the pooled value. -/
theorem ref_dp (r : Fin 8192) (g : Fin 4) (c : Fin 128) : val_main_v75 (F := Ideal) A0 A2 A3 (ix3 r g c) = DP A0 A2 A3 g c r := by
  unfold DP
  pointwise [val_main_v75, val_main_v74, val_main_v73, val_main_v72, val_main_v71, val_main_v70]
  rfl

theorem ref_dp0 (r : Fin 8192) (c : Fin 128) : val_main_v79 (F := Ideal) A0 A2 A3 (ix2 r c) = DP A0 A2 A3 0 c r := by
  pointwise [val_main_v79, val_main_v78, ref_dp]
theorem ref_dp1 (r : Fin 8192) (c : Fin 128) : val_main_v81 (F := Ideal) A0 A2 A3 (ix2 r c) = DP A0 A2 A3 1 c r := by
  pointwise [val_main_v81, val_main_v80, ref_dp]
theorem ref_dp2 (r : Fin 8192) (c : Fin 128) : val_main_v83 (F := Ideal) A0 A2 A3 (ix2 r c) = DP A0 A2 A3 2 c r := by
  pointwise [val_main_v83, val_main_v82, ref_dp]
theorem ref_dp3 (r : Fin 8192) (c : Fin 128) : val_main_v85 (F := Ideal) A0 A2 A3 (ix2 r c) = DP A0 A2 A3 3 c r := by
  pointwise [val_main_v85, val_main_v84, ref_dp]

theorem DS_lt (g : Fin 4) (c : Fin 128) (r : Fin 8192) : DS A0 A2 A3 g c r = Ideal.div (DP A0 A2 A3 g c r) (cn (wd g) r) := dif_pos r.isLt

theorem DS_end (g : Fin 4) (c : Fin 128) (n : ℕ) (h : 8192 ≤ n) : DS A0 A2 A3 g c n = 0 := dif_neg (by omega)

theorem ref_cn0 (r : Fin 8192) (c : Fin 128) : val_main_v117 (F := Ideal) (ix2 r c) = cn 2 r := by
  pointwise [val_main_v117, val_main_v13, val_main_v12, val_main_v11, val_main_v9, val_main_v10, val_main_v4, val_main_v8, val_main_c_1, val_main_c, cn]

theorem ref_ds0 (r : Fin 8192) (c : Fin 128) : val_main_v118 (F := Ideal) A0 A2 A3 (ix2 r c) = DS A0 A2 A3 0 c r := by
  rw [DS_lt]
  pointwise [val_main_v118, ref_dp0, ref_cn0]
  rfl

theorem ref_cn1 (r : Fin 8192) (c : Fin 128) : val_main_v107 (F := Ideal) (ix2 r c) = cn 4 r := by
  pointwise [val_main_v107, val_main_v26, val_main_v25, val_main_v24, val_main_v22, val_main_v23, val_main_v4, val_main_v21, val_main_c_3, val_main_c_2, cn]

theorem ref_ds1 (r : Fin 8192) (c : Fin 128) : val_main_v108 (F := Ideal) A0 A2 A3 (ix2 r c) = DS A0 A2 A3 1 c r := by
  rw [DS_lt]
  pointwise [val_main_v108, ref_dp1, ref_cn1]
  rfl

theorem ref_cn2 (r : Fin 8192) (c : Fin 128) : val_main_v97 (F := Ideal) (ix2 r c) = cn 8 r := by
  pointwise [val_main_v97, val_main_v39, val_main_v38, val_main_v37, val_main_v35, val_main_v36, val_main_v4, val_main_v34, val_main_c_5, val_main_c_4, cn]

theorem ref_ds2 (r : Fin 8192) (c : Fin 128) : val_main_v98 (F := Ideal) A0 A2 A3 (ix2 r c) = DS A0 A2 A3 2 c r := by
  rw [DS_lt]
  pointwise [val_main_v98, ref_dp2, ref_cn2]
  rfl

theorem ref_cn3 (r : Fin 8192) (c : Fin 128) : val_main_v88 (F := Ideal) (ix2 r c) = cn 16 r := by
  pointwise [val_main_v88, val_main_v52, val_main_v51, val_main_v50, val_main_v48, val_main_v49, val_main_v4, val_main_v47, val_main_c_7, val_main_c_6, cn]

theorem ref_ds3 (r : Fin 8192) (c : Fin 128) : val_main_v89 (F := Ideal) A0 A2 A3 (ix2 r c) = DS A0 A2 A3 3 c r := by
  rw [DS_lt]
  pointwise [val_main_v89, ref_dp3, ref_cn3]
  rfl

/-- The differences that the cumulative sum adds, and the row's own share, at the columns of group 0. -/
theorem ref_diff0 (r : Fin 8192) (c : Fin 128) : val_main_v125 (F := Ideal) A0 A2 A3 (ix2 r (col 0 c)) =
    -DS A0 A2 A3 0 c (r.val + 2) + DS A0 A2 A3 0 c r.val := by
  pointwise [val_main_v125, val_main_v123, val_main_v121, val_main_v122, val_main_v113, val_main_v120, val_main_cst_20, val_main_v111, val_main_v112, val_main_v119, val_main_cst_19, val_main_v103, val_main_v110, val_main_cst_17, val_main_v101, val_main_v102, val_main_v109, val_main_cst_16, val_main_v93, val_main_v100, val_main_cst_14, val_main_v91, val_main_v92, val_main_v99, val_main_cst_13, val_main_v90, val_main_cst_10, val_main_cst_11, ref_ds0, ref_ds1, ref_ds2, ref_ds3]
  have hv : (col 0 c).val = 0 + c.val := by show 0 * 128 + c.val = 0 + c.val; omega
  have hc : ∀ h, (⟨(col 0 c).val, h⟩ : Fin 128) = c := fun _ => Fin.ext (by show (col 0 c).val = c.val; omega)
  have hr : 16 + r.val - 14 = r.val + 2 := by omega
  by_cases h : r.val + 2 < 8192
  · simp (disch := omega) only [dif_pos, dif_neg, hc, hr, Nat.add_sub_cancel_left, zero_add, add_zero]
  · rw [DS_end A0 A2 A3 0 c (r.val + 2) (by omega)]
    simp (disch := omega) only [dif_pos, dif_neg, hc, Nat.add_sub_cancel_left, zero_add, add_zero, neg_zero]

theorem ref_own0 (r : Fin 8192) (c : Fin 128) : val_main_v116 (F := Ideal) A0 A2 A3 (ix2 r (col 0 c)) = -DP A0 A2 A3 0 c r := by
  pointwise [val_main_v116, val_main_v106, val_main_v115, val_main_v96, val_main_v105, val_main_v114, val_main_cst_18, val_main_v87, val_main_v95, val_main_v104, val_main_cst_15, val_main_v86, val_main_cst_9, val_main_v94, val_main_cst_12, ref_dp0, ref_dp1, ref_dp2, ref_dp3]
  have hv : (col 0 c).val = 0 + c.val := by show 0 * 128 + c.val = 0 + c.val; omega
  have hc : ∀ h, (⟨(col 0 c).val, h⟩ : Fin 128) = c := fun _ => Fin.ext (by show (col 0 c).val = c.val; omega)
  simp (disch := omega) only [dif_pos, dif_neg, hc, zero_add, add_zero]

/-- The differences that the cumulative sum adds, and the row's own share, at the columns of group 1. -/
theorem ref_diff1 (r : Fin 8192) (c : Fin 128) : val_main_v125 (F := Ideal) A0 A2 A3 (ix2 r (col 1 c)) =
    -DS A0 A2 A3 1 c (r.val + 4) + DS A0 A2 A3 1 c r.val := by
  pointwise [val_main_v125, val_main_v123, val_main_v121, val_main_v122, val_main_v113, val_main_v120, val_main_cst_20, val_main_v111, val_main_v112, val_main_v119, val_main_cst_19, val_main_v103, val_main_v110, val_main_cst_17, val_main_v101, val_main_v102, val_main_v109, val_main_cst_16, val_main_v93, val_main_v100, val_main_cst_14, val_main_v91, val_main_v92, val_main_v99, val_main_cst_13, val_main_v90, val_main_cst_10, val_main_cst_11, ref_ds0, ref_ds1, ref_ds2, ref_ds3]
  have hv : (col 1 c).val = 128 + c.val := rfl
  have hc : ∀ h, (⟨(col 1 c).val - 128, h⟩ : Fin 128) = c := fun _ => Fin.ext (by show (col 1 c).val - 128 = c.val; omega)
  have hr : 16 + r.val - 12 = r.val + 4 := by omega
  by_cases h : r.val + 4 < 8192
  · simp (disch := omega) only [dif_pos, dif_neg, hc, hr, Nat.add_sub_cancel_left, zero_add, add_zero]
  · rw [DS_end A0 A2 A3 1 c (r.val + 4) (by omega)]
    simp (disch := omega) only [dif_pos, dif_neg, hc, Nat.add_sub_cancel_left, zero_add, add_zero, neg_zero]

theorem ref_own1 (r : Fin 8192) (c : Fin 128) : val_main_v116 (F := Ideal) A0 A2 A3 (ix2 r (col 1 c)) = -DP A0 A2 A3 1 c r := by
  pointwise [val_main_v116, val_main_v106, val_main_v115, val_main_v96, val_main_v105, val_main_v114, val_main_cst_18, val_main_v87, val_main_v95, val_main_v104, val_main_cst_15, val_main_v86, val_main_cst_9, val_main_v94, val_main_cst_12, ref_dp0, ref_dp1, ref_dp2, ref_dp3]
  have hv : (col 1 c).val = 128 + c.val := rfl
  have hc : ∀ h, (⟨(col 1 c).val - 128, h⟩ : Fin 128) = c := fun _ => Fin.ext (by show (col 1 c).val - 128 = c.val; omega)
  simp (disch := omega) only [dif_pos, dif_neg, hc, zero_add, add_zero]

/-- The differences that the cumulative sum adds, and the row's own share, at the columns of group 2. -/
theorem ref_diff2 (r : Fin 8192) (c : Fin 128) : val_main_v125 (F := Ideal) A0 A2 A3 (ix2 r (col 2 c)) =
    -DS A0 A2 A3 2 c (r.val + 8) + DS A0 A2 A3 2 c r.val := by
  pointwise [val_main_v125, val_main_v123, val_main_v121, val_main_v122, val_main_v113, val_main_v120, val_main_cst_20, val_main_v111, val_main_v112, val_main_v119, val_main_cst_19, val_main_v103, val_main_v110, val_main_cst_17, val_main_v101, val_main_v102, val_main_v109, val_main_cst_16, val_main_v93, val_main_v100, val_main_cst_14, val_main_v91, val_main_v92, val_main_v99, val_main_cst_13, val_main_v90, val_main_cst_10, val_main_cst_11, ref_ds0, ref_ds1, ref_ds2, ref_ds3]
  have hv : (col 2 c).val = 256 + c.val := rfl
  have hc : ∀ h, (⟨(col 2 c).val - 256, h⟩ : Fin 128) = c := fun _ => Fin.ext (by show (col 2 c).val - 256 = c.val; omega)
  have hr : 16 + r.val - 8 = r.val + 8 := by omega
  by_cases h : r.val + 8 < 8192
  · simp (disch := omega) only [dif_pos, dif_neg, hc, hr, Nat.add_sub_cancel_left, zero_add, add_zero]
  · rw [DS_end A0 A2 A3 2 c (r.val + 8) (by omega)]
    simp (disch := omega) only [dif_pos, dif_neg, hc, Nat.add_sub_cancel_left, zero_add, add_zero, neg_zero]

theorem ref_own2 (r : Fin 8192) (c : Fin 128) : val_main_v116 (F := Ideal) A0 A2 A3 (ix2 r (col 2 c)) = -DP A0 A2 A3 2 c r := by
  pointwise [val_main_v116, val_main_v106, val_main_v115, val_main_v96, val_main_v105, val_main_v114, val_main_cst_18, val_main_v87, val_main_v95, val_main_v104, val_main_cst_15, val_main_v86, val_main_cst_9, val_main_v94, val_main_cst_12, ref_dp0, ref_dp1, ref_dp2, ref_dp3]
  have hv : (col 2 c).val = 256 + c.val := rfl
  have hc : ∀ h, (⟨(col 2 c).val - 256, h⟩ : Fin 128) = c := fun _ => Fin.ext (by show (col 2 c).val - 256 = c.val; omega)
  simp (disch := omega) only [dif_pos, dif_neg, hc, zero_add, add_zero]

/-- The differences that the cumulative sum adds, and the row's own share, at the columns of group 3. -/
theorem ref_diff3 (r : Fin 8192) (c : Fin 128) : val_main_v125 (F := Ideal) A0 A2 A3 (ix2 r (col 3 c)) =
    -DS A0 A2 A3 3 c (r.val + 16) + DS A0 A2 A3 3 c r.val := by
  pointwise [val_main_v125, val_main_v123, val_main_v121, val_main_v122, val_main_v113, val_main_v120, val_main_cst_20, val_main_v111, val_main_v112, val_main_v119, val_main_cst_19, val_main_v103, val_main_v110, val_main_cst_17, val_main_v101, val_main_v102, val_main_v109, val_main_cst_16, val_main_v93, val_main_v100, val_main_cst_14, val_main_v91, val_main_v92, val_main_v99, val_main_cst_13, val_main_v90, val_main_cst_10, val_main_cst_11, ref_ds0, ref_ds1, ref_ds2, ref_ds3]
  have hv : (col 3 c).val = 384 + c.val := rfl
  have hc : ∀ h, (⟨(col 3 c).val - 384, h⟩ : Fin 128) = c := fun _ => Fin.ext (by show (col 3 c).val - 384 = c.val; omega)
  have hr : 16 + r.val = r.val + 16 := Nat.add_comm _ _
  by_cases h : r.val + 16 < 8192
  · simp (disch := omega) only [dif_pos, dif_neg, hc, hr, Nat.add_sub_cancel, zero_add, add_zero]
  · rw [DS_end A0 A2 A3 3 c (r.val + 16) (by omega)]
    simp (disch := omega) only [dif_pos, dif_neg, hc, Nat.add_sub_cancel_left, zero_add, add_zero, neg_zero]

theorem ref_own3 (r : Fin 8192) (c : Fin 128) : val_main_v116 (F := Ideal) A0 A2 A3 (ix2 r (col 3 c)) = -DP A0 A2 A3 3 c r := by
  pointwise [val_main_v116, val_main_v106, val_main_v115, val_main_v96, val_main_v105, val_main_v114, val_main_cst_18, val_main_v87, val_main_v95, val_main_v104, val_main_cst_15, val_main_v86, val_main_cst_9, val_main_v94, val_main_cst_12, ref_dp0, ref_dp1, ref_dp2, ref_dp3]
  have hv : (col 3 c).val = 384 + c.val := rfl
  have hc : ∀ h, (⟨(col 3 c).val - 384, h⟩ : Fin 128) = c := fun _ => Fin.ext (by show (col 3 c).val - 384 = c.val; omega)
  simp (disch := omega) only [dif_pos, dif_neg, hc, zero_add, add_zero]

theorem ref_diff (g : Fin 4) (r : Fin 8192) (c : Fin 128) : val_main_v125 (F := Ideal) A0 A2 A3 (ix2 r (col g c)) =
    -DS A0 A2 A3 g c (r.val + wd g) + DS A0 A2 A3 g c r.val := by
  match g with
  | 0 => exact ref_diff0 A0 A2 A3 r c
  | 1 => exact ref_diff1 A0 A2 A3 r c
  | 2 => exact ref_diff2 A0 A2 A3 r c
  | 3 => exact ref_diff3 A0 A2 A3 r c

theorem ref_own (g : Fin 4) (r : Fin 8192) (c : Fin 128) : val_main_v116 (F := Ideal) A0 A2 A3 (ix2 r (col g c)) = -DP A0 A2 A3 g c r := by
  match g with
  | 0 => exact ref_own0 A0 A2 A3 r c
  | 1 => exact ref_own1 A0 A2 A3 r c
  | 2 => exact ref_own2 A0 A2 A3 r c
  | 3 => exact ref_own3 A0 A2 A3 r c

/-- The gradient of the pooling's argument: the cumulative sum's differences cancel but for a window's rows. -/
theorem ref_du (h : Real3 A0 A2 A3) (g : Fin 4) (r : Fin 8192) (c : Fin 128) :
    val_main_v128 (F := Ideal) A0 A2 A3 (ix2 r (col g c)) = DU A0 A2 A3 g c r := by
  show val_main_v116 (F := Ideal) A0 A2 A3 (ix2 r (col g c)) + val_main_v126 (F := Ideal) A0 A2 A3 (ix2 r (col g c)) = _
  unfold val_main_v126
  rw [ref_own, window_sum _ _ _ _ (fun i => by pointwise [val_main_call1_call0_v0, val_main_call1_call0_cst]), DU, sub_eq_add_neg, add_comm,
    ← telescope' (DS A0 A2 A3 g c) (DS_real h g c) 8192 (wd g) r.val (fun k hk => DS_end A0 A2 A3 g c k hk)]
  refine congrArg (· + _) (Finset.sum_congr rfl fun k _ => ?_)
  split
  · next hk => exact ref_diff A0 A2 A3 g ⟨r.val + k.val, hk⟩ c
  · next hk => rw [DS_end A0 A2 A3 g c _ (by omega), DS_end A0 A2 A3 g c _ (by omega), neg_zero, zero_add]

end Cert.Pool

end
-- ==== Proof.Pool.Saved.lean ====
/-
  The pooled value, which the host computes before the launch by the reference's own lines.
-/
module

public import proofs.«01_k».proof.Proof.Pool.Ref
public import proofs.«01_k».proof.Proof.Gen.PoolBwdIdeal.Frame.Runs
public import Idealize.ShloMosaic.Lib.Claim
public import Idealize.ShloMosaic.Lib.StableHlo.RunRead

@[expose] public section

set_option maxRecDepth 16384

noncomputable section

namespace Cert.Pool

open Idealize.ShloMosaic Idealize.ShloMosaic.TcCoe Cert.PoolBwdIdeal Cert.PoolBwdIdeal.Gen Cert.PoolRefIdeal.Read

variable (m : (ℓ : Loc nD τ sig) → Buf (Elt Ideal) ℓ) (c : Dev nD)

/-- The arguments as the launch finds them. -/
abbrev B0 : FVec Ideal Rows .f32 := m ((c : Thread nD τ).loc main_arg0)
abbrev B1 : FVec Ideal Rows .f32 := m ((c : Thread nD τ).loc main_arg1)
abbrev B2 : FVec Ideal Wt .f32 := m ((c : Thread nD τ).loc main_arg2)
abbrev B3 : FVec Ideal Gain .f32 := m ((c : Thread nD τ).loc main_arg3)

theorem saved0 : StableHlo.upto (List.flatten [hostOps0, hostOps0_1, hostOps0_2]) (fun b => m (c, b)) 71 (Proc.tc.devRef main_v56) =
    val_main_v57 (F := Ideal) (B1 m c) := by
  after_reads_simp
  rfl

theorem saved1 : StableHlo.upto (List.flatten [hostOps0, hostOps0_1, hostOps0_2]) (fun b => m (c, b)) 71 (Proc.tc.devRef main_v57) =
    val_main_v58 (F := Ideal) (B1 m c) := by
  after_reads_simp
  rfl

theorem saved2 : StableHlo.upto (List.flatten [hostOps0, hostOps0_1, hostOps0_2]) (fun b => m (c, b)) 71 (Proc.tc.devRef main_v58) =
    val_main_v59 (F := Ideal) (B1 m c) := by
  after_reads_simp
  rfl

theorem saved3 : StableHlo.upto (List.flatten [hostOps0, hostOps0_1, hostOps0_2]) (fun b => m (c, b)) 71 (Proc.tc.devRef main_v59) =
    val_main_v60 (F := Ideal) (B1 m c) := by
  after_reads_simp
  rfl

/-- The array of the pooled value, as the launch finds it. -/
theorem saved_p (r : Fin 8192) (j : Fin 512) : V m c main_v62 (ix2 r j) =
    PV (B1 m c) (ix3 r ⟨j.val / 128, by omega⟩ ⟨j.val % 128, by omega⟩) := by
  unfold V
  after_reads_simp
  show shapeCast S8192x512 (concatenate S8192x4x128 1
    [⟨S8192x1x128, StableHlo.upto (List.flatten [hostOps0, hostOps0_1, hostOps0_2]) (fun b => m (c, b)) 71 (Proc.tc.devRef main_v56)⟩,
      ⟨S8192x1x128, StableHlo.upto (List.flatten [hostOps0, hostOps0_1, hostOps0_2]) (fun b => m (c, b)) 71 (Proc.tc.devRef main_v57)⟩,
      ⟨S8192x1x128, StableHlo.upto (List.flatten [hostOps0, hostOps0_1, hostOps0_2]) (fun b => m (c, b)) 71 (Proc.tc.devRef main_v58)⟩,
      ⟨S8192x1x128, StableHlo.upto (List.flatten [hostOps0, hostOps0_1, hostOps0_2]) (fun b => m (c, b)) 71 (Proc.tc.devRef main_v59)⟩]
    concatenates_S8192x1x128_S8192x1x128_S8192x1x128_S8192x1x128_S8192x4x128_d1) shapeCasts_S8192x4x128_S8192x512 (ix2 r j) = _
  rw [saved0, saved1, saved2, saved3]
  show shapeCast S8192x512 (val_main_v61 (F := Ideal) (B1 m c)) shapeCasts_S8192x4x128_S8192x512 (ix2 r j) = _
  pointwise

end Cert.Pool

end
-- ==== Proof.Pool.Point.lean ====
/-
  The blocks a grid point reads, and what one point computes. Point `t` works on the rows `512 t … 512 t + 511` and reads the
  sixteen rows after them.
-/
module

public import proofs.«01_k».proof.Proof.Pool.Body
public import proofs.«01_k».proof.Proof.Pool.Saved
public import proofs.«01_k».proof.Proof.Gen.PoolBwdIdeal.Frame
public import Idealize.ShloMosaic.Lib.Pipeline.ValueKit
public import Idealize.ShloMosaic.Lib.Pipeline.ReadBack

@[expose] public section

set_option maxRecDepth 16384

noncomputable section

namespace Cert.Pool

open Idealize.ShloMosaic Idealize.ShloMosaic.TcCoe Cert.PoolBwdIdeal Cert.PoolBwdIdeal.Gen

/-- Where each window's block lies at a point. -/
theorem idx : ∀ t : Fin cfg0.N, win0_0.index t = ![t.val, 0] ∧ win0_1.index t = ![min ((t.val + 1) * 32) 511, 0]
    ∧ win0_2.index t = ![t.val, 0] ∧ win0_3.index t = ![0, 0, 0] ∧ win0_4.index t = ![0, 0] ∧ win0_5.index t = ![t.val, 0]
    ∧ win0_6.index t = ![0, 0, 0] ∧ win0_7.index t = ![0, 0] ∧ (grid0.coords t 0).val = t.val := (by decide +kernel : ∀ t : Fin grid0.N, _)

/-- A column's group and its place in it. -/
def gr (j : Fin 512) : Fin 4 := ⟨j.val / 128, by omega⟩
def cl (j : Fin 512) : Fin 128 := ⟨j.val % 128, by omega⟩

theorem gr_col (g : Fin 4) (a : Fin 128) : gr (col g a) = g := Fin.ext (by show (g.val * 128 + a.val) / 128 = g.val; omega)
theorem cl_col (g : Fin 4) (a : Fin 128) : cl (col g a) = a := Fin.ext (by show (g.val * 128 + a.val) % 128 = a.val; omega)
theorem col_gr (j : Fin 512) : col (gr j) (cl j) = j := Fin.ext (by show j.val / 128 * 128 + j.val % 128 = j.val; omega)

variable (m : (ℓ : Loc nD τ sig) → Buf (Elt Ideal) ℓ) (c : Dev nD) (t : Fin cfg0.N)

theorem lt16 : t.val < 16 := t.isLt

/-- Row `r` of the block that point `t` works on. -/
def row (k : Fin 16) (r : Fin 512) : Fin 8192 := ⟨k * 512 + r, by omega⟩
def step (t : Fin cfg0.N) : Fin 16 := ⟨t.val, lt16 t⟩

theorem blk_x (r : Fin 512) (j : Fin 512) : iblk m c 0 t (ix2 r j) = B0 m c (ix2 (row (step t) r) j) := by
  blk_point [iblk, V, row, step, idx t]

theorem blk_y (r : Fin 16) (j : Fin 512) (h : t.val < 15) : iblk m c 1 t (ix2 r j) = B0 m c (ix2 ⟨t.val * 512 + 512 + r, by omega⟩ j) := by
  blk_point [iblk, V, idx t]

theorem blk_p (r : Fin 512) (j : Fin 512) : iblk m c 2 t (ix2 r j) =
    PV (B1 m c) (ix3 (row (step t) r) ⟨j.val / 128, by omega⟩ ⟨j.val % 128, by omega⟩) := by
  rw [← saved_p]
  blk_point [iblk, V, row, step, idx t]

theorem blk_w (z : Fin 4) (a b : Fin 128) : iblk m c 3 t (ix3 z a b) = B2 m c (ix3 z a b) := by
  blk_point [iblk, V, idx t]

theorem blk_s (z : Fin 1) (j : Fin 512) : iblk m c 4 t (ix2 z j) = B3 m c (ix2 0 j) := by
  obtain rfl : z = 0 := Subsingleton.elim _ _
  blk_point [iblk, V, idx t]

/-- The block with the rows after it. -/
def xe : FVec Ideal S528x512 .f32 := k0_pay2 (grid0.coords t) (iblk m c 0 t) (iblk m c 1 t)

theorem xe_at (s : Fin 528) (j : Fin 512) : xe m c t (ix2 s j) =
    if h : t.val * 512 + s.val < 8192 then B0 m c (ix2 ⟨t.val * 512 + s.val, h⟩ j) else 0 := by
  have ht := lt16 t
  unfold xe
  rw [pay2_at, (idx t).2.2.2.2.2.2.2.2]
  by_cases h : s.val < 512
  · rw [dif_pos h, dif_pos (by omega), blk_x]
    rfl
  · rw [dif_neg h]
    by_cases h1 : t.val = 15
    · rw [if_pos h1, dif_neg (by omega)]
    · rw [if_neg h1, dif_pos (by omega), blk_y _ _ _ _ _ (by omega)]
      exact congrArg (fun r => B0 m c (ix2 r j)) (Fin.ext (by show t.val * 512 + 512 + (s.val - 512) = t.val * 512 + s.val; omega))

theorem xe_up (r : Fin 512) (j : Fin 512) : xe m c t (ix2 (up r) j) = B0 m c (ix2 (row (step t) r) j) := by
  have ht := lt16 t
  rw [xe_at, dif_pos (by show t.val * 512 + r.val < 8192; omega)]
  rfl

/-- What one point adds to the gains' gradient and to the matrices'. -/
def partG (g : Fin 4) (d : Fin 128) : EReal := ∑ r : Fin 512, B0 m c (ix2 (row (step t) r) (col g d)) *
  ∑ b : Fin 128, PV (B1 m c) (ix3 (row (step t) r) g b) * B2 m c (ix3 g b d)
def partW (g : Fin 4) (b d : Fin 128) : EReal := ∑ r : Fin 512, PV (B1 m c) (ix3 (row (step t) r) g b) *
  (B0 m c (ix2 (row (step t) r) (col g d)) * B3 m c (ix2 0 (col g d)))

/-- The points together add what all rows give. -/
theorem sum_rows (f : Fin 8192 → EReal) : ∑ k : Fin 16, ∑ r : Fin 512, f (row k r) = ∑ l : Fin 8192, f l :=
  Fin.sum_mul_add_congr fun s k hl => rfl

variable {m c t} (w : FVec Ideal S1x128x128 .f32) (s : FVec Ideal S1x128 .f32) (p : FVec Ideal S512x128 .bf16) (g : Fin 4)

theorem bg_eq (hw : ∀ a b : Fin 128, w (ix3 0 a b) = B2 m c (ix3 g a b))
    (hp : ∀ (r : Fin 512) (a : Fin 128), p (ix2 r a) = PV (B1 m c) (ix3 (row (step t) r) g a)) (d : Fin 128) :
    bg (xe m c t) w p g d = partG m c t g d := by
  simp only [bg, partG, xe_up, hw, hp]

theorem bw_eq (hs : ∀ b : Fin 128, s (ix2 0 b) = B3 m c (ix2 0 (col g b)))
    (hp : ∀ (r : Fin 512) (a : Fin 128), p (ix2 r a) = PV (B1 m c) (ix3 (row (step t) r) g a)) (a d : Fin 128) :
    bw (xe m c t) s p g a d = partW m c t g a d := by
  simp only [bw, partW, xe_up, hs, hp]

theorem bp_eq (hw : ∀ a b : Fin 128, w (ix3 0 a b) = B2 m c (ix3 g a b)) (hs : ∀ b : Fin 128, s (ix2 0 b) = B3 m c (ix2 0 (col g b)))
    (a : Fin 128) (k : Fin 528) : bp (xe m c t) w s g a k =
      if h : t.val * 512 + k.val < 8192 then DP (B0 m c) (B2 m c) (B3 m c) g a ⟨t.val * 512 + k.val, h⟩ else 0 := by
  unfold bp DP
  simp only [xe_at, hw, hs]
  split
  · rfl
  · simp

/-- The pooled value's gradient divided by the number of rows. -/
theorem quot (u : FVec Ideal S528x128 .f32) (hw : ∀ a b : Fin 128, w (ix3 0 a b) = B2 m c (ix3 g a b))
    (hs : ∀ b : Fin 128, s (ix2 0 b) = B3 m c (ix2 0 (col g b)))
    (hu : ∀ (k : Fin 528) (a : Fin 128), u (ix2 k a) = bp (xe m c t) w s g a k) (k : Fin 528) (a : Fin 128) :
    divf u (cnt (k0_pay3 (grid0.coords t)) (BitVec.ofNat 32 (wd g))) (ix2 k a) = DS (B0 m c) (B2 m c) (B3 m c) g a (t.val * 512 + k.val) := by
  have ht := lt16 t
  show Ideal.div (u _) (cnt _ _ _) = _
  rw [cnt_at, pay3_at, (idx t).2.2.2.2.2.2.2.2, hu, bp_eq w s g hw hs]
  unfold DS
  split
  · rfl
  · have := div_cn 0 (wd g) (t.val * 512 + k.val) (wd_le g) (wd_pos g) (by omega)
    rw [zero_div] at this
    exact this

theorem one (u : FVec Ideal S528x128 .f32) (a : Fin 128) (f : ℕ → EReal) (h : ∀ k : Fin 528, u (ix2 k a) = f k.val) (k : ℕ) (hk : k < 528) :
    u (ix2 ⟨k, by omega⟩ a) = ∑ l ∈ Finset.range 1, f (k + l) := by
  rw [Finset.sum_range_one]
  exact h _

/-- A block of the argument's gradient, from its window sum. -/
theorem du_of (u v : FVec Ideal S528x128 .f32) (hw : ∀ a b : Fin 128, w (ix3 0 a b) = B2 m c (ix3 g a b))
    (hs : ∀ b : Fin 128, s (ix2 0 b) = B3 m c (ix2 0 (col g b)))
    (hu : ∀ (k : Fin 528) (a : Fin 128), u (ix2 k a) = bp (xe m c t) w s g a k) (r : Fin 512) (a : Fin 128)
    (hv : v (ix2 (up r) a) = ∑ l ∈ Finset.range (wd g), DS (B0 m c) (B2 m c) (B3 m c) g a (t.val * 512 + (r.val + l))) :
    fin v u (ix2 r a) = DU (B0 m c) (B2 m c) (B3 m c) g a (row (step t) r) := by
  have ht := lt16 t
  rw [fin_at, hv, hu, bp_eq w s g hw hs, dif_pos (by show t.val * 512 + r.val < 8192; omega)]
  unfold DU
  congr 1
  exact Finset.sum_congr rfl fun l _ => congrArg _ (by show _ = t.val * 512 + r.val + l; omega)

variable (u : FVec Ideal S528x128 .f32)

theorem du0 (hw : ∀ a b : Fin 128, w (ix3 0 a b) = B2 m c (ix3 0 a b)) (hs : ∀ b : Fin 128, s (ix2 0 b) = B3 m c (ix2 0 (col 0 b)))
    (hu : ∀ (k : Fin 528) (a : Fin 128), u (ix2 k a) = bp (xe m c t) w s 0 a k) (r : Fin 512) (a : Fin 128) :
    fin (roll 527#32 (divf u (cnt (k0_pay3 (grid0.coords t)) 2#32))) u (ix2 r a) = DU (B0 m c) (B2 m c) (B3 m c) 0 a (row (step t) r) :=
  du_of w s 0 u _ hw hs hu r a <|
    roll_at 527#32 _ a (fun k => DS (B0 m c) (B2 m c) (B3 m c) 0 a (t.val * 512 + k)) 528 1 (by omega) (by omega) (by omega) rfl
      (one _ a (fun k => DS (B0 m c) (B2 m c) (B3 m c) 0 a (t.val * 512 + k)) fun k => quot w s 0 u hw hs hu k a) r.val (by omega)

theorem du1 (hw : ∀ a b : Fin 128, w (ix3 0 a b) = B2 m c (ix3 1 a b)) (hs : ∀ b : Fin 128, s (ix2 0 b) = B3 m c (ix2 0 (col 1 b)))
    (hu : ∀ (k : Fin 528) (a : Fin 128), u (ix2 k a) = bp (xe m c t) w s 1 a k) (r : Fin 512) (a : Fin 128) :
    fin (roll 526#32 (roll 527#32 (divf u (cnt (k0_pay3 (grid0.coords t)) 4#32)))) u (ix2 r a) =
      DU (B0 m c) (B2 m c) (B3 m c) 1 a (row (step t) r) :=
  du_of w s 1 u _ hw hs hu r a <|
    roll_at 526#32 _ a (fun k => DS (B0 m c) (B2 m c) (B3 m c) 1 a (t.val * 512 + k)) 527 2 (by omega) (by omega) (by omega) rfl
      (roll_at 527#32 _ a (fun k => DS (B0 m c) (B2 m c) (B3 m c) 1 a (t.val * 512 + k)) 528 1 (by omega) (by omega) (by omega) rfl
        (one _ a (fun k => DS (B0 m c) (B2 m c) (B3 m c) 1 a (t.val * 512 + k)) fun k => quot w s 1 u hw hs hu k a)) r.val (by omega)

theorem du2 (hw : ∀ a b : Fin 128, w (ix3 0 a b) = B2 m c (ix3 2 a b)) (hs : ∀ b : Fin 128, s (ix2 0 b) = B3 m c (ix2 0 (col 2 b)))
    (hu : ∀ (k : Fin 528) (a : Fin 128), u (ix2 k a) = bp (xe m c t) w s 2 a k) (r : Fin 512) (a : Fin 128) :
    fin (roll 524#32 (roll 526#32 (roll 527#32 (divf u (cnt (k0_pay3 (grid0.coords t)) 8#32))))) u (ix2 r a) =
      DU (B0 m c) (B2 m c) (B3 m c) 2 a (row (step t) r) :=
  du_of w s 2 u _ hw hs hu r a <|
    roll_at 524#32 _ a (fun k => DS (B0 m c) (B2 m c) (B3 m c) 2 a (t.val * 512 + k)) 525 4 (by omega) (by omega) (by omega) rfl
      (roll_at 526#32 _ a (fun k => DS (B0 m c) (B2 m c) (B3 m c) 2 a (t.val * 512 + k)) 527 2 (by omega) (by omega) (by omega) rfl
        (roll_at 527#32 _ a (fun k => DS (B0 m c) (B2 m c) (B3 m c) 2 a (t.val * 512 + k)) 528 1 (by omega) (by omega) (by omega) rfl
          (one _ a (fun k => DS (B0 m c) (B2 m c) (B3 m c) 2 a (t.val * 512 + k)) fun k => quot w s 2 u hw hs hu k a))) r.val (by omega)

theorem du3 (hw : ∀ a b : Fin 128, w (ix3 0 a b) = B2 m c (ix3 3 a b)) (hs : ∀ b : Fin 128, s (ix2 0 b) = B3 m c (ix2 0 (col 3 b)))
    (hu : ∀ (k : Fin 528) (a : Fin 128), u (ix2 k a) = bp (xe m c t) w s 3 a k) (r : Fin 512) (a : Fin 128) :
    fin (roll 520#32 (roll 524#32 (roll 526#32 (roll 527#32 (divf u (cnt (k0_pay3 (grid0.coords t)) 16#32)))))) u (ix2 r a) =
      DU (B0 m c) (B2 m c) (B3 m c) 3 a (row (step t) r) :=
  du_of w s 3 u _ hw hs hu r a <|
    roll_at 520#32 _ a (fun k => DS (B0 m c) (B2 m c) (B3 m c) 3 a (t.val * 512 + k)) 521 8 (by omega) (by omega) (by omega) rfl
      (roll_at 524#32 _ a (fun k => DS (B0 m c) (B2 m c) (B3 m c) 3 a (t.val * 512 + k)) 525 4 (by omega) (by omega) (by omega) rfl
        (roll_at 526#32 _ a (fun k => DS (B0 m c) (B2 m c) (B3 m c) 3 a (t.val * 512 + k)) 527 2 (by omega) (by omega) (by omega) rfl
          (roll_at 527#32 _ a (fun k => DS (B0 m c) (B2 m c) (B3 m c) 3 a (t.val * 512 + k)) 528 1 (by omega) (by omega) (by omega) rfl
            (one _ a (fun k => DS (B0 m c) (B2 m c) (B3 m c) 3 a (t.val * 512 + k)) fun k => quot w s 3 u hw hs hu k a)))) r.val (by omega)

section loads

variable (m c t)

theorem ldw0 (a b : Fin 128) : View.ld (iblk m c 3 t) (Rect.unit (s := S4x128x128) ![0, 0, 0] ![1, 128, 128] inb_S4x128x128_S1x128x128_0_0_0) (ix3 0 a b) = B2 m c (ix3 0 a b) := by
  rw [← blk_w m c t]
  pointwise
  blk_ext
theorem lds0 (b : Fin 128) : View.ld (iblk m c 4 t) (Rect.unit (s := S1x512) ![0, 0] ![1, 128] inb_S1x512_S1x128_0_0) (ix2 0 b) = B3 m c (ix2 0 (col 0 b)) := by
  rw [← blk_s m c t 0]
  pointwise [col]
  blk_ext
theorem ldp0 (r : Fin 512) (a : Fin 128) : View.ld (iblk m c 2 t) (Rect.unit (s := S512x512) ![0, 0] ![512, 128] inb_S512x512_S512x128_0_0) (ix2 r a) = PV (B1 m c) (ix3 (row (step t) r) 0 a) := by
  have e : View.ld (iblk m c 2 t) (Rect.unit (s := S512x512) ![0, 0] ![512, 128] inb_S512x512_S512x128_0_0) (ix2 r a) = iblk m c 2 t (ix2 r (col 0 a)) := by
    pointwise [col]
    blk_ext
  rw [e, blk_p]
  exact congrArg (PV (B1 m c)) (congrArg₂ (ix3 (row (step t) r)) (Fin.ext (by show (0 * 128 + a.val) / 128 = 0; omega)) (Fin.ext (by show (0 * 128 + a.val) % 128 = a.val; omega)))
theorem ldw1 (a b : Fin 128) : View.ld (iblk m c 3 t) (Rect.unit (s := S4x128x128) ![1, 0, 0] ![1, 128, 128] inb_S4x128x128_S1x128x128_1_0_0) (ix3 0 a b) = B2 m c (ix3 1 a b) := by
  rw [← blk_w m c t]
  pointwise
  blk_ext
theorem lds1 (b : Fin 128) : View.ld (iblk m c 4 t) (Rect.unit (s := S1x512) ![0, 128] ![1, 128] inb_S1x512_S1x128_0_128) (ix2 0 b) = B3 m c (ix2 0 (col 1 b)) := by
  rw [← blk_s m c t 0]
  pointwise [col]
  blk_ext
theorem ldp1 (r : Fin 512) (a : Fin 128) : View.ld (iblk m c 2 t) (Rect.unit (s := S512x512) ![0, 128] ![512, 128] inb_S512x512_S512x128_0_128) (ix2 r a) = PV (B1 m c) (ix3 (row (step t) r) 1 a) := by
  have e : View.ld (iblk m c 2 t) (Rect.unit (s := S512x512) ![0, 128] ![512, 128] inb_S512x512_S512x128_0_128) (ix2 r a) = iblk m c 2 t (ix2 r (col 1 a)) := by
    pointwise [col]
    blk_ext
  rw [e, blk_p]
  exact congrArg (PV (B1 m c)) (congrArg₂ (ix3 (row (step t) r)) (Fin.ext (by show (1 * 128 + a.val) / 128 = 1; omega)) (Fin.ext (by show (1 * 128 + a.val) % 128 = a.val; omega)))
theorem ldw2 (a b : Fin 128) : View.ld (iblk m c 3 t) (Rect.unit (s := S4x128x128) ![2, 0, 0] ![1, 128, 128] inb_S4x128x128_S1x128x128_2_0_0) (ix3 0 a b) = B2 m c (ix3 2 a b) := by
  rw [← blk_w m c t]
  pointwise
  blk_ext
theorem lds2 (b : Fin 128) : View.ld (iblk m c 4 t) (Rect.unit (s := S1x512) ![0, 256] ![1, 128] inb_S1x512_S1x128_0_256) (ix2 0 b) = B3 m c (ix2 0 (col 2 b)) := by
  rw [← blk_s m c t 0]
  pointwise [col]
  blk_ext
theorem ldp2 (r : Fin 512) (a : Fin 128) : View.ld (iblk m c 2 t) (Rect.unit (s := S512x512) ![0, 256] ![512, 128] inb_S512x512_S512x128_0_256) (ix2 r a) = PV (B1 m c) (ix3 (row (step t) r) 2 a) := by
  have e : View.ld (iblk m c 2 t) (Rect.unit (s := S512x512) ![0, 256] ![512, 128] inb_S512x512_S512x128_0_256) (ix2 r a) = iblk m c 2 t (ix2 r (col 2 a)) := by
    pointwise [col]
    blk_ext
  rw [e, blk_p]
  exact congrArg (PV (B1 m c)) (congrArg₂ (ix3 (row (step t) r)) (Fin.ext (by show (2 * 128 + a.val) / 128 = 2; omega)) (Fin.ext (by show (2 * 128 + a.val) % 128 = a.val; omega)))
theorem ldw3 (a b : Fin 128) : View.ld (iblk m c 3 t) (Rect.unit (s := S4x128x128) ![3, 0, 0] ![1, 128, 128] inb_S4x128x128_S1x128x128_3_0_0) (ix3 0 a b) = B2 m c (ix3 3 a b) := by
  rw [← blk_w m c t]
  pointwise
  blk_ext
theorem lds3 (b : Fin 128) : View.ld (iblk m c 4 t) (Rect.unit (s := S1x512) ![0, 384] ![1, 128] inb_S1x512_S1x128_0_384) (ix2 0 b) = B3 m c (ix2 0 (col 3 b)) := by
  rw [← blk_s m c t 0]
  pointwise [col]
  blk_ext
theorem ldp3 (r : Fin 512) (a : Fin 128) : View.ld (iblk m c 2 t) (Rect.unit (s := S512x512) ![0, 384] ![512, 128] inb_S512x512_S512x128_0_384) (ix2 r a) = PV (B1 m c) (ix3 (row (step t) r) 3 a) := by
  have e : View.ld (iblk m c 2 t) (Rect.unit (s := S512x512) ![0, 384] ![512, 128] inb_S512x512_S512x128_0_384) (ix2 r a) = iblk m c 2 t (ix2 r (col 3 a)) := by
    pointwise [col]
    blk_ext
  rw [e, blk_p]
  exact congrArg (PV (B1 m c)) (congrArg₂ (ix3 (row (step t) r)) (Fin.ext (by show (3 * 128 + a.val) / 128 = 3; omega)) (Fin.ext (by show (3 * 128 + a.val) % 128 = a.val; omega)))

end loads

end Cert.Pool

end
-- ==== Proof.Pool.Rows.lean ====
/-
  The gradient of the pooling's argument, a block and the whole array.
-/
module

public import proofs.«01_k».proof.Proof.Pool.Point
public import Idealize.ShloMosaic.Lib.Pipeline.ReadBack

@[expose] public section

set_option maxRecDepth 16384

noncomputable section

namespace Cert.Pool

open Idealize.ShloMosaic Idealize.ShloMosaic.TcCoe Cert.PoolBwdIdeal Cert.PoolBwdIdeal.Gen

variable (m : (ℓ : Loc nD τ sig) → Buf (Elt Ideal) ℓ) (c : Dev nD)

theorem out0 (t : Fin cfg0.N) (r : Fin 512) (a : Fin 128) : k0_pay11 (F := Ideal) (k0_pay3 (grid0.coords t)) (k0_pay6 (View.ld (iblk m c 3 t) (Rect.unit (s := S4x128x128) ![0, 0, 0] ![1, 128, 128] inb_S4x128x128_S1x128x128_0_0_0))) (k0_pay9 (grid0.coords t) (iblk m c 0 t) (iblk m c 1 t) (View.ld (iblk m c 4 t) (Rect.unit (s := S1x512) ![0, 0] ![1, 128] inb_S1x512_S1x128_0_0))) (ix2 r a) =
    DU (B0 m c) (B2 m c) (B3 m c) 0 a (row (step t) r) := by
  rw [pay11_eq]
  exact du0 _ _ _ (ldw0 m c t) (lds0 m c t) (mm0 (grid0.coords t) (iblk m c 0 t) (iblk m c 1 t) _ _) r a

theorem out1 (t : Fin cfg0.N) (r : Fin 512) (a : Fin 128) : k0_pay17 (F := Ideal) (k0_pay2 (grid0.coords t) (iblk m c 0 t) (iblk m c 1 t)) (k0_pay3 (grid0.coords t)) (k0_pay12 (View.ld (iblk m c 3 t) (Rect.unit (s := S4x128x128) ![1, 0, 0] ![1, 128, 128] inb_S4x128x128_S1x128x128_1_0_0))) (View.ld (iblk m c 4 t) (Rect.unit (s := S1x512) ![0, 128] ![1, 128] inb_S1x512_S1x128_0_128)) (ix2 r a) =
    DU (B0 m c) (B2 m c) (B3 m c) 1 a (row (step t) r) := by
  rw [pay17_eq]
  exact du1 _ _ _ (ldw1 m c t) (lds1 m c t) (mm1 (xe m c t) _ _) r a

theorem out2 (t : Fin cfg0.N) (r : Fin 512) (a : Fin 128) : k0_pay26 (F := Ideal) (k0_pay24 (k0_pay2 (grid0.coords t) (iblk m c 0 t) (iblk m c 1 t)) (k0_pay3 (grid0.coords t)) (k0_pay18 (View.ld (iblk m c 3 t) (Rect.unit (s := S4x128x128) ![2, 0, 0] ![1, 128, 128] inb_S4x128x128_S1x128x128_2_0_0))) (View.ld (iblk m c 4 t) (Rect.unit (s := S1x512) ![0, 256] ![1, 128] inb_S1x512_S1x128_0_256))) (k0_pay25 (k0_pay2 (grid0.coords t) (iblk m c 0 t) (iblk m c 1 t)) (k0_pay18 (View.ld (iblk m c 3 t) (Rect.unit (s := S4x128x128) ![2, 0, 0] ![1, 128, 128] inb_S4x128x128_S1x128x128_2_0_0))) (View.ld (iblk m c 4 t) (Rect.unit (s := S1x512) ![0, 256] ![1, 128] inb_S1x512_S1x128_0_256))) (ix2 r a) =
    DU (B0 m c) (B2 m c) (B3 m c) 2 a (row (step t) r) := by
  rw [pay26_eq]
  exact du2 _ _ _ (ldw2 m c t) (lds2 m c t) (mm2 (xe m c t) _ _) r a

theorem out3 (t : Fin cfg0.N) (r : Fin 512) (a : Fin 128) : k0_pay1 (F := Ideal) (k0_pay32 (k0_pay2 (grid0.coords t) (iblk m c 0 t) (iblk m c 1 t)) (View.ld (iblk m c 3 t) (Rect.unit (s := S4x128x128) ![3, 0, 0] ![1, 128, 128] inb_S4x128x128_S1x128x128_3_0_0)) (View.ld (iblk m c 4 t) (Rect.unit (s := S1x512) ![0, 384] ![1, 128] inb_S1x512_S1x128_0_384))) (k0_pay33 (k0_pay3 (grid0.coords t))) (ix2 r a) =
    DU (B0 m c) (B2 m c) (B3 m c) 3 a (row (step t) r) := by
  rw [pay1_eq]
  exact du3 _ _ _ (ldw3 m c t) (lds3 m c t) (mm3 (xe m c t) _ _) r a

/-- One group's columns of a block. -/
theorem tile5 (t : Fin cfg0.N) (f : FVec Ideal S512x128 .bf16) (g : Fin 4)
    (hf : ∀ (r : Fin 512) (a : Fin 128), f (ix2 r a) = DU (B0 m c) (B2 m c) (B3 m c) g a (row (step t) r))
    (x : S512x128.Idx) (i : S512x512.Idx) (h0 : (i 0).val = (x 0).val) (h1 : (i 1).val = g.val * 128 + (x 1).val) :
    f x = DU (B0 m c) (B2 m c) (B3 m c) (gr (i 1)) (cl (i 1)) (row (step t) (i 0)) := by
  idx_vars x
  idx_vars i
  obtain rfl : i0 = x0 := Fin.ext h0
  obtain rfl : i1 = col g x1 := Fin.ext h1
  refine (hf _ _).trans ?_
  show _ = DU _ _ _ (gr (col g x1)) (cl (col g x1)) _
  rw [gr_col, cl_col]

theorem at5 (t : Fin cfg0.N) (r : Fin 512) (j : Fin 512) : (outsAt0 m c t.val t.isLt).1 (ix2 r j) =
    DU (B0 m c) (B2 m c) (B3 m c) (gr j) (cl j) (row (step t) r) := by
  by_cases h0 : t.val % 16 = 0
  · rw [outsAt0_A m c t h0]
    frame_out
    canon_tiles x hx
    · exact tile5 m c t _ 3 (out3 m c t) x (ix2 r j) (by omega) (by omega)
    · exact tile5 m c t _ 2 (out2 m c t) x (ix2 r j) (by omega) (by omega)
    · exact tile5 m c t _ 1 (out1 m c t) x (ix2 r j) (by omega) (by omega)
    · exact tile5 m c t _ 0 (out0 m c t) x (ix2 r j) (by omega) (by omega)
  · rw [outsAt0_B m c t h0]
    frame_out
    canon_tiles x hx
    · exact tile5 m c t _ 3 (out3 m c t) x (ix2 r j) (by omega) (by omega)
    · exact tile5 m c t _ 2 (out2 m c t) x (ix2 r j) (by omega) (by omega)
    · exact tile5 m c t _ 1 (out1 m c t) x (ix2 r j) (by omega) (by omega)
    · exact tile5 m c t _ 0 (out0 m c t) x (ix2 r j) (by omega) (by omega)

theorem final5 (r : Fin 8192) (j : Fin 512) : (dats m 0 c).arrAt 5 cfg0.N (ix2 r j) =
    DU (B0 m c) (B2 m c) (B3 m c) (gr j) (cl j) r := by
  have e : (dats m 0 c).arrAt 5 cfg0.N = (fun i : S8192x512.Idx => DU (B0 m c) (B2 m c) (B3 m c) (gr (i 1)) (cl (i 1)) (i 0)) := by
    refine (dats m 0 c).arrAt_eq_of_covers 5 _ (by decide +kernel) fun t hf y => ?_
    blk_simp
    rw [after0_5]
    idx_vars y
    rw [at5]
    have e1 : ((View.whole main_v63_0).slice (win0_5.rect t)).emb (ix2 y0 y1) 1 = y1 := Fin.ext (by
      blk_simp [idx t]
      try omega)
    have e0 : ((View.whole main_v63_0).slice (win0_5.rect t)).emb (ix2 y0 y1) 0 = row (step t) y0 := Fin.ext (by
      blk_simp [row, step, idx t]
      try omega)
    exact (congrArg₂ (fun a b => DU (B0 m c) (B2 m c) (B3 m c) (gr a) (cl a) b) e1 e0).symm
  rw [e]
  rfl

end Cert.Pool

end
-- ==== Proof.Pool.Sums.lean ====
/-
  What is added up over the grid's 16 points: the gradients of the gains and of the matrices, each after the last point a sum
  over all 8192 rows.
-/
module

public import proofs.«01_k».proof.Proof.Pool.Point
public import Idealize.ShloMosaic.Lib.Pipeline.ReadBack

@[expose] public section

set_option maxRecDepth 16384

noncomputable section

namespace Cert.Pool

open Idealize.ShloMosaic Idealize.ShloMosaic.TcCoe Cert.PoolBwdIdeal Cert.PoolBwdIdeal.Gen

variable (m : (ℓ : Loc nD τ sig) → Buf (Elt Ideal) ℓ) (c : Dev nD)

theorem addG0 (t : Fin cfg0.N) (a1 : FVec Ideal S1x128 .f32) (z : Fin 1) (d : Fin 128) : k0_pay8 (F := Ideal) (grid0.coords t) (iblk m c 0 t) (iblk m c 1 t) (View.ld (iblk m c 3 t) (Rect.unit (s := S4x128x128) ![0, 0, 0] ![1, 128, 128] inb_S4x128x128_S1x128x128_0_0_0)) (View.ld (iblk m c 2 t) (Rect.unit (s := S512x512) ![0, 0] ![512, 128] inb_S512x512_S512x128_0_0)) a1 (ix2 z d) =
    a1 (ix2 z d) + partG m c t 0 d :=
  (pay8_at (grid0.coords t) (iblk m c 0 t) (iblk m c 1 t) _ _ a1 z d).trans (congrArg (_ + ·) (bg_eq _ _ 0 (ldw0 m c t) (ldp0 m c t) d))
theorem addW0 (t : Fin cfg0.N) (a3 : FVec Ideal S1x128x128 .f32) (z : Fin 1) (b d : Fin 128) : k0_pay10 (F := Ideal) (k0_pay7 (View.ld (iblk m c 2 t) (Rect.unit (s := S512x512) ![0, 0] ![512, 128] inb_S512x512_S512x128_0_0))) (k0_pay9 (grid0.coords t) (iblk m c 0 t) (iblk m c 1 t) (View.ld (iblk m c 4 t) (Rect.unit (s := S1x512) ![0, 0] ![1, 128] inb_S1x512_S1x128_0_0))) a3 (ix3 z b d) =
    a3 (ix3 z b d) + partW m c t 0 b d :=
  (pay10_at (grid0.coords t) (iblk m c 0 t) (iblk m c 1 t) _ _ a3 z b d).trans (congrArg (_ + ·) (bw_eq _ _ 0 (lds0 m c t) (ldp0 m c t) b d))

theorem addG1 (t : Fin cfg0.N) (a1 : FVec Ideal S1x128 .f32) (z : Fin 1) (d : Fin 128) : k0_pay14 (F := Ideal) (k0_pay2 (grid0.coords t) (iblk m c 0 t) (iblk m c 1 t)) (View.ld (iblk m c 3 t) (Rect.unit (s := S4x128x128) ![1, 0, 0] ![1, 128, 128] inb_S4x128x128_S1x128x128_1_0_0)) (View.ld (iblk m c 2 t) (Rect.unit (s := S512x512) ![0, 128] ![512, 128] inb_S512x512_S512x128_0_128)) a1 (ix2 z d) =
    a1 (ix2 z d) + partG m c t 1 d :=
  (pay14_at (xe m c t) _ _ a1 z d).trans (congrArg (_ + ·) (bg_eq _ _ 1 (ldw1 m c t) (ldp1 m c t) d))
theorem addW1 (t : Fin cfg0.N) (a3 : FVec Ideal S1x128x128 .f32) (z : Fin 1) (b d : Fin 128) : k0_pay16 (F := Ideal) (k0_pay2 (grid0.coords t) (iblk m c 0 t) (iblk m c 1 t)) (k0_pay13 (View.ld (iblk m c 2 t) (Rect.unit (s := S512x512) ![0, 128] ![512, 128] inb_S512x512_S512x128_0_128))) (View.ld (iblk m c 4 t) (Rect.unit (s := S1x512) ![0, 128] ![1, 128] inb_S1x512_S1x128_0_128)) a3 (ix3 z b d) =
    a3 (ix3 z b d) + partW m c t 1 b d :=
  (pay16_at (xe m c t) _ _ a3 z b d).trans (congrArg (_ + ·) (bw_eq _ _ 1 (lds1 m c t) (ldp1 m c t) b d))

theorem addG2 (t : Fin cfg0.N) (a1 : FVec Ideal S1x128 .f32) (z : Fin 1) (d : Fin 128) : k0_pay20 (F := Ideal) (k0_pay2 (grid0.coords t) (iblk m c 0 t) (iblk m c 1 t)) (k0_pay18 (View.ld (iblk m c 3 t) (Rect.unit (s := S4x128x128) ![2, 0, 0] ![1, 128, 128] inb_S4x128x128_S1x128x128_2_0_0))) (k0_pay19 (View.ld (iblk m c 2 t) (Rect.unit (s := S512x512) ![0, 256] ![512, 128] inb_S512x512_S512x128_0_256))) a1 (ix2 z d) =
    a1 (ix2 z d) + partG m c t 2 d :=
  (pay20_at (xe m c t) _ _ a1 z d).trans (congrArg (_ + ·) (bg_eq _ _ 2 (ldw2 m c t) (ldp2 m c t) d))
theorem addW2 (t : Fin cfg0.N) (a3 : FVec Ideal S1x128x128 .f32) (z : Fin 1) (b d : Fin 128) : k0_pay22 (F := Ideal) (k0_pay2 (grid0.coords t) (iblk m c 0 t) (iblk m c 1 t)) (k0_pay19 (View.ld (iblk m c 2 t) (Rect.unit (s := S512x512) ![0, 256] ![512, 128] inb_S512x512_S512x128_0_256))) (View.ld (iblk m c 4 t) (Rect.unit (s := S1x512) ![0, 256] ![1, 128] inb_S1x512_S1x128_0_256)) a3 (ix3 z b d) =
    a3 (ix3 z b d) + partW m c t 2 b d :=
  (pay22_at (xe m c t) _ _ a3 z b d).trans (congrArg (_ + ·) (bw_eq _ _ 2 (lds2 m c t) (ldp2 m c t) b d))

theorem addG3 (t : Fin cfg0.N) (a1 : FVec Ideal S1x128 .f32) (z : Fin 1) (d : Fin 128) : k0_pay29 (F := Ideal) (k0_pay2 (grid0.coords t) (iblk m c 0 t) (iblk m c 1 t)) (View.ld (iblk m c 3 t) (Rect.unit (s := S4x128x128) ![3, 0, 0] ![1, 128, 128] inb_S4x128x128_S1x128x128_3_0_0)) (View.ld (iblk m c 2 t) (Rect.unit (s := S512x512) ![0, 384] ![512, 128] inb_S512x512_S512x128_0_384)) a1 (ix2 z d) =
    a1 (ix2 z d) + partG m c t 3 d :=
  (pay29_at (xe m c t) _ _ a1 z d).trans (congrArg (_ + ·) (bg_eq _ _ 3 (ldw3 m c t) (ldp3 m c t) d))
theorem addW3 (t : Fin cfg0.N) (a3 : FVec Ideal S1x128x128 .f32) (z : Fin 1) (b d : Fin 128) : k0_pay31 (F := Ideal) (k0_pay2 (grid0.coords t) (iblk m c 0 t) (iblk m c 1 t)) (View.ld (iblk m c 2 t) (Rect.unit (s := S512x512) ![0, 384] ![512, 128] inb_S512x512_S512x128_0_384)) (View.ld (iblk m c 4 t) (Rect.unit (s := S1x512) ![0, 384] ![1, 128] inb_S1x512_S1x128_0_384)) a3 (ix3 z b d) =
    a3 (ix3 z b d) + partW m c t 3 b d :=
  (pay31_at (xe m c t) _ _ a3 z b d).trans (congrArg (_ + ·) (bw_eq _ _ 3 (lds3 m c t) (ldp3 m c t) b d))

/-- What one point adds, by entry. -/
def addG (t : Fin cfg0.N) (i : S1x512.Idx) : EReal := partG m c t (gr (i 1)) (cl (i 1))
def addW (t : Fin cfg0.N) (i : S4x128x128.Idx) : EReal := partW m c t (i 0) (i 1) (i 2)

/-- One group's columns: what was there plus what the point adds. -/
theorem tile6 (t : Fin cfg0.N) (f acc : FVec Ideal S1x128x128 .f32) (g : Fin 4)
    (hf : ∀ (z : Fin 1) (b d : Fin 128), f (ix3 z b d) = acc (ix3 z b d) + partW m c t g b d)
    (x : S1x128x128.Idx) (i : S4x128x128.Idx) (h0 : (i 0).val = g.val) (h1 : (i 1).val = (x 1).val) (h2 : (i 2).val = (x 2).val) :
    f x = acc x + addW m c t i := by
  idx_vars x
  idx_vars i
  obtain rfl : i0 = g := Fin.ext h0
  obtain rfl : i1 = x1 := Fin.ext h1
  obtain rfl : i2 = x2 := Fin.ext h2
  exact hf _ _ _

theorem tile7 (t : Fin cfg0.N) (f acc : FVec Ideal S1x128 .f32) (g : Fin 4)
    (hf : ∀ (z : Fin 1) (d : Fin 128), f (ix2 z d) = acc (ix2 z d) + partG m c t g d)
    (x : S1x128.Idx) (i : S1x512.Idx) (h1 : (i 1).val = g.val * 128 + (x 1).val) :
    f x = acc x + addG m c t i := by
  idx_vars x
  idx_vars i
  obtain rfl : i1 = col g x1 := Fin.ext h1
  refine (hf _ _).trans ?_
  show _ = _ + partG m c t (gr (col g x1)) (cl (col g x1))
  rw [gr_col, cl_col]

theorem accW (t : Fin cfg0.N) (ht : t.val + 1 = cfg0.N) (i : S4x128x128.Idx) : (outsAt0 m c t.val t.isLt).2.1 i = ∑ k : Fin cfg0.N, addW m c k i := by
  rw [Pipeline.eq_sum_fin_of_reset_step_apply_last (fun n h => (outsAt0 m c n h).2.1) 16 (fun _ => 0) (addW m c)
    (fun t h i => by
      rw [outsAt0_A m c t h]
      frame_out
      simp (disch := decide) only [↓ View.readCov_skip, ↓ View.readCov_cons_toLoadRect, ↓ View.readCov_fill]
      refine View.canon_append_of_piecesOf (Val := Elt Ideal) (s := S4x128x128) (e := .f32) (fun i => 0 + addW m c t i) [_] [_, _, _, _] ⟨fun x => ?_, fun x => ?_, fun x => ?_, fun x => ?_, trivial⟩ i ?_
      · refine (tile6 m c t _ _ 3 (addW3 m c t _) x ((Rect.unit (s := S4x128x128) ![3, 0, 0] ![1, 128, 128] inb_S4x128x128_S1x128x128_3_0_0).emb x) ?_ ?_ ?_).trans ?_
        · idx_vars x
          blk_simp
          try omega
        · blk_simp
        · blk_simp
        · show k0_pay4 (F := Ideal) _ + _ = _
          rw [pay4_at]
      · refine (tile6 m c t _ _ 2 (addW2 m c t _) x ((Rect.unit (s := S4x128x128) ![2, 0, 0] ![1, 128, 128] inb_S4x128x128_S1x128x128_2_0_0).emb x) ?_ ?_ ?_).trans ?_
        · idx_vars x
          blk_simp
          try omega
        · blk_simp
        · blk_simp
        · show k0_pay4 (F := Ideal) _ + _ = _
          rw [pay4_at]
      · refine (tile6 m c t _ _ 1 (addW1 m c t _) x ((Rect.unit (s := S4x128x128) ![1, 0, 0] ![1, 128, 128] inb_S4x128x128_S1x128x128_1_0_0).emb x) ?_ ?_ ?_).trans ?_
        · idx_vars x
          blk_simp
          try omega
        · blk_simp
        · blk_simp
        · show k0_pay4 (F := Ideal) _ + _ = _
          rw [pay4_at]
      · refine (tile6 m c t _ _ 0 (addW0 m c t _) x ((Rect.unit (s := S4x128x128) ![0, 0, 0] ![1, 128, 128] inb_S4x128x128_S1x128x128_0_0_0).emb x) ?_ ?_ ?_).trans ?_
        · idx_vars x
          blk_simp
          try omega
        · blk_simp
        · blk_simp
        · show k0_pay4 (F := Ideal) _ + _ = _
          rw [pay4_at]
      · exact View.cover_of_tiledBy _ ![1, 128, 128] (by sl_kernel_rfl) i)
    (fun t h i => by
      rw [outsAt0_B m c t h]
      frame_out
      idx_vars i
      canon_tiles x hx
      · refine (tile6 m c t _ _ 3 (addW3 m c t _) x (ix3 i0 i1 i2) (by omega) hx1 hx2).trans (congrArg (· + _) ?_)
        idx_vars x
        pointwise
        blk_ext
      · refine (tile6 m c t _ _ 2 (addW2 m c t _) x (ix3 i0 i1 i2) (by omega) hx1 hx2).trans (congrArg (· + _) ?_)
        idx_vars x
        pointwise
        blk_ext
      · refine (tile6 m c t _ _ 1 (addW1 m c t _) x (ix3 i0 i1 i2) (by omega) hx1 hx2).trans (congrArg (· + _) ?_)
        idx_vars x
        pointwise
        blk_ext
      · refine (tile6 m c t _ _ 0 (addW0 m c t _) x (ix3 i0 i1 i2) (by omega) hx1 hx2).trans (congrArg (· + _) ?_)
        idx_vars x
        pointwise
        blk_ext)
    (le_of_eq N_0) t ht i, zero_add]

theorem accG (t : Fin cfg0.N) (ht : t.val + 1 = cfg0.N) (i : S1x512.Idx) : (outsAt0 m c t.val t.isLt).2.2 i = ∑ k : Fin cfg0.N, addG m c k i := by
  rw [Pipeline.eq_sum_fin_of_reset_step_apply_last (fun n h => (outsAt0 m c n h).2.2) 16 (fun _ => 0) (addG m c)
    (fun t h i => by
      rw [outsAt0_A m c t h]
      frame_out
      simp (disch := decide) only [↓ View.readCov_skip, ↓ View.readCov_cons_toLoadRect, ↓ View.readCov_fill]
      refine View.canon_append_of_piecesOf (Val := Elt Ideal) (s := S1x512) (e := .f32) (fun i => 0 + addG m c t i) [_] [_, _, _, _] ⟨fun x => ?_, fun x => ?_, fun x => ?_, fun x => ?_, trivial⟩ i ?_
      · refine (tile7 m c t _ _ 3 (addG3 m c t _) x ((Rect.unit (s := S1x512) ![0, 384] ![1, 128] inb_S1x512_S1x128_0_384).emb x) ?_).trans ?_
        · idx_vars x
          blk_simp
          try omega
        · show k0_pay5 (F := Ideal) _ + _ = _
          rw [pay5_at]
      · refine (tile7 m c t _ _ 2 (addG2 m c t _) x ((Rect.unit (s := S1x512) ![0, 256] ![1, 128] inb_S1x512_S1x128_0_256).emb x) ?_).trans ?_
        · idx_vars x
          blk_simp
          try omega
        · show k0_pay5 (F := Ideal) _ + _ = _
          rw [pay5_at]
      · refine (tile7 m c t _ _ 1 (addG1 m c t _) x ((Rect.unit (s := S1x512) ![0, 128] ![1, 128] inb_S1x512_S1x128_0_128).emb x) ?_).trans ?_
        · idx_vars x
          blk_simp
          try omega
        · show k0_pay5 (F := Ideal) _ + _ = _
          rw [pay5_at]
      · refine (tile7 m c t _ _ 0 (addG0 m c t _) x ((Rect.unit (s := S1x512) ![0, 0] ![1, 128] inb_S1x512_S1x128_0_0).emb x) ?_).trans ?_
        · idx_vars x
          blk_simp
          try omega
        · show k0_pay5 (F := Ideal) _ + _ = _
          rw [pay5_at]
      · exact View.cover_of_tiledBy _ ![1, 128] (by sl_kernel_rfl) i)
    (fun t h i => by
      rw [outsAt0_B m c t h]
      frame_out
      idx_vars i
      canon_tiles x hx
      · refine (tile7 m c t _ _ 3 (addG3 m c t _) x (ix2 i0 i1) (by omega)).trans (congrArg (· + _) ?_)
        idx_vars x
        pointwise
        blk_ext
      · refine (tile7 m c t _ _ 2 (addG2 m c t _) x (ix2 i0 i1) (by omega)).trans (congrArg (· + _) ?_)
        idx_vars x
        pointwise
        blk_ext
      · refine (tile7 m c t _ _ 1 (addG1 m c t _) x (ix2 i0 i1) (by omega)).trans (congrArg (· + _) ?_)
        idx_vars x
        pointwise
        blk_ext
      · refine (tile7 m c t _ _ 0 (addG0 m c t _) x (ix2 i0 i1) (by omega)).trans (congrArg (· + _) ?_)
        idx_vars x
        pointwise
        blk_ext)
    (le_of_eq N_0) t ht i, zero_add]

/-- After the last point. -/
theorem finalW (g : Fin 4) (b d : Fin 128) : (dats m 0 c).arrAt 6 cfg0.N (ix3 g b d) = DW (PV (B1 m c)) (B0 m c) (B3 m c) g b d := by
  have e : (dats m 0 c).arrAt 6 cfg0.N = (fun i : S4x128x128.Idx => ∑ k : Fin cfg0.N, addW m c k i) := by
    refine (dats m 0 c).arrAt_eq_of_covers 6 _ (by decide +kernel) fun t hf y => ?_
    have h : t.val % 16 = 15 := (flush0_6 t).mp hf
    have hl := lt16 t
    have ht : t.val + 1 = cfg0.N := by rw [show cfg0.N = 16 from N_0]; omega
    blk_simp
    rw [after0_6]
    rw [accW m c t ht]
    refine congrArg (fun i => ∑ k : Fin cfg0.N, addW m c k i) ?_
    idx_vars y
    blk_ext [idx t]
  rw [e]
  exact sum_rows fun l => PV (B1 m c) (ix3 l g b) * (B0 m c (ix2 l (col g d)) * B3 m c (ix2 0 (col g d)))

theorem finalG (z : Fin 1) (j : Fin 512) : (dats m 0 c).arrAt 7 cfg0.N (ix2 z j) =
    DG (PV (B1 m c)) (B0 m c) (B2 m c) (gr j) (cl j) := by
  have e : (dats m 0 c).arrAt 7 cfg0.N = (fun i : S1x512.Idx => ∑ k : Fin cfg0.N, addG m c k i) := by
    refine (dats m 0 c).arrAt_eq_of_covers 7 _ (by decide +kernel) fun t hf y => ?_
    have h : t.val % 16 = 15 := (flush0_7 t).mp hf
    have hl := lt16 t
    have ht : t.val + 1 = cfg0.N := by rw [show cfg0.N = 16 from N_0]; omega
    blk_simp
    rw [after0_7]
    rw [accG m c t ht]
    refine congrArg (fun i => ∑ k : Fin cfg0.N, addG m c k i) ?_
    idx_vars y
    blk_ext [idx t]
  rw [e]
  exact sum_rows fun l => B0 m c (ix2 l (col (gr j) (cl j))) *
    ∑ b : Fin 128, PV (B1 m c) (ix3 l (gr j) b) * B2 m c (ix3 (gr j) b (cl j))

end Cert.Pool

end
-- ==== Proof.Pool.Finite.lean ====
/-
  What the precondition says: every entry of the arguments that it names is a real number.
-/
module

public import proofs.«01_k».proof.Proof.Pool.Spec
public import proofs.«01_k».proof.Proof.Gen.Pre_finite

@[expose] public section

set_option maxRecDepth 16384

noncomputable section

namespace Cert.Pool

open Idealize.ShloMosaic Cert.Pre_finite

/-- An extended real whose size is below another is a real number. -/
theorem real_of_lt (x y : EReal) (h : BitVec.ofBool (decide (max x (-x) < y)) = 1#1) : ∃ z : ℝ, x = z := by
  have h1 : max x (-x) < y := by
    by_contra hn
    rw [decide_eq_false hn] at h
    exact absurd h (by decide)
  have h2 : x < ⊤ := lt_of_lt_of_le (lt_of_le_of_lt (le_max_left _ _) h1) le_top
  have h3 : -x < ⊤ := lt_of_lt_of_le (lt_of_le_of_lt (le_max_right _ _) h1) le_top
  refine ⟨x.toReal, (EReal.coe_toReal h2.ne fun hb => ?_).symm⟩
  rw [hb, EReal.neg_bot] at h3
  exact lt_irrefl _ h3

variable (A0 A1 : FVec Ideal Rows .f32) (A2 : FVec Ideal Wt .f32) (A3 : FVec Ideal Gain .f32)

theorem finite_at (r : Fin 8321) (j : Fin 512) (hp : letI := Cert.Pre_finite.Gen.facts; fn (F := Ideal) A0 A1 A2 A3 (ix2 r j) = 1#1) :
    ∃ z : ℝ, (if h : r.val < 8192 then A0 (ix2 ⟨r.val, h⟩ j) else if h : r.val - 8192 < 128 then
      A2 (ix3 ⟨(r.val - 8192) / 32, by omega⟩ ⟨(r.val - 8192) % 32 * 4 + j.val / 128, by omega⟩ ⟨j.val % 128, by omega⟩)
      else A3 (ix2 ⟨r.val - 8192 - 128, by omega⟩ j)) = z := by
  letI := Cert.Pre_finite.Gen.facts
  revert hp
  pointwise [fn]
  exact fun h => real_of_lt _ _ h

theorem real_of_pre (hp : letI := Cert.Pre_finite.Gen.facts; fn (F := Ideal) A0 A1 A2 A3 = fun _ => 1#1) : Real3 A0 A2 A3 := by
  refine ⟨fun i => ?_, fun i => ?_, fun i => ?_⟩
  · idx_vars i
    have h0 : i0.val < 8192 := i0.isLt
    have h := finite_at A0 A1 A2 A3 ⟨i0.val, by omega⟩ i1 (congrFun hp _)
    rw [dif_pos h0] at h
    exact h
  · idx_vars i
    have h0 : i0.val < 4 := i0.isLt
    have h1 : i1.val < 128 := i1.isLt
    have h2 : i2.val < 128 := i2.isLt
    have h := finite_at A0 A1 A2 A3 ⟨8192 + (i0.val * 32 + i1.val / 4), by omega⟩ ⟨i1.val % 4 * 128 + i2.val, by omega⟩ (congrFun hp _)
    rw [dif_neg (by show ¬ 8192 + (i0.val * 32 + i1.val / 4) < 8192; omega),
      dif_pos (by show 8192 + (i0.val * 32 + i1.val / 4) - 8192 < 128; omega)] at h
    obtain ⟨z, hz⟩ := h
    refine ⟨z, Eq.trans (congrArg A2 ?_) hz⟩
    refine (congr (congrArg₂ ix3 (Fin.ext ?_) (Fin.ext ?_)) (Fin.ext ?_))
    · show i0.val = (8192 + (i0.val * 32 + i1.val / 4) - 8192) / 32
      omega
    · show i1.val = (8192 + (i0.val * 32 + i1.val / 4) - 8192) % 32 * 4 + (i1.val % 4 * 128 + i2.val) / 128
      omega
    · show i2.val = (i1.val % 4 * 128 + i2.val) % 128
      omega
  · idx_vars i
    have h0 : i0.val < 1 := i0.isLt
    have h := finite_at A0 A1 A2 A3 ⟨8320 + i0.val, by omega⟩ i1 (congrFun hp _)
    rw [dif_neg (by show ¬ 8320 + i0.val < 8192; omega), dif_neg (by show ¬ 8320 + i0.val - 8192 < 128; omega)] at h
    obtain ⟨z, hz⟩ := h
    exact ⟨z, Eq.trans (congrArg (fun k => A3 (ix2 k i1)) (Subsingleton.elim (α := Fin 1) _ _)) hz⟩

end Cert.Pool

end
-- ==== Proof.Pool.Claims.lean ====
/-
  The gradient of the multiscale pooling: the reference's frames, and that both programs end with the same arrays.
-/
module

public import proofs.«01_k».proof.Defs
public import proofs.«01_k».proof.Proof.Pool.Rows
public import proofs.«01_k».proof.Proof.Pool.Sums
public import proofs.«01_k».proof.Proof.Pool.Ref
public import proofs.«01_k».proof.Proof.Pool.Finite
public import proofs.«01_k».proof.Proof.Gen.PoolBwdIdeal.Value
public import proofs.«01_k».proof.Proof.Gen.PoolRefIdeal
public import Idealize.ShloMosaic.Lib.Quiescent

@[expose] public section

set_option maxRecDepth 16384

noncomputable section

namespace Cert.Pool

open Idealize.ShloMosaic Idealize.ShloMosaic.TcCoe Idealize.SL.Sem

/-- The reference runs, its arguments are unchanged and its counters end at zero: it has none. -/
theorem frame_ref : Cert.quiescent_PoolRefIdeal (hPoolRefIdeal := Cert.PoolRefIdeal.Gen.facts) := fun m ρ _ =>
  (θ_run (Cert.PoolRefIdeal.defs (F := Ideal)) _ _).mono
    (fun r h => ⟨fun c => (h c).2.2.2, Idealize.ShloMosaic.sem_eq_zero_of_no_sems (by decide) r.2⟩)
    (Cert.PoolRefIdeal.Value.run (F := Ideal) m ρ)

section
variable (m : (ℓ : Loc Cert.PoolBwdIdeal.nD Cert.PoolBwdIdeal.τ Cert.PoolBwdIdeal.sig) → Buf (Elt Ideal) ℓ) (c : Dev Cert.PoolBwdIdeal.nD)
open Cert.PoolRefIdeal.Read Cert.PoolBwdIdeal Cert.PoolBwdIdeal.Gen

/-! The arrays the kernel leaves are the reference's, of the same arguments. -/

theorem eq5 (h : Real3 (B0 m c) (B2 m c) (B3 m c)) : (dats m 0 c).arrAt 5 cfg0.N = val_main_v128 (F := Ideal) (B0 m c) (B2 m c) (B3 m c) := by
  funext i
  idx_vars i
  refine (final5 m c i0 i1).trans ((ref_du _ _ _ h (gr i1) i0 (cl i1)).symm.trans ?_)
  rw [col_gr]

theorem eq6 : (dats m 0 c).arrAt 6 cfg0.N = val_main_v77 (F := Ideal) (B0 m c) (B1 m c) (B3 m c) := by
  funext i
  idx_vars i
  exact (finalW m c i0 i1 i2).trans (ref_dw _ _ _ i0 i1 i2).symm

theorem eq7 : (dats m 0 c).arrAt 7 cfg0.N = val_main_v69 (F := Ideal) (B0 m c) (B1 m c) (B2 m c) := by
  funext i
  idx_vars i
  refine (finalG m c i0 i1).trans ((ref_dg _ _ _ i0 (gr i1) (cl i1)).symm.trans ?_)
  rw [col_gr]

end

/-- From equal arguments that are real numbers both programs end with the same three arrays. -/
theorem algebraic : Cert.algebraic_PoolBwdIdeal_PoolRefIdeal_pre_finite (hPoolBwdIdeal := Cert.PoolBwdIdeal.Gen.facts)
    (hPoolRefIdeal := Cert.PoolRefIdeal.Gen.facts) (hPre_finite := Cert.Pre_finite.Gen.facts) := by
  intro m g m' g' hp ha
  refine ⟨_, _, _, Cert.PoolBwdIdeal.Value.run_blocks (F := Ideal) m g, ?_⟩
  refine (θ_run (Cert.PoolRefIdeal.defs (F := Ideal)) _ _).mono (fun r h c => ?_) (Cert.PoolRefIdeal.Value.run (F := Ideal) m' g')
  obtain ⟨h0, h1, h2, hk⟩ := h c
  obtain ⟨a0, a1, a2, a3⟩ := ha c
  rw [Cert.PoolRefIdeal.Read.val_main_v128_eq, a0, a2, a3] at h0
  rw [Cert.PoolRefIdeal.Read.val_main_v77_eq, a0, a1, a3] at h1
  rw [Cert.PoolRefIdeal.Read.val_main_v69_eq, a0, a1, a2] at h2
  exact ⟨h0.trans (eq5 m c (real_of_pre _ _ _ _ (hp c))).symm, h1.trans (eq6 m c).symm, h2.trans (eq7 m c).symm, hk⟩

end Cert.Pool

end
-- ==== Proof.Adam.Spec.lean ====
/-
  The optimiser's step, element by element: what both programs are shown to compute, for every parameter.
-/
module

public import Idealize.ShloMosaic.Lib.Pointwise
public import Idealize.ShloMosaic.PureOps.Ideal

@[expose] public section

noncomputable section

namespace Cert.Adam

open Idealize.ShloMosaic

/-- A literal of the programs. -/
abbrev lit (b : BitVec 32) : EReal := Ideal.ofBits .f32 b

/-- The eight devices' parts of one layer's gradient, summed. -/
def total {R C : Nat} {e : FTy} (A : FVec Ideal ⟨3, ![8, R, C]⟩ e) (i : Fin R) (j : Fin C) : EReal := ∑ d : Fin 8, A (ix3 d i j)

/-- The gradient of layer `l`. -/
def grad {R C : Nat} {e : FTy} (A0 A1 : FVec Ideal ⟨3, ![8, R, C]⟩ e) (l : Fin 2) (i : Fin R) (j : Fin C) : EReal :=
  if l.val = 0 then total A0 i j else total A1 i j

/-- The new first moment, from the old one and the gradient. -/
def nm (m g : EReal) : EReal := lit 0x3F666666#32 * m + lit 0x3DCCCCCD#32 * g

/-- The new second moment. -/
def nv (v g : EReal) : EReal := lit 0x3F7FBE77#32 * v + lit 0x3A83126F#32 * (g * g)

/-- The change of the parameter `w`, from the old moments and the gradient. -/
def delta (w m v g : EReal) : EReal :=
  lit 0xBA83126F#32 * (Ideal.div (Ideal.div (nm m g) (lit 0x3F26BD02#32)) (Ideal.sqrt (Ideal.div (nv v g) (lit 0x3C231ACC#32)) + lit 0x322BCC77#32) +
    lit 0x3C23D70A#32 * w)

end Cert.Adam

end
-- ==== Proof.AdamIn.Body.lean ====
/-
  The optimiser's step of w_in: what the kernel's body computes from one block, payload by payload, read at an index.
-/
module

public import proofs.«01_k».proof.Proof.Adam.Spec
public import proofs.«01_k».proof.Proof.Gen.AdamInIdeal.Frame
public import Idealize.ShloMosaic.Lib.Pipeline.ValueKit
public import Idealize.ShloMosaic.Lib.Pipeline.ReadBack

@[expose] public section

set_option maxRecDepth 16384

noncomputable section

namespace Cert.AIn

open Idealize.ShloMosaic Cert.AdamInIdeal Cert.AdamInIdeal.Gen Cert.Adam

variable (i : grid0.Coords) (x0 x1 : FVec Ideal S8x256x512 .bf16) (x2 x3 x4 : FVec Ideal S1x256x512 .f32)

/-- The block's gradient: the sum of one of the two windows, by the point's layer. -/
def bg (r : Fin 256) (q : Fin 512) : EReal :=
  if Scalar.cmpi .eq (BitVec.ofNat 32 (i 0).val) 0#32 = 1#1 then total x0 r q else total x1 r q

theorem grad_at (r : Fin 256) (q : Fin 512) : k0_pay10 (F := Ideal) i x0 x1 x2 x3 x4 (ix2 r q) = bg i x0 x1 r q := by
  unfold bg total
  rw [Fin.sum_univ_eight, Fin.sum_univ_eight]
  pointwise [k0_pay10, k0_pay4, k0_pay3]
  rfl

theorem out5 (r : Fin 256) (q : Fin 512) : out0_5 (F := Ideal) i x0 x1 x2 x3 x4 (ix3 0 r q) = bg i x0 x1 r q := by
  rw [← grad_at i x0 x1 x2 x3 x4]
  frame_out
  pointwise [k0_pay8]

theorem out6 (r : Fin 256) (q : Fin 512) : out0_6 (F := Ideal) i x0 x1 x2 x3 x4 (ix3 0 r q) = delta (x2 (ix3 0 r q)) (x3 (ix3 0 r q)) (x4 (ix3 0 r q)) (bg i x0 x1 r q) := by
  rw [← grad_at i x0 x1 x2 x3 x4]
  frame_out
  pointwise [k0_pay9, k0_pay5, k0_pay6, k0_pay7, delta, nm, nv]

theorem out7 (r : Fin 256) (q : Fin 512) : out0_7 (F := Ideal) i x0 x1 x2 x3 x4 (ix3 0 r q) = nm (x3 (ix3 0 r q)) (bg i x0 x1 r q) := by
  rw [← grad_at i x0 x1 x2 x3 x4]
  frame_out
  pointwise [k0_pay1, k0_pay6, nm]

theorem out8 (r : Fin 256) (q : Fin 512) : out0_8 (F := Ideal) i x0 x1 x2 x3 x4 (ix3 0 r q) = nv (x4 (ix3 0 r q)) (bg i x0 x1 r q) := by
  rw [← grad_at i x0 x1 x2 x3 x4]
  frame_out
  pointwise [k0_pay2, k0_pay7, nv]

end Cert.AIn

end
-- ==== Proof.AdamIn.Point.lean ====
/-
  The blocks a grid point reads and writes, as places in the arrays, and the arrays the kernel leaves.
-/
module

public import proofs.«01_k».proof.Proof.AdamIn.Body

@[expose] public section

set_option maxRecDepth 16384

noncomputable section

namespace Cert.AIn

open Idealize.ShloMosaic Idealize.ShloMosaic.TcCoe Cert.AdamInIdeal Cert.AdamInIdeal.Gen Cert.Adam

/-- Where each window's block lies at a point: the layers one after the other, a layer by its rows. A layer's parts are fetched
    at the points of that layer. -/
theorem idx : ∀ t : Fin cfg0.N, (t.val / 4 = 0 → win0_0.index t = ![0, t.val % 4, 0]) ∧ (t.val / 4 ≠ 0 → win0_1.index t = ![0, t.val % 4, 0]) ∧
    win0_2.index t = ![t.val / 4, t.val % 4, 0] ∧ win0_3.index t = ![t.val / 4, t.val % 4, 0] ∧
    win0_4.index t = ![t.val / 4, t.val % 4, 0] ∧ win0_5.index t = ![t.val / 4, t.val % 4, 0] ∧
    win0_6.index t = ![t.val / 4, t.val % 4, 0] ∧ win0_7.index t = ![t.val / 4, t.val % 4, 0] ∧
    win0_8.index t = ![t.val / 4, t.val % 4, 0] :=
  (by decide +kernel : ∀ t : Fin grid0.N, _)

theorem layer : ∀ t : Fin cfg0.N, (Scalar.cmpi .eq (BitVec.ofNat 32 (grid0.coords t 0).val) 0#32 = 1#1 ↔ t.val / 4 = 0) :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x1024x512 .bf16 := m ((c : Thread nD τ).loc main_arg0)
abbrev B1 : FVec Ideal S8x1024x512 .bf16 := m ((c : Thread nD τ).loc main_arg1)
abbrev B2 : FVec Ideal S2x1024x512 .f32 := m ((c : Thread nD τ).loc main_arg2)
abbrev B3 : FVec Ideal S2x1024x512 .f32 := m ((c : Thread nD τ).loc main_arg3)
abbrev B4 : FVec Ideal S2x1024x512 .f32 := m ((c : Thread nD τ).loc main_arg4)

theorem ltN : t.val < 8 := t.isLt

/-- A point's layer, and row `r` of its block. -/
def lay (t : Fin cfg0.N) : Fin 2 := ⟨t.val / 4, by have := ltN t; omega⟩
def row (t : Fin cfg0.N) (r : Fin 256) : Fin 1024 := ⟨t.val % 4 * 256 + r, by have := ltN t; omega⟩

theorem blk0 (h : t.val / 4 = 0) (d : Fin 8) (r : Fin 256) (q : Fin 512) : iblk m c 0 t (ix3 d r q) = B0 m c (ix3 d (row t r) q) := by
  blk_point [iblk, V, row, (idx t).1 h]

theorem blk1 (h : t.val / 4 ≠ 0) (d : Fin 8) (r : Fin 256) (q : Fin 512) : iblk m c 1 t (ix3 d r q) = B1 m c (ix3 d (row t r) q) := by
  blk_point [iblk, V, row, (idx t).2.1 h]

theorem blk2 (r : Fin 256) (q : Fin 512) : iblk m c 2 t (ix3 0 r q) = B2 m c (ix3 (lay t) (row t r) q) := by
  blk_point [iblk, V, row, lay, (idx t).2.2]

theorem blk3 (r : Fin 256) (q : Fin 512) : iblk m c 3 t (ix3 0 r q) = B3 m c (ix3 (lay t) (row t r) q) := by
  blk_point [iblk, V, row, lay, (idx t).2.2]

theorem blk4 (r : Fin 256) (q : Fin 512) : iblk m c 4 t (ix3 0 r q) = B4 m c (ix3 (lay t) (row t r) q) := by
  blk_point [iblk, V, row, lay, (idx t).2.2]

theorem bg_eq (r : Fin 256) (q : Fin 512) : bg (grid0.coords t) (iblk m c 0 t) (iblk m c 1 t) r q = grad (B0 m c) (B1 m c) (lay t) (row t r) q := by
  unfold bg grad total
  by_cases h : t.val / 4 = 0
  · rw [if_pos ((layer t).2 h), if_pos (show (lay t).val = 0 from h)]
    exact Finset.sum_congr rfl fun d _ => blk0 m c t h d r q
  · rw [if_neg (fun e => h ((layer t).1 e)), if_neg (show ¬ (lay t).val = 0 from h)]
    exact Finset.sum_congr rfl fun d _ => blk1 m c t h d r q

/-- The four arrays at a place: the gradient, the change of the parameter and the new moments. -/
def G (l : Fin 2) (i : Fin 1024) (j : Fin 512) : EReal := grad (B0 m c) (B1 m c) l i j
def D (l : Fin 2) (i : Fin 1024) (j : Fin 512) : EReal := delta (B2 m c (ix3 l i j)) (B3 m c (ix3 l i j)) (B4 m c (ix3 l i j)) (grad (B0 m c) (B1 m c) l i j)
def NM (l : Fin 2) (i : Fin 1024) (j : Fin 512) : EReal := nm (B3 m c (ix3 l i j)) (grad (B0 m c) (B1 m c) l i j)
def NV (l : Fin 2) (i : Fin 1024) (j : Fin 512) : EReal := nv (B4 m c (ix3 l i j)) (grad (B0 m c) (B1 m c) l i j)

theorem at5 (r : Fin 256) (q : Fin 512) :
    out0_5 (grid0.coords t) (iblk m c 0 t) (iblk m c 1 t) (iblk m c 2 t) (iblk m c 3 t) (iblk m c 4 t) (ix3 0 r q) = G m c (lay t) (row t r) q := by
  rw [out5, bg_eq]
  rfl

theorem final5 (l : Fin 2) (i : Fin 1024) (j : Fin 512) : (dats m 0 c).arrAt 5 cfg0.N (ix3 l i j) = G m c l i j := by
  have e : (dats m 0 c).arrAt 5 cfg0.N = (fun i : S2x1024x512.Idx => G m c (i 0) (i 1) (i 2)) := by
    refine (dats m 0 c).arrAt_eq_of_covers 5 _ (by decide +kernel) fun t hf y => ?_
    blk_simp
    rw [after0_5]
    idx_vars y
    obtain rfl : y0 = 0 := Subsingleton.elim _ _
    rw [at5]
    have e3 : ∀ (a a' : Fin 2) (b b' : Fin 1024) (d d' : Fin 512), a = a' → b = b' → d = d' → G m c a b d = G m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at6 (r : Fin 256) (q : Fin 512) :
    out0_6 (grid0.coords t) (iblk m c 0 t) (iblk m c 1 t) (iblk m c 2 t) (iblk m c 3 t) (iblk m c 4 t) (ix3 0 r q) = D m c (lay t) (row t r) q := by
  rw [out6, bg_eq, blk2, blk3, blk4]
  rfl

theorem final6 (l : Fin 2) (i : Fin 1024) (j : Fin 512) : (dats m 0 c).arrAt 6 cfg0.N (ix3 l i j) = D m c l i j := by
  have e : (dats m 0 c).arrAt 6 cfg0.N = (fun i : S2x1024x512.Idx => D m c (i 0) (i 1) (i 2)) := by
    refine (dats m 0 c).arrAt_eq_of_covers 6 _ (by decide +kernel) fun t hf y => ?_
    blk_simp
    rw [after0_6]
    idx_vars y
    obtain rfl : y0 = 0 := Subsingleton.elim _ _
    rw [at6]
    have e3 : ∀ (a a' : Fin 2) (b b' : Fin 1024) (d d' : Fin 512), a = a' → b = b' → d = d' → D m c a b d = D m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at7 (r : Fin 256) (q : Fin 512) :
    out0_7 (grid0.coords t) (iblk m c 0 t) (iblk m c 1 t) (iblk m c 2 t) (iblk m c 3 t) (iblk m c 4 t) (ix3 0 r q) = NM m c (lay t) (row t r) q := by
  rw [out7, bg_eq, blk3]
  rfl

theorem final7 (l : Fin 2) (i : Fin 1024) (j : Fin 512) : (dats m 0 c).arrAt 7 cfg0.N (ix3 l i j) = NM m c l i j := by
  have e : (dats m 0 c).arrAt 7 cfg0.N = (fun i : S2x1024x512.Idx => NM m c (i 0) (i 1) (i 2)) := by
    refine (dats m 0 c).arrAt_eq_of_covers 7 _ (by decide +kernel) fun t hf y => ?_
    blk_simp
    rw [after0_7]
    idx_vars y
    obtain rfl : y0 = 0 := Subsingleton.elim _ _
    rw [at7]
    have e3 : ∀ (a a' : Fin 2) (b b' : Fin 1024) (d d' : Fin 512), a = a' → b = b' → d = d' → NM m c a b d = NM m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at8 (r : Fin 256) (q : Fin 512) :
    out0_8 (grid0.coords t) (iblk m c 0 t) (iblk m c 1 t) (iblk m c 2 t) (iblk m c 3 t) (iblk m c 4 t) (ix3 0 r q) = NV m c (lay t) (row t r) q := by
  rw [out8, bg_eq, blk4]
  rfl

theorem final8 (l : Fin 2) (i : Fin 1024) (j : Fin 512) : (dats m 0 c).arrAt 8 cfg0.N (ix3 l i j) = NV m c l i j := by
  have e : (dats m 0 c).arrAt 8 cfg0.N = (fun i : S2x1024x512.Idx => NV m c (i 0) (i 1) (i 2)) := by
    refine (dats m 0 c).arrAt_eq_of_covers 8 _ (by decide +kernel) fun t hf y => ?_
    blk_simp
    rw [after0_8]
    idx_vars y
    obtain rfl : y0 = 0 := Subsingleton.elim _ _
    rw [at8]
    have e3 : ∀ (a a' : Fin 2) (b b' : Fin 1024) (d d' : Fin 512), a = a' → b = b' → d = d' → NV m c a b d = NV m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

end Cert.AIn

end
-- ==== Proof.Adam.Stack.lean ====
/-
  Two layers stacked: the array of both, read at an index.
-/
module

public import Idealize.ShloMosaic.Lib.Pipeline.Value
public import Idealize.ShloMosaic.Lib.Pointwise

@[expose] public section

noncomputable section

namespace Cert.Adam

open Idealize.ShloMosaic

theorem stack_at {R C : Nat} (x y : (⟨3, ![1, R, C]⟩ : Shape).Idx → EReal)
    (h : Shape.Concatenates [⟨3, ![1, R, C]⟩, ⟨3, ![1, R, C]⟩] ⟨3, ![2, R, C]⟩ 0) (l : Fin 2) (i : Fin R) (j : Fin C) :
    concatenate ⟨3, ![2, R, C]⟩ 0 [⟨⟨3, ![1, R, C]⟩, x⟩, ⟨⟨3, ![1, R, C]⟩, y⟩] h (ix3 l i j) =
      if l.val = 0 then x (ix3 0 i j) else y (ix3 0 i j) := by
  by_cases h0 : l.val = 0
  · rw [if_pos h0]
    refine concatenate_pair_apply_left 0 x y h (ix3 l i j) rfl (ix3 0 i j) fun b => ?_
    match b with
    | ⟨0, _⟩ => exact h0.symm
    | ⟨1, _⟩ => rfl
    | ⟨2, _⟩ => rfl
  · rw [if_neg h0]
    refine concatenate_pair_apply_right 0 x y h (ix3 l i j) rfl rfl (ix3 0 i j) (fun b hb => ?_) ?_
    · match b with
      | ⟨0, _⟩ => exact absurd rfl hb
      | ⟨1, _⟩ => rfl
      | ⟨2, _⟩ => rfl
    · have := l.isLt
      show 0 + 1 = l.val
      omega

end Cert.Adam

end
-- ==== Proof.AdamIn.Ref.lean ====
/-
  The reference's results, read at an index: the formulas of `Adam/Spec.lean`.
-/
module

public import proofs.«01_k».proof.Proof.Adam.Spec
public import proofs.«01_k».proof.Proof.Adam.Stack
public import proofs.«01_k».proof.Proof.Gen.AdamInRefIdeal.Read
public import Idealize.ShloMosaic.Lib.Pipeline.ValueKit

@[expose] public section

set_option maxRecDepth 16384

noncomputable section

namespace Cert.AIn

open Idealize.ShloMosaic Cert.AdamInRefIdeal Cert.AdamInRefIdeal.Gen Cert.AdamInRefIdeal.Read Cert.Adam

variable (A0 A1 : FVec Ideal S8x1024x512 .bf16) (A2 A3 A4 : FVec Ideal S2x1024x512 .f32)

theorem sum0 (z : Fin 1) (i : Fin 1024) (j : Fin 512) : val_main_v4 (F := Ideal) A0 (ix3 z i j) = total A0 i j := by
  pointwise [val_main_v4, val_main_v1, val_main_v0, val_main_cst, total]

theorem sum1 (z : Fin 1) (i : Fin 1024) (j : Fin 512) : val_main_v5 (F := Ideal) A1 (ix3 z i j) = total A1 i j := by
  pointwise [val_main_v5, val_main_v3, val_main_v2, val_main_cst_0, total]

theorem ref5 (l : Fin 2) (i : Fin 1024) (j : Fin 512) : val_main_v6 (F := Ideal) A0 A1 (ix3 l i j) = grad A0 A1 l i j := by
  refine (stack_at _ _ _ l i j).trans ?_
  rw [sum0, sum1]
  rfl

theorem ref7 (l : Fin 2) (i : Fin 1024) (j : Fin 512) : val_main_v11 (F := Ideal) A0 A1 A3 (ix3 l i j) = nm (A3 (ix3 l i j)) (grad A0 A1 l i j) := by
  rw [← ref5]
  pointwise [val_main_v11, val_main_v10, val_main_v9, val_main_v8, val_main_v7, val_main_cst_1, val_main_cst_2, nm]

theorem ref8 (l : Fin 2) (i : Fin 1024) (j : Fin 512) : val_main_v17 (F := Ideal) A0 A1 A4 (ix3 l i j) = nv (A4 (ix3 l i j)) (grad A0 A1 l i j) := by
  rw [← ref5]
  pointwise [val_main_v17, val_main_v16, val_main_v15, val_main_v14, val_main_v13, val_main_v12, val_main_cst_3, val_main_cst_4, nv]

theorem ref6 (l : Fin 2) (i : Fin 1024) (j : Fin 512) : val_main_v30 (F := Ideal) A0 A1 A2 A3 A4 (ix3 l i j) =
    delta (A2 (ix3 l i j)) (A3 (ix3 l i j)) (A4 (ix3 l i j)) (grad A0 A1 l i j) := by
  unfold delta
  rw [← ref7, ← ref8]
  pointwise [val_main_v30, val_main_v29, val_main_v28, val_main_v27, val_main_v26, val_main_v25, val_main_v24, val_main_v23, val_main_v22, val_main_v21, val_main_v20, val_main_v19, val_main_v18, val_main_cst_5, val_main_cst_6, val_main_cst_7, val_main_cst_8, val_main_cst_9]

end Cert.AIn

end
-- ==== Proof.AdamIn.Claims.lean ====
/-
  The optimiser's step of w_in: the reference's frame, and that both programs end with the same arrays.
-/
module

public import proofs.«01_k».proof.Defs
public import proofs.«01_k».proof.Proof.AdamIn.Point
public import proofs.«01_k».proof.Proof.AdamIn.Ref
public import proofs.«01_k».proof.Proof.Gen.AdamInIdeal.Value
public import proofs.«01_k».proof.Proof.Gen.AdamInRefIdeal
public import Idealize.ShloMosaic.Lib.Quiescent

@[expose] public section

set_option maxRecDepth 16384

noncomputable section

namespace Cert.AIn

open Idealize.ShloMosaic Idealize.ShloMosaic.TcCoe Idealize.SL.Sem

/-- The reference runs, its arguments are unchanged and its counters end at zero: it has none. -/
theorem frame_ref : Cert.quiescent_AdamInRefIdeal (hAdamInRefIdeal := Cert.AdamInRefIdeal.Gen.facts) := fun m ρ _ =>
  (θ_run (Cert.AdamInRefIdeal.defs (F := Ideal)) _ _).mono
    (fun r h => ⟨fun c => (h c).2.2.2.2, Idealize.ShloMosaic.sem_eq_zero_of_no_sems (by decide) r.2⟩)
    (Cert.AdamInRefIdeal.Value.run (F := Ideal) m ρ)

section
variable (m : (ℓ : Loc Cert.AdamInIdeal.nD Cert.AdamInIdeal.τ Cert.AdamInIdeal.sig) → Buf (Elt Ideal) ℓ) (c : Dev Cert.AdamInIdeal.nD)
open Cert.AdamInRefIdeal.Read Cert.AdamInIdeal Cert.AdamInIdeal.Gen

/-- The arrays the kernel leaves are the reference's, of the same arguments. -/
theorem eq5 : (dats m 0 c).arrAt 5 cfg0.N = val_main_v6 (F := Ideal) (B0 m c) (B1 m c) := by
  funext i
  idx_vars i
  exact (final5 m c i0 i1 i2).trans (ref5 _ _ i0 i1 i2).symm

theorem eq6 : (dats m 0 c).arrAt 6 cfg0.N = val_main_v30 (F := Ideal) (B0 m c) (B1 m c) (B2 m c) (B3 m c) (B4 m c) := by
  funext i
  idx_vars i
  exact (final6 m c i0 i1 i2).trans (ref6 _ _ _ _ _ i0 i1 i2).symm

theorem eq7 : (dats m 0 c).arrAt 7 cfg0.N = val_main_v11 (F := Ideal) (B0 m c) (B1 m c) (B3 m c) := by
  funext i
  idx_vars i
  exact (final7 m c i0 i1 i2).trans (ref7 _ _ _ i0 i1 i2).symm

theorem eq8 : (dats m 0 c).arrAt 8 cfg0.N = val_main_v17 (F := Ideal) (B0 m c) (B1 m c) (B4 m c) := by
  funext i
  idx_vars i
  exact (final8 m c i0 i1 i2).trans (ref8 _ _ _ i0 i1 i2).symm

end

/-- From equal arguments both programs end with the same arrays. -/
theorem algebraic : Cert.algebraic_AdamInIdeal_AdamInRefIdeal (hAdamInIdeal := Cert.AdamInIdeal.Gen.facts)
    (hAdamInRefIdeal := Cert.AdamInRefIdeal.Gen.facts) := by
  intro m g m' g' _ ha
  refine ⟨_, _, _, _, Cert.AdamInIdeal.Value.run_blocks (F := Ideal) m g, ?_⟩
  refine (θ_run (Cert.AdamInRefIdeal.defs (F := Ideal)) _ _).mono (fun r h c => ?_) (Cert.AdamInRefIdeal.Value.run (F := Ideal) m' g')
  obtain ⟨h5, h6, h7, h8, hk⟩ := h c
  obtain ⟨a0, a1, a2, a3, a4⟩ := ha c
  rw [Cert.AdamInRefIdeal.Read.val_main_v6_eq, a0, a1] at h5
  rw [Cert.AdamInRefIdeal.Read.val_main_v30_eq, a0, a1, a2, a3, a4] at h6
  rw [Cert.AdamInRefIdeal.Read.val_main_v11_eq, a0, a1, a3] at h7
  rw [Cert.AdamInRefIdeal.Read.val_main_v17_eq, a0, a1, a4] at h8
  exact ⟨h5.trans (eq5 m c).symm, h6.trans (eq6 m c).symm, h7.trans (eq7 m c).symm, h8.trans (eq8 m c).symm, hk⟩

end Cert.AIn

end
-- ==== Proof.AdamOut.Body.lean ====
/-
  The optimiser's step of w_attn_out, whose shape w_pool_out shares: what the kernel's body computes from one block, payload by payload, read at an index.
-/
module

public import proofs.«01_k».proof.Proof.Adam.Spec
public import proofs.«01_k».proof.Proof.Gen.AdamOutIdeal.Frame
public import Idealize.ShloMosaic.Lib.Pipeline.ValueKit
public import Idealize.ShloMosaic.Lib.Pipeline.ReadBack

@[expose] public section

set_option maxRecDepth 16384

noncomputable section

namespace Cert.AOut

open Idealize.ShloMosaic Cert.AdamOutIdeal Cert.AdamOutIdeal.Gen Cert.Adam

variable (i : grid0.Coords) (x0 x1 : FVec Ideal S8x512x128 .bf16) (x2 x3 x4 : FVec Ideal S1x512x128 .f32)

/-- The block's gradient: the sum of one of the two windows, by the point's layer. -/
def bg (r : Fin 512) (q : Fin 128) : EReal :=
  if Scalar.cmpi .eq (BitVec.ofNat 32 (i 0).val) 0#32 = 1#1 then total x0 r q else total x1 r q

theorem grad_at (r : Fin 512) (q : Fin 128) : k0_pay10 (F := Ideal) i x0 x1 x2 x3 x4 (ix2 r q) = bg i x0 x1 r q := by
  unfold bg total
  rw [Fin.sum_univ_eight, Fin.sum_univ_eight]
  pointwise [k0_pay10, k0_pay4, k0_pay3]
  rfl

theorem out5 (r : Fin 512) (q : Fin 128) : out0_5 (F := Ideal) i x0 x1 x2 x3 x4 (ix3 0 r q) = bg i x0 x1 r q := by
  rw [← grad_at i x0 x1 x2 x3 x4]
  frame_out
  pointwise [k0_pay8]

theorem out6 (r : Fin 512) (q : Fin 128) : out0_6 (F := Ideal) i x0 x1 x2 x3 x4 (ix3 0 r q) = delta (x2 (ix3 0 r q)) (x3 (ix3 0 r q)) (x4 (ix3 0 r q)) (bg i x0 x1 r q) := by
  rw [← grad_at i x0 x1 x2 x3 x4]
  frame_out
  pointwise [k0_pay9, k0_pay5, k0_pay6, k0_pay7, delta, nm, nv]

theorem out7 (r : Fin 512) (q : Fin 128) : out0_7 (F := Ideal) i x0 x1 x2 x3 x4 (ix3 0 r q) = nm (x3 (ix3 0 r q)) (bg i x0 x1 r q) := by
  rw [← grad_at i x0 x1 x2 x3 x4]
  frame_out
  pointwise [k0_pay1, k0_pay6, nm]

theorem out8 (r : Fin 512) (q : Fin 128) : out0_8 (F := Ideal) i x0 x1 x2 x3 x4 (ix3 0 r q) = nv (x4 (ix3 0 r q)) (bg i x0 x1 r q) := by
  rw [← grad_at i x0 x1 x2 x3 x4]
  frame_out
  pointwise [k0_pay2, k0_pay7, nv]

end Cert.AOut

end
-- ==== Proof.AdamOut.Point.lean ====
/-
  The blocks a grid point reads and writes, as places in the arrays, and the arrays the kernel leaves.
-/
module

public import proofs.«01_k».proof.Proof.AdamOut.Body

@[expose] public section

set_option maxRecDepth 16384

noncomputable section

namespace Cert.AOut

open Idealize.ShloMosaic Idealize.ShloMosaic.TcCoe Cert.AdamOutIdeal Cert.AdamOutIdeal.Gen Cert.Adam

/-- Where each window's block lies at a point: the layers one after the other, a layer by its rows. A layer's parts are fetched
    at the points of that layer. -/
theorem idx : ∀ t : Fin cfg0.N, (t.val / 1 = 0 → win0_0.index t = ![0, t.val % 1, 0]) ∧ (t.val / 1 ≠ 0 → win0_1.index t = ![0, t.val % 1, 0]) ∧
    win0_2.index t = ![t.val / 1, t.val % 1, 0] ∧ win0_3.index t = ![t.val / 1, t.val % 1, 0] ∧
    win0_4.index t = ![t.val / 1, t.val % 1, 0] ∧ win0_5.index t = ![t.val / 1, t.val % 1, 0] ∧
    win0_6.index t = ![t.val / 1, t.val % 1, 0] ∧ win0_7.index t = ![t.val / 1, t.val % 1, 0] ∧
    win0_8.index t = ![t.val / 1, t.val % 1, 0] :=
  (by decide +kernel : ∀ t : Fin grid0.N, _)

theorem layer : ∀ t : Fin cfg0.N, (Scalar.cmpi .eq (BitVec.ofNat 32 (grid0.coords t 0).val) 0#32 = 1#1 ↔ t.val / 1 = 0) :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x512x128 .bf16 := m ((c : Thread nD τ).loc main_arg0)
abbrev B1 : FVec Ideal S8x512x128 .bf16 := m ((c : Thread nD τ).loc main_arg1)
abbrev B2 : FVec Ideal S2x512x128 .f32 := m ((c : Thread nD τ).loc main_arg2)
abbrev B3 : FVec Ideal S2x512x128 .f32 := m ((c : Thread nD τ).loc main_arg3)
abbrev B4 : FVec Ideal S2x512x128 .f32 := m ((c : Thread nD τ).loc main_arg4)

theorem ltN : t.val < 2 := t.isLt

/-- A point's layer, and row `r` of its block. -/
def lay (t : Fin cfg0.N) : Fin 2 := ⟨t.val / 1, by have := ltN t; omega⟩
def row (t : Fin cfg0.N) (r : Fin 512) : Fin 512 := ⟨t.val % 1 * 512 + r, by have := ltN t; omega⟩

theorem blk0 (h : t.val / 1 = 0) (d : Fin 8) (r : Fin 512) (q : Fin 128) : iblk m c 0 t (ix3 d r q) = B0 m c (ix3 d (row t r) q) := by
  blk_point [iblk, V, row, (idx t).1 h]

theorem blk1 (h : t.val / 1 ≠ 0) (d : Fin 8) (r : Fin 512) (q : Fin 128) : iblk m c 1 t (ix3 d r q) = B1 m c (ix3 d (row t r) q) := by
  blk_point [iblk, V, row, (idx t).2.1 h]

theorem blk2 (r : Fin 512) (q : Fin 128) : iblk m c 2 t (ix3 0 r q) = B2 m c (ix3 (lay t) (row t r) q) := by
  blk_point [iblk, V, row, lay, (idx t).2.2]

theorem blk3 (r : Fin 512) (q : Fin 128) : iblk m c 3 t (ix3 0 r q) = B3 m c (ix3 (lay t) (row t r) q) := by
  blk_point [iblk, V, row, lay, (idx t).2.2]

theorem blk4 (r : Fin 512) (q : Fin 128) : iblk m c 4 t (ix3 0 r q) = B4 m c (ix3 (lay t) (row t r) q) := by
  blk_point [iblk, V, row, lay, (idx t).2.2]

theorem bg_eq (r : Fin 512) (q : Fin 128) : bg (grid0.coords t) (iblk m c 0 t) (iblk m c 1 t) r q = grad (B0 m c) (B1 m c) (lay t) (row t r) q := by
  unfold bg grad total
  by_cases h : t.val / 1 = 0
  · rw [if_pos ((layer t).2 h), if_pos (show (lay t).val = 0 from h)]
    exact Finset.sum_congr rfl fun d _ => blk0 m c t h d r q
  · rw [if_neg (fun e => h ((layer t).1 e)), if_neg (show ¬ (lay t).val = 0 from h)]
    exact Finset.sum_congr rfl fun d _ => blk1 m c t h d r q

/-- The four arrays at a place: the gradient, the change of the parameter and the new moments. -/
def G (l : Fin 2) (i : Fin 512) (j : Fin 128) : EReal := grad (B0 m c) (B1 m c) l i j
def D (l : Fin 2) (i : Fin 512) (j : Fin 128) : EReal := delta (B2 m c (ix3 l i j)) (B3 m c (ix3 l i j)) (B4 m c (ix3 l i j)) (grad (B0 m c) (B1 m c) l i j)
def NM (l : Fin 2) (i : Fin 512) (j : Fin 128) : EReal := nm (B3 m c (ix3 l i j)) (grad (B0 m c) (B1 m c) l i j)
def NV (l : Fin 2) (i : Fin 512) (j : Fin 128) : EReal := nv (B4 m c (ix3 l i j)) (grad (B0 m c) (B1 m c) l i j)

theorem at5 (r : Fin 512) (q : Fin 128) :
    out0_5 (grid0.coords t) (iblk m c 0 t) (iblk m c 1 t) (iblk m c 2 t) (iblk m c 3 t) (iblk m c 4 t) (ix3 0 r q) = G m c (lay t) (row t r) q := by
  rw [out5, bg_eq]
  rfl

theorem final5 (l : Fin 2) (i : Fin 512) (j : Fin 128) : (dats m 0 c).arrAt 5 cfg0.N (ix3 l i j) = G m c l i j := by
  have e : (dats m 0 c).arrAt 5 cfg0.N = (fun i : S2x512x128.Idx => G m c (i 0) (i 1) (i 2)) := by
    refine (dats m 0 c).arrAt_eq_of_covers 5 _ (by decide +kernel) fun t hf y => ?_
    blk_simp
    rw [after0_5]
    idx_vars y
    obtain rfl : y0 = 0 := Subsingleton.elim _ _
    rw [at5]
    have e3 : ∀ (a a' : Fin 2) (b b' : Fin 512) (d d' : Fin 128), a = a' → b = b' → d = d' → G m c a b d = G m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at6 (r : Fin 512) (q : Fin 128) :
    out0_6 (grid0.coords t) (iblk m c 0 t) (iblk m c 1 t) (iblk m c 2 t) (iblk m c 3 t) (iblk m c 4 t) (ix3 0 r q) = D m c (lay t) (row t r) q := by
  rw [out6, bg_eq, blk2, blk3, blk4]
  rfl

theorem final6 (l : Fin 2) (i : Fin 512) (j : Fin 128) : (dats m 0 c).arrAt 6 cfg0.N (ix3 l i j) = D m c l i j := by
  have e : (dats m 0 c).arrAt 6 cfg0.N = (fun i : S2x512x128.Idx => D m c (i 0) (i 1) (i 2)) := by
    refine (dats m 0 c).arrAt_eq_of_covers 6 _ (by decide +kernel) fun t hf y => ?_
    blk_simp
    rw [after0_6]
    idx_vars y
    obtain rfl : y0 = 0 := Subsingleton.elim _ _
    rw [at6]
    have e3 : ∀ (a a' : Fin 2) (b b' : Fin 512) (d d' : Fin 128), a = a' → b = b' → d = d' → D m c a b d = D m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at7 (r : Fin 512) (q : Fin 128) :
    out0_7 (grid0.coords t) (iblk m c 0 t) (iblk m c 1 t) (iblk m c 2 t) (iblk m c 3 t) (iblk m c 4 t) (ix3 0 r q) = NM m c (lay t) (row t r) q := by
  rw [out7, bg_eq, blk3]
  rfl

theorem final7 (l : Fin 2) (i : Fin 512) (j : Fin 128) : (dats m 0 c).arrAt 7 cfg0.N (ix3 l i j) = NM m c l i j := by
  have e : (dats m 0 c).arrAt 7 cfg0.N = (fun i : S2x512x128.Idx => NM m c (i 0) (i 1) (i 2)) := by
    refine (dats m 0 c).arrAt_eq_of_covers 7 _ (by decide +kernel) fun t hf y => ?_
    blk_simp
    rw [after0_7]
    idx_vars y
    obtain rfl : y0 = 0 := Subsingleton.elim _ _
    rw [at7]
    have e3 : ∀ (a a' : Fin 2) (b b' : Fin 512) (d d' : Fin 128), a = a' → b = b' → d = d' → NM m c a b d = NM m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at8 (r : Fin 512) (q : Fin 128) :
    out0_8 (grid0.coords t) (iblk m c 0 t) (iblk m c 1 t) (iblk m c 2 t) (iblk m c 3 t) (iblk m c 4 t) (ix3 0 r q) = NV m c (lay t) (row t r) q := by
  rw [out8, bg_eq, blk4]
  rfl

theorem final8 (l : Fin 2) (i : Fin 512) (j : Fin 128) : (dats m 0 c).arrAt 8 cfg0.N (ix3 l i j) = NV m c l i j := by
  have e : (dats m 0 c).arrAt 8 cfg0.N = (fun i : S2x512x128.Idx => NV m c (i 0) (i 1) (i 2)) := by
    refine (dats m 0 c).arrAt_eq_of_covers 8 _ (by decide +kernel) fun t hf y => ?_
    blk_simp
    rw [after0_8]
    idx_vars y
    obtain rfl : y0 = 0 := Subsingleton.elim _ _
    rw [at8]
    have e3 : ∀ (a a' : Fin 2) (b b' : Fin 512) (d d' : Fin 128), a = a' → b = b' → d = d' → NV m c a b d = NV m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

end Cert.AOut

end
-- ==== Proof.AdamOut.Ref.lean ====
/-
  The reference's results, read at an index: the formulas of `Adam/Spec.lean`.
-/
module

public import proofs.«01_k».proof.Proof.Adam.Spec
public import proofs.«01_k».proof.Proof.Adam.Stack
public import proofs.«01_k».proof.Proof.Gen.AdamOutRefIdeal.Read
public import Idealize.ShloMosaic.Lib.Pipeline.ValueKit

@[expose] public section

set_option maxRecDepth 16384

noncomputable section

namespace Cert.AOut

open Idealize.ShloMosaic Cert.AdamOutRefIdeal Cert.AdamOutRefIdeal.Gen Cert.AdamOutRefIdeal.Read Cert.Adam

variable (A0 A1 : FVec Ideal S8x512x128 .bf16) (A2 A3 A4 : FVec Ideal S2x512x128 .f32)

theorem sum0 (z : Fin 1) (i : Fin 512) (j : Fin 128) : val_main_v4 (F := Ideal) A0 (ix3 z i j) = total A0 i j := by
  pointwise [val_main_v4, val_main_v1, val_main_v0, val_main_cst, total]

theorem sum1 (z : Fin 1) (i : Fin 512) (j : Fin 128) : val_main_v5 (F := Ideal) A1 (ix3 z i j) = total A1 i j := by
  pointwise [val_main_v5, val_main_v3, val_main_v2, val_main_cst_0, total]

theorem ref5 (l : Fin 2) (i : Fin 512) (j : Fin 128) : val_main_v6 (F := Ideal) A0 A1 (ix3 l i j) = grad A0 A1 l i j := by
  refine (stack_at _ _ _ l i j).trans ?_
  rw [sum0, sum1]
  rfl

theorem ref7 (l : Fin 2) (i : Fin 512) (j : Fin 128) : val_main_v11 (F := Ideal) A0 A1 A3 (ix3 l i j) = nm (A3 (ix3 l i j)) (grad A0 A1 l i j) := by
  rw [← ref5]
  pointwise [val_main_v11, val_main_v10, val_main_v9, val_main_v8, val_main_v7, val_main_cst_1, val_main_cst_2, nm]

theorem ref8 (l : Fin 2) (i : Fin 512) (j : Fin 128) : val_main_v17 (F := Ideal) A0 A1 A4 (ix3 l i j) = nv (A4 (ix3 l i j)) (grad A0 A1 l i j) := by
  rw [← ref5]
  pointwise [val_main_v17, val_main_v16, val_main_v15, val_main_v14, val_main_v13, val_main_v12, val_main_cst_3, val_main_cst_4, nv]

theorem ref6 (l : Fin 2) (i : Fin 512) (j : Fin 128) : val_main_v30 (F := Ideal) A0 A1 A2 A3 A4 (ix3 l i j) =
    delta (A2 (ix3 l i j)) (A3 (ix3 l i j)) (A4 (ix3 l i j)) (grad A0 A1 l i j) := by
  unfold delta
  rw [← ref7, ← ref8]
  pointwise [val_main_v30, val_main_v29, val_main_v28, val_main_v27, val_main_v26, val_main_v25, val_main_v24, val_main_v23, val_main_v22, val_main_v21, val_main_v20, val_main_v19, val_main_v18, val_main_cst_5, val_main_cst_6, val_main_cst_7, val_main_cst_8, val_main_cst_9]

end Cert.AOut

end
-- ==== Proof.AdamOut.Claims.lean ====
/-
  The optimiser's step of w_attn_out, whose shape w_pool_out shares: the reference's frame, and that both programs end with the same arrays.
-/
module

public import proofs.«01_k».proof.Defs
public import proofs.«01_k».proof.Proof.AdamOut.Point
public import proofs.«01_k».proof.Proof.AdamOut.Ref
public import proofs.«01_k».proof.Proof.Gen.AdamOutIdeal.Value
public import proofs.«01_k».proof.Proof.Gen.AdamOutRefIdeal
public import Idealize.ShloMosaic.Lib.Quiescent

@[expose] public section

set_option maxRecDepth 16384

noncomputable section

namespace Cert.AOut

open Idealize.ShloMosaic Idealize.ShloMosaic.TcCoe Idealize.SL.Sem

/-- The reference runs, its arguments are unchanged and its counters end at zero: it has none. -/
theorem frame_ref : Cert.quiescent_AdamOutRefIdeal (hAdamOutRefIdeal := Cert.AdamOutRefIdeal.Gen.facts) := fun m ρ _ =>
  (θ_run (Cert.AdamOutRefIdeal.defs (F := Ideal)) _ _).mono
    (fun r h => ⟨fun c => (h c).2.2.2.2, Idealize.ShloMosaic.sem_eq_zero_of_no_sems (by decide) r.2⟩)
    (Cert.AdamOutRefIdeal.Value.run (F := Ideal) m ρ)

section
variable (m : (ℓ : Loc Cert.AdamOutIdeal.nD Cert.AdamOutIdeal.τ Cert.AdamOutIdeal.sig) → Buf (Elt Ideal) ℓ) (c : Dev Cert.AdamOutIdeal.nD)
open Cert.AdamOutRefIdeal.Read Cert.AdamOutIdeal Cert.AdamOutIdeal.Gen

/-- The arrays the kernel leaves are the reference's, of the same arguments. -/
theorem eq5 : (dats m 0 c).arrAt 5 cfg0.N = val_main_v6 (F := Ideal) (B0 m c) (B1 m c) := by
  funext i
  idx_vars i
  exact (final5 m c i0 i1 i2).trans (ref5 _ _ i0 i1 i2).symm

theorem eq6 : (dats m 0 c).arrAt 6 cfg0.N = val_main_v30 (F := Ideal) (B0 m c) (B1 m c) (B2 m c) (B3 m c) (B4 m c) := by
  funext i
  idx_vars i
  exact (final6 m c i0 i1 i2).trans (ref6 _ _ _ _ _ i0 i1 i2).symm

theorem eq7 : (dats m 0 c).arrAt 7 cfg0.N = val_main_v11 (F := Ideal) (B0 m c) (B1 m c) (B3 m c) := by
  funext i
  idx_vars i
  exact (final7 m c i0 i1 i2).trans (ref7 _ _ _ i0 i1 i2).symm

theorem eq8 : (dats m 0 c).arrAt 8 cfg0.N = val_main_v17 (F := Ideal) (B0 m c) (B1 m c) (B4 m c) := by
  funext i
  idx_vars i
  exact (final8 m c i0 i1 i2).trans (ref8 _ _ _ i0 i1 i2).symm

end

/-- From equal arguments both programs end with the same arrays. -/
theorem algebraic : Cert.algebraic_AdamOutIdeal_AdamOutRefIdeal (hAdamOutIdeal := Cert.AdamOutIdeal.Gen.facts)
    (hAdamOutRefIdeal := Cert.AdamOutRefIdeal.Gen.facts) := by
  intro m g m' g' _ ha
  refine ⟨_, _, _, _, Cert.AdamOutIdeal.Value.run_blocks (F := Ideal) m g, ?_⟩
  refine (θ_run (Cert.AdamOutRefIdeal.defs (F := Ideal)) _ _).mono (fun r h c => ?_) (Cert.AdamOutRefIdeal.Value.run (F := Ideal) m' g')
  obtain ⟨h5, h6, h7, h8, hk⟩ := h c
  obtain ⟨a0, a1, a2, a3, a4⟩ := ha c
  rw [Cert.AdamOutRefIdeal.Read.val_main_v6_eq, a0, a1] at h5
  rw [Cert.AdamOutRefIdeal.Read.val_main_v30_eq, a0, a1, a2, a3, a4] at h6
  rw [Cert.AdamOutRefIdeal.Read.val_main_v11_eq, a0, a1, a3] at h7
  rw [Cert.AdamOutRefIdeal.Read.val_main_v17_eq, a0, a1, a4] at h8
  exact ⟨h5.trans (eq5 m c).symm, h6.trans (eq6 m c).symm, h7.trans (eq7 m c).symm, h8.trans (eq8 m c).symm, hk⟩

end Cert.AOut

end
-- ==== Proof.AdamWo.Body.lean ====
/-
  The optimiser's step of w_o: what the kernel's body computes from one block, payload by payload, read at an index.
-/
module

public import proofs.«01_k».proof.Proof.Adam.Spec
public import proofs.«01_k».proof.Proof.Gen.AdamWoIdeal.Frame
public import Idealize.ShloMosaic.Lib.Pipeline.ValueKit
public import Idealize.ShloMosaic.Lib.Pipeline.ReadBack

@[expose] public section

set_option maxRecDepth 16384

noncomputable section

namespace Cert.AWo

open Idealize.ShloMosaic Cert.AdamWoIdeal Cert.AdamWoIdeal.Gen Cert.Adam

variable (i : grid0.Coords) (x0 x1 : FVec Ideal S8x128x1024 .bf16) (x2 x3 x4 : FVec Ideal S1x128x1024 .f32)

/-- The block's gradient: the sum of one of the two windows, by the point's layer. -/
def bg (r : Fin 128) (q : Fin 1024) : EReal :=
  if Scalar.cmpi .eq (BitVec.ofNat 32 (i 0).val) 0#32 = 1#1 then total x0 r q else total x1 r q

theorem grad_at (r : Fin 128) (q : Fin 1024) : k0_pay10 (F := Ideal) i x0 x1 x2 x3 x4 (ix2 r q) = bg i x0 x1 r q := by
  unfold bg total
  rw [Fin.sum_univ_eight, Fin.sum_univ_eight]
  pointwise [k0_pay10, k0_pay4, k0_pay3]
  rfl

theorem out5 (r : Fin 128) (q : Fin 1024) : out0_5 (F := Ideal) i x0 x1 x2 x3 x4 (ix3 0 r q) = bg i x0 x1 r q := by
  rw [← grad_at i x0 x1 x2 x3 x4]
  frame_out
  pointwise [k0_pay8]

theorem out6 (r : Fin 128) (q : Fin 1024) : out0_6 (F := Ideal) i x0 x1 x2 x3 x4 (ix3 0 r q) = delta (x2 (ix3 0 r q)) (x3 (ix3 0 r q)) (x4 (ix3 0 r q)) (bg i x0 x1 r q) := by
  rw [← grad_at i x0 x1 x2 x3 x4]
  frame_out
  pointwise [k0_pay9, k0_pay5, k0_pay6, k0_pay7, delta, nm, nv]

theorem out7 (r : Fin 128) (q : Fin 1024) : out0_7 (F := Ideal) i x0 x1 x2 x3 x4 (ix3 0 r q) = nm (x3 (ix3 0 r q)) (bg i x0 x1 r q) := by
  rw [← grad_at i x0 x1 x2 x3 x4]
  frame_out
  pointwise [k0_pay1, k0_pay6, nm]

theorem out8 (r : Fin 128) (q : Fin 1024) : out0_8 (F := Ideal) i x0 x1 x2 x3 x4 (ix3 0 r q) = nv (x4 (ix3 0 r q)) (bg i x0 x1 r q) := by
  rw [← grad_at i x0 x1 x2 x3 x4]
  frame_out
  pointwise [k0_pay2, k0_pay7, nv]

end Cert.AWo

end
-- ==== Proof.AdamWo.Point.lean ====
/-
  The blocks a grid point reads and writes, as places in the arrays, and the arrays the kernel leaves.
-/
module

public import proofs.«01_k».proof.Proof.AdamWo.Body

@[expose] public section

set_option maxRecDepth 16384

noncomputable section

namespace Cert.AWo

open Idealize.ShloMosaic Idealize.ShloMosaic.TcCoe Cert.AdamWoIdeal Cert.AdamWoIdeal.Gen Cert.Adam

/-- Where each window's block lies at a point: the layers one after the other, a layer by its rows. A layer's parts are fetched
    at the points of that layer. -/
theorem idx : ∀ t : Fin cfg0.N, (t.val / 1 = 0 → win0_0.index t = ![0, t.val % 1, 0]) ∧ (t.val / 1 ≠ 0 → win0_1.index t = ![0, t.val % 1, 0]) ∧
    win0_2.index t = ![t.val / 1, t.val % 1, 0] ∧ win0_3.index t = ![t.val / 1, t.val % 1, 0] ∧
    win0_4.index t = ![t.val / 1, t.val % 1, 0] ∧ win0_5.index t = ![t.val / 1, t.val % 1, 0] ∧
    win0_6.index t = ![t.val / 1, t.val % 1, 0] ∧ win0_7.index t = ![t.val / 1, t.val % 1, 0] ∧
    win0_8.index t = ![t.val / 1, t.val % 1, 0] :=
  (by decide +kernel : ∀ t : Fin grid0.N, _)

theorem layer : ∀ t : Fin cfg0.N, (Scalar.cmpi .eq (BitVec.ofNat 32 (grid0.coords t 0).val) 0#32 = 1#1 ↔ t.val / 1 = 0) :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x128x1024 .bf16 := m ((c : Thread nD τ).loc main_arg0)
abbrev B1 : FVec Ideal S8x128x1024 .bf16 := m ((c : Thread nD τ).loc main_arg1)
abbrev B2 : FVec Ideal S2x128x1024 .f32 := m ((c : Thread nD τ).loc main_arg2)
abbrev B3 : FVec Ideal S2x128x1024 .f32 := m ((c : Thread nD τ).loc main_arg3)
abbrev B4 : FVec Ideal S2x128x1024 .f32 := m ((c : Thread nD τ).loc main_arg4)

theorem ltN : t.val < 2 := t.isLt

/-- A point's layer, and row `r` of its block. -/
def lay (t : Fin cfg0.N) : Fin 2 := ⟨t.val / 1, by have := ltN t; omega⟩
def row (t : Fin cfg0.N) (r : Fin 128) : Fin 128 := ⟨t.val % 1 * 128 + r, by have := ltN t; omega⟩

theorem blk0 (h : t.val / 1 = 0) (d : Fin 8) (r : Fin 128) (q : Fin 1024) : iblk m c 0 t (ix3 d r q) = B0 m c (ix3 d (row t r) q) := by
  blk_point [iblk, V, row, (idx t).1 h]

theorem blk1 (h : t.val / 1 ≠ 0) (d : Fin 8) (r : Fin 128) (q : Fin 1024) : iblk m c 1 t (ix3 d r q) = B1 m c (ix3 d (row t r) q) := by
  blk_point [iblk, V, row, (idx t).2.1 h]

theorem blk2 (r : Fin 128) (q : Fin 1024) : iblk m c 2 t (ix3 0 r q) = B2 m c (ix3 (lay t) (row t r) q) := by
  blk_point [iblk, V, row, lay, (idx t).2.2]

theorem blk3 (r : Fin 128) (q : Fin 1024) : iblk m c 3 t (ix3 0 r q) = B3 m c (ix3 (lay t) (row t r) q) := by
  blk_point [iblk, V, row, lay, (idx t).2.2]

theorem blk4 (r : Fin 128) (q : Fin 1024) : iblk m c 4 t (ix3 0 r q) = B4 m c (ix3 (lay t) (row t r) q) := by
  blk_point [iblk, V, row, lay, (idx t).2.2]

theorem bg_eq (r : Fin 128) (q : Fin 1024) : bg (grid0.coords t) (iblk m c 0 t) (iblk m c 1 t) r q = grad (B0 m c) (B1 m c) (lay t) (row t r) q := by
  unfold bg grad total
  by_cases h : t.val / 1 = 0
  · rw [if_pos ((layer t).2 h), if_pos (show (lay t).val = 0 from h)]
    exact Finset.sum_congr rfl fun d _ => blk0 m c t h d r q
  · rw [if_neg (fun e => h ((layer t).1 e)), if_neg (show ¬ (lay t).val = 0 from h)]
    exact Finset.sum_congr rfl fun d _ => blk1 m c t h d r q

/-- The four arrays at a place: the gradient, the change of the parameter and the new moments. -/
def G (l : Fin 2) (i : Fin 128) (j : Fin 1024) : EReal := grad (B0 m c) (B1 m c) l i j
def D (l : Fin 2) (i : Fin 128) (j : Fin 1024) : EReal := delta (B2 m c (ix3 l i j)) (B3 m c (ix3 l i j)) (B4 m c (ix3 l i j)) (grad (B0 m c) (B1 m c) l i j)
def NM (l : Fin 2) (i : Fin 128) (j : Fin 1024) : EReal := nm (B3 m c (ix3 l i j)) (grad (B0 m c) (B1 m c) l i j)
def NV (l : Fin 2) (i : Fin 128) (j : Fin 1024) : EReal := nv (B4 m c (ix3 l i j)) (grad (B0 m c) (B1 m c) l i j)

theorem at5 (r : Fin 128) (q : Fin 1024) :
    out0_5 (grid0.coords t) (iblk m c 0 t) (iblk m c 1 t) (iblk m c 2 t) (iblk m c 3 t) (iblk m c 4 t) (ix3 0 r q) = G m c (lay t) (row t r) q := by
  rw [out5, bg_eq]
  rfl

theorem final5 (l : Fin 2) (i : Fin 128) (j : Fin 1024) : (dats m 0 c).arrAt 5 cfg0.N (ix3 l i j) = G m c l i j := by
  have e : (dats m 0 c).arrAt 5 cfg0.N = (fun i : S2x128x1024.Idx => G m c (i 0) (i 1) (i 2)) := by
    refine (dats m 0 c).arrAt_eq_of_covers 5 _ (by decide +kernel) fun t hf y => ?_
    blk_simp
    rw [after0_5]
    idx_vars y
    obtain rfl : y0 = 0 := Subsingleton.elim _ _
    rw [at5]
    have e3 : ∀ (a a' : Fin 2) (b b' : Fin 128) (d d' : Fin 1024), a = a' → b = b' → d = d' → G m c a b d = G m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at6 (r : Fin 128) (q : Fin 1024) :
    out0_6 (grid0.coords t) (iblk m c 0 t) (iblk m c 1 t) (iblk m c 2 t) (iblk m c 3 t) (iblk m c 4 t) (ix3 0 r q) = D m c (lay t) (row t r) q := by
  rw [out6, bg_eq, blk2, blk3, blk4]
  rfl

theorem final6 (l : Fin 2) (i : Fin 128) (j : Fin 1024) : (dats m 0 c).arrAt 6 cfg0.N (ix3 l i j) = D m c l i j := by
  have e : (dats m 0 c).arrAt 6 cfg0.N = (fun i : S2x128x1024.Idx => D m c (i 0) (i 1) (i 2)) := by
    refine (dats m 0 c).arrAt_eq_of_covers 6 _ (by decide +kernel) fun t hf y => ?_
    blk_simp
    rw [after0_6]
    idx_vars y
    obtain rfl : y0 = 0 := Subsingleton.elim _ _
    rw [at6]
    have e3 : ∀ (a a' : Fin 2) (b b' : Fin 128) (d d' : Fin 1024), a = a' → b = b' → d = d' → D m c a b d = D m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at7 (r : Fin 128) (q : Fin 1024) :
    out0_7 (grid0.coords t) (iblk m c 0 t) (iblk m c 1 t) (iblk m c 2 t) (iblk m c 3 t) (iblk m c 4 t) (ix3 0 r q) = NM m c (lay t) (row t r) q := by
  rw [out7, bg_eq, blk3]
  rfl

theorem final7 (l : Fin 2) (i : Fin 128) (j : Fin 1024) : (dats m 0 c).arrAt 7 cfg0.N (ix3 l i j) = NM m c l i j := by
  have e : (dats m 0 c).arrAt 7 cfg0.N = (fun i : S2x128x1024.Idx => NM m c (i 0) (i 1) (i 2)) := by
    refine (dats m 0 c).arrAt_eq_of_covers 7 _ (by decide +kernel) fun t hf y => ?_
    blk_simp
    rw [after0_7]
    idx_vars y
    obtain rfl : y0 = 0 := Subsingleton.elim _ _
    rw [at7]
    have e3 : ∀ (a a' : Fin 2) (b b' : Fin 128) (d d' : Fin 1024), a = a' → b = b' → d = d' → NM m c a b d = NM m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at8 (r : Fin 128) (q : Fin 1024) :
    out0_8 (grid0.coords t) (iblk m c 0 t) (iblk m c 1 t) (iblk m c 2 t) (iblk m c 3 t) (iblk m c 4 t) (ix3 0 r q) = NV m c (lay t) (row t r) q := by
  rw [out8, bg_eq, blk4]
  rfl

theorem final8 (l : Fin 2) (i : Fin 128) (j : Fin 1024) : (dats m 0 c).arrAt 8 cfg0.N (ix3 l i j) = NV m c l i j := by
  have e : (dats m 0 c).arrAt 8 cfg0.N = (fun i : S2x128x1024.Idx => NV m c (i 0) (i 1) (i 2)) := by
    refine (dats m 0 c).arrAt_eq_of_covers 8 _ (by decide +kernel) fun t hf y => ?_
    blk_simp
    rw [after0_8]
    idx_vars y
    obtain rfl : y0 = 0 := Subsingleton.elim _ _
    rw [at8]
    have e3 : ∀ (a a' : Fin 2) (b b' : Fin 128) (d d' : Fin 1024), a = a' → b = b' → d = d' → NV m c a b d = NV m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

end Cert.AWo

end
-- ==== Proof.AdamWo.Ref.lean ====
/-
  The reference's results, read at an index: the formulas of `Adam/Spec.lean`.
-/
module

public import proofs.«01_k».proof.Proof.Adam.Spec
public import proofs.«01_k».proof.Proof.Adam.Stack
public import proofs.«01_k».proof.Proof.Gen.AdamWoRefIdeal.Read
public import Idealize.ShloMosaic.Lib.Pipeline.ValueKit

@[expose] public section

set_option maxRecDepth 16384

noncomputable section

namespace Cert.AWo

open Idealize.ShloMosaic Cert.AdamWoRefIdeal Cert.AdamWoRefIdeal.Gen Cert.AdamWoRefIdeal.Read Cert.Adam

variable (A0 A1 : FVec Ideal S8x128x1024 .bf16) (A2 A3 A4 : FVec Ideal S2x128x1024 .f32)

theorem sum0 (z : Fin 1) (i : Fin 128) (j : Fin 1024) : val_main_v4 (F := Ideal) A0 (ix3 z i j) = total A0 i j := by
  pointwise [val_main_v4, val_main_v1, val_main_v0, val_main_cst, total]

theorem sum1 (z : Fin 1) (i : Fin 128) (j : Fin 1024) : val_main_v5 (F := Ideal) A1 (ix3 z i j) = total A1 i j := by
  pointwise [val_main_v5, val_main_v3, val_main_v2, val_main_cst_0, total]

theorem ref5 (l : Fin 2) (i : Fin 128) (j : Fin 1024) : val_main_v6 (F := Ideal) A0 A1 (ix3 l i j) = grad A0 A1 l i j := by
  refine (stack_at _ _ _ l i j).trans ?_
  rw [sum0, sum1]
  rfl

theorem ref7 (l : Fin 2) (i : Fin 128) (j : Fin 1024) : val_main_v11 (F := Ideal) A0 A1 A3 (ix3 l i j) = nm (A3 (ix3 l i j)) (grad A0 A1 l i j) := by
  rw [← ref5]
  pointwise [val_main_v11, val_main_v10, val_main_v9, val_main_v8, val_main_v7, val_main_cst_1, val_main_cst_2, nm]

theorem ref8 (l : Fin 2) (i : Fin 128) (j : Fin 1024) : val_main_v17 (F := Ideal) A0 A1 A4 (ix3 l i j) = nv (A4 (ix3 l i j)) (grad A0 A1 l i j) := by
  rw [← ref5]
  pointwise [val_main_v17, val_main_v16, val_main_v15, val_main_v14, val_main_v13, val_main_v12, val_main_cst_3, val_main_cst_4, nv]

theorem ref6 (l : Fin 2) (i : Fin 128) (j : Fin 1024) : val_main_v30 (F := Ideal) A0 A1 A2 A3 A4 (ix3 l i j) =
    delta (A2 (ix3 l i j)) (A3 (ix3 l i j)) (A4 (ix3 l i j)) (grad A0 A1 l i j) := by
  unfold delta
  rw [← ref7, ← ref8]
  pointwise [val_main_v30, val_main_v29, val_main_v28, val_main_v27, val_main_v26, val_main_v25, val_main_v24, val_main_v23, val_main_v22, val_main_v21, val_main_v20, val_main_v19, val_main_v18, val_main_cst_5, val_main_cst_6, val_main_cst_7, val_main_cst_8, val_main_cst_9]

end Cert.AWo

end
-- ==== Proof.AdamWo.Claims.lean ====
/-
  The optimiser's step of w_o: the reference's frame, and that both programs end with the same arrays.
-/
module

public import proofs.«01_k».proof.Defs
public import proofs.«01_k».proof.Proof.AdamWo.Point
public import proofs.«01_k».proof.Proof.AdamWo.Ref
public import proofs.«01_k».proof.Proof.Gen.AdamWoIdeal.Value
public import proofs.«01_k».proof.Proof.Gen.AdamWoRefIdeal
public import Idealize.ShloMosaic.Lib.Quiescent

@[expose] public section

set_option maxRecDepth 16384

noncomputable section

namespace Cert.AWo

open Idealize.ShloMosaic Idealize.ShloMosaic.TcCoe Idealize.SL.Sem

/-- The reference runs, its arguments are unchanged and its counters end at zero: it has none. -/
theorem frame_ref : Cert.quiescent_AdamWoRefIdeal (hAdamWoRefIdeal := Cert.AdamWoRefIdeal.Gen.facts) := fun m ρ _ =>
  (θ_run (Cert.AdamWoRefIdeal.defs (F := Ideal)) _ _).mono
    (fun r h => ⟨fun c => (h c).2.2.2.2, Idealize.ShloMosaic.sem_eq_zero_of_no_sems (by decide) r.2⟩)
    (Cert.AdamWoRefIdeal.Value.run (F := Ideal) m ρ)

section
variable (m : (ℓ : Loc Cert.AdamWoIdeal.nD Cert.AdamWoIdeal.τ Cert.AdamWoIdeal.sig) → Buf (Elt Ideal) ℓ) (c : Dev Cert.AdamWoIdeal.nD)
open Cert.AdamWoRefIdeal.Read Cert.AdamWoIdeal Cert.AdamWoIdeal.Gen

/-- The arrays the kernel leaves are the reference's, of the same arguments. -/
theorem eq5 : (dats m 0 c).arrAt 5 cfg0.N = val_main_v6 (F := Ideal) (B0 m c) (B1 m c) := by
  funext i
  idx_vars i
  exact (final5 m c i0 i1 i2).trans (ref5 _ _ i0 i1 i2).symm

theorem eq6 : (dats m 0 c).arrAt 6 cfg0.N = val_main_v30 (F := Ideal) (B0 m c) (B1 m c) (B2 m c) (B3 m c) (B4 m c) := by
  funext i
  idx_vars i
  exact (final6 m c i0 i1 i2).trans (ref6 _ _ _ _ _ i0 i1 i2).symm

theorem eq7 : (dats m 0 c).arrAt 7 cfg0.N = val_main_v11 (F := Ideal) (B0 m c) (B1 m c) (B3 m c) := by
  funext i
  idx_vars i
  exact (final7 m c i0 i1 i2).trans (ref7 _ _ _ i0 i1 i2).symm

theorem eq8 : (dats m 0 c).arrAt 8 cfg0.N = val_main_v17 (F := Ideal) (B0 m c) (B1 m c) (B4 m c) := by
  funext i
  idx_vars i
  exact (final8 m c i0 i1 i2).trans (ref8 _ _ _ i0 i1 i2).symm

end

/-- From equal arguments both programs end with the same arrays. -/
theorem algebraic : Cert.algebraic_AdamWoIdeal_AdamWoRefIdeal (hAdamWoIdeal := Cert.AdamWoIdeal.Gen.facts)
    (hAdamWoRefIdeal := Cert.AdamWoRefIdeal.Gen.facts) := by
  intro m g m' g' _ ha
  refine ⟨_, _, _, _, Cert.AdamWoIdeal.Value.run_blocks (F := Ideal) m g, ?_⟩
  refine (θ_run (Cert.AdamWoRefIdeal.defs (F := Ideal)) _ _).mono (fun r h c => ?_) (Cert.AdamWoRefIdeal.Value.run (F := Ideal) m' g')
  obtain ⟨h5, h6, h7, h8, hk⟩ := h c
  obtain ⟨a0, a1, a2, a3, a4⟩ := ha c
  rw [Cert.AdamWoRefIdeal.Read.val_main_v6_eq, a0, a1] at h5
  rw [Cert.AdamWoRefIdeal.Read.val_main_v30_eq, a0, a1, a2, a3, a4] at h6
  rw [Cert.AdamWoRefIdeal.Read.val_main_v11_eq, a0, a1, a3] at h7
  rw [Cert.AdamWoRefIdeal.Read.val_main_v17_eq, a0, a1, a4] at h8
  exact ⟨h5.trans (eq5 m c).symm, h6.trans (eq6 m c).symm, h7.trans (eq7 m c).symm, h8.trans (eq8 m c).symm, hk⟩

end Cert.AWo

end
-- ==== Proof.AdamConv.Body.lean ====
/-
  The optimiser's step of conv_w: what the kernel's body computes from one block, payload by payload, read at an index.
-/
module

public import proofs.«01_k».proof.Proof.Adam.Spec
public import proofs.«01_k».proof.Proof.Gen.AdamConvIdeal.Frame
public import Idealize.ShloMosaic.Lib.Pipeline.ValueKit
public import Idealize.ShloMosaic.Lib.Pipeline.ReadBack

@[expose] public section

set_option maxRecDepth 16384

noncomputable section

namespace Cert.AConv

open Idealize.ShloMosaic Cert.AdamConvIdeal Cert.AdamConvIdeal.Gen Cert.Adam

variable (i : grid0.Coords) (x0 x1 : FVec Ideal S8x3x704 .f32) (x2 x3 x4 : FVec Ideal S1x3x704 .f32)

/-- The block's gradient: the sum of one of the two windows, by the point's layer. -/
def bg (r : Fin 3) (q : Fin 704) : EReal :=
  if Scalar.cmpi .eq (BitVec.ofNat 32 (i 0).val) 0#32 = 1#1 then total x0 r q else total x1 r q

theorem grad_at (r : Fin 3) (q : Fin 704) : k0_pay16 (F := Ideal) i x0 x1 x2 x3 x4 (ix2 r q) = bg i x0 x1 r q := by
  unfold bg total
  rw [Fin.sum_univ_eight, Fin.sum_univ_eight]
  pointwise [k0_pay16, k0_pay15, k0_pay14, k0_pay9, k0_pay8, k0_pay7]
  rfl

theorem v_at (r : Fin 3) (q : Fin 704) : k0_pay17 (F := Ideal) i x0 x1 x2 x3 x4 (ix2 r q) = x4 (ix3 0 r q) := by
  pointwise [k0_pay17, k0_pay11]

theorem m_at (r : Fin 3) (q : Fin 704) : k0_pay18 (F := Ideal) i x0 x1 x2 x3 x4 (ix2 r q) = lit 0x3F666666#32 * x3 (ix3 0 r q) := by
  pointwise [k0_pay18, k0_pay12]

theorem g_at (r : Fin 3) (q : Fin 704) : k0_pay19 (F := Ideal) i x0 x1 x2 x3 x4 (ix2 r q) = lit 0x3DCCCCCD#32 * bg i x0 x1 r q := by
  rw [← grad_at i x0 x1 x2 x3 x4]
  unfold k0_pay16
  pointwise [k0_pay19, k0_pay13]

theorem out5 (r : Fin 3) (q : Fin 704) : out0_5 (F := Ideal) i x0 x1 x2 x3 x4 (ix3 0 r q) = bg i x0 x1 r q := by
  rw [← grad_at i x0 x1 x2 x3 x4]
  frame_out
  pointwise [k0_pay3]

theorem out6 (r : Fin 3) (q : Fin 704) : out0_6 (F := Ideal) i x0 x1 x2 x3 x4 (ix3 0 r q) =
    delta (x2 (ix3 0 r q)) (x3 (ix3 0 r q)) (x4 (ix3 0 r q)) (bg i x0 x1 r q) := by
  unfold delta nm nv
  rw [← g_at i x0 x1 x2 x3 x4, ← m_at i x0 x1 x2 x3 x4, ← v_at i x0 x1 x2 x3 x4, ← grad_at i x0 x1 x2 x3 x4]
  frame_out
  pointwise [k0_pay4, k0_pay10, k0_pay1, k0_pay2]

theorem out7 (r : Fin 3) (q : Fin 704) : out0_7 (F := Ideal) i x0 x1 x2 x3 x4 (ix3 0 r q) = nm (x3 (ix3 0 r q)) (bg i x0 x1 r q) := by
  unfold nm
  rw [← g_at i x0 x1 x2 x3 x4, ← m_at i x0 x1 x2 x3 x4]
  frame_out
  pointwise [k0_pay5, k0_pay1]

theorem out8 (r : Fin 3) (q : Fin 704) : out0_8 (F := Ideal) i x0 x1 x2 x3 x4 (ix3 0 r q) = nv (x4 (ix3 0 r q)) (bg i x0 x1 r q) := by
  unfold nv
  rw [← v_at i x0 x1 x2 x3 x4, ← grad_at i x0 x1 x2 x3 x4]
  frame_out
  pointwise [k0_pay6, k0_pay2]

end Cert.AConv

end
-- ==== Proof.AdamConv.Point.lean ====
/-
  The blocks a grid point reads and writes, as places in the arrays, and the arrays the kernel leaves.
-/
module

public import proofs.«01_k».proof.Proof.AdamConv.Body

@[expose] public section

set_option maxRecDepth 16384

noncomputable section

namespace Cert.AConv

open Idealize.ShloMosaic Idealize.ShloMosaic.TcCoe Cert.AdamConvIdeal Cert.AdamConvIdeal.Gen Cert.Adam

/-- Where each window's block lies at a point: the layers one after the other, a layer by its rows. A layer's parts are fetched
    at the points of that layer. -/
theorem idx : ∀ t : Fin cfg0.N, (t.val / 1 = 0 → win0_0.index t = ![0, t.val % 1, 0]) ∧ (t.val / 1 ≠ 0 → win0_1.index t = ![0, t.val % 1, 0]) ∧
    win0_2.index t = ![t.val / 1, t.val % 1, 0] ∧ win0_3.index t = ![t.val / 1, t.val % 1, 0] ∧
    win0_4.index t = ![t.val / 1, t.val % 1, 0] ∧ win0_5.index t = ![t.val / 1, t.val % 1, 0] ∧
    win0_6.index t = ![t.val / 1, t.val % 1, 0] ∧ win0_7.index t = ![t.val / 1, t.val % 1, 0] ∧
    win0_8.index t = ![t.val / 1, t.val % 1, 0] :=
  (by decide +kernel : ∀ t : Fin grid0.N, _)

theorem layer : ∀ t : Fin cfg0.N, (Scalar.cmpi .eq (BitVec.ofNat 32 (grid0.coords t 0).val) 0#32 = 1#1 ↔ t.val / 1 = 0) :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x3x704 .f32 := m ((c : Thread nD τ).loc main_arg0)
abbrev B1 : FVec Ideal S8x3x704 .f32 := m ((c : Thread nD τ).loc main_arg1)
abbrev B2 : FVec Ideal S2x3x704 .f32 := m ((c : Thread nD τ).loc main_arg2)
abbrev B3 : FVec Ideal S2x3x704 .f32 := m ((c : Thread nD τ).loc main_arg3)
abbrev B4 : FVec Ideal S2x3x704 .f32 := m ((c : Thread nD τ).loc main_arg4)

theorem ltN : t.val < 2 := t.isLt

/-- A point's layer, and row `r` of its block. -/
def lay (t : Fin cfg0.N) : Fin 2 := ⟨t.val / 1, by have := ltN t; omega⟩
def row (t : Fin cfg0.N) (r : Fin 3) : Fin 3 := ⟨t.val % 1 * 3 + r, by have := ltN t; omega⟩

theorem blk0 (h : t.val / 1 = 0) (d : Fin 8) (r : Fin 3) (q : Fin 704) : iblk m c 0 t (ix3 d r q) = B0 m c (ix3 d (row t r) q) := by
  blk_point [iblk, V, row, (idx t).1 h]

theorem blk1 (h : t.val / 1 ≠ 0) (d : Fin 8) (r : Fin 3) (q : Fin 704) : iblk m c 1 t (ix3 d r q) = B1 m c (ix3 d (row t r) q) := by
  blk_point [iblk, V, row, (idx t).2.1 h]

theorem blk2 (r : Fin 3) (q : Fin 704) : iblk m c 2 t (ix3 0 r q) = B2 m c (ix3 (lay t) (row t r) q) := by
  blk_point [iblk, V, row, lay, (idx t).2.2]

theorem blk3 (r : Fin 3) (q : Fin 704) : iblk m c 3 t (ix3 0 r q) = B3 m c (ix3 (lay t) (row t r) q) := by
  blk_point [iblk, V, row, lay, (idx t).2.2]

theorem blk4 (r : Fin 3) (q : Fin 704) : iblk m c 4 t (ix3 0 r q) = B4 m c (ix3 (lay t) (row t r) q) := by
  blk_point [iblk, V, row, lay, (idx t).2.2]

theorem bg_eq (r : Fin 3) (q : Fin 704) : bg (grid0.coords t) (iblk m c 0 t) (iblk m c 1 t) r q = grad (B0 m c) (B1 m c) (lay t) (row t r) q := by
  unfold bg grad total
  by_cases h : t.val / 1 = 0
  · rw [if_pos ((layer t).2 h), if_pos (show (lay t).val = 0 from h)]
    exact Finset.sum_congr rfl fun d _ => blk0 m c t h d r q
  · rw [if_neg (fun e => h ((layer t).1 e)), if_neg (show ¬ (lay t).val = 0 from h)]
    exact Finset.sum_congr rfl fun d _ => blk1 m c t h d r q

/-- The four arrays at a place: the gradient, the change of the parameter and the new moments. -/
def G (l : Fin 2) (i : Fin 3) (j : Fin 704) : EReal := grad (B0 m c) (B1 m c) l i j
def D (l : Fin 2) (i : Fin 3) (j : Fin 704) : EReal := delta (B2 m c (ix3 l i j)) (B3 m c (ix3 l i j)) (B4 m c (ix3 l i j)) (grad (B0 m c) (B1 m c) l i j)
def NM (l : Fin 2) (i : Fin 3) (j : Fin 704) : EReal := nm (B3 m c (ix3 l i j)) (grad (B0 m c) (B1 m c) l i j)
def NV (l : Fin 2) (i : Fin 3) (j : Fin 704) : EReal := nv (B4 m c (ix3 l i j)) (grad (B0 m c) (B1 m c) l i j)

theorem at5 (r : Fin 3) (q : Fin 704) :
    out0_5 (grid0.coords t) (iblk m c 0 t) (iblk m c 1 t) (iblk m c 2 t) (iblk m c 3 t) (iblk m c 4 t) (ix3 0 r q) = G m c (lay t) (row t r) q := by
  rw [out5, bg_eq]
  rfl

theorem final5 (l : Fin 2) (i : Fin 3) (j : Fin 704) : (dats m 0 c).arrAt 5 cfg0.N (ix3 l i j) = G m c l i j := by
  have e : (dats m 0 c).arrAt 5 cfg0.N = (fun i : S2x3x704.Idx => G m c (i 0) (i 1) (i 2)) := by
    refine (dats m 0 c).arrAt_eq_of_covers 5 _ (by decide +kernel) fun t hf y => ?_
    blk_simp
    rw [after0_5]
    idx_vars y
    obtain rfl : y0 = 0 := Subsingleton.elim _ _
    rw [at5]
    have e3 : ∀ (a a' : Fin 2) (b b' : Fin 3) (d d' : Fin 704), a = a' → b = b' → d = d' → G m c a b d = G m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at6 (r : Fin 3) (q : Fin 704) :
    out0_6 (grid0.coords t) (iblk m c 0 t) (iblk m c 1 t) (iblk m c 2 t) (iblk m c 3 t) (iblk m c 4 t) (ix3 0 r q) = D m c (lay t) (row t r) q := by
  rw [out6, bg_eq, blk2, blk3, blk4]
  rfl

theorem final6 (l : Fin 2) (i : Fin 3) (j : Fin 704) : (dats m 0 c).arrAt 6 cfg0.N (ix3 l i j) = D m c l i j := by
  have e : (dats m 0 c).arrAt 6 cfg0.N = (fun i : S2x3x704.Idx => D m c (i 0) (i 1) (i 2)) := by
    refine (dats m 0 c).arrAt_eq_of_covers 6 _ (by decide +kernel) fun t hf y => ?_
    blk_simp
    rw [after0_6]
    idx_vars y
    obtain rfl : y0 = 0 := Subsingleton.elim _ _
    rw [at6]
    have e3 : ∀ (a a' : Fin 2) (b b' : Fin 3) (d d' : Fin 704), a = a' → b = b' → d = d' → D m c a b d = D m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at7 (r : Fin 3) (q : Fin 704) :
    out0_7 (grid0.coords t) (iblk m c 0 t) (iblk m c 1 t) (iblk m c 2 t) (iblk m c 3 t) (iblk m c 4 t) (ix3 0 r q) = NM m c (lay t) (row t r) q := by
  rw [out7, bg_eq, blk3]
  rfl

theorem final7 (l : Fin 2) (i : Fin 3) (j : Fin 704) : (dats m 0 c).arrAt 7 cfg0.N (ix3 l i j) = NM m c l i j := by
  have e : (dats m 0 c).arrAt 7 cfg0.N = (fun i : S2x3x704.Idx => NM m c (i 0) (i 1) (i 2)) := by
    refine (dats m 0 c).arrAt_eq_of_covers 7 _ (by decide +kernel) fun t hf y => ?_
    blk_simp
    rw [after0_7]
    idx_vars y
    obtain rfl : y0 = 0 := Subsingleton.elim _ _
    rw [at7]
    have e3 : ∀ (a a' : Fin 2) (b b' : Fin 3) (d d' : Fin 704), a = a' → b = b' → d = d' → NM m c a b d = NM m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at8 (r : Fin 3) (q : Fin 704) :
    out0_8 (grid0.coords t) (iblk m c 0 t) (iblk m c 1 t) (iblk m c 2 t) (iblk m c 3 t) (iblk m c 4 t) (ix3 0 r q) = NV m c (lay t) (row t r) q := by
  rw [out8, bg_eq, blk4]
  rfl

theorem final8 (l : Fin 2) (i : Fin 3) (j : Fin 704) : (dats m 0 c).arrAt 8 cfg0.N (ix3 l i j) = NV m c l i j := by
  have e : (dats m 0 c).arrAt 8 cfg0.N = (fun i : S2x3x704.Idx => NV m c (i 0) (i 1) (i 2)) := by
    refine (dats m 0 c).arrAt_eq_of_covers 8 _ (by decide +kernel) fun t hf y => ?_
    blk_simp
    rw [after0_8]
    idx_vars y
    obtain rfl : y0 = 0 := Subsingleton.elim _ _
    rw [at8]
    have e3 : ∀ (a a' : Fin 2) (b b' : Fin 3) (d d' : Fin 704), a = a' → b = b' → d = d' → NV m c a b d = NV m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

end Cert.AConv

end
-- ==== Proof.AdamConv.Ref.lean ====
/-
  The reference's results, read at an index: the formulas of `Adam/Spec.lean`.
-/
module

public import proofs.«01_k».proof.Proof.Adam.Spec
public import proofs.«01_k».proof.Proof.Adam.Stack
public import proofs.«01_k».proof.Proof.Gen.AdamConvRefIdeal.Read
public import Idealize.ShloMosaic.Lib.Pipeline.ValueKit

@[expose] public section

set_option maxRecDepth 16384

noncomputable section

namespace Cert.AConv

open Idealize.ShloMosaic Cert.AdamConvRefIdeal Cert.AdamConvRefIdeal.Gen Cert.AdamConvRefIdeal.Read Cert.Adam

variable (A0 A1 : FVec Ideal S8x3x704 .f32) (A2 A3 A4 : FVec Ideal S2x3x704 .f32)

theorem sum0 (z : Fin 1) (i : Fin 3) (j : Fin 704) : val_main_v2 (F := Ideal) A0 (ix3 z i j) = total A0 i j := by
  pointwise [val_main_v2, val_main_v0, val_main_cst, total]

theorem sum1 (z : Fin 1) (i : Fin 3) (j : Fin 704) : val_main_v3 (F := Ideal) A1 (ix3 z i j) = total A1 i j := by
  pointwise [val_main_v3, val_main_v1, val_main_cst_0, total]

theorem ref5 (l : Fin 2) (i : Fin 3) (j : Fin 704) : val_main_v4 (F := Ideal) A0 A1 (ix3 l i j) = grad A0 A1 l i j := by
  refine (stack_at _ _ _ l i j).trans ?_
  rw [sum0, sum1]
  rfl

theorem ref7 (l : Fin 2) (i : Fin 3) (j : Fin 704) : val_main_v9 (F := Ideal) A0 A1 A3 (ix3 l i j) = nm (A3 (ix3 l i j)) (grad A0 A1 l i j) := by
  rw [← ref5]
  pointwise [val_main_v9, val_main_v8, val_main_v7, val_main_v6, val_main_v5, val_main_cst_1, val_main_cst_2, nm]

theorem ref8 (l : Fin 2) (i : Fin 3) (j : Fin 704) : val_main_v15 (F := Ideal) A0 A1 A4 (ix3 l i j) = nv (A4 (ix3 l i j)) (grad A0 A1 l i j) := by
  rw [← ref5]
  pointwise [val_main_v15, val_main_v14, val_main_v13, val_main_v12, val_main_v11, val_main_v10, val_main_cst_3, val_main_cst_4, nv]

theorem ref6 (l : Fin 2) (i : Fin 3) (j : Fin 704) : val_main_v28 (F := Ideal) A0 A1 A2 A3 A4 (ix3 l i j) =
    delta (A2 (ix3 l i j)) (A3 (ix3 l i j)) (A4 (ix3 l i j)) (grad A0 A1 l i j) := by
  unfold delta
  rw [← ref7, ← ref8]
  pointwise [val_main_v28, val_main_v27, val_main_v26, val_main_v25, val_main_v24, val_main_v23, val_main_v22, val_main_v21, val_main_v20, val_main_v19, val_main_v18, val_main_v17, val_main_v16, val_main_cst_5, val_main_cst_6, val_main_cst_7, val_main_cst_8, val_main_cst_9]

end Cert.AConv

end
-- ==== Proof.AdamConv.Claims.lean ====
/-
  The optimiser's step of conv_w: the reference's frame, and that both programs end with the same arrays.
-/
module

public import proofs.«01_k».proof.Defs
public import proofs.«01_k».proof.Proof.AdamConv.Point
public import proofs.«01_k».proof.Proof.AdamConv.Ref
public import proofs.«01_k».proof.Proof.Gen.AdamConvIdeal.Value
public import proofs.«01_k».proof.Proof.Gen.AdamConvRefIdeal
public import Idealize.ShloMosaic.Lib.Quiescent

@[expose] public section

set_option maxRecDepth 16384

noncomputable section

namespace Cert.AConv

open Idealize.ShloMosaic Idealize.ShloMosaic.TcCoe Idealize.SL.Sem

/-- The reference runs, its arguments are unchanged and its counters end at zero: it has none. -/
theorem frame_ref : Cert.quiescent_AdamConvRefIdeal (hAdamConvRefIdeal := Cert.AdamConvRefIdeal.Gen.facts) := fun m ρ _ =>
  (θ_run (Cert.AdamConvRefIdeal.defs (F := Ideal)) _ _).mono
    (fun r h => ⟨fun c => (h c).2.2.2.2, Idealize.ShloMosaic.sem_eq_zero_of_no_sems (by decide) r.2⟩)
    (Cert.AdamConvRefIdeal.Value.run (F := Ideal) m ρ)

section
variable (m : (ℓ : Loc Cert.AdamConvIdeal.nD Cert.AdamConvIdeal.τ Cert.AdamConvIdeal.sig) → Buf (Elt Ideal) ℓ) (c : Dev Cert.AdamConvIdeal.nD)
open Cert.AdamConvRefIdeal.Read Cert.AdamConvIdeal Cert.AdamConvIdeal.Gen

/-- The arrays the kernel leaves are the reference's, of the same arguments. -/
theorem eq5 : (dats m 0 c).arrAt 5 cfg0.N = val_main_v4 (F := Ideal) (B0 m c) (B1 m c) := by
  funext i
  idx_vars i
  exact (final5 m c i0 i1 i2).trans (ref5 _ _ i0 i1 i2).symm

theorem eq6 : (dats m 0 c).arrAt 6 cfg0.N = val_main_v28 (F := Ideal) (B0 m c) (B1 m c) (B2 m c) (B3 m c) (B4 m c) := by
  funext i
  idx_vars i
  exact (final6 m c i0 i1 i2).trans (ref6 _ _ _ _ _ i0 i1 i2).symm

theorem eq7 : (dats m 0 c).arrAt 7 cfg0.N = val_main_v9 (F := Ideal) (B0 m c) (B1 m c) (B3 m c) := by
  funext i
  idx_vars i
  exact (final7 m c i0 i1 i2).trans (ref7 _ _ _ i0 i1 i2).symm

theorem eq8 : (dats m 0 c).arrAt 8 cfg0.N = val_main_v15 (F := Ideal) (B0 m c) (B1 m c) (B4 m c) := by
  funext i
  idx_vars i
  exact (final8 m c i0 i1 i2).trans (ref8 _ _ _ i0 i1 i2).symm

end

/-- From equal arguments both programs end with the same arrays. -/
theorem algebraic : Cert.algebraic_AdamConvIdeal_AdamConvRefIdeal (hAdamConvIdeal := Cert.AdamConvIdeal.Gen.facts)
    (hAdamConvRefIdeal := Cert.AdamConvRefIdeal.Gen.facts) := by
  intro m g m' g' _ ha
  refine ⟨_, _, _, _, Cert.AdamConvIdeal.Value.run_blocks (F := Ideal) m g, ?_⟩
  refine (θ_run (Cert.AdamConvRefIdeal.defs (F := Ideal)) _ _).mono (fun r h c => ?_) (Cert.AdamConvRefIdeal.Value.run (F := Ideal) m' g')
  obtain ⟨h5, h6, h7, h8, hk⟩ := h c
  obtain ⟨a0, a1, a2, a3, a4⟩ := ha c
  rw [Cert.AdamConvRefIdeal.Read.val_main_v4_eq, a0, a1] at h5
  rw [Cert.AdamConvRefIdeal.Read.val_main_v28_eq, a0, a1, a2, a3, a4] at h6
  rw [Cert.AdamConvRefIdeal.Read.val_main_v9_eq, a0, a1, a3] at h7
  rw [Cert.AdamConvRefIdeal.Read.val_main_v15_eq, a0, a1, a4] at h8
  exact ⟨h5.trans (eq5 m c).symm, h6.trans (eq6 m c).symm, h7.trans (eq7 m c).symm, h8.trans (eq8 m c).symm, hk⟩

end Cert.AConv

end
-- ==== Proof.AdamDown.Body.lean ====
/-
  The optimiser's step of w_down: what the kernel's body computes from one block, payload by payload, read at an index.
-/
module

public import proofs.«01_k».proof.Proof.Adam.Spec
public import proofs.«01_k».proof.Proof.Gen.AdamDownIdeal.Frame
public import Idealize.ShloMosaic.Lib.Pipeline.ValueKit
public import Idealize.ShloMosaic.Lib.Pipeline.ReadBack

@[expose] public section

set_option maxRecDepth 16384

noncomputable section

namespace Cert.ADown

open Idealize.ShloMosaic Cert.AdamDownIdeal Cert.AdamDownIdeal.Gen Cert.Adam

variable (i : grid0.Coords) (x0 x1 : FVec Ideal S8x176x1024 .bf16) (x2 x3 x4 : FVec Ideal S1x176x1024 .f32)

/-- The block's gradient: the sum of one of the two windows, by the point's layer. -/
def bg (r : Fin 176) (q : Fin 1024) : EReal :=
  if Scalar.cmpi .eq (BitVec.ofNat 32 (i 0).val) 0#32 = 1#1 then total x0 r q else total x1 r q

theorem grad_at (r : Fin 176) (q : Fin 1024) : k0_pay10 (F := Ideal) i x0 x1 x2 x3 x4 (ix2 r q) = bg i x0 x1 r q := by
  unfold bg total
  rw [Fin.sum_univ_eight, Fin.sum_univ_eight]
  pointwise [k0_pay10, k0_pay4, k0_pay3]
  rfl

theorem out5 (r : Fin 176) (q : Fin 1024) : out0_5 (F := Ideal) i x0 x1 x2 x3 x4 (ix3 0 r q) = bg i x0 x1 r q := by
  rw [← grad_at i x0 x1 x2 x3 x4]
  frame_out
  pointwise [k0_pay8]

theorem out6 (r : Fin 176) (q : Fin 1024) : out0_6 (F := Ideal) i x0 x1 x2 x3 x4 (ix3 0 r q) = delta (x2 (ix3 0 r q)) (x3 (ix3 0 r q)) (x4 (ix3 0 r q)) (bg i x0 x1 r q) := by
  rw [← grad_at i x0 x1 x2 x3 x4]
  frame_out
  pointwise [k0_pay9, k0_pay5, k0_pay6, k0_pay7, delta, nm, nv]

theorem out7 (r : Fin 176) (q : Fin 1024) : out0_7 (F := Ideal) i x0 x1 x2 x3 x4 (ix3 0 r q) = nm (x3 (ix3 0 r q)) (bg i x0 x1 r q) := by
  rw [← grad_at i x0 x1 x2 x3 x4]
  frame_out
  pointwise [k0_pay1, k0_pay6, nm]

theorem out8 (r : Fin 176) (q : Fin 1024) : out0_8 (F := Ideal) i x0 x1 x2 x3 x4 (ix3 0 r q) = nv (x4 (ix3 0 r q)) (bg i x0 x1 r q) := by
  rw [← grad_at i x0 x1 x2 x3 x4]
  frame_out
  pointwise [k0_pay2, k0_pay7, nv]

end Cert.ADown

end
-- ==== Proof.AdamDown.Point.lean ====
/-
  The blocks a grid point reads and writes, as places in the arrays, and the arrays the kernel leaves.
-/
module

public import proofs.«01_k».proof.Proof.AdamDown.Body

@[expose] public section

set_option maxRecDepth 16384

noncomputable section

namespace Cert.ADown

open Idealize.ShloMosaic Idealize.ShloMosaic.TcCoe Cert.AdamDownIdeal Cert.AdamDownIdeal.Gen Cert.Adam

/-- Where each window's block lies at a point: the layers one after the other, a layer by its rows. A layer's parts are fetched
    at the points of that layer. -/
theorem idx : ∀ t : Fin cfg0.N, (t.val / 2 = 0 → win0_0.index t = ![0, t.val % 2, 0]) ∧ (t.val / 2 ≠ 0 → win0_1.index t = ![0, t.val % 2, 0]) ∧
    win0_2.index t = ![t.val / 2, t.val % 2, 0] ∧ win0_3.index t = ![t.val / 2, t.val % 2, 0] ∧
    win0_4.index t = ![t.val / 2, t.val % 2, 0] ∧ win0_5.index t = ![t.val / 2, t.val % 2, 0] ∧
    win0_6.index t = ![t.val / 2, t.val % 2, 0] ∧ win0_7.index t = ![t.val / 2, t.val % 2, 0] ∧
    win0_8.index t = ![t.val / 2, t.val % 2, 0] :=
  (by decide +kernel : ∀ t : Fin grid0.N, _)

theorem layer : ∀ t : Fin cfg0.N, (Scalar.cmpi .eq (BitVec.ofNat 32 (grid0.coords t 0).val) 0#32 = 1#1 ↔ t.val / 2 = 0) :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x352x1024 .bf16 := m ((c : Thread nD τ).loc main_arg0)
abbrev B1 : FVec Ideal S8x352x1024 .bf16 := m ((c : Thread nD τ).loc main_arg1)
abbrev B2 : FVec Ideal S2x352x1024 .f32 := m ((c : Thread nD τ).loc main_arg2)
abbrev B3 : FVec Ideal S2x352x1024 .f32 := m ((c : Thread nD τ).loc main_arg3)
abbrev B4 : FVec Ideal S2x352x1024 .f32 := m ((c : Thread nD τ).loc main_arg4)

theorem ltN : t.val < 4 := t.isLt

/-- A point's layer, and row `r` of its block. -/
def lay (t : Fin cfg0.N) : Fin 2 := ⟨t.val / 2, by have := ltN t; omega⟩
def row (t : Fin cfg0.N) (r : Fin 176) : Fin 352 := ⟨t.val % 2 * 176 + r, by have := ltN t; omega⟩

theorem blk0 (h : t.val / 2 = 0) (d : Fin 8) (r : Fin 176) (q : Fin 1024) : iblk m c 0 t (ix3 d r q) = B0 m c (ix3 d (row t r) q) := by
  blk_point [iblk, V, row, (idx t).1 h]

theorem blk1 (h : t.val / 2 ≠ 0) (d : Fin 8) (r : Fin 176) (q : Fin 1024) : iblk m c 1 t (ix3 d r q) = B1 m c (ix3 d (row t r) q) := by
  blk_point [iblk, V, row, (idx t).2.1 h]

theorem blk2 (r : Fin 176) (q : Fin 1024) : iblk m c 2 t (ix3 0 r q) = B2 m c (ix3 (lay t) (row t r) q) := by
  blk_point [iblk, V, row, lay, (idx t).2.2]

theorem blk3 (r : Fin 176) (q : Fin 1024) : iblk m c 3 t (ix3 0 r q) = B3 m c (ix3 (lay t) (row t r) q) := by
  blk_point [iblk, V, row, lay, (idx t).2.2]

theorem blk4 (r : Fin 176) (q : Fin 1024) : iblk m c 4 t (ix3 0 r q) = B4 m c (ix3 (lay t) (row t r) q) := by
  blk_point [iblk, V, row, lay, (idx t).2.2]

theorem bg_eq (r : Fin 176) (q : Fin 1024) : bg (grid0.coords t) (iblk m c 0 t) (iblk m c 1 t) r q = grad (B0 m c) (B1 m c) (lay t) (row t r) q := by
  unfold bg grad total
  by_cases h : t.val / 2 = 0
  · rw [if_pos ((layer t).2 h), if_pos (show (lay t).val = 0 from h)]
    exact Finset.sum_congr rfl fun d _ => blk0 m c t h d r q
  · rw [if_neg (fun e => h ((layer t).1 e)), if_neg (show ¬ (lay t).val = 0 from h)]
    exact Finset.sum_congr rfl fun d _ => blk1 m c t h d r q

/-- The four arrays at a place: the gradient, the change of the parameter and the new moments. -/
def G (l : Fin 2) (i : Fin 352) (j : Fin 1024) : EReal := grad (B0 m c) (B1 m c) l i j
def D (l : Fin 2) (i : Fin 352) (j : Fin 1024) : EReal := delta (B2 m c (ix3 l i j)) (B3 m c (ix3 l i j)) (B4 m c (ix3 l i j)) (grad (B0 m c) (B1 m c) l i j)
def NM (l : Fin 2) (i : Fin 352) (j : Fin 1024) : EReal := nm (B3 m c (ix3 l i j)) (grad (B0 m c) (B1 m c) l i j)
def NV (l : Fin 2) (i : Fin 352) (j : Fin 1024) : EReal := nv (B4 m c (ix3 l i j)) (grad (B0 m c) (B1 m c) l i j)

theorem at5 (r : Fin 176) (q : Fin 1024) :
    out0_5 (grid0.coords t) (iblk m c 0 t) (iblk m c 1 t) (iblk m c 2 t) (iblk m c 3 t) (iblk m c 4 t) (ix3 0 r q) = G m c (lay t) (row t r) q := by
  rw [out5, bg_eq]
  rfl

theorem final5 (l : Fin 2) (i : Fin 352) (j : Fin 1024) : (dats m 0 c).arrAt 5 cfg0.N (ix3 l i j) = G m c l i j := by
  have e : (dats m 0 c).arrAt 5 cfg0.N = (fun i : S2x352x1024.Idx => G m c (i 0) (i 1) (i 2)) := by
    refine (dats m 0 c).arrAt_eq_of_covers 5 _ (by decide +kernel) fun t hf y => ?_
    blk_simp
    rw [after0_5]
    idx_vars y
    obtain rfl : y0 = 0 := Subsingleton.elim _ _
    rw [at5]
    have e3 : ∀ (a a' : Fin 2) (b b' : Fin 352) (d d' : Fin 1024), a = a' → b = b' → d = d' → G m c a b d = G m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at6 (r : Fin 176) (q : Fin 1024) :
    out0_6 (grid0.coords t) (iblk m c 0 t) (iblk m c 1 t) (iblk m c 2 t) (iblk m c 3 t) (iblk m c 4 t) (ix3 0 r q) = D m c (lay t) (row t r) q := by
  rw [out6, bg_eq, blk2, blk3, blk4]
  rfl

theorem final6 (l : Fin 2) (i : Fin 352) (j : Fin 1024) : (dats m 0 c).arrAt 6 cfg0.N (ix3 l i j) = D m c l i j := by
  have e : (dats m 0 c).arrAt 6 cfg0.N = (fun i : S2x352x1024.Idx => D m c (i 0) (i 1) (i 2)) := by
    refine (dats m 0 c).arrAt_eq_of_covers 6 _ (by decide +kernel) fun t hf y => ?_
    blk_simp
    rw [after0_6]
    idx_vars y
    obtain rfl : y0 = 0 := Subsingleton.elim _ _
    rw [at6]
    have e3 : ∀ (a a' : Fin 2) (b b' : Fin 352) (d d' : Fin 1024), a = a' → b = b' → d = d' → D m c a b d = D m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at7 (r : Fin 176) (q : Fin 1024) :
    out0_7 (grid0.coords t) (iblk m c 0 t) (iblk m c 1 t) (iblk m c 2 t) (iblk m c 3 t) (iblk m c 4 t) (ix3 0 r q) = NM m c (lay t) (row t r) q := by
  rw [out7, bg_eq, blk3]
  rfl

theorem final7 (l : Fin 2) (i : Fin 352) (j : Fin 1024) : (dats m 0 c).arrAt 7 cfg0.N (ix3 l i j) = NM m c l i j := by
  have e : (dats m 0 c).arrAt 7 cfg0.N = (fun i : S2x352x1024.Idx => NM m c (i 0) (i 1) (i 2)) := by
    refine (dats m 0 c).arrAt_eq_of_covers 7 _ (by decide +kernel) fun t hf y => ?_
    blk_simp
    rw [after0_7]
    idx_vars y
    obtain rfl : y0 = 0 := Subsingleton.elim _ _
    rw [at7]
    have e3 : ∀ (a a' : Fin 2) (b b' : Fin 352) (d d' : Fin 1024), a = a' → b = b' → d = d' → NM m c a b d = NM m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

theorem at8 (r : Fin 176) (q : Fin 1024) :
    out0_8 (grid0.coords t) (iblk m c 0 t) (iblk m c 1 t) (iblk m c 2 t) (iblk m c 3 t) (iblk m c 4 t) (ix3 0 r q) = NV m c (lay t) (row t r) q := by
  rw [out8, bg_eq, blk4]
  rfl

theorem final8 (l : Fin 2) (i : Fin 352) (j : Fin 1024) : (dats m 0 c).arrAt 8 cfg0.N (ix3 l i j) = NV m c l i j := by
  have e : (dats m 0 c).arrAt 8 cfg0.N = (fun i : S2x352x1024.Idx => NV m c (i 0) (i 1) (i 2)) := by
    refine (dats m 0 c).arrAt_eq_of_covers 8 _ (by decide +kernel) fun t hf y => ?_
    blk_simp
    rw [after0_8]
    idx_vars y
    obtain rfl : y0 = 0 := Subsingleton.elim _ _
    rw [at8]
    have e3 : ∀ (a a' : Fin 2) (b b' : Fin 352) (d d' : Fin 1024), a = a' → b = b' → d = d' → NV m c a b d = NV m c a' b' d' := by
      rintro _ _ _ _ _ _ rfl rfl rfl
      rfl
    refine e3 _ _ _ _ _ _ (Fin.ext ?_) (Fin.ext ?_) (Fin.ext ?_) <;> (
      blk_simp [row, lay, (idx t).2.2]
      try first | rfl | omega)
  rw [e]
  rfl

end Cert.ADown

end
-- ==== Proof.AdamDown.Ref.lean ====
/-
  The reference's results, read at an index: the formulas of `Adam/Spec.lean`.
-/
module

public import proofs.«01_k».proof.Proof.Adam.Spec
public import proofs.«01_k».proof.Proof.Adam.Stack
public import proofs.«01_k».proof.Proof.Gen.AdamDownRefIdeal.Read
public import Idealize.ShloMosaic.Lib.Pipeline.ValueKit

@[expose] public section

set_option maxRecDepth 16384

noncomputable section

namespace Cert.ADown

open Idealize.ShloMosaic Cert.AdamDownRefIdeal Cert.AdamDownRefIdeal.Gen Cert.AdamDownRefIdeal.Read Cert.Adam

variable (A0 A1 : FVec Ideal S8x352x1024 .bf16) (A2 A3 A4 : FVec Ideal S2x352x1024 .f32)

theorem sum0 (z : Fin 1) (i : Fin 352) (j : Fin 1024) : val_main_v4 (F := Ideal) A0 (ix3 z i j) = total A0 i j := by
  pointwise [val_main_v4, val_main_v1, val_main_v0, val_main_cst, total]

theorem sum1 (z : Fin 1) (i : Fin 352) (j : Fin 1024) : val_main_v5 (F := Ideal) A1 (ix3 z i j) = total A1 i j := by
  pointwise [val_main_v5, val_main_v3, val_main_v2, val_main_cst_0, total]

theorem ref5 (l : Fin 2) (i : Fin 352) (j : Fin 1024) : val_main_v6 (F := Ideal) A0 A1 (ix3 l i j) = grad A0 A1 l i j := by
  refine (stack_at _ _ _ l i j).trans ?_
  rw [sum0, sum1]
  rfl

theorem ref7 (l : Fin 2) (i : Fin 352) (j : Fin 1024) : val_main_v11 (F := Ideal) A0 A1 A3 (ix3 l i j) = nm (A3 (ix3 l i j)) (grad A0 A1 l i j) := by
  rw [← ref5]
  pointwise [val_main_v11, val_main_v10, val_main_v9, val_main_v8, val_main_v7, val_main_cst_1, val_main_cst_2, nm]

theorem ref8 (l : Fin 2) (i : Fin 352) (j : Fin 1024) : val_main_v17 (F := Ideal) A0 A1 A4 (ix3 l i j) = nv (A4 (ix3 l i j)) (grad A0 A1 l i j) := by
  rw [← ref5]
  pointwise [val_main_v17, val_main_v16, val_main_v15, val_main_v14, val_main_v13, val_main_v12, val_main_cst_3, val_main_cst_4, nv]

theorem ref6 (l : Fin 2) (i : Fin 352) (j : Fin 1024) : val_main_v30 (F := Ideal) A0 A1 A2 A3 A4 (ix3 l i j) =
    delta (A2 (ix3 l i j)) (A3 (ix3 l i j)) (A4 (ix3 l i j)) (grad A0 A1 l i j) := by
  unfold delta
  rw [← ref7, ← ref8]
  pointwise [val_main_v30, val_main_v29, val_main_v28, val_main_v27, val_main_v26, val_main_v25, val_main_v24, val_main_v23, val_main_v22, val_main_v21, val_main_v20, val_main_v19, val_main_v18, val_main_cst_5, val_main_cst_6, val_main_cst_7, val_main_cst_8, val_main_cst_9]

end Cert.ADown

end
-- ==== Proof.AdamDown.Claims.lean ====
/-
  The optimiser's step of w_down: the reference's frame, and that both programs end with the same arrays.
-/
module

public import proofs.«01_k».proof.Defs
public import proofs.«01_k».proof.Proof.AdamDown.Point
public import proofs.«01_k».proof.Proof.AdamDown.Ref
public import proofs.«01_k».proof.Proof.Gen.AdamDownIdeal.Value
public import proofs.«01_k».proof.Proof.Gen.AdamDownRefIdeal
public import Idealize.ShloMosaic.Lib.Quiescent

@[expose] public section

set_option maxRecDepth 16384

noncomputable section

namespace Cert.ADown

open Idealize.ShloMosaic Idealize.ShloMosaic.TcCoe Idealize.SL.Sem

/-- The reference runs, its arguments are unchanged and its counters end at zero: it has none. -/
theorem frame_ref : Cert.quiescent_AdamDownRefIdeal (hAdamDownRefIdeal := Cert.AdamDownRefIdeal.Gen.facts) := fun m ρ _ =>
  (θ_run (Cert.AdamDownRefIdeal.defs (F := Ideal)) _ _).mono
    (fun r h => ⟨fun c => (h c).2.2.2.2, Idealize.ShloMosaic.sem_eq_zero_of_no_sems (by decide) r.2⟩)
    (Cert.AdamDownRefIdeal.Value.run (F := Ideal) m ρ)

section
variable (m : (ℓ : Loc Cert.AdamDownIdeal.nD Cert.AdamDownIdeal.τ Cert.AdamDownIdeal.sig) → Buf (Elt Ideal) ℓ) (c : Dev Cert.AdamDownIdeal.nD)
open Cert.AdamDownRefIdeal.Read Cert.AdamDownIdeal Cert.AdamDownIdeal.Gen

/-- The arrays the kernel leaves are the reference's, of the same arguments. -/
theorem eq5 : (dats m 0 c).arrAt 5 cfg0.N = val_main_v6 (F := Ideal) (B0 m c) (B1 m c) := by
  funext i
  idx_vars i
  exact (final5 m c i0 i1 i2).trans (ref5 _ _ i0 i1 i2).symm

theorem eq6 : (dats m 0 c).arrAt 6 cfg0.N = val_main_v30 (F := Ideal) (B0 m c) (B1 m c) (B2 m c) (B3 m c) (B4 m c) := by
  funext i
  idx_vars i
  exact (final6 m c i0 i1 i2).trans (ref6 _ _ _ _ _ i0 i1 i2).symm

theorem eq7 : (dats m 0 c).arrAt 7 cfg0.N = val_main_v11 (F := Ideal) (B0 m c) (B1 m c) (B3 m c) := by
  funext i
  idx_vars i
  exact (final7 m c i0 i1 i2).trans (ref7 _ _ _ i0 i1 i2).symm

theorem eq8 : (dats m 0 c).arrAt 8 cfg0.N = val_main_v17 (F := Ideal) (B0 m c) (B1 m c) (B4 m c) := by
  funext i
  idx_vars i
  exact (final8 m c i0 i1 i2).trans (ref8 _ _ _ i0 i1 i2).symm

end

/-- From equal arguments both programs end with the same arrays. -/
theorem algebraic : Cert.algebraic_AdamDownIdeal_AdamDownRefIdeal (hAdamDownIdeal := Cert.AdamDownIdeal.Gen.facts)
    (hAdamDownRefIdeal := Cert.AdamDownRefIdeal.Gen.facts) := by
  intro m g m' g' _ ha
  refine ⟨_, _, _, _, Cert.AdamDownIdeal.Value.run_blocks (F := Ideal) m g, ?_⟩
  refine (θ_run (Cert.AdamDownRefIdeal.defs (F := Ideal)) _ _).mono (fun r h c => ?_) (Cert.AdamDownRefIdeal.Value.run (F := Ideal) m' g')
  obtain ⟨h5, h6, h7, h8, hk⟩ := h c
  obtain ⟨a0, a1, a2, a3, a4⟩ := ha c
  rw [Cert.AdamDownRefIdeal.Read.val_main_v6_eq, a0, a1] at h5
  rw [Cert.AdamDownRefIdeal.Read.val_main_v30_eq, a0, a1, a2, a3, a4] at h6
  rw [Cert.AdamDownRefIdeal.Read.val_main_v11_eq, a0, a1, a3] at h7
  rw [Cert.AdamDownRefIdeal.Read.val_main_v17_eq, a0, a1, a4] at h8
  exact ⟨h5.trans (eq5 m c).symm, h6.trans (eq6 m c).symm, h7.trans (eq7 m c).symm, h8.trans (eq8 m c).symm, hk⟩

end Cert.ADown

end
-- ==== Proof.AdamSmall.Body.lean ====
/-
  The optimiser's step of the small parameters, packed side by side: what the kernel's body computes, payload by payload, read at an index.
-/
module

public import proofs.«01_k».proof.Proof.Adam.Spec
public import proofs.«01_k».proof.Proof.Gen.AdamSmallIdeal.Frame
public import Idealize.ShloMosaic.Lib.Pipeline.ValueKit
public import Idealize.ShloMosaic.Lib.Pipeline.ReadBack

@[expose] public section

set_option maxRecDepth 16384

noncomputable section

namespace Cert.ASmall

open Idealize.ShloMosaic Cert.AdamSmallIdeal Cert.AdamSmallIdeal.Gen Cert.Adam

variable (x0 : FVec Ideal S8x168x1024 .f32) (x1 x2 x3 : FVec Ideal S168x1024 .f32) (r : Fin 168) (q : Fin 1024)

theorem grad_at : k0_pay6 (F := Ideal) x0 x1 x2 x3 (ix2 r q) = total x0 r q := by
  unfold total
  rw [Fin.sum_univ_eight]
  pointwise [k0_pay6, k0_pay4]

theorem m_at : k0_pay7 (F := Ideal) x0 x1 x2 x3 (ix2 r q) = lit 0x3F666666#32 * x2 (ix2 r q) := by
  pointwise [k0_pay7, k0_pay5]

theorem out4 : out0_4 (F := Ideal) x0 x1 x2 x3 (ix2 r q) = total x0 r q := by
  rw [← grad_at x0 x1 x2 x3]
  frame_out

theorem out5 : out0_5 (F := Ideal) x0 x1 x2 x3 (ix2 r q) = delta (x1 (ix2 r q)) (x2 (ix2 r q)) (x3 (ix2 r q)) (total x0 r q) := by
  unfold delta nm nv
  rw [← m_at x0 x1 x2 x3, ← grad_at x0 x1 x2 x3]
  frame_out
  pointwise [k0_pay3, k0_pay1, k0_pay2]

theorem out6 : out0_6 (F := Ideal) x0 x1 x2 x3 (ix2 r q) = nm (x2 (ix2 r q)) (total x0 r q) := by
  unfold nm
  rw [← m_at x0 x1 x2 x3, ← grad_at x0 x1 x2 x3]
  frame_out
  pointwise [k0_pay1]

theorem out7 : out0_7 (F := Ideal) x0 x1 x2 x3 (ix2 r q) = nv (x3 (ix2 r q)) (total x0 r q) := by
  unfold nv
  rw [← grad_at x0 x1 x2 x3]
  frame_out
  pointwise [k0_pay2]

end Cert.ASmall

end
-- ==== Proof.AdamSmall.Point.lean ====
/-
  The one point's blocks are the arrays themselves; the arrays the kernel leaves.
-/
module

public import proofs.«01_k».proof.Proof.AdamSmall.Body

@[expose] public section

set_option maxRecDepth 16384

noncomputable section

namespace Cert.ASmall

open Idealize.ShloMosaic Idealize.ShloMosaic.TcCoe Cert.AdamSmallIdeal Cert.AdamSmallIdeal.Gen Cert.Adam

/-- Every window's block lies at the origin. -/
theorem idx : ∀ t : Fin cfg0.N, win0_0.index t = ![0, 0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

/-- The arguments as the launch finds them. -/
abbrev B0 : FVec Ideal S8x168x1024 .f32 := m ((c : Thread nD τ).loc main_arg0)
abbrev B1 : FVec Ideal S168x1024 .f32 := m ((c : Thread nD τ).loc main_arg1)
abbrev B2 : FVec Ideal S168x1024 .f32 := m ((c : Thread nD τ).loc main_arg2)
abbrev B3 : FVec Ideal S168x1024 .f32 := m ((c : Thread nD τ).loc main_arg3)

theorem blk0 (d : Fin 8) (r : Fin 168) (q : Fin 1024) : iblk m c 0 t (ix3 d r q) = B0 m c (ix3 d r q) := by
  blk_point [iblk, V, idx t]

theorem blk1 (r : Fin 168) (q : Fin 1024) : iblk m c 1 t (ix2 r q) = B1 m c (ix2 r q) := by
  blk_point [iblk, V, idx t]

theorem blk2 (r : Fin 168) (q : Fin 1024) : iblk m c 2 t (ix2 r q) = B2 m c (ix2 r q) := by
  blk_point [iblk, V, idx t]

theorem blk3 (r : Fin 168) (q : Fin 1024) : iblk m c 3 t (ix2 r q) = B3 m c (ix2 r q) := by
  blk_point [iblk, V, idx t]

theorem total_eq (r : Fin 168) (q : Fin 1024) : total (R := 168) (C := 1024) (e := .f32) (iblk m c 0 t) r q = total (B0 m c) r q :=
  Finset.sum_congr rfl fun d _ => blk0 m c t d r q

/-- The four arrays at a place: the gradient, the change of the parameter and the new moments. -/
def G (i : Fin 168) (j : Fin 1024) : EReal := total (B0 m c) i j
def D (i : Fin 168) (j : Fin 1024) : EReal := delta (B1 m c (ix2 i j)) (B2 m c (ix2 i j)) (B3 m c (ix2 i j)) (total (B0 m c) i j)
def NM (i : Fin 168) (j : Fin 1024) : EReal := nm (B2 m c (ix2 i j)) (total (B0 m c) i j)
def NV (i : Fin 168) (j : Fin 1024) : EReal := nv (B3 m c (ix2 i j)) (total (B0 m c) i j)

theorem at4 (r : Fin 168) (q : Fin 1024) : out0_4 (iblk m c 0 t) (iblk m c 1 t) (iblk m c 2 t) (iblk m c 3 t) (ix2 r q) = G m c r q := by
  rw [out4, total_eq]
  rfl

theorem final4 (i : Fin 168) (j : Fin 1024) : (dats m 0 c).arrAt 4 cfg0.N (ix2 i j) = G m c i j := by
  have e : (dats m 0 c).arrAt 4 cfg0.N = (fun i : S168x1024.Idx => G m c (i 0) (i 1)) := by
    refine (dats m 0 c).arrAt_eq_of_covers 4 _ (by decide +kernel) fun t hf y => ?_
    blk_simp
    rw [after0_4]
    idx_vars y
    rw [at4]
    refine congrArg₂ (G m c) (Fin.ext ?_) (Fin.ext ?_) <;> (
      blk_simp [idx t]
      try first | rfl | omega)
  rw [e]
  rfl

theorem at5 (r : Fin 168) (q : Fin 1024) : out0_5 (iblk m c 0 t) (iblk m c 1 t) (iblk m c 2 t) (iblk m c 3 t) (ix2 r q) = D m c r q := by
  rw [out5, total_eq, blk1, blk2, blk3]
  rfl

theorem final5 (i : Fin 168) (j : Fin 1024) : (dats m 0 c).arrAt 5 cfg0.N (ix2 i j) = D m c i j := by
  have e : (dats m 0 c).arrAt 5 cfg0.N = (fun i : S168x1024.Idx => D m c (i 0) (i 1)) := by
    refine (dats m 0 c).arrAt_eq_of_covers 5 _ (by decide +kernel) fun t hf y => ?_
    blk_simp
    rw [after0_5]
    idx_vars y
    rw [at5]
    refine congrArg₂ (D m c) (Fin.ext ?_) (Fin.ext ?_) <;> (
      blk_simp [idx t]
      try first | rfl | omega)
  rw [e]
  rfl

theorem at6 (r : Fin 168) (q : Fin 1024) : out0_6 (iblk m c 0 t) (iblk m c 1 t) (iblk m c 2 t) (iblk m c 3 t) (ix2 r q) = NM m c r q := by
  rw [out6, total_eq, blk2]
  rfl

theorem final6 (i : Fin 168) (j : Fin 1024) : (dats m 0 c).arrAt 6 cfg0.N (ix2 i j) = NM m c i j := by
  have e : (dats m 0 c).arrAt 6 cfg0.N = (fun i : S168x1024.Idx => NM m c (i 0) (i 1)) := by
    refine (dats m 0 c).arrAt_eq_of_covers 6 _ (by decide +kernel) fun t hf y => ?_
    blk_simp
    rw [after0_6]
    idx_vars y
    rw [at6]
    refine congrArg₂ (NM m c) (Fin.ext ?_) (Fin.ext ?_) <;> (
      blk_simp [idx t]
      try first | rfl | omega)
  rw [e]
  rfl

theorem at7 (r : Fin 168) (q : Fin 1024) : out0_7 (iblk m c 0 t) (iblk m c 1 t) (iblk m c 2 t) (iblk m c 3 t) (ix2 r q) = NV m c r q := by
  rw [out7, total_eq, blk3]
  rfl

theorem final7 (i : Fin 168) (j : Fin 1024) : (dats m 0 c).arrAt 7 cfg0.N (ix2 i j) = NV m c i j := by
  have e : (dats m 0 c).arrAt 7 cfg0.N = (fun i : S168x1024.Idx => NV m c (i 0) (i 1)) := by
    refine (dats m 0 c).arrAt_eq_of_covers 7 _ (by decide +kernel) fun t hf y => ?_
    blk_simp
    rw [after0_7]
    idx_vars y
    rw [at7]
    refine congrArg₂ (NV m c) (Fin.ext ?_) (Fin.ext ?_) <;> (
      blk_simp [idx t]
      try first | rfl | omega)
  rw [e]
  rfl

end Cert.ASmall

end
-- ==== Proof.AdamSmall.Ref.lean ====
/-
  The reference's results, read at an index: the formulas of `Adam/Spec.lean`.
-/
module

public import proofs.«01_k».proof.Proof.Adam.Spec
public import proofs.«01_k».proof.Proof.Gen.AdamSmallRefIdeal.Read
public import Idealize.ShloMosaic.Lib.Pipeline.ValueKit

@[expose] public section

set_option maxRecDepth 16384

noncomputable section

namespace Cert.ASmall

open Idealize.ShloMosaic Cert.AdamSmallRefIdeal Cert.AdamSmallRefIdeal.Gen Cert.AdamSmallRefIdeal.Read Cert.Adam

variable (A0 : FVec Ideal S8x168x1024 .f32) (A1 A2 A3 : FVec Ideal S168x1024 .f32) (i : Fin 168) (j : Fin 1024)

theorem ref4 : val_main_v0 (F := Ideal) A0 (ix2 i j) = total A0 i j := by
  pointwise [val_main_v0, val_main_cst, total]

theorem ref6 : val_main_v5 (F := Ideal) A0 A2 (ix2 i j) = nm (A2 (ix2 i j)) (total A0 i j) := by
  rw [← ref4]
  pointwise [val_main_v5, val_main_v4, val_main_v3, val_main_v2, val_main_v1, val_main_cst_0, val_main_cst_1, nm]

theorem ref7 : val_main_v11 (F := Ideal) A0 A3 (ix2 i j) = nv (A3 (ix2 i j)) (total A0 i j) := by
  rw [← ref4]
  pointwise [val_main_v11, val_main_v10, val_main_v9, val_main_v8, val_main_v7, val_main_v6, val_main_cst_2, val_main_cst_3, nv]

theorem ref5 : val_main_v24 (F := Ideal) A0 A1 A2 A3 (ix2 i j) = delta (A1 (ix2 i j)) (A2 (ix2 i j)) (A3 (ix2 i j)) (total A0 i j) := by
  unfold delta
  rw [← ref6, ← ref7]
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8]

end Cert.ASmall

end
-- ==== Proof.AdamSmall.Claims.lean ====
/-
  The optimiser's step of the small parameters, packed side by side: the reference's frame, and that both programs end with the same arrays.
-/
module

public import proofs.«01_k».proof.Defs
public import proofs.«01_k».proof.Proof.AdamSmall.Point
public import proofs.«01_k».proof.Proof.AdamSmall.Ref
public import proofs.«01_k».proof.Proof.Gen.AdamSmallIdeal.Value
public import proofs.«01_k».proof.Proof.Gen.AdamSmallRefIdeal
public import Idealize.ShloMosaic.Lib.Quiescent

@[expose] public section

set_option maxRecDepth 16384

noncomputable section

namespace Cert.ASmall

open Idealize.ShloMosaic Idealize.ShloMosaic.TcCoe Idealize.SL.Sem

/-- The reference runs, its arguments are unchanged and its counters end at zero: it has none. -/
theorem frame_ref : Cert.quiescent_AdamSmallRefIdeal (hAdamSmallRefIdeal := Cert.AdamSmallRefIdeal.Gen.facts) := fun m ρ _ =>
  (θ_run (Cert.AdamSmallRefIdeal.defs (F := Ideal)) _ _).mono
    (fun r h => ⟨fun c => (h c).2.2.2.2, Idealize.ShloMosaic.sem_eq_zero_of_no_sems (by decide) r.2⟩)
    (Cert.AdamSmallRefIdeal.Value.run (F := Ideal) m ρ)

section
variable (m : (ℓ : Loc Cert.AdamSmallIdeal.nD Cert.AdamSmallIdeal.τ Cert.AdamSmallIdeal.sig) → Buf (Elt Ideal) ℓ) (c : Dev Cert.AdamSmallIdeal.nD)
open Cert.AdamSmallRefIdeal.Read Cert.AdamSmallIdeal Cert.AdamSmallIdeal.Gen

/-- The arrays the kernel leaves are the reference's, of the same arguments. -/
theorem eq4 : (dats m 0 c).arrAt 4 cfg0.N = val_main_v0 (F := Ideal) (B0 m c) := by
  funext i
  idx_vars i
  exact (final4 m c i0 i1).trans (ref4 _ i0 i1).symm

theorem eq5 : (dats m 0 c).arrAt 5 cfg0.N = val_main_v24 (F := Ideal) (B0 m c) (B1 m c) (B2 m c) (B3 m c) := by
  funext i
  idx_vars i
  exact (final5 m c i0 i1).trans (ref5 _ _ _ _ i0 i1).symm

theorem eq6 : (dats m 0 c).arrAt 6 cfg0.N = val_main_v5 (F := Ideal) (B0 m c) (B2 m c) := by
  funext i
  idx_vars i
  exact (final6 m c i0 i1).trans (ref6 _ _ i0 i1).symm

theorem eq7 : (dats m 0 c).arrAt 7 cfg0.N = val_main_v11 (F := Ideal) (B0 m c) (B3 m c) := by
  funext i
  idx_vars i
  exact (final7 m c i0 i1).trans (ref7 _ _ i0 i1).symm

end

/-- From equal arguments both programs end with the same arrays. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' _ ha
  refine ⟨_, _, _, _, Cert.AdamSmallIdeal.Value.run_blocks (F := Ideal) m g, ?_⟩
  refine (θ_run (Cert.AdamSmallRefIdeal.defs (F := Ideal)) _ _).mono (fun r h c => ?_) (Cert.AdamSmallRefIdeal.Value.run (F := Ideal) m' g')
  obtain ⟨h4, h5, h6, h7, hk⟩ := h c
  obtain ⟨a0, a1, a2, a3⟩ := ha c
  rw [Cert.AdamSmallRefIdeal.Read.val_main_v0_eq, a0] at h4
  rw [Cert.AdamSmallRefIdeal.Read.val_main_v24_eq, a0, a1, a2, a3] at h5
  rw [Cert.AdamSmallRefIdeal.Read.val_main_v5_eq, a0, a2] at h6
  rw [Cert.AdamSmallRefIdeal.Read.val_main_v11_eq, a0, a3] at h7
  exact ⟨h4.trans (eq4 m c).symm, h5.trans (eq5 m c).symm, h6.trans (eq6 m c).symm, h7.trans (eq7 m c).symm, hk⟩

end Cert.ASmall

end
-- ==== Proof.PoolFwd.Spec.lean ====
/-
  The multiscale pooling: what both programs are shown to compute. In each of four groups of columns it takes the mean over
  the last 2, 4, 8 or 16 rows, subtracts the row itself and mixes the group's columns. Arguments, in the order of the
  programs: `A0` the projections, of which the columns from 1536 on are pooled, `A1` the four mixing matrices, `A2` the gain
  of each column.
-/
module

public import proofs.«01_k».proof.Proof.Pool.Spec

@[expose] public section

set_option maxRecDepth 16384

noncomputable section

namespace Cert.PoolF

open Idealize.ShloMosaic Cert.Pool

abbrev Proj : Shape := ⟨2, ![8192, 4096]⟩

/-- A group's column among the projections'. -/
def pcol (g : Fin 4) (c : Fin 128) : Fin 4096 := ⟨1536 + (col g c).val, by omega⟩

variable (A0 : FVec Ideal Proj .f32) (A1 : FVec Ideal Wt .f32) (A2 : FVec Ideal Gain .f32)

/-- The pooled column with sixteen zeros before it. -/
def US (g : Fin 4) (c : Fin 128) (n : ℕ) : EReal :=
  if h : 16 ≤ n ∧ n < 8208 then A0 (ix2 ⟨n - 16, by omega⟩ (pcol g c)) else 0

/-- The mean over the window that ends at a row, less the row itself. -/
def PM (g : Fin 4) (c : Fin 128) (r : Fin 8192) : EReal :=
  Ideal.div (∑ k ∈ Finset.range (wd g), US A0 g c (r.val + 16 - k)) (cn (wd g) r) - A0 (ix2 r (pcol g c))

/-- The mixed means, scaled. -/
def MX (g : Fin 4) (d : Fin 128) (r : Fin 8192) : EReal :=
  (∑ c : Fin 128, PM A0 g c r * A1 (ix3 g c d)) * A2 (ix2 0 (col g d))

theorem US_lt (g : Fin 4) (c : Fin 128) (n : ℕ) (h : n < 16) : US A0 g c n = 0 := dif_neg (by omega)

theorem US_at (g : Fin 4) (c : Fin 128) (n : ℕ) (h : n < 8192) : US A0 g c (n + 16) = A0 (ix2 ⟨n, h⟩ (pcol g c)) := by
  unfold US
  rw [dif_pos ⟨by omega, by omega⟩]
  rfl

/-- The pooled columns are real numbers. -/
def RealU : Prop := ∀ (r : Fin 8192) (g : Fin 4) (c : Fin 128), ∃ x : ℝ, A0 (ix2 r (pcol g c)) = x

variable {A0} in
theorem US_real (h : RealU A0) (g : Fin 4) (c : Fin 128) (n : ℕ) : ∃ x : ℝ, US A0 g c n = x := by
  unfold US
  split
  · exact h _ g c
  · exact ⟨0, rfl⟩

/-- The difference of two cumulative sums is the sum of the terms between them, the last one first. -/
theorem window_diff (f : ℕ → EReal) (hf : ∀ k, ∃ x : ℝ, f k = x) (n w : ℕ) (hw : w ≤ n + 1) :
    ∑ k ∈ Finset.range (n + 1), f k - ∑ k ∈ Finset.range (n + 1 - w), f k = ∑ k ∈ Finset.range w, f (n - k) := by
  choose φ hφ using hf
  have h1 := Finset.sum_range_add φ (n + 1 - w) w
  have h2 := Finset.sum_range_reflect (fun k => φ (n + 1 - w + k)) w
  rw [Nat.sub_add_cancel hw] at h1
  have h3 : ∑ k ∈ Finset.range w, φ (n + 1 - w + (w - 1 - k)) = ∑ k ∈ Finset.range w, φ (n - k) :=
    Finset.sum_congr rfl fun k hk => congrArg φ (by have := Finset.mem_range.1 hk; omega)
  simp only [hφ, ← coe_sum, ← EReal.coe_sub]
  refine congrArg _ ?_
  rw [h1, ← h3, h2]
  ring

/-- A cumulative sum, as a sum over windows of the whole length prints: the column with zeros before it, summed. -/
theorem cumulative {m n : ℕ} (x : FVec Ideal ⟨2, ![m, n]⟩ .f32) (init : FVec Ideal ⟨0, ![]⟩ .f32) (e : ℕ) (he : e + 1 = m)
    (h : (⟨2, ![m, n]⟩ : Shape).ReduceWindows (![m, 1] : Fin 2 → ℕ) ![1, 1] ![e, 0] ![0, 0] ⟨2, ![m, n]⟩) (hu : 0 < (⟨0, ![]⟩ : Shape).numel)
    (h0 : ∀ i, init i = 0) (j : Fin n) (f : ℕ → EReal) (hz : ∀ k < 16, f k = 0) (hf : ∀ (k : ℕ) (hk : k < m), f (k + 16) = x (ix2 ⟨k, hk⟩ j))
    (r : Fin m) :
    Host.reduceWindowAdd (F := Ideal) ![m, 1] ![1, 1] ![e, 0] ![0, 0] x init h hu (ix2 r j) = ∑ k ∈ Finset.range (r.val + 16 + 1), f k := by
  have hN : (⟨2, ![m, 1]⟩ : Shape).numel = m := by
    show ∏ a : Fin 2, (![m, 1] : Fin 2 → ℕ) a = m
    rw [Fin.prod_univ_two]
    exact Nat.mul_one m
  have hs : ∀ p : Fin (⟨2, ![m, 1]⟩ : Shape).numel, (⟨2, ![m, 1]⟩ : Shape).rowMajor.symm p = ix2 (p.cast hN) (0 : Fin 1) := fun p =>
    ((⟨2, ![m, 1]⟩ : Shape).rowMajor.symm_apply_eq).2 (Fin.ext (by
      rw [Shape.rowMajor_val_two]
      show p.val = p.val * 1 + 0
      omega))
  have hr := r.isLt
  have hj := j.isLt
  have e1 : ∑ k ∈ Finset.range (r.val + 16 + 1), f k = ∑ p : Fin m, f (r.val + p.val + 16 - e) := by
    rw [Fin.sum_univ_eq_sum_range (fun p => f (r.val + p + 16 - e)) m]
    obtain ⟨q, hq⟩ : ∃ q, m = q + (r.val + 1) := ⟨m - (r.val + 1), by omega⟩
    have z1 : ∑ k ∈ Finset.range 16, f k = 0 := Finset.sum_eq_zero fun k hk => hz k (Finset.mem_range.1 hk)
    have z2 : ∑ k ∈ Finset.range q, f (r.val + k + 16 - e) = 0 :=
      Finset.sum_eq_zero fun k hk => hz _ (by have := Finset.mem_range.1 hk; omega)
    have s1 := Finset.sum_range_add f 16 (r.val + 1)
    have s2 := Finset.sum_range_add (fun k => f (r.val + k + 16 - e)) q (r.val + 1)
    rw [z1, zero_add] at s1
    rw [z2, zero_add, ← hq] at s2
    rw [show r.val + 16 + 1 = 16 + (r.val + 1) by omega, s1, s2]
    exact Finset.sum_congr rfl fun k _ => congrArg f (by omega)
  rw [e1]
  refine (foldl_add _ _ _).trans ?_
  rw [h0, zero_add, ← Fin.sum_univ_def]
  refine Fintype.sum_equiv (finCongr hN) _ _ fun p => ?_
  have q0 : ((⟨2, ![m, 1]⟩ : Shape).rowMajor.symm p 0).val = p.val := by rw [hs]; rfl
  have q1 : ((⟨2, ![m, 1]⟩ : Shape).rowMajor.symm p 1).val = 0 := by rw [hs]; rfl
  have hp : p.val < m := lt_of_lt_of_eq p.isLt hN
  dsimp only
  show _ = f (r.val + p.val + 16 - e)
  by_cases hk : e ≤ r.val + p.val
  · rw [dif_pos (fun a => by
      match a with
      | ⟨0, _⟩ =>
        show e ≤ r.val * 1 + ((⟨2, ![m, 1]⟩ : Shape).rowMajor.symm p 0).val ∧ r.val * 1 + ((⟨2, ![m, 1]⟩ : Shape).rowMajor.symm p 0).val - e < m
        rw [q0]; omega
      | ⟨1, _⟩ =>
        show 0 ≤ j.val * 1 + ((⟨2, ![m, 1]⟩ : Shape).rowMajor.symm p 1).val ∧ j.val * 1 + ((⟨2, ![m, 1]⟩ : Shape).rowMajor.symm p 1).val - 0 < n
        rw [q1]; omega), show r.val + p.val + 16 - e = r.val + p.val - e + 16 by omega, hf _ (by omega)]
    refine congrArg x (funext fun a => Fin.ext ?_)
    match a with
    | ⟨0, _⟩ =>
      show r.val * 1 + ((⟨2, ![m, 1]⟩ : Shape).rowMajor.symm p 0).val - e = r.val + p.val - e
      rw [q0]; omega
    | ⟨1, _⟩ =>
      show j.val * 1 + ((⟨2, ![m, 1]⟩ : Shape).rowMajor.symm p 1).val - 0 = j.val
      rw [q1, Nat.mul_one, Nat.add_zero, Nat.sub_zero]
  · rw [hz _ (by omega), dif_neg (fun hin => hk (by
      have := (hin 0).1
      change e ≤ r.val * 1 + ((⟨2, ![m, 1]⟩ : Shape).rowMajor.symm p 0).val at this
      rw [q0] at this; omega))]

end Cert.PoolF

end
-- ==== Proof.PoolFwd.Body.lean ====
/-
  What the kernel's arithmetic gives at an entry. `e` is the block of the pooled columns below the sixteen rows before it, `x`
  the block alone; a group reads its matrix `w` and its gains `s`.
-/
module

public import proofs.«01_k».proof.Proof.PoolFwd.Spec
public import proofs.«01_k».proof.Proof.Gen.PoolFwdIdeal.Skeleton
public import Idealize.ShloMosaic.Lib.KernelVsHost

@[expose] public section

set_option maxRecDepth 16384

noncomputable section

namespace Cert.PoolF

open Idealize.ShloMosaic Cert.Pool Cert.PoolFwdIdeal Cert.PoolFwdIdeal.Gen

variable (i : grid0.Coords) (x : FVec Ideal S512x512 .f32) (y : FVec Ideal S16x512 .f32) (e : FVec Ideal S528x512 .f32)
  (v9 : IVec S512x1 32) (w : FVec Ideal S1x128x128 .f32) (s : FVec Ideal S1x128 .f32)

theorem col0 (d : Fin 128) : col 0 d = ⟨d, by omega⟩ := Fin.ext (Nat.zero_add _)

/-- A row of the block as a row of the block below the rows before it. -/
def dn (r : Fin 512) : Fin 528 := ⟨16 + r, by omega⟩

/-- The number of rows in each window. -/
def cnt (n : BitVec 32) : FVec Ideal S512x128 .f32 :=
  broadcastTo S512x128 (sitofp .f32 (minsi (addi v9 (broadcast S512x1 1#32)) (broadcast S512x1 n))) broadcasts_S512x1_S512x128

theorem cnt_at (n : BitVec 32) (t : Fin 512) (c : Fin 128) : cnt v9 n (ix2 t c) =
    FloatOps.sitofp (F := Ideal) .f32 (IntOp.minsi (IntOp.addi (v9 (ix2 t 0)) 1#32) n) := by
  pointwise [cnt]

/-- An array and itself moved down. -/
def roll (n : BitVec 32) (v : FVec Ideal S528x128 .f32) : FVec Ideal S528x128 .f32 := addf v (dynamicRotate 0 n none v rotates_S528x128_d0)

/-- Moved down by the number of rows that each entry already sums: twice as many. -/
theorem roll_at (n : BitVec 32) (v : FVec Ideal S528x128 .f32) (c : Fin 128) (f : ℕ → EReal) (N k : ℕ) (hk : k < 528)
    (hn : n.toNat = k) (h : ∀ (t : ℕ) (ht : t < 528), N ≤ t → v (ix2 ⟨t, ht⟩ c) = ∑ l ∈ Finset.range k, f (t - l)) (t : ℕ) (ht : t < 528)
    (hN : N + k ≤ t) : roll n v (ix2 ⟨t, ht⟩ c) = ∑ l ∈ Finset.range (k + k), f (t - l) := by
  rw [Finset.sum_range_add, ← h t (by omega) (by omega)]
  show v _ + _ = _
  rw [dynamicRotate_apply (0 : Fin 2) n v rotates_S528x128_d0 (ix2 ⟨t, ht⟩ c) (ix2 ⟨t - k, by omega⟩ c) (fun b => by
    match b with
    | ⟨0, _⟩ =>
      show t - k = (t + 528 - n.toNat % 528) % 528
      rw [hn]; omega
    | ⟨1, _⟩ => rfl), h (t - k) (by omega) (by omega)]
  exact congrArg (v _ + ·) (Finset.sum_congr rfl fun l _ => congrArg f (by omega))

/-- The block's rows of the window sums, divided. -/
def quo (v : FVec Ideal S528x128 .f32) (n : FVec Ideal S512x128 .f32) : FVec Ideal S512x128 .f32 :=
  divf (extractStridedSlice S512x128 ![16, 0] v slices_S528x128_o16_0_S512x128) n

/-- The block's rows of the window means, less the rows themselves. -/
def fin (v : FVec Ideal S528x128 .f32) (n u : FVec Ideal S512x128 .f32) : FVec Ideal S512x128 .bf16 :=
  truncf .bf16 (subf (quo v n) u) bitsLt_bf16_f32

theorem fin_at (v : FVec Ideal S528x128 .f32) (n u : FVec Ideal S512x128 .f32) (r : Fin 512) (c : Fin 128) :
    fin v n u (ix2 r c) = Ideal.div (v (ix2 (dn r) c)) (n (ix2 r c)) - u (ix2 r c) := by
  pointwise [fin, quo]
  rfl

/-- The means through a group's matrix, scaled. -/
def mix (p : FVec Ideal S512x128 .bf16) : FVec Ideal S512x128 .bf16 := k0_pay1 p (k0_pay15 w) s

theorem mix_at (p : FVec Ideal S512x128 .bf16) (r : Fin 512) (d : Fin 128) :
    mix w s p (ix2 r d) = (∑ c : Fin 128, p (ix2 r c) * w (ix3 0 c d)) * s (ix2 0 d) := by
  pointwise [mix, k0_pay1, k0_pay15]

theorem mix0 : k0_pay5 (F := Ideal) i x y w s = mix w s (k0_pay4 i x y) := rfl

theorem mix1 (v u : FVec Ideal S528x128 .f32) : k0_pay9 (F := Ideal) x v9 v u w s = mix w s (k0_pay8 x v9 v u) := rfl

theorem mix2 (v u : FVec Ideal S512x128 .f32) : k0_pay13 (F := Ideal) v u w s = mix w s (k0_pay12 v u) := rfl

/-- A group's columns of the block below the rows before it, and of the block. -/
def ex0 : FVec Ideal S528x128 .f32 := extractStridedSlice S528x128 ![0, 0] e slices_S528x512_o0_0_S528x128
def ex1 : FVec Ideal S528x128 .f32 := extractStridedSlice S528x128 ![0, 128] e slices_S528x512_o0_128_S528x128
def ex2 : FVec Ideal S528x128 .f32 := extractStridedSlice S528x128 ![0, 256] e slices_S528x512_o0_256_S528x128
def ex3 : FVec Ideal S528x128 .f32 := extractStridedSlice S528x128 ![0, 384] e slices_S528x512_o0_384_S528x128
def cx0 : FVec Ideal S512x128 .f32 := extractStridedSlice S512x128 ![0, 0] x slices_S512x512_o0_0_S512x128
def cx1 : FVec Ideal S512x128 .f32 := extractStridedSlice S512x128 ![0, 128] x slices_S512x512_o0_128_S512x128
def cx2 : FVec Ideal S512x128 .f32 := extractStridedSlice S512x128 ![0, 256] x slices_S512x512_o0_256_S512x128
def cx3 : FVec Ideal S512x128 .f32 := extractStridedSlice S512x128 ![0, 384] x slices_S512x512_o0_384_S512x128

theorem ex0_at (t : Fin 528) (c : Fin 128) : ex0 e (ix2 t c) = e (ix2 t (col 0 c)) := by
  pointwise [ex0]
  simp only [col0]
theorem ex1_at (t : Fin 528) (c : Fin 128) : ex1 e (ix2 t c) = e (ix2 t (col 1 c)) := by
  pointwise [ex1]
  rfl
theorem ex2_at (t : Fin 528) (c : Fin 128) : ex2 e (ix2 t c) = e (ix2 t (col 2 c)) := by
  pointwise [ex2]
  rfl
theorem ex3_at (t : Fin 528) (c : Fin 128) : ex3 e (ix2 t c) = e (ix2 t (col 3 c)) := by
  pointwise [ex3]
  rfl
theorem cx0_at (t : Fin 512) (c : Fin 128) : cx0 x (ix2 t c) = x (ix2 t (col 0 c)) := by
  pointwise [cx0]
  simp only [col0]
theorem cx1_at (t : Fin 512) (c : Fin 128) : cx1 x (ix2 t c) = x (ix2 t (col 1 c)) := by
  pointwise [cx1]
  rfl
theorem cx2_at (t : Fin 512) (c : Fin 128) : cx2 x (ix2 t c) = x (ix2 t (col 2 c)) := by
  pointwise [cx2]
  rfl
theorem cx3_at (t : Fin 512) (c : Fin 128) : cx3 x (ix2 t c) = x (ix2 t (col 3 c)) := by
  pointwise [cx3]
  rfl

theorem pay4_eq : k0_pay4 (F := Ideal) i x y = fin (roll 1#32 (ex0 (k0_pay2 i x y))) (cnt (k0_pay3 i) 2#32) (cx0 x) := rfl

theorem pay8_eq : k0_pay8 (F := Ideal) x v9 (k0_pay6 i x y) (k0_pay7 i x y) =
    fin (roll 2#32 (roll 1#32 (ex1 (k0_pay2 i x y)))) (cnt v9 4#32) (cx1 x) := rfl

theorem pay12_eq : k0_pay12 (F := Ideal) (k0_pay10 e v9) (k0_pay11 x) =
    fin (roll 4#32 (roll 2#32 (roll 1#32 (ex2 e)))) (cnt v9 8#32) (cx2 x) := rfl

theorem pay14_eq : k0_pay14 (F := Ideal) x e v9 =
    fin (roll 8#32 (roll 4#32 (roll 2#32 (roll 1#32 (ex3 e))))) (cnt v9 16#32) (cx3 x) := rfl

theorem pay3_at (t : Fin 512) (z : Fin 1) : k0_pay3 i (ix2 t z) = BitVec.ofNat 32 ((i 0).val * 512 + t.val) := by
  pointwise [k0_pay3]
  show BitVec.ofNat 32 (i 0).val * BitVec.ofNat 32 512 + BitVec.ofNat 32 t.val = _
  rw [BitVec.ofNat_add, BitVec.ofNat_mul]

theorem pay2_at (t : Fin 528) (j : Fin 512) : k0_pay2 (F := Ideal) i x y (ix2 t j) =
    if h : t.val < 16 then if (i 0).val = 0 then 0 else y (ix2 ⟨t.val, h⟩ j) else x (ix2 ⟨t.val - 16, by omega⟩ j) := by
  pointwise [k0_pay2]
  have h0 : (i 0).val < 16 := (i 0).isLt
  by_cases h : (i 0).val = 0
  · simp [h, Scalar.select, Scalar.cmpi, IntOp.cmpi]
  · have hb : BitVec.slt 0#32 (BitVec.ofNat 32 (i 0).val) = true := by
      rw [BitVec.slt_eq_decide, toInt_nat (i 0).val (by omega)]
      exact decide_eq_true (show (0 : ℤ) < (i 0).val by omega)
    simp [h, Scalar.select, Scalar.cmpi, IntOp.cmpi, hb]

end Cert.PoolF

end
-- ==== Proof.PoolFwd.Point.lean ====
/-
  The blocks a grid point reads, and what one point computes. Point `t` works on the rows `512 t … 512 t + 511` and reads the
  sixteen rows before them.
-/
module

public import proofs.«01_k».proof.Proof.PoolFwd.Body
public import proofs.«01_k».proof.Proof.Gen.PoolFwdIdeal.Frame
public import Idealize.ShloMosaic.Lib.Pipeline.ValueKit
public import Idealize.ShloMosaic.Lib.Pipeline.ReadBack

@[expose] public section

set_option maxRecDepth 16384

noncomputable section

namespace Cert.PoolF

open Idealize.ShloMosaic Idealize.ShloMosaic.TcCoe Cert.Pool Cert.PoolFwdIdeal Cert.PoolFwdIdeal.Gen

/-- Where each window's block lies at a point. -/
theorem idx : ∀ t : Fin cfg0.N, win0_0.index t = ![t.val, 3] ∧ win0_1.index t = ![t.val * 32 - 1, 3]
    ∧ win0_2.index t = ![0, 0, 0] ∧ win0_3.index t = ![0, 0] ∧ win0_4.index t = ![t.val, 0]
    ∧ win0_5.index t = ![t.val, 0] ∧ (grid0.coords t 0).val = t.val := (by decide +kernel : ∀ t : Fin grid0.N, _)

/-- A column's group and its place in it. -/
def gr (j : Fin 512) : Fin 4 := ⟨j.val / 128, by omega⟩
def cl (j : Fin 512) : Fin 128 := ⟨j.val % 128, by omega⟩

theorem gr_col (g : Fin 4) (a : Fin 128) : gr (col g a) = g := Fin.ext (by show (g.val * 128 + a.val) / 128 = g.val; omega)
theorem cl_col (g : Fin 4) (a : Fin 128) : cl (col g a) = a := Fin.ext (by show (g.val * 128 + a.val) % 128 = a.val; omega)
theorem col_gr (j : Fin 512) : col (gr j) (cl j) = j := Fin.ext (by show j.val / 128 * 128 + j.val % 128 = j.val; omega)

variable (m : (ℓ : Loc nD τ sig) → Buf (Elt Ideal) ℓ) (c : Dev nD) (t : Fin cfg0.N)

/-- The arguments as the launch finds them. -/
abbrev B0 : FVec Ideal Proj .f32 := m ((c : Thread nD τ).loc main_arg0)
abbrev B1 : FVec Ideal Wt .f32 := m ((c : Thread nD τ).loc main_arg1)
abbrev B2 : FVec Ideal Gain .f32 := m ((c : Thread nD τ).loc main_arg2)

theorem lt16 : t.val < 16 := t.isLt

/-- Row `r` of the block that point `t` works on. -/
def row (k : Fin 16) (r : Fin 512) : Fin 8192 := ⟨k * 512 + r, by omega⟩
def step (t : Fin cfg0.N) : Fin 16 := ⟨t.val, lt16 t⟩

theorem blk_x (r : Fin 512) (g : Fin 4) (a : Fin 128) : iblk m c 0 t (ix2 r (col g a)) = B0 m c (ix2 (row (step t) r) (pcol g a)) := by
  blk_point [iblk, V, row, step, pcol, idx t]

theorem blk_y (r : Fin 16) (g : Fin 4) (a : Fin 128) (h : t.val ≠ 0) :
    iblk m c 1 t (ix2 r (col g a)) = B0 m c (ix2 ⟨t.val * 512 - 16 + r, by have := lt16 t; omega⟩ (pcol g a)) := by
  blk_point [iblk, V, pcol, idx t]

theorem blk_w (z : Fin 4) (a b : Fin 128) : iblk m c 2 t (ix3 z a b) = B1 m c (ix3 z a b) := by
  blk_point [iblk, V, idx t]

theorem blk_s (z : Fin 1) (j : Fin 512) : iblk m c 3 t (ix2 z j) = B2 m c (ix2 0 j) := by
  obtain rfl : z = 0 := Subsingleton.elim _ _
  blk_point [iblk, V, idx t]

/-- The block below the rows before it. -/
def xe : FVec Ideal S528x512 .f32 := k0_pay2 (grid0.coords t) (iblk m c 0 t) (iblk m c 1 t)

theorem xe_at (s : Fin 528) (g : Fin 4) (a : Fin 128) : xe m c t (ix2 s (col g a)) = US (B0 m c) g a (t.val * 512 + s.val) := by
  have ht := lt16 t
  unfold xe
  rw [pay2_at, (idx t).2.2.2.2.2.2]
  by_cases h : s.val < 16
  · rw [dif_pos h]
    by_cases h0 : t.val = 0
    · rw [if_pos h0, US_lt _ _ _ _ (by omega)]
    · rw [if_neg h0, blk_y _ _ _ _ _ _ h0, show t.val * 512 + s.val = t.val * 512 - 16 + s.val + 16 by omega, US_at _ _ _ _ (by omega)]
  · rw [dif_neg h, blk_x, show t.val * 512 + s.val = t.val * 512 + (s.val - 16) + 16 by omega, US_at _ _ _ _ (by omega)]
    rfl

variable {m c t}

theorem one (u : FVec Ideal S528x128 .f32) (a : Fin 128) (f : ℕ → EReal) (h : ∀ k : Fin 528, u (ix2 k a) = f k.val) (k : ℕ) (hk : k < 528)
    (_ : 0 ≤ k) : u (ix2 ⟨k, hk⟩ a) = ∑ l ∈ Finset.range 1, f (k - l) := by
  rw [Finset.sum_range_one]
  exact h _

/-- A block of the means, from its window sums. -/
theorem pm_of (g : Fin 4) (v : FVec Ideal S528x128 .f32) (u : FVec Ideal S512x128 .f32) (r : Fin 512) (a : Fin 128)
    (hu : u (ix2 r a) = B0 m c (ix2 (row (step t) r) (pcol g a)))
    (hv : v (ix2 (dn r) a) = ∑ l ∈ Finset.range (wd g), US (B0 m c) g a (t.val * 512 + (16 + r.val - l))) :
    fin v (cnt (k0_pay3 (grid0.coords t)) (BitVec.ofNat 32 (wd g))) u (ix2 r a) = PM (B0 m c) g a (row (step t) r) := by
  have ht := lt16 t
  have hw := wd_le g
  rw [fin_at, hv, hu, cnt_at, pay3_at, (idx t).2.2.2.2.2.2]
  unfold PM
  refine congrArg (fun q => Ideal.div q _ - _) ?_
  exact Finset.sum_congr rfl fun l hl => congrArg _ (by
    have := Finset.mem_range.1 hl
    show _ = t.val * 512 + r.val + 16 - l
    omega)

theorem pm0 (r : Fin 512) (a : Fin 128) :
    fin (roll 1#32 (ex0 (xe m c t))) (cnt (k0_pay3 (grid0.coords t)) 2#32) (cx0 (iblk m c 0 t)) (ix2 r a) =
      PM (B0 m c) 0 a (row (step t) r) :=
  pm_of 0 _ _ r a ((cx0_at _ r a).trans (blk_x m c t r 0 a)) <|
    roll_at 1#32 _ a (fun k => US (B0 m c) 0 a (t.val * 512 + k)) 0 1 (by omega) rfl
      (one _ a (fun k => US (B0 m c) 0 a (t.val * 512 + k)) fun k => (ex0_at _ k a).trans (xe_at m c t k 0 a)) (16 + r.val) (by omega) (by omega)

theorem pm1 (r : Fin 512) (a : Fin 128) :
    fin (roll 2#32 (roll 1#32 (ex1 (xe m c t)))) (cnt (k0_pay3 (grid0.coords t)) 4#32) (cx1 (iblk m c 0 t)) (ix2 r a) =
      PM (B0 m c) 1 a (row (step t) r) :=
  pm_of 1 _ _ r a ((cx1_at _ r a).trans (blk_x m c t r 1 a)) <|
    roll_at 2#32 _ a (fun k => US (B0 m c) 1 a (t.val * 512 + k)) 1 2 (by omega) rfl
      (roll_at 1#32 _ a (fun k => US (B0 m c) 1 a (t.val * 512 + k)) 0 1 (by omega) rfl
      (one _ a (fun k => US (B0 m c) 1 a (t.val * 512 + k)) fun k => (ex1_at _ k a).trans (xe_at m c t k 1 a))) (16 + r.val) (by omega) (by omega)

theorem pm2 (r : Fin 512) (a : Fin 128) :
    fin (roll 4#32 (roll 2#32 (roll 1#32 (ex2 (xe m c t))))) (cnt (k0_pay3 (grid0.coords t)) 8#32) (cx2 (iblk m c 0 t)) (ix2 r a) =
      PM (B0 m c) 2 a (row (step t) r) :=
  pm_of 2 _ _ r a ((cx2_at _ r a).trans (blk_x m c t r 2 a)) <|
    roll_at 4#32 _ a (fun k => US (B0 m c) 2 a (t.val * 512 + k)) 3 4 (by omega) rfl
      (roll_at 2#32 _ a (fun k => US (B0 m c) 2 a (t.val * 512 + k)) 1 2 (by omega) rfl
      (roll_at 1#32 _ a (fun k => US (B0 m c) 2 a (t.val * 512 + k)) 0 1 (by omega) rfl
      (one _ a (fun k => US (B0 m c) 2 a (t.val * 512 + k)) fun k => (ex2_at _ k a).trans (xe_at m c t k 2 a)))) (16 + r.val) (by omega) (by omega)

theorem pm3 (r : Fin 512) (a : Fin 128) :
    fin (roll 8#32 (roll 4#32 (roll 2#32 (roll 1#32 (ex3 (xe m c t)))))) (cnt (k0_pay3 (grid0.coords t)) 16#32) (cx3 (iblk m c 0 t)) (ix2 r a) =
      PM (B0 m c) 3 a (row (step t) r) :=
  pm_of 3 _ _ r a ((cx3_at _ r a).trans (blk_x m c t r 3 a)) <|
    roll_at 8#32 _ a (fun k => US (B0 m c) 3 a (t.val * 512 + k)) 7 8 (by omega) rfl
      (roll_at 4#32 _ a (fun k => US (B0 m c) 3 a (t.val * 512 + k)) 3 4 (by omega) rfl
      (roll_at 2#32 _ a (fun k => US (B0 m c) 3 a (t.val * 512 + k)) 1 2 (by omega) rfl
      (roll_at 1#32 _ a (fun k => US (B0 m c) 3 a (t.val * 512 + k)) 0 1 (by omega) rfl
      (one _ a (fun k => US (B0 m c) 3 a (t.val * 512 + k)) fun k => (ex3_at _ k a).trans (xe_at m c t k 3 a))))) (16 + r.val) (by omega) (by omega)

section loads

variable (m c t)

theorem ldw0 (a b : Fin 128) : View.ld (iblk m c 2 t) (Rect.unit (s := S4x128x128) ![0, 0, 0] ![1, 128, 128] inb_S4x128x128_S1x128x128_0_0_0) (ix3 0 a b) = B1 m c (ix3 0 a b) := by
  rw [← blk_w m c t]
  pointwise
  blk_ext
theorem lds0 (b : Fin 128) : View.ld (iblk m c 3 t) (Rect.unit (s := S1x512) ![0, 0] ![1, 128] inb_S1x512_S1x128_0_0) (ix2 0 b) = B2 m c (ix2 0 (col 0 b)) := by
  rw [← blk_s m c t 0]
  pointwise [col]
  blk_ext

theorem ldw1 (a b : Fin 128) : View.ld (iblk m c 2 t) (Rect.unit (s := S4x128x128) ![1, 0, 0] ![1, 128, 128] inb_S4x128x128_S1x128x128_1_0_0) (ix3 0 a b) = B1 m c (ix3 1 a b) := by
  rw [← blk_w m c t]
  pointwise
  blk_ext
theorem lds1 (b : Fin 128) : View.ld (iblk m c 3 t) (Rect.unit (s := S1x512) ![0, 128] ![1, 128] inb_S1x512_S1x128_0_128) (ix2 0 b) = B2 m c (ix2 0 (col 1 b)) := by
  rw [← blk_s m c t 0]
  pointwise [col]
  blk_ext

theorem ldw2 (a b : Fin 128) : View.ld (iblk m c 2 t) (Rect.unit (s := S4x128x128) ![2, 0, 0] ![1, 128, 128] inb_S4x128x128_S1x128x128_2_0_0) (ix3 0 a b) = B1 m c (ix3 2 a b) := by
  rw [← blk_w m c t]
  pointwise
  blk_ext
theorem lds2 (b : Fin 128) : View.ld (iblk m c 3 t) (Rect.unit (s := S1x512) ![0, 256] ![1, 128] inb_S1x512_S1x128_0_256) (ix2 0 b) = B2 m c (ix2 0 (col 2 b)) := by
  rw [← blk_s m c t 0]
  pointwise [col]
  blk_ext

theorem ldw3 (a b : Fin 128) : View.ld (iblk m c 2 t) (Rect.unit (s := S4x128x128) ![3, 0, 0] ![1, 128, 128] inb_S4x128x128_S1x128x128_3_0_0) (ix3 0 a b) = B1 m c (ix3 3 a b) := by
  rw [← blk_w m c t]
  pointwise
  blk_ext
theorem lds3 (b : Fin 128) : View.ld (iblk m c 3 t) (Rect.unit (s := S1x512) ![0, 384] ![1, 128] inb_S1x512_S1x128_0_384) (ix2 0 b) = B2 m c (ix2 0 (col 3 b)) := by
  rw [← blk_s m c t 0]
  pointwise [col]
  blk_ext

end loads

/-- A block of the mixed means. -/
theorem mx_of (g : Fin 4) (p : FVec Ideal S512x128 .bf16) (w : FVec Ideal S1x128x128 .f32) (s : FVec Ideal S1x128 .f32)
    (hp : ∀ (r : Fin 512) (a : Fin 128), p (ix2 r a) = PM (B0 m c) g a (row (step t) r))
    (hw : ∀ a b : Fin 128, w (ix3 0 a b) = B1 m c (ix3 g a b)) (hs : ∀ b : Fin 128, s (ix2 0 b) = B2 m c (ix2 0 (col g b)))
    (r : Fin 512) (d : Fin 128) : mix w s p (ix2 r d) = MX (B0 m c) (B1 m c) (B2 m c) g d (row (step t) r) := by
  rw [mix_at]
  simp only [hp, hw, hs, MX]

end Cert.PoolF

end
-- ==== Proof.PoolFwd.Rows.lean ====
/-
  The kernel's two results, a block and the whole arrays.
-/
module

public import proofs.«01_k».proof.Proof.PoolFwd.Point
public import Idealize.ShloMosaic.Lib.Pipeline.ReadBack

@[expose] public section

set_option maxRecDepth 16384

noncomputable section

namespace Cert.PoolF

open Idealize.ShloMosaic Idealize.ShloMosaic.TcCoe Cert.Pool Cert.PoolFwdIdeal Cert.PoolFwdIdeal.Gen

variable (m : (ℓ : Loc nD τ sig) → Buf (Elt Ideal) ℓ) (c : Dev nD) (t : Fin cfg0.N)

/-- The means of each group, as the point leaves them. -/
def q0 : FVec Ideal S512x128 .bf16 := k0_pay4 (grid0.coords t) (iblk m c 0 t) (iblk m c 1 t)
def q1 : FVec Ideal S512x128 .bf16 := k0_pay8 (iblk m c 0 t) (k0_pay3 (grid0.coords t)) (k0_pay6 (grid0.coords t) (iblk m c 0 t) (iblk m c 1 t)) (k0_pay7 (grid0.coords t) (iblk m c 0 t) (iblk m c 1 t))
def q2 : FVec Ideal S512x128 .bf16 := k0_pay12 (k0_pay10 (k0_pay2 (grid0.coords t) (iblk m c 0 t) (iblk m c 1 t)) (k0_pay3 (grid0.coords t))) (k0_pay11 (iblk m c 0 t))
def q3 : FVec Ideal S512x128 .bf16 := k0_pay14 (iblk m c 0 t) (k0_pay2 (grid0.coords t) (iblk m c 0 t) (iblk m c 1 t)) (k0_pay3 (grid0.coords t))

theorem out0 (r : Fin 512) (a : Fin 128) : q0 m c t (ix2 r a) = PM (B0 m c) 0 a (row (step t) r) := by
  unfold q0
  rw [pay4_eq]
  exact pm0 r a

theorem out1 (r : Fin 512) (a : Fin 128) : q1 m c t (ix2 r a) = PM (B0 m c) 1 a (row (step t) r) := by
  unfold q1
  rw [pay8_eq]
  exact pm1 r a

theorem out2 (r : Fin 512) (a : Fin 128) : q2 m c t (ix2 r a) = PM (B0 m c) 2 a (row (step t) r) := by
  unfold q2
  rw [pay12_eq]
  exact pm2 r a

theorem out3 (r : Fin 512) (a : Fin 128) : q3 m c t (ix2 r a) = PM (B0 m c) 3 a (row (step t) r) := by
  unfold q3
  rw [pay14_eq]
  exact pm3 r a

/-- One group's columns of a block. -/
theorem tile (D : Fin 4 → Fin 128 → Fin 8192 → EReal) (f : FVec Ideal S512x128 .bf16) (g : Fin 4)
    (hf : ∀ (r : Fin 512) (a : Fin 128), f (ix2 r a) = D g a (row (step t) r))
    (x : S512x128.Idx) (i : S512x512.Idx) (h0 : (i 0).val = (x 0).val) (h1 : (i 1).val = g.val * 128 + (x 1).val) :
    f x = D (gr (i 1)) (cl (i 1)) (row (step t) (i 0)) := by
  idx_vars x
  idx_vars i
  obtain rfl : i0 = x0 := Fin.ext h0
  obtain rfl : i1 = col g x1 := Fin.ext h1
  refine (hf _ _).trans ?_
  show _ = D (gr (col g x1)) (cl (col g x1)) _
  rw [gr_col, cl_col]

theorem at4 (r : Fin 512) (j : Fin 512) : out0_4 (grid0.coords t) (iblk m c 0 t) (iblk m c 1 t) (iblk m c 2 t) (iblk m c 3 t) (ix2 r j) =
    PM (B0 m c) (gr j) (cl j) (row (step t) r) := by
  unfold_out out0_4
  frame_out
  canon_tiles x hx
  · exact tile t (PM (B0 m c)) _ 3 (out3 m c t) x (ix2 r j) (by omega) (by omega)
  · exact tile t (PM (B0 m c)) _ 2 (out2 m c t) x (ix2 r j) (by omega) (by omega)
  · exact tile t (PM (B0 m c)) _ 1 (out1 m c t) x (ix2 r j) (by omega) (by omega)
  · exact tile t (PM (B0 m c)) _ 0 (out0 m c t) x (ix2 r j) (by omega) (by omega)

theorem at5 (r : Fin 512) (j : Fin 512) : out0_5 (grid0.coords t) (iblk m c 0 t) (iblk m c 1 t) (iblk m c 2 t) (iblk m c 3 t) (ix2 r j) =
    MX (B0 m c) (B1 m c) (B2 m c) (gr j) (cl j) (row (step t) r) := by
  unfold_out out0_5
  frame_out
  canon_tiles x hx
  · exact tile t (MX (B0 m c) (B1 m c) (B2 m c)) _ 3 (mx_of 3 (q3 m c t) _ _ (out3 m c t) (ldw3 m c t) (lds3 m c t)) x (ix2 r j) (by omega) (by omega)
  · exact tile t (MX (B0 m c) (B1 m c) (B2 m c)) _ 2 (mx_of 2 (q2 m c t) _ _ (out2 m c t) (ldw2 m c t) (lds2 m c t)) x (ix2 r j) (by omega) (by omega)
  · exact tile t (MX (B0 m c) (B1 m c) (B2 m c)) _ 1 (mx_of 1 (q1 m c t) _ _ (out1 m c t) (ldw1 m c t) (lds1 m c t)) x (ix2 r j) (by omega) (by omega)
  · exact tile t (MX (B0 m c) (B1 m c) (B2 m c)) _ 0 (mx_of 0 (q0 m c t) _ _ (out0 m c t) (ldw0 m c t) (lds0 m c t)) x (ix2 r j) (by omega) (by omega)

theorem final4 (r : Fin 8192) (j : Fin 512) : (dats m 0 c).arrAt 4 cfg0.N (ix2 r j) = PM (B0 m c) (gr j) (cl j) r := by
  have e : (dats m 0 c).arrAt 4 cfg0.N = (fun i : S8192x512.Idx => PM (B0 m c) (gr (i 1)) (cl (i 1)) (i 0)) := by
    refine (dats m 0 c).arrAt_eq_of_covers 4 _ (by decide +kernel) fun t hf y => ?_
    blk_simp
    rw [after0_4]
    idx_vars y
    rw [at4]
    have e1 : ((View.whole main_v0_0).slice (win0_4.rect t)).emb (ix2 y0 y1) 1 = y1 := Fin.ext (by
      blk_simp [idx t]
      try omega)
    have e0 : ((View.whole main_v0_0).slice (win0_4.rect t)).emb (ix2 y0 y1) 0 = row (step t) y0 := Fin.ext (by
      blk_simp [row, step, idx t]
      try omega)
    exact (congrArg₂ (fun a b => PM (B0 m c) (gr a) (cl a) b) e1 e0).symm
  rw [e]
  rfl

theorem final5 (r : Fin 8192) (j : Fin 512) : (dats m 0 c).arrAt 5 cfg0.N (ix2 r j) = MX (B0 m c) (B1 m c) (B2 m c) (gr j) (cl j) r := by
  have e : (dats m 0 c).arrAt 5 cfg0.N = (fun i : S8192x512.Idx => MX (B0 m c) (B1 m c) (B2 m c) (gr (i 1)) (cl (i 1)) (i 0)) := by
    refine (dats m 0 c).arrAt_eq_of_covers 5 _ (by decide +kernel) fun t hf y => ?_
    blk_simp
    rw [after0_5]
    idx_vars y
    rw [at5]
    have e1 : ((View.whole main_v0_1).slice (win0_5.rect t)).emb (ix2 y0 y1) 1 = y1 := Fin.ext (by
      blk_simp [idx t]
      try omega)
    have e0 : ((View.whole main_v0_1).slice (win0_5.rect t)).emb (ix2 y0 y1) 0 = row (step t) y0 := Fin.ext (by
      blk_simp [row, step, idx t]
      try omega)
    exact (congrArg₂ (fun a b => MX (B0 m c) (B1 m c) (B2 m c) (gr a) (cl a) b) e1 e0).symm
  rw [e]
  rfl

end Cert.PoolF

end
-- ==== Proof.PoolFwd.Ref.lean ====
/-
  The reference's values, read at an index: the sums of `Spec.lean`.
-/
module

public import proofs.«01_k».proof.Proof.PoolFwd.Spec
public import proofs.«01_k».proof.Proof.Gen.PoolFwdRefIdeal.Read
public import Idealize.ShloMosaic.Lib.Pipeline.ValueKit

@[expose] public section

set_option maxRecDepth 16384

noncomputable section

namespace Cert.PoolF

open Idealize.ShloMosaic Cert.Pool Cert.PoolFwdRefIdeal Cert.PoolFwdRefIdeal.Gen Cert.PoolFwdRefIdeal.Read

variable (A0 : FVec Ideal Proj .f32) (A1 : FVec Ideal Wt .f32) (A2 : FVec Ideal Gain .f32)

/-- The pooled columns. -/
theorem ref_u (r : Fin 8192) (g : Fin 4) (c : Fin 128) : val_main_v0 (F := Ideal) A0 (ix2 r (col g c)) = A0 (ix2 r (pcol g c)) := by
  pointwise [val_main_v0]
  rfl

/-- The cumulative sum. -/
theorem ref_cum (r : Fin 8192) (g : Fin 4) (c : Fin 128) : val_main_v2 (F := Ideal) A0 (ix2 r (col g c)) =
    ∑ k ∈ Finset.range (r.val + 16 + 1), US A0 g c k := by
  unfold val_main_v2
  exact cumulative _ _ 8191 rfl _ _ (fun i => by pointwise [val_main_call0_call0_v0, val_main_call0_call0_cst]) _ (US A0 g c)
    (fun k hk => US_lt A0 g c k hk) (fun k hk => (US_at A0 g c k hk).trans (ref_u A0 ⟨k, hk⟩ g c).symm) r

/-- The cumulative sum with sixteen zeros before it. -/
theorem ref_cs (n : Fin 8208) (g : Fin 4) (c : Fin 128) : val_main_v3 (F := Ideal) A0 (ix2 n (col g c)) =
    ∑ k ∈ Finset.range (n.val + 1), US A0 g c k := by
  pointwise [val_main_v3, val_main_v1, val_main_cst]
  split
  · next h => exact (Finset.sum_eq_zero fun k hk => US_lt A0 g c k (by have := Finset.mem_range.1 hk; omega)).symm
  · next h =>
    rw [ref_cum]
    exact congrArg (fun q => ∑ k ∈ Finset.range (q + 1), US A0 g c k) (Nat.sub_add_cancel (by omega))

theorem ref_hi0 (r : Fin 8192) (c : Fin 128) : val_main_v5 (F := Ideal) A0 (ix2 r c) =
    ∑ k ∈ Finset.range (r.val + 16 + 1), US A0 0 c k := by
  rw [val_main_v5_apply]
  refine (congrArg (val_main_v3 (F := Ideal) A0) ?_).trans ((ref_cs A0 ⟨r.val + 16, by omega⟩ 0 c).trans rfl)
  funext a
  refine Fin.ext ?_
  match a with
  | ⟨0, _⟩ => exact Nat.add_comm 16 r.val
  | ⟨1, _⟩ => show c.val = 0 * 128 + c.val; omega

theorem ref_lo0 (r : Fin 8192) (c : Fin 128) : val_main_v6 (F := Ideal) A0 (ix2 r c) =
    ∑ k ∈ Finset.range (r.val + 16 + 1 - wd 0), US A0 0 c k := by
  rw [val_main_v6_apply, show r.val + 16 + 1 - wd 0 = 14 + r.val + 1 by show r.val + 16 + 1 - 2 = _; omega]
  refine (congrArg (val_main_v3 (F := Ideal) A0) ?_).trans ((ref_cs A0 ⟨14 + r.val, by omega⟩ 0 c).trans rfl)
  funext a
  refine Fin.ext ?_
  match a with
  | ⟨0, _⟩ => show 14 + r.val = 14 + r.val; omega
  | ⟨1, _⟩ => show c.val = 0 * 128 + c.val; omega

theorem ref_cn0 (r : Fin 8192) (c : Fin 128) : val_main_v14 (F := Ideal) (ix2 r c) = cn 2 r := by
  pointwise [val_main_v14, val_main_v13, val_main_v12, val_main_v11, val_main_v9, val_main_v10, val_main_v4, val_main_v8, val_main_c, val_main_c_0, cn]

theorem ref_own0 (r : Fin 8192) (c : Fin 128) : val_main_v16 (F := Ideal) A0 (ix2 r c) = A0 (ix2 r (pcol 0 c)) := by
  rw [val_main_v16_apply]
  refine (congrArg (val_main_v0 (F := Ideal) A0) ?_).trans (ref_u A0 r 0 c)
  funext a
  refine Fin.ext ?_
  match a with
  | ⟨0, _⟩ => rfl
  | ⟨1, _⟩ => show c.val = 0 * 128 + c.val; omega

theorem ref_pm0 (h : RealU A0) (r : Fin 8192) (c : Fin 128) : val_main_v17 (F := Ideal) A0 (ix2 r c) = PM A0 0 c r := by
  rw [val_main_v17_apply, val_main_v15_apply, val_main_v7_apply, ref_hi0, ref_lo0, ref_cn0, ref_own0]
  have e := window_diff (US A0 0 c) (US_real h 0 c) (r.val + 16) (wd 0) (by show 2 ≤ _; omega)
  show Ideal.div (∑ k ∈ Finset.range (r.val + 16 + 1), US A0 0 c k - ∑ k ∈ Finset.range (r.val + 16 + 1 - wd 0), US A0 0 c k) _ - _ = _
  rw [e]
  rfl

theorem ref_hi1 (r : Fin 8192) (c : Fin 128) : val_main_v18 (F := Ideal) A0 (ix2 r c) =
    ∑ k ∈ Finset.range (r.val + 16 + 1), US A0 1 c k := by
  rw [val_main_v18_apply]
  refine (congrArg (val_main_v3 (F := Ideal) A0) ?_).trans ((ref_cs A0 ⟨r.val + 16, by omega⟩ 1 c).trans rfl)
  funext a
  refine Fin.ext ?_
  match a with
  | ⟨0, _⟩ => exact Nat.add_comm 16 r.val
  | ⟨1, _⟩ => show 128 + c.val = 1 * 128 + c.val; omega

theorem ref_lo1 (r : Fin 8192) (c : Fin 128) : val_main_v19 (F := Ideal) A0 (ix2 r c) =
    ∑ k ∈ Finset.range (r.val + 16 + 1 - wd 1), US A0 1 c k := by
  rw [val_main_v19_apply, show r.val + 16 + 1 - wd 1 = 12 + r.val + 1 by show r.val + 16 + 1 - 4 = _; omega]
  refine (congrArg (val_main_v3 (F := Ideal) A0) ?_).trans ((ref_cs A0 ⟨12 + r.val, by omega⟩ 1 c).trans rfl)
  funext a
  refine Fin.ext ?_
  match a with
  | ⟨0, _⟩ => show 12 + r.val = 12 + r.val; omega
  | ⟨1, _⟩ => show 128 + c.val = 1 * 128 + c.val; omega

theorem ref_cn1 (r : Fin 8192) (c : Fin 128) : val_main_v27 (F := Ideal) (ix2 r c) = cn 4 r := by
  pointwise [val_main_v27, val_main_v26, val_main_v25, val_main_v24, val_main_v22, val_main_v23, val_main_v4, val_main_v21, val_main_c_1, val_main_c_2, cn]

theorem ref_own1 (r : Fin 8192) (c : Fin 128) : val_main_v29 (F := Ideal) A0 (ix2 r c) = A0 (ix2 r (pcol 1 c)) := by
  rw [val_main_v29_apply]
  refine (congrArg (val_main_v0 (F := Ideal) A0) ?_).trans (ref_u A0 r 1 c)
  funext a
  refine Fin.ext ?_
  match a with
  | ⟨0, _⟩ => rfl
  | ⟨1, _⟩ => show 128 + c.val = 1 * 128 + c.val; omega

theorem ref_pm1 (h : RealU A0) (r : Fin 8192) (c : Fin 128) : val_main_v30 (F := Ideal) A0 (ix2 r c) = PM A0 1 c r := by
  rw [val_main_v30_apply, val_main_v28_apply, val_main_v20_apply, ref_hi1, ref_lo1, ref_cn1, ref_own1]
  have e := window_diff (US A0 1 c) (US_real h 1 c) (r.val + 16) (wd 1) (by show 4 ≤ _; omega)
  show Ideal.div (∑ k ∈ Finset.range (r.val + 16 + 1), US A0 1 c k - ∑ k ∈ Finset.range (r.val + 16 + 1 - wd 1), US A0 1 c k) _ - _ = _
  rw [e]
  rfl

theorem ref_hi2 (r : Fin 8192) (c : Fin 128) : val_main_v31 (F := Ideal) A0 (ix2 r c) =
    ∑ k ∈ Finset.range (r.val + 16 + 1), US A0 2 c k := by
  rw [val_main_v31_apply]
  refine (congrArg (val_main_v3 (F := Ideal) A0) ?_).trans ((ref_cs A0 ⟨r.val + 16, by omega⟩ 2 c).trans rfl)
  funext a
  refine Fin.ext ?_
  match a with
  | ⟨0, _⟩ => exact Nat.add_comm 16 r.val
  | ⟨1, _⟩ => show 256 + c.val = 2 * 128 + c.val; omega

theorem ref_lo2 (r : Fin 8192) (c : Fin 128) : val_main_v32 (F := Ideal) A0 (ix2 r c) =
    ∑ k ∈ Finset.range (r.val + 16 + 1 - wd 2), US A0 2 c k := by
  rw [val_main_v32_apply, show r.val + 16 + 1 - wd 2 = 8 + r.val + 1 by show r.val + 16 + 1 - 8 = _; omega]
  refine (congrArg (val_main_v3 (F := Ideal) A0) ?_).trans ((ref_cs A0 ⟨8 + r.val, by omega⟩ 2 c).trans rfl)
  funext a
  refine Fin.ext ?_
  match a with
  | ⟨0, _⟩ => show 8 + r.val = 8 + r.val; omega
  | ⟨1, _⟩ => show 256 + c.val = 2 * 128 + c.val; omega

theorem ref_cn2 (r : Fin 8192) (c : Fin 128) : val_main_v40 (F := Ideal) (ix2 r c) = cn 8 r := by
  pointwise [val_main_v40, val_main_v39, val_main_v38, val_main_v37, val_main_v35, val_main_v36, val_main_v4, val_main_v34, val_main_c_3, val_main_c_4, cn]

theorem ref_own2 (r : Fin 8192) (c : Fin 128) : val_main_v42 (F := Ideal) A0 (ix2 r c) = A0 (ix2 r (pcol 2 c)) := by
  rw [val_main_v42_apply]
  refine (congrArg (val_main_v0 (F := Ideal) A0) ?_).trans (ref_u A0 r 2 c)
  funext a
  refine Fin.ext ?_
  match a with
  | ⟨0, _⟩ => rfl
  | ⟨1, _⟩ => show 256 + c.val = 2 * 128 + c.val; omega

theorem ref_pm2 (h : RealU A0) (r : Fin 8192) (c : Fin 128) : val_main_v43 (F := Ideal) A0 (ix2 r c) = PM A0 2 c r := by
  rw [val_main_v43_apply, val_main_v41_apply, val_main_v33_apply, ref_hi2, ref_lo2, ref_cn2, ref_own2]
  have e := window_diff (US A0 2 c) (US_real h 2 c) (r.val + 16) (wd 2) (by show 8 ≤ _; omega)
  show Ideal.div (∑ k ∈ Finset.range (r.val + 16 + 1), US A0 2 c k - ∑ k ∈ Finset.range (r.val + 16 + 1 - wd 2), US A0 2 c k) _ - _ = _
  rw [e]
  rfl

theorem ref_hi3 (r : Fin 8192) (c : Fin 128) : val_main_v44 (F := Ideal) A0 (ix2 r c) =
    ∑ k ∈ Finset.range (r.val + 16 + 1), US A0 3 c k := by
  rw [val_main_v44_apply]
  refine (congrArg (val_main_v3 (F := Ideal) A0) ?_).trans ((ref_cs A0 ⟨r.val + 16, by omega⟩ 3 c).trans rfl)
  funext a
  refine Fin.ext ?_
  match a with
  | ⟨0, _⟩ => exact Nat.add_comm 16 r.val
  | ⟨1, _⟩ => show 384 + c.val = 3 * 128 + c.val; omega

theorem ref_lo3 (r : Fin 8192) (c : Fin 128) : val_main_v45 (F := Ideal) A0 (ix2 r c) =
    ∑ k ∈ Finset.range (r.val + 16 + 1 - wd 3), US A0 3 c k := by
  rw [val_main_v45_apply, show r.val + 16 + 1 - wd 3 = 0 + r.val + 1 by show r.val + 16 + 1 - 16 = _; omega]
  refine (congrArg (val_main_v3 (F := Ideal) A0) ?_).trans ((ref_cs A0 ⟨0 + r.val, by omega⟩ 3 c).trans rfl)
  funext a
  refine Fin.ext ?_
  match a with
  | ⟨0, _⟩ => show r.val = 0 + r.val; omega
  | ⟨1, _⟩ => show 384 + c.val = 3 * 128 + c.val; omega

theorem ref_cn3 (r : Fin 8192) (c : Fin 128) : val_main_v53 (F := Ideal) (ix2 r c) = cn 16 r := by
  pointwise [val_main_v53, val_main_v52, val_main_v51, val_main_v50, val_main_v48, val_main_v49, val_main_v4, val_main_v47, val_main_c_5, val_main_c_6, cn]

theorem ref_own3 (r : Fin 8192) (c : Fin 128) : val_main_v55 (F := Ideal) A0 (ix2 r c) = A0 (ix2 r (pcol 3 c)) := by
  rw [val_main_v55_apply]
  refine (congrArg (val_main_v0 (F := Ideal) A0) ?_).trans (ref_u A0 r 3 c)
  funext a
  refine Fin.ext ?_
  match a with
  | ⟨0, _⟩ => rfl
  | ⟨1, _⟩ => show 384 + c.val = 3 * 128 + c.val; omega

theorem ref_pm3 (h : RealU A0) (r : Fin 8192) (c : Fin 128) : val_main_v56 (F := Ideal) A0 (ix2 r c) = PM A0 3 c r := by
  rw [val_main_v56_apply, val_main_v54_apply, val_main_v46_apply, ref_hi3, ref_lo3, ref_cn3, ref_own3]
  have e := window_diff (US A0 3 c) (US_real h 3 c) (r.val + 16) (wd 3) (by show 16 ≤ _; omega)
  show Ideal.div (∑ k ∈ Finset.range (r.val + 16 + 1), US A0 3 c k - ∑ k ∈ Finset.range (r.val + 16 + 1 - wd 3), US A0 3 c k) _ - _ = _
  rw [e]
  rfl

/-- The means, by row, group and column. -/
theorem ref_pm (h : RealU A0) (r : Fin 8192) (g : Fin 4) (c : Fin 128) : val_main_v61 (F := Ideal) A0 (ix3 r g c) = PM A0 g c r := by
  match g with
  | 0 =>
    pointwise [val_main_v61, val_main_v57, val_main_v58, val_main_v59, val_main_v60]
    exact ref_pm0 A0 h r c
  | 1 =>
    pointwise [val_main_v61, val_main_v57, val_main_v58, val_main_v59, val_main_v60]
    exact ref_pm1 A0 h r c
  | 2 =>
    pointwise [val_main_v61, val_main_v57, val_main_v58, val_main_v59, val_main_v60]
    exact ref_pm2 A0 h r c
  | 3 =>
    pointwise [val_main_v61, val_main_v57, val_main_v58, val_main_v59, val_main_v60]
    exact ref_pm3 A0 h r c

/-- The first result: the means, the groups' columns side by side. -/
theorem ref_v63 (h : RealU A0) (r : Fin 8192) (g : Fin 4) (c : Fin 128) : val_main_v63 (F := Ideal) A0 (ix2 r (col g c)) = PM A0 g c r := by
  rw [← ref_pm A0 h r g c]
  pointwise [val_main_v63, val_main_v62]
  have e1 : ∀ h, (⟨(col g c).val / 128, h⟩ : Fin 4) = g := fun _ => Fin.ext (by show (g.val * 128 + c.val) / 128 = g.val; omega)
  have e2 : ∀ h, (⟨(col g c).val % 128, h⟩ : Fin 128) = c := fun _ => Fin.ext (by show (g.val * 128 + c.val) % 128 = c.val; omega)
  rw [e1, e2]

/-- The second result: the mixed means, scaled. -/
theorem ref_v69 (h : RealU A0) (r : Fin 8192) (g : Fin 4) (d : Fin 128) :
    val_main_v69 (F := Ideal) A0 A1 A2 (ix2 r (col g d)) = MX A0 A1 A2 g d r := by
  unfold MX
  simp only [← ref_pm A0 h]
  pointwise [val_main_v69, val_main_v68, val_main_v67, val_main_v66, val_main_v65, val_main_v64]
  have e1 : ∀ h, (⟨(col g d).val / 128, h⟩ : Fin 4) = g := fun _ => Fin.ext (by show (g.val * 128 + d.val) / 128 = g.val; omega)
  have e2 : ∀ h, (⟨(col g d).val % 128, h⟩ : Fin 128) = d := fun _ => Fin.ext (by show (g.val * 128 + d.val) % 128 = d.val; omega)
  rw [e1, e2]
  exact congrArg (· * _) (Finset.sum_congr rfl fun c _ => mul_comm _ _)

end Cert.PoolF

end
-- ==== Proof.PoolFwd.Claims.lean ====
/-
  The multiscale pooling: the reference's frames, and that both programs end with the same arrays.
-/
module

public import proofs.«01_k».proof.Defs
public import proofs.«01_k».proof.Proof.PoolFwd.Rows
public import proofs.«01_k».proof.Proof.PoolFwd.Ref
public import proofs.«01_k».proof.Proof.Pool.Finite
public import proofs.«01_k».proof.Proof.Gen.Pre_finite_u
public import proofs.«01_k».proof.Proof.Gen.PoolFwdIdeal.Value
public import proofs.«01_k».proof.Proof.Gen.PoolFwdRefIdeal
public import Idealize.ShloMosaic.Lib.Quiescent

@[expose] public section

set_option maxRecDepth 16384

noncomputable section

namespace Cert.PoolF

open Idealize.ShloMosaic Idealize.ShloMosaic.TcCoe Idealize.SL.Sem Cert.Pool

/-- The reference runs, its arguments are unchanged and its counters end at zero: it has none. -/
theorem frame_ref : Cert.quiescent_PoolFwdRefIdeal (hPoolFwdRefIdeal := Cert.PoolFwdRefIdeal.Gen.facts) := fun m ρ _ =>
  (θ_run (Cert.PoolFwdRefIdeal.defs (F := Ideal)) _ _).mono
    (fun r h => ⟨fun c => (h c).2.2, Idealize.ShloMosaic.sem_eq_zero_of_no_sems (by decide) r.2⟩)
    (Cert.PoolFwdRefIdeal.Value.run (F := Ideal) m ρ)

/-- The precondition at an entry: the pooled columns are real numbers. -/
theorem real_of_pre (A0 : FVec Ideal Proj .f32) (A1 : FVec Ideal Wt .f32) (A2 : FVec Ideal Gain .f32)
    (hp : letI := Cert.Pre_finite_u.Gen.facts; Cert.Pre_finite_u.fn (F := Ideal) A0 A1 A2 = fun _ => 1#1) : RealU A0 := by
  intro r g a
  letI := Cert.Pre_finite_u.Gen.facts
  have h := congrFun hp (ix2 r (col g a))
  revert h
  pointwise [Cert.Pre_finite_u.fn]
  exact fun h => real_of_lt _ _ h

section
variable (m : (ℓ : Loc Cert.PoolFwdIdeal.nD Cert.PoolFwdIdeal.τ Cert.PoolFwdIdeal.sig) → Buf (Elt Ideal) ℓ) (c : Dev Cert.PoolFwdIdeal.nD)
open Cert.PoolFwdRefIdeal.Read Cert.PoolFwdIdeal Cert.PoolFwdIdeal.Gen

/-! The arrays the kernel leaves are the reference's, of the same arguments. -/

theorem eq4 (h : RealU (B0 m c)) : (dats m 0 c).arrAt 4 cfg0.N = val_main_v63 (F := Ideal) (B0 m c) := by
  funext i
  idx_vars i
  refine (final4 m c i0 i1).trans ((ref_v63 _ h i0 (gr i1) (cl i1)).symm.trans ?_)
  rw [col_gr]

theorem eq5 (h : RealU (B0 m c)) : (dats m 0 c).arrAt 5 cfg0.N = val_main_v69 (F := Ideal) (B0 m c) (B1 m c) (B2 m c) := by
  funext i
  idx_vars i
  refine (final5 m c i0 i1).trans ((ref_v69 _ _ _ h i0 (gr i1) (cl i1)).symm.trans ?_)
  rw [col_gr]

end

/-- From equal arguments whose pooled columns are real numbers both programs end with the same two arrays. -/
theorem algebraic : Cert.algebraic_PoolFwdIdeal_PoolFwdRefIdeal_pre_finite_u (hPoolFwdIdeal := Cert.PoolFwdIdeal.Gen.facts)
    (hPoolFwdRefIdeal := Cert.PoolFwdRefIdeal.Gen.facts) (hPre_finite_u := Cert.Pre_finite_u.Gen.facts) := by
  intro m g m' g' hp ha
  refine ⟨_, _, Cert.PoolFwdIdeal.Value.run_blocks (F := Ideal) m g, ?_⟩
  refine (θ_run (Cert.PoolFwdRefIdeal.defs (F := Ideal)) _ _).mono (fun r h c => ?_) (Cert.PoolFwdRefIdeal.Value.run (F := Ideal) m' g')
  obtain ⟨h0, h1, hk⟩ := h c
  obtain ⟨a0, a1, a2⟩ := ha c
  have hr := real_of_pre _ _ _ (hp c)
  rw [Cert.PoolFwdRefIdeal.Read.val_main_v63_eq, a0] at h0
  rw [Cert.PoolFwdRefIdeal.Read.val_main_v69_eq, a0, a1, a2] at h1
  exact ⟨h0.trans (eq4 m c hr).symm, h1.trans (eq5 m c hr).symm, hk⟩

end Cert.PoolF

end
-- ==== Proof.AttnFwd.Spec.lean ====
/-
  The attention of the forward pass by chunks of 64 queries: a query meets the 576 keys of its own chunk and of the eight
  before it. The kernel works on 256 queries and 768 keys at a time, every key outside a query's band masked by −∞.
-/
module

public import Idealize.ShloMosaic.PureOps.Ideal.Laws
public import Idealize.ShloMosaic.Lib.Pipeline.ValueKit
public import proofs.«01_k».proof.Proof.Norm.Algebra

@[expose] public section

noncomputable section

namespace Cert.Att

open Idealize.ShloMosaic

abbrev Proj : Shape := ⟨2, ![8192, 4096]⟩
abbrev Bias : Shape := ⟨3, ![8, 64, 576]⟩

section Softmax
variable {n : ℕ} (f v : Fin n → EReal)

theorem coe_sum (x : Fin n → ℝ) : ((∑ k, x k : ℝ) : EReal) = ∑ k, (x k : EReal) := map_sum (⟨⟨fun r : ℝ => (r : EReal), rfl⟩, EReal.coe_add⟩ : ℝ →+ EReal) x _

/-- The largest score. -/
def MX : EReal := Finset.univ.fold max ⊥ f

/-- A score's weight before the division. -/
def EX (k : Fin n) : EReal := Ideal.exp (f k - MX f)

/-- The sum of the weights, and of the weighted values. -/
def SE : EReal := ∑ k, EX f k
def SV : EReal := ∑ k, EX f k * v k

theorem le_MX (k : Fin n) : f k ≤ MX f := (Finset.fold_max_le (MX f)).1 le_rfl |>.2 k (Finset.mem_univ k)

theorem MX_le (b : EReal) (h : ∀ k, f k ≤ b) : MX f ≤ b := (Finset.fold_max_le b).2 ⟨bot_le, fun k _ => h k⟩

theorem exp_bot (x : EReal) : Ideal.exp (⊥ - x) = 0 := by
  rw [sub_eq_add_neg, EReal.bot_add]
  rfl

variable {f}

theorem EX_bot {k : Fin n} (h : f k = ⊥) : EX f k = 0 := by
  unfold EX
  rw [h, exp_bot]

theorem MX_real (hf : ∀ k, f k ≠ ⊤) (hk : ∃ k, f k ≠ ⊥) : ∃ r : ℝ, MX f = r := by
  have h1 : MX f < ⊤ := (Finset.fold_max_lt ⊤).2 ⟨bot_lt_top, fun k _ => lt_top_iff_ne_top.2 (hf k)⟩
  obtain ⟨k, hk⟩ := hk
  have h2 : MX f ≠ ⊥ := fun h => hk (le_bot_iff.1 (h ▸ le_MX f k))
  exact ⟨(MX f).toReal, (EReal.coe_toReal h1.ne h2).symm⟩

theorem EX_real (hf : ∀ k, f k ≠ ⊤) (hk : ∃ k, f k ≠ ⊥) (k : Fin n) : ∃ x : ℝ, EX f k = x ∧ 0 ≤ x ∧ (f k ≠ ⊥ → 0 < x) := by
  obtain ⟨r, hr⟩ := MX_real hf hk
  by_cases hb : f k = ⊥
  · exact ⟨0, by rw [EX_bot hb]; rfl, le_rfl, fun h => absurd hb h⟩
  · refine ⟨Real.exp ((f k).toReal - r), ?_, (Real.exp_pos _).le, fun _ => Real.exp_pos _⟩
    unfold EX
    rw [hr]
    conv_lhs => rw [← EReal.coe_toReal (hf k) hb]
    rw [← EReal.coe_sub]
    rfl

/-- Dividing each weight is dividing the weighted sum. -/
theorem soft (hf : ∀ k, f k ≠ ⊤) (hk : ∃ k, f k ≠ ⊥) : ∑ k, Ideal.div (EX f k) (SE f) * v k = Ideal.div (SV f v) (SE f) := by
  choose x hx h0 hp using EX_real hf hk
  obtain ⟨k, hk⟩ := hk
  have hs : SE f = ((∑ k, x k : ℝ) : EReal) := by
    unfold SE
    rw [coe_sum]
    exact Finset.sum_congr rfl fun k _ => hx k
  have hpos : 0 < ∑ k, x k := Finset.sum_pos' (fun k _ => h0 k) ⟨k, Finset.mem_univ k, hp k hk⟩
  rw [hs, Ideal.div_coe hpos.ne', mul_comm, SV, Norm.mul_sum _ (by exact_mod_cast (one_div_pos.2 hpos).le) (EReal.coe_ne_top _)]
  refine Finset.sum_congr rfl fun k _ => ?_
  rw [Ideal.div_coe hpos.ne', mul_comm (EX f k), mul_assoc]

end Softmax

section Wide
variable (o : ℕ) (f : Fin 576 → EReal)

/-- Scores of a band among 768 keys, the others −∞. -/
def wide (k : Fin 768) : EReal := if h : o ≤ k.val ∧ k.val < o + 576 then f ⟨k.val - o, by omega⟩ else ⊥

variable (ho : o + 576 ≤ 768)
include ho

/-- A band's key among the 768. -/
def into (b : Fin 576) : Fin 768 := ⟨b.val + o, by omega⟩

theorem wide_into (b : Fin 576) : wide o f (into o ho b) = f b := by
  have hb := b.isLt
  unfold wide into
  rw [dif_pos ⟨by show o ≤ b.val + o; omega, by show b.val + o < o + 576; omega⟩]
  exact congrArg f (Fin.ext (by show b.val + o - o = b.val; omega))

theorem wide_out (k : Fin 768) (h : k ∉ Set.range (into o ho)) : wide o f k = ⊥ := by
  unfold wide
  refine dif_neg fun hk => h ⟨⟨k.val - o, by omega⟩, Fin.ext (by show k.val - o + o = k.val; omega)⟩

theorem MX_wide : MX (wide o f) = MX f := by
  apply le_antisymm
  · refine MX_le _ _ fun k => ?_
    by_cases h : k ∈ Set.range (into o ho)
    · obtain ⟨b, rfl⟩ := h
      rw [wide_into]
      exact le_MX f b
    · rw [wide_out o f ho k h]
      exact bot_le
  · refine MX_le _ _ fun b => ?_
    rw [← wide_into o f ho b]
    exact le_MX _ _

theorem EX_into (b : Fin 576) : EX (wide o f) (into o ho b) = EX f b := by
  unfold EX
  rw [MX_wide o f ho, wide_into]

theorem into_inj : Function.Injective (into o ho) := fun a b h => Fin.ext (by
  have := congrArg Fin.val h
  simp only [into] at this
  omega)

theorem SE_wide : SE (wide o f) = SE f :=
  (Fintype.sum_of_injective (into o ho) (into_inj o ho) _ _ (fun k h => EX_bot (wide_out o f ho k h)) fun b => (EX_into o f ho b).symm).symm

theorem SV_wide (w : Fin 768 → EReal) (v : Fin 576 → EReal) (h : ∀ b, f b ≠ ⊥ → w (into o ho b) = v b) : SV (wide o f) w = SV f v := by
  refine (Fintype.sum_of_injective (into o ho) (into_inj o ho) _ _ (fun k h => ?_) fun b => ?_).symm
  · rw [EX_bot (wide_out o f ho k h), zero_mul]
  · rw [EX_into]
    by_cases hb : f b = ⊥
    · rw [EX_bot hb, zero_mul, zero_mul]
    · rw [h b hb]

end Wide

/-- The columns of a head's queries, keys and values. -/
def qcol (h : Fin 8) (d : Fin 64) : Fin 4096 := ⟨h.val * 64 + d.val, by omega⟩
def kcol (h : Fin 8) (d : Fin 64) : Fin 4096 := ⟨512 + (h.val * 64 + d.val), by omega⟩
def vcol (h : Fin 8) (d : Fin 64) : Fin 4096 := ⟨1024 + (h.val * 64 + d.val), by omega⟩

/-- The factor on the scores. -/
def e8 : EReal := ((1/8 : ℝ) : EReal)

theorem neg_inf : Ideal.ofBits FTy.f32 0xFF800000#32 = ⊥ := by
  simp [Ideal.ofBits, Ideal.ieee]

theorem eighth : Ideal.ofBits FTy.f32 0x3E000000#32 = e8 := by
  unfold e8
  simp [Ideal.ofBits, Ideal.ieee, -EReal.coe_mul]
  norm_num

variable (A0 : FVec Ideal Proj .f32) (A1 : FVec Ideal Bias .f32)

/-- The row of a query's key `b`, moved down by 512. -/
def kr (t : Fin 8192) (b : Fin 576) : ℕ := t.val / 64 * 64 + b.val

theorem kr_lt (t : Fin 8192) (b : Fin 576) : kr t b - 512 < 8192 := by
  unfold kr
  omega

/-- The score of query `t` and key `b` of its band in head `h`. -/
def SC (h : Fin 8) (t : Fin 8192) (b : Fin 576) : EReal :=
  if 512 ≤ kr t b then
    (∑ d : Fin 64, A0 (ix2 t (qcol h d)) * A0 (ix2 ⟨kr t b - 512, kr_lt t b⟩ (kcol h d))) * e8 + A1 (ix3 h ⟨t.val % 64, by omega⟩ b)
  else ⊥

/-- The key's value, zero before the first row. -/
def VL (h : Fin 8) (d : Fin 64) (t : Fin 8192) (b : Fin 576) : EReal :=
  if 512 ≤ kr t b then A0 (ix2 ⟨kr t b - 512, kr_lt t b⟩ (vcol h d)) else 0

/-- The attention, and the logarithm of the weights' sum. -/
def AT (h : Fin 8) (d : Fin 64) (t : Fin 8192) : EReal := Ideal.div (SV (SC A0 A1 h t) (VL A0 h d t)) (SE (SC A0 A1 h t))
def LS (h : Fin 8) (t : Fin 8192) : EReal := MX (SC A0 A1 h t) + Ideal.log (SE (SC A0 A1 h t))

/-- Queries, keys and biases are real numbers. -/
def RealQK : Prop := (∀ (t : Fin 8192) (j : Fin 1024), ∃ r : ℝ, A0 (ix2 t ⟨j.val, by omega⟩) = r) ∧ ∀ h r b, ∃ x : ℝ, A1 (ix3 h r b) = x

variable {A0 A1}

theorem SC_real (hr : RealQK A0 A1) (h : Fin 8) (t : Fin 8192) (b : Fin 576) (hb : 512 ≤ kr t b) : ∃ x : ℝ, SC A0 A1 h t b = x := by
  unfold SC
  rw [if_pos hb]
  choose q hq using hr.1
  obtain ⟨y, hy⟩ := hr.2 h ⟨t.val % 64, by omega⟩ b
  refine ⟨(∑ d : Fin 64, q t ⟨h.val * 64 + d.val, by omega⟩ * q ⟨kr t b - 512, kr_lt t b⟩ ⟨512 + (h.val * 64 + d.val), by omega⟩) * (1/8) + y, ?_⟩
  rw [hy, EReal.coe_add, EReal.coe_mul, coe_sum]
  refine congrArg (· * _ + _) (Finset.sum_congr rfl fun d _ => ?_)
  rw [EReal.coe_mul, ← hq, ← hq]
  rfl

theorem SC_ne_top (hr : RealQK A0 A1) (h : Fin 8) (t : Fin 8192) (b : Fin 576) : SC A0 A1 h t b ≠ ⊤ := by
  by_cases hb : 512 ≤ kr t b
  · obtain ⟨x, hx⟩ := SC_real hr h t b hb
    rw [hx]
    exact EReal.coe_ne_top x
  · unfold SC
    rw [if_neg hb]
    exact bot_ne_top

theorem SC_own (hr : RealQK A0 A1) (h : Fin 8) (t : Fin 8192) : ∃ b, SC A0 A1 h t b ≠ ⊥ := by
  obtain ⟨x, hx⟩ := SC_real hr h t ⟨512, by omega⟩ (by unfold kr; show 512 ≤ t.val / 64 * 64 + 512; omega)
  exact ⟨_, by rw [hx]; exact EReal.coe_ne_bot x⟩

/-- The reference divides each weight. -/
theorem AT_ref (hr : RealQK A0 A1) (h : Fin 8) (d : Fin 64) (t : Fin 8192) :
    ∑ b, Ideal.div (EX (SC A0 A1 h t) b) (SE (SC A0 A1 h t)) * VL A0 h d t b = AT A0 A1 h d t :=
  soft _ (SC_ne_top hr h t) (SC_own hr h t)

end Cert.Att

end
-- ==== Proof.AttnFwd.Body.lean ====
/-
  What the kernel's arithmetic gives at an entry, of one block of 256 queries and three blocks of keys.
-/
module

public import proofs.«01_k».proof.Proof.AttnFwd.Spec
public import proofs.«01_k».proof.Proof.Gen.AttnFwdIdeal.Skeleton
public import Idealize.ShloMosaic.Lib.KernelVsHost

@[expose] public section

set_option maxRecDepth 16384

noncomputable section

namespace Cert.Att

open Idealize.ShloMosaic Cert.AttnFwdIdeal Cert.AttnFwdIdeal.Gen

variable (n : BitVec 32) (x : FVec Ideal S256x128 .f32) (a b c : FVec Ideal S256x128 .f32) (u : FVec Ideal S1x256x768 .f32)

/-- Three blocks of rows one below another. -/
def rows3 (k : Fin 768) (l : Fin 128) : EReal :=
  if h : k.val < 256 then a (ix2 ⟨k.val, h⟩ l) else if h' : k.val < 512 then b (ix2 ⟨k.val - 256, by omega⟩ l)
  else c (ix2 ⟨k.val - 512, by omega⟩ l)

theorem rows3_1 (k : Fin 768) (l : Fin 128) (h : k.val < 256) : rows3 a b c k l = a (ix2 ⟨k.val, h⟩ l) := by
  unfold rows3
  exact dif_pos h

theorem rows3_2 (k : Fin 768) (l : Fin 128) (h : ¬k.val < 256) (h' : k.val < 512) : rows3 a b c k l = b (ix2 ⟨k.val - 256, by omega⟩ l) := by
  unfold rows3
  exact (dif_neg h).trans (dif_pos h')

theorem rows3_3 (k : Fin 768) (l : Fin 128) (h : ¬k.val < 256) (h' : ¬k.val < 512) : rows3 a b c k l = c (ix2 ⟨k.val - 512, by omega⟩ l) := by
  unfold rows3
  exact (dif_neg h).trans (dif_neg h')

theorem named_mask : Named.named (F := Ideal) (φ := .f32) Cert.AttnFwdIdeal.κ "mask" 0xF149F2CA#32 = ⊥ :=
  IdealRules.named_const.ideal_named_scalar _ _ _ _ rfl

theorem select_ite {α : Type} (p : Prop) [Decidable p] (s t : α) : Scalar.select (if p then 1#1 else 0#1) s t = if p then s else t := by
  by_cases h : p <;> simp [h, Scalar.select]

theorem lane_lt : ∀ l : Fin 128, IntOp.cmpi CmpIPredicate.slt (BitVec.ofNat 32 l.val) 64#32 = if l.val < 64 then 1#1 else 0#1 := by
  decide +kernel

theorem lane_ge : ∀ l : Fin 128, IntOp.cmpi CmpIPredicate.sge (BitVec.ofNat 32 l.val) 64#32 = if l.val < 64 then 0#1 else 1#1 := by
  decide +kernel

theorem block_of : ∀ k : Fin 768, (Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 256#32 0#32))
                  (Scalar.extui (Scalar.cmpi CmpIPredicate.slt 256#32 0#32))))
              (IntOp.cmpi CmpIPredicate.ne (IntOp.remsi ArithUnit.vector (BitVec.ofNat 32 k.val) 256#32) 0#32))
            (IntOp.subi (IntOp.divsi ArithUnit.vector (BitVec.ofNat 32 k.val) 256#32) 1#32)
            (IntOp.divsi ArithUnit.vector (BitVec.ofNat 32 k.val) 256#32)) = BitVec.ofNat 32 (k.val / 256) := by
  decide +kernel

theorem ge_two : ∀ (a : Fin 3) (i : Fin 32), IntOp.cmpi CmpIPredicate.sge (IntOp.addi (BitVec.ofNat 32 a.val) (BitVec.ofNat 32 i.val)) 2#32 =
    if 2 ≤ a.val + i.val then 1#1 else 0#1 := by
  decide +kernel

theorem pay13_at (i : Fin 32) (k : Fin 768) (z : Fin 1) :
    k0_pay13 (F := Ideal) (BitVec.ofNat 32 i.val) k0_pay9 k0_pay10 k0_pay11 k0_pay12 (ix2 z k) = if 2 ≤ k.val / 256 + i.val then 0 else ⊥ := by
  pointwise [k0_pay13, k0_pay9, k0_pay10, k0_pay11, k0_pay12]
  rw [block_of, named_mask, ge_two ⟨k.val / 256, by omega⟩ i, select_ite]

theorem pay8_at (k : Fin 768) (l : Fin 128) : k0_pay8 (F := Ideal) a b c (ix2 k l) = rows3 a b c k l := by
  pointwise [k0_pay8]
  by_cases h1 : k.val < 256
  · exact (dif_pos h1).trans (rows3_1 a b c k l h1).symm
  by_cases h2 : k.val < 512
  · exact (dif_neg h1).trans ((dif_pos (by omega)).trans (rows3_2 a b c k l h1 h2).symm)
  · exact (dif_neg h1).trans ((dif_neg (by omega)).trans ((congrArg (fun i => c (ix2 i l)) (Fin.ext (Nat.sub_sub k.val 256 256))).trans
      (rows3_3 a b c k l h1 h2).symm))

theorem pay6_at (q : Fin 256) (l : Fin 128) : k0_pay6 (F := Ideal) x (ix2 q l) = if l.val < 64 then x (ix2 q l) * e8 else 0 := by
  pointwise [k0_pay6, k0_pay5]
  rw [lane_lt, select_ite, eighth]

theorem pay7_at (q : Fin 256) (l : Fin 128) : k0_pay7 (F := Ideal) x (ix2 q l) = if l.val < 64 then 0 else x (ix2 q l) * e8 := by
  pointwise [k0_pay7, k0_pay5]
  rw [lane_ge, eighth]
  by_cases h : l.val < 64 <;> simp [h, Scalar.select]

variable (p : FVec Ideal S256x128 .bf16) (w : FVec Ideal S768x128 .bf16) (y : FVec Ideal S256x768 .f32)
  (v21 : IVec S1x768 32) (v35 : IVec S1x768 1) (v37 v38 : IVec S1x768 32)

theorem pay14_at (q : Fin 256) (k : Fin 768) : k0_pay14 (F := Ideal) n p w v21 v35 v37 v38 u (ix2 q k) = ∑ l : Fin 128, p (ix2 q l) * w (ix2 k l) +
    u (ix3 0 q k) + k0_pay13 (F := Ideal) n v21 v35 v37 v38 (ix2 0 k) := by
  pointwise [k0_pay14]

theorem pay1_at (q : Fin 256) (z : Fin 1) : k0_pay1 (F := Ideal) y (ix2 q z) = MX (fun k => y (ix2 q k)) := by
  pointwise [k0_pay1]
  rw [neg_inf]
  rfl

theorem pay16_at (k : Fin 768) (j : Fin 256) : k0_pay16 (F := Ideal) a b c (ix2 k j) =
    if h : j.val < 128 then rows3 a b c k ⟨j.val, h⟩ else 1 := by
  pointwise [k0_pay16]
  by_cases h : j.val < 128
  · rw [dif_pos h]
    rw [dif_pos h]
    by_cases h1 : k.val < 256
    · exact (dif_pos h1).trans (rows3_1 a b c k ⟨j.val, h⟩ h1).symm
    by_cases h2 : k.val < 512
    · exact (dif_neg h1).trans ((dif_pos (by omega)).trans (rows3_2 a b c k ⟨j.val, h⟩ h1 h2).symm)
    · exact (dif_neg h1).trans ((dif_neg (by omega)).trans ((congrArg (fun i => c (ix2 i ⟨j.val, h⟩)) (Fin.ext (Nat.sub_sub k.val 256 256))).trans
        (rows3_3 a b c k ⟨j.val, h⟩ h1 h2).symm))
  · rw [dif_neg h]
    rw [dif_neg h]

variable (g : FVec Ideal S768x256 .bf16)

theorem pay2_at (q : Fin 256) (j : Fin 256) : k0_pay2 (F := Ideal) y g (ix2 q j) = SV (fun k => y (ix2 q k)) (fun k => g (ix2 k j)) := by
  pointwise [k0_pay2]
  rw [pay1_at]
  rfl

/-- A head's part of a point's two arrays, from its scores. -/
def att (l : Fin 128) (q : Fin 256) : EReal := Ideal.div (k0_pay2 (F := Ideal) y g (ix2 q ⟨l.val, by omega⟩)) (k0_pay2 (F := Ideal) y g (ix2 q ⟨128 + l.val, by omega⟩))
def lse (l : Fin 128) (q : Fin 256) : EReal := k0_pay1 (F := Ideal) y (ix2 q 0) + Ideal.log (k0_pay2 (F := Ideal) y g (ix2 q ⟨128 + l.val, by omega⟩))

theorem pay3_at (y' : FVec Ideal S256x768 .f32) (q : Fin 256) (l : Fin 128) : k0_pay3 (F := Ideal) (iota .tc S256x128 32 [1] iota_S256x128_d1_w32) y g
     (k0_pay2 y' g) (extractStridedSlice S256x128 ![0, 0] (k0_pay2 y' g) slices_S256x256_o0_0_S256x128) (ix2 q l) =
   if l.val < 64 then att y' g l q else att y g l q := by
  pointwise [k0_pay3]
  rw [lane_lt, select_ite]
  rfl

theorem pay4_at (y' : FVec Ideal S256x768 .f32) (q : Fin 256) (l : Fin 128) : k0_pay4 (F := Ideal) (iota .tc S256x128 32 [1] iota_S256x128_d1_w32) y g
     (k0_pay1 y') (k0_pay2 y' g) (ix2 q l) =
   if l.val < 64 then lse y' g l q else lse y g l q := by
  pointwise [k0_pay4]
  rw [lane_lt, select_ite]
  rfl

end Cert.Att

end
-- ==== Proof.AttnFwd.Tab.lean ====
/-
  The table as the launch finds it: the biases of each query among 768 keys, −∞ outside its band.
-/
module

public import proofs.«01_k».proof.Proof.AttnFwd.Spec
public import proofs.«01_k».proof.Proof.Gen.AttnFwdIdeal.Frame
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Att

open Idealize.ShloMosaic Idealize.ShloMosaic.TcCoe Cert.AttnFwdIdeal Cert.AttnFwdIdeal.Gen

variable (m : (ℓ : Loc nD τ sig) → Buf (Elt Ideal) ℓ) (c : Dev nD)

abbrev B0 : FVec Ideal Proj .f32 := m ((c : Thread nD τ).loc main_arg0)
abbrev B1 : FVec Ideal Bias .f32 := m ((c : Thread nD τ).loc main_arg1)

variable (x : FVec Ideal Bias .f32)

/-- The rows of each chunk, padded. -/
def pd0 : FVec Ideal S8x64x768 .f32 := pad S8x64x768 ![0, 0, 0] ![0, 0, 192] ![0, 0, 0] x (constant (F := Ideal) S_ .f32 0xFF800000#32) pads_S8x64x576_S8x64x768_000_000_01920 h_S_
def pd1 : FVec Ideal S8x64x768 .f32 := pad S8x64x768 ![0, 0, 64] ![0, 0, 128] ![0, 0, 0] x (constant (F := Ideal) S_ .f32 0xFF800000#32) pads_S8x64x576_S8x64x768_000_000_641280 h_S_
def pd2 : FVec Ideal S8x64x768 .f32 := pad S8x64x768 ![0, 0, 128] ![0, 0, 64] ![0, 0, 0] x (constant (F := Ideal) S_ .f32 0xFF800000#32) pads_S8x64x576_S8x64x768_000_000_128640 h_S_
def pd3 : FVec Ideal S8x64x768 .f32 := pad S8x64x768 ![0, 0, 192] ![0, 0, 0] ![0, 0, 0] x (constant (F := Ideal) S_ .f32 0xFF800000#32) pads_S8x64x576_S8x64x768_000_000_19200 h_S_

def tb : FVec Ideal S8x256x768 .f32 := concatenate S8x256x768 1 [⟨S8x64x768, pd0 x⟩, ⟨S8x64x768, pd1 x⟩, ⟨S8x64x768, pd2 x⟩, ⟨S8x64x768, pd3 x⟩]
  concatenates_S8x64x768_S8x64x768_S8x64x768_S8x64x768_S8x256x768_d1

theorem wide_in (o : ℕ) (f : Fin 576 → EReal) (k : Fin 768) (h : o ≤ k.val ∧ k.val < o + 576) : wide o f k = f ⟨k.val - o, by omega⟩ := by
  unfold wide
  exact dif_pos h

theorem wide_no (o : ℕ) (f : Fin 576 → EReal) (k : Fin 768) (h : ¬(o ≤ k.val ∧ k.val < o + 576)) : wide o f k = ⊥ := by
  unfold wide
  exact dif_neg h

theorem pd0_at (h : Fin 8) (r : Fin 64) (k : Fin 768) : pd0 x (ix3 h r k) = wide 0 (fun b => x (ix3 h r b)) k := by
  pointwise [pd0]
  by_cases hk : 0 ≤ k.val ∧ k.val < 0 + 576
  · exact (dif_pos (by omega)).trans (wide_in 0 (fun b => x (ix3 h r b)) k hk).symm
  · exact ((dif_neg (by omega)).trans neg_inf).trans (wide_no 0 _ k hk).symm

theorem pd1_at (h : Fin 8) (r : Fin 64) (k : Fin 768) : pd1 x (ix3 h r k) = wide 64 (fun b => x (ix3 h r b)) k := by
  pointwise [pd1]
  by_cases hk : 64 ≤ k.val ∧ k.val < 64 + 576
  · exact (dif_pos (by omega)).trans (wide_in 64 (fun b => x (ix3 h r b)) k hk).symm
  · exact ((dif_neg (by omega)).trans neg_inf).trans (wide_no 64 _ k hk).symm

theorem pd2_at (h : Fin 8) (r : Fin 64) (k : Fin 768) : pd2 x (ix3 h r k) = wide 128 (fun b => x (ix3 h r b)) k := by
  pointwise [pd2]
  by_cases hk : 128 ≤ k.val ∧ k.val < 128 + 576
  · exact (dif_pos (by omega)).trans (wide_in 128 (fun b => x (ix3 h r b)) k hk).symm
  · exact ((dif_neg (by omega)).trans neg_inf).trans (wide_no 128 _ k hk).symm

theorem pd3_at (h : Fin 8) (r : Fin 64) (k : Fin 768) : pd3 x (ix3 h r k) = wide 192 (fun b => x (ix3 h r b)) k := by
  pointwise [pd3]
  by_cases hk : 192 ≤ k.val ∧ k.val < 192 + 576
  · exact (dif_pos (by omega)).trans (wide_in 192 (fun b => x (ix3 h r b)) k hk).symm
  · exact ((dif_neg (by omega)).trans neg_inf).trans (wide_no 192 _ k hk).symm

theorem wide_congr (o o' : ℕ) (f f' : Fin 576 → EReal) (ho : o = o') (hf : f = f') (k : Fin 768) : wide o f k = wide o' f' k := by
  rw [ho, hf]

theorem tb_at (h : Fin 8) (q : Fin 256) (k : Fin 768) : tb x (ix3 h q k) =
    wide (q.val / 64 * 64) (fun b => x (ix3 h ⟨q.val % 64, by omega⟩ b)) k := by
  pointwise [tb]
  have hq := q.isLt
  by_cases h1 : q.val < 64
  · refine (dif_pos h1).trans ((pd0_at x h _ k).trans ?_)
    exact wide_congr _ _ _ _ (by omega) (funext fun b => congrArg x (congrArg (ix3 h · b) (Fin.ext (by show q.val = q.val % 64; omega)))) k
  refine (dif_neg h1).trans ?_
  by_cases h2 : q.val - 64 < 64
  · refine (dif_pos h2).trans ((pd1_at x h _ k).trans ?_)
    exact wide_congr _ _ _ _ (by omega) (funext fun b => congrArg x (congrArg (ix3 h · b) (Fin.ext (by show q.val - 64 = q.val % 64; omega)))) k
  refine (dif_neg h2).trans ?_
  by_cases h3 : q.val - 64 - 64 < 64
  · refine (dif_pos h3).trans ((pd2_at x h _ k).trans ?_)
    exact wide_congr _ _ _ _ (by omega) (funext fun b => congrArg x (congrArg (ix3 h · b) (Fin.ext (by show q.val - 64 - 64 = q.val % 64; omega)))) k
  refine (dif_neg h3).trans ((pd3_at x h _ k).trans ?_)
  exact wide_congr _ _ _ _ (by omega) (funext fun b => congrArg x (congrArg (ix3 h · b) (Fin.ext (by show q.val - 64 - 64 - 64 = q.val % 64; omega)))) k

theorem V_tab : V m c main_v4 = tb (B1 m c) := by
  unfold V
  after_reads_simp
  rfl

end Cert.Att

end
-- ==== Proof.AttnFwd.Head.lean ====
/-
  What the kernel's arithmetic gives for a head, of blocks whose entries are those of the arguments.
-/
module

public import proofs.«01_k».proof.Proof.AttnFwd.Body
public import proofs.«01_k».proof.Proof.AttnFwd.Tab

@[expose] public section

set_option maxRecDepth 16384

noncomputable section

namespace Cert.Att

open Idealize.ShloMosaic Cert.AttnFwdIdeal Cert.AttnFwdIdeal.Gen

theorem e8_nonneg : (0 : EReal) ≤ e8 := by
  unfold e8
  exact_mod_cast (by norm_num : (0 : ℝ) ≤ 1/8)

/-- A head's lane of a block of two heads. -/
def hd (e : Fin 2) (d : Fin 64) : Fin 128 := ⟨e.val * 64 + d.val, by omega⟩

theorem low (f g : Fin 128 → EReal) : ∑ l : Fin 128, (if l.val < 64 then f l * e8 else 0) * g l = (∑ d : Fin 64, f (hd 0 d) * g (hd 0 d)) * e8 := by
  refine (Fin.sum_univ_add (a := 64) (b := 64) (fun l : Fin 128 => (if l.val < 64 then f l * e8 else 0) * g l)).trans ?_
  have e1 : ∑ d : Fin 64, (fun l : Fin 128 => (if l.val < 64 then f l * e8 else 0) * g l) (Fin.natAdd 64 d) = 0 :=
    Finset.sum_eq_zero fun d _ => by
      show (if 64 + d.val < 64 then _ else (0 : EReal)) * _ = 0
      rw [if_neg (by omega), zero_mul]
  rw [e1, add_zero, mul_comm _ e8, Norm.mul_sum e8 e8_nonneg (EReal.coe_ne_top _)]
  refine Finset.sum_congr rfl fun d _ => ?_
  have hc : (Fin.castAdd 64 d : Fin 128) = hd 0 d := Fin.ext (by show d.val = 0 * 64 + d.val; omega)
  rw [← hc]
  show (if d.val < 64 then f (Fin.castAdd 64 d) * e8 else (0 : EReal)) * _ = _
  rw [if_pos d.isLt, mul_comm (f _) e8, mul_assoc]

theorem high (f g : Fin 128 → EReal) : ∑ l : Fin 128, (if l.val < 64 then 0 else f l * e8) * g l = (∑ d : Fin 64, f (hd 1 d) * g (hd 1 d)) * e8 := by
  refine (Fin.sum_univ_add (a := 64) (b := 64) (fun l : Fin 128 => (if l.val < 64 then 0 else f l * e8) * g l)).trans ?_
  have e1 : ∑ d : Fin 64, (fun l : Fin 128 => (if l.val < 64 then 0 else f l * e8) * g l) (Fin.castAdd 64 d) = 0 :=
    Finset.sum_eq_zero fun d _ => by
      show (if d.val < 64 then (0 : EReal) else _) * _ = 0
      rw [if_pos d.isLt, zero_mul]
  rw [e1, zero_add, mul_comm _ e8, Norm.mul_sum e8 e8_nonneg (EReal.coe_ne_top _)]
  refine Finset.sum_congr rfl fun d _ => ?_
  have hc : (Fin.natAdd 64 d : Fin 128) = hd 1 d := Fin.ext (by show 64 + d.val = 1 * 64 + d.val; omega)
  rw [← hc]
  show (if 64 + d.val < 64 then (0 : EReal) else f (Fin.natAdd 64 d) * e8) * _ = _
  rw [if_neg (by omega), mul_comm (f _) e8, mul_assoc]

/-- A point's rows and heads. -/
def trow (i : Fin 32) (q : Fin 256) : Fin 8192 := ⟨i.val * 256 + q.val, by omega⟩
def hed (p : Fin 4) (e : Fin 2) : Fin 8 := ⟨p.val * 2 + e.val, by omega⟩

theorem kr_trow (i : Fin 32) (q : Fin 256) (b : Fin 576) : kr (trow i q) b = i.val * 256 + (q.val / 64 * 64 + b.val) := by
  show (i.val * 256 + q.val) / 64 * 64 + b.val = _
  omega

variable (A0 : FVec Ideal Proj .f32) (A1 : FVec Ideal Bias .f32) (p : Fin 4) (i : Fin 32)
  (x a b c a' b' c' : FVec Ideal S256x128 .f32)

/-- Three blocks are the rows before the end of the point's queries, of a column block that starts at `s`. -/
def IsRows (s : ℕ) (hs : s + 512 ≤ 4096) : Prop := ∀ (k : Fin 768) (l : Fin 128) (hk : 512 ≤ i.val * 256 + k.val),
  rows3 a b c k l = A0 (ix2 ⟨i.val * 256 + k.val - 512, by omega⟩ ⟨s + (p.val * 128 + l.val), by omega⟩)

/-- A block is the point's queries. -/
def IsQ : Prop := ∀ (q : Fin 256) (l : Fin 128), x (ix2 q l) = A0 (ix2 (trow i q) ⟨p.val * 128 + l.val, by omega⟩)

/-- A block is a head's biases in the table. -/
def IsB (e : Fin 2) (u : FVec Ideal S1x256x768 .f32) : Prop := ∀ (q : Fin 256) (k : Fin 768), u (ix3 0 q k) = tb A1 (ix3 (hed p e) q k)

/-- A head's scaled queries times the keys. -/
def IsP (P : FVec Ideal S256x128 .bf16) (e : Fin 2) : Prop := ∀ (q : Fin 256) (k : Fin 768),
  ∑ l : Fin 128, P (ix2 q l) * k0_pay8 (F := Ideal) a b c (ix2 k l) = (∑ d : Fin 64, x (ix2 q (hd e d)) * rows3 a b c k (hd e d)) * e8

theorem isP0 : IsP x a b c (k0_pay6 (F := Ideal) x) 0 := by
  intro q k
  refine Eq.trans (Finset.sum_congr rfl fun l _ => ?_) (low (fun l => x (ix2 q l)) (fun l => rows3 a b c k l))
  rw [pay6_at, pay8_at]

theorem isP1 : IsP x a b c (k0_pay7 (F := Ideal) x) 1 := by
  intro q k
  refine Eq.trans (Finset.sum_congr rfl fun l _ => ?_) (high (fun l => x (ix2 q l)) (fun l => rows3 a b c k l))
  rw [pay7_at, pay8_at]

variable {A0 A1 p i x a b c a' b' c'}

/-- The scores of a point's queries in a head. -/
theorem score (e : Fin 2) (P : FVec Ideal S256x128 .bf16) (u : FVec Ideal S1x256x768 .f32) (hx : IsQ A0 p i x)
    (hk : IsRows A0 p i a b c 512 (by omega)) (hP : IsP x a b c P e) (hu : IsB A1 p e u) (q : Fin 256) (k : Fin 768) :
    k0_pay14 (F := Ideal) (BitVec.ofNat 32 i.val) P (k0_pay8 a b c) k0_pay9 k0_pay10 k0_pay11 k0_pay12 u (ix2 q k) =
      wide (q.val / 64 * 64) (SC A0 A1 (hed p e) (trow i q)) k := by
  rw [pay14_at, hP, hu, tb_at, pay13_at]
  by_cases hb : q.val / 64 * 64 ≤ k.val ∧ k.val < q.val / 64 * 64 + 576
  · rw [wide_in _ _ k hb, wide_in _ _ k hb]
    have hkr := kr_trow i q ⟨k.val - q.val / 64 * 64, by omega⟩
    have hkr' : kr (trow i q) ⟨k.val - q.val / 64 * 64, by omega⟩ = i.val * 256 + k.val := hkr.trans (by
      show i.val * 256 + (q.val / 64 * 64 + (k.val - q.val / 64 * 64)) = _
      omega)
    unfold SC
    by_cases hv : 512 ≤ i.val * 256 + k.val
    · rw [if_pos (show 2 ≤ k.val / 256 + i.val by omega), if_pos (show 512 ≤ kr (trow i q) ⟨k.val - q.val / 64 * 64, by omega⟩ by omega), add_zero]
      refine congrArg₂ (fun s t => s * e8 + t) (Finset.sum_congr rfl fun d _ => ?_)
        (congrArg (fun r => A1 (ix3 (hed p e) r _)) (Fin.ext (by show q.val % 64 = (i.val * 256 + q.val) % 64; omega)))
      rw [hx, hk k (hd e d) hv]
      refine congrArg₂ (fun s t => s * t) (congrArg (fun j => A0 (ix2 (trow i q) j)) (Fin.ext ?_)) (congrArg₂ (fun r j => A0 (ix2 r j)) (Fin.ext ?_) (Fin.ext ?_))
      · show p.val * 128 + (e.val * 64 + d.val) = (p.val * 2 + e.val) * 64 + d.val
        omega
      · show i.val * 256 + k.val - 512 = kr (trow i q) ⟨k.val - q.val / 64 * 64, by omega⟩ - 512
        rw [hkr']
      · show 512 + (p.val * 128 + (e.val * 64 + d.val)) = 512 + ((p.val * 2 + e.val) * 64 + d.val)
        omega
    · rw [if_neg (show ¬2 ≤ k.val / 256 + i.val by omega), if_neg (show ¬512 ≤ kr (trow i q) ⟨k.val - q.val / 64 * 64, by omega⟩ by omega), EReal.add_bot]
  · rw [wide_no _ _ k hb, wide_no _ _ k hb, EReal.add_bot, EReal.bot_add]

theorem SV_one {n : ℕ} (f : Fin n → EReal) (w : Fin n → EReal) (hw : ∀ k, w k = 1) : SV f w = SE f := by
  unfold SV SE
  exact Finset.sum_congr rfl fun k _ => by rw [hw, mul_one]

section
variable (y : FVec Ideal S256x768 .f32) (e : Fin 2) (q : Fin 256)
  (hy : ∀ k : Fin 768, y (ix2 q k) = wide (q.val / 64 * 64) (SC A0 A1 (hed p e) (trow i q)) k)
include hy

theorem den_at (l : Fin 128) : k0_pay2 (F := Ideal) y (k0_pay16 a' b' c') (ix2 q ⟨128 + l.val, by omega⟩) = SE (SC A0 A1 (hed p e) (trow i q)) := by
  rw [pay2_at, SV_one _ _ fun k => (pay16_at a' b' c' k _).trans (dif_neg (by show ¬128 + l.val < 128; omega)), funext hy]
  exact SE_wide _ _ (by omega)

theorem num_at (hv : IsRows A0 p i a' b' c' 1024 (by omega)) (d : Fin 64) (l : Fin 128) (hl : l = hd e d) :
    k0_pay2 (F := Ideal) y (k0_pay16 a' b' c') (ix2 q ⟨l.val, by omega⟩) =
      SV (SC A0 A1 (hed p e) (trow i q)) (VL A0 (hed p e) d (trow i q)) := by
  rw [pay2_at, funext hy]
  have ho : q.val / 64 * 64 + 576 ≤ 768 := by omega
  refine SV_wide _ _ ho _ _ fun n hn => ?_
  have hkr := kr_trow i q n
  have hb : 512 ≤ kr (trow i q) n := by
    by_contra h
    unfold SC at hn
    exact hn (if_neg h)
  have hin : (into (q.val / 64 * 64) ho n).val = n.val + q.val / 64 * 64 := rfl
  rw [pay16_at]
  refine (dif_pos l.isLt).trans ?_
  rw [hv _ _ (by omega)]
  unfold VL
  rw [if_pos hb]
  subst hl
  refine congrArg₂ (fun r j => A0 (ix2 r j)) (Fin.ext ?_) (Fin.ext ?_)
  · show i.val * 256 + (n.val + q.val / 64 * 64) - 512 = kr (trow i q) n - 512
    omega
  · show 1024 + (p.val * 128 + (e.val * 64 + d.val)) = 1024 + ((p.val * 2 + e.val) * 64 + d.val)
    omega

theorem att_at (hv : IsRows A0 p i a' b' c' 1024 (by omega)) (d : Fin 64) (l : Fin 128) (hl : l = hd e d) :
    att y (k0_pay16 a' b' c') l q = AT A0 A1 (hed p e) d (trow i q) := by
  unfold att AT
  rw [den_at y e q hy l, num_at y e q hy hv d l hl]

theorem lse_at (l : Fin 128) : lse y (k0_pay16 a' b' c') l q = LS A0 A1 (hed p e) (trow i q) := by
  unfold lse LS
  rw [den_at y e q hy l, pay1_at, funext hy, MX_wide _ _ (by omega)]

end

end Cert.Att

end
-- ==== Proof.AttnFwd.Point.lean ====
/-
  The blocks a grid point reads, and what one point computes. Point `32 p + i` works on the queries `256 i … 256 i + 255` of the
  heads `2 p` and `2 p + 1`.
-/
module

public import proofs.«01_k».proof.Proof.AttnFwd.Head
public import proofs.«01_k».proof.Proof.Gen.AttnFwdIdeal.Frame
public import Idealize.ShloMosaic.Lib.Pipeline.ValueKit
public import Idealize.ShloMosaic.Lib.Pipeline.ReadBack

@[expose] public section

set_option maxRecDepth 16384

noncomputable section

namespace Cert.Att

open Idealize.ShloMosaic Idealize.ShloMosaic.TcCoe Cert.AttnFwdIdeal Cert.AttnFwdIdeal.Gen

/-- Where each window's block lies at a point. -/
theorem idx : ∀ t : Fin cfg0.N, win0_0.index t = ![t.val % 32, t.val / 32] ∧ win0_1.index t = ![t.val % 32 - 2, 4 + t.val / 32]
    ∧ win0_2.index t = ![t.val % 32 - 1, 4 + t.val / 32] ∧ win0_3.index t = ![t.val % 32, 4 + t.val / 32]
    ∧ win0_4.index t = ![t.val % 32 - 2, 8 + t.val / 32] ∧ win0_5.index t = ![t.val % 32 - 1, 8 + t.val / 32]
    ∧ win0_6.index t = ![t.val % 32, 8 + t.val / 32] ∧ win0_7.index t = ![t.val / 32, 0, 0]
    ∧ win0_8.index t = ![t.val % 32, t.val / 32] ∧ win0_9.index t = ![t.val % 32, t.val / 32]
    ∧ (grid0.coords t 1).val = t.val % 32 := (by decide +kernel : ∀ t : Fin grid0.N, _)

theorem lt128 (t : Fin cfg0.N) : t.val < 128 := t.isLt

/-- A point's pair of heads and its block of queries. -/
def pt (t : Fin cfg0.N) : Fin 4 := ⟨t.val / 32, by have := lt128 t; omega⟩
def qt (t : Fin cfg0.N) : Fin 32 := ⟨t.val % 32, by omega⟩

/-- A lane's head of the two, and its place in it. -/
def le (l : Fin 128) : Fin 2 := ⟨l.val / 64, by omega⟩
def ld (l : Fin 128) : Fin 64 := ⟨l.val % 64, by omega⟩

section
variable {A0 : FVec Ideal Proj .f32} {A1 : FVec Ideal Bias .f32} {p : Fin 4} {i : Fin 32} {x a b c a' b' c' : FVec Ideal S256x128 .f32}
  {u0 u1 : FVec Ideal S1x256x768 .f32} (hx : IsQ A0 p i x) (hk : IsRows A0 p i a b c 512 (by omega)) (hv : IsRows A0 p i a' b' c' 1024 (by omega))
  (h0 : IsB A1 p 0 u0) (h1 : IsB A1 p 1 u1)

/-- The scores of each head. -/
def y0 (i : Fin 32) (x a b c : FVec Ideal S256x128 .f32) (u0 : FVec Ideal S1x256x768 .f32) : FVec Ideal S256x768 .f32 :=
  k0_pay14 (F := Ideal) (BitVec.ofNat 32 i.val) (k0_pay6 x) (k0_pay8 a b c) k0_pay9 k0_pay10 k0_pay11 k0_pay12 u0
def y1 (i : Fin 32) (x a b c : FVec Ideal S256x128 .f32) (u1 : FVec Ideal S1x256x768 .f32) : FVec Ideal S256x768 .f32 :=
  k0_pay15 (F := Ideal) (BitVec.ofNat 32 i.val) (k0_pay7 x) (k0_pay8 a b c) k0_pay9 k0_pay10 k0_pay11 k0_pay12 u1

include hx hk h0 h1

theorem out8_of (hv : IsRows A0 p i a' b' c' 1024 (by omega)) (q : Fin 256) (l : Fin 128) :
    k0_pay3 (F := Ideal) (iota .tc S256x128 32 [1] iota_S256x128_d1_w32) (y1 i x a b c u1) (k0_pay16 a' b' c')
      (k0_pay2 (y0 i x a b c u0) (k0_pay16 a' b' c'))
      (extractStridedSlice S256x128 ![0, 0] (k0_pay2 (y0 i x a b c u0) (k0_pay16 a' b' c')) slices_S256x256_o0_0_S256x128) (ix2 q l) =
      AT A0 A1 (hed p (le l)) (ld l) (trow i q) := by
  rw [pay3_at]
  by_cases h : l.val < 64
  · obtain e : le l = 0 := Fin.ext (by show l.val / 64 = 0; omega)
    rw [if_pos h, e]
    exact att_at _ 0 q (fun k => score 0 _ _ hx hk (isP0 x a b c) h0 q k) hv _ l (Fin.ext (by show l.val = 0 * 64 + l.val % 64; omega))
  · obtain e : le l = 1 := Fin.ext (by show l.val / 64 = 1; omega)
    rw [if_neg h, e]
    exact att_at _ 1 q (fun k => score 1 _ _ hx hk (isP1 x a b c) h1 q k) hv _ l (Fin.ext (by show l.val = 1 * 64 + l.val % 64; omega))

theorem out9_of (q : Fin 256) (l : Fin 128) :
    k0_pay4 (F := Ideal) (iota .tc S256x128 32 [1] iota_S256x128_d1_w32) (y1 i x a b c u1) (k0_pay16 a' b' c')
      (k0_pay1 (y0 i x a b c u0)) (k0_pay2 (y0 i x a b c u0) (k0_pay16 a' b' c')) (ix2 q l) =
      LS A0 A1 (hed p (le l)) (trow i q) := by
  rw [pay4_at]
  by_cases h : l.val < 64
  · obtain e : le l = 0 := Fin.ext (by show l.val / 64 = 0; omega)
    rw [if_pos h, e]
    exact lse_at _ 0 q (fun k => score 0 _ _ hx hk (isP0 x a b c) h0 q k) l
  · obtain e : le l = 1 := Fin.ext (by show l.val / 64 = 1; omega)
    rw [if_neg h, e]
    exact lse_at _ 1 q (fun k => score 1 _ _ hx hk (isP1 x a b c) h1 q k) l

end

variable (m : (ℓ : Loc nD τ sig) → Buf (Elt Ideal) ℓ) (c : Dev nD) (t : Fin cfg0.N)

theorem V_arg : V m c main_arg0 = B0 m c := by
  unfold V
  after_reads_simp

theorem blk_q : IsQ (B0 m c) (pt t) (qt t) (iblk m c 0 t) := by
  intro q l
  rw [← V_arg]
  blk_point [iblk, trow, pt, qt, idx t]

theorem blk_1 (r : Fin 256) (l : Fin 128) : iblk m c 1 t (ix2 r l) = B0 m c (ix2 ⟨(t.val % 32 - 2) * 256 + r.val, by omega⟩
    ⟨512 + (t.val / 32 * 128 + l.val), by have := lt128 t; omega⟩) := by
  rw [← V_arg]
  blk_point [iblk, idx t]

theorem blk_2 (r : Fin 256) (l : Fin 128) : iblk m c 2 t (ix2 r l) = B0 m c (ix2 ⟨(t.val % 32 - 1) * 256 + r.val, by omega⟩
    ⟨512 + (t.val / 32 * 128 + l.val), by have := lt128 t; omega⟩) := by
  rw [← V_arg]
  blk_point [iblk, idx t]

theorem blk_3 (r : Fin 256) (l : Fin 128) : iblk m c 3 t (ix2 r l) = B0 m c (ix2 ⟨t.val % 32 * 256 + r.val, by omega⟩
    ⟨512 + (t.val / 32 * 128 + l.val), by have := lt128 t; omega⟩) := by
  rw [← V_arg]
  blk_point [iblk, idx t]

theorem blk_4 (r : Fin 256) (l : Fin 128) : iblk m c 4 t (ix2 r l) = B0 m c (ix2 ⟨(t.val % 32 - 2) * 256 + r.val, by omega⟩
    ⟨1024 + (t.val / 32 * 128 + l.val), by have := lt128 t; omega⟩) := by
  rw [← V_arg]
  blk_point [iblk, idx t]

theorem blk_5 (r : Fin 256) (l : Fin 128) : iblk m c 5 t (ix2 r l) = B0 m c (ix2 ⟨(t.val % 32 - 1) * 256 + r.val, by omega⟩
    ⟨1024 + (t.val / 32 * 128 + l.val), by have := lt128 t; omega⟩) := by
  rw [← V_arg]
  blk_point [iblk, idx t]

theorem blk_6 (r : Fin 256) (l : Fin 128) : iblk m c 6 t (ix2 r l) = B0 m c (ix2 ⟨t.val % 32 * 256 + r.val, by omega⟩
    ⟨1024 + (t.val / 32 * 128 + l.val), by have := lt128 t; omega⟩) := by
  rw [← V_arg]
  blk_point [iblk, idx t]

theorem blk_u (e : Fin 2) (q : Fin 256) (k : Fin 768) : iblk m c 7 t (ix3 e q k) = tb (B1 m c) (ix3 (hed (pt t) e) q k) := by
  rw [← V_tab]
  blk_point [iblk, hed, pt, idx t]

theorem rows_of (A0 : FVec Ideal Proj .f32) (p : Fin 4) (i : Fin 32) (a b c : FVec Ideal S256x128 .f32) (s : ℕ) (hs : s + 512 ≤ 4096)
    (h1 : ∀ (r : Fin 256) (l : Fin 128), a (ix2 r l) = A0 (ix2 ⟨(i.val - 2) * 256 + r.val, by omega⟩ ⟨s + (p.val * 128 + l.val), by omega⟩))
    (h2 : ∀ (r : Fin 256) (l : Fin 128), b (ix2 r l) = A0 (ix2 ⟨(i.val - 1) * 256 + r.val, by omega⟩ ⟨s + (p.val * 128 + l.val), by omega⟩))
    (h3 : ∀ (r : Fin 256) (l : Fin 128), c (ix2 r l) = A0 (ix2 ⟨i.val * 256 + r.val, by omega⟩ ⟨s + (p.val * 128 + l.val), by omega⟩)) :
    IsRows A0 p i a b c s hs := by
  intro k l hk
  by_cases g1 : k.val < 256
  · rw [rows3_1 a b c k l g1, h1]
    exact congrArg (fun r => A0 (ix2 r _)) (Fin.ext (by show (i.val - 2) * 256 + k.val = i.val * 256 + k.val - 512; omega))
  by_cases g2 : k.val < 512
  · rw [rows3_2 a b c k l g1 g2, h2]
    exact congrArg (fun r => A0 (ix2 r _)) (Fin.ext (by show (i.val - 1) * 256 + (k.val - 256) = i.val * 256 + k.val - 512; omega))
  · rw [rows3_3 a b c k l g1 g2, h3]
    exact congrArg (fun r => A0 (ix2 r _)) (Fin.ext (by show i.val * 256 + (k.val - 512) = i.val * 256 + k.val - 512; omega))

theorem blk_k : IsRows (B0 m c) (pt t) (qt t) (iblk m c 1 t) (iblk m c 2 t) (iblk m c 3 t) 512 (by omega) :=
  rows_of _ _ _ _ _ _ _ _ (blk_1 m c t) (blk_2 m c t) (blk_3 m c t)

theorem blk_v : IsRows (B0 m c) (pt t) (qt t) (iblk m c 4 t) (iblk m c 5 t) (iblk m c 6 t) 1024 (by omega) :=
  rows_of _ _ _ _ _ _ _ _ (blk_4 m c t) (blk_5 m c t) (blk_6 m c t)

theorem ldu0 : IsB (B1 m c) (pt t) 0 (View.ld (iblk m c 7 t) r0_1) := by
  intro q k
  rw [← blk_u m c t]
  pointwise [r0_1]
  blk_ext

theorem ldu1 : IsB (B1 m c) (pt t) 1 (View.ld (iblk m c 7 t) r0_2) := by
  intro q k
  rw [← blk_u m c t]
  pointwise [r0_2]
  blk_ext

end Cert.Att

end
-- ==== Proof.AttnFwd.Rows.lean ====
/-
  The kernel's two results, a block and the whole arrays.
-/
module

public import proofs.«01_k».proof.Proof.AttnFwd.Point
public import Idealize.ShloMosaic.Lib.Pipeline.ReadBack

@[expose] public section

set_option maxRecDepth 16384

noncomputable section

namespace Cert.Att

open Idealize.ShloMosaic Idealize.ShloMosaic.TcCoe Cert.AttnFwdIdeal Cert.AttnFwdIdeal.Gen

variable (m : (ℓ : Loc nD τ sig) → Buf (Elt Ideal) ℓ) (c : Dev nD) (t : Fin cfg0.N)

theorem coord : (grid0.coords t 1).val = (qt t).val := (idx t).2.2.2.2.2.2.2.2.2.2

theorem at8 (q : Fin 256) (l : Fin 128) : out0_8 (grid0.coords t) (iblk m c 0 t) (iblk m c 1 t) (iblk m c 2 t) (iblk m c 3 t) (iblk m c 4 t)
    (iblk m c 5 t) (iblk m c 6 t) (iblk m c 7 t) (ix2 q l) = AT (B0 m c) (B1 m c) (hed (pt t) (le l)) (ld l) (trow (qt t) q) := by
  unfold_out out0_8
  rw [coord t]
  frame_out
  exact out8_of (blk_q m c t) (blk_k m c t) (ldu0 m c t) (ldu1 m c t) (blk_v m c t) q l

theorem at9 (q : Fin 256) (l : Fin 128) : out0_9 (grid0.coords t) (iblk m c 0 t) (iblk m c 1 t) (iblk m c 2 t) (iblk m c 3 t) (iblk m c 4 t)
    (iblk m c 5 t) (iblk m c 6 t) (iblk m c 7 t) (ix2 q l) = LS (B0 m c) (B1 m c) (hed (pt t) (le l)) (trow (qt t) q) := by
  unfold_out out0_9
  rw [coord t]
  frame_out
  exact out9_of (a' := iblk m c 4 t) (b' := iblk m c 5 t) (c' := iblk m c 6 t) (blk_q m c t) (blk_k m c t) (ldu0 m c t) (ldu1 m c t) q l

/-- A column's head and its place in it. -/
def hj (j : Fin 512) : Fin 8 := ⟨j.val / 64, by omega⟩
def dj (j : Fin 512) : Fin 64 := ⟨j.val % 64, by omega⟩

/-- Lane `l` of a point's block. -/
def lj (t : Fin cfg0.N) (l : Fin 128) : Fin 512 := ⟨t.val / 32 * 128 + l.val, by have := lt128 t; omega⟩

theorem hj_lj (l : Fin 128) : hj (lj t l) = hed (pt t) (le l) := Fin.ext (by
  show (t.val / 32 * 128 + l.val) / 64 = t.val / 32 * 2 + l.val / 64
  omega)

theorem dj_lj (l : Fin 128) : dj (lj t l) = ld l := Fin.ext (by
  show (t.val / 32 * 128 + l.val) % 64 = l.val % 64
  omega)

theorem final8 (r : Fin 8192) (j : Fin 512) : (dats m 0 c).arrAt 8 cfg0.N (ix2 r j) = AT (B0 m c) (B1 m c) (hj j) (dj j) r := by
  have e : (dats m 0 c).arrAt 8 cfg0.N = (fun i : S8192x512.Idx => AT (B0 m c) (B1 m c) (hj (i 1)) (dj (i 1)) (i 0)) := by
    refine (dats m 0 c).arrAt_eq_of_covers 8 _ (by decide +kernel) fun t hf y => ?_
    blk_simp
    rw [after0_8]
    idx_vars y
    rw [at8, ← hj_lj, ← dj_lj]
    have e1 : ((View.whole main_v5_0).slice (win0_8.rect t)).emb (ix2 y0 y1) 1 = lj t y1 := Fin.ext (by
      blk_simp [lj, idx t]
      try omega)
    have e0 : ((View.whole main_v5_0).slice (win0_8.rect t)).emb (ix2 y0 y1) 0 = trow (qt t) y0 := Fin.ext (by
      blk_simp [trow, qt, idx t]
      try omega)
    exact (congrArg₂ (fun a b => AT (B0 m c) (B1 m c) (hj a) (dj a) b) e1 e0).symm
  rw [e]
  rfl

theorem final9 (r : Fin 8192) (j : Fin 512) : (dats m 0 c).arrAt 9 cfg0.N (ix2 r j) = LS (B0 m c) (B1 m c) (hj j) r := by
  have e : (dats m 0 c).arrAt 9 cfg0.N = (fun i : S8192x512.Idx => LS (B0 m c) (B1 m c) (hj (i 1)) (i 0)) := by
    refine (dats m 0 c).arrAt_eq_of_covers 9 _ (by decide +kernel) fun t hf y => ?_
    blk_simp
    rw [after0_9]
    idx_vars y
    rw [at9, ← hj_lj]
    have e1 : ((View.whole main_v5_1).slice (win0_9.rect t)).emb (ix2 y0 y1) 1 = lj t y1 := Fin.ext (by
      blk_simp [lj, idx t]
      try omega)
    have e0 : ((View.whole main_v5_1).slice (win0_9.rect t)).emb (ix2 y0 y1) 0 = trow (qt t) y0 := Fin.ext (by
      blk_simp [trow, qt, idx t]
      try omega)
    exact (congrArg₂ (fun a b => LS (B0 m c) (B1 m c) (hj a) b) e1 e0).symm
  rw [e]
  rfl

end Cert.Att

end
-- ==== Proof.AttnFwd.Ref.lean ====
/-
  The reference's bands and mask, read at an index, and its scores.
-/
module

public import proofs.«01_k».proof.Proof.AttnFwd.Spec
public import proofs.«01_k».proof.Proof.Gen.AttnFwdRefIdeal.Read
public import Idealize.ShloMosaic.Lib.Pipeline.ValueKit

@[expose] public section

set_option maxRecDepth 16384

noncomputable section

namespace Cert.Att

open Idealize.ShloMosaic Cert.AttnFwdRefIdeal Cert.AttnFwdRefIdeal.Gen Cert.AttnFwdRefIdeal.Read

variable (A0 : FVec Ideal Proj .f32) (A1 : FVec Ideal Bias .f32)

/-- Row `r` of chunk `c`. -/
def crow (c : Fin 128) (r : Fin 64) : Fin 8192 := ⟨c.val * 64 + r.val, by omega⟩

theorem kr_crow (c : Fin 128) (r : Fin 64) (b : Fin 576) : kr (crow c r) b = c.val * 64 + b.val := by
  show (c.val * 64 + r.val) / 64 * 64 + b.val = _
  omega

theorem ref_v7 (c : Fin 128) (r : Fin 64) (h : Fin 8) (d : Fin 64) : val_main_v7 (F := Ideal) A0 (ix4 c r h d) = A0 (ix2 (crow c r) (qcol h d)) := by
  pointwise [val_main_v7, val_main_v4, val_main_v1, val_main_v0]
  rfl

theorem ref_v5 (n : Fin 8192) (h : Fin 8) (d : Fin 64) : val_main_v5 (F := Ideal) A0 (ix3 n h d) = A0 (ix2 n (kcol h d)) := by
  pointwise [val_main_v5, val_main_v2, val_main_v0]
  rfl

theorem ref_v6 (n : Fin 8192) (h : Fin 8) (d : Fin 64) : val_main_v6 (F := Ideal) A0 (ix3 n h d) = A0 (ix2 n (vcol h d)) := by
  pointwise [val_main_v6, val_main_v3, val_main_v0]
  rfl

/-- Rows moved down by 512, zero before the first. -/
def padded (y : Fin 8192 → EReal) (n : ℕ) : EReal := if hn : 512 ≤ n ∧ n < 8704 then y ⟨n - 512, by omega⟩ else 0

theorem padded_in (y : Fin 8192 → EReal) (n : ℕ) (hn : 512 ≤ n ∧ n < 8704) : padded y n = y ⟨n - 512, by omega⟩ := by
  unfold padded
  exact dif_pos hn

theorem padded_no (y : Fin 8192 → EReal) (n : ℕ) (hn : ¬(512 ≤ n ∧ n < 8704)) : padded y n = 0 := by
  unfold padded
  exact dif_neg hn

theorem ref_v9 (n : Fin 8704) (h : Fin 8) (d : Fin 64) : val_main_v9 (F := Ideal) A0 (ix3 n h d) =
    padded (fun k => A0 (ix2 k (kcol h d))) n.val := by
  pointwise [val_main_v9, val_main_v8, val_main_cst]
  have hn := n.isLt
  by_cases h1 : n.val < 512
  · exact (dif_pos h1).trans (padded_no _ _ (by omega)).symm
  · exact (dif_neg h1).trans ((ref_v5 A0 _ h d).trans (padded_in (fun k => A0 (ix2 k (kcol h d))) n.val (by omega)).symm)

theorem ref_v63 (n : Fin 8704) (h : Fin 8) (d : Fin 64) : val_main_v63 (F := Ideal) A0 (ix3 n h d) =
    padded (fun k => A0 (ix2 k (vcol h d))) n.val := by
  pointwise [val_main_v63, val_main_v62, val_main_cst_9]
  have hn := n.isLt
  by_cases h1 : n.val < 512
  · exact (dif_pos h1).trans (padded_no _ _ (by omega)).symm
  · exact (dif_neg h1).trans ((ref_v6 A0 _ h d).trans (padded_in (fun k => A0 (ix2 k (vcol h d))) n.val (by omega)).symm)

theorem ref_v10 (c : Fin 136) (r : Fin 64) (h : Fin 8) (d : Fin 64) : val_main_v10 (F := Ideal) A0 (ix4 c r h d) =
    padded (fun k => A0 (ix2 k (kcol h d))) (c.val * 64 + r.val) := by
  pointwise [val_main_v10]
  rw [ref_v9]

theorem ref_v64 (c : Fin 136) (r : Fin 64) (h : Fin 8) (d : Fin 64) : val_main_v64 (F := Ideal) A0 (ix4 c r h d) =
    padded (fun k => A0 (ix2 k (vcol h d))) (c.val * 64 + r.val) := by
  pointwise [val_main_v64]
  rw [ref_v63]

theorem ref_v20 (c : Fin 128) (b : Fin 576) (h : Fin 8) (d : Fin 64) : val_main_v20 (F := Ideal) A0 (ix4 c b h d) =
    padded (fun k => A0 (ix2 k (kcol h d))) (c.val * 64 + b.val) := by
  have key : ∀ (e : Fin 136) (r : Fin 64), e.val * 64 + r.val = c.val * 64 + b.val →
      val_main_v10 (F := Ideal) A0 (ix4 e r h d) = padded (fun k => A0 (ix2 k (kcol h d))) (c.val * 64 + b.val) :=
    fun e r he => (ref_v10 A0 e r h d).trans (congrArg _ he)
  pointwise [val_main_v20, val_main_v11, val_main_v12, val_main_v13, val_main_v14, val_main_v15, val_main_v16, val_main_v17, val_main_v18, val_main_v19]
  have hb := b.isLt
  by_cases h0 : b.val < 64
  · exact (dif_pos h0).trans (key _ _ (by show c.val * 64 + (b.val) = _; omega))
  refine (dif_neg h0).trans ?_
  by_cases h1 : b.val - 64 < 64
  · exact (dif_pos h1).trans (key _ _ (by show (1 + c.val) * 64 + (b.val - 64) = _; omega))
  refine (dif_neg h1).trans ?_
  by_cases h2 : b.val - 64 - 64 < 64
  · exact (dif_pos h2).trans (key _ _ (by show (2 + c.val) * 64 + (b.val - 64 - 64) = _; omega))
  refine (dif_neg h2).trans ?_
  by_cases h3 : b.val - 64 - 64 - 64 < 64
  · exact (dif_pos h3).trans (key _ _ (by show (3 + c.val) * 64 + (b.val - 64 - 64 - 64) = _; omega))
  refine (dif_neg h3).trans ?_
  by_cases h4 : b.val - 64 - 64 - 64 - 64 < 64
  · exact (dif_pos h4).trans (key _ _ (by show (4 + c.val) * 64 + (b.val - 64 - 64 - 64 - 64) = _; omega))
  refine (dif_neg h4).trans ?_
  by_cases h5 : b.val - 64 - 64 - 64 - 64 - 64 < 64
  · exact (dif_pos h5).trans (key _ _ (by show (5 + c.val) * 64 + (b.val - 64 - 64 - 64 - 64 - 64) = _; omega))
  refine (dif_neg h5).trans ?_
  by_cases h6 : b.val - 64 - 64 - 64 - 64 - 64 - 64 < 64
  · exact (dif_pos h6).trans (key _ _ (by show (6 + c.val) * 64 + (b.val - 64 - 64 - 64 - 64 - 64 - 64) = _; omega))
  refine (dif_neg h6).trans ?_
  by_cases h7 : b.val - 64 - 64 - 64 - 64 - 64 - 64 - 64 < 64
  · exact (dif_pos h7).trans (key _ _ (by show (7 + c.val) * 64 + (b.val - 64 - 64 - 64 - 64 - 64 - 64 - 64) = _; omega))
  refine (dif_neg h7).trans ?_
  exact key _ _ (by show (8 + c.val) * 64 + (b.val - 64 - 64 - 64 - 64 - 64 - 64 - 64 - 64) = _; omega)

theorem ref_v74 (c : Fin 128) (b : Fin 576) (h : Fin 8) (d : Fin 64) : val_main_v74 (F := Ideal) A0 (ix4 c b h d) =
    padded (fun k => A0 (ix2 k (vcol h d))) (c.val * 64 + b.val) := by
  have key : ∀ (e : Fin 136) (r : Fin 64), e.val * 64 + r.val = c.val * 64 + b.val →
      val_main_v64 (F := Ideal) A0 (ix4 e r h d) = padded (fun k => A0 (ix2 k (vcol h d))) (c.val * 64 + b.val) :=
    fun e r he => (ref_v64 A0 e r h d).trans (congrArg _ he)
  pointwise [val_main_v74, val_main_v65, val_main_v66, val_main_v67, val_main_v68, val_main_v69, val_main_v70, val_main_v71, val_main_v72, val_main_v73]
  have hb := b.isLt
  by_cases h0 : b.val < 64
  · exact (dif_pos h0).trans (key _ _ (by show c.val * 64 + (b.val) = _; omega))
  refine (dif_neg h0).trans ?_
  by_cases h1 : b.val - 64 < 64
  · exact (dif_pos h1).trans (key _ _ (by show (1 + c.val) * 64 + (b.val - 64) = _; omega))
  refine (dif_neg h1).trans ?_
  by_cases h2 : b.val - 64 - 64 < 64
  · exact (dif_pos h2).trans (key _ _ (by show (2 + c.val) * 64 + (b.val - 64 - 64) = _; omega))
  refine (dif_neg h2).trans ?_
  by_cases h3 : b.val - 64 - 64 - 64 < 64
  · exact (dif_pos h3).trans (key _ _ (by show (3 + c.val) * 64 + (b.val - 64 - 64 - 64) = _; omega))
  refine (dif_neg h3).trans ?_
  by_cases h4 : b.val - 64 - 64 - 64 - 64 < 64
  · exact (dif_pos h4).trans (key _ _ (by show (4 + c.val) * 64 + (b.val - 64 - 64 - 64 - 64) = _; omega))
  refine (dif_neg h4).trans ?_
  by_cases h5 : b.val - 64 - 64 - 64 - 64 - 64 < 64
  · exact (dif_pos h5).trans (key _ _ (by show (5 + c.val) * 64 + (b.val - 64 - 64 - 64 - 64 - 64) = _; omega))
  refine (dif_neg h5).trans ?_
  by_cases h6 : b.val - 64 - 64 - 64 - 64 - 64 - 64 < 64
  · exact (dif_pos h6).trans (key _ _ (by show (6 + c.val) * 64 + (b.val - 64 - 64 - 64 - 64 - 64 - 64) = _; omega))
  refine (dif_neg h6).trans ?_
  by_cases h7 : b.val - 64 - 64 - 64 - 64 - 64 - 64 - 64 < 64
  · exact (dif_pos h7).trans (key _ _ (by show (7 + c.val) * 64 + (b.val - 64 - 64 - 64 - 64 - 64 - 64 - 64) = _; omega))
  refine (dif_neg h7).trans ?_
  exact key _ _ (by show (8 + c.val) * 64 + (b.val - 64 - 64 - 64 - 64 - 64 - 64 - 64 - 64) = _; omega)

theorem sub512 : ∀ n : Fin 8704, IntOp.cmpi CmpIPredicate.sge (IntOp.subi (BitVec.ofNat 32 n.val) 512#32) 0#32 = if 512 ≤ n.val then 1#1 else 0#1 := by
  decide +kernel

theorem ref_v39 (c : Fin 128) (b : Fin 576) : val_main_v39 (F := Ideal) (ix2 c b) = if 512 ≤ c.val * 64 + b.val then 1#1 else 0#1 := by
  pointwise [val_main_v39, val_main_v38, val_main_v37, val_main_v36, val_main_v35, val_main_v34, val_main_v33, val_main_v32, val_main_v31, val_main_v30, val_main_v29, val_main_v28, val_main_v27, val_main_c, val_main_c_1, val_main_c_2]
  refine Eq.trans (congrArg (fun w => IntOp.cmpi CmpIPredicate.sge w 0#32) ?_) (sub512 ⟨c.val * 64 + b.val, by omega⟩)
  show BitVec.ofNat 32 c.val * BitVec.ofNat 32 64 - 512#32 + BitVec.ofNat 32 b.val = BitVec.ofNat 32 (c.val * 64 + b.val) - 512#32
  rw [BitVec.ofNat_add, BitVec.ofNat_mul]
  generalize BitVec.ofNat 32 c.val * BitVec.ofNat 32 64 = x
  generalize BitVec.ofNat 32 b.val = y
  bv_omega

theorem ref_v26 (c : Fin 128) (h : Fin 8) (r : Fin 64) (b : Fin 576) : val_main_v26 (F := Ideal) A0 A1 (ix4 c h r b) =
   (∑ d : Fin 64, val_main_v7 (F := Ideal) A0 (ix4 c r h d) * val_main_v20 (F := Ideal) A0 (ix4 c b h d)) * e8 + A1 (ix3 h r b) := by
  pointwise [val_main_v26, val_main_v25, val_main_v24, val_main_v23, val_main_v22, val_main_v21, val_main_cst_0]
  rw [eighth]

theorem call1_at (c : Fin 128) (h : Fin 8) (r : Fin 64) (b : Fin 576) : val_main_call0_v1 (F := Ideal) (ix4 c h r b) =
    if 512 ≤ c.val * 64 + b.val then 1#1 else 0#1 := by
  pointwise [val_main_call0_v1, val_main_v40]
  exact ref_v39 c b

theorem call2_at (c : Fin 128) (h : Fin 8) (r : Fin 64) (b : Fin 576) : val_main_call0_v2 (F := Ideal) (ix4 c h r b) = ⊥ := by
  pointwise [val_main_call0_v2, val_main_call0_v0, val_main_cst_3]
  exact neg_inf

theorem ref_v41 (c : Fin 128) (h : Fin 8) (r : Fin 64) (b : Fin 576) : val_main_v41 (F := Ideal) A0 A1 (ix4 c h r b) = SC A0 A1 h (crow c r) b := by
  pointwise [val_main_v41]
  rw [call1_at, call2_at, ref_v26]
  unfold SC
  have hb := b.isLt
  have hk := kr_crow c r b
  by_cases hn : 512 ≤ c.val * 64 + b.val
  · rw [if_pos hn, if_pos (show 512 ≤ kr (crow c r) b by omega)]
    refine (show Scalar.select 1#1 _ (⊥ : EReal) = _ from rfl).trans ?_
    refine congrArg₂ (fun s t => s * e8 + t) (Finset.sum_congr rfl fun d _ => ?_) (congrArg (fun i => A1 (ix3 h i b)) (Fin.ext (by
      show r.val = (c.val * 64 + r.val) % 64
      omega)))
    rw [ref_v7, ref_v20, padded_in _ _ (by omega)]
    refine congrArg (A0 (ix2 (crow c r) (qcol h d)) * ·) (congrArg (fun i => A0 (ix2 i (kcol h d))) (Fin.ext ?_))
    show c.val * 64 + b.val - 512 = kr (crow c r) b - 512
    rw [kr_crow]
  · rw [if_neg hn, if_neg (show ¬512 ≤ kr (crow c r) b by omega)]
    rfl

end Cert.Att

end
-- ==== Proof.AttnFwd.Soft.lean ====
/-
  The reference's two results at an index.
-/
module

public import proofs.«01_k».proof.Proof.AttnFwd.Ref

@[expose] public section

set_option maxRecDepth 16384

noncomputable section

namespace Cert.Att

open Idealize.ShloMosaic Cert.AttnFwdRefIdeal Cert.AttnFwdRefIdeal.Gen Cert.AttnFwdRefIdeal.Read

theorem max_at {s : Shape} (x y : FVec Ideal s .f32) (i : s.Idx) : maximumf x y i = max (x i) (y i) := rfl
theorem add_at {s : Shape} (x y : FVec Ideal s .f32) (i : s.Idx) : addf x y i = x i + y i := rfl
theorem log_at {s : Shape} (x : FVec Ideal s .f32) (i : s.Idx) : Host.log x i = Ideal.log (x i) := rfl

variable (A0 : FVec Ideal Proj .f32) (A1 : FVec Ideal Bias .f32)

theorem ref_v42 (c : Fin 128) (h : Fin 8) (r : Fin 64) : val_main_v42 (F := Ideal) A0 A1 (ix3 c h r) = MX (SC A0 A1 h (crow c r)) := by
  pointwise [val_main_v42]
  exact (congrArg (fun f => Finset.fold max _ f Finset.univ) (funext fun b => ref_v41 A0 A1 c h r b)).trans
    (congrArg (fun z => Finset.fold max z (SC A0 A1 h (crow c r)) Finset.univ) neg_inf)

theorem ref_v51 (c : Fin 128) (h : Fin 8) (r : Fin 64) : val_main_v51 (F := Ideal) A0 A1 (ix3 c h r) = MX (SC A0 A1 h (crow c r)) := by
  pointwise [val_main_v51]
  exact (congrArg (fun f => Finset.fold max _ f Finset.univ) (funext fun b => ref_v41 A0 A1 c h r b)).trans
    (congrArg (fun z => Finset.fold max z (SC A0 A1 h (crow c r)) Finset.univ) neg_inf)

theorem ref_v52 (c : Fin 128) (h : Fin 8) (r : Fin 64) : val_main_v52 (F := Ideal) (ix3 c h r) = ⊥ := by
  pointwise [val_main_v52, val_main_cst_7]
  exact neg_inf

theorem ref_v53 (c : Fin 128) (h : Fin 8) (r : Fin 64) : val_main_v53 (F := Ideal) A0 A1 (ix3 c h r) = MX (SC A0 A1 h (crow c r)) := by
  unfold val_main_v53
  rw [max_at, ref_v52, ref_v51]
  exact max_eq_right bot_le

theorem ref_v46 (c : Fin 128) (h : Fin 8) (r : Fin 64) (b : Fin 576) : val_main_v46 (F := Ideal) A0 A1 (ix4 c h r b) = EX (SC A0 A1 h (crow c r)) b := by
  pointwise [val_main_v46, val_main_v45, val_main_v44, val_main_v43]
  rw [ref_v41, ref_v42]
  rfl

theorem ref_v57 (c : Fin 128) (h : Fin 8) (r : Fin 64) (b : Fin 576) : val_main_v57 (F := Ideal) A0 A1 (ix4 c h r b) = EX (SC A0 A1 h (crow c r)) b := by
  pointwise [val_main_v57, val_main_v56, val_main_v55, val_main_v54]
  rw [ref_v41, ref_v53]
  rfl

theorem zero_bits : Ideal.ofBits FTy.f32 0#32 = 0 := by
  simp [Ideal.ofBits, Ideal.ieee]

theorem ref_v47 (c : Fin 128) (h : Fin 8) (r : Fin 64) : val_main_v47 (F := Ideal) A0 A1 (ix3 c h r) = SE (SC A0 A1 h (crow c r)) := by
  pointwise [val_main_v47]
  exact (congrArg₂ (fun z s => z + s) zero_bits (Finset.sum_congr rfl fun b _ => ref_v46 A0 A1 c h r b)).trans (zero_add _)

theorem ref_v58 (c : Fin 128) (h : Fin 8) (r : Fin 64) : val_main_v58 (F := Ideal) A0 A1 (ix3 c h r) = SE (SC A0 A1 h (crow c r)) := by
  pointwise [val_main_v58]
  exact (congrArg₂ (fun z s => z + s) zero_bits (Finset.sum_congr rfl fun b _ => ref_v57 A0 A1 c h r b)).trans (zero_add _)

theorem ref_v43 (c : Fin 128) (h : Fin 8) (r : Fin 64) (z : Fin 1) : val_main_v43 (F := Ideal) A0 A1 (ix4 c h r z) = MX (SC A0 A1 h (crow c r)) := by
  pointwise [val_main_v43]
  rw [ref_v42]

theorem ref_v48 (c : Fin 128) (h : Fin 8) (r : Fin 64) (z : Fin 1) : val_main_v48 (F := Ideal) A0 A1 (ix4 c h r z) = SE (SC A0 A1 h (crow c r)) := by
  pointwise [val_main_v48]
  rw [ref_v47]

theorem ref_v49 (c : Fin 128) (h : Fin 8) (r : Fin 64) (z : Fin 1) : val_main_v49 (F := Ideal) A0 A1 (ix4 c h r z) = Ideal.log (SE (SC A0 A1 h (crow c r))) := by
  unfold val_main_v49
  rw [log_at, ref_v48]

theorem ref_v50 (c : Fin 128) (h : Fin 8) (r : Fin 64) (z : Fin 1) : val_main_v50 (F := Ideal) A0 A1 (ix4 c h r z) = LS A0 A1 h (crow c r) := by
  unfold val_main_v50 LS
  rw [add_at, ref_v43, ref_v49]

theorem ref_v60 (c : Fin 128) (h : Fin 8) (r : Fin 64) (b : Fin 576) : val_main_v60 (F := Ideal) A0 A1 (ix4 c h r b) = SE (SC A0 A1 h (crow c r)) := by
  pointwise [val_main_v60, val_main_v59]
  rw [ref_v58]

theorem ref_v61 (c : Fin 128) (h : Fin 8) (r : Fin 64) (b : Fin 576) : val_main_v61 (F := Ideal) A0 A1 (ix4 c h r b) =
    Ideal.div (EX (SC A0 A1 h (crow c r)) b) (SE (SC A0 A1 h (crow c r))) :=
  (show val_main_v61 (F := Ideal) A0 A1 (ix4 c h r b) = Ideal.div (val_main_v57 (F := Ideal) A0 A1 (ix4 c h r b)) (val_main_v60 (F := Ideal) A0 A1 (ix4 c h r b)) from rfl).trans
    (by rw [ref_v57, ref_v60])

theorem ref_VL (c : Fin 128) (r : Fin 64) (b : Fin 576) (h : Fin 8) (d : Fin 64) : val_main_v74 (F := Ideal) A0 (ix4 c b h d) = VL A0 h d (crow c r) b := by
  have hk := kr_crow c r b
  rw [ref_v74]
  unfold VL
  by_cases hb : 512 ≤ c.val * 64 + b.val
  · rw [padded_in _ _ (by omega), if_pos (by omega)]
    exact congrArg (fun i => A0 (ix2 i (vcol h d))) (Fin.ext (by show c.val * 64 + b.val - 512 = kr (crow c r) b - 512; rw [hk]))
  · rw [padded_no _ _ (by omega), if_neg (by omega)]

variable {A0 A1}

theorem ref_v75 (hr : RealQK A0 A1) (c : Fin 128) (h : Fin 8) (d : Fin 64) (r : Fin 64) : val_main_v75 (F := Ideal) A0 A1 (ix4 c h d r) = AT A0 A1 h d (crow c r) := by
  pointwise [val_main_v75]
  refine Eq.trans (Finset.sum_congr rfl fun b _ => ?_) (AT_ref hr h d (crow c r))
  rw [ref_VL A0 c r b h d, ref_v61, mul_comm]

/-- A column's head and its place in it. -/
def ch (j : Fin 512) : Fin 8 := ⟨j.val / 64, by omega⟩
def cd (j : Fin 512) : Fin 64 := ⟨j.val % 64, by omega⟩

theorem crow_div (t : Fin 8192) : crow ⟨t.val / 64, by omega⟩ ⟨t.val % 64, by omega⟩ = t := Fin.ext (by
  show t.val / 64 * 64 + t.val % 64 = t.val
  omega)

theorem ref_v83 (hr : RealQK A0 A1) (t : Fin 8192) (j : Fin 512) : val_main_v83 (F := Ideal) A0 A1 (ix2 t j) = AT A0 A1 (ch j) (cd j) t := by
  pointwise [val_main_v83, val_main_v77, val_main_v76]
  exact (ref_v75 hr _ _ _ _).trans (congrArg (AT A0 A1 (ch j) (cd j)) (crow_div t))

theorem ref_v82 (t : Fin 8192) (j : Fin 512) : val_main_v82 (F := Ideal) A0 A1 (ix2 t j) = LS A0 A1 (ch j) t := by
  pointwise [val_main_v82, val_main_v81, val_main_v80, val_main_v79, val_main_v78]
  exact (ref_v50 A0 A1 _ _ _ _).trans (congrArg (LS A0 A1 (ch j)) (crow_div t))

end Cert.Att

end
-- ==== Proof.AttnFwd.Finite.lean ====
/-
  The precondition's words: queries, keys and biases are real numbers.
-/
module

public import proofs.«01_k».proof.Proof.AttnFwd.Spec
public import proofs.«01_k».proof.Proof.Pool.Finite
public import proofs.«01_k».proof.Proof.Gen.Pre_finite_qkb

@[expose] public section

set_option maxRecDepth 16384

noncomputable section

namespace Cert.Att

open Idealize.ShloMosaic Idealize.ShloMosaic.TcCoe

/-- The precondition at an entry. -/
theorem finite_at (A0 : FVec Ideal Proj .f32) (A1 : FVec Ideal Bias .f32) (r : Fin 8480) (j : Fin 1024)
    (hp : letI := Cert.Pre_finite_qkb.Gen.facts; Cert.Pre_finite_qkb.fn (F := Ideal) A0 A1 (ix2 r j) = 1#1) :
    ∃ z : ℝ, (if h : r.val < 8192 then A0 (ix2 ⟨r.val, h⟩ ⟨j.val, by omega⟩) else
      A1 (ix3 ⟨(r.val - 8192) / 36, by omega⟩ ⟨((r.val - 8192) * 1024 + j.val) / 576 % 64, by omega⟩
        ⟨((r.val - 8192) * 1024 + j.val) % 576, by omega⟩)) = z := by
  letI := Cert.Pre_finite_qkb.Gen.facts
  revert hp
  pointwise [Cert.Pre_finite_qkb.fn]
  intro hp
  exact Cert.Pool.real_of_lt _ _ hp

/-- The precondition: queries, keys and biases are real numbers. -/
theorem real_of_pre (A0 : FVec Ideal Proj .f32) (A1 : FVec Ideal Bias .f32)
    (hp : letI := Cert.Pre_finite_qkb.Gen.facts; Cert.Pre_finite_qkb.fn (F := Ideal) A0 A1 = fun _ => 1#1) : RealQK A0 A1 := by
  constructor
  · intro t j
    have h := finite_at A0 A1 ⟨t.val, by omega⟩ j (congrFun hp _)
    rw [dif_pos t.isLt] at h
    exact h
  · intro h r b
    have hh := finite_at A0 A1 ⟨8192 + (h.val * 36864 + r.val * 576 + b.val) / 1024, by omega⟩
      ⟨(h.val * 36864 + r.val * 576 + b.val) % 1024, by omega⟩ (congrFun hp _)
    rw [dif_neg (by show ¬ 8192 + (h.val * 36864 + r.val * 576 + b.val) / 1024 < 8192; omega)] at hh
    obtain ⟨z, hz⟩ := hh
    refine ⟨z, Eq.trans (congrArg A1 ?_) hz⟩
    refine (congr (congrArg₂ ix3 (Fin.ext ?_) (Fin.ext ?_)) (Fin.ext ?_))
    · show h.val = (8192 + (h.val * 36864 + r.val * 576 + b.val) / 1024 - 8192) / 36
      omega
    · show r.val = ((8192 + (h.val * 36864 + r.val * 576 + b.val) / 1024 - 8192) * 1024 + (h.val * 36864 + r.val * 576 + b.val) % 1024) / 576 % 64
      omega
    · show b.val = ((8192 + (h.val * 36864 + r.val * 576 + b.val) / 1024 - 8192) * 1024 + (h.val * 36864 + r.val * 576 + b.val) % 1024) % 576
      omega

end Cert.Att

end
-- ==== Proof.AttnFwd.Claims.lean ====
/-
  The attention of the forward pass: the reference's frames, and that both programs end with the same arrays.
-/
module

public import proofs.«01_k».proof.Defs
public import proofs.«01_k».proof.Proof.AttnFwd.Rows
public import proofs.«01_k».proof.Proof.AttnFwd.Soft
public import proofs.«01_k».proof.Proof.AttnFwd.Finite
public import proofs.«01_k».proof.Proof.Gen.AttnFwdIdeal.Value
public import proofs.«01_k».proof.Proof.Gen.AttnFwdRefIdeal
public import Idealize.ShloMosaic.Lib.Quiescent

@[expose] public section

set_option maxRecDepth 16384

noncomputable section

namespace Cert.Att

open Idealize.ShloMosaic Idealize.ShloMosaic.TcCoe Idealize.SL.Sem

/-- The reference runs, its arguments are unchanged and its counters end at zero: it has none. -/
theorem frame_ref : Cert.quiescent_AttnFwdRefIdeal (hAttnFwdRefIdeal := Cert.AttnFwdRefIdeal.Gen.facts) := fun m ρ _ =>
  (θ_run (Cert.AttnFwdRefIdeal.defs (F := Ideal)) _ _).mono
    (fun r h => ⟨fun c => (h c).2.2, Idealize.ShloMosaic.sem_eq_zero_of_no_sems (by decide) r.2⟩)
    (Cert.AttnFwdRefIdeal.Value.run (F := Ideal) m ρ)

section
variable (m : (ℓ : Loc Cert.AttnFwdIdeal.nD Cert.AttnFwdIdeal.τ Cert.AttnFwdIdeal.sig) → Buf (Elt Ideal) ℓ) (c : Dev Cert.AttnFwdIdeal.nD)
open Cert.AttnFwdRefIdeal.Read Cert.AttnFwdIdeal Cert.AttnFwdIdeal.Gen

/-! The arrays the kernel leaves are the reference's, of the same arguments. -/

theorem eq8 (h : RealQK (B0 m c) (B1 m c)) : (dats m 0 c).arrAt 8 cfg0.N = val_main_v83 (F := Ideal) (B0 m c) (B1 m c) := by
  funext i
  idx_vars i
  exact (final8 m c i0 i1).trans (ref_v83 h i0 i1).symm

theorem eq9 : (dats m 0 c).arrAt 9 cfg0.N = val_main_v82 (F := Ideal) (B0 m c) (B1 m c) := by
  funext i
  idx_vars i
  exact (final9 m c i0 i1).trans (ref_v82 i0 i1).symm

end

/-- From equal arguments whose queries, keys and biases are real numbers both programs end with the same two arrays. -/
theorem algebraic : Cert.algebraic_AttnFwdIdeal_AttnFwdRefIdeal_pre_finite_qkb (hAttnFwdIdeal := Cert.AttnFwdIdeal.Gen.facts)
    (hAttnFwdRefIdeal := Cert.AttnFwdRefIdeal.Gen.facts) (hPre_finite_qkb := Cert.Pre_finite_qkb.Gen.facts) := by
  intro m g m' g' hp ha
  refine ⟨_, _, Cert.AttnFwdIdeal.Value.run_blocks (F := Ideal) m g, ?_⟩
  refine (θ_run (Cert.AttnFwdRefIdeal.defs (F := Ideal)) _ _).mono (fun r h c => ?_) (Cert.AttnFwdRefIdeal.Value.run (F := Ideal) m' g')
  obtain ⟨h0, h1, hk⟩ := h c
  obtain ⟨a0, a1⟩ := ha c
  have hr := real_of_pre _ _ (hp c)
  rw [Cert.AttnFwdRefIdeal.Read.val_main_v83_eq, a0, a1] at h0
  rw [Cert.AttnFwdRefIdeal.Read.val_main_v82_eq, a0, a1] at h1
  exact ⟨h0.trans (eq8 m c hr).symm, h1.trans (eq9 m c).symm, hk⟩

end Cert.Att

end
-- ==== Proof.lean ====
/-
  The proof of `Cert.Claim` (proofs.«01_k».proof.Defs). Of each of the sixteen calls: the frames of the kernel and of its ideal
  form as generated, the reference's frame and the equality of the results from the call's `Claims.lean`. Nothing was
  rewritten between a kernel and its ideal form.
-/
module

public import proofs.«01_k».proof.Defs
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixRefIdeal
public import proofs.«01_k».proof.Proof.Gen.MixBwdIdeal.Value
public import proofs.«01_k».proof.Proof.Gen.MixRefIdeal.Run
public import proofs.«01_k».proof.Proof.Gen.MixRefIdeal.Read
public import proofs.«01_k».proof.Proof.Gen.DwUp
public import proofs.«01_k».proof.Proof.Gen.DwUp.Frame
public import proofs.«01_k».proof.Proof.Gen.DwUpIdeal
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.MmDh2
public import proofs.«01_k».proof.Proof.Gen.MmDh2.Frame
public import proofs.«01_k».proof.Proof.Gen.MmDh2Ideal
public import proofs.«01_k».proof.Proof.Gen.MmDh2Ideal.Value
public import proofs.«01_k».proof.Proof.Gen.MmDh2RefIdeal.Run
public import proofs.«01_k».proof.Proof.Gen.MmDh2RefIdeal.Read
public import proofs.«01_k».proof.Proof.Gen.MmDh
public import proofs.«01_k».proof.Proof.Gen.MmDh.Frame
public import proofs.«01_k».proof.Proof.Gen.MmDhIdeal
public import proofs.«01_k».proof.Proof.Gen.MmDhIdeal.Value
public import proofs.«01_k».proof.Proof.Gen.MmDhRefIdeal.Run
public import proofs.«01_k».proof.Proof.Gen.MmDhRefIdeal.Read
public import proofs.«01_k».proof.Proof.Gen.MmIn
public import proofs.«01_k».proof.Proof.Gen.MmIn.Frame
public import proofs.«01_k».proof.Proof.Gen.MmInIdeal
public import proofs.«01_k».proof.Proof.Gen.MmInIdeal.Value
public import proofs.«01_k».proof.Proof.Gen.MmInRefIdeal.Run
public import proofs.«01_k».proof.Proof.Gen.MmInRefIdeal.Read
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.DownLoss
public import proofs.«01_k».proof.Proof.Gen.DownLoss.Frame
public import proofs.«01_k».proof.Proof.Gen.DownLossIdeal
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.PoolBwd
public import proofs.«01_k».proof.Proof.Gen.Pre_finite
public import proofs.«01_k».proof.Proof.Gen.PoolBwd.Frame
public import proofs.«01_k».proof.Proof.Gen.PoolBwdIdeal
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamWo
public import proofs.«01_k».proof.Proof.Gen.AdamWo.Frame
public import proofs.«01_k».proof.Proof.Gen.AdamWoIdeal
public import proofs.«01_k».proof.Proof.Gen.AdamWoIdeal.Value
public import proofs.«01_k».proof.Proof.Gen.AdamWoRefIdeal.Run
public import proofs.«01_k».proof.Proof.Gen.AdamWoRefIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.PoolFwd
public import proofs.«01_k».proof.Proof.Gen.PoolFwd.Frame
public import proofs.«01_k».proof.Proof.Gen.PoolFwdIdeal
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.Pre_finite_u
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite_qkb
public import proofs.«01_k».proof.Proof.Mix.Claims
public import proofs.«01_k».proof.Proof.DwUp.Claims
public import proofs.«01_k».proof.Proof.DwIn.Claims
public import proofs.«01_k».proof.Proof.Dh2.Claims
public import proofs.«01_k».proof.Proof.Dh.Claims
public import proofs.«01_k».proof.Proof.MmIn.Claims
public import proofs.«01_k».proof.Proof.MixFwd.Claims
public import proofs.«01_k».proof.Proof.DownLoss.Claims
public import proofs.«01_k».proof.Proof.Pool.Claims
public import proofs.«01_k».proof.Proof.AdamIn.Claims
public import proofs.«01_k».proof.Proof.AdamOut.Claims
public import proofs.«01_k».proof.Proof.AdamWo.Claims
public import proofs.«01_k».proof.Proof.AdamConv.Claims
public import proofs.«01_k».proof.Proof.AdamDown.Claims
public import proofs.«01_k».proof.Proof.AdamSmall.Claims
public import proofs.«01_k».proof.Proof.PoolFwd.Claims
public import proofs.«01_k».proof.Proof.AttnFwd.Claims
public import Idealize.ShloMosaic.Adequacy
public import Idealize.ShloMosaic.Init

@[expose] public section

noncomputable section

namespace Cert.Proof

open Idealize.ShloMosaic Idealize.SL.Sem

theorem claim : Cert.Claim := ⟨
  Cert.MixBwd.Gen.facts, Cert.MixBwdIdeal.Gen.facts, Cert.MixRefIdeal.Gen.facts,
  Cert.DwUp.Gen.facts, Cert.DwUpIdeal.Gen.facts, Cert.DwUpRefIdeal.Gen.facts,
  Cert.DwIn.Gen.facts, Cert.DwInIdeal.Gen.facts, Cert.DwInRefIdeal.Gen.facts,
  Cert.MmDh2.Gen.facts, Cert.MmDh2Ideal.Gen.facts, Cert.MmDh2RefIdeal.Gen.facts,
  Cert.MmDh.Gen.facts, Cert.MmDhIdeal.Gen.facts, Cert.MmDhRefIdeal.Gen.facts,
  Cert.MmIn.Gen.facts, Cert.MmInIdeal.Gen.facts, Cert.MmInRefIdeal.Gen.facts,
  Cert.MixFwd.Gen.facts, Cert.MixFwdIdeal.Gen.facts, Cert.MixFwdRefIdeal.Gen.facts,
  Cert.DownLoss.Gen.facts, Cert.DownLossIdeal.Gen.facts, Cert.DownLossRefIdeal.Gen.facts,
  Cert.PoolBwd.Gen.facts, Cert.PoolBwdIdeal.Gen.facts, Cert.PoolRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamWo.Gen.facts, Cert.AdamWoIdeal.Gen.facts, Cert.AdamWoRefIdeal.Gen.facts,
  Cert.AdamConv.Gen.facts, Cert.AdamConvIdeal.Gen.facts, Cert.AdamConvRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.PoolFwd.Gen.facts, Cert.PoolFwdIdeal.Gen.facts, Cert.PoolFwdRefIdeal.Gen.facts,
  Cert.AttnFwd.Gen.facts, Cert.AttnFwdIdeal.Gen.facts, Cert.AttnFwdRefIdeal.Gen.facts,
  Cert.Pre_finite.Gen.facts, Cert.Pre_finite_u.Gen.facts, Cert.Pre_finite_qkb.Gen.facts,
  fun m ρ _ => Cert.MixBwd.Gen.frame m ρ, fun m ρ _ => Cert.MixBwdIdeal.Gen.frame m ρ, Cert.Mix.frame_ref,
  fun m ρ _ => Cert.DwUp.Gen.frame m ρ, fun m ρ _ => Cert.DwUpIdeal.Gen.frame m ρ, Cert.Up.frame_ref,
  fun m ρ _ => Cert.DwIn.Gen.frame m ρ, fun m ρ _ => Cert.DwInIdeal.Gen.frame m ρ, Cert.In.frame_ref,
  fun m ρ _ => Cert.MmDh2.Gen.frame m ρ, fun m ρ _ => Cert.MmDh2Ideal.Gen.frame m ρ, Cert.Dh2.frame_ref,
  fun m ρ _ => Cert.MmDh.Gen.frame m ρ, fun m ρ _ => Cert.MmDhIdeal.Gen.frame m ρ, Cert.Dh.frame_ref,
  fun m ρ _ => Cert.MmIn.Gen.frame m ρ, fun m ρ _ => Cert.MmInIdeal.Gen.frame m ρ, Cert.MIn.frame_ref,
  fun m ρ _ => Cert.MixFwd.Gen.frame m ρ, fun m ρ _ => Cert.MixFwdIdeal.Gen.frame m ρ, Cert.Fwd.frame_ref,
  fun m ρ _ => Cert.DownLoss.Gen.frame m ρ, fun m ρ _ => Cert.DownLossIdeal.Gen.frame m ρ, Cert.Loss.frame_ref,
  fun m ρ _ => Cert.PoolBwd.Gen.frame m ρ, fun m ρ _ => Cert.PoolBwdIdeal.Gen.frame m ρ, fun m ρ _ => Cert.PoolBwdIdeal.Gen.frame m ρ,
  Cert.Pool.frame_ref, fun m ρ _ => Cert.Pool.frame_ref m ρ trivial,
  fun m ρ _ => Cert.AdamIn.Gen.frame m ρ, fun m ρ _ => Cert.AdamInIdeal.Gen.frame m ρ, Cert.AIn.frame_ref,
  fun m ρ _ => Cert.AdamOut.Gen.frame m ρ, fun m ρ _ => Cert.AdamOutIdeal.Gen.frame m ρ, Cert.AOut.frame_ref,
  fun m ρ _ => Cert.AdamWo.Gen.frame m ρ, fun m ρ _ => Cert.AdamWoIdeal.Gen.frame m ρ, Cert.AWo.frame_ref,
  fun m ρ _ => Cert.AdamConv.Gen.frame m ρ, fun m ρ _ => Cert.AdamConvIdeal.Gen.frame m ρ, Cert.AConv.frame_ref,
  fun m ρ _ => Cert.AdamDown.Gen.frame m ρ, fun m ρ _ => Cert.AdamDownIdeal.Gen.frame m ρ, Cert.ADown.frame_ref,
  fun m ρ _ => Cert.AdamSmall.Gen.frame m ρ, fun m ρ _ => Cert.AdamSmallIdeal.Gen.frame m ρ, Cert.ASmall.frame_ref,
  fun m ρ _ => Cert.PoolFwd.Gen.frame m ρ, fun m ρ _ => Cert.PoolFwdIdeal.Gen.frame m ρ, fun m ρ _ => Cert.PoolFwdIdeal.Gen.frame m ρ,
  Cert.PoolF.frame_ref, fun m ρ _ => Cert.PoolF.frame_ref m ρ trivial,
  fun m ρ _ => Cert.AttnFwd.Gen.frame m ρ, fun m ρ _ => Cert.AttnFwdIdeal.Gen.frame m ρ, fun m ρ _ => Cert.AttnFwdIdeal.Gen.frame m ρ,
  Cert.Att.frame_ref, fun m ρ _ => Cert.Att.frame_ref m ρ trivial,
  trivial, Cert.Mix.algebraic,
  trivial, Cert.Up.algebraic,
  trivial, Cert.In.algebraic,
  trivial, Cert.Dh2.algebraic,
  trivial, Cert.Dh.algebraic,
  trivial, Cert.MIn.algebraic,
  trivial, Cert.Fwd.algebraic,
  trivial, Cert.Loss.algebraic,
  trivial, Cert.Pool.algebraic,
  trivial, Cert.AIn.algebraic,
  trivial, Cert.AOut.algebraic,
  trivial, Cert.AWo.algebraic,
  trivial, Cert.AConv.algebraic,
  trivial, Cert.ADown.algebraic,
  trivial, Cert.ASmall.algebraic,
  trivial, Cert.PoolF.algebraic,
  IdealRules.named_const.statement Cert.AttnFwdIdeal.κ "mask" .f32 0xF149F2CA#32 ⊥ rfl, Cert.Att.algebraic⟩

end Cert.Proof

end
